-- ==== Defs.lean ====
def Pre_ConvKernel (m : (ℓ : Loc Cert.ConvKernel.nD Cert.ConvKernel.τ Cert.ConvKernel.sig) → Buf (Elt Bits) ℓ) : Prop :=
  True

def Pre_ConvKernelIdeal (m : (ℓ : Loc Cert.ConvKernelIdeal.nD Cert.ConvKernelIdeal.τ Cert.ConvKernelIdeal.sig) → Buf (Elt Ideal) ℓ) : Prop :=
  True

def Pre_ConvReferenceIdeal (m : (ℓ : Loc Cert.ConvReferenceIdeal.nD Cert.ConvReferenceIdeal.τ Cert.ConvReferenceIdeal.sig) → Buf (Elt Ideal) ℓ) : Prop :=
  True

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnKernelIdeal_all_finite [hPre_all_finite : Cert.Pre_all_finite.Facts] (m : (ℓ : Loc Cert.FfnKernelIdeal.nD Cert.FfnKernelIdeal.τ Cert.FfnKernelIdeal.sig) → Buf (Elt Ideal) ℓ) : Prop :=
  ∀ c : Dev Cert.FfnKernelIdeal.nD,
    (Cert.Pre_all_finite.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5))).1 = (fun _ => 1#1)
    ∧ (Cert.Pre_all_finite.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5))).2.1 = (fun _ => 1#1)
    ∧ (Cert.Pre_all_finite.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5))).2.2.1 = (fun _ => 1#1)
    ∧ (Cert.Pre_all_finite.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5))).2.2.2.1 = (fun _ => 1#1)
    ∧ (Cert.Pre_all_finite.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5))).2.2.2.2.1 = (fun _ => 1#1)
    ∧ (Cert.Pre_all_finite.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5))).2.2.2.2.2 = (fun _ => 1#1)

def Pre_FfnReferenceIdeal (m : (ℓ : Loc Cert.FfnReferenceIdeal.nD Cert.FfnReferenceIdeal.τ Cert.FfnReferenceIdeal.sig) → Buf (Elt Ideal) ℓ) : Prop :=
  True

def Pre_FfnReferenceIdeal_all_finite [hPre_all_finite : Cert.Pre_all_finite.Facts] (m : (ℓ : Loc Cert.FfnReferenceIdeal.nD Cert.FfnReferenceIdeal.τ Cert.FfnReferenceIdeal.sig) → Buf (Elt Ideal) ℓ) : Prop :=
  ∀ c : Dev Cert.FfnReferenceIdeal.nD,
    (Cert.Pre_all_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5))).1 = (fun _ => 1#1)
    ∧ (Cert.Pre_all_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5))).2.1 = (fun _ => 1#1)
    ∧ (Cert.Pre_all_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5))).2.2.1 = (fun _ => 1#1)
    ∧ (Cert.Pre_all_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5))).2.2.2.1 = (fun _ => 1#1)
    ∧ (Cert.Pre_all_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5))).2.2.2.2.1 = (fun _ => 1#1)
    ∧ (Cert.Pre_all_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5))).2.2.2.2.2 = (fun _ => 1#1)

def Pre_DwInKernel (m : (ℓ : Loc Cert.DwInKernel.nD Cert.DwInKernel.τ Cert.DwInKernel.sig) → Buf (Elt Bits) ℓ) : Prop :=
  True

def Pre_DwInKernelIdeal (m : (ℓ : Loc Cert.DwInKernelIdeal.nD Cert.DwInKernelIdeal.τ Cert.DwInKernelIdeal.sig) → Buf (Elt Ideal) ℓ) : Prop :=
  True

def Pre_DwInReferenceIdeal (m : (ℓ : Loc Cert.DwInReferenceIdeal.nD Cert.DwInReferenceIdeal.τ Cert.DwInReferenceIdeal.sig) → Buf (Elt Ideal) ℓ) : Prop :=
  True

def Pre_DwOutKernel (m : (ℓ : Loc Cert.DwOutKernel.nD Cert.DwOutKernel.τ Cert.DwOutKernel.sig) → Buf (Elt Bits) ℓ) : Prop :=
  True

def Pre_DwOutKernelIdeal (m : (ℓ : Loc Cert.DwOutKernelIdeal.nD Cert.DwOutKernelIdeal.τ Cert.DwOutKernelIdeal.sig) → Buf (Elt Ideal) ℓ) : Prop :=
  True

def Pre_DwOutReferenceIdeal (m : (ℓ : Loc Cert.DwOutReferenceIdeal.nD Cert.DwOutReferenceIdeal.τ Cert.DwOutReferenceIdeal.sig) → Buf (Elt Ideal) ℓ) : Prop :=
  True

def Pre_DwMixInKernel (m : (ℓ : Loc Cert.DwMixInKernel.nD Cert.DwMixInKernel.τ Cert.DwMixInKernel.sig) → Buf (Elt Bits) ℓ) : Prop :=
  True

def Pre_DwMixInKernelIdeal (m : (ℓ : Loc Cert.DwMixInKernelIdeal.nD Cert.DwMixInKernelIdeal.τ Cert.DwMixInKernelIdeal.sig) → Buf (Elt Ideal) ℓ) : Prop :=
  True

def Pre_DwMixInReferenceIdeal (m : (ℓ : Loc Cert.DwMixInReferenceIdeal.nD Cert.DwMixInReferenceIdeal.τ Cert.DwMixInReferenceIdeal.sig) → Buf (Elt Ideal) ℓ) : Prop :=
  True

def Pre_DwMixOutKernel (m : (ℓ : Loc Cert.DwMixOutKernel.nD Cert.DwMixOutKernel.τ Cert.DwMixOutKernel.sig) → Buf (Elt Bits) ℓ) : Prop :=
  True

def Pre_DwMixOutKernelIdeal (m : (ℓ : Loc Cert.DwMixOutKernelIdeal.nD Cert.DwMixOutKernelIdeal.τ Cert.DwMixOutKernelIdeal.sig) → Buf (Elt Ideal) ℓ) : Prop :=
  True

def Pre_DwMixOutReferenceIdeal (m : (ℓ : Loc Cert.DwMixOutReferenceIdeal.nD Cert.DwMixOutReferenceIdeal.τ Cert.DwMixOutReferenceIdeal.sig) → Buf (Elt Ideal) ℓ) : Prop :=
  True

def Pre_FfnFwdKernel (m : (ℓ : Loc Cert.FfnFwdKernel.nD Cert.FfnFwdKernel.τ Cert.FfnFwdKernel.sig) → Buf (Elt Bits) ℓ) : Prop :=
  True

def Pre_FfnFwdKernelIdeal (m : (ℓ : Loc Cert.FfnFwdKernelIdeal.nD Cert.FfnFwdKernelIdeal.τ Cert.FfnFwdKernelIdeal.sig) → Buf (Elt Ideal) ℓ) : Prop :=
  True

def Pre_FfnFwdReferenceIdeal (m : (ℓ : Loc Cert.FfnFwdReferenceIdeal.nD Cert.FfnFwdReferenceIdeal.τ Cert.FfnFwdReferenceIdeal.sig) → Buf (Elt Ideal) ℓ) : Prop :=
  True

def Pre_MixInFwdKernel (m : (ℓ : Loc Cert.MixInFwdKernel.nD Cert.MixInFwdKernel.τ Cert.MixInFwdKernel.sig) → Buf (Elt Bits) ℓ) : Prop :=
  True

def Pre_MixInFwdKernelIdeal (m : (ℓ : Loc Cert.MixInFwdKernelIdeal.nD Cert.MixInFwdKernelIdeal.τ Cert.MixInFwdKernelIdeal.sig) → Buf (Elt Ideal) ℓ) : Prop :=
  True

def Pre_MixInFwdReferenceIdeal (m : (ℓ : Loc Cert.MixInFwdReferenceIdeal.nD Cert.MixInFwdReferenceIdeal.τ Cert.MixInFwdReferenceIdeal.sig) → Buf (Elt Ideal) ℓ) : Prop :=
  True

def Pre_MixInBwdKernel (m : (ℓ : Loc Cert.MixInBwdKernel.nD Cert.MixInBwdKernel.τ Cert.MixInBwdKernel.sig) → Buf (Elt Bits) ℓ) : Prop :=
  True

def Pre_MixInBwdKernelIdeal (m : (ℓ : Loc Cert.MixInBwdKernelIdeal.nD Cert.MixInBwdKernelIdeal.τ Cert.MixInBwdKernelIdeal.sig) → Buf (Elt Ideal) ℓ) : Prop :=
  True

def Pre_MixInBwdReferenceIdeal (m : (ℓ : Loc Cert.MixInBwdReferenceIdeal.nD Cert.MixInBwdReferenceIdeal.τ Cert.MixInBwdReferenceIdeal.sig) → Buf (Elt Ideal) ℓ) : Prop :=
  True

def Pre_MixOutFwdKernel (m : (ℓ : Loc Cert.MixOutFwdKernel.nD Cert.MixOutFwdKernel.τ Cert.MixOutFwdKernel.sig) → Buf (Elt Bits) ℓ) : Prop :=
  True

def Pre_MixOutFwdKernelIdeal (m : (ℓ : Loc Cert.MixOutFwdKernelIdeal.nD Cert.MixOutFwdKernelIdeal.τ Cert.MixOutFwdKernelIdeal.sig) → Buf (Elt Ideal) ℓ) : Prop :=
  True

def Pre_MixOutFwdReferenceIdeal (m : (ℓ : Loc Cert.MixOutFwdReferenceIdeal.nD Cert.MixOutFwdReferenceIdeal.τ Cert.MixOutFwdReferenceIdeal.sig) → Buf (Elt Ideal) ℓ) : Prop :=
  True

def Pre_AdamAdaKernel (m : (ℓ : Loc Cert.AdamAdaKernel.nD Cert.AdamAdaKernel.τ Cert.AdamAdaKernel.sig) → Buf (Elt Bits) ℓ) : Prop :=
  True

def Pre_AdamAdaKernelIdeal (m : (ℓ : Loc Cert.AdamAdaKernelIdeal.nD Cert.AdamAdaKernelIdeal.τ Cert.AdamAdaKernelIdeal.sig) → Buf (Elt Ideal) ℓ) : Prop :=
  True

def Pre_AdamAdaReferenceIdeal (m : (ℓ : Loc Cert.AdamAdaReferenceIdeal.nD Cert.AdamAdaReferenceIdeal.τ Cert.AdamAdaReferenceIdeal.sig) → Buf (Elt Ideal) ℓ) : Prop :=
  True

def Pre_AdamSmallKernel (m : (ℓ : Loc Cert.AdamSmallKernel.nD Cert.AdamSmallKernel.τ Cert.AdamSmallKernel.sig) → Buf (Elt Bits) ℓ) : Prop :=
  True

def Pre_AdamSmallKernelIdeal (m : (ℓ : Loc Cert.AdamSmallKernelIdeal.nD Cert.AdamSmallKernelIdeal.τ Cert.AdamSmallKernelIdeal.sig) → Buf (Elt Ideal) ℓ) : Prop :=
  True

def Pre_AdamSmallReferenceIdeal (m : (ℓ : Loc Cert.AdamSmallReferenceIdeal.nD Cert.AdamSmallReferenceIdeal.τ Cert.AdamSmallReferenceIdeal.sig) → Buf (Elt Ideal) ℓ) : Prop :=
  True

def Pre_CondBwdKernel (m : (ℓ : Loc Cert.CondBwdKernel.nD Cert.CondBwdKernel.τ Cert.CondBwdKernel.sig) → Buf (Elt Bits) ℓ) : Prop :=
  True

def Pre_CondBwdKernelIdeal (m : (ℓ : Loc Cert.CondBwdKernelIdeal.nD Cert.CondBwdKernelIdeal.τ Cert.CondBwdKernelIdeal.sig) → Buf (Elt Ideal) ℓ) : Prop :=
  True

def Pre_CondBwdReferenceIdeal (m : (ℓ : Loc Cert.CondBwdReferenceIdeal.nD Cert.CondBwdReferenceIdeal.τ Cert.CondBwdReferenceIdeal.sig) → Buf (Elt Ideal) ℓ) : Prop :=
  True

def quiescent_ConvKernel [hConvKernel : Cert.ConvKernel.Facts] : Prop :=
  ∀ (m : (ℓ : Loc Cert.ConvKernel.nD Cert.ConvKernel.τ Cert.ConvKernel.sig) → Buf (Elt Bits) ℓ) (g : Dev Cert.ConvKernel.nD → PrngReg), Pre_ConvKernel m →
    θ_run (Cert.ConvKernel.defs (F := Bits)) (onTc (τ := Cert.ConvKernel.τ) (Cert.ConvKernel.main (F := Bits))) ⟨m, fun _ => 0, g⟩ (fun r => (∀ c : Dev Cert.ConvKernel.nD,
      r.2.mem ((c.tc : Thread Cert.ConvKernel.nD Cert.ConvKernel.τ).loc Cert.ConvKernel.main_arg0) = m ((c.tc : Thread Cert.ConvKernel.nD Cert.ConvKernel.τ).loc Cert.ConvKernel.main_arg0)
      ∧ r.2.mem ((c.tc : Thread Cert.ConvKernel.nD Cert.ConvKernel.τ).loc Cert.ConvKernel.main_arg1) = m ((c.tc : Thread Cert.ConvKernel.nD Cert.ConvKernel.τ).loc Cert.ConvKernel.main_arg1)
      ∧ r.2.mem ((c.tc : Thread Cert.ConvKernel.nD Cert.ConvKernel.τ).loc Cert.ConvKernel.main_arg2) = m ((c.tc : Thread Cert.ConvKernel.nD Cert.ConvKernel.τ).loc Cert.ConvKernel.main_arg2))
      ∧ r.2.sem = fun _ => 0)

def quiescent_ConvKernelIdeal [hConvKernelIdeal : Cert.ConvKernelIdeal.Facts] : Prop :=
  ∀ (m : (ℓ : Loc Cert.ConvKernelIdeal.nD Cert.ConvKernelIdeal.τ Cert.ConvKernelIdeal.sig) → Buf (Elt Ideal) ℓ) (g : Dev Cert.ConvKernelIdeal.nD → PrngReg), Pre_ConvKernelIdeal m →
    θ_run (Cert.ConvKernelIdeal.defs (F := Ideal)) (onTc (τ := Cert.ConvKernelIdeal.τ) (Cert.ConvKernelIdeal.main (F := Ideal))) ⟨m, fun _ => 0, g⟩ (fun r => (∀ c : Dev Cert.ConvKernelIdeal.nD,
      r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
      ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1)
      ∧ r.2.mem ((c.tc : Thread Cert.ConvKernelIdeal.nD Cert.ConvKernelIdeal.τ).loc Cert.ConvKernelIdeal.main_arg2) = m ((c.tc : Thread Cert.ConvKernelIdeal.nD Cert.ConvKernelIdeal.τ).loc Cert.ConvKernelIdeal.main_arg2))
      ∧ r.2.sem = fun _ => 0)

def quiescent_ConvReferenceIdeal [hConvReferenceIdeal : Cert.ConvReferenceIdeal.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4)
      ∧ r.2.mem ((c.tc : Thread Cert.FfnKernel.nD Cert.FfnKernel.τ).loc Cert.FfnKernel.main_arg5) = m ((c.tc : Thread Cert.FfnKernel.nD Cert.FfnKernel.τ).loc Cert.FfnKernel.main_arg5))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5))
      ∧ r.2.sem = fun _ => 0)

def quiescent_FfnKernelIdeal_pre_all_finite [hFfnKernelIdeal : Cert.FfnKernelIdeal.Facts] [hPre_all_finite : Cert.Pre_all_finite.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal_all_finite m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_FfnReferenceIdeal_pre_all_finite [hFfnReferenceIdeal : Cert.FfnReferenceIdeal.Facts] [hPre_all_finite : Cert.Pre_all_finite.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal_all_finite m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_DwInKernel [hDwInKernel : Cert.DwInKernel.Facts] : Prop :=
  ∀ (m : (ℓ : Loc Cert.DwInKernel.nD Cert.DwInKernel.τ Cert.DwInKernel.sig) → Buf (Elt Bits) ℓ) (g : Dev Cert.DwInKernel.nD → PrngReg), Pre_DwInKernel m →
    θ_run (Cert.DwInKernel.defs (F := Bits)) (onTc (τ := Cert.DwInKernel.τ) (Cert.DwInKernel.main (F := Bits))) ⟨m, fun _ => 0, g⟩ (fun r => (∀ c : Dev Cert.DwInKernel.nD,
      r.2.mem ((c.tc : Thread Cert.DwInKernel.nD Cert.DwInKernel.τ).loc Cert.DwInKernel.main_arg0) = m ((c.tc : Thread Cert.DwInKernel.nD Cert.DwInKernel.τ).loc Cert.DwInKernel.main_arg0)
      ∧ r.2.mem ((c.tc : Thread Cert.DwInKernel.nD Cert.DwInKernel.τ).loc Cert.DwInKernel.main_arg1) = m ((c.tc : Thread Cert.DwInKernel.nD Cert.DwInKernel.τ).loc Cert.DwInKernel.main_arg1))
      ∧ r.2.sem = fun _ => 0)

def quiescent_DwInKernelIdeal [hDwInKernelIdeal : Cert.DwInKernelIdeal.Facts] : Prop :=
  ∀ (m : (ℓ : Loc Cert.DwInKernelIdeal.nD Cert.DwInKernelIdeal.τ Cert.DwInKernelIdeal.sig) → Buf (Elt Ideal) ℓ) (g : Dev Cert.DwInKernelIdeal.nD → PrngReg), Pre_DwInKernelIdeal m →
    θ_run (Cert.DwInKernelIdeal.defs (F := Ideal)) (onTc (τ := Cert.DwInKernelIdeal.τ) (Cert.DwInKernelIdeal.main (F := Ideal))) ⟨m, fun _ => 0, g⟩ (fun r => (∀ c : Dev Cert.DwInKernelIdeal.nD,
      r.2.mem ((c.tc : Thread Cert.DwInKernelIdeal.nD Cert.DwInKernelIdeal.τ).loc Cert.DwInKernelIdeal.main_arg0) = m ((c.tc : Thread Cert.DwInKernelIdeal.nD Cert.DwInKernelIdeal.τ).loc Cert.DwInKernelIdeal.main_arg0)
      ∧ r.2.mem ((c.tc : Thread Cert.DwInKernelIdeal.nD Cert.DwInKernelIdeal.τ).loc Cert.DwInKernelIdeal.main_arg1) = m ((c.tc : Thread Cert.DwInKernelIdeal.nD Cert.DwInKernelIdeal.τ).loc Cert.DwInKernelIdeal.main_arg1))
      ∧ r.2.sem = fun _ => 0)

def quiescent_DwInReferenceIdeal [hDwInReferenceIdeal : Cert.DwInReferenceIdeal.Facts] : Prop :=
  ∀ (m : (ℓ : Loc Cert.DwInReferenceIdeal.nD Cert.DwInReferenceIdeal.τ Cert.DwInReferenceIdeal.sig) → Buf (Elt Ideal) ℓ) (g : Dev Cert.DwInReferenceIdeal.nD → PrngReg), Pre_DwInReferenceIdeal m →
    θ_run (Cert.DwInReferenceIdeal.defs (F := Ideal)) (onTc (τ := Cert.DwInReferenceIdeal.τ) (Cert.DwInReferenceIdeal.main (F := Ideal))) ⟨m, fun _ => 0, g⟩ (fun r => (∀ c : Dev Cert.DwInReferenceIdeal.nD,
      r.2.mem ((c.tc : Thread Cert.DwInReferenceIdeal.nD Cert.DwInReferenceIdeal.τ).loc Cert.DwInReferenceIdeal.main_arg0) = m ((c.tc : Thread Cert.DwInReferenceIdeal.nD Cert.DwInReferenceIdeal.τ).loc Cert.DwInReferenceIdeal.main_arg0)
      ∧ r.2.mem ((c.tc : Thread Cert.DwInReferenceIdeal.nD Cert.DwInReferenceIdeal.τ).loc Cert.DwInReferenceIdeal.main_arg1) = m ((c.tc : Thread Cert.DwInReferenceIdeal.nD Cert.DwInReferenceIdeal.τ).loc Cert.DwInReferenceIdeal.main_arg1))
      ∧ r.2.sem = fun _ => 0)

def quiescent_DwOutKernel [hDwOutKernel : Cert.DwOutKernel.Facts] : Prop :=
  ∀ (m : (ℓ : Loc Cert.DwOutKernel.nD Cert.DwOutKernel.τ Cert.DwOutKernel.sig) → Buf (Elt Bits) ℓ) (g : Dev Cert.DwOutKernel.nD → PrngReg), Pre_DwOutKernel m →
    θ_run (Cert.DwOutKernel.defs (F := Bits)) (onTc (τ := Cert.DwOutKernel.τ) (Cert.DwOutKernel.main (F := Bits))) ⟨m, fun _ => 0, g⟩ (fun r => (∀ c : Dev Cert.DwOutKernel.nD,
      r.2.mem ((c.tc : Thread Cert.DwOutKernel.nD Cert.DwOutKernel.τ).loc Cert.DwOutKernel.main_arg0) = m ((c.tc : Thread Cert.DwOutKernel.nD Cert.DwOutKernel.τ).loc Cert.DwOutKernel.main_arg0)
      ∧ r.2.mem ((c.tc : Thread Cert.DwOutKernel.nD Cert.DwOutKernel.τ).loc Cert.DwOutKernel.main_arg1) = m ((c.tc : Thread Cert.DwOutKernel.nD Cert.DwOutKernel.τ).loc Cert.DwOutKernel.main_arg1))
      ∧ r.2.sem = fun _ => 0)

def quiescent_DwOutKernelIdeal [hDwOutKernelIdeal : Cert.DwOutKernelIdeal.Facts] : Prop :=
  ∀ (m : (ℓ : Loc Cert.DwOutKernelIdeal.nD Cert.DwOutKernelIdeal.τ Cert.DwOutKernelIdeal.sig) → Buf (Elt Ideal) ℓ) (g : Dev Cert.DwOutKernelIdeal.nD → PrngReg), Pre_DwOutKernelIdeal m →
    θ_run (Cert.DwOutKernelIdeal.defs (F := Ideal)) (onTc (τ := Cert.DwOutKernelIdeal.τ) (Cert.DwOutKernelIdeal.main (F := Ideal))) ⟨m, fun _ => 0, g⟩ (fun r => (∀ c : Dev Cert.DwOutKernelIdeal.nD,
      r.2.mem ((c.tc : Thread Cert.DwOutKernelIdeal.nD Cert.DwOutKernelIdeal.τ).loc Cert.DwOutKernelIdeal.main_arg0) = m ((c.tc : Thread Cert.DwOutKernelIdeal.nD Cert.DwOutKernelIdeal.τ).loc Cert.DwOutKernelIdeal.main_arg0)
      ∧ r.2.mem ((c.tc : Thread Cert.DwOutKernelIdeal.nD Cert.DwOutKernelIdeal.τ).loc Cert.DwOutKernelIdeal.main_arg1) = m ((c.tc : Thread Cert.DwOutKernelIdeal.nD Cert.DwOutKernelIdeal.τ).loc Cert.DwOutKernelIdeal.main_arg1))
      ∧ r.2.sem = fun _ => 0)

def quiescent_DwOutReferenceIdeal [hDwOutReferenceIdeal : Cert.DwOutReferenceIdeal.Facts] : Prop :=
  ∀ (m : (ℓ : Loc Cert.DwOutReferenceIdeal.nD Cert.DwOutReferenceIdeal.τ Cert.DwOutReferenceIdeal.sig) → Buf (Elt Ideal) ℓ) (g : Dev Cert.DwOutReferenceIdeal.nD → PrngReg), Pre_DwOutReferenceIdeal m →
    θ_run (Cert.DwOutReferenceIdeal.defs (F := Ideal)) (onTc (τ := Cert.DwOutReferenceIdeal.τ) (Cert.DwOutReferenceIdeal.main (F := Ideal))) ⟨m, fun _ => 0, g⟩ (fun r => (∀ c : Dev Cert.DwOutReferenceIdeal.nD,
      r.2.mem ((c.tc : Thread Cert.DwOutReferenceIdeal.nD Cert.DwOutReferenceIdeal.τ).loc Cert.DwOutReferenceIdeal.main_arg0) = m ((c.tc : Thread Cert.DwOutReferenceIdeal.nD Cert.DwOutReferenceIdeal.τ).loc Cert.DwOutReferenceIdeal.main_arg0)
      ∧ r.2.mem ((c.tc : Thread Cert.DwOutReferenceIdeal.nD Cert.DwOutReferenceIdeal.τ).loc Cert.DwOutReferenceIdeal.main_arg1) = m ((c.tc : Thread Cert.DwOutReferenceIdeal.nD Cert.DwOutReferenceIdeal.τ).loc Cert.DwOutReferenceIdeal.main_arg1))
      ∧ r.2.sem = fun _ => 0)

def quiescent_DwMixInKernel [hDwMixInKernel : Cert.DwMixInKernel.Facts] : Prop :=
  ∀ (m : (ℓ : Loc Cert.DwMixInKernel.nD Cert.DwMixInKernel.τ Cert.DwMixInKernel.sig) → Buf (Elt Bits) ℓ) (g : Dev Cert.DwMixInKernel.nD → PrngReg), Pre_DwMixInKernel m →
    θ_run (Cert.DwMixInKernel.defs (F := Bits)) (onTc (τ := Cert.DwMixInKernel.τ) (Cert.DwMixInKernel.main (F := Bits))) ⟨m, fun _ => 0, g⟩ (fun r => (∀ c : Dev Cert.DwMixInKernel.nD,
      r.2.mem ((c.tc : Thread Cert.DwMixInKernel.nD Cert.DwMixInKernel.τ).loc Cert.DwMixInKernel.main_arg0) = m ((c.tc : Thread Cert.DwMixInKernel.nD Cert.DwMixInKernel.τ).loc Cert.DwMixInKernel.main_arg0)
      ∧ r.2.mem ((c.tc : Thread Cert.DwMixInKernel.nD Cert.DwMixInKernel.τ).loc Cert.DwMixInKernel.main_arg1) = m ((c.tc : Thread Cert.DwMixInKernel.nD Cert.DwMixInKernel.τ).loc Cert.DwMixInKernel.main_arg1))
      ∧ r.2.sem = fun _ => 0)

def quiescent_DwMixInKernelIdeal [hDwMixInKernelIdeal : Cert.DwMixInKernelIdeal.Facts] : Prop :=
  ∀ (m : (ℓ : Loc Cert.DwMixInKernelIdeal.nD Cert.DwMixInKernelIdeal.τ Cert.DwMixInKernelIdeal.sig) → Buf (Elt Ideal) ℓ) (g : Dev Cert.DwMixInKernelIdeal.nD → PrngReg), Pre_DwMixInKernelIdeal m →
    θ_run (Cert.DwMixInKernelIdeal.defs (F := Ideal)) (onTc (τ := Cert.DwMixInKernelIdeal.τ) (Cert.DwMixInKernelIdeal.main (F := Ideal))) ⟨m, fun _ => 0, g⟩ (fun r => (∀ c : Dev Cert.DwMixInKernelIdeal.nD,
      r.2.mem ((c.tc : Thread Cert.DwMixInKernelIdeal.nD Cert.DwMixInKernelIdeal.τ).loc Cert.DwMixInKernelIdeal.main_arg0) = m ((c.tc : Thread Cert.DwMixInKernelIdeal.nD Cert.DwMixInKernelIdeal.τ).loc Cert.DwMixInKernelIdeal.main_arg0)
      ∧ r.2.mem ((c.tc : Thread Cert.DwMixInKernelIdeal.nD Cert.DwMixInKernelIdeal.τ).loc Cert.DwMixInKernelIdeal.main_arg1) = m ((c.tc : Thread Cert.DwMixInKernelIdeal.nD Cert.DwMixInKernelIdeal.τ).loc Cert.DwMixInKernelIdeal.main_arg1))
      ∧ r.2.sem = fun _ => 0)

def quiescent_DwMixInReferenceIdeal [hDwMixInReferenceIdeal : Cert.DwMixInReferenceIdeal.Facts] : Prop :=
  ∀ (m : (ℓ : Loc Cert.DwMixInReferenceIdeal.nD Cert.DwMixInReferenceIdeal.τ Cert.DwMixInReferenceIdeal.sig) → Buf (Elt Ideal) ℓ) (g : Dev Cert.DwMixInReferenceIdeal.nD → PrngReg), Pre_DwMixInReferenceIdeal m →
    θ_run (Cert.DwMixInReferenceIdeal.defs (F := Ideal)) (onTc (τ := Cert.DwMixInReferenceIdeal.τ) (Cert.DwMixInReferenceIdeal.main (F := Ideal))) ⟨m, fun _ => 0, g⟩ (fun r => (∀ c : Dev Cert.DwMixInReferenceIdeal.nD,
      r.2.mem ((c.tc : Thread Cert.DwMixInReferenceIdeal.nD Cert.DwMixInReferenceIdeal.τ).loc Cert.DwMixInReferenceIdeal.main_arg0) = m ((c.tc : Thread Cert.DwMixInReferenceIdeal.nD Cert.DwMixInReferenceIdeal.τ).loc Cert.DwMixInReferenceIdeal.main_arg0)
      ∧ r.2.mem ((c.tc : Thread Cert.DwMixInReferenceIdeal.nD Cert.DwMixInReferenceIdeal.τ).loc Cert.DwMixInReferenceIdeal.main_arg1) = m ((c.tc : Thread Cert.DwMixInReferenceIdeal.nD Cert.DwMixInReferenceIdeal.τ).loc Cert.DwMixInReferenceIdeal.main_arg1))
      ∧ r.2.sem = fun _ => 0)

def quiescent_DwMixOutKernel [hDwMixOutKernel : Cert.DwMixOutKernel.Facts] : Prop :=
  ∀ (m : (ℓ : Loc Cert.DwMixOutKernel.nD Cert.DwMixOutKernel.τ Cert.DwMixOutKernel.sig) → Buf (Elt Bits) ℓ) (g : Dev Cert.DwMixOutKernel.nD → PrngReg), Pre_DwMixOutKernel m →
    θ_run (Cert.DwMixOutKernel.defs (F := Bits)) (onTc (τ := Cert.DwMixOutKernel.τ) (Cert.DwMixOutKernel.main (F := Bits))) ⟨m, fun _ => 0, g⟩ (fun r => (∀ c : Dev Cert.DwMixOutKernel.nD,
      r.2.mem ((c.tc : Thread Cert.DwMixOutKernel.nD Cert.DwMixOutKernel.τ).loc Cert.DwMixOutKernel.main_arg0) = m ((c.tc : Thread Cert.DwMixOutKernel.nD Cert.DwMixOutKernel.τ).loc Cert.DwMixOutKernel.main_arg0)
      ∧ r.2.mem ((c.tc : Thread Cert.DwMixOutKernel.nD Cert.DwMixOutKernel.τ).loc Cert.DwMixOutKernel.main_arg1) = m ((c.tc : Thread Cert.DwMixOutKernel.nD Cert.DwMixOutKernel.τ).loc Cert.DwMixOutKernel.main_arg1))
      ∧ r.2.sem = fun _ => 0)

def quiescent_DwMixOutKernelIdeal [hDwMixOutKernelIdeal : Cert.DwMixOutKernelIdeal.Facts] : Prop :=
  ∀ (m : (ℓ : Loc Cert.DwMixOutKernelIdeal.nD Cert.DwMixOutKernelIdeal.τ Cert.DwMixOutKernelIdeal.sig) → Buf (Elt Ideal) ℓ) (g : Dev Cert.DwMixOutKernelIdeal.nD → PrngReg), Pre_DwMixOutKernelIdeal m →
    θ_run (Cert.DwMixOutKernelIdeal.defs (F := Ideal)) (onTc (τ := Cert.DwMixOutKernelIdeal.τ) (Cert.DwMixOutKernelIdeal.main (F := Ideal))) ⟨m, fun _ => 0, g⟩ (fun r => (∀ c : Dev Cert.DwMixOutKernelIdeal.nD,
      r.2.mem ((c.tc : Thread Cert.DwMixOutKernelIdeal.nD Cert.DwMixOutKernelIdeal.τ).loc Cert.DwMixOutKernelIdeal.main_arg0) = m ((c.tc : Thread Cert.DwMixOutKernelIdeal.nD Cert.DwMixOutKernelIdeal.τ).loc Cert.DwMixOutKernelIdeal.main_arg0)
      ∧ r.2.mem ((c.tc : Thread Cert.DwMixOutKernelIdeal.nD Cert.DwMixOutKernelIdeal.τ).loc Cert.DwMixOutKernelIdeal.main_arg1) = m ((c.tc : Thread Cert.DwMixOutKernelIdeal.nD Cert.DwMixOutKernelIdeal.τ).loc Cert.DwMixOutKernelIdeal.main_arg1))
      ∧ r.2.sem = fun _ => 0)

def quiescent_DwMixOutReferenceIdeal [hDwMixOutReferenceIdeal : Cert.DwMixOutReferenceIdeal.Facts] : Prop :=
  ∀ (m : (ℓ : Loc Cert.DwMixOutReferenceIdeal.nD Cert.DwMixOutReferenceIdeal.τ Cert.DwMixOutReferenceIdeal.sig) → Buf (Elt Ideal) ℓ) (g : Dev Cert.DwMixOutReferenceIdeal.nD → PrngReg), Pre_DwMixOutReferenceIdeal m →
    θ_run (Cert.DwMixOutReferenceIdeal.defs (F := Ideal)) (onTc (τ := Cert.DwMixOutReferenceIdeal.τ) (Cert.DwMixOutReferenceIdeal.main (F := Ideal))) ⟨m, fun _ => 0, g⟩ (fun r => (∀ c : Dev Cert.DwMixOutReferenceIdeal.nD,
      r.2.mem ((c.tc : Thread Cert.DwMixOutReferenceIdeal.nD Cert.DwMixOutReferenceIdeal.τ).loc Cert.DwMixOutReferenceIdeal.main_arg0) = m ((c.tc : Thread Cert.DwMixOutReferenceIdeal.nD Cert.DwMixOutReferenceIdeal.τ).loc Cert.DwMixOutReferenceIdeal.main_arg0)
      ∧ r.2.mem ((c.tc : Thread Cert.DwMixOutReferenceIdeal.nD Cert.DwMixOutReferenceIdeal.τ).loc Cert.DwMixOutReferenceIdeal.main_arg1) = m ((c.tc : Thread Cert.DwMixOutReferenceIdeal.nD Cert.DwMixOutReferenceIdeal.τ).loc Cert.DwMixOutReferenceIdeal.main_arg1))
      ∧ r.2.sem = fun _ => 0)

def quiescent_FfnFwdKernel [hFfnFwdKernel : Cert.FfnFwdKernel.Facts] : Prop :=
  ∀ (m : (ℓ : Loc Cert.FfnFwdKernel.nD Cert.FfnFwdKernel.τ Cert.FfnFwdKernel.sig) → Buf (Elt Bits) ℓ) (g : Dev Cert.FfnFwdKernel.nD → PrngReg), Pre_FfnFwdKernel m →
    θ_run (Cert.FfnFwdKernel.defs (F := Bits)) (onTc (τ := Cert.FfnFwdKernel.τ) (Cert.FfnFwdKernel.main (F := Bits))) ⟨m, fun _ => 0, g⟩ (fun r => (∀ c : Dev Cert.FfnFwdKernel.nD,
      r.2.mem ((c.tc : Thread Cert.FfnFwdKernel.nD Cert.FfnFwdKernel.τ).loc Cert.FfnFwdKernel.main_arg0) = m ((c.tc : Thread Cert.FfnFwdKernel.nD Cert.FfnFwdKernel.τ).loc Cert.FfnFwdKernel.main_arg0)
      ∧ r.2.mem ((c.tc : Thread Cert.FfnFwdKernel.nD Cert.FfnFwdKernel.τ).loc Cert.FfnFwdKernel.main_arg1) = m ((c.tc : Thread Cert.FfnFwdKernel.nD Cert.FfnFwdKernel.τ).loc Cert.FfnFwdKernel.main_arg1)
      ∧ r.2.mem ((c.tc : Thread Cert.FfnFwdKernel.nD Cert.FfnFwdKernel.τ).loc Cert.FfnFwdKernel.main_arg2) = m ((c.tc : Thread Cert.FfnFwdKernel.nD Cert.FfnFwdKernel.τ).loc Cert.FfnFwdKernel.main_arg2)
      ∧ r.2.mem ((c.tc : Thread Cert.FfnFwdKernel.nD Cert.FfnFwdKernel.τ).loc Cert.FfnFwdKernel.main_arg3) = m ((c.tc : Thread Cert.FfnFwdKernel.nD Cert.FfnFwdKernel.τ).loc Cert.FfnFwdKernel.main_arg3)
      ∧ r.2.mem ((c.tc : Thread Cert.FfnFwdKernel.nD Cert.FfnFwdKernel.τ).loc Cert.FfnFwdKernel.main_arg4) = m ((c.tc : Thread Cert.FfnFwdKernel.nD Cert.FfnFwdKernel.τ).loc Cert.FfnFwdKernel.main_arg4))
      ∧ r.2.sem = fun _ => 0)

def quiescent_FfnFwdKernelIdeal [hFfnFwdKernelIdeal : Cert.FfnFwdKernelIdeal.Facts] : Prop :=
  ∀ (m : (ℓ : Loc Cert.FfnFwdKernelIdeal.nD Cert.FfnFwdKernelIdeal.τ Cert.FfnFwdKernelIdeal.sig) → Buf (Elt Ideal) ℓ) (g : Dev Cert.FfnFwdKernelIdeal.nD → PrngReg), Pre_FfnFwdKernelIdeal m →
    θ_run (Cert.FfnFwdKernelIdeal.defs (F := Ideal)) (onTc (τ := Cert.FfnFwdKernelIdeal.τ) (Cert.FfnFwdKernelIdeal.main (F := Ideal))) ⟨m, fun _ => 0, g⟩ (fun r => (∀ c : Dev Cert.FfnFwdKernelIdeal.nD,
      r.2.mem ((c.tc : Thread Cert.FfnFwdKernelIdeal.nD Cert.FfnFwdKernelIdeal.τ).loc Cert.FfnFwdKernelIdeal.main_arg0) = m ((c.tc : Thread Cert.FfnFwdKernelIdeal.nD Cert.FfnFwdKernelIdeal.τ).loc Cert.FfnFwdKernelIdeal.main_arg0)
      ∧ r.2.mem ((c.tc : Thread Cert.FfnFwdKernelIdeal.nD Cert.FfnFwdKernelIdeal.τ).loc Cert.FfnFwdKernelIdeal.main_arg1) = m ((c.tc : Thread Cert.FfnFwdKernelIdeal.nD Cert.FfnFwdKernelIdeal.τ).loc Cert.FfnFwdKernelIdeal.main_arg1)
      ∧ r.2.mem ((c.tc : Thread Cert.FfnFwdKernelIdeal.nD Cert.FfnFwdKernelIdeal.τ).loc Cert.FfnFwdKernelIdeal.main_arg2) = m ((c.tc : Thread Cert.FfnFwdKernelIdeal.nD Cert.FfnFwdKernelIdeal.τ).loc Cert.FfnFwdKernelIdeal.main_arg2)
      ∧ r.2.mem ((c.tc : Thread Cert.FfnFwdKernelIdeal.nD Cert.FfnFwdKernelIdeal.τ).loc Cert.FfnFwdKernelIdeal.main_arg3) = m ((c.tc : Thread Cert.FfnFwdKernelIdeal.nD Cert.FfnFwdKernelIdeal.τ).loc Cert.FfnFwdKernelIdeal.main_arg3)
      ∧ r.2.mem ((c.tc : Thread Cert.FfnFwdKernelIdeal.nD Cert.FfnFwdKernelIdeal.τ).loc Cert.FfnFwdKernelIdeal.main_arg4) = m ((c.tc : Thread Cert.FfnFwdKernelIdeal.nD Cert.FfnFwdKernelIdeal.τ).loc Cert.FfnFwdKernelIdeal.main_arg4))
      ∧ r.2.sem = fun _ => 0)

def quiescent_FfnFwdReferenceIdeal [hFfnFwdReferenceIdeal : Cert.FfnFwdReferenceIdeal.Facts] : Prop :=
  ∀ (m : (ℓ : Loc Cert.FfnFwdReferenceIdeal.nD Cert.FfnFwdReferenceIdeal.τ Cert.FfnFwdReferenceIdeal.sig) → Buf (Elt Ideal) ℓ) (g : Dev Cert.FfnFwdReferenceIdeal.nD → PrngReg), Pre_FfnFwdReferenceIdeal m →
    θ_run (Cert.FfnFwdReferenceIdeal.defs (F := Ideal)) (onTc (τ := Cert.FfnFwdReferenceIdeal.τ) (Cert.FfnFwdReferenceIdeal.main (F := Ideal))) ⟨m, fun _ => 0, g⟩ (fun r => (∀ c : Dev Cert.FfnFwdReferenceIdeal.nD,
      r.2.mem ((c.tc : Thread Cert.FfnFwdReferenceIdeal.nD Cert.FfnFwdReferenceIdeal.τ).loc Cert.FfnFwdReferenceIdeal.main_arg0) = m ((c.tc : Thread Cert.FfnFwdReferenceIdeal.nD Cert.FfnFwdReferenceIdeal.τ).loc Cert.FfnFwdReferenceIdeal.main_arg0)
      ∧ r.2.mem ((c.tc : Thread Cert.FfnFwdReferenceIdeal.nD Cert.FfnFwdReferenceIdeal.τ).loc Cert.FfnFwdReferenceIdeal.main_arg1) = m ((c.tc : Thread Cert.FfnFwdReferenceIdeal.nD Cert.FfnFwdReferenceIdeal.τ).loc Cert.FfnFwdReferenceIdeal.main_arg1)
      ∧ r.2.mem ((c.tc : Thread Cert.FfnFwdReferenceIdeal.nD Cert.FfnFwdReferenceIdeal.τ).loc Cert.FfnFwdReferenceIdeal.main_arg2) = m ((c.tc : Thread Cert.FfnFwdReferenceIdeal.nD Cert.FfnFwdReferenceIdeal.τ).loc Cert.FfnFwdReferenceIdeal.main_arg2)
      ∧ r.2.mem ((c.tc : Thread Cert.FfnFwdReferenceIdeal.nD Cert.FfnFwdReferenceIdeal.τ).loc Cert.FfnFwdReferenceIdeal.main_arg3) = m ((c.tc : Thread Cert.FfnFwdReferenceIdeal.nD Cert.FfnFwdReferenceIdeal.τ).loc Cert.FfnFwdReferenceIdeal.main_arg3)
      ∧ r.2.mem ((c.tc : Thread Cert.FfnFwdReferenceIdeal.nD Cert.FfnFwdReferenceIdeal.τ).loc Cert.FfnFwdReferenceIdeal.main_arg4) = m ((c.tc : Thread Cert.FfnFwdReferenceIdeal.nD Cert.FfnFwdReferenceIdeal.τ).loc Cert.FfnFwdReferenceIdeal.main_arg4))
      ∧ r.2.sem = fun _ => 0)

def quiescent_MixInFwdKernel [hMixInFwdKernel : Cert.MixInFwdKernel.Facts] : Prop :=
  ∀ (m : (ℓ : Loc Cert.MixInFwdKernel.nD Cert.MixInFwdKernel.τ Cert.MixInFwdKernel.sig) → Buf (Elt Bits) ℓ) (g : Dev Cert.MixInFwdKernel.nD → PrngReg), Pre_MixInFwdKernel m →
    θ_run (Cert.MixInFwdKernel.defs (F := Bits)) (onTc (τ := Cert.MixInFwdKernel.τ) (Cert.MixInFwdKernel.main (F := Bits))) ⟨m, fun _ => 0, g⟩ (fun r => (∀ c : Dev Cert.MixInFwdKernel.nD,
      r.2.mem ((c.tc : Thread Cert.MixInFwdKernel.nD Cert.MixInFwdKernel.τ).loc Cert.MixInFwdKernel.main_arg0) = m ((c.tc : Thread Cert.MixInFwdKernel.nD Cert.MixInFwdKernel.τ).loc Cert.MixInFwdKernel.main_arg0)
      ∧ r.2.mem ((c.tc : Thread Cert.MixInFwdKernel.nD Cert.MixInFwdKernel.τ).loc Cert.MixInFwdKernel.main_arg1) = m ((c.tc : Thread Cert.MixInFwdKernel.nD Cert.MixInFwdKernel.τ).loc Cert.MixInFwdKernel.main_arg1)
      ∧ r.2.mem ((c.tc : Thread Cert.MixInFwdKernel.nD Cert.MixInFwdKernel.τ).loc Cert.MixInFwdKernel.main_arg2) = m ((c.tc : Thread Cert.MixInFwdKernel.nD Cert.MixInFwdKernel.τ).loc Cert.MixInFwdKernel.main_arg2)
      ∧ r.2.mem ((c.tc : Thread Cert.MixInFwdKernel.nD Cert.MixInFwdKernel.τ).loc Cert.MixInFwdKernel.main_arg3) = m ((c.tc : Thread Cert.MixInFwdKernel.nD Cert.MixInFwdKernel.τ).loc Cert.MixInFwdKernel.main_arg3))
      ∧ r.2.sem = fun _ => 0)

def quiescent_MixInFwdKernelIdeal [hMixInFwdKernelIdeal : Cert.MixInFwdKernelIdeal.Facts] : Prop :=
  ∀ (m : (ℓ : Loc Cert.MixInFwdKernelIdeal.nD Cert.MixInFwdKernelIdeal.τ Cert.MixInFwdKernelIdeal.sig) → Buf (Elt Ideal) ℓ) (g : Dev Cert.MixInFwdKernelIdeal.nD → PrngReg), Pre_MixInFwdKernelIdeal m →
    θ_run (Cert.MixInFwdKernelIdeal.defs (F := Ideal)) (onTc (τ := Cert.MixInFwdKernelIdeal.τ) (Cert.MixInFwdKernelIdeal.main (F := Ideal))) ⟨m, fun _ => 0, g⟩ (fun r => (∀ c : Dev Cert.MixInFwdKernelIdeal.nD,
      r.2.mem ((c.tc : Thread Cert.MixInFwdKernelIdeal.nD Cert.MixInFwdKernelIdeal.τ).loc Cert.MixInFwdKernelIdeal.main_arg0) = m ((c.tc : Thread Cert.MixInFwdKernelIdeal.nD Cert.MixInFwdKernelIdeal.τ).loc Cert.MixInFwdKernelIdeal.main_arg0)
      ∧ r.2.mem ((c.tc : Thread Cert.MixInFwdKernelIdeal.nD Cert.MixInFwdKernelIdeal.τ).loc Cert.MixInFwdKernelIdeal.main_arg1) = m ((c.tc : Thread Cert.MixInFwdKernelIdeal.nD Cert.MixInFwdKernelIdeal.τ).loc Cert.MixInFwdKernelIdeal.main_arg1)
      ∧ r.2.mem ((c.tc : Thread Cert.MixInFwdKernelIdeal.nD Cert.MixInFwdKernelIdeal.τ).loc Cert.MixInFwdKernelIdeal.main_arg2) = m ((c.tc : Thread Cert.MixInFwdKernelIdeal.nD Cert.MixInFwdKernelIdeal.τ).loc Cert.MixInFwdKernelIdeal.main_arg2)
      ∧ r.2.mem ((c.tc : Thread Cert.MixInFwdKernelIdeal.nD Cert.MixInFwdKernelIdeal.τ).loc Cert.MixInFwdKernelIdeal.main_arg3) = m ((c.tc : Thread Cert.MixInFwdKernelIdeal.nD Cert.MixInFwdKernelIdeal.τ).loc Cert.MixInFwdKernelIdeal.main_arg3))
      ∧ r.2.sem = fun _ => 0)

def quiescent_MixInFwdReferenceIdeal [hMixInFwdReferenceIdeal : Cert.MixInFwdReferenceIdeal.Facts] : Prop :=
  ∀ (m : (ℓ : Loc Cert.MixInFwdReferenceIdeal.nD Cert.MixInFwdReferenceIdeal.τ Cert.MixInFwdReferenceIdeal.sig) → Buf (Elt Ideal) ℓ) (g : Dev Cert.MixInFwdReferenceIdeal.nD → PrngReg), Pre_MixInFwdReferenceIdeal m →
    θ_run (Cert.MixInFwdReferenceIdeal.defs (F := Ideal)) (onTc (τ := Cert.MixInFwdReferenceIdeal.τ) (Cert.MixInFwdReferenceIdeal.main (F := Ideal))) ⟨m, fun _ => 0, g⟩ (fun r => (∀ c : Dev Cert.MixInFwdReferenceIdeal.nD,
      r.2.mem ((c.tc : Thread Cert.MixInFwdReferenceIdeal.nD Cert.MixInFwdReferenceIdeal.τ).loc Cert.MixInFwdReferenceIdeal.main_arg0) = m ((c.tc : Thread Cert.MixInFwdReferenceIdeal.nD Cert.MixInFwdReferenceIdeal.τ).loc Cert.MixInFwdReferenceIdeal.main_arg0)
      ∧ r.2.mem ((c.tc : Thread Cert.MixInFwdReferenceIdeal.nD Cert.MixInFwdReferenceIdeal.τ).loc Cert.MixInFwdReferenceIdeal.main_arg1) = m ((c.tc : Thread Cert.MixInFwdReferenceIdeal.nD Cert.MixInFwdReferenceIdeal.τ).loc Cert.MixInFwdReferenceIdeal.main_arg1)
      ∧ r.2.mem ((c.tc : Thread Cert.MixInFwdReferenceIdeal.nD Cert.MixInFwdReferenceIdeal.τ).loc Cert.MixInFwdReferenceIdeal.main_arg2) = m ((c.tc : Thread Cert.MixInFwdReferenceIdeal.nD Cert.MixInFwdReferenceIdeal.τ).loc Cert.MixInFwdReferenceIdeal.main_arg2)
      ∧ r.2.mem ((c.tc : Thread Cert.MixInFwdReferenceIdeal.nD Cert.MixInFwdReferenceIdeal.τ).loc Cert.MixInFwdReferenceIdeal.main_arg3) = m ((c.tc : Thread Cert.MixInFwdReferenceIdeal.nD Cert.MixInFwdReferenceIdeal.τ).loc Cert.MixInFwdReferenceIdeal.main_arg3))
      ∧ r.2.sem = fun _ => 0)

def quiescent_MixInBwdKernel [hMixInBwdKernel : Cert.MixInBwdKernel.Facts] : Prop :=
  ∀ (m : (ℓ : Loc Cert.MixInBwdKernel.nD Cert.MixInBwdKernel.τ Cert.MixInBwdKernel.sig) → Buf (Elt Bits) ℓ) (g : Dev Cert.MixInBwdKernel.nD → PrngReg), Pre_MixInBwdKernel m →
    θ_run (Cert.MixInBwdKernel.defs (F := Bits)) (onTc (τ := Cert.MixInBwdKernel.τ) (Cert.MixInBwdKernel.main (F := Bits))) ⟨m, fun _ => 0, g⟩ (fun r => (∀ c : Dev Cert.MixInBwdKernel.nD,
      r.2.mem ((c.tc : Thread Cert.MixInBwdKernel.nD Cert.MixInBwdKernel.τ).loc Cert.MixInBwdKernel.main_arg0) = m ((c.tc : Thread Cert.MixInBwdKernel.nD Cert.MixInBwdKernel.τ).loc Cert.MixInBwdKernel.main_arg0)
      ∧ r.2.mem ((c.tc : Thread Cert.MixInBwdKernel.nD Cert.MixInBwdKernel.τ).loc Cert.MixInBwdKernel.main_arg1) = m ((c.tc : Thread Cert.MixInBwdKernel.nD Cert.MixInBwdKernel.τ).loc Cert.MixInBwdKernel.main_arg1)
      ∧ r.2.mem ((c.tc : Thread Cert.MixInBwdKernel.nD Cert.MixInBwdKernel.τ).loc Cert.MixInBwdKernel.main_arg2) = m ((c.tc : Thread Cert.MixInBwdKernel.nD Cert.MixInBwdKernel.τ).loc Cert.MixInBwdKernel.main_arg2)
      ∧ r.2.mem ((c.tc : Thread Cert.MixInBwdKernel.nD Cert.MixInBwdKernel.τ).loc Cert.MixInBwdKernel.main_arg3) = m ((c.tc : Thread Cert.MixInBwdKernel.nD Cert.MixInBwdKernel.τ).loc Cert.MixInBwdKernel.main_arg3)
      ∧ r.2.mem ((c.tc : Thread Cert.MixInBwdKernel.nD Cert.MixInBwdKernel.τ).loc Cert.MixInBwdKernel.main_arg4) = m ((c.tc : Thread Cert.MixInBwdKernel.nD Cert.MixInBwdKernel.τ).loc Cert.MixInBwdKernel.main_arg4)
      ∧ r.2.mem ((c.tc : Thread Cert.MixInBwdKernel.nD Cert.MixInBwdKernel.τ).loc Cert.MixInBwdKernel.main_arg5) = m ((c.tc : Thread Cert.MixInBwdKernel.nD Cert.MixInBwdKernel.τ).loc Cert.MixInBwdKernel.main_arg5))
      ∧ r.2.sem = fun _ => 0)

def quiescent_MixInBwdKernelIdeal [hMixInBwdKernelIdeal : Cert.MixInBwdKernelIdeal.Facts] : Prop :=
  ∀ (m : (ℓ : Loc Cert.MixInBwdKernelIdeal.nD Cert.MixInBwdKernelIdeal.τ Cert.MixInBwdKernelIdeal.sig) → Buf (Elt Ideal) ℓ) (g : Dev Cert.MixInBwdKernelIdeal.nD → PrngReg), Pre_MixInBwdKernelIdeal m →
    θ_run (Cert.MixInBwdKernelIdeal.defs (F := Ideal)) (onTc (τ := Cert.MixInBwdKernelIdeal.τ) (Cert.MixInBwdKernelIdeal.main (F := Ideal))) ⟨m, fun _ => 0, g⟩ (fun r => (∀ c : Dev Cert.MixInBwdKernelIdeal.nD,
      r.2.mem ((c.tc : Thread Cert.MixInBwdKernelIdeal.nD Cert.MixInBwdKernelIdeal.τ).loc Cert.MixInBwdKernelIdeal.main_arg0) = m ((c.tc : Thread Cert.MixInBwdKernelIdeal.nD Cert.MixInBwdKernelIdeal.τ).loc Cert.MixInBwdKernelIdeal.main_arg0)
      ∧ r.2.mem ((c.tc : Thread Cert.MixInBwdKernelIdeal.nD Cert.MixInBwdKernelIdeal.τ).loc Cert.MixInBwdKernelIdeal.main_arg1) = m ((c.tc : Thread Cert.MixInBwdKernelIdeal.nD Cert.MixInBwdKernelIdeal.τ).loc Cert.MixInBwdKernelIdeal.main_arg1)
      ∧ r.2.mem ((c.tc : Thread Cert.MixInBwdKernelIdeal.nD Cert.MixInBwdKernelIdeal.τ).loc Cert.MixInBwdKernelIdeal.main_arg2) = m ((c.tc : Thread Cert.MixInBwdKernelIdeal.nD Cert.MixInBwdKernelIdeal.τ).loc Cert.MixInBwdKernelIdeal.main_arg2)
      ∧ r.2.mem ((c.tc : Thread Cert.MixInBwdKernelIdeal.nD Cert.MixInBwdKernelIdeal.τ).loc Cert.MixInBwdKernelIdeal.main_arg3) = m ((c.tc : Thread Cert.MixInBwdKernelIdeal.nD Cert.MixInBwdKernelIdeal.τ).loc Cert.MixInBwdKernelIdeal.main_arg3)
      ∧ r.2.mem ((c.tc : Thread Cert.MixInBwdKernelIdeal.nD Cert.MixInBwdKernelIdeal.τ).loc Cert.MixInBwdKernelIdeal.main_arg4) = m ((c.tc : Thread Cert.MixInBwdKernelIdeal.nD Cert.MixInBwdKernelIdeal.τ).loc Cert.MixInBwdKernelIdeal.main_arg4)
      ∧ r.2.mem ((c.tc : Thread Cert.MixInBwdKernelIdeal.nD Cert.MixInBwdKernelIdeal.τ).loc Cert.MixInBwdKernelIdeal.main_arg5) = m ((c.tc : Thread Cert.MixInBwdKernelIdeal.nD Cert.MixInBwdKernelIdeal.τ).loc Cert.MixInBwdKernelIdeal.main_arg5))
      ∧ r.2.sem = fun _ => 0)

def quiescent_MixInBwdReferenceIdeal [hMixInBwdReferenceIdeal : Cert.MixInBwdReferenceIdeal.Facts] : Prop :=
  ∀ (m : (ℓ : Loc Cert.MixInBwdReferenceIdeal.nD Cert.MixInBwdReferenceIdeal.τ Cert.MixInBwdReferenceIdeal.sig) → Buf (Elt Ideal) ℓ) (g : Dev Cert.MixInBwdReferenceIdeal.nD → PrngReg), Pre_MixInBwdReferenceIdeal m →
    θ_run (Cert.MixInBwdReferenceIdeal.defs (F := Ideal)) (onTc (τ := Cert.MixInBwdReferenceIdeal.τ) (Cert.MixInBwdReferenceIdeal.main (F := Ideal))) ⟨m, fun _ => 0, g⟩ (fun r => (∀ c : Dev Cert.MixInBwdReferenceIdeal.nD,
      r.2.mem ((c.tc : Thread Cert.MixInBwdReferenceIdeal.nD Cert.MixInBwdReferenceIdeal.τ).loc Cert.MixInBwdReferenceIdeal.main_arg0) = m ((c.tc : Thread Cert.MixInBwdReferenceIdeal.nD Cert.MixInBwdReferenceIdeal.τ).loc Cert.MixInBwdReferenceIdeal.main_arg0)
      ∧ r.2.mem ((c.tc : Thread Cert.MixInBwdReferenceIdeal.nD Cert.MixInBwdReferenceIdeal.τ).loc Cert.MixInBwdReferenceIdeal.main_arg1) = m ((c.tc : Thread Cert.MixInBwdReferenceIdeal.nD Cert.MixInBwdReferenceIdeal.τ).loc Cert.MixInBwdReferenceIdeal.main_arg1)
      ∧ r.2.mem ((c.tc : Thread Cert.MixInBwdReferenceIdeal.nD Cert.MixInBwdReferenceIdeal.τ).loc Cert.MixInBwdReferenceIdeal.main_arg2) = m ((c.tc : Thread Cert.MixInBwdReferenceIdeal.nD Cert.MixInBwdReferenceIdeal.τ).loc Cert.MixInBwdReferenceIdeal.main_arg2)
      ∧ r.2.mem ((c.tc : Thread Cert.MixInBwdReferenceIdeal.nD Cert.MixInBwdReferenceIdeal.τ).loc Cert.MixInBwdReferenceIdeal.main_arg3) = m ((c.tc : Thread Cert.MixInBwdReferenceIdeal.nD Cert.MixInBwdReferenceIdeal.τ).loc Cert.MixInBwdReferenceIdeal.main_arg3)
      ∧ r.2.mem ((c.tc : Thread Cert.MixInBwdReferenceIdeal.nD Cert.MixInBwdReferenceIdeal.τ).loc Cert.MixInBwdReferenceIdeal.main_arg4) = m ((c.tc : Thread Cert.MixInBwdReferenceIdeal.nD Cert.MixInBwdReferenceIdeal.τ).loc Cert.MixInBwdReferenceIdeal.main_arg4)
      ∧ r.2.mem ((c.tc : Thread Cert.MixInBwdReferenceIdeal.nD Cert.MixInBwdReferenceIdeal.τ).loc Cert.MixInBwdReferenceIdeal.main_arg5) = m ((c.tc : Thread Cert.MixInBwdReferenceIdeal.nD Cert.MixInBwdReferenceIdeal.τ).loc Cert.MixInBwdReferenceIdeal.main_arg5))
      ∧ r.2.sem = fun _ => 0)

def quiescent_MixOutFwdKernel [hMixOutFwdKernel : Cert.MixOutFwdKernel.Facts] : Prop :=
  ∀ (m : (ℓ : Loc Cert.MixOutFwdKernel.nD Cert.MixOutFwdKernel.τ Cert.MixOutFwdKernel.sig) → Buf (Elt Bits) ℓ) (g : Dev Cert.MixOutFwdKernel.nD → PrngReg), Pre_MixOutFwdKernel m →
    θ_run (Cert.MixOutFwdKernel.defs (F := Bits)) (onTc (τ := Cert.MixOutFwdKernel.τ) (Cert.MixOutFwdKernel.main (F := Bits))) ⟨m, fun _ => 0, g⟩ (fun r => (∀ c : Dev Cert.MixOutFwdKernel.nD,
      r.2.mem ((c.tc : Thread Cert.MixOutFwdKernel.nD Cert.MixOutFwdKernel.τ).loc Cert.MixOutFwdKernel.main_arg0) = m ((c.tc : Thread Cert.MixOutFwdKernel.nD Cert.MixOutFwdKernel.τ).loc Cert.MixOutFwdKernel.main_arg0)
      ∧ r.2.mem ((c.tc : Thread Cert.MixOutFwdKernel.nD Cert.MixOutFwdKernel.τ).loc Cert.MixOutFwdKernel.main_arg1) = m ((c.tc : Thread Cert.MixOutFwdKernel.nD Cert.MixOutFwdKernel.τ).loc Cert.MixOutFwdKernel.main_arg1)
      ∧ r.2.mem ((c.tc : Thread Cert.MixOutFwdKernel.nD Cert.MixOutFwdKernel.τ).loc Cert.MixOutFwdKernel.main_arg2) = m ((c.tc : Thread Cert.MixOutFwdKernel.nD Cert.MixOutFwdKernel.τ).loc Cert.MixOutFwdKernel.main_arg2)
      ∧ r.2.mem ((c.tc : Thread Cert.MixOutFwdKernel.nD Cert.MixOutFwdKernel.τ).loc Cert.MixOutFwdKernel.main_arg3) = m ((c.tc : Thread Cert.MixOutFwdKernel.nD Cert.MixOutFwdKernel.τ).loc Cert.MixOutFwdKernel.main_arg3)
      ∧ r.2.mem ((c.tc : Thread Cert.MixOutFwdKernel.nD Cert.MixOutFwdKernel.τ).loc Cert.MixOutFwdKernel.main_arg4) = m ((c.tc : Thread Cert.MixOutFwdKernel.nD Cert.MixOutFwdKernel.τ).loc Cert.MixOutFwdKernel.main_arg4)
      ∧ r.2.mem ((c.tc : Thread Cert.MixOutFwdKernel.nD Cert.MixOutFwdKernel.τ).loc Cert.MixOutFwdKernel.main_arg5) = m ((c.tc : Thread Cert.MixOutFwdKernel.nD Cert.MixOutFwdKernel.τ).loc Cert.MixOutFwdKernel.main_arg5)
      ∧ r.2.mem ((c.tc : Thread Cert.MixOutFwdKernel.nD Cert.MixOutFwdKernel.τ).loc Cert.MixOutFwdKernel.main_arg6) = m ((c.tc : Thread Cert.MixOutFwdKernel.nD Cert.MixOutFwdKernel.τ).loc Cert.MixOutFwdKernel.main_arg6)
      ∧ r.2.mem ((c.tc : Thread Cert.MixOutFwdKernel.nD Cert.MixOutFwdKernel.τ).loc Cert.MixOutFwdKernel.main_arg7) = m ((c.tc : Thread Cert.MixOutFwdKernel.nD Cert.MixOutFwdKernel.τ).loc Cert.MixOutFwdKernel.main_arg7))
      ∧ r.2.sem = fun _ => 0)

def quiescent_MixOutFwdKernelIdeal [hMixOutFwdKernelIdeal : Cert.MixOutFwdKernelIdeal.Facts] : Prop :=
  ∀ (m : (ℓ : Loc Cert.MixOutFwdKernelIdeal.nD Cert.MixOutFwdKernelIdeal.τ Cert.MixOutFwdKernelIdeal.sig) → Buf (Elt Ideal) ℓ) (g : Dev Cert.MixOutFwdKernelIdeal.nD → PrngReg), Pre_MixOutFwdKernelIdeal m →
    θ_run (Cert.MixOutFwdKernelIdeal.defs (F := Ideal)) (onTc (τ := Cert.MixOutFwdKernelIdeal.τ) (Cert.MixOutFwdKernelIdeal.main (F := Ideal))) ⟨m, fun _ => 0, g⟩ (fun r => (∀ c : Dev Cert.MixOutFwdKernelIdeal.nD,
      r.2.mem ((c.tc : Thread Cert.MixOutFwdKernelIdeal.nD Cert.MixOutFwdKernelIdeal.τ).loc Cert.MixOutFwdKernelIdeal.main_arg0) = m ((c.tc : Thread Cert.MixOutFwdKernelIdeal.nD Cert.MixOutFwdKernelIdeal.τ).loc Cert.MixOutFwdKernelIdeal.main_arg0)
      ∧ r.2.mem ((c.tc : Thread Cert.MixOutFwdKernelIdeal.nD Cert.MixOutFwdKernelIdeal.τ).loc Cert.MixOutFwdKernelIdeal.main_arg1) = m ((c.tc : Thread Cert.MixOutFwdKernelIdeal.nD Cert.MixOutFwdKernelIdeal.τ).loc Cert.MixOutFwdKernelIdeal.main_arg1)
      ∧ r.2.mem ((c.tc : Thread Cert.MixOutFwdKernelIdeal.nD Cert.MixOutFwdKernelIdeal.τ).loc Cert.MixOutFwdKernelIdeal.main_arg2) = m ((c.tc : Thread Cert.MixOutFwdKernelIdeal.nD Cert.MixOutFwdKernelIdeal.τ).loc Cert.MixOutFwdKernelIdeal.main_arg2)
      ∧ r.2.mem ((c.tc : Thread Cert.MixOutFwdKernelIdeal.nD Cert.MixOutFwdKernelIdeal.τ).loc Cert.MixOutFwdKernelIdeal.main_arg3) = m ((c.tc : Thread Cert.MixOutFwdKernelIdeal.nD Cert.MixOutFwdKernelIdeal.τ).loc Cert.MixOutFwdKernelIdeal.main_arg3)
      ∧ r.2.mem ((c.tc : Thread Cert.MixOutFwdKernelIdeal.nD Cert.MixOutFwdKernelIdeal.τ).loc Cert.MixOutFwdKernelIdeal.main_arg4) = m ((c.tc : Thread Cert.MixOutFwdKernelIdeal.nD Cert.MixOutFwdKernelIdeal.τ).loc Cert.MixOutFwdKernelIdeal.main_arg4)
      ∧ r.2.mem ((c.tc : Thread Cert.MixOutFwdKernelIdeal.nD Cert.MixOutFwdKernelIdeal.τ).loc Cert.MixOutFwdKernelIdeal.main_arg5) = m ((c.tc : Thread Cert.MixOutFwdKernelIdeal.nD Cert.MixOutFwdKernelIdeal.τ).loc Cert.MixOutFwdKernelIdeal.main_arg5)
      ∧ r.2.mem ((c.tc : Thread Cert.MixOutFwdKernelIdeal.nD Cert.MixOutFwdKernelIdeal.τ).loc Cert.MixOutFwdKernelIdeal.main_arg6) = m ((c.tc : Thread Cert.MixOutFwdKernelIdeal.nD Cert.MixOutFwdKernelIdeal.τ).loc Cert.MixOutFwdKernelIdeal.main_arg6)
      ∧ r.2.mem ((c.tc : Thread Cert.MixOutFwdKernelIdeal.nD Cert.MixOutFwdKernelIdeal.τ).loc Cert.MixOutFwdKernelIdeal.main_arg7) = m ((c.tc : Thread Cert.MixOutFwdKernelIdeal.nD Cert.MixOutFwdKernelIdeal.τ).loc Cert.MixOutFwdKernelIdeal.main_arg7))
      ∧ r.2.sem = fun _ => 0)

def quiescent_MixOutFwdReferenceIdeal [hMixOutFwdReferenceIdeal : Cert.MixOutFwdReferenceIdeal.Facts] : Prop :=
  ∀ (m : (ℓ : Loc Cert.MixOutFwdReferenceIdeal.nD Cert.MixOutFwdReferenceIdeal.τ Cert.MixOutFwdReferenceIdeal.sig) → Buf (Elt Ideal) ℓ) (g : Dev Cert.MixOutFwdReferenceIdeal.nD → PrngReg), Pre_MixOutFwdReferenceIdeal m →
    θ_run (Cert.MixOutFwdReferenceIdeal.defs (F := Ideal)) (onTc (τ := Cert.MixOutFwdReferenceIdeal.τ) (Cert.MixOutFwdReferenceIdeal.main (F := Ideal))) ⟨m, fun _ => 0, g⟩ (fun r => (∀ c : Dev Cert.MixOutFwdReferenceIdeal.nD,
      r.2.mem ((c.tc : Thread Cert.MixOutFwdReferenceIdeal.nD Cert.MixOutFwdReferenceIdeal.τ).loc Cert.MixOutFwdReferenceIdeal.main_arg0) = m ((c.tc : Thread Cert.MixOutFwdReferenceIdeal.nD Cert.MixOutFwdReferenceIdeal.τ).loc Cert.MixOutFwdReferenceIdeal.main_arg0)
      ∧ r.2.mem ((c.tc : Thread Cert.MixOutFwdReferenceIdeal.nD Cert.MixOutFwdReferenceIdeal.τ).loc Cert.MixOutFwdReferenceIdeal.main_arg1) = m ((c.tc : Thread Cert.MixOutFwdReferenceIdeal.nD Cert.MixOutFwdReferenceIdeal.τ).loc Cert.MixOutFwdReferenceIdeal.main_arg1)
      ∧ r.2.mem ((c.tc : Thread Cert.MixOutFwdReferenceIdeal.nD Cert.MixOutFwdReferenceIdeal.τ).loc Cert.MixOutFwdReferenceIdeal.main_arg2) = m ((c.tc : Thread Cert.MixOutFwdReferenceIdeal.nD Cert.MixOutFwdReferenceIdeal.τ).loc Cert.MixOutFwdReferenceIdeal.main_arg2)
      ∧ r.2.mem ((c.tc : Thread Cert.MixOutFwdReferenceIdeal.nD Cert.MixOutFwdReferenceIdeal.τ).loc Cert.MixOutFwdReferenceIdeal.main_arg3) = m ((c.tc : Thread Cert.MixOutFwdReferenceIdeal.nD Cert.MixOutFwdReferenceIdeal.τ).loc Cert.MixOutFwdReferenceIdeal.main_arg3)
      ∧ r.2.mem ((c.tc : Thread Cert.MixOutFwdReferenceIdeal.nD Cert.MixOutFwdReferenceIdeal.τ).loc Cert.MixOutFwdReferenceIdeal.main_arg4) = m ((c.tc : Thread Cert.MixOutFwdReferenceIdeal.nD Cert.MixOutFwdReferenceIdeal.τ).loc Cert.MixOutFwdReferenceIdeal.main_arg4)
      ∧ r.2.mem ((c.tc : Thread Cert.MixOutFwdReferenceIdeal.nD Cert.MixOutFwdReferenceIdeal.τ).loc Cert.MixOutFwdReferenceIdeal.main_arg5) = m ((c.tc : Thread Cert.MixOutFwdReferenceIdeal.nD Cert.MixOutFwdReferenceIdeal.τ).loc Cert.MixOutFwdReferenceIdeal.main_arg5)
      ∧ r.2.mem ((c.tc : Thread Cert.MixOutFwdReferenceIdeal.nD Cert.MixOutFwdReferenceIdeal.τ).loc Cert.MixOutFwdReferenceIdeal.main_arg6) = m ((c.tc : Thread Cert.MixOutFwdReferenceIdeal.nD Cert.MixOutFwdReferenceIdeal.τ).loc Cert.MixOutFwdReferenceIdeal.main_arg6)
      ∧ r.2.mem ((c.tc : Thread Cert.MixOutFwdReferenceIdeal.nD Cert.MixOutFwdReferenceIdeal.τ).loc Cert.MixOutFwdReferenceIdeal.main_arg7) = m ((c.tc : Thread Cert.MixOutFwdReferenceIdeal.nD Cert.MixOutFwdReferenceIdeal.τ).loc Cert.MixOutFwdReferenceIdeal.main_arg7))
      ∧ r.2.sem = fun _ => 0)

def quiescent_AdamAdaKernel [hAdamAdaKernel : Cert.AdamAdaKernel.Facts] : Prop :=
  ∀ (m : (ℓ : Loc Cert.AdamAdaKernel.nD Cert.AdamAdaKernel.τ Cert.AdamAdaKernel.sig) → Buf (Elt Bits) ℓ) (g : Dev Cert.AdamAdaKernel.nD → PrngReg), Pre_AdamAdaKernel m →
    θ_run (Cert.AdamAdaKernel.defs (F := Bits)) (onTc (τ := Cert.AdamAdaKernel.τ) (Cert.AdamAdaKernel.main (F := Bits))) ⟨m, fun _ => 0, g⟩ (fun r => (∀ c : Dev Cert.AdamAdaKernel.nD,
      r.2.mem ((c.tc : Thread Cert.AdamAdaKernel.nD Cert.AdamAdaKernel.τ).loc Cert.AdamAdaKernel.main_arg0) = m ((c.tc : Thread Cert.AdamAdaKernel.nD Cert.AdamAdaKernel.τ).loc Cert.AdamAdaKernel.main_arg0)
      ∧ r.2.mem ((c.tc : Thread Cert.AdamAdaKernel.nD Cert.AdamAdaKernel.τ).loc Cert.AdamAdaKernel.main_arg1) = m ((c.tc : Thread Cert.AdamAdaKernel.nD Cert.AdamAdaKernel.τ).loc Cert.AdamAdaKernel.main_arg1)
      ∧ r.2.mem ((c.tc : Thread Cert.AdamAdaKernel.nD Cert.AdamAdaKernel.τ).loc Cert.AdamAdaKernel.main_arg2) = m ((c.tc : Thread Cert.AdamAdaKernel.nD Cert.AdamAdaKernel.τ).loc Cert.AdamAdaKernel.main_arg2)
      ∧ r.2.mem ((c.tc : Thread Cert.AdamAdaKernel.nD Cert.AdamAdaKernel.τ).loc Cert.AdamAdaKernel.main_arg3) = m ((c.tc : Thread Cert.AdamAdaKernel.nD Cert.AdamAdaKernel.τ).loc Cert.AdamAdaKernel.main_arg3))
      ∧ r.2.sem = fun _ => 0)

def quiescent_AdamAdaKernelIdeal [hAdamAdaKernelIdeal : Cert.AdamAdaKernelIdeal.Facts] : Prop :=
  ∀ (m : (ℓ : Loc Cert.AdamAdaKernelIdeal.nD Cert.AdamAdaKernelIdeal.τ Cert.AdamAdaKernelIdeal.sig) → Buf (Elt Ideal) ℓ) (g : Dev Cert.AdamAdaKernelIdeal.nD → PrngReg), Pre_AdamAdaKernelIdeal m →
    θ_run (Cert.AdamAdaKernelIdeal.defs (F := Ideal)) (onTc (τ := Cert.AdamAdaKernelIdeal.τ) (Cert.AdamAdaKernelIdeal.main (F := Ideal))) ⟨m, fun _ => 0, g⟩ (fun r => (∀ c : Dev Cert.AdamAdaKernelIdeal.nD,
      r.2.mem ((c.tc : Thread Cert.AdamAdaKernelIdeal.nD Cert.AdamAdaKernelIdeal.τ).loc Cert.AdamAdaKernelIdeal.main_arg0) = m ((c.tc : Thread Cert.AdamAdaKernelIdeal.nD Cert.AdamAdaKernelIdeal.τ).loc Cert.AdamAdaKernelIdeal.main_arg0)
      ∧ r.2.mem ((c.tc : Thread Cert.AdamAdaKernelIdeal.nD Cert.AdamAdaKernelIdeal.τ).loc Cert.AdamAdaKernelIdeal.main_arg1) = m ((c.tc : Thread Cert.AdamAdaKernelIdeal.nD Cert.AdamAdaKernelIdeal.τ).loc Cert.AdamAdaKernelIdeal.main_arg1)
      ∧ r.2.mem ((c.tc : Thread Cert.AdamAdaKernelIdeal.nD Cert.AdamAdaKernelIdeal.τ).loc Cert.AdamAdaKernelIdeal.main_arg2) = m ((c.tc : Thread Cert.AdamAdaKernelIdeal.nD Cert.AdamAdaKernelIdeal.τ).loc Cert.AdamAdaKernelIdeal.main_arg2)
      ∧ r.2.mem ((c.tc : Thread Cert.AdamAdaKernelIdeal.nD Cert.AdamAdaKernelIdeal.τ).loc Cert.AdamAdaKernelIdeal.main_arg3) = m ((c.tc : Thread Cert.AdamAdaKernelIdeal.nD Cert.AdamAdaKernelIdeal.τ).loc Cert.AdamAdaKernelIdeal.main_arg3))
      ∧ r.2.sem = fun _ => 0)

def quiescent_AdamAdaReferenceIdeal [hAdamAdaReferenceIdeal : Cert.AdamAdaReferenceIdeal.Facts] : Prop :=
  ∀ (m : (ℓ : Loc Cert.AdamAdaReferenceIdeal.nD Cert.AdamAdaReferenceIdeal.τ Cert.AdamAdaReferenceIdeal.sig) → Buf (Elt Ideal) ℓ) (g : Dev Cert.AdamAdaReferenceIdeal.nD → PrngReg), Pre_AdamAdaReferenceIdeal m →
    θ_run (Cert.AdamAdaReferenceIdeal.defs (F := Ideal)) (onTc (τ := Cert.AdamAdaReferenceIdeal.τ) (Cert.AdamAdaReferenceIdeal.main (F := Ideal))) ⟨m, fun _ => 0, g⟩ (fun r => (∀ c : Dev Cert.AdamAdaReferenceIdeal.nD,
      r.2.mem ((c.tc : Thread Cert.AdamAdaReferenceIdeal.nD Cert.AdamAdaReferenceIdeal.τ).loc Cert.AdamAdaReferenceIdeal.main_arg0) = m ((c.tc : Thread Cert.AdamAdaReferenceIdeal.nD Cert.AdamAdaReferenceIdeal.τ).loc Cert.AdamAdaReferenceIdeal.main_arg0)
      ∧ r.2.mem ((c.tc : Thread Cert.AdamAdaReferenceIdeal.nD Cert.AdamAdaReferenceIdeal.τ).loc Cert.AdamAdaReferenceIdeal.main_arg1) = m ((c.tc : Thread Cert.AdamAdaReferenceIdeal.nD Cert.AdamAdaReferenceIdeal.τ).loc Cert.AdamAdaReferenceIdeal.main_arg1)
      ∧ r.2.mem ((c.tc : Thread Cert.AdamAdaReferenceIdeal.nD Cert.AdamAdaReferenceIdeal.τ).loc Cert.AdamAdaReferenceIdeal.main_arg2) = m ((c.tc : Thread Cert.AdamAdaReferenceIdeal.nD Cert.AdamAdaReferenceIdeal.τ).loc Cert.AdamAdaReferenceIdeal.main_arg2)
      ∧ r.2.mem ((c.tc : Thread Cert.AdamAdaReferenceIdeal.nD Cert.AdamAdaReferenceIdeal.τ).loc Cert.AdamAdaReferenceIdeal.main_arg3) = m ((c.tc : Thread Cert.AdamAdaReferenceIdeal.nD Cert.AdamAdaReferenceIdeal.τ).loc Cert.AdamAdaReferenceIdeal.main_arg3))
      ∧ r.2.sem = fun _ => 0)

def quiescent_AdamSmallKernel [hAdamSmallKernel : Cert.AdamSmallKernel.Facts] : Prop :=
  ∀ (m : (ℓ : Loc Cert.AdamSmallKernel.nD Cert.AdamSmallKernel.τ Cert.AdamSmallKernel.sig) → Buf (Elt Bits) ℓ) (g : Dev Cert.AdamSmallKernel.nD → PrngReg), Pre_AdamSmallKernel m →
    θ_run (Cert.AdamSmallKernel.defs (F := Bits)) (onTc (τ := Cert.AdamSmallKernel.τ) (Cert.AdamSmallKernel.main (F := Bits))) ⟨m, fun _ => 0, g⟩ (fun r => (∀ c : Dev Cert.AdamSmallKernel.nD,
      r.2.mem ((c.tc : Thread Cert.AdamSmallKernel.nD Cert.AdamSmallKernel.τ).loc Cert.AdamSmallKernel.main_arg0) = m ((c.tc : Thread Cert.AdamSmallKernel.nD Cert.AdamSmallKernel.τ).loc Cert.AdamSmallKernel.main_arg0)
      ∧ r.2.mem ((c.tc : Thread Cert.AdamSmallKernel.nD Cert.AdamSmallKernel.τ).loc Cert.AdamSmallKernel.main_arg1) = m ((c.tc : Thread Cert.AdamSmallKernel.nD Cert.AdamSmallKernel.τ).loc Cert.AdamSmallKernel.main_arg1)
      ∧ r.2.mem ((c.tc : Thread Cert.AdamSmallKernel.nD Cert.AdamSmallKernel.τ).loc Cert.AdamSmallKernel.main_arg2) = m ((c.tc : Thread Cert.AdamSmallKernel.nD Cert.AdamSmallKernel.τ).loc Cert.AdamSmallKernel.main_arg2)
      ∧ r.2.mem ((c.tc : Thread Cert.AdamSmallKernel.nD Cert.AdamSmallKernel.τ).loc Cert.AdamSmallKernel.main_arg3) = m ((c.tc : Thread Cert.AdamSmallKernel.nD Cert.AdamSmallKernel.τ).loc Cert.AdamSmallKernel.main_arg3))
      ∧ r.2.sem = fun _ => 0)

def quiescent_AdamSmallKernelIdeal [hAdamSmallKernelIdeal : Cert.AdamSmallKernelIdeal.Facts] : Prop :=
  ∀ (m : (ℓ : Loc Cert.AdamSmallKernelIdeal.nD Cert.AdamSmallKernelIdeal.τ Cert.AdamSmallKernelIdeal.sig) → Buf (Elt Ideal) ℓ) (g : Dev Cert.AdamSmallKernelIdeal.nD → PrngReg), Pre_AdamSmallKernelIdeal m →
    θ_run (Cert.AdamSmallKernelIdeal.defs (F := Ideal)) (onTc (τ := Cert.AdamSmallKernelIdeal.τ) (Cert.AdamSmallKernelIdeal.main (F := Ideal))) ⟨m, fun _ => 0, g⟩ (fun r => (∀ c : Dev Cert.AdamSmallKernelIdeal.nD,
      r.2.mem ((c.tc : Thread Cert.AdamSmallKernelIdeal.nD Cert.AdamSmallKernelIdeal.τ).loc Cert.AdamSmallKernelIdeal.main_arg0) = m ((c.tc : Thread Cert.AdamSmallKernelIdeal.nD Cert.AdamSmallKernelIdeal.τ).loc Cert.AdamSmallKernelIdeal.main_arg0)
      ∧ r.2.mem ((c.tc : Thread Cert.AdamSmallKernelIdeal.nD Cert.AdamSmallKernelIdeal.τ).loc Cert.AdamSmallKernelIdeal.main_arg1) = m ((c.tc : Thread Cert.AdamSmallKernelIdeal.nD Cert.AdamSmallKernelIdeal.τ).loc Cert.AdamSmallKernelIdeal.main_arg1)
      ∧ r.2.mem ((c.tc : Thread Cert.AdamSmallKernelIdeal.nD Cert.AdamSmallKernelIdeal.τ).loc Cert.AdamSmallKernelIdeal.main_arg2) = m ((c.tc : Thread Cert.AdamSmallKernelIdeal.nD Cert.AdamSmallKernelIdeal.τ).loc Cert.AdamSmallKernelIdeal.main_arg2)
      ∧ r.2.mem ((c.tc : Thread Cert.AdamSmallKernelIdeal.nD Cert.AdamSmallKernelIdeal.τ).loc Cert.AdamSmallKernelIdeal.main_arg3) = m ((c.tc : Thread Cert.AdamSmallKernelIdeal.nD Cert.AdamSmallKernelIdeal.τ).loc Cert.AdamSmallKernelIdeal.main_arg3))
      ∧ r.2.sem = fun _ => 0)

def quiescent_AdamSmallReferenceIdeal [hAdamSmallReferenceIdeal : Cert.AdamSmallReferenceIdeal.Facts] : Prop :=
  ∀ (m : (ℓ : Loc Cert.AdamSmallReferenceIdeal.nD Cert.AdamSmallReferenceIdeal.τ Cert.AdamSmallReferenceIdeal.sig) → Buf (Elt Ideal) ℓ) (g : Dev Cert.AdamSmallReferenceIdeal.nD → PrngReg), Pre_AdamSmallReferenceIdeal m →
    θ_run (Cert.AdamSmallReferenceIdeal.defs (F := Ideal)) (onTc (τ := Cert.AdamSmallReferenceIdeal.τ) (Cert.AdamSmallReferenceIdeal.main (F := Ideal))) ⟨m, fun _ => 0, g⟩ (fun r => (∀ c : Dev Cert.AdamSmallReferenceIdeal.nD,
      r.2.mem ((c.tc : Thread Cert.AdamSmallReferenceIdeal.nD Cert.AdamSmallReferenceIdeal.τ).loc Cert.AdamSmallReferenceIdeal.main_arg0) = m ((c.tc : Thread Cert.AdamSmallReferenceIdeal.nD Cert.AdamSmallReferenceIdeal.τ).loc Cert.AdamSmallReferenceIdeal.main_arg0)
      ∧ r.2.mem ((c.tc : Thread Cert.AdamSmallReferenceIdeal.nD Cert.AdamSmallReferenceIdeal.τ).loc Cert.AdamSmallReferenceIdeal.main_arg1) = m ((c.tc : Thread Cert.AdamSmallReferenceIdeal.nD Cert.AdamSmallReferenceIdeal.τ).loc Cert.AdamSmallReferenceIdeal.main_arg1)
      ∧ r.2.mem ((c.tc : Thread Cert.AdamSmallReferenceIdeal.nD Cert.AdamSmallReferenceIdeal.τ).loc Cert.AdamSmallReferenceIdeal.main_arg2) = m ((c.tc : Thread Cert.AdamSmallReferenceIdeal.nD Cert.AdamSmallReferenceIdeal.τ).loc Cert.AdamSmallReferenceIdeal.main_arg2)
      ∧ r.2.mem ((c.tc : Thread Cert.AdamSmallReferenceIdeal.nD Cert.AdamSmallReferenceIdeal.τ).loc Cert.AdamSmallReferenceIdeal.main_arg3) = m ((c.tc : Thread Cert.AdamSmallReferenceIdeal.nD Cert.AdamSmallReferenceIdeal.τ).loc Cert.AdamSmallReferenceIdeal.main_arg3))
      ∧ r.2.sem = fun _ => 0)

def quiescent_CondBwdKernel [hCondBwdKernel : Cert.CondBwdKernel.Facts] : Prop :=
  ∀ (m : (ℓ : Loc Cert.CondBwdKernel.nD Cert.CondBwdKernel.τ Cert.CondBwdKernel.sig) → Buf (Elt Bits) ℓ) (g : Dev Cert.CondBwdKernel.nD → PrngReg), Pre_CondBwdKernel m →
    θ_run (Cert.CondBwdKernel.defs (F := Bits)) (onTc (τ := Cert.CondBwdKernel.τ) (Cert.CondBwdKernel.main (F := Bits))) ⟨m, fun _ => 0, g⟩ (fun r => (∀ c : Dev Cert.CondBwdKernel.nD,
      r.2.mem ((c.tc : Thread Cert.CondBwdKernel.nD Cert.CondBwdKernel.τ).loc Cert.CondBwdKernel.main_arg0) = m ((c.tc : Thread Cert.CondBwdKernel.nD Cert.CondBwdKernel.τ).loc Cert.CondBwdKernel.main_arg0)
      ∧ r.2.mem ((c.tc : Thread Cert.CondBwdKernel.nD Cert.CondBwdKernel.τ).loc Cert.CondBwdKernel.main_arg1) = m ((c.tc : Thread Cert.CondBwdKernel.nD Cert.CondBwdKernel.τ).loc Cert.CondBwdKernel.main_arg1)
      ∧ r.2.mem ((c.tc : Thread Cert.CondBwdKernel.nD Cert.CondBwdKernel.τ).loc Cert.CondBwdKernel.main_arg2) = m ((c.tc : Thread Cert.CondBwdKernel.nD Cert.CondBwdKernel.τ).loc Cert.CondBwdKernel.main_arg2))
      ∧ r.2.sem = fun _ => 0)

def quiescent_CondBwdKernelIdeal [hCondBwdKernelIdeal : Cert.CondBwdKernelIdeal.Facts] : Prop :=
  ∀ (m : (ℓ : Loc Cert.CondBwdKernelIdeal.nD Cert.CondBwdKernelIdeal.τ Cert.CondBwdKernelIdeal.sig) → Buf (Elt Ideal) ℓ) (g : Dev Cert.CondBwdKernelIdeal.nD → PrngReg), Pre_CondBwdKernelIdeal m →
    θ_run (Cert.CondBwdKernelIdeal.defs (F := Ideal)) (onTc (τ := Cert.CondBwdKernelIdeal.τ) (Cert.CondBwdKernelIdeal.main (F := Ideal))) ⟨m, fun _ => 0, g⟩ (fun r => (∀ c : Dev Cert.CondBwdKernelIdeal.nD,
      r.2.mem ((c.tc : Thread Cert.CondBwdKernelIdeal.nD Cert.CondBwdKernelIdeal.τ).loc Cert.CondBwdKernelIdeal.main_arg0) = m ((c.tc : Thread Cert.CondBwdKernelIdeal.nD Cert.CondBwdKernelIdeal.τ).loc Cert.CondBwdKernelIdeal.main_arg0)
      ∧ r.2.mem ((c.tc : Thread Cert.CondBwdKernelIdeal.nD Cert.CondBwdKernelIdeal.τ).loc Cert.CondBwdKernelIdeal.main_arg1) = m ((c.tc : Thread Cert.CondBwdKernelIdeal.nD Cert.CondBwdKernelIdeal.τ).loc Cert.CondBwdKernelIdeal.main_arg1)
      ∧ r.2.mem ((c.tc : Thread Cert.CondBwdKernelIdeal.nD Cert.CondBwdKernelIdeal.τ).loc Cert.CondBwdKernelIdeal.main_arg2) = m ((c.tc : Thread Cert.CondBwdKernelIdeal.nD Cert.CondBwdKernelIdeal.τ).loc Cert.CondBwdKernelIdeal.main_arg2))
      ∧ r.2.sem = fun _ => 0)

def quiescent_CondBwdReferenceIdeal [hCondBwdReferenceIdeal : Cert.CondBwdReferenceIdeal.Facts] : Prop :=
  ∀ (m : (ℓ : Loc Cert.CondBwdReferenceIdeal.nD Cert.CondBwdReferenceIdeal.τ Cert.CondBwdReferenceIdeal.sig) → Buf (Elt Ideal) ℓ) (g : Dev Cert.CondBwdReferenceIdeal.nD → PrngReg), Pre_CondBwdReferenceIdeal m →
    θ_run (Cert.CondBwdReferenceIdeal.defs (F := Ideal)) (onTc (τ := Cert.CondBwdReferenceIdeal.τ) (Cert.CondBwdReferenceIdeal.main (F := Ideal))) ⟨m, fun _ => 0, g⟩ (fun r => (∀ c : Dev Cert.CondBwdReferenceIdeal.nD,
      r.2.mem ((c.tc : Thread Cert.CondBwdReferenceIdeal.nD Cert.CondBwdReferenceIdeal.τ).loc Cert.CondBwdReferenceIdeal.main_arg0) = m ((c.tc : Thread Cert.CondBwdReferenceIdeal.nD Cert.CondBwdReferenceIdeal.τ).loc Cert.CondBwdReferenceIdeal.main_arg0)
      ∧ r.2.mem ((c.tc : Thread Cert.CondBwdReferenceIdeal.nD Cert.CondBwdReferenceIdeal.τ).loc Cert.CondBwdReferenceIdeal.main_arg1) = m ((c.tc : Thread Cert.CondBwdReferenceIdeal.nD Cert.CondBwdReferenceIdeal.τ).loc Cert.CondBwdReferenceIdeal.main_arg1)
      ∧ r.2.mem ((c.tc : Thread Cert.CondBwdReferenceIdeal.nD Cert.CondBwdReferenceIdeal.τ).loc Cert.CondBwdReferenceIdeal.main_arg2) = m ((c.tc : Thread Cert.CondBwdReferenceIdeal.nD Cert.CondBwdReferenceIdeal.τ).loc Cert.CondBwdReferenceIdeal.main_arg2))
      ∧ r.2.sem = fun _ => 0)

def preserves_ConvKernel_ConvKernelIdeal : Prop :=
  True

def algebraic_ConvKernelIdeal_ConvReferenceIdeal [hConvKernelIdeal : Cert.ConvKernelIdeal.Facts] [hConvReferenceIdeal : Cert.ConvReferenceIdeal.Facts] : Prop :=
  ∀ (m : (ℓ : Loc Cert.ConvKernelIdeal.nD Cert.ConvKernelIdeal.τ Cert.ConvKernelIdeal.sig) → Buf (Elt Ideal) ℓ) (g : Dev Cert.ConvKernelIdeal.nD → PrngReg)
    (m' : (ℓ : Loc Cert.ConvReferenceIdeal.nD Cert.ConvReferenceIdeal.τ Cert.ConvReferenceIdeal.sig) → Buf (Elt Ideal) ℓ) (g' : Dev Cert.ConvReferenceIdeal.nD → PrngReg), Pre_ConvKernelIdeal m →
    (∀ c : Dev Cert.ConvKernelIdeal.nD,
      m' ((c.tc : Thread Cert.ConvReferenceIdeal.nD Cert.ConvReferenceIdeal.τ).loc Cert.ConvReferenceIdeal.main_arg0) = m ((c.tc : Thread Cert.ConvKernelIdeal.nD Cert.ConvKernelIdeal.τ).loc Cert.ConvKernelIdeal.main_arg0)
      ∧ m' ((c.tc : Thread Cert.ConvReferenceIdeal.nD Cert.ConvReferenceIdeal.τ).loc Cert.ConvReferenceIdeal.main_arg1) = m ((c.tc : Thread Cert.ConvKernelIdeal.nD Cert.ConvKernelIdeal.τ).loc Cert.ConvKernelIdeal.main_arg1)
      ∧ m' ((c.tc : Thread Cert.ConvReferenceIdeal.nD Cert.ConvReferenceIdeal.τ).loc Cert.ConvReferenceIdeal.main_arg2) = m ((c.tc : Thread Cert.ConvKernelIdeal.nD Cert.ConvKernelIdeal.τ).loc Cert.ConvKernelIdeal.main_arg2)) →
    ∃ (v0 : (c : Dev Cert.ConvKernelIdeal.nD) → Buf (Elt Ideal) ((c.tc : Thread Cert.ConvKernelIdeal.nD Cert.ConvKernelIdeal.τ).loc Cert.ConvKernelIdeal.main_v0_0)) (v1 : (c : Dev Cert.ConvKernelIdeal.nD) → Buf (Elt Ideal) ((c.tc : Thread Cert.ConvKernelIdeal.nD Cert.ConvKernelIdeal.τ).loc Cert.ConvKernelIdeal.main_v0_1)),
      θ_run (Cert.ConvKernelIdeal.defs (F := Ideal)) (onTc (τ := Cert.ConvKernelIdeal.τ) (Cert.ConvKernelIdeal.main (F := Ideal))) ⟨m, fun _ => 0, g⟩ (fun r => ∀ c : Dev Cert.ConvKernelIdeal.nD,
          r.2.mem ((c.tc : Thread Cert.ConvKernelIdeal.nD Cert.ConvKernelIdeal.τ).loc Cert.ConvKernelIdeal.main_v0_0) = v0 c
          ∧ r.2.mem ((c.tc : Thread Cert.ConvKernelIdeal.nD Cert.ConvKernelIdeal.τ).loc Cert.ConvKernelIdeal.main_v0_1) = v1 c
          ∧ r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
          ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1)
          ∧ r.2.mem ((c.tc : Thread Cert.ConvKernelIdeal.nD Cert.ConvKernelIdeal.τ).loc Cert.ConvKernelIdeal.main_arg2) = m ((c.tc : Thread Cert.ConvKernelIdeal.nD Cert.ConvKernelIdeal.τ).loc Cert.ConvKernelIdeal.main_arg2))
      ∧ θ_run (Cert.ConvReferenceIdeal.defs (F := Ideal)) (onTc (τ := Cert.ConvReferenceIdeal.τ) (Cert.ConvReferenceIdeal.main (F := Ideal))) ⟨m', fun _ => 0, g'⟩ (fun r => ∀ c : Dev Cert.ConvReferenceIdeal.nD,
          r.2.mem ((c.tc : Thread Cert.ConvReferenceIdeal.nD Cert.ConvReferenceIdeal.τ).loc Cert.ConvReferenceIdeal.main_v69) = v0 c
          ∧ r.2.mem ((c.tc : Thread Cert.ConvReferenceIdeal.nD Cert.ConvReferenceIdeal.τ).loc Cert.ConvReferenceIdeal.main_v70) = v1 c
          ∧ r.2.mem ((c.tc : Thread Cert.ConvReferenceIdeal.nD Cert.ConvReferenceIdeal.τ).loc Cert.ConvReferenceIdeal.main_arg0) = m' ((c.tc : Thread Cert.ConvReferenceIdeal.nD Cert.ConvReferenceIdeal.τ).loc Cert.ConvReferenceIdeal.main_arg0)
          ∧ r.2.mem ((c.tc : Thread Cert.ConvReferenceIdeal.nD Cert.ConvReferenceIdeal.τ).loc Cert.ConvReferenceIdeal.main_arg1) = m' ((c.tc : Thread Cert.ConvReferenceIdeal.nD Cert.ConvReferenceIdeal.τ).loc Cert.ConvReferenceIdeal.main_arg1)
          ∧ r.2.mem ((c.tc : Thread Cert.ConvReferenceIdeal.nD Cert.ConvReferenceIdeal.τ).loc Cert.ConvReferenceIdeal.main_arg2) = m' ((c.tc : Thread Cert.ConvReferenceIdeal.nD Cert.ConvReferenceIdeal.τ).loc Cert.ConvReferenceIdeal.main_arg2))

def preserves_FfnKernel_FfnKernelIdeal : Prop :=
  True

def algebraic_FfnKernelIdeal_FfnReferenceIdeal_pre_all_finite [hFfnKernelIdeal : Cert.FfnKernelIdeal.Facts] [hFfnReferenceIdeal : Cert.FfnReferenceIdeal.Facts] [hPre_all_finite : Cert.Pre_all_finite.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal_all_finite m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)
      ∧ m' ((c.tc : Thread Cert.FfnReferenceIdeal.nD Cert.FfnReferenceIdeal.τ).loc Cert.FfnReferenceIdeal.main_arg4) = m ((c.tc : Thread Cert.FfnKernelIdeal.nD Cert.FfnKernelIdeal.τ).loc Cert.FfnKernelIdeal.main_arg4)
      ∧ m' ((c.tc : Thread Cert.FfnReferenceIdeal.nD Cert.FfnReferenceIdeal.τ).loc Cert.FfnReferenceIdeal.main_arg5) = m ((c.tc : Thread Cert.FfnKernelIdeal.nD Cert.FfnKernelIdeal.τ).loc Cert.FfnKernelIdeal.main_arg5)) →
    ∃ (v0 : (c : Dev Cert.FfnKernelIdeal.nD) → Buf (Elt Ideal) ((c.tc : Thread Cert.FfnKernelIdeal.nD Cert.FfnKernelIdeal.τ).loc Cert.FfnKernelIdeal.main_v43_0)) (v1 : (c : Dev Cert.FfnKernelIdeal.nD) → Buf (Elt Ideal) ((c.tc : Thread Cert.FfnKernelIdeal.nD Cert.FfnKernelIdeal.τ).loc Cert.FfnKernelIdeal.main_v43_1)) (v2 : (c : Dev Cert.FfnKernelIdeal.nD) → Buf (Elt Ideal) ((c.tc : Thread Cert.FfnKernelIdeal.nD Cert.FfnKernelIdeal.τ).loc Cert.FfnKernelIdeal.main_v43_2)) (v3 : (c : Dev Cert.FfnKernelIdeal.nD) → Buf (Elt Ideal) ((c.tc : Thread Cert.FfnKernelIdeal.nD Cert.FfnKernelIdeal.τ).loc Cert.FfnKernelIdeal.main_v43_3)) (v4 : (c : Dev Cert.FfnKernelIdeal.nD) → Buf (Elt Ideal) ((c.tc : Thread Cert.FfnKernelIdeal.nD Cert.FfnKernelIdeal.τ).loc Cert.FfnKernelIdeal.main_v43_4)) (v5 : (c : Dev Cert.FfnKernelIdeal.nD) → Buf (Elt Ideal) ((c.tc : Thread Cert.FfnKernelIdeal.nD Cert.FfnKernelIdeal.τ).loc Cert.FfnKernelIdeal.main_v43_5)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v43_0) = v0 c
          ∧ r.2.mem ((c.tc : Thread Cert.FfnKernelIdeal.nD Cert.FfnKernelIdeal.τ).loc Cert.FfnKernelIdeal.main_v43_1) = v1 c
          ∧ r.2.mem ((c.tc : Thread Cert.FfnKernelIdeal.nD Cert.FfnKernelIdeal.τ).loc Cert.FfnKernelIdeal.main_v43_2) = v2 c
          ∧ r.2.mem ((c.tc : Thread Cert.FfnKernelIdeal.nD Cert.FfnKernelIdeal.τ).loc Cert.FfnKernelIdeal.main_v43_3) = v3 c
          ∧ r.2.mem ((c.tc : Thread Cert.FfnKernelIdeal.nD Cert.FfnKernelIdeal.τ).loc Cert.FfnKernelIdeal.main_v43_4) = v4 c
          ∧ r.2.mem ((c.tc : Thread Cert.FfnKernelIdeal.nD Cert.FfnKernelIdeal.τ).loc Cert.FfnKernelIdeal.main_v43_5) = v5 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
          ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
          ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v102) = v0 c
          ∧ r.2.mem ((c.tc : Thread Cert.FfnReferenceIdeal.nD Cert.FfnReferenceIdeal.τ).loc Cert.FfnReferenceIdeal.main_v109) = v1 c
          ∧ r.2.mem ((c.tc : Thread Cert.FfnReferenceIdeal.nD Cert.FfnReferenceIdeal.τ).loc Cert.FfnReferenceIdeal.main_v113) = v2 c
          ∧ r.2.mem ((c.tc : Thread Cert.FfnReferenceIdeal.nD Cert.FfnReferenceIdeal.τ).loc Cert.FfnReferenceIdeal.main_v116) = v3 c
          ∧ r.2.mem ((c.tc : Thread Cert.FfnReferenceIdeal.nD Cert.FfnReferenceIdeal.τ).loc Cert.FfnReferenceIdeal.main_v117) = v4 c
          ∧ r.2.mem ((c.tc : Thread Cert.FfnReferenceIdeal.nD Cert.FfnReferenceIdeal.τ).loc Cert.FfnReferenceIdeal.main_v105) = v5 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5))

def preserves_DwInKernel_DwInKernelIdeal : Prop :=
  True

def algebraic_DwInKernelIdeal_DwInReferenceIdeal [hDwInKernelIdeal : Cert.DwInKernelIdeal.Facts] [hDwInReferenceIdeal : Cert.DwInReferenceIdeal.Facts] : Prop :=
  ∀ (m : (ℓ : Loc Cert.DwInKernelIdeal.nD Cert.DwInKernelIdeal.τ Cert.DwInKernelIdeal.sig) → Buf (Elt Ideal) ℓ) (g : Dev Cert.DwInKernelIdeal.nD → PrngReg)
    (m' : (ℓ : Loc Cert.DwInReferenceIdeal.nD Cert.DwInReferenceIdeal.τ Cert.DwInReferenceIdeal.sig) → Buf (Elt Ideal) ℓ) (g' : Dev Cert.DwInReferenceIdeal.nD → PrngReg), Pre_DwInKernelIdeal m →
    (∀ c : Dev Cert.DwInKernelIdeal.nD,
      m' ((c.tc : Thread Cert.DwInReferenceIdeal.nD Cert.DwInReferenceIdeal.τ).loc Cert.DwInReferenceIdeal.main_arg0) = m ((c.tc : Thread Cert.DwInKernelIdeal.nD Cert.DwInKernelIdeal.τ).loc Cert.DwInKernelIdeal.main_arg0)
      ∧ m' ((c.tc : Thread Cert.DwInReferenceIdeal.nD Cert.DwInReferenceIdeal.τ).loc Cert.DwInReferenceIdeal.main_arg1) = m ((c.tc : Thread Cert.DwInKernelIdeal.nD Cert.DwInKernelIdeal.τ).loc Cert.DwInKernelIdeal.main_arg1)) →
    ∃ (v0 : (c : Dev Cert.DwInKernelIdeal.nD) → Buf (Elt Ideal) ((c.tc : Thread Cert.DwInKernelIdeal.nD Cert.DwInKernelIdeal.τ).loc Cert.DwInKernelIdeal.main_v9)),
      θ_run (Cert.DwInKernelIdeal.defs (F := Ideal)) (onTc (τ := Cert.DwInKernelIdeal.τ) (Cert.DwInKernelIdeal.main (F := Ideal))) ⟨m, fun _ => 0, g⟩ (fun r => ∀ c : Dev Cert.DwInKernelIdeal.nD,
          r.2.mem ((c.tc : Thread Cert.DwInKernelIdeal.nD Cert.DwInKernelIdeal.τ).loc Cert.DwInKernelIdeal.main_v9) = v0 c
          ∧ r.2.mem ((c.tc : Thread Cert.DwInKernelIdeal.nD Cert.DwInKernelIdeal.τ).loc Cert.DwInKernelIdeal.main_arg0) = m ((c.tc : Thread Cert.DwInKernelIdeal.nD Cert.DwInKernelIdeal.τ).loc Cert.DwInKernelIdeal.main_arg0)
          ∧ r.2.mem ((c.tc : Thread Cert.DwInKernelIdeal.nD Cert.DwInKernelIdeal.τ).loc Cert.DwInKernelIdeal.main_arg1) = m ((c.tc : Thread Cert.DwInKernelIdeal.nD Cert.DwInKernelIdeal.τ).loc Cert.DwInKernelIdeal.main_arg1))
      ∧ θ_run (Cert.DwInReferenceIdeal.defs (F := Ideal)) (onTc (τ := Cert.DwInReferenceIdeal.τ) (Cert.DwInReferenceIdeal.main (F := Ideal))) ⟨m', fun _ => 0, g'⟩ (fun r => ∀ c : Dev Cert.DwInReferenceIdeal.nD,
          r.2.mem ((c.tc : Thread Cert.DwInReferenceIdeal.nD Cert.DwInReferenceIdeal.τ).loc Cert.DwInReferenceIdeal.main_v6) = v0 c
          ∧ r.2.mem ((c.tc : Thread Cert.DwInReferenceIdeal.nD Cert.DwInReferenceIdeal.τ).loc Cert.DwInReferenceIdeal.main_arg0) = m' ((c.tc : Thread Cert.DwInReferenceIdeal.nD Cert.DwInReferenceIdeal.τ).loc Cert.DwInReferenceIdeal.main_arg0)
          ∧ r.2.mem ((c.tc : Thread Cert.DwInReferenceIdeal.nD Cert.DwInReferenceIdeal.τ).loc Cert.DwInReferenceIdeal.main_arg1) = m' ((c.tc : Thread Cert.DwInReferenceIdeal.nD Cert.DwInReferenceIdeal.τ).loc Cert.DwInReferenceIdeal.main_arg1))

def preserves_DwOutKernel_DwOutKernelIdeal : Prop :=
  True

def algebraic_DwOutKernelIdeal_DwOutReferenceIdeal [hDwOutKernelIdeal : Cert.DwOutKernelIdeal.Facts] [hDwOutReferenceIdeal : Cert.DwOutReferenceIdeal.Facts] : Prop :=
  ∀ (m : (ℓ : Loc Cert.DwOutKernelIdeal.nD Cert.DwOutKernelIdeal.τ Cert.DwOutKernelIdeal.sig) → Buf (Elt Ideal) ℓ) (g : Dev Cert.DwOutKernelIdeal.nD → PrngReg)
    (m' : (ℓ : Loc Cert.DwOutReferenceIdeal.nD Cert.DwOutReferenceIdeal.τ Cert.DwOutReferenceIdeal.sig) → Buf (Elt Ideal) ℓ) (g' : Dev Cert.DwOutReferenceIdeal.nD → PrngReg), Pre_DwOutKernelIdeal m →
    (∀ c : Dev Cert.DwOutKernelIdeal.nD,
      m' ((c.tc : Thread Cert.DwOutReferenceIdeal.nD Cert.DwOutReferenceIdeal.τ).loc Cert.DwOutReferenceIdeal.main_arg0) = m ((c.tc : Thread Cert.DwOutKernelIdeal.nD Cert.DwOutKernelIdeal.τ).loc Cert.DwOutKernelIdeal.main_arg0)
      ∧ m' ((c.tc : Thread Cert.DwOutReferenceIdeal.nD Cert.DwOutReferenceIdeal.τ).loc Cert.DwOutReferenceIdeal.main_arg1) = m ((c.tc : Thread Cert.DwOutKernelIdeal.nD Cert.DwOutKernelIdeal.τ).loc Cert.DwOutKernelIdeal.main_arg1)) →
    ∃ (v0 : (c : Dev Cert.DwOutKernelIdeal.nD) → Buf (Elt Ideal) ((c.tc : Thread Cert.DwOutKernelIdeal.nD Cert.DwOutKernelIdeal.τ).loc Cert.DwOutKernelIdeal.main_v4)),
      θ_run (Cert.DwOutKernelIdeal.defs (F := Ideal)) (onTc (τ := Cert.DwOutKernelIdeal.τ) (Cert.DwOutKernelIdeal.main (F := Ideal))) ⟨m, fun _ => 0, g⟩ (fun r => ∀ c : Dev Cert.DwOutKernelIdeal.nD,
          r.2.mem ((c.tc : Thread Cert.DwOutKernelIdeal.nD Cert.DwOutKernelIdeal.τ).loc Cert.DwOutKernelIdeal.main_v4) = v0 c
          ∧ r.2.mem ((c.tc : Thread Cert.DwOutKernelIdeal.nD Cert.DwOutKernelIdeal.τ).loc Cert.DwOutKernelIdeal.main_arg0) = m ((c.tc : Thread Cert.DwOutKernelIdeal.nD Cert.DwOutKernelIdeal.τ).loc Cert.DwOutKernelIdeal.main_arg0)
          ∧ r.2.mem ((c.tc : Thread Cert.DwOutKernelIdeal.nD Cert.DwOutKernelIdeal.τ).loc Cert.DwOutKernelIdeal.main_arg1) = m ((c.tc : Thread Cert.DwOutKernelIdeal.nD Cert.DwOutKernelIdeal.τ).loc Cert.DwOutKernelIdeal.main_arg1))
      ∧ θ_run (Cert.DwOutReferenceIdeal.defs (F := Ideal)) (onTc (τ := Cert.DwOutReferenceIdeal.τ) (Cert.DwOutReferenceIdeal.main (F := Ideal))) ⟨m', fun _ => 0, g'⟩ (fun r => ∀ c : Dev Cert.DwOutReferenceIdeal.nD,
          r.2.mem ((c.tc : Thread Cert.DwOutReferenceIdeal.nD Cert.DwOutReferenceIdeal.τ).loc Cert.DwOutReferenceIdeal.main_v5) = v0 c
          ∧ r.2.mem ((c.tc : Thread Cert.DwOutReferenceIdeal.nD Cert.DwOutReferenceIdeal.τ).loc Cert.DwOutReferenceIdeal.main_arg0) = m' ((c.tc : Thread Cert.DwOutReferenceIdeal.nD Cert.DwOutReferenceIdeal.τ).loc Cert.DwOutReferenceIdeal.main_arg0)
          ∧ r.2.mem ((c.tc : Thread Cert.DwOutReferenceIdeal.nD Cert.DwOutReferenceIdeal.τ).loc Cert.DwOutReferenceIdeal.main_arg1) = m' ((c.tc : Thread Cert.DwOutReferenceIdeal.nD Cert.DwOutReferenceIdeal.τ).loc Cert.DwOutReferenceIdeal.main_arg1))

def preserves_DwMixInKernel_DwMixInKernelIdeal : Prop :=
  True

def algebraic_DwMixInKernelIdeal_DwMixInReferenceIdeal [hDwMixInKernelIdeal : Cert.DwMixInKernelIdeal.Facts] [hDwMixInReferenceIdeal : Cert.DwMixInReferenceIdeal.Facts] : Prop :=
  ∀ (m : (ℓ : Loc Cert.DwMixInKernelIdeal.nD Cert.DwMixInKernelIdeal.τ Cert.DwMixInKernelIdeal.sig) → Buf (Elt Ideal) ℓ) (g : Dev Cert.DwMixInKernelIdeal.nD → PrngReg)
    (m' : (ℓ : Loc Cert.DwMixInReferenceIdeal.nD Cert.DwMixInReferenceIdeal.τ Cert.DwMixInReferenceIdeal.sig) → Buf (Elt Ideal) ℓ) (g' : Dev Cert.DwMixInReferenceIdeal.nD → PrngReg), Pre_DwMixInKernelIdeal m →
    (∀ c : Dev Cert.DwMixInKernelIdeal.nD,
      m' ((c.tc : Thread Cert.DwMixInReferenceIdeal.nD Cert.DwMixInReferenceIdeal.τ).loc Cert.DwMixInReferenceIdeal.main_arg0) = m ((c.tc : Thread Cert.DwMixInKernelIdeal.nD Cert.DwMixInKernelIdeal.τ).loc Cert.DwMixInKernelIdeal.main_arg0)
      ∧ m' ((c.tc : Thread Cert.DwMixInReferenceIdeal.nD Cert.DwMixInReferenceIdeal.τ).loc Cert.DwMixInReferenceIdeal.main_arg1) = m ((c.tc : Thread Cert.DwMixInKernelIdeal.nD Cert.DwMixInKernelIdeal.τ).loc Cert.DwMixInKernelIdeal.main_arg1)) →
    ∃ (v0 : (c : Dev Cert.DwMixInKernelIdeal.nD) → Buf (Elt Ideal) ((c.tc : Thread Cert.DwMixInKernelIdeal.nD Cert.DwMixInKernelIdeal.τ).loc Cert.DwMixInKernelIdeal.main_v3)),
      θ_run (Cert.DwMixInKernelIdeal.defs (F := Ideal)) (onTc (τ := Cert.DwMixInKernelIdeal.τ) (Cert.DwMixInKernelIdeal.main (F := Ideal))) ⟨m, fun _ => 0, g⟩ (fun r => ∀ c : Dev Cert.DwMixInKernelIdeal.nD,
          r.2.mem ((c.tc : Thread Cert.DwMixInKernelIdeal.nD Cert.DwMixInKernelIdeal.τ).loc Cert.DwMixInKernelIdeal.main_v3) = v0 c
          ∧ r.2.mem ((c.tc : Thread Cert.DwMixInKernelIdeal.nD Cert.DwMixInKernelIdeal.τ).loc Cert.DwMixInKernelIdeal.main_arg0) = m ((c.tc : Thread Cert.DwMixInKernelIdeal.nD Cert.DwMixInKernelIdeal.τ).loc Cert.DwMixInKernelIdeal.main_arg0)
          ∧ r.2.mem ((c.tc : Thread Cert.DwMixInKernelIdeal.nD Cert.DwMixInKernelIdeal.τ).loc Cert.DwMixInKernelIdeal.main_arg1) = m ((c.tc : Thread Cert.DwMixInKernelIdeal.nD Cert.DwMixInKernelIdeal.τ).loc Cert.DwMixInKernelIdeal.main_arg1))
      ∧ θ_run (Cert.DwMixInReferenceIdeal.defs (F := Ideal)) (onTc (τ := Cert.DwMixInReferenceIdeal.τ) (Cert.DwMixInReferenceIdeal.main (F := Ideal))) ⟨m', fun _ => 0, g'⟩ (fun r => ∀ c : Dev Cert.DwMixInReferenceIdeal.nD,
          r.2.mem ((c.tc : Thread Cert.DwMixInReferenceIdeal.nD Cert.DwMixInReferenceIdeal.τ).loc Cert.DwMixInReferenceIdeal.main_v6) = v0 c
          ∧ r.2.mem ((c.tc : Thread Cert.DwMixInReferenceIdeal.nD Cert.DwMixInReferenceIdeal.τ).loc Cert.DwMixInReferenceIdeal.main_arg0) = m' ((c.tc : Thread Cert.DwMixInReferenceIdeal.nD Cert.DwMixInReferenceIdeal.τ).loc Cert.DwMixInReferenceIdeal.main_arg0)
          ∧ r.2.mem ((c.tc : Thread Cert.DwMixInReferenceIdeal.nD Cert.DwMixInReferenceIdeal.τ).loc Cert.DwMixInReferenceIdeal.main_arg1) = m' ((c.tc : Thread Cert.DwMixInReferenceIdeal.nD Cert.DwMixInReferenceIdeal.τ).loc Cert.DwMixInReferenceIdeal.main_arg1))

def preserves_DwMixOutKernel_DwMixOutKernelIdeal : Prop :=
  True

def algebraic_DwMixOutKernelIdeal_DwMixOutReferenceIdeal [hDwMixOutKernelIdeal : Cert.DwMixOutKernelIdeal.Facts] [hDwMixOutReferenceIdeal : Cert.DwMixOutReferenceIdeal.Facts] : Prop :=
  ∀ (m : (ℓ : Loc Cert.DwMixOutKernelIdeal.nD Cert.DwMixOutKernelIdeal.τ Cert.DwMixOutKernelIdeal.sig) → Buf (Elt Ideal) ℓ) (g : Dev Cert.DwMixOutKernelIdeal.nD → PrngReg)
    (m' : (ℓ : Loc Cert.DwMixOutReferenceIdeal.nD Cert.DwMixOutReferenceIdeal.τ Cert.DwMixOutReferenceIdeal.sig) → Buf (Elt Ideal) ℓ) (g' : Dev Cert.DwMixOutReferenceIdeal.nD → PrngReg), Pre_DwMixOutKernelIdeal m →
    (∀ c : Dev Cert.DwMixOutKernelIdeal.nD,
      m' ((c.tc : Thread Cert.DwMixOutReferenceIdeal.nD Cert.DwMixOutReferenceIdeal.τ).loc Cert.DwMixOutReferenceIdeal.main_arg0) = m ((c.tc : Thread Cert.DwMixOutKernelIdeal.nD Cert.DwMixOutKernelIdeal.τ).loc Cert.DwMixOutKernelIdeal.main_arg0)
      ∧ m' ((c.tc : Thread Cert.DwMixOutReferenceIdeal.nD Cert.DwMixOutReferenceIdeal.τ).loc Cert.DwMixOutReferenceIdeal.main_arg1) = m ((c.tc : Thread Cert.DwMixOutKernelIdeal.nD Cert.DwMixOutKernelIdeal.τ).loc Cert.DwMixOutKernelIdeal.main_arg1)) →
    ∃ (v0 : (c : Dev Cert.DwMixOutKernelIdeal.nD) → Buf (Elt Ideal) ((c.tc : Thread Cert.DwMixOutKernelIdeal.nD Cert.DwMixOutKernelIdeal.τ).loc Cert.DwMixOutKernelIdeal.main_v3)),
      θ_run (Cert.DwMixOutKernelIdeal.defs (F := Ideal)) (onTc (τ := Cert.DwMixOutKernelIdeal.τ) (Cert.DwMixOutKernelIdeal.main (F := Ideal))) ⟨m, fun _ => 0, g⟩ (fun r => ∀ c : Dev Cert.DwMixOutKernelIdeal.nD,
          r.2.mem ((c.tc : Thread Cert.DwMixOutKernelIdeal.nD Cert.DwMixOutKernelIdeal.τ).loc Cert.DwMixOutKernelIdeal.main_v3) = v0 c
          ∧ r.2.mem ((c.tc : Thread Cert.DwMixOutKernelIdeal.nD Cert.DwMixOutKernelIdeal.τ).loc Cert.DwMixOutKernelIdeal.main_arg0) = m ((c.tc : Thread Cert.DwMixOutKernelIdeal.nD Cert.DwMixOutKernelIdeal.τ).loc Cert.DwMixOutKernelIdeal.main_arg0)
          ∧ r.2.mem ((c.tc : Thread Cert.DwMixOutKernelIdeal.nD Cert.DwMixOutKernelIdeal.τ).loc Cert.DwMixOutKernelIdeal.main_arg1) = m ((c.tc : Thread Cert.DwMixOutKernelIdeal.nD Cert.DwMixOutKernelIdeal.τ).loc Cert.DwMixOutKernelIdeal.main_arg1))
      ∧ θ_run (Cert.DwMixOutReferenceIdeal.defs (F := Ideal)) (onTc (τ := Cert.DwMixOutReferenceIdeal.τ) (Cert.DwMixOutReferenceIdeal.main (F := Ideal))) ⟨m', fun _ => 0, g'⟩ (fun r => ∀ c : Dev Cert.DwMixOutReferenceIdeal.nD,
          r.2.mem ((c.tc : Thread Cert.DwMixOutReferenceIdeal.nD Cert.DwMixOutReferenceIdeal.τ).loc Cert.DwMixOutReferenceIdeal.main_v5) = v0 c
          ∧ r.2.mem ((c.tc : Thread Cert.DwMixOutReferenceIdeal.nD Cert.DwMixOutReferenceIdeal.τ).loc Cert.DwMixOutReferenceIdeal.main_arg0) = m' ((c.tc : Thread Cert.DwMixOutReferenceIdeal.nD Cert.DwMixOutReferenceIdeal.τ).loc Cert.DwMixOutReferenceIdeal.main_arg0)
          ∧ r.2.mem ((c.tc : Thread Cert.DwMixOutReferenceIdeal.nD Cert.DwMixOutReferenceIdeal.τ).loc Cert.DwMixOutReferenceIdeal.main_arg1) = m' ((c.tc : Thread Cert.DwMixOutReferenceIdeal.nD Cert.DwMixOutReferenceIdeal.τ).loc Cert.DwMixOutReferenceIdeal.main_arg1))

def preserves_FfnFwdKernel_FfnFwdKernelIdeal : Prop :=
  True

def algebraic_FfnFwdKernelIdeal_FfnFwdReferenceIdeal [hFfnFwdKernelIdeal : Cert.FfnFwdKernelIdeal.Facts] [hFfnFwdReferenceIdeal : Cert.FfnFwdReferenceIdeal.Facts] : Prop :=
  ∀ (m : (ℓ : Loc Cert.FfnFwdKernelIdeal.nD Cert.FfnFwdKernelIdeal.τ Cert.FfnFwdKernelIdeal.sig) → Buf (Elt Ideal) ℓ) (g : Dev Cert.FfnFwdKernelIdeal.nD → PrngReg)
    (m' : (ℓ : Loc Cert.FfnFwdReferenceIdeal.nD Cert.FfnFwdReferenceIdeal.τ Cert.FfnFwdReferenceIdeal.sig) → Buf (Elt Ideal) ℓ) (g' : Dev Cert.FfnFwdReferenceIdeal.nD → PrngReg), Pre_FfnFwdKernelIdeal m →
    (∀ c : Dev Cert.FfnFwdKernelIdeal.nD,
      m' ((c.tc : Thread Cert.FfnFwdReferenceIdeal.nD Cert.FfnFwdReferenceIdeal.τ).loc Cert.FfnFwdReferenceIdeal.main_arg0) = m ((c.tc : Thread Cert.FfnFwdKernelIdeal.nD Cert.FfnFwdKernelIdeal.τ).loc Cert.FfnFwdKernelIdeal.main_arg0)
      ∧ m' ((c.tc : Thread Cert.FfnFwdReferenceIdeal.nD Cert.FfnFwdReferenceIdeal.τ).loc Cert.FfnFwdReferenceIdeal.main_arg1) = m ((c.tc : Thread Cert.FfnFwdKernelIdeal.nD Cert.FfnFwdKernelIdeal.τ).loc Cert.FfnFwdKernelIdeal.main_arg1)
      ∧ m' ((c.tc : Thread Cert.FfnFwdReferenceIdeal.nD Cert.FfnFwdReferenceIdeal.τ).loc Cert.FfnFwdReferenceIdeal.main_arg2) = m ((c.tc : Thread Cert.FfnFwdKernelIdeal.nD Cert.FfnFwdKernelIdeal.τ).loc Cert.FfnFwdKernelIdeal.main_arg2)
      ∧ m' ((c.tc : Thread Cert.FfnFwdReferenceIdeal.nD Cert.FfnFwdReferenceIdeal.τ).loc Cert.FfnFwdReferenceIdeal.main_arg3) = m ((c.tc : Thread Cert.FfnFwdKernelIdeal.nD Cert.FfnFwdKernelIdeal.τ).loc Cert.FfnFwdKernelIdeal.main_arg3)
      ∧ m' ((c.tc : Thread Cert.FfnFwdReferenceIdeal.nD Cert.FfnFwdReferenceIdeal.τ).loc Cert.FfnFwdReferenceIdeal.main_arg4) = m ((c.tc : Thread Cert.FfnFwdKernelIdeal.nD Cert.FfnFwdKernelIdeal.τ).loc Cert.FfnFwdKernelIdeal.main_arg4)) →
    ∃ (v0 : (c : Dev Cert.FfnFwdKernelIdeal.nD) → Buf (Elt Ideal) ((c.tc : Thread Cert.FfnFwdKernelIdeal.nD Cert.FfnFwdKernelIdeal.τ).loc Cert.FfnFwdKernelIdeal.main_v6_0)) (v1 : (c : Dev Cert.FfnFwdKernelIdeal.nD) → Buf (Elt Ideal) ((c.tc : Thread Cert.FfnFwdKernelIdeal.nD Cert.FfnFwdKernelIdeal.τ).loc Cert.FfnFwdKernelIdeal.main_v6_1)) (v2 : (c : Dev Cert.FfnFwdKernelIdeal.nD) → Buf (Elt Ideal) ((c.tc : Thread Cert.FfnFwdKernelIdeal.nD Cert.FfnFwdKernelIdeal.τ).loc Cert.FfnFwdKernelIdeal.main_v6_2)) (v3 : (c : Dev Cert.FfnFwdKernelIdeal.nD) → Buf (Elt Ideal) ((c.tc : Thread Cert.FfnFwdKernelIdeal.nD Cert.FfnFwdKernelIdeal.τ).loc Cert.FfnFwdKernelIdeal.main_v6_3)) (v4 : (c : Dev Cert.FfnFwdKernelIdeal.nD) → Buf (Elt Ideal) ((c.tc : Thread Cert.FfnFwdKernelIdeal.nD Cert.FfnFwdKernelIdeal.τ).loc Cert.FfnFwdKernelIdeal.main_v6_4)),
      θ_run (Cert.FfnFwdKernelIdeal.defs (F := Ideal)) (onTc (τ := Cert.FfnFwdKernelIdeal.τ) (Cert.FfnFwdKernelIdeal.main (F := Ideal))) ⟨m, fun _ => 0, g⟩ (fun r => ∀ c : Dev Cert.FfnFwdKernelIdeal.nD,
          r.2.mem ((c.tc : Thread Cert.FfnFwdKernelIdeal.nD Cert.FfnFwdKernelIdeal.τ).loc Cert.FfnFwdKernelIdeal.main_v6_0) = v0 c
          ∧ r.2.mem ((c.tc : Thread Cert.FfnFwdKernelIdeal.nD Cert.FfnFwdKernelIdeal.τ).loc Cert.FfnFwdKernelIdeal.main_v6_1) = v1 c
          ∧ r.2.mem ((c.tc : Thread Cert.FfnFwdKernelIdeal.nD Cert.FfnFwdKernelIdeal.τ).loc Cert.FfnFwdKernelIdeal.main_v6_2) = v2 c
          ∧ r.2.mem ((c.tc : Thread Cert.FfnFwdKernelIdeal.nD Cert.FfnFwdKernelIdeal.τ).loc Cert.FfnFwdKernelIdeal.main_v6_3) = v3 c
          ∧ r.2.mem ((c.tc : Thread Cert.FfnFwdKernelIdeal.nD Cert.FfnFwdKernelIdeal.τ).loc Cert.FfnFwdKernelIdeal.main_v6_4) = v4 c
          ∧ r.2.mem ((c.tc : Thread Cert.FfnFwdKernelIdeal.nD Cert.FfnFwdKernelIdeal.τ).loc Cert.FfnFwdKernelIdeal.main_arg0) = m ((c.tc : Thread Cert.FfnFwdKernelIdeal.nD Cert.FfnFwdKernelIdeal.τ).loc Cert.FfnFwdKernelIdeal.main_arg0)
          ∧ r.2.mem ((c.tc : Thread Cert.FfnFwdKernelIdeal.nD Cert.FfnFwdKernelIdeal.τ).loc Cert.FfnFwdKernelIdeal.main_arg1) = m ((c.tc : Thread Cert.FfnFwdKernelIdeal.nD Cert.FfnFwdKernelIdeal.τ).loc Cert.FfnFwdKernelIdeal.main_arg1)
          ∧ r.2.mem ((c.tc : Thread Cert.FfnFwdKernelIdeal.nD Cert.FfnFwdKernelIdeal.τ).loc Cert.FfnFwdKernelIdeal.main_arg2) = m ((c.tc : Thread Cert.FfnFwdKernelIdeal.nD Cert.FfnFwdKernelIdeal.τ).loc Cert.FfnFwdKernelIdeal.main_arg2)
          ∧ r.2.mem ((c.tc : Thread Cert.FfnFwdKernelIdeal.nD Cert.FfnFwdKernelIdeal.τ).loc Cert.FfnFwdKernelIdeal.main_arg3) = m ((c.tc : Thread Cert.FfnFwdKernelIdeal.nD Cert.FfnFwdKernelIdeal.τ).loc Cert.FfnFwdKernelIdeal.main_arg3)
          ∧ r.2.mem ((c.tc : Thread Cert.FfnFwdKernelIdeal.nD Cert.FfnFwdKernelIdeal.τ).loc Cert.FfnFwdKernelIdeal.main_arg4) = m ((c.tc : Thread Cert.FfnFwdKernelIdeal.nD Cert.FfnFwdKernelIdeal.τ).loc Cert.FfnFwdKernelIdeal.main_arg4))
      ∧ θ_run (Cert.FfnFwdReferenceIdeal.defs (F := Ideal)) (onTc (τ := Cert.FfnFwdReferenceIdeal.τ) (Cert.FfnFwdReferenceIdeal.main (F := Ideal))) ⟨m', fun _ => 0, g'⟩ (fun r => ∀ c : Dev Cert.FfnFwdReferenceIdeal.nD,
          r.2.mem ((c.tc : Thread Cert.FfnFwdReferenceIdeal.nD Cert.FfnFwdReferenceIdeal.τ).loc Cert.FfnFwdReferenceIdeal.main_v38) = v0 c
          ∧ r.2.mem ((c.tc : Thread Cert.FfnFwdReferenceIdeal.nD Cert.FfnFwdReferenceIdeal.τ).loc Cert.FfnFwdReferenceIdeal.main_v30) = v1 c
          ∧ r.2.mem ((c.tc : Thread Cert.FfnFwdReferenceIdeal.nD Cert.FfnFwdReferenceIdeal.τ).loc Cert.FfnFwdReferenceIdeal.main_v41) = v2 c
          ∧ r.2.mem ((c.tc : Thread Cert.FfnFwdReferenceIdeal.nD Cert.FfnFwdReferenceIdeal.τ).loc Cert.FfnFwdReferenceIdeal.main_v44) = v3 c
          ∧ r.2.mem ((c.tc : Thread Cert.FfnFwdReferenceIdeal.nD Cert.FfnFwdReferenceIdeal.τ).loc Cert.FfnFwdReferenceIdeal.main_v45) = v4 c
          ∧ r.2.mem ((c.tc : Thread Cert.FfnFwdReferenceIdeal.nD Cert.FfnFwdReferenceIdeal.τ).loc Cert.FfnFwdReferenceIdeal.main_arg0) = m' ((c.tc : Thread Cert.FfnFwdReferenceIdeal.nD Cert.FfnFwdReferenceIdeal.τ).loc Cert.FfnFwdReferenceIdeal.main_arg0)
          ∧ r.2.mem ((c.tc : Thread Cert.FfnFwdReferenceIdeal.nD Cert.FfnFwdReferenceIdeal.τ).loc Cert.FfnFwdReferenceIdeal.main_arg1) = m' ((c.tc : Thread Cert.FfnFwdReferenceIdeal.nD Cert.FfnFwdReferenceIdeal.τ).loc Cert.FfnFwdReferenceIdeal.main_arg1)
          ∧ r.2.mem ((c.tc : Thread Cert.FfnFwdReferenceIdeal.nD Cert.FfnFwdReferenceIdeal.τ).loc Cert.FfnFwdReferenceIdeal.main_arg2) = m' ((c.tc : Thread Cert.FfnFwdReferenceIdeal.nD Cert.FfnFwdReferenceIdeal.τ).loc Cert.FfnFwdReferenceIdeal.main_arg2)
          ∧ r.2.mem ((c.tc : Thread Cert.FfnFwdReferenceIdeal.nD Cert.FfnFwdReferenceIdeal.τ).loc Cert.FfnFwdReferenceIdeal.main_arg3) = m' ((c.tc : Thread Cert.FfnFwdReferenceIdeal.nD Cert.FfnFwdReferenceIdeal.τ).loc Cert.FfnFwdReferenceIdeal.main_arg3)
          ∧ r.2.mem ((c.tc : Thread Cert.FfnFwdReferenceIdeal.nD Cert.FfnFwdReferenceIdeal.τ).loc Cert.FfnFwdReferenceIdeal.main_arg4) = m' ((c.tc : Thread Cert.FfnFwdReferenceIdeal.nD Cert.FfnFwdReferenceIdeal.τ).loc Cert.FfnFwdReferenceIdeal.main_arg4))

def preserves_MixInFwdKernel_MixInFwdKernelIdeal : Prop :=
  True

def algebraic_MixInFwdKernelIdeal_MixInFwdReferenceIdeal [hMixInFwdKernelIdeal : Cert.MixInFwdKernelIdeal.Facts] [hMixInFwdReferenceIdeal : Cert.MixInFwdReferenceIdeal.Facts] : Prop :=
  ∀ (m : (ℓ : Loc Cert.MixInFwdKernelIdeal.nD Cert.MixInFwdKernelIdeal.τ Cert.MixInFwdKernelIdeal.sig) → Buf (Elt Ideal) ℓ) (g : Dev Cert.MixInFwdKernelIdeal.nD → PrngReg)
    (m' : (ℓ : Loc Cert.MixInFwdReferenceIdeal.nD Cert.MixInFwdReferenceIdeal.τ Cert.MixInFwdReferenceIdeal.sig) → Buf (Elt Ideal) ℓ) (g' : Dev Cert.MixInFwdReferenceIdeal.nD → PrngReg), Pre_MixInFwdKernelIdeal m →
    (∀ c : Dev Cert.MixInFwdKernelIdeal.nD,
      m' ((c.tc : Thread Cert.MixInFwdReferenceIdeal.nD Cert.MixInFwdReferenceIdeal.τ).loc Cert.MixInFwdReferenceIdeal.main_arg0) = m ((c.tc : Thread Cert.MixInFwdKernelIdeal.nD Cert.MixInFwdKernelIdeal.τ).loc Cert.MixInFwdKernelIdeal.main_arg0)
      ∧ m' ((c.tc : Thread Cert.MixInFwdReferenceIdeal.nD Cert.MixInFwdReferenceIdeal.τ).loc Cert.MixInFwdReferenceIdeal.main_arg1) = m ((c.tc : Thread Cert.MixInFwdKernelIdeal.nD Cert.MixInFwdKernelIdeal.τ).loc Cert.MixInFwdKernelIdeal.main_arg1)
      ∧ m' ((c.tc : Thread Cert.MixInFwdReferenceIdeal.nD Cert.MixInFwdReferenceIdeal.τ).loc Cert.MixInFwdReferenceIdeal.main_arg2) = m ((c.tc : Thread Cert.MixInFwdKernelIdeal.nD Cert.MixInFwdKernelIdeal.τ).loc Cert.MixInFwdKernelIdeal.main_arg2)
      ∧ m' ((c.tc : Thread Cert.MixInFwdReferenceIdeal.nD Cert.MixInFwdReferenceIdeal.τ).loc Cert.MixInFwdReferenceIdeal.main_arg3) = m ((c.tc : Thread Cert.MixInFwdKernelIdeal.nD Cert.MixInFwdKernelIdeal.τ).loc Cert.MixInFwdKernelIdeal.main_arg3)) →
    ∃ (v0 : (c : Dev Cert.MixInFwdKernelIdeal.nD) → Buf (Elt Ideal) ((c.tc : Thread Cert.MixInFwdKernelIdeal.nD Cert.MixInFwdKernelIdeal.τ).loc Cert.MixInFwdKernelIdeal.main_v3)),
      θ_run (Cert.MixInFwdKernelIdeal.defs (F := Ideal)) (onTc (τ := Cert.MixInFwdKernelIdeal.τ) (Cert.MixInFwdKernelIdeal.main (F := Ideal))) ⟨m, fun _ => 0, g⟩ (fun r => ∀ c : Dev Cert.MixInFwdKernelIdeal.nD,
          r.2.mem ((c.tc : Thread Cert.MixInFwdKernelIdeal.nD Cert.MixInFwdKernelIdeal.τ).loc Cert.MixInFwdKernelIdeal.main_v3) = v0 c
          ∧ r.2.mem ((c.tc : Thread Cert.MixInFwdKernelIdeal.nD Cert.MixInFwdKernelIdeal.τ).loc Cert.MixInFwdKernelIdeal.main_arg0) = m ((c.tc : Thread Cert.MixInFwdKernelIdeal.nD Cert.MixInFwdKernelIdeal.τ).loc Cert.MixInFwdKernelIdeal.main_arg0)
          ∧ r.2.mem ((c.tc : Thread Cert.MixInFwdKernelIdeal.nD Cert.MixInFwdKernelIdeal.τ).loc Cert.MixInFwdKernelIdeal.main_arg1) = m ((c.tc : Thread Cert.MixInFwdKernelIdeal.nD Cert.MixInFwdKernelIdeal.τ).loc Cert.MixInFwdKernelIdeal.main_arg1)
          ∧ r.2.mem ((c.tc : Thread Cert.MixInFwdKernelIdeal.nD Cert.MixInFwdKernelIdeal.τ).loc Cert.MixInFwdKernelIdeal.main_arg2) = m ((c.tc : Thread Cert.MixInFwdKernelIdeal.nD Cert.MixInFwdKernelIdeal.τ).loc Cert.MixInFwdKernelIdeal.main_arg2)
          ∧ r.2.mem ((c.tc : Thread Cert.MixInFwdKernelIdeal.nD Cert.MixInFwdKernelIdeal.τ).loc Cert.MixInFwdKernelIdeal.main_arg3) = m ((c.tc : Thread Cert.MixInFwdKernelIdeal.nD Cert.MixInFwdKernelIdeal.τ).loc Cert.MixInFwdKernelIdeal.main_arg3))
      ∧ θ_run (Cert.MixInFwdReferenceIdeal.defs (F := Ideal)) (onTc (τ := Cert.MixInFwdReferenceIdeal.τ) (Cert.MixInFwdReferenceIdeal.main (F := Ideal))) ⟨m', fun _ => 0, g'⟩ (fun r => ∀ c : Dev Cert.MixInFwdReferenceIdeal.nD,
          r.2.mem ((c.tc : Thread Cert.MixInFwdReferenceIdeal.nD Cert.MixInFwdReferenceIdeal.τ).loc Cert.MixInFwdReferenceIdeal.main_v25) = v0 c
          ∧ r.2.mem ((c.tc : Thread Cert.MixInFwdReferenceIdeal.nD Cert.MixInFwdReferenceIdeal.τ).loc Cert.MixInFwdReferenceIdeal.main_arg0) = m' ((c.tc : Thread Cert.MixInFwdReferenceIdeal.nD Cert.MixInFwdReferenceIdeal.τ).loc Cert.MixInFwdReferenceIdeal.main_arg0)
          ∧ r.2.mem ((c.tc : Thread Cert.MixInFwdReferenceIdeal.nD Cert.MixInFwdReferenceIdeal.τ).loc Cert.MixInFwdReferenceIdeal.main_arg1) = m' ((c.tc : Thread Cert.MixInFwdReferenceIdeal.nD Cert.MixInFwdReferenceIdeal.τ).loc Cert.MixInFwdReferenceIdeal.main_arg1)
          ∧ r.2.mem ((c.tc : Thread Cert.MixInFwdReferenceIdeal.nD Cert.MixInFwdReferenceIdeal.τ).loc Cert.MixInFwdReferenceIdeal.main_arg2) = m' ((c.tc : Thread Cert.MixInFwdReferenceIdeal.nD Cert.MixInFwdReferenceIdeal.τ).loc Cert.MixInFwdReferenceIdeal.main_arg2)
          ∧ r.2.mem ((c.tc : Thread Cert.MixInFwdReferenceIdeal.nD Cert.MixInFwdReferenceIdeal.τ).loc Cert.MixInFwdReferenceIdeal.main_arg3) = m' ((c.tc : Thread Cert.MixInFwdReferenceIdeal.nD Cert.MixInFwdReferenceIdeal.τ).loc Cert.MixInFwdReferenceIdeal.main_arg3))

def preserves_MixInBwdKernel_MixInBwdKernelIdeal : Prop :=
  True

def algebraic_MixInBwdKernelIdeal_MixInBwdReferenceIdeal [hMixInBwdKernelIdeal : Cert.MixInBwdKernelIdeal.Facts] [hMixInBwdReferenceIdeal : Cert.MixInBwdReferenceIdeal.Facts] : Prop :=
  ∀ (m : (ℓ : Loc Cert.MixInBwdKernelIdeal.nD Cert.MixInBwdKernelIdeal.τ Cert.MixInBwdKernelIdeal.sig) → Buf (Elt Ideal) ℓ) (g : Dev Cert.MixInBwdKernelIdeal.nD → PrngReg)
    (m' : (ℓ : Loc Cert.MixInBwdReferenceIdeal.nD Cert.MixInBwdReferenceIdeal.τ Cert.MixInBwdReferenceIdeal.sig) → Buf (Elt Ideal) ℓ) (g' : Dev Cert.MixInBwdReferenceIdeal.nD → PrngReg), Pre_MixInBwdKernelIdeal m →
    (∀ c : Dev Cert.MixInBwdKernelIdeal.nD,
      m' ((c.tc : Thread Cert.MixInBwdReferenceIdeal.nD Cert.MixInBwdReferenceIdeal.τ).loc Cert.MixInBwdReferenceIdeal.main_arg0) = m ((c.tc : Thread Cert.MixInBwdKernelIdeal.nD Cert.MixInBwdKernelIdeal.τ).loc Cert.MixInBwdKernelIdeal.main_arg0)
      ∧ m' ((c.tc : Thread Cert.MixInBwdReferenceIdeal.nD Cert.MixInBwdReferenceIdeal.τ).loc Cert.MixInBwdReferenceIdeal.main_arg1) = m ((c.tc : Thread Cert.MixInBwdKernelIdeal.nD Cert.MixInBwdKernelIdeal.τ).loc Cert.MixInBwdKernelIdeal.main_arg1)
      ∧ m' ((c.tc : Thread Cert.MixInBwdReferenceIdeal.nD Cert.MixInBwdReferenceIdeal.τ).loc Cert.MixInBwdReferenceIdeal.main_arg2) = m ((c.tc : Thread Cert.MixInBwdKernelIdeal.nD Cert.MixInBwdKernelIdeal.τ).loc Cert.MixInBwdKernelIdeal.main_arg2)
      ∧ m' ((c.tc : Thread Cert.MixInBwdReferenceIdeal.nD Cert.MixInBwdReferenceIdeal.τ).loc Cert.MixInBwdReferenceIdeal.main_arg3) = m ((c.tc : Thread Cert.MixInBwdKernelIdeal.nD Cert.MixInBwdKernelIdeal.τ).loc Cert.MixInBwdKernelIdeal.main_arg3)
      ∧ m' ((c.tc : Thread Cert.MixInBwdReferenceIdeal.nD Cert.MixInBwdReferenceIdeal.τ).loc Cert.MixInBwdReferenceIdeal.main_arg4) = m ((c.tc : Thread Cert.MixInBwdKernelIdeal.nD Cert.MixInBwdKernelIdeal.τ).loc Cert.MixInBwdKernelIdeal.main_arg4)
      ∧ m' ((c.tc : Thread Cert.MixInBwdReferenceIdeal.nD Cert.MixInBwdReferenceIdeal.τ).loc Cert.MixInBwdReferenceIdeal.main_arg5) = m ((c.tc : Thread Cert.MixInBwdKernelIdeal.nD Cert.MixInBwdKernelIdeal.τ).loc Cert.MixInBwdKernelIdeal.main_arg5)) →
    ∃ (v0 : (c : Dev Cert.MixInBwdKernelIdeal.nD) → Buf (Elt Ideal) ((c.tc : Thread Cert.MixInBwdKernelIdeal.nD Cert.MixInBwdKernelIdeal.τ).loc Cert.MixInBwdKernelIdeal.main_v7_0)) (v1 : (c : Dev Cert.MixInBwdKernelIdeal.nD) → Buf (Elt Ideal) ((c.tc : Thread Cert.MixInBwdKernelIdeal.nD Cert.MixInBwdKernelIdeal.τ).loc Cert.MixInBwdKernelIdeal.main_v7_1)) (v2 : (c : Dev Cert.MixInBwdKernelIdeal.nD) → Buf (Elt Ideal) ((c.tc : Thread Cert.MixInBwdKernelIdeal.nD Cert.MixInBwdKernelIdeal.τ).loc Cert.MixInBwdKernelIdeal.main_v7_2)) (v3 : (c : Dev Cert.MixInBwdKernelIdeal.nD) → Buf (Elt Ideal) ((c.tc : Thread Cert.MixInBwdKernelIdeal.nD Cert.MixInBwdKernelIdeal.τ).loc Cert.MixInBwdKernelIdeal.main_v7_3)),
      θ_run (Cert.MixInBwdKernelIdeal.defs (F := Ideal)) (onTc (τ := Cert.MixInBwdKernelIdeal.τ) (Cert.MixInBwdKernelIdeal.main (F := Ideal))) ⟨m, fun _ => 0, g⟩ (fun r => ∀ c : Dev Cert.MixInBwdKernelIdeal.nD,
          r.2.mem ((c.tc : Thread Cert.MixInBwdKernelIdeal.nD Cert.MixInBwdKernelIdeal.τ).loc Cert.MixInBwdKernelIdeal.main_v7_0) = v0 c
          ∧ r.2.mem ((c.tc : Thread Cert.MixInBwdKernelIdeal.nD Cert.MixInBwdKernelIdeal.τ).loc Cert.MixInBwdKernelIdeal.main_v7_1) = v1 c
          ∧ r.2.mem ((c.tc : Thread Cert.MixInBwdKernelIdeal.nD Cert.MixInBwdKernelIdeal.τ).loc Cert.MixInBwdKernelIdeal.main_v7_2) = v2 c
          ∧ r.2.mem ((c.tc : Thread Cert.MixInBwdKernelIdeal.nD Cert.MixInBwdKernelIdeal.τ).loc Cert.MixInBwdKernelIdeal.main_v7_3) = v3 c
          ∧ r.2.mem ((c.tc : Thread Cert.MixInBwdKernelIdeal.nD Cert.MixInBwdKernelIdeal.τ).loc Cert.MixInBwdKernelIdeal.main_arg0) = m ((c.tc : Thread Cert.MixInBwdKernelIdeal.nD Cert.MixInBwdKernelIdeal.τ).loc Cert.MixInBwdKernelIdeal.main_arg0)
          ∧ r.2.mem ((c.tc : Thread Cert.MixInBwdKernelIdeal.nD Cert.MixInBwdKernelIdeal.τ).loc Cert.MixInBwdKernelIdeal.main_arg1) = m ((c.tc : Thread Cert.MixInBwdKernelIdeal.nD Cert.MixInBwdKernelIdeal.τ).loc Cert.MixInBwdKernelIdeal.main_arg1)
          ∧ r.2.mem ((c.tc : Thread Cert.MixInBwdKernelIdeal.nD Cert.MixInBwdKernelIdeal.τ).loc Cert.MixInBwdKernelIdeal.main_arg2) = m ((c.tc : Thread Cert.MixInBwdKernelIdeal.nD Cert.MixInBwdKernelIdeal.τ).loc Cert.MixInBwdKernelIdeal.main_arg2)
          ∧ r.2.mem ((c.tc : Thread Cert.MixInBwdKernelIdeal.nD Cert.MixInBwdKernelIdeal.τ).loc Cert.MixInBwdKernelIdeal.main_arg3) = m ((c.tc : Thread Cert.MixInBwdKernelIdeal.nD Cert.MixInBwdKernelIdeal.τ).loc Cert.MixInBwdKernelIdeal.main_arg3)
          ∧ r.2.mem ((c.tc : Thread Cert.MixInBwdKernelIdeal.nD Cert.MixInBwdKernelIdeal.τ).loc Cert.MixInBwdKernelIdeal.main_arg4) = m ((c.tc : Thread Cert.MixInBwdKernelIdeal.nD Cert.MixInBwdKernelIdeal.τ).loc Cert.MixInBwdKernelIdeal.main_arg4)
          ∧ r.2.mem ((c.tc : Thread Cert.MixInBwdKernelIdeal.nD Cert.MixInBwdKernelIdeal.τ).loc Cert.MixInBwdKernelIdeal.main_arg5) = m ((c.tc : Thread Cert.MixInBwdKernelIdeal.nD Cert.MixInBwdKernelIdeal.τ).loc Cert.MixInBwdKernelIdeal.main_arg5))
      ∧ θ_run (Cert.MixInBwdReferenceIdeal.defs (F := Ideal)) (onTc (τ := Cert.MixInBwdReferenceIdeal.τ) (Cert.MixInBwdReferenceIdeal.main (F := Ideal))) ⟨m', fun _ => 0, g'⟩ (fun r => ∀ c : Dev Cert.MixInBwdReferenceIdeal.nD,
          r.2.mem ((c.tc : Thread Cert.MixInBwdReferenceIdeal.nD Cert.MixInBwdReferenceIdeal.τ).loc Cert.MixInBwdReferenceIdeal.main_v64) = v0 c
          ∧ r.2.mem ((c.tc : Thread Cert.MixInBwdReferenceIdeal.nD Cert.MixInBwdReferenceIdeal.τ).loc Cert.MixInBwdReferenceIdeal.main_v68) = v1 c
          ∧ r.2.mem ((c.tc : Thread Cert.MixInBwdReferenceIdeal.nD Cert.MixInBwdReferenceIdeal.τ).loc Cert.MixInBwdReferenceIdeal.main_v69) = v2 c
          ∧ r.2.mem ((c.tc : Thread Cert.MixInBwdReferenceIdeal.nD Cert.MixInBwdReferenceIdeal.τ).loc Cert.MixInBwdReferenceIdeal.main_v67) = v3 c
          ∧ r.2.mem ((c.tc : Thread Cert.MixInBwdReferenceIdeal.nD Cert.MixInBwdReferenceIdeal.τ).loc Cert.MixInBwdReferenceIdeal.main_arg0) = m' ((c.tc : Thread Cert.MixInBwdReferenceIdeal.nD Cert.MixInBwdReferenceIdeal.τ).loc Cert.MixInBwdReferenceIdeal.main_arg0)
          ∧ r.2.mem ((c.tc : Thread Cert.MixInBwdReferenceIdeal.nD Cert.MixInBwdReferenceIdeal.τ).loc Cert.MixInBwdReferenceIdeal.main_arg1) = m' ((c.tc : Thread Cert.MixInBwdReferenceIdeal.nD Cert.MixInBwdReferenceIdeal.τ).loc Cert.MixInBwdReferenceIdeal.main_arg1)
          ∧ r.2.mem ((c.tc : Thread Cert.MixInBwdReferenceIdeal.nD Cert.MixInBwdReferenceIdeal.τ).loc Cert.MixInBwdReferenceIdeal.main_arg2) = m' ((c.tc : Thread Cert.MixInBwdReferenceIdeal.nD Cert.MixInBwdReferenceIdeal.τ).loc Cert.MixInBwdReferenceIdeal.main_arg2)
          ∧ r.2.mem ((c.tc : Thread Cert.MixInBwdReferenceIdeal.nD Cert.MixInBwdReferenceIdeal.τ).loc Cert.MixInBwdReferenceIdeal.main_arg3) = m' ((c.tc : Thread Cert.MixInBwdReferenceIdeal.nD Cert.MixInBwdReferenceIdeal.τ).loc Cert.MixInBwdReferenceIdeal.main_arg3)
          ∧ r.2.mem ((c.tc : Thread Cert.MixInBwdReferenceIdeal.nD Cert.MixInBwdReferenceIdeal.τ).loc Cert.MixInBwdReferenceIdeal.main_arg4) = m' ((c.tc : Thread Cert.MixInBwdReferenceIdeal.nD Cert.MixInBwdReferenceIdeal.τ).loc Cert.MixInBwdReferenceIdeal.main_arg4)
          ∧ r.2.mem ((c.tc : Thread Cert.MixInBwdReferenceIdeal.nD Cert.MixInBwdReferenceIdeal.τ).loc Cert.MixInBwdReferenceIdeal.main_arg5) = m' ((c.tc : Thread Cert.MixInBwdReferenceIdeal.nD Cert.MixInBwdReferenceIdeal.τ).loc Cert.MixInBwdReferenceIdeal.main_arg5))

def preserves_MixOutFwdKernel_MixOutFwdKernelIdeal : Prop :=
  True

def algebraic_MixOutFwdKernelIdeal_MixOutFwdReferenceIdeal [hMixOutFwdKernelIdeal : Cert.MixOutFwdKernelIdeal.Facts] [hMixOutFwdReferenceIdeal : Cert.MixOutFwdReferenceIdeal.Facts] : Prop :=
  ∀ (m : (ℓ : Loc Cert.MixOutFwdKernelIdeal.nD Cert.MixOutFwdKernelIdeal.τ Cert.MixOutFwdKernelIdeal.sig) → Buf (Elt Ideal) ℓ) (g : Dev Cert.MixOutFwdKernelIdeal.nD → PrngReg)
    (m' : (ℓ : Loc Cert.MixOutFwdReferenceIdeal.nD Cert.MixOutFwdReferenceIdeal.τ Cert.MixOutFwdReferenceIdeal.sig) → Buf (Elt Ideal) ℓ) (g' : Dev Cert.MixOutFwdReferenceIdeal.nD → PrngReg), Pre_MixOutFwdKernelIdeal m →
    (∀ c : Dev Cert.MixOutFwdKernelIdeal.nD,
      m' ((c.tc : Thread Cert.MixOutFwdReferenceIdeal.nD Cert.MixOutFwdReferenceIdeal.τ).loc Cert.MixOutFwdReferenceIdeal.main_arg0) = m ((c.tc : Thread Cert.MixOutFwdKernelIdeal.nD Cert.MixOutFwdKernelIdeal.τ).loc Cert.MixOutFwdKernelIdeal.main_arg0)
      ∧ m' ((c.tc : Thread Cert.MixOutFwdReferenceIdeal.nD Cert.MixOutFwdReferenceIdeal.τ).loc Cert.MixOutFwdReferenceIdeal.main_arg1) = m ((c.tc : Thread Cert.MixOutFwdKernelIdeal.nD Cert.MixOutFwdKernelIdeal.τ).loc Cert.MixOutFwdKernelIdeal.main_arg1)
      ∧ m' ((c.tc : Thread Cert.MixOutFwdReferenceIdeal.nD Cert.MixOutFwdReferenceIdeal.τ).loc Cert.MixOutFwdReferenceIdeal.main_arg2) = m ((c.tc : Thread Cert.MixOutFwdKernelIdeal.nD Cert.MixOutFwdKernelIdeal.τ).loc Cert.MixOutFwdKernelIdeal.main_arg2)
      ∧ m' ((c.tc : Thread Cert.MixOutFwdReferenceIdeal.nD Cert.MixOutFwdReferenceIdeal.τ).loc Cert.MixOutFwdReferenceIdeal.main_arg3) = m ((c.tc : Thread Cert.MixOutFwdKernelIdeal.nD Cert.MixOutFwdKernelIdeal.τ).loc Cert.MixOutFwdKernelIdeal.main_arg3)
      ∧ m' ((c.tc : Thread Cert.MixOutFwdReferenceIdeal.nD Cert.MixOutFwdReferenceIdeal.τ).loc Cert.MixOutFwdReferenceIdeal.main_arg4) = m ((c.tc : Thread Cert.MixOutFwdKernelIdeal.nD Cert.MixOutFwdKernelIdeal.τ).loc Cert.MixOutFwdKernelIdeal.main_arg4)
      ∧ m' ((c.tc : Thread Cert.MixOutFwdReferenceIdeal.nD Cert.MixOutFwdReferenceIdeal.τ).loc Cert.MixOutFwdReferenceIdeal.main_arg5) = m ((c.tc : Thread Cert.MixOutFwdKernelIdeal.nD Cert.MixOutFwdKernelIdeal.τ).loc Cert.MixOutFwdKernelIdeal.main_arg5)
      ∧ m' ((c.tc : Thread Cert.MixOutFwdReferenceIdeal.nD Cert.MixOutFwdReferenceIdeal.τ).loc Cert.MixOutFwdReferenceIdeal.main_arg6) = m ((c.tc : Thread Cert.MixOutFwdKernelIdeal.nD Cert.MixOutFwdKernelIdeal.τ).loc Cert.MixOutFwdKernelIdeal.main_arg6)
      ∧ m' ((c.tc : Thread Cert.MixOutFwdReferenceIdeal.nD Cert.MixOutFwdReferenceIdeal.τ).loc Cert.MixOutFwdReferenceIdeal.main_arg7) = m ((c.tc : Thread Cert.MixOutFwdKernelIdeal.nD Cert.MixOutFwdKernelIdeal.τ).loc Cert.MixOutFwdKernelIdeal.main_arg7)) →
    ∃ (v0 : (c : Dev Cert.MixOutFwdKernelIdeal.nD) → Buf (Elt Ideal) ((c.tc : Thread Cert.MixOutFwdKernelIdeal.nD Cert.MixOutFwdKernelIdeal.τ).loc Cert.MixOutFwdKernelIdeal.main_v3_0)) (v1 : (c : Dev Cert.MixOutFwdKernelIdeal.nD) → Buf (Elt Ideal) ((c.tc : Thread Cert.MixOutFwdKernelIdeal.nD Cert.MixOutFwdKernelIdeal.τ).loc Cert.MixOutFwdKernelIdeal.main_v3_1)),
      θ_run (Cert.MixOutFwdKernelIdeal.defs (F := Ideal)) (onTc (τ := Cert.MixOutFwdKernelIdeal.τ) (Cert.MixOutFwdKernelIdeal.main (F := Ideal))) ⟨m, fun _ => 0, g⟩ (fun r => ∀ c : Dev Cert.MixOutFwdKernelIdeal.nD,
          r.2.mem ((c.tc : Thread Cert.MixOutFwdKernelIdeal.nD Cert.MixOutFwdKernelIdeal.τ).loc Cert.MixOutFwdKernelIdeal.main_v3_0) = v0 c
          ∧ r.2.mem ((c.tc : Thread Cert.MixOutFwdKernelIdeal.nD Cert.MixOutFwdKernelIdeal.τ).loc Cert.MixOutFwdKernelIdeal.main_v3_1) = v1 c
          ∧ r.2.mem ((c.tc : Thread Cert.MixOutFwdKernelIdeal.nD Cert.MixOutFwdKernelIdeal.τ).loc Cert.MixOutFwdKernelIdeal.main_arg0) = m ((c.tc : Thread Cert.MixOutFwdKernelIdeal.nD Cert.MixOutFwdKernelIdeal.τ).loc Cert.MixOutFwdKernelIdeal.main_arg0)
          ∧ r.2.mem ((c.tc : Thread Cert.MixOutFwdKernelIdeal.nD Cert.MixOutFwdKernelIdeal.τ).loc Cert.MixOutFwdKernelIdeal.main_arg1) = m ((c.tc : Thread Cert.MixOutFwdKernelIdeal.nD Cert.MixOutFwdKernelIdeal.τ).loc Cert.MixOutFwdKernelIdeal.main_arg1)
          ∧ r.2.mem ((c.tc : Thread Cert.MixOutFwdKernelIdeal.nD Cert.MixOutFwdKernelIdeal.τ).loc Cert.MixOutFwdKernelIdeal.main_arg2) = m ((c.tc : Thread Cert.MixOutFwdKernelIdeal.nD Cert.MixOutFwdKernelIdeal.τ).loc Cert.MixOutFwdKernelIdeal.main_arg2)
          ∧ r.2.mem ((c.tc : Thread Cert.MixOutFwdKernelIdeal.nD Cert.MixOutFwdKernelIdeal.τ).loc Cert.MixOutFwdKernelIdeal.main_arg3) = m ((c.tc : Thread Cert.MixOutFwdKernelIdeal.nD Cert.MixOutFwdKernelIdeal.τ).loc Cert.MixOutFwdKernelIdeal.main_arg3)
          ∧ r.2.mem ((c.tc : Thread Cert.MixOutFwdKernelIdeal.nD Cert.MixOutFwdKernelIdeal.τ).loc Cert.MixOutFwdKernelIdeal.main_arg4) = m ((c.tc : Thread Cert.MixOutFwdKernelIdeal.nD Cert.MixOutFwdKernelIdeal.τ).loc Cert.MixOutFwdKernelIdeal.main_arg4)
          ∧ r.2.mem ((c.tc : Thread Cert.MixOutFwdKernelIdeal.nD Cert.MixOutFwdKernelIdeal.τ).loc Cert.MixOutFwdKernelIdeal.main_arg5) = m ((c.tc : Thread Cert.MixOutFwdKernelIdeal.nD Cert.MixOutFwdKernelIdeal.τ).loc Cert.MixOutFwdKernelIdeal.main_arg5)
          ∧ r.2.mem ((c.tc : Thread Cert.MixOutFwdKernelIdeal.nD Cert.MixOutFwdKernelIdeal.τ).loc Cert.MixOutFwdKernelIdeal.main_arg6) = m ((c.tc : Thread Cert.MixOutFwdKernelIdeal.nD Cert.MixOutFwdKernelIdeal.τ).loc Cert.MixOutFwdKernelIdeal.main_arg6)
          ∧ r.2.mem ((c.tc : Thread Cert.MixOutFwdKernelIdeal.nD Cert.MixOutFwdKernelIdeal.τ).loc Cert.MixOutFwdKernelIdeal.main_arg7) = m ((c.tc : Thread Cert.MixOutFwdKernelIdeal.nD Cert.MixOutFwdKernelIdeal.τ).loc Cert.MixOutFwdKernelIdeal.main_arg7))
      ∧ θ_run (Cert.MixOutFwdReferenceIdeal.defs (F := Ideal)) (onTc (τ := Cert.MixOutFwdReferenceIdeal.τ) (Cert.MixOutFwdReferenceIdeal.main (F := Ideal))) ⟨m', fun _ => 0, g'⟩ (fun r => ∀ c : Dev Cert.MixOutFwdReferenceIdeal.nD,
          r.2.mem ((c.tc : Thread Cert.MixOutFwdReferenceIdeal.nD Cert.MixOutFwdReferenceIdeal.τ).loc Cert.MixOutFwdReferenceIdeal.main_v20) = v0 c
          ∧ r.2.mem ((c.tc : Thread Cert.MixOutFwdReferenceIdeal.nD Cert.MixOutFwdReferenceIdeal.τ).loc Cert.MixOutFwdReferenceIdeal.main_v16) = v1 c
          ∧ r.2.mem ((c.tc : Thread Cert.MixOutFwdReferenceIdeal.nD Cert.MixOutFwdReferenceIdeal.τ).loc Cert.MixOutFwdReferenceIdeal.main_arg0) = m' ((c.tc : Thread Cert.MixOutFwdReferenceIdeal.nD Cert.MixOutFwdReferenceIdeal.τ).loc Cert.MixOutFwdReferenceIdeal.main_arg0)
          ∧ r.2.mem ((c.tc : Thread Cert.MixOutFwdReferenceIdeal.nD Cert.MixOutFwdReferenceIdeal.τ).loc Cert.MixOutFwdReferenceIdeal.main_arg1) = m' ((c.tc : Thread Cert.MixOutFwdReferenceIdeal.nD Cert.MixOutFwdReferenceIdeal.τ).loc Cert.MixOutFwdReferenceIdeal.main_arg1)
          ∧ r.2.mem ((c.tc : Thread Cert.MixOutFwdReferenceIdeal.nD Cert.MixOutFwdReferenceIdeal.τ).loc Cert.MixOutFwdReferenceIdeal.main_arg2) = m' ((c.tc : Thread Cert.MixOutFwdReferenceIdeal.nD Cert.MixOutFwdReferenceIdeal.τ).loc Cert.MixOutFwdReferenceIdeal.main_arg2)
          ∧ r.2.mem ((c.tc : Thread Cert.MixOutFwdReferenceIdeal.nD Cert.MixOutFwdReferenceIdeal.τ).loc Cert.MixOutFwdReferenceIdeal.main_arg3) = m' ((c.tc : Thread Cert.MixOutFwdReferenceIdeal.nD Cert.MixOutFwdReferenceIdeal.τ).loc Cert.MixOutFwdReferenceIdeal.main_arg3)
          ∧ r.2.mem ((c.tc : Thread Cert.MixOutFwdReferenceIdeal.nD Cert.MixOutFwdReferenceIdeal.τ).loc Cert.MixOutFwdReferenceIdeal.main_arg4) = m' ((c.tc : Thread Cert.MixOutFwdReferenceIdeal.nD Cert.MixOutFwdReferenceIdeal.τ).loc Cert.MixOutFwdReferenceIdeal.main_arg4)
          ∧ r.2.mem ((c.tc : Thread Cert.MixOutFwdReferenceIdeal.nD Cert.MixOutFwdReferenceIdeal.τ).loc Cert.MixOutFwdReferenceIdeal.main_arg5) = m' ((c.tc : Thread Cert.MixOutFwdReferenceIdeal.nD Cert.MixOutFwdReferenceIdeal.τ).loc Cert.MixOutFwdReferenceIdeal.main_arg5)
          ∧ r.2.mem ((c.tc : Thread Cert.MixOutFwdReferenceIdeal.nD Cert.MixOutFwdReferenceIdeal.τ).loc Cert.MixOutFwdReferenceIdeal.main_arg6) = m' ((c.tc : Thread Cert.MixOutFwdReferenceIdeal.nD Cert.MixOutFwdReferenceIdeal.τ).loc Cert.MixOutFwdReferenceIdeal.main_arg6)
          ∧ r.2.mem ((c.tc : Thread Cert.MixOutFwdReferenceIdeal.nD Cert.MixOutFwdReferenceIdeal.τ).loc Cert.MixOutFwdReferenceIdeal.main_arg7) = m' ((c.tc : Thread Cert.MixOutFwdReferenceIdeal.nD Cert.MixOutFwdReferenceIdeal.τ).loc Cert.MixOutFwdReferenceIdeal.main_arg7))

def preserves_AdamAdaKernel_AdamAdaKernelIdeal : Prop :=
  True

def algebraic_AdamAdaKernelIdeal_AdamAdaReferenceIdeal [hAdamAdaKernelIdeal : Cert.AdamAdaKernelIdeal.Facts] [hAdamAdaReferenceIdeal : Cert.AdamAdaReferenceIdeal.Facts] : Prop :=
  ∀ (m : (ℓ : Loc Cert.AdamAdaKernelIdeal.nD Cert.AdamAdaKernelIdeal.τ Cert.AdamAdaKernelIdeal.sig) → Buf (Elt Ideal) ℓ) (g : Dev Cert.AdamAdaKernelIdeal.nD → PrngReg)
    (m' : (ℓ : Loc Cert.AdamAdaReferenceIdeal.nD Cert.AdamAdaReferenceIdeal.τ Cert.AdamAdaReferenceIdeal.sig) → Buf (Elt Ideal) ℓ) (g' : Dev Cert.AdamAdaReferenceIdeal.nD → PrngReg), Pre_AdamAdaKernelIdeal m →
    (∀ c : Dev Cert.AdamAdaKernelIdeal.nD,
      m' ((c.tc : Thread Cert.AdamAdaReferenceIdeal.nD Cert.AdamAdaReferenceIdeal.τ).loc Cert.AdamAdaReferenceIdeal.main_arg0) = m ((c.tc : Thread Cert.AdamAdaKernelIdeal.nD Cert.AdamAdaKernelIdeal.τ).loc Cert.AdamAdaKernelIdeal.main_arg0)
      ∧ m' ((c.tc : Thread Cert.AdamAdaReferenceIdeal.nD Cert.AdamAdaReferenceIdeal.τ).loc Cert.AdamAdaReferenceIdeal.main_arg1) = m ((c.tc : Thread Cert.AdamAdaKernelIdeal.nD Cert.AdamAdaKernelIdeal.τ).loc Cert.AdamAdaKernelIdeal.main_arg1)
      ∧ m' ((c.tc : Thread Cert.AdamAdaReferenceIdeal.nD Cert.AdamAdaReferenceIdeal.τ).loc Cert.AdamAdaReferenceIdeal.main_arg2) = m ((c.tc : Thread Cert.AdamAdaKernelIdeal.nD Cert.AdamAdaKernelIdeal.τ).loc Cert.AdamAdaKernelIdeal.main_arg2)
      ∧ m' ((c.tc : Thread Cert.AdamAdaReferenceIdeal.nD Cert.AdamAdaReferenceIdeal.τ).loc Cert.AdamAdaReferenceIdeal.main_arg3) = m ((c.tc : Thread Cert.AdamAdaKernelIdeal.nD Cert.AdamAdaKernelIdeal.τ).loc Cert.AdamAdaKernelIdeal.main_arg3)) →
    ∃ (v0 : (c : Dev Cert.AdamAdaKernelIdeal.nD) → Buf (Elt Ideal) ((c.tc : Thread Cert.AdamAdaKernelIdeal.nD Cert.AdamAdaKernelIdeal.τ).loc Cert.AdamAdaKernelIdeal.main_v1_0)) (v1 : (c : Dev Cert.AdamAdaKernelIdeal.nD) → Buf (Elt Ideal) ((c.tc : Thread Cert.AdamAdaKernelIdeal.nD Cert.AdamAdaKernelIdeal.τ).loc Cert.AdamAdaKernelIdeal.main_v1_1)) (v2 : (c : Dev Cert.AdamAdaKernelIdeal.nD) → Buf (Elt Ideal) ((c.tc : Thread Cert.AdamAdaKernelIdeal.nD Cert.AdamAdaKernelIdeal.τ).loc Cert.AdamAdaKernelIdeal.main_v1_2)) (v3 : (c : Dev Cert.AdamAdaKernelIdeal.nD) → Buf (Elt Ideal) ((c.tc : Thread Cert.AdamAdaKernelIdeal.nD Cert.AdamAdaKernelIdeal.τ).loc Cert.AdamAdaKernelIdeal.main_v1_3)),
      θ_run (Cert.AdamAdaKernelIdeal.defs (F := Ideal)) (onTc (τ := Cert.AdamAdaKernelIdeal.τ) (Cert.AdamAdaKernelIdeal.main (F := Ideal))) ⟨m, fun _ => 0, g⟩ (fun r => ∀ c : Dev Cert.AdamAdaKernelIdeal.nD,
          r.2.mem ((c.tc : Thread Cert.AdamAdaKernelIdeal.nD Cert.AdamAdaKernelIdeal.τ).loc Cert.AdamAdaKernelIdeal.main_v1_0) = v0 c
          ∧ r.2.mem ((c.tc : Thread Cert.AdamAdaKernelIdeal.nD Cert.AdamAdaKernelIdeal.τ).loc Cert.AdamAdaKernelIdeal.main_v1_1) = v1 c
          ∧ r.2.mem ((c.tc : Thread Cert.AdamAdaKernelIdeal.nD Cert.AdamAdaKernelIdeal.τ).loc Cert.AdamAdaKernelIdeal.main_v1_2) = v2 c
          ∧ r.2.mem ((c.tc : Thread Cert.AdamAdaKernelIdeal.nD Cert.AdamAdaKernelIdeal.τ).loc Cert.AdamAdaKernelIdeal.main_v1_3) = v3 c
          ∧ r.2.mem ((c.tc : Thread Cert.AdamAdaKernelIdeal.nD Cert.AdamAdaKernelIdeal.τ).loc Cert.AdamAdaKernelIdeal.main_arg0) = m ((c.tc : Thread Cert.AdamAdaKernelIdeal.nD Cert.AdamAdaKernelIdeal.τ).loc Cert.AdamAdaKernelIdeal.main_arg0)
          ∧ r.2.mem ((c.tc : Thread Cert.AdamAdaKernelIdeal.nD Cert.AdamAdaKernelIdeal.τ).loc Cert.AdamAdaKernelIdeal.main_arg1) = m ((c.tc : Thread Cert.AdamAdaKernelIdeal.nD Cert.AdamAdaKernelIdeal.τ).loc Cert.AdamAdaKernelIdeal.main_arg1)
          ∧ r.2.mem ((c.tc : Thread Cert.AdamAdaKernelIdeal.nD Cert.AdamAdaKernelIdeal.τ).loc Cert.AdamAdaKernelIdeal.main_arg2) = m ((c.tc : Thread Cert.AdamAdaKernelIdeal.nD Cert.AdamAdaKernelIdeal.τ).loc Cert.AdamAdaKernelIdeal.main_arg2)
          ∧ r.2.mem ((c.tc : Thread Cert.AdamAdaKernelIdeal.nD Cert.AdamAdaKernelIdeal.τ).loc Cert.AdamAdaKernelIdeal.main_arg3) = m ((c.tc : Thread Cert.AdamAdaKernelIdeal.nD Cert.AdamAdaKernelIdeal.τ).loc Cert.AdamAdaKernelIdeal.main_arg3))
      ∧ θ_run (Cert.AdamAdaReferenceIdeal.defs (F := Ideal)) (onTc (τ := Cert.AdamAdaReferenceIdeal.τ) (Cert.AdamAdaReferenceIdeal.main (F := Ideal))) ⟨m', fun _ => 0, g'⟩ (fun r => ∀ c : Dev Cert.AdamAdaReferenceIdeal.nD,
          r.2.mem ((c.tc : Thread Cert.AdamAdaReferenceIdeal.nD Cert.AdamAdaReferenceIdeal.τ).loc Cert.AdamAdaReferenceIdeal.main_arg1) = v0 c
          ∧ r.2.mem ((c.tc : Thread Cert.AdamAdaReferenceIdeal.nD Cert.AdamAdaReferenceIdeal.τ).loc Cert.AdamAdaReferenceIdeal.main_v23) = v1 c
          ∧ r.2.mem ((c.tc : Thread Cert.AdamAdaReferenceIdeal.nD Cert.AdamAdaReferenceIdeal.τ).loc Cert.AdamAdaReferenceIdeal.main_v4) = v2 c
          ∧ r.2.mem ((c.tc : Thread Cert.AdamAdaReferenceIdeal.nD Cert.AdamAdaReferenceIdeal.τ).loc Cert.AdamAdaReferenceIdeal.main_v10) = v3 c
          ∧ r.2.mem ((c.tc : Thread Cert.AdamAdaReferenceIdeal.nD Cert.AdamAdaReferenceIdeal.τ).loc Cert.AdamAdaReferenceIdeal.main_arg0) = m' ((c.tc : Thread Cert.AdamAdaReferenceIdeal.nD Cert.AdamAdaReferenceIdeal.τ).loc Cert.AdamAdaReferenceIdeal.main_arg0)
          ∧ r.2.mem ((c.tc : Thread Cert.AdamAdaReferenceIdeal.nD Cert.AdamAdaReferenceIdeal.τ).loc Cert.AdamAdaReferenceIdeal.main_arg1) = m' ((c.tc : Thread Cert.AdamAdaReferenceIdeal.nD Cert.AdamAdaReferenceIdeal.τ).loc Cert.AdamAdaReferenceIdeal.main_arg1)
          ∧ r.2.mem ((c.tc : Thread Cert.AdamAdaReferenceIdeal.nD Cert.AdamAdaReferenceIdeal.τ).loc Cert.AdamAdaReferenceIdeal.main_arg2) = m' ((c.tc : Thread Cert.AdamAdaReferenceIdeal.nD Cert.AdamAdaReferenceIdeal.τ).loc Cert.AdamAdaReferenceIdeal.main_arg2)
          ∧ r.2.mem ((c.tc : Thread Cert.AdamAdaReferenceIdeal.nD Cert.AdamAdaReferenceIdeal.τ).loc Cert.AdamAdaReferenceIdeal.main_arg3) = m' ((c.tc : Thread Cert.AdamAdaReferenceIdeal.nD Cert.AdamAdaReferenceIdeal.τ).loc Cert.AdamAdaReferenceIdeal.main_arg3))

def preserves_AdamSmallKernel_AdamSmallKernelIdeal : Prop :=
  True

def algebraic_AdamSmallKernelIdeal_AdamSmallReferenceIdeal [hAdamSmallKernelIdeal : Cert.AdamSmallKernelIdeal.Facts] [hAdamSmallReferenceIdeal : Cert.AdamSmallReferenceIdeal.Facts] : Prop :=
  ∀ (m : (ℓ : Loc Cert.AdamSmallKernelIdeal.nD Cert.AdamSmallKernelIdeal.τ Cert.AdamSmallKernelIdeal.sig) → Buf (Elt Ideal) ℓ) (g : Dev Cert.AdamSmallKernelIdeal.nD → PrngReg)
    (m' : (ℓ : Loc Cert.AdamSmallReferenceIdeal.nD Cert.AdamSmallReferenceIdeal.τ Cert.AdamSmallReferenceIdeal.sig) → Buf (Elt Ideal) ℓ) (g' : Dev Cert.AdamSmallReferenceIdeal.nD → PrngReg), Pre_AdamSmallKernelIdeal m →
    (∀ c : Dev Cert.AdamSmallKernelIdeal.nD,
      m' ((c.tc : Thread Cert.AdamSmallReferenceIdeal.nD Cert.AdamSmallReferenceIdeal.τ).loc Cert.AdamSmallReferenceIdeal.main_arg0) = m ((c.tc : Thread Cert.AdamSmallKernelIdeal.nD Cert.AdamSmallKernelIdeal.τ).loc Cert.AdamSmallKernelIdeal.main_arg0)
      ∧ m' ((c.tc : Thread Cert.AdamSmallReferenceIdeal.nD Cert.AdamSmallReferenceIdeal.τ).loc Cert.AdamSmallReferenceIdeal.main_arg1) = m ((c.tc : Thread Cert.AdamSmallKernelIdeal.nD Cert.AdamSmallKernelIdeal.τ).loc Cert.AdamSmallKernelIdeal.main_arg1)
      ∧ m' ((c.tc : Thread Cert.AdamSmallReferenceIdeal.nD Cert.AdamSmallReferenceIdeal.τ).loc Cert.AdamSmallReferenceIdeal.main_arg2) = m ((c.tc : Thread Cert.AdamSmallKernelIdeal.nD Cert.AdamSmallKernelIdeal.τ).loc Cert.AdamSmallKernelIdeal.main_arg2)
      ∧ m' ((c.tc : Thread Cert.AdamSmallReferenceIdeal.nD Cert.AdamSmallReferenceIdeal.τ).loc Cert.AdamSmallReferenceIdeal.main_arg3) = m ((c.tc : Thread Cert.AdamSmallKernelIdeal.nD Cert.AdamSmallKernelIdeal.τ).loc Cert.AdamSmallKernelIdeal.main_arg3)) →
    ∃ (v0 : (c : Dev Cert.AdamSmallKernelIdeal.nD) → Buf (Elt Ideal) ((c.tc : Thread Cert.AdamSmallKernelIdeal.nD Cert.AdamSmallKernelIdeal.τ).loc Cert.AdamSmallKernelIdeal.main_v1_0)) (v1 : (c : Dev Cert.AdamSmallKernelIdeal.nD) → Buf (Elt Ideal) ((c.tc : Thread Cert.AdamSmallKernelIdeal.nD Cert.AdamSmallKernelIdeal.τ).loc Cert.AdamSmallKernelIdeal.main_v1_1)) (v2 : (c : Dev Cert.AdamSmallKernelIdeal.nD) → Buf (Elt Ideal) ((c.tc : Thread Cert.AdamSmallKernelIdeal.nD Cert.AdamSmallKernelIdeal.τ).loc Cert.AdamSmallKernelIdeal.main_v1_2)) (v3 : (c : Dev Cert.AdamSmallKernelIdeal.nD) → Buf (Elt Ideal) ((c.tc : Thread Cert.AdamSmallKernelIdeal.nD Cert.AdamSmallKernelIdeal.τ).loc Cert.AdamSmallKernelIdeal.main_v1_3)),
      θ_run (Cert.AdamSmallKernelIdeal.defs (F := Ideal)) (onTc (τ := Cert.AdamSmallKernelIdeal.τ) (Cert.AdamSmallKernelIdeal.main (F := Ideal))) ⟨m, fun _ => 0, g⟩ (fun r => ∀ c : Dev Cert.AdamSmallKernelIdeal.nD,
          r.2.mem ((c.tc : Thread Cert.AdamSmallKernelIdeal.nD Cert.AdamSmallKernelIdeal.τ).loc Cert.AdamSmallKernelIdeal.main_v1_0) = v0 c
          ∧ r.2.mem ((c.tc : Thread Cert.AdamSmallKernelIdeal.nD Cert.AdamSmallKernelIdeal.τ).loc Cert.AdamSmallKernelIdeal.main_v1_1) = v1 c
          ∧ r.2.mem ((c.tc : Thread Cert.AdamSmallKernelIdeal.nD Cert.AdamSmallKernelIdeal.τ).loc Cert.AdamSmallKernelIdeal.main_v1_2) = v2 c
          ∧ r.2.mem ((c.tc : Thread Cert.AdamSmallKernelIdeal.nD Cert.AdamSmallKernelIdeal.τ).loc Cert.AdamSmallKernelIdeal.main_v1_3) = v3 c
          ∧ r.2.mem ((c.tc : Thread Cert.AdamSmallKernelIdeal.nD Cert.AdamSmallKernelIdeal.τ).loc Cert.AdamSmallKernelIdeal.main_arg0) = m ((c.tc : Thread Cert.AdamSmallKernelIdeal.nD Cert.AdamSmallKernelIdeal.τ).loc Cert.AdamSmallKernelIdeal.main_arg0)
          ∧ r.2.mem ((c.tc : Thread Cert.AdamSmallKernelIdeal.nD Cert.AdamSmallKernelIdeal.τ).loc Cert.AdamSmallKernelIdeal.main_arg1) = m ((c.tc : Thread Cert.AdamSmallKernelIdeal.nD Cert.AdamSmallKernelIdeal.τ).loc Cert.AdamSmallKernelIdeal.main_arg1)
          ∧ r.2.mem ((c.tc : Thread Cert.AdamSmallKernelIdeal.nD Cert.AdamSmallKernelIdeal.τ).loc Cert.AdamSmallKernelIdeal.main_arg2) = m ((c.tc : Thread Cert.AdamSmallKernelIdeal.nD Cert.AdamSmallKernelIdeal.τ).loc Cert.AdamSmallKernelIdeal.main_arg2)
          ∧ r.2.mem ((c.tc : Thread Cert.AdamSmallKernelIdeal.nD Cert.AdamSmallKernelIdeal.τ).loc Cert.AdamSmallKernelIdeal.main_arg3) = m ((c.tc : Thread Cert.AdamSmallKernelIdeal.nD Cert.AdamSmallKernelIdeal.τ).loc Cert.AdamSmallKernelIdeal.main_arg3))
      ∧ θ_run (Cert.AdamSmallReferenceIdeal.defs (F := Ideal)) (onTc (τ := Cert.AdamSmallReferenceIdeal.τ) (Cert.AdamSmallReferenceIdeal.main (F := Ideal))) ⟨m', fun _ => 0, g'⟩ (fun r => ∀ c : Dev Cert.AdamSmallReferenceIdeal.nD,
          r.2.mem ((c.tc : Thread Cert.AdamSmallReferenceIdeal.nD Cert.AdamSmallReferenceIdeal.τ).loc Cert.AdamSmallReferenceIdeal.main_arg1) = v0 c
          ∧ r.2.mem ((c.tc : Thread Cert.AdamSmallReferenceIdeal.nD Cert.AdamSmallReferenceIdeal.τ).loc Cert.AdamSmallReferenceIdeal.main_v23) = v1 c
          ∧ r.2.mem ((c.tc : Thread Cert.AdamSmallReferenceIdeal.nD Cert.AdamSmallReferenceIdeal.τ).loc Cert.AdamSmallReferenceIdeal.main_v4) = v2 c
          ∧ r.2.mem ((c.tc : Thread Cert.AdamSmallReferenceIdeal.nD Cert.AdamSmallReferenceIdeal.τ).loc Cert.AdamSmallReferenceIdeal.main_v10) = v3 c
          ∧ r.2.mem ((c.tc : Thread Cert.AdamSmallReferenceIdeal.nD Cert.AdamSmallReferenceIdeal.τ).loc Cert.AdamSmallReferenceIdeal.main_arg0) = m' ((c.tc : Thread Cert.AdamSmallReferenceIdeal.nD Cert.AdamSmallReferenceIdeal.τ).loc Cert.AdamSmallReferenceIdeal.main_arg0)
          ∧ r.2.mem ((c.tc : Thread Cert.AdamSmallReferenceIdeal.nD Cert.AdamSmallReferenceIdeal.τ).loc Cert.AdamSmallReferenceIdeal.main_arg1) = m' ((c.tc : Thread Cert.AdamSmallReferenceIdeal.nD Cert.AdamSmallReferenceIdeal.τ).loc Cert.AdamSmallReferenceIdeal.main_arg1)
          ∧ r.2.mem ((c.tc : Thread Cert.AdamSmallReferenceIdeal.nD Cert.AdamSmallReferenceIdeal.τ).loc Cert.AdamSmallReferenceIdeal.main_arg2) = m' ((c.tc : Thread Cert.AdamSmallReferenceIdeal.nD Cert.AdamSmallReferenceIdeal.τ).loc Cert.AdamSmallReferenceIdeal.main_arg2)
          ∧ r.2.mem ((c.tc : Thread Cert.AdamSmallReferenceIdeal.nD Cert.AdamSmallReferenceIdeal.τ).loc Cert.AdamSmallReferenceIdeal.main_arg3) = m' ((c.tc : Thread Cert.AdamSmallReferenceIdeal.nD Cert.AdamSmallReferenceIdeal.τ).loc Cert.AdamSmallReferenceIdeal.main_arg3))

def preserves_CondBwdKernel_CondBwdKernelIdeal : Prop :=
  True

def algebraic_CondBwdKernelIdeal_CondBwdReferenceIdeal [hCondBwdKernelIdeal : Cert.CondBwdKernelIdeal.Facts] [hCondBwdReferenceIdeal : Cert.CondBwdReferenceIdeal.Facts] : Prop :=
  ∀ (m : (ℓ : Loc Cert.CondBwdKernelIdeal.nD Cert.CondBwdKernelIdeal.τ Cert.CondBwdKernelIdeal.sig) → Buf (Elt Ideal) ℓ) (g : Dev Cert.CondBwdKernelIdeal.nD → PrngReg)
    (m' : (ℓ : Loc Cert.CondBwdReferenceIdeal.nD Cert.CondBwdReferenceIdeal.τ Cert.CondBwdReferenceIdeal.sig) → Buf (Elt Ideal) ℓ) (g' : Dev Cert.CondBwdReferenceIdeal.nD → PrngReg), Pre_CondBwdKernelIdeal m →
    (∀ c : Dev Cert.CondBwdKernelIdeal.nD,
      m' ((c.tc : Thread Cert.CondBwdReferenceIdeal.nD Cert.CondBwdReferenceIdeal.τ).loc Cert.CondBwdReferenceIdeal.main_arg0) = m ((c.tc : Thread Cert.CondBwdKernelIdeal.nD Cert.CondBwdKernelIdeal.τ).loc Cert.CondBwdKernelIdeal.main_arg0)
      ∧ m' ((c.tc : Thread Cert.CondBwdReferenceIdeal.nD Cert.CondBwdReferenceIdeal.τ).loc Cert.CondBwdReferenceIdeal.main_arg1) = m ((c.tc : Thread Cert.CondBwdKernelIdeal.nD Cert.CondBwdKernelIdeal.τ).loc Cert.CondBwdKernelIdeal.main_arg1)
      ∧ m' ((c.tc : Thread Cert.CondBwdReferenceIdeal.nD Cert.CondBwdReferenceIdeal.τ).loc Cert.CondBwdReferenceIdeal.main_arg2) = m ((c.tc : Thread Cert.CondBwdKernelIdeal.nD Cert.CondBwdKernelIdeal.τ).loc Cert.CondBwdKernelIdeal.main_arg2)) →
    ∃ (v0 : (c : Dev Cert.CondBwdKernelIdeal.nD) → Buf (Elt Ideal) ((c.tc : Thread Cert.CondBwdKernelIdeal.nD Cert.CondBwdKernelIdeal.τ).loc Cert.CondBwdKernelIdeal.main_v1_0)) (v1 : (c : Dev Cert.CondBwdKernelIdeal.nD) → Buf (Elt Ideal) ((c.tc : Thread Cert.CondBwdKernelIdeal.nD Cert.CondBwdKernelIdeal.τ).loc Cert.CondBwdKernelIdeal.main_v1_1)),
      θ_run (Cert.CondBwdKernelIdeal.defs (F := Ideal)) (onTc (τ := Cert.CondBwdKernelIdeal.τ) (Cert.CondBwdKernelIdeal.main (F := Ideal))) ⟨m, fun _ => 0, g⟩ (fun r => ∀ c : Dev Cert.CondBwdKernelIdeal.nD,
          r.2.mem ((c.tc : Thread Cert.CondBwdKernelIdeal.nD Cert.CondBwdKernelIdeal.τ).loc Cert.CondBwdKernelIdeal.main_v1_0) = v0 c
          ∧ r.2.mem ((c.tc : Thread Cert.CondBwdKernelIdeal.nD Cert.CondBwdKernelIdeal.τ).loc Cert.CondBwdKernelIdeal.main_v1_1) = v1 c
          ∧ r.2.mem ((c.tc : Thread Cert.CondBwdKernelIdeal.nD Cert.CondBwdKernelIdeal.τ).loc Cert.CondBwdKernelIdeal.main_arg0) = m ((c.tc : Thread Cert.CondBwdKernelIdeal.nD Cert.CondBwdKernelIdeal.τ).loc Cert.CondBwdKernelIdeal.main_arg0)
          ∧ r.2.mem ((c.tc : Thread Cert.CondBwdKernelIdeal.nD Cert.CondBwdKernelIdeal.τ).loc Cert.CondBwdKernelIdeal.main_arg1) = m ((c.tc : Thread Cert.CondBwdKernelIdeal.nD Cert.CondBwdKernelIdeal.τ).loc Cert.CondBwdKernelIdeal.main_arg1)
          ∧ r.2.mem ((c.tc : Thread Cert.CondBwdKernelIdeal.nD Cert.CondBwdKernelIdeal.τ).loc Cert.CondBwdKernelIdeal.main_arg2) = m ((c.tc : Thread Cert.CondBwdKernelIdeal.nD Cert.CondBwdKernelIdeal.τ).loc Cert.CondBwdKernelIdeal.main_arg2))
      ∧ θ_run (Cert.CondBwdReferenceIdeal.defs (F := Ideal)) (onTc (τ := Cert.CondBwdReferenceIdeal.τ) (Cert.CondBwdReferenceIdeal.main (F := Ideal))) ⟨m', fun _ => 0, g'⟩ (fun r => ∀ c : Dev Cert.CondBwdReferenceIdeal.nD,
          r.2.mem ((c.tc : Thread Cert.CondBwdReferenceIdeal.nD Cert.CondBwdReferenceIdeal.τ).loc Cert.CondBwdReferenceIdeal.main_v7) = v0 c
          ∧ r.2.mem ((c.tc : Thread Cert.CondBwdReferenceIdeal.nD Cert.CondBwdReferenceIdeal.τ).loc Cert.CondBwdReferenceIdeal.main_v10) = v1 c
          ∧ r.2.mem ((c.tc : Thread Cert.CondBwdReferenceIdeal.nD Cert.CondBwdReferenceIdeal.τ).loc Cert.CondBwdReferenceIdeal.main_arg0) = m' ((c.tc : Thread Cert.CondBwdReferenceIdeal.nD Cert.CondBwdReferenceIdeal.τ).loc Cert.CondBwdReferenceIdeal.main_arg0)
          ∧ r.2.mem ((c.tc : Thread Cert.CondBwdReferenceIdeal.nD Cert.CondBwdReferenceIdeal.τ).loc Cert.CondBwdReferenceIdeal.main_arg1) = m' ((c.tc : Thread Cert.CondBwdReferenceIdeal.nD Cert.CondBwdReferenceIdeal.τ).loc Cert.CondBwdReferenceIdeal.main_arg1)
          ∧ r.2.mem ((c.tc : Thread Cert.CondBwdReferenceIdeal.nD Cert.CondBwdReferenceIdeal.τ).loc Cert.CondBwdReferenceIdeal.main_arg2) = m' ((c.tc : Thread Cert.CondBwdReferenceIdeal.nD Cert.CondBwdReferenceIdeal.τ).loc Cert.CondBwdReferenceIdeal.main_arg2))

def Claim : Prop :=
  ∃ (hConvKernel : Cert.ConvKernel.Facts) (hConvKernelIdeal : Cert.ConvKernelIdeal.Facts) (hConvReferenceIdeal : Cert.ConvReferenceIdeal.Facts) (hFfnKernel : Cert.FfnKernel.Facts) (hFfnKernelIdeal : Cert.FfnKernelIdeal.Facts) (hFfnReferenceIdeal : Cert.FfnReferenceIdeal.Facts) (hDwInKernel : Cert.DwInKernel.Facts) (hDwInKernelIdeal : Cert.DwInKernelIdeal.Facts) (hDwInReferenceIdeal : Cert.DwInReferenceIdeal.Facts) (hDwOutKernel : Cert.DwOutKernel.Facts) (hDwOutKernelIdeal : Cert.DwOutKernelIdeal.Facts) (hDwOutReferenceIdeal : Cert.DwOutReferenceIdeal.Facts) (hDwMixInKernel : Cert.DwMixInKernel.Facts) (hDwMixInKernelIdeal : Cert.DwMixInKernelIdeal.Facts) (hDwMixInReferenceIdeal : Cert.DwMixInReferenceIdeal.Facts) (hDwMixOutKernel : Cert.DwMixOutKernel.Facts) (hDwMixOutKernelIdeal : Cert.DwMixOutKernelIdeal.Facts) (hDwMixOutReferenceIdeal : Cert.DwMixOutReferenceIdeal.Facts) (hFfnFwdKernel : Cert.FfnFwdKernel.Facts) (hFfnFwdKernelIdeal : Cert.FfnFwdKernelIdeal.Facts) (hFfnFwdReferenceIdeal : Cert.FfnFwdReferenceIdeal.Facts) (hMixInFwdKernel : Cert.MixInFwdKernel.Facts) (hMixInFwdKernelIdeal : Cert.MixInFwdKernelIdeal.Facts) (hMixInFwdReferenceIdeal : Cert.MixInFwdReferenceIdeal.Facts) (hMixInBwdKernel : Cert.MixInBwdKernel.Facts) (hMixInBwdKernelIdeal : Cert.MixInBwdKernelIdeal.Facts) (hMixInBwdReferenceIdeal : Cert.MixInBwdReferenceIdeal.Facts) (hMixOutFwdKernel : Cert.MixOutFwdKernel.Facts) (hMixOutFwdKernelIdeal : Cert.MixOutFwdKernelIdeal.Facts) (hMixOutFwdReferenceIdeal : Cert.MixOutFwdReferenceIdeal.Facts) (hAdamAdaKernel : Cert.AdamAdaKernel.Facts) (hAdamAdaKernelIdeal : Cert.AdamAdaKernelIdeal.Facts) (hAdamAdaReferenceIdeal : Cert.AdamAdaReferenceIdeal.Facts) (hAdamSmallKernel : Cert.AdamSmallKernel.Facts) (hAdamSmallKernelIdeal : Cert.AdamSmallKernelIdeal.Facts) (hAdamSmallReferenceIdeal : Cert.AdamSmallReferenceIdeal.Facts) (hCondBwdKernel : Cert.CondBwdKernel.Facts) (hCondBwdKernelIdeal : Cert.CondBwdKernelIdeal.Facts) (hCondBwdReferenceIdeal : Cert.CondBwdReferenceIdeal.Facts) (hPre_all_finite : Cert.Pre_all_finite.Facts),
    quiescent_ConvKernel (hConvKernel := hConvKernel)
    ∧ quiescent_ConvKernelIdeal (hConvKernelIdeal := hConvKernelIdeal)
    ∧ quiescent_ConvReferenceIdeal (hConvReferenceIdeal := hConvReferenceIdeal)
    ∧ quiescent_FfnKernel (hFfnKernel := hFfnKernel)
    ∧ quiescent_FfnKernelIdeal (hFfnKernelIdeal := hFfnKernelIdeal)
    ∧ quiescent_FfnKernelIdeal_pre_all_finite (hFfnKernelIdeal := hFfnKernelIdeal) (hPre_all_finite := hPre_all_finite)
    ∧ quiescent_FfnReferenceIdeal (hFfnReferenceIdeal := hFfnReferenceIdeal)
    ∧ quiescent_FfnReferenceIdeal_pre_all_finite (hFfnReferenceIdeal := hFfnReferenceIdeal) (hPre_all_finite := hPre_all_finite)
    ∧ quiescent_DwInKernel (hDwInKernel := hDwInKernel)
    ∧ quiescent_DwInKernelIdeal (hDwInKernelIdeal := hDwInKernelIdeal)
    ∧ quiescent_DwInReferenceIdeal (hDwInReferenceIdeal := hDwInReferenceIdeal)
    ∧ quiescent_DwOutKernel (hDwOutKernel := hDwOutKernel)
    ∧ quiescent_DwOutKernelIdeal (hDwOutKernelIdeal := hDwOutKernelIdeal)
    ∧ quiescent_DwOutReferenceIdeal (hDwOutReferenceIdeal := hDwOutReferenceIdeal)
    ∧ quiescent_DwMixInKernel (hDwMixInKernel := hDwMixInKernel)
    ∧ quiescent_DwMixInKernelIdeal (hDwMixInKernelIdeal := hDwMixInKernelIdeal)
    ∧ quiescent_DwMixInReferenceIdeal (hDwMixInReferenceIdeal := hDwMixInReferenceIdeal)
    ∧ quiescent_DwMixOutKernel (hDwMixOutKernel := hDwMixOutKernel)
    ∧ quiescent_DwMixOutKernelIdeal (hDwMixOutKernelIdeal := hDwMixOutKernelIdeal)
    ∧ quiescent_DwMixOutReferenceIdeal (hDwMixOutReferenceIdeal := hDwMixOutReferenceIdeal)
    ∧ quiescent_FfnFwdKernel (hFfnFwdKernel := hFfnFwdKernel)
    ∧ quiescent_FfnFwdKernelIdeal (hFfnFwdKernelIdeal := hFfnFwdKernelIdeal)
    ∧ quiescent_FfnFwdReferenceIdeal (hFfnFwdReferenceIdeal := hFfnFwdReferenceIdeal)
    ∧ quiescent_MixInFwdKernel (hMixInFwdKernel := hMixInFwdKernel)
    ∧ quiescent_MixInFwdKernelIdeal (hMixInFwdKernelIdeal := hMixInFwdKernelIdeal)
    ∧ quiescent_MixInFwdReferenceIdeal (hMixInFwdReferenceIdeal := hMixInFwdReferenceIdeal)
    ∧ quiescent_MixInBwdKernel (hMixInBwdKernel := hMixInBwdKernel)
    ∧ quiescent_MixInBwdKernelIdeal (hMixInBwdKernelIdeal := hMixInBwdKernelIdeal)
    ∧ quiescent_MixInBwdReferenceIdeal (hMixInBwdReferenceIdeal := hMixInBwdReferenceIdeal)
    ∧ quiescent_MixOutFwdKernel (hMixOutFwdKernel := hMixOutFwdKernel)
    ∧ quiescent_MixOutFwdKernelIdeal (hMixOutFwdKernelIdeal := hMixOutFwdKernelIdeal)
    ∧ quiescent_MixOutFwdReferenceIdeal (hMixOutFwdReferenceIdeal := hMixOutFwdReferenceIdeal)
    ∧ quiescent_AdamAdaKernel (hAdamAdaKernel := hAdamAdaKernel)
    ∧ quiescent_AdamAdaKernelIdeal (hAdamAdaKernelIdeal := hAdamAdaKernelIdeal)
    ∧ quiescent_AdamAdaReferenceIdeal (hAdamAdaReferenceIdeal := hAdamAdaReferenceIdeal)
    ∧ quiescent_AdamSmallKernel (hAdamSmallKernel := hAdamSmallKernel)
    ∧ quiescent_AdamSmallKernelIdeal (hAdamSmallKernelIdeal := hAdamSmallKernelIdeal)
    ∧ quiescent_AdamSmallReferenceIdeal (hAdamSmallReferenceIdeal := hAdamSmallReferenceIdeal)
    ∧ quiescent_CondBwdKernel (hCondBwdKernel := hCondBwdKernel)
    ∧ quiescent_CondBwdKernelIdeal (hCondBwdKernelIdeal := hCondBwdKernelIdeal)
    ∧ quiescent_CondBwdReferenceIdeal (hCondBwdReferenceIdeal := hCondBwdReferenceIdeal)
    ∧ preserves_ConvKernel_ConvKernelIdeal
    ∧ algebraic_ConvKernelIdeal_ConvReferenceIdeal (hConvKernelIdeal := hConvKernelIdeal) (hConvReferenceIdeal := hConvReferenceIdeal)
    ∧ preserves_FfnKernel_FfnKernelIdeal
    ∧ algebraic_FfnKernelIdeal_FfnReferenceIdeal_pre_all_finite (hFfnKernelIdeal := hFfnKernelIdeal) (hFfnReferenceIdeal := hFfnReferenceIdeal) (hPre_all_finite := hPre_all_finite)
    ∧ preserves_DwInKernel_DwInKernelIdeal
    ∧ algebraic_DwInKernelIdeal_DwInReferenceIdeal (hDwInKernelIdeal := hDwInKernelIdeal) (hDwInReferenceIdeal := hDwInReferenceIdeal)
    ∧ preserves_DwOutKernel_DwOutKernelIdeal
    ∧ algebraic_DwOutKernelIdeal_DwOutReferenceIdeal (hDwOutKernelIdeal := hDwOutKernelIdeal) (hDwOutReferenceIdeal := hDwOutReferenceIdeal)
    ∧ preserves_DwMixInKernel_DwMixInKernelIdeal
    ∧ algebraic_DwMixInKernelIdeal_DwMixInReferenceIdeal (hDwMixInKernelIdeal := hDwMixInKernelIdeal) (hDwMixInReferenceIdeal := hDwMixInReferenceIdeal)
    ∧ preserves_DwMixOutKernel_DwMixOutKernelIdeal
    ∧ algebraic_DwMixOutKernelIdeal_DwMixOutReferenceIdeal (hDwMixOutKernelIdeal := hDwMixOutKernelIdeal) (hDwMixOutReferenceIdeal := hDwMixOutReferenceIdeal)
    ∧ preserves_FfnFwdKernel_FfnFwdKernelIdeal
    ∧ algebraic_FfnFwdKernelIdeal_FfnFwdReferenceIdeal (hFfnFwdKernelIdeal := hFfnFwdKernelIdeal) (hFfnFwdReferenceIdeal := hFfnFwdReferenceIdeal)
    ∧ preserves_MixInFwdKernel_MixInFwdKernelIdeal
    ∧ algebraic_MixInFwdKernelIdeal_MixInFwdReferenceIdeal (hMixInFwdKernelIdeal := hMixInFwdKernelIdeal) (hMixInFwdReferenceIdeal := hMixInFwdReferenceIdeal)
    ∧ preserves_MixInBwdKernel_MixInBwdKernelIdeal
    ∧ algebraic_MixInBwdKernelIdeal_MixInBwdReferenceIdeal (hMixInBwdKernelIdeal := hMixInBwdKernelIdeal) (hMixInBwdReferenceIdeal := hMixInBwdReferenceIdeal)
    ∧ preserves_MixOutFwdKernel_MixOutFwdKernelIdeal
    ∧ algebraic_MixOutFwdKernelIdeal_MixOutFwdReferenceIdeal (hMixOutFwdKernelIdeal := hMixOutFwdKernelIdeal) (hMixOutFwdReferenceIdeal := hMixOutFwdReferenceIdeal)
    ∧ preserves_AdamAdaKernel_AdamAdaKernelIdeal
    ∧ algebraic_AdamAdaKernelIdeal_AdamAdaReferenceIdeal (hAdamAdaKernelIdeal := hAdamAdaKernelIdeal) (hAdamAdaReferenceIdeal := hAdamAdaReferenceIdeal)
    ∧ preserves_AdamSmallKernel_AdamSmallKernelIdeal
    ∧ algebraic_AdamSmallKernelIdeal_AdamSmallReferenceIdeal (hAdamSmallKernelIdeal := hAdamSmallKernelIdeal) (hAdamSmallReferenceIdeal := hAdamSmallReferenceIdeal)
    ∧ preserves_CondBwdKernel_CondBwdKernelIdeal
    ∧ algebraic_CondBwdKernelIdeal_CondBwdReferenceIdeal (hCondBwdKernelIdeal := hCondBwdKernelIdeal) (hCondBwdReferenceIdeal := hCondBwdReferenceIdeal)
-- ==== Pre_all_finite.lean ====
abbrev S2048x1024 : Shape := ⟨2, ![2048, 1024]⟩
abbrev S3x1024 : Shape := ⟨2, ![3, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S2048x1024 : S_.BroadcastsInDim S2048x1024 (![] : Fin 0 → Fin S2048x1024.rank)
  bcast_S_S3x1024 : S_.BroadcastsInDim S3x1024 (![] : Fin 0 → Fin S3x1024.rank)
  bcast_S_S1024 : S_.BroadcastsInDim S1024 (![] : Fin 0 → Fin S1024.rank)
  bcast_S_S1024x5632 : S_.BroadcastsInDim S1024x5632 (![] : Fin 0 → Fin S1024x5632.rank)
  bcast_S_S2816x1024 : S_.BroadcastsInDim S2816x1024 (![] : Fin 0 → Fin S2816x1024.rank)

variable [Facts]

def fn {F : FTy → Type} [FloatOps F] (main_arg0 : FVec F S2048x1024 .f32) (main_arg1 : FVec F S2048x1024 .f32) (main_arg2 : FVec F S3x1024 .f32) (main_arg3 : FVec F S1024 .f32) (main_arg4 : FVec F S1024x5632 .f32) (main_arg5 : FVec F S2816x1024 .f32) : IVec S2048x1024 1 × IVec S2048x1024 1 × IVec S3x1024 1 × IVec S1024 1 × IVec S1024x5632 1 × IVec S2816x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S2048x1024 .f32 := Host.absf main_arg1
  let main_cst_0 : FVec F S_ .f32 := constant S_ .f32 0x7F800000#32
  let main_v4 : FVec F S2048x1024 .f32 := broadcastInDim S2048x1024 ![] bcast_S_S2048x1024 main_cst_0
  let main_v5 : IVec S2048x1024 1 := cmpf .olt main_v3 main_v4
  let main_v6 : FVec F S3x1024 .f32 := Host.absf main_arg2
  let main_cst_1 : FVec F S_ .f32 := constant S_ .f32 0x7F800000#32
  let main_v7 : FVec F S3x1024 .f32 := broadcastInDim S3x1024 ![] bcast_S_S3x1024 main_cst_1
  let main_v8 : IVec S3x1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S1024x5632 .f32 := Host.absf main_arg4
  let main_cst_3 : FVec F S_ .f32 := constant S_ .f32 0x7F800000#32
  let main_v13 : FVec F S1024x5632 .f32 := broadcastInDim S1024x5632 ![] bcast_S_S1024x5632 main_cst_3
  let main_v14 : IVec S1024x5632 1 := cmpf .olt main_v12 main_v13
  let main_v15 : FVec F S2816x1024 .f32 := Host.absf main_arg5
  let main_cst_4 : FVec F S_ .f32 := constant S_ .f32 0x7F800000#32
  let main_v16 : FVec F S2816x1024 .f32 := broadcastInDim S2816x1024 ![] bcast_S_S2816x1024 main_cst_4
  let main_v17 : IVec S2816x1024 1 := cmpf .olt main_v15 main_v16
  (main_v2, main_v5, main_v8, main_v11, main_v14, main_v17)
-- ==== ConvKernel.lean ====
abbrev S2048x1792 : Shape := ⟨2, ![2048, 1792]⟩
abbrev S2048x256 : Shape := ⟨2, ![2048, 256]⟩
abbrev S3x256 : Shape := ⟨2, ![3, 256]⟩
abbrev S2048x768 : Shape := ⟨2, ![2048, 768]⟩
abbrev S8x256 : Shape := ⟨2, ![8, 256]⟩
abbrev S1x256 : Shape := ⟨2, ![1, 256]⟩
abbrev S256 : Shape := ⟨1, ![256]⟩

abbrev nBuf : Space → Nat
  | .hbm => 5
  | .vmem => 5
  | .smem => 0
  | _ => 0

abbrev bufTy : (tb : Table) → Fin (tcTables nBuf tb) → BufTy
  | .hbm, ⟨0, _⟩ => ⟨S2048x1792, .f32⟩
  | .hbm, ⟨1, _⟩ => ⟨S2048x256, .f32⟩
  | .hbm, ⟨2, _⟩ => ⟨S3x256, .f32⟩
  | .hbm, ⟨3, _⟩ => ⟨S2048x768, .f32⟩
  | .hbm, ⟨4, _⟩ => ⟨S8x256, .f32⟩
  | .local _ .vmem, ⟨0, _⟩ => ⟨S2048x768, .f32⟩
  | .local _ .vmem, ⟨1, _⟩ => ⟨S2048x256, .f32⟩
  | .local _ .vmem, ⟨2, _⟩ => ⟨S3x256, .f32⟩
  | .local _ .vmem, ⟨3, _⟩ => ⟨S2048x768, .f32⟩
  | .local _ .vmem, ⟨4, _⟩ => ⟨S8x256, .f32⟩
  | _, _ => ⟨S2048x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ConvReferenceIdeal.lean ====
abbrev S2048x1792 : Shape := ⟨2, ![2048, 1792]⟩
abbrev S2048x256 : Shape := ⟨2, ![2048, 256]⟩
abbrev S3x256 : Shape := ⟨2, ![3, 256]⟩
abbrev S2048x768 : Shape := ⟨2, ![2048, 768]⟩
abbrev S_ : Shape := ⟨0, ![]⟩
abbrev S1x256 : Shape := ⟨2, ![1, 256]⟩
abbrev S2047x256 : Shape := ⟨2, ![2047, 256]⟩
abbrev S2x256 : Shape := ⟨2, ![2, 256]⟩
abbrev S2046x256 : Shape := ⟨2, ![2046, 256]⟩
abbrev S256 : Shape := ⟨1, ![256]⟩
abbrev S8x256 : Shape := ⟨2, ![8, 256]⟩

abbrev nBuf : Space → Nat
  | .hbm => 91
  | .vmem => 0
  | .smem => 0
  | _ => 0

abbrev bufTy : (tb : Table) → Fin (tcTables nBuf tb) → BufTy
  | .hbm, ⟨0, _⟩ => ⟨S2048x1792, .f32⟩
  | .hbm, ⟨1, _⟩ => ⟨S2048x256, .f32⟩
  | .hbm, ⟨2, _⟩ => ⟨S3x256, .f32⟩
  | .hbm, ⟨3, _⟩ => ⟨S2048x768, .f32⟩
  | .hbm, ⟨4, _⟩ => ⟨S2048x256, .f32⟩
  | .hbm, ⟨5, _⟩ => ⟨S2048x256, .f32⟩
  | .hbm, ⟨6, _⟩ => ⟨S2048x256, .f32⟩
  | .hbm, ⟨7, _⟩ => ⟨S2048x256, .f32⟩
  | .hbm, ⟨8, _⟩ => ⟨S_, .f32⟩
  | .hbm, ⟨9, _⟩ => ⟨S1x256, .f32⟩
  | .hbm, ⟨10, _⟩ => ⟨S2047x256, .f32⟩
  | .hbm, ⟨11, _⟩ => ⟨S2048x256, .f32⟩
  | .hbm, ⟨12, _⟩ => ⟨S_, .f32⟩
  | .hbm, ⟨13, _⟩ => ⟨S1x256, .f32⟩
  | .hbm, ⟨14, _⟩ => ⟨S_, .f32⟩
  | .hbm, ⟨15, _⟩ => ⟨S2x256, .f32⟩
  | .hbm, ⟨16, _⟩ => ⟨S2046x256, .f32⟩
  | .hbm, ⟨17, _⟩ => ⟨S2048x256, .f32⟩
  | .hbm, ⟨18, _⟩ => ⟨S_, .f32⟩
  | .hbm, ⟨19, _⟩ => ⟨S2x256, .f32⟩
  | .hbm, ⟨20, _⟩ => ⟨S1x256, .f32⟩
  | .hbm, ⟨21, _⟩ => ⟨S256, .f32⟩
  | .hbm, ⟨22, _⟩ => ⟨S1x256, .f32⟩
  | .hbm, ⟨23, _⟩ => ⟨S2048x256, .f32⟩
  | .hbm, ⟨24, _⟩ => ⟨S2048x256, .f32⟩
  | .hbm, ⟨25, _⟩ => ⟨S1x256, .f32⟩
  | .hbm, ⟨26, _⟩ => ⟨S256, .f32⟩
  | .hbm, ⟨27, _⟩ => ⟨S1x256, .f32⟩
  | .hbm, ⟨28, _⟩ => ⟨S2048x256, .f32⟩
  | .hbm, ⟨29, _⟩ => ⟨S2048x256, .f32⟩
  | .hbm, ⟨30, _⟩ => ⟨S2048x256, .f32⟩
  | .hbm, ⟨31, _⟩ => ⟨S1x256, .f32⟩
  | .hbm, ⟨32, _⟩ => ⟨S256, .f32⟩
  | .hbm, ⟨33, _⟩ => ⟨S1x256, .f32⟩
  | .hbm, ⟨34, _⟩ => ⟨S2048x256, .f32⟩
  | .hbm, ⟨35, _⟩ => ⟨S2048x256, .f32⟩
  | .hbm, ⟨36, _⟩ => ⟨S2048x256, .f32⟩
  | .hbm, ⟨37, _⟩ => ⟨S2048x256, .f32⟩
  | .hbm, ⟨38, _⟩ => ⟨S2048x256, .f32⟩
  | .hbm, ⟨39, _⟩ => ⟨S2048x256, .f32⟩
  | .hbm, ⟨40, _⟩ => ⟨S2048x256, .f32⟩
  | .hbm, ⟨41, _⟩ => ⟨S2048x256, .f32⟩
  | .hbm, ⟨42, _⟩ => ⟨S2048x256, .f32⟩
  | .hbm, ⟨43, _⟩ => ⟨S_, .f32⟩
  | .hbm, ⟨44, _⟩ => ⟨S256, .f32⟩
  | .hbm, ⟨45, _⟩ => ⟨S1x256, .f32⟩
  | .hbm, ⟨46, _⟩ => ⟨S_, .f32⟩
  | .hbm, ⟨47, _⟩ => ⟨S256, .f32⟩
  | .hbm, ⟨48, _⟩ => ⟨S1x256, .f32⟩
  | .hbm, ⟨49, _⟩ => ⟨S_, .f32⟩
  | .hbm, ⟨50, _⟩ => ⟨S3x256, .f32⟩
  | .hbm, ⟨51, _⟩ => ⟨S2048x256, .f32⟩
  | .hbm, ⟨52, _⟩ => ⟨S2048x256, .f32⟩
  | .hbm, ⟨53, _⟩ => ⟨S2048x256, .f32⟩
  | .hbm, ⟨54, _⟩ => ⟨S_, .f32⟩
  | .hbm, ⟨55, _⟩ => ⟨S256, .f32⟩
  | .hbm, ⟨56, _⟩ => ⟨S1x256, .f32⟩
  | .hbm, ⟨57, _⟩ => ⟨S_, .f32⟩
  | .hbm, ⟨58, _⟩ => ⟨S256, .f32⟩
  | .hbm, ⟨59, _⟩ => ⟨S1x256, .f32⟩
  | .hbm, ⟨60, _⟩ => ⟨S_, .f32⟩
  | .hbm, ⟨61, _⟩ => ⟨S3x256, .f32⟩
  | .hbm, ⟨62, _⟩ => ⟨S3x256, .f32⟩
  | .hbm, ⟨63, _⟩ => ⟨S2048x256, .f32⟩
  | .hbm, ⟨64, _⟩ => ⟨S2048x256, .f32⟩
  | .hbm, ⟨65, _⟩ => ⟨S2048x256, .f32⟩
  | .hbm, ⟨66, _⟩ => ⟨S_, .f32⟩
  | .hbm, ⟨67, _⟩ => ⟨S256, .f32⟩
  | .hbm, ⟨68, _⟩ => ⟨S1x256, .f32⟩
  | .hbm, ⟨69, _⟩ => ⟨S_, .f32⟩
  | .hbm, ⟨70, _⟩ => ⟨S256, .f32⟩
  | .hbm, ⟨71, _⟩ => ⟨S1x256, .f32⟩
  | .hbm, ⟨72, _⟩ => ⟨S_, .f32⟩
  | .hbm, ⟨73, _⟩ => ⟨S3x256, .f32⟩
  | .hbm, ⟨74, _⟩ => ⟨S3x256, .f32⟩
  | .hbm, ⟨75, _⟩ => ⟨S2x256, .f32⟩
  | .hbm, ⟨76, _⟩ => ⟨S2046x256, .f32⟩
  | .hbm, ⟨77, _⟩ => ⟨S_, .f32⟩
  | .hbm, ⟨78, _⟩ => ⟨S2048x256, .f32⟩
  | .hbm, ⟨79, _⟩ => ⟨S2048x256, .f32⟩
  | .hbm, ⟨80, _⟩ => ⟨S1x256, .f32⟩
  | .hbm, ⟨81, _⟩ => ⟨S2047x256, .f32⟩
  | .hbm, ⟨82, _⟩ => ⟨S_, .f32⟩
  | .hbm, ⟨83, _⟩ => ⟨S2048x256, .f32⟩
  | .hbm, ⟨84, _⟩ => ⟨S2048x256, .f32⟩
  | .hbm, ⟨85, _⟩ => ⟨S2048x256, .f32⟩
  | .hbm, ⟨86, _⟩ => ⟨S2048x256, .f32⟩
  | .hbm, ⟨87, _⟩ => ⟨S2048x768, .f32⟩
  | .hbm, ⟨88, _⟩ => ⟨S_, .i32⟩
  | .hbm, ⟨89, _⟩ => ⟨S_, .f32⟩
  | .hbm, ⟨90, _⟩ => ⟨S8x256, .f32⟩
  | _, _ => ⟨S2048x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_cst_3 : Ref sig .tc := ⟨.hbm, 43, rfl⟩
abbrev main_v36 : Ref sig .tc := ⟨.hbm, 44, rfl⟩
abbrev main_v37 : Ref sig .tc := ⟨.hbm, 45, rfl⟩
abbrev main_cst_4 : Ref sig .tc := ⟨.hbm, 46, rfl⟩
abbrev main_v38 : Ref sig .tc := ⟨.hbm, 47, rfl⟩
abbrev main_v39 : Ref sig .tc := ⟨.hbm, 48, rfl⟩
abbrev main_cst_5 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_6 : Ref sig .tc := ⟨.hbm, 54, rfl⟩
abbrev main_v44 : Ref sig .tc := ⟨.hbm, 55, rfl⟩
abbrev main_v45 : Ref sig .tc := ⟨.hbm, 56, rfl⟩
abbrev main_cst_7 : Ref sig .tc := ⟨.hbm, 57, rfl⟩
abbrev main_v46 : Ref sig .tc := ⟨.hbm, 58, rfl⟩
abbrev main_v47 : Ref sig .tc := ⟨.hbm, 59, rfl⟩
abbrev main_cst_8 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_9 : Ref sig .tc := ⟨.hbm, 66, rfl⟩
abbrev main_v53 : Ref sig .tc := ⟨.hbm, 67, rfl⟩
abbrev main_v54 : Ref sig .tc := ⟨.hbm, 68, rfl⟩
abbrev main_cst_10 : Ref sig .tc := ⟨.hbm, 69, rfl⟩
abbrev main_v55 : Ref sig .tc := ⟨.hbm, 70, rfl⟩
abbrev main_v56 : Ref sig .tc := ⟨.hbm, 71, rfl⟩
abbrev main_cst_11 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_12 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_13 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_c : Ref sig .tc := ⟨.hbm, 88, rfl⟩
abbrev main_call0_v0 : Ref sig .tc := ⟨.hbm, 89, rfl⟩
abbrev main_v70 : Ref sig .tc := ⟨.hbm, 90, rfl⟩

abbrev nD : Nat := 1
abbrev τ : Topo := Topo.v7x

variable {F : FTy → Type} [FloatOps F]
-- ==== FfnKernel.lean ====
abbrev S2048x1024 : Shape := ⟨2, ![2048, 1024]⟩
abbrev S3x1024 : Shape := ⟨2, ![3, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x5632 : Shape := ⟨2, ![2048, 5632]⟩
abbrev S2048x2816 : Shape := ⟨2, ![2048, 2816]⟩
abbrev S5632x1024 : Shape := ⟨2, ![5632, 1024]⟩
abbrev S8x704x1024 : Shape := ⟨3, ![8, 704, 1024]⟩
abbrev S4x704x1024 : Shape := ⟨3, ![4, 704, 1024]⟩
abbrev S2048x4x704 : Shape := ⟨3, ![2048, 4, 704]⟩
abbrev S4x2048x704 : Shape := ⟨3, ![4, 2048, 704]⟩
abbrev S8x1024 : Shape := ⟨2, ![8, 1024]⟩
abbrev S512x1024 : Shape := ⟨2, ![512, 1024]⟩
abbrev S1x512x704 : Shape := ⟨3, ![1, 512, 704]⟩
abbrev S1x704x1024 : Shape := ⟨3, ![1, 704, 1024]⟩
abbrev S704x1024 : Shape := ⟨2, ![704, 1024]⟩
abbrev S256x1024 : Shape := ⟨2, ![256, 1024]⟩
abbrev S1x256x704 : Shape := ⟨3, ![1, 256, 704]⟩
abbrev S256x704 : Shape := ⟨2, ![256, 704]⟩
abbrev S512 : Shape := ⟨1, ![512]⟩
abbrev S512x1 : Shape := ⟨2, ![512, 1]⟩

abbrev nBuf : Space → Nat
  | .hbm => 67
  | .vmem => 31
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S3x1024, .f32⟩
  | .hbm, ⟨3, _⟩ => ⟨S1024, .f32⟩
  | .hbm, ⟨4, _⟩ => ⟨S1024x5632, .f32⟩
  | .hbm, ⟨5, _⟩ => ⟨S2816x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1024, .f32⟩
  | .hbm, ⟨18, _⟩ => ⟨S2048x1024, .f32⟩
  | .hbm, ⟨19, _⟩ => ⟨S1x1024, .f32⟩
  | .hbm, ⟨20, _⟩ => ⟨S2048x1024, .f32⟩
  | .hbm, ⟨21, _⟩ => ⟨S2048x1024, .f32⟩
  | .hbm, ⟨22, _⟩ => ⟨S1x1024, .f32⟩
  | .hbm, ⟨23, _⟩ => ⟨S1024, .f32⟩
  | .hbm, ⟨24, _⟩ => ⟨S1x1024, .f32⟩
  | .hbm, ⟨25, _⟩ => ⟨S1024, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S1x1024, .f32⟩
  | .hbm, ⟨30, _⟩ => ⟨S2048x1024, .f32⟩
  | .hbm, ⟨31, _⟩ => ⟨S2048x1024, .f32⟩
  | .hbm, ⟨32, _⟩ => ⟨S1x1024, .f32⟩
  | .hbm, ⟨33, _⟩ => ⟨S2048x1024, .f32⟩
  | .hbm, ⟨34, _⟩ => ⟨S2048x1024, .f32⟩
  | .hbm, ⟨35, _⟩ => ⟨S2048x5632, .f32⟩
  | .hbm, ⟨36, _⟩ => ⟨S2048x2816, .f32⟩
  | .hbm, ⟨37, _⟩ => ⟨S2048x2816, .f32⟩
  | .hbm, ⟨38, _⟩ => ⟨S2048x2816, .f32⟩
  | .hbm, ⟨39, _⟩ => ⟨S2048x2816, .f32⟩
  | .hbm, ⟨40, _⟩ => ⟨S_, .f32⟩
  | .hbm, ⟨41, _⟩ => ⟨S2048x2816, .f32⟩
  | .hbm, ⟨42, _⟩ => ⟨S2048x2816, .f32⟩
  | .hbm, ⟨43, _⟩ => ⟨S_, .f32⟩
  | .hbm, ⟨44, _⟩ => ⟨S2048x2816, .f32⟩
  | .hbm, ⟨45, _⟩ => ⟨S2048x2816, .f32⟩
  | .hbm, ⟨46, _⟩ => ⟨S2048x2816, .f32⟩
  | .hbm, ⟨47, _⟩ => ⟨S2048x2816, .f32⟩
  | .hbm, ⟨48, _⟩ => ⟨S2048x1024, .f32⟩
  | .hbm, ⟨49, _⟩ => ⟨S5632x1024, .f32⟩
  | .hbm, ⟨50, _⟩ => ⟨S8x704x1024, .f32⟩
  | .hbm, ⟨51, _⟩ => ⟨S8x704x1024, .bf16⟩
  | .hbm, ⟨52, _⟩ => ⟨S4x704x1024, .f32⟩
  | .hbm, ⟨53, _⟩ => ⟨S4x704x1024, .bf16⟩
  | .hbm, ⟨54, _⟩ => ⟨S2048x4x704, .f32⟩
  | .hbm, ⟨55, _⟩ => ⟨S4x2048x704, .f32⟩
  | .hbm, ⟨56, _⟩ => ⟨S4x2048x704, .bf16⟩
  | .hbm, ⟨57, _⟩ => ⟨S2048x4x704, .f32⟩
  | .hbm, ⟨58, _⟩ => ⟨S4x2048x704, .f32⟩
  | .hbm, ⟨59, _⟩ => ⟨S4x2048x704, .bf16⟩
  | .hbm, ⟨60, _⟩ => ⟨S1x1024, .f32⟩
  | .hbm, ⟨61, _⟩ => ⟨S2048x1024, .f32⟩
  | .hbm, ⟨62, _⟩ => ⟨S4x2048x704, .bf16⟩
  | .hbm, ⟨63, _⟩ => ⟨S4x2048x704, .bf16⟩
  | .hbm, ⟨64, _⟩ => ⟨S4x2048x704, .bf16⟩
  | .hbm, ⟨65, _⟩ => ⟨S2048x1024, .bf16⟩
  | .hbm, ⟨66, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x512x704, .bf16⟩
  | .local _ .vmem, ⟨7, _⟩ => ⟨S1x512x704, .bf16⟩
  | .local _ .vmem, ⟨8, _⟩ => ⟨S1x512x704, .bf16⟩
  | .local _ .vmem, ⟨9, _⟩ => ⟨S1x512x704, .bf16⟩
  | .local _ .vmem, ⟨10, _⟩ => ⟨S3x1024, .f32⟩
  | .local _ .vmem, ⟨11, _⟩ => ⟨S1x1024, .f32⟩
  | .local _ .vmem, ⟨12, _⟩ => ⟨S1x704x1024, .bf16⟩
  | .local _ .vmem, ⟨13, _⟩ => ⟨S1x704x1024, .bf16⟩
  | .local _ .vmem, ⟨14, _⟩ => ⟨S1x704x1024, .bf16⟩
  | .local _ .vmem, ⟨15, _⟩ => ⟨S1x704x1024, .bf16⟩
  | .local _ .vmem, ⟨16, _⟩ => ⟨S1x704x1024, .bf16⟩
  | .local _ .vmem, ⟨17, _⟩ => ⟨S1x704x1024, .bf16⟩
  | .local _ .vmem, ⟨18, _⟩ => ⟨S512x1024, .f32⟩
  | .local _ .vmem, ⟨19, _⟩ => ⟨S512x1024, .f32⟩
  | .local _ .vmem, ⟨20, _⟩ => ⟨S1x512x704, .bf16⟩
  | .local _ .vmem, ⟨21, _⟩ => ⟨S1x512x704, .bf16⟩
  | .local _ .vmem, ⟨22, _⟩ => ⟨S1x512x704, .bf16⟩
  | .local _ .vmem, ⟨23, _⟩ => ⟨S1x512x704, .bf16⟩
  | .local _ .vmem, ⟨24, _⟩ => ⟨S1x512x704, .bf16⟩
  | .local _ .vmem, ⟨25, _⟩ => ⟨S1x512x704, .bf16⟩
  | .local _ .vmem, ⟨26, _⟩ => ⟨S512x1024, .bf16⟩
  | .local _ .vmem, ⟨27, _⟩ => ⟨S512x1024, .bf16⟩
  | .local _ .vmem, ⟨28, _⟩ => ⟨S8x1024, .f32⟩
  | .local _ .vmem, ⟨29, _⟩ => ⟨S512x1024, .bf16⟩
  | .local _ .vmem, ⟨30, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43_0 : Ref sig .tc := ⟨.hbm, 61, rfl⟩
abbrev main_v43_1 : Ref sig .tc := ⟨.hbm, 62, rfl⟩
abbrev main_v43_2 : Ref sig .tc := ⟨.hbm, 63, rfl⟩
abbrev main_v43_3 : Ref sig .tc := ⟨.hbm, 64, rfl⟩
abbrev main_v43_4 : Ref sig .tc := ⟨.hbm, 65, rfl⟩
abbrev main_v43_5 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_scratch0 : Ref sig .tc := ⟨.vmem, 29, rfl⟩
abbrev cc0_scratch1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28

abbrev nD : Nat := 1
abbrev τ : Topo := Topo.v7x

variable {F : FTy → Type} [FloatOps F]

abbrev grid0 : Pipeline.Grid := ⟨2, ![4, 4], ![false, false]⟩

def k0_cond3 (i : grid0.Coords) : BitVec 1 :=
  let arg1 : BitVec 32 := BitVec.ofNat 32 (i 1).val
  let c3_i32 : BitVec 32 := 3#32
  let v106 : BitVec 1 := Scalar.cmpi .eq arg1 c3_i32
  let v107 : BitVec 32 := Scalar.extui v106
  let c0_i32_68 : BitVec 32 := 0#32
  let v108 : BitVec 1 := Scalar.cmpi .ne v107 c0_i32_68
  v108

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  let c0_i32_1 : BitVec 32 := 0#32
  ![v0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S3x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x704x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x704x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x704x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x512x704 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x704 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x704 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 1 → Memref sig .tc .vmem S8x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]
-- ==== FfnReferenceIdeal.lean ====
abbrev S2048x1024 : Shape := ⟨2, ![2048, 1024]⟩
abbrev S3x1024 : Shape := ⟨2, ![3, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S2048x5632 : Shape := ⟨2, ![2048, 5632]⟩
abbrev S2048 : Shape := ⟨1, ![2048]⟩
abbrev S2048x1 : Shape := ⟨2, ![2048, 1]⟩
abbrev S1x1024 : Shape := ⟨2, ![1, 1024]⟩
abbrev S2048x2816 : Shape := ⟨2, ![2048, 2816]⟩
abbrev S1024x2816 : Shape := ⟨2, ![1024, 2816]⟩
abbrev S5632x1024 : Shape := ⟨2, ![5632, 1024]⟩
abbrev S4x1024 : Shape := ⟨2, ![4, 1024]⟩
abbrev S8x1024 : Shape := ⟨2, ![8, 1024]⟩
abbrev S2048x4x704 : Shape := ⟨3, ![2048, 4, 704]⟩
abbrev S4x2048x704 : Shape := ⟨3, ![4, 2048, 704]⟩

abbrev nBuf : Space → Nat
  | .hbm => 163
  | .vmem => 0
  | .smem => 0
  | _ => 0

abbrev hbmTy0_0 (i : Nat) : BufTy := match i % 128 with
  | 0 => ⟨S2048x1024, .f32⟩
  | 1 => ⟨S2048x1024, .f32⟩
  | 2 => ⟨S3x1024, .f32⟩
  | 3 => ⟨S1024, .f32⟩
  | 4 => ⟨S1024x5632, .f32⟩
  | 5 => ⟨S2816x1024, .f32⟩
  | 6 => ⟨S_, .f32⟩
  | 7 => ⟨S2048x5632, .f32⟩
  | 8 => ⟨S_, .f32⟩
  | 9 => ⟨S2048x1024, .f32⟩
  | 10 => ⟨S2048x1024, .f32⟩
  | 11 => ⟨S_, .f32⟩
  | 12 => ⟨S2048, .f32⟩
  | 13 => ⟨S2048x1, .f32⟩
  | 14 => ⟨S_, .f32⟩
  | 15 => ⟨S2048x1, .f32⟩
  | 16 => ⟨S2048x1, .f32⟩
  | 17 => ⟨S_, .f32⟩
  | 18 => ⟨S2048x1, .f32⟩
  | 19 => ⟨S2048x1, .f32⟩
  | 20 => ⟨S2048x1, .f32⟩
  | 21 => ⟨S2048x1, .f32⟩
  | 22 => ⟨S_, .f32⟩
  | 23 => ⟨S2048x1, .f32⟩
  | 24 => ⟨S2048x1, .f32⟩
  | 25 => ⟨S2048x1024, .f32⟩
  | 26 => ⟨S2048x1024, .f32⟩
  | 27 => ⟨S1x1024, .f32⟩
  | 28 => ⟨S2048x1024, .f32⟩
  | 29 => ⟨S2048x1024, .f32⟩
  | 30 => ⟨S1x1024, .f32⟩
  | 31 => ⟨S1024, .f32⟩
  | 32 => ⟨S1x1024, .f32⟩
  | 33 => ⟨S1024, .f32⟩
  | 34 => ⟨S_, .f32⟩
  | 35 => ⟨S1024, .f32⟩
  | 36 => ⟨S1024, .f32⟩
  | 37 => ⟨S1x1024, .f32⟩
  | 38 => ⟨S2048x1024, .f32⟩
  | 39 => ⟨S2048x1024, .f32⟩
  | 40 => ⟨S1x1024, .f32⟩
  | 41 => ⟨S2048x1024, .f32⟩
  | 42 => ⟨S2048x1024, .f32⟩
  | 43 => ⟨S2048x5632, .f32⟩
  | 44 => ⟨S2048x5632, .f32⟩
  | 45 => ⟨S2048x2816, .f32⟩
  | 46 => ⟨S2048x2816, .f32⟩
  | 47 => ⟨S2048x2816, .f32⟩
  | 48 => ⟨S2048x2816, .f32⟩
  | 49 => ⟨S_, .f32⟩
  | 50 => ⟨S2048x2816, .f32⟩
  | 51 => ⟨S2048x2816, .f32⟩
  | 52 => ⟨S_, .f32⟩
  | 53 => ⟨S2048x2816, .f32⟩
  | 54 => ⟨S2048x2816, .f32⟩
  | 55 => ⟨S_, .f32⟩
  | 56 => ⟨S2048x2816, .f32⟩
  | 57 => ⟨S2048x2816, .f32⟩
  | 58 => ⟨S2048x2816, .f32⟩
  | 59 => ⟨S2048x2816, .f32⟩
  | 60 => ⟨S2048x2816, .f32⟩
  | 61 => ⟨S2048x1024, .f32⟩
  | 62 => ⟨S2048x1024, .f32⟩
  | 63 => ⟨S1x1024, .f32⟩
  | 64 => ⟨S1024, .f32⟩
  | 65 => ⟨S_, .f32⟩
  | 66 => ⟨S1024, .f32⟩
  | 67 => ⟨S1024, .f32⟩
  | 68 => ⟨S1x1024, .f32⟩
  | 69 => ⟨S2048x1024, .f32⟩
  | 70 => ⟨S2048x1024, .f32⟩
  | 71 => ⟨S2048x1024, .f32⟩
  | 72 => ⟨S2048x1024, .f32⟩
  | 73 => ⟨S2048x1024, .f32⟩
  | 74 => ⟨S2048x1024, .f32⟩
  | 75 => ⟨S2048x1024, .f32⟩
  | 76 => ⟨S_, .f32⟩
  | 77 => ⟨S1024, .f32⟩
  | 78 => ⟨S1x1024, .f32⟩
  | 79 => ⟨S_, .f32⟩
  | 80 => ⟨S1024, .f32⟩
  | 81 => ⟨S_, .f32⟩
  | 82 => ⟨S1024, .f32⟩
  | 83 => ⟨S1024, .f32⟩
  | 84 => ⟨S1x1024, .f32⟩
  | 85 => ⟨S_, .f32⟩
  | 86 => ⟨S3x1024, .f32⟩
  | 87 => ⟨S1024x2816, .f32⟩
  | 88 => ⟨S2816x1024, .f32⟩
  | 89 => ⟨S2048x2816, .f32⟩
  | 90 => ⟨S2048x2816, .f32⟩
  | 91 => ⟨S2048x2816, .f32⟩
  | 92 => ⟨S2048x2816, .f32⟩
  | 93 => ⟨S2048x2816, .f32⟩
  | 94 => ⟨S2048x2816, .f32⟩
  | 95 => ⟨S2048x2816, .f32⟩
  | 96 => ⟨S2048x5632, .f32⟩
  | 97 => ⟨S5632x1024, .f32⟩
  | 98 => ⟨S1024x5632, .f32⟩
  | 99 => ⟨S2048x1024, .f32⟩
  | 100 => ⟨S_, .f32⟩
  | 101 => ⟨S1024, .f32⟩
  | 102 => ⟨S1x1024, .f32⟩
  | 103 => ⟨S_, .f32⟩
  | 104 => ⟨S1024, .f32⟩
  | 105 => ⟨S2048x1024, .f32⟩
  | 106 => ⟨S_, .f32⟩
  | 107 => ⟨S1024, .f32⟩
  | 108 => ⟨S1x1024, .f32⟩
  | 109 => ⟨S2048x1024, .f32⟩
  | 110 => ⟨S2048x1024, .f32⟩
  | 111 => ⟨S_, .f32⟩
  | 112 => ⟨S1024, .f32⟩
  | 113 => ⟨S1x1024, .f32⟩
  | 114 => ⟨S_, .f32⟩
  | 115 => ⟨S3x1024, .f32⟩
  | 116 => ⟨S3x1024, .f32⟩
  | 117 => ⟨S1x1024, .f32⟩
  | 118 => ⟨S_, .f32⟩
  | 119 => ⟨S3x1024, .f32⟩
  | 120 => ⟨S3x1024, .f32⟩
  | 121 => ⟨S2048x1024, .f32⟩
  | 122 => ⟨S_, .f32⟩
  | 123 => ⟨S1024, .f32⟩
  | 124 => ⟨S1x1024, .f32⟩
  | 125 => ⟨S2048x1024, .f32⟩
  | 126 => ⟨S2048x1024, .f32⟩
  | 127 => ⟨S_, .f32⟩
  | _ => ⟨S2048x1024, .f32⟩

abbrev hbmTy0_1 (i : Nat) : BufTy := match i % 128 with
  | 0 => ⟨S1024, .f32⟩
  | 1 => ⟨S2048x1024, .f32⟩
  | 2 => ⟨S_, .f32⟩
  | 3 => ⟨S2048, .f32⟩
  | 4 => ⟨S2048x1, .f32⟩
  | 5 => ⟨S2048x1024, .f32⟩
  | 6 => ⟨S2048x1024, .f32⟩
  | 7 => ⟨S2048x1024, .f32⟩
  | 8 => ⟨S2048x1, .f32⟩
  | 9 => ⟨S_, .f32⟩
  | 10 => ⟨S2048x1, .f32⟩
  | 11 => ⟨S2048x1, .f32⟩
  | 12 => ⟨S_, .f32⟩
  | 13 => ⟨S2048, .f32⟩
  | 14 => ⟨S2048x1024, .f32⟩
  | 15 => ⟨S2048x1024, .f32⟩
  | 16 => ⟨S2048x1024, .f32⟩
  | 17 => ⟨S2048x1024, .f32⟩
  | 18 => ⟨S2048x1024, .f32⟩
  | 19 => ⟨S1x1024, .f32⟩
  | 20 => ⟨S_, .f32⟩
  | 21 => ⟨S4x1024, .f32⟩
  | 22 => ⟨S8x1024, .f32⟩
  | 23 => ⟨S2048x2816, .f32⟩
  | 24 => ⟨S2048x4x704, .f32⟩
  | 25 => ⟨S4x2048x704, .f32⟩
  | 26 => ⟨S4x2048x704, .bf16⟩
  | 27 => ⟨S2048x2816, .f32⟩
  | 28 => ⟨S2048x4x704, .f32⟩
  | 29 => ⟨S4x2048x704, .f32⟩
  | 30 => ⟨S4x2048x704, .bf16⟩
  | 31 => ⟨S2048x4x704, .f32⟩
  | 32 => ⟨S4x2048x704, .f32⟩
  | 33 => ⟨S4x2048x704, .bf16⟩
  | 34 => ⟨S2048x1024, .bf16⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_v4 : Ref sig .tc := ⟨.hbm, 13, rfl⟩
abbrev main_cst_2 : Ref sig .tc := ⟨.hbm, 14, rfl⟩
abbrev main_v5 : Ref sig .tc := ⟨.hbm, 15, rfl⟩
abbrev main_v6 : Ref sig .tc := ⟨.hbm, 16, rfl⟩
abbrev main_cst_3 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_4 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_v34_2 : Ref sig .tc := ⟨.hbm, 54, rfl⟩
abbrev main_call0_cst_1 : Ref sig .tc := ⟨.hbm, 55, rfl⟩
abbrev main_call0_v6 : Ref sig .tc := ⟨.hbm, 56, rfl⟩
abbrev main_call0_v7 : Ref sig .tc := ⟨.hbm, 57, rfl⟩
abbrev main_v34_1 : Ref sig .tc := ⟨.hbm, 58, rfl⟩
abbrev main_v34_0 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_6 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_7 : Ref sig .tc := ⟨.hbm, 76, rfl⟩
abbrev main_v50 : Ref sig .tc := ⟨.hbm, 77, rfl⟩
abbrev main_v51 : Ref sig .tc := ⟨.hbm, 78, rfl⟩
abbrev main_cst_8 : Ref sig .tc := ⟨.hbm, 79, rfl⟩
abbrev main_v52 : Ref sig .tc := ⟨.hbm, 80, rfl⟩
abbrev main_cst_9 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_10 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_call1_v0 : Ref sig .tc := ⟨.hbm, 92, rfl⟩
abbrev main_call1_v1 : Ref sig .tc := ⟨.hbm, 93, rfl⟩
abbrev main_call1_v2 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_cst_11 : Ref sig .tc := ⟨.hbm, 100, rfl⟩
abbrev main_v67 : Ref sig .tc := ⟨.hbm, 101, rfl⟩
abbrev main_v68 : Ref sig .tc := ⟨.hbm, 102, rfl⟩
abbrev main_cst_12 : Ref sig .tc := ⟨.hbm, 103, rfl⟩
abbrev main_v69 : Ref sig .tc := ⟨.hbm, 104, rfl⟩
abbrev main_v70 : Ref sig .tc := ⟨.hbm, 105, rfl⟩
abbrev main_cst_13 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_cst_14 : Ref sig .tc := ⟨.hbm, 111, rfl⟩
abbrev main_v75 : Ref sig .tc := ⟨.hbm, 112, rfl⟩
abbrev main_v76 : Ref sig .tc := ⟨.hbm, 113, rfl⟩
abbrev main_cst_15 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_cst_16 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_cst_17 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_cst_18 : Ref sig .tc := ⟨.hbm, 127, rfl⟩
abbrev main_v87 : Ref sig .tc := ⟨.hbm, 128, rfl⟩
abbrev main_v88 : Ref sig .tc := ⟨.hbm, 129, rfl⟩
abbrev main_cst_19 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_cst_20 : Ref sig .tc := ⟨.hbm, 137, rfl⟩
abbrev main_v95 : Ref sig .tc := ⟨.hbm, 138, rfl⟩
abbrev main_v96 : Ref sig .tc := ⟨.hbm, 139, rfl⟩
abbrev main_cst_21 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_cst_22 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩

abbrev nD : Nat := 1
abbrev τ : Topo := Topo.v7x

variable {F : FTy → Type} [FloatOps F]
-- ==== DwInKernel.lean ====
abbrev S2048x1024 : Shape := ⟨2, ![2048, 1024]⟩
abbrev S2048x5632 : Shape := ⟨2, ![2048, 5632]⟩
abbrev S2048x2816 : Shape := ⟨2, ![2048, 2816]⟩
abbrev S2048x4x704 : Shape := ⟨3, ![2048, 4, 704]⟩
abbrev S4x2048x704 : Shape := ⟨3, ![4, 2048, 704]⟩
abbrev S8x704x1024 : Shape := ⟨3, ![8, 704, 1024]⟩
abbrev S1x2048x704 : Shape := ⟨3, ![1, 2048, 704]⟩
abbrev S1x704x1024 : Shape := ⟨3, ![1, 704, 1024]⟩
abbrev S2048x704 : Shape := ⟨2, ![2048, 704]⟩
abbrev S704x1024 : Shape := ⟨2, ![704, 1024]⟩

abbrev nBuf : Space → Nat
  | .hbm => 12
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x5632, .f32⟩
  | .hbm, ⟨2, _⟩ => ⟨S2048x2816, .f32⟩
  | .hbm, ⟨3, _⟩ => ⟨S2048x4x704, .f32⟩
  | .hbm, ⟨4, _⟩ => ⟨S4x2048x704, .f32⟩
  | .hbm, ⟨5, _⟩ => ⟨S4x2048x704, .bf16⟩
  | .hbm, ⟨6, _⟩ => ⟨S2048x1024, .bf16⟩
  | .hbm, ⟨7, _⟩ => ⟨S2048x2816, .f32⟩
  | .hbm, ⟨8, _⟩ => ⟨S2048x4x704, .f32⟩
  | .hbm, ⟨9, _⟩ => ⟨S4x2048x704, .f32⟩
  | .hbm, ⟨10, _⟩ => ⟨S4x2048x704, .bf16⟩
  | .hbm, ⟨11, _⟩ => ⟨S8x704x1024, .bf16⟩
  | .local _ .vmem, ⟨0, _⟩ => ⟨S1x2048x704, .bf16⟩
  | .local _ .vmem, ⟨1, _⟩ => ⟨S1x2048x704, .bf16⟩
  | .local _ .vmem, ⟨2, _⟩ => ⟨S1x2048x704, .bf16⟩
  | .local _ .vmem, ⟨3, _⟩ => ⟨S1x2048x704, .bf16⟩
  | .local _ .vmem, ⟨4, _⟩ => ⟨S2048x1024, .bf16⟩
  | .local _ .vmem, ⟨5, _⟩ => ⟨S1x704x1024, .bf16⟩
  | .local _ .vmem, ⟨6, _⟩ => ⟨S1x704x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c4_i32 : BitVec 32 := 4#32
  let v0 : BitVec 1 := Scalar.cmpi .slt arg0 c4_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c4_i32_0 : BitVec 32 := 4#32
  let v3 : BitVec 1 := Scalar.cmpi .sge arg0 c4_i32_0
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  let c0_i32_1 : BitVec 32 := 0#32
  ![v0.toNat, c0_i32.toNat, c0_i32_0.toNat]

def cc0_transform_1 (i : grid0.Coords) : Fin 3 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== DwInReferenceIdeal.lean ====
abbrev S2048x1024 : Shape := ⟨2, ![2048, 1024]⟩
abbrev S2048x5632 : Shape := ⟨2, ![2048, 5632]⟩
abbrev S_ : Shape := ⟨0, ![]⟩
abbrev S1024x5632 : Shape := ⟨2, ![1024, 5632]⟩
abbrev S5632x1024 : Shape := ⟨2, ![5632, 1024]⟩
abbrev S8x704x1024 : Shape := ⟨3, ![8, 704, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x5632, .f32⟩
  | .hbm, ⟨2, _⟩ => ⟨S_, .f32⟩
  | .hbm, ⟨3, _⟩ => ⟨S1024x5632, .f32⟩
  | .hbm, ⟨4, _⟩ => ⟨S2048x5632, .f32⟩
  | .hbm, ⟨5, _⟩ => ⟨S5632x1024, .f32⟩
  | .hbm, ⟨6, _⟩ => ⟨S1024x5632, .f32⟩
  | .hbm, ⟨7, _⟩ => ⟨S5632x1024, .f32⟩
  | .hbm, ⟨8, _⟩ => ⟨S8x704x1024, .f32⟩
  | .hbm, ⟨9, _⟩ => ⟨S8x704x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwOutKernel.lean ====
abbrev S2048x2816 : Shape := ⟨2, ![2048, 2816]⟩
abbrev S2048x1024 : Shape := ⟨2, ![2048, 1024]⟩
abbrev S2048x4x704 : Shape := ⟨3, ![2048, 4, 704]⟩
abbrev S4x2048x704 : Shape := ⟨3, ![4, 2048, 704]⟩
abbrev S4x704x1024 : Shape := ⟨3, ![4, 704, 1024]⟩
abbrev S1x2048x704 : Shape := ⟨3, ![1, 2048, 704]⟩
abbrev S1x704x1024 : Shape := ⟨3, ![1, 704, 1024]⟩
abbrev S2048x704 : Shape := ⟨2, ![2048, 704]⟩
abbrev S704x1024 : Shape := ⟨2, ![704, 1024]⟩

abbrev nBuf : Space → Nat
  | .hbm => 7
  | .vmem => 5
  | .smem => 0
  | _ => 0

abbrev bufTy : (tb : Table) → Fin (tcTables nBuf tb) → BufTy
  | .hbm, ⟨0, _⟩ => ⟨S2048x2816, .f32⟩
  | .hbm, ⟨1, _⟩ => ⟨S2048x1024, .f32⟩
  | .hbm, ⟨2, _⟩ => ⟨S2048x4x704, .f32⟩
  | .hbm, ⟨3, _⟩ => ⟨S4x2048x704, .f32⟩
  | .hbm, ⟨4, _⟩ => ⟨S4x2048x704, .bf16⟩
  | .hbm, ⟨5, _⟩ => ⟨S2048x1024, .bf16⟩
  | .hbm, ⟨6, _⟩ => ⟨S4x704x1024, .bf16⟩
  | .local _ .vmem, ⟨0, _⟩ => ⟨S1x2048x704, .bf16⟩
  | .local _ .vmem, ⟨1, _⟩ => ⟨S1x2048x704, .bf16⟩
  | .local _ .vmem, ⟨2, _⟩ => ⟨S2048x1024, .bf16⟩
  | .local _ .vmem, ⟨3, _⟩ => ⟨S1x704x1024, .bf16⟩
  | .local _ .vmem, ⟨4, _⟩ => ⟨S1x704x1024, .bf16⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DwOutReferenceIdeal.lean ====
abbrev S2048x2816 : Shape := ⟨2, ![2048, 2816]⟩
abbrev S2048x1024 : Shape := ⟨2, ![2048, 1024]⟩
abbrev S_ : Shape := ⟨0, ![]⟩
abbrev S2816x1024 : Shape := ⟨2, ![2816, 1024]⟩
abbrev S1024x2816 : Shape := ⟨2, ![1024, 2816]⟩
abbrev S4x704x1024 : Shape := ⟨3, ![4, 704, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2048x1024, .f32⟩
  | .hbm, ⟨2, _⟩ => ⟨S_, .f32⟩
  | .hbm, ⟨3, _⟩ => ⟨S2816x1024, .f32⟩
  | .hbm, ⟨4, _⟩ => ⟨S2048x1024, .f32⟩
  | .hbm, ⟨5, _⟩ => ⟨S1024x2816, .f32⟩
  | .hbm, ⟨6, _⟩ => ⟨S2816x1024, .f32⟩
  | .hbm, ⟨7, _⟩ => ⟨S4x704x1024, .f32⟩
  | .hbm, ⟨8, _⟩ => ⟨S4x704x1024, .bf16⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwMixInKernel.lean ====
abbrev S2048x1024 : Shape := ⟨2, ![2048, 1024]⟩
abbrev S2048x1792 : Shape := ⟨2, ![2048, 1792]⟩
abbrev S1x2048x1792 : Shape := ⟨3, ![1, 2048, 1792]⟩
abbrev S1x1792x1024 : Shape := ⟨3, ![1, 1792, 1024]⟩
abbrev S1792x1024 : Shape := ⟨2, ![1792, 1024]⟩

abbrev nBuf : Space → Nat
  | .hbm => 6
  | .vmem => 3
  | .smem => 0
  | _ => 0

abbrev bufTy : (tb : Table) → Fin (tcTables nBuf tb) → BufTy
  | .hbm, ⟨0, _⟩ => ⟨S2048x1024, .f32⟩
  | .hbm, ⟨1, _⟩ => ⟨S2048x1792, .f32⟩
  | .hbm, ⟨2, _⟩ => ⟨S1x2048x1792, .f32⟩
  | .hbm, ⟨3, _⟩ => ⟨S1x2048x1792, .bf16⟩
  | .hbm, ⟨4, _⟩ => ⟨S2048x1024, .bf16⟩
  | .hbm, ⟨5, _⟩ => ⟨S1x1792x1024, .bf16⟩
  | .local _ .vmem, ⟨0, _⟩ => ⟨S1x2048x1792, .bf16⟩
  | .local _ .vmem, ⟨1, _⟩ => ⟨S2048x1024, .bf16⟩
  | .local _ .vmem, ⟨2, _⟩ => ⟨S1x1792x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x2048x1792 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1792x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== DwMixInReferenceIdeal.lean ====
abbrev S2048x1024 : Shape := ⟨2, ![2048, 1024]⟩
abbrev S2048x1792 : Shape := ⟨2, ![2048, 1792]⟩
abbrev S_ : Shape := ⟨0, ![]⟩
abbrev S1024x1792 : Shape := ⟨2, ![1024, 1792]⟩
abbrev S1792x1024 : Shape := ⟨2, ![1792, 1024]⟩
abbrev S1x1792x1024 : Shape := ⟨3, ![1, 1792, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1792, .f32⟩
  | .hbm, ⟨2, _⟩ => ⟨S_, .f32⟩
  | .hbm, ⟨3, _⟩ => ⟨S1024x1792, .f32⟩
  | .hbm, ⟨4, _⟩ => ⟨S2048x1792, .f32⟩
  | .hbm, ⟨5, _⟩ => ⟨S1792x1024, .f32⟩
  | .hbm, ⟨6, _⟩ => ⟨S1024x1792, .f32⟩
  | .hbm, ⟨7, _⟩ => ⟨S1792x1024, .f32⟩
  | .hbm, ⟨8, _⟩ => ⟨S1x1792x1024, .f32⟩
  | .hbm, ⟨9, _⟩ => ⟨S1x1792x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwMixOutKernel.lean ====
abbrev S2048x1024 : Shape := ⟨2, ![2048, 1024]⟩
abbrev S1x2048x1024 : Shape := ⟨3, ![1, 2048, 1024]⟩
abbrev S1x1024x1024 : Shape := ⟨3, ![1, 1024, 1024]⟩
abbrev S1024x1024 : Shape := ⟨2, ![1024, 1024]⟩

abbrev nBuf : Space → Nat
  | .hbm => 6
  | .vmem => 3
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x2048x1024, .f32⟩
  | .hbm, ⟨3, _⟩ => ⟨S1x2048x1024, .bf16⟩
  | .hbm, ⟨4, _⟩ => ⟨S2048x1024, .bf16⟩
  | .hbm, ⟨5, _⟩ => ⟨S1x1024x1024, .bf16⟩
  | .local _ .vmem, ⟨0, _⟩ => ⟨S1x2048x1024, .bf16⟩
  | .local _ .vmem, ⟨1, _⟩ => ⟨S2048x1024, .bf16⟩
  | .local _ .vmem, ⟨2, _⟩ => ⟨S1x1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== DwMixOutReferenceIdeal.lean ====
abbrev S2048x1024 : Shape := ⟨2, ![2048, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S1024x1024, .f32⟩
  | .hbm, ⟨6, _⟩ => ⟨S1024x1024, .f32⟩
  | .hbm, ⟨7, _⟩ => ⟨S1x1024x1024, .f32⟩
  | .hbm, ⟨8, _⟩ => ⟨S1x1024x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== FfnFwdKernel.lean ====
abbrev S2048x1024 : Shape := ⟨2, ![2048, 1024]⟩
abbrev S3x1024 : Shape := ⟨2, ![3, 1024]⟩
abbrev S1024 : Shape := ⟨1, ![1024]⟩
abbrev S1024x5632 : Shape := ⟨2, ![1024, 5632]⟩
abbrev S2816x1024 : Shape := ⟨2, ![2816, 1024]⟩
abbrev S5632x1024 : Shape := ⟨2, ![5632, 1024]⟩
abbrev S8x704x1024 : Shape := ⟨3, ![8, 704, 1024]⟩
abbrev S4x704x1024 : Shape := ⟨3, ![4, 704, 1024]⟩
abbrev S1x1024 : Shape := ⟨2, ![1, 1024]⟩
abbrev S4x2048x704 : Shape := ⟨3, ![4, 2048, 704]⟩
abbrev S512x1024 : Shape := ⟨2, ![512, 1024]⟩
abbrev S1x704x1024 : Shape := ⟨3, ![1, 704, 1024]⟩
abbrev S1x512x704 : Shape := ⟨3, ![1, 512, 704]⟩
abbrev S512 : Shape := ⟨1, ![512]⟩
abbrev S512x1 : Shape := ⟨2, ![512, 1]⟩
abbrev S704x1024 : Shape := ⟨2, ![704, 1024]⟩
abbrev S256x1024 : Shape := ⟨2, ![256, 1024]⟩
abbrev S256x704 : Shape := ⟨2, ![256, 704]⟩
abbrev S1x256x704 : Shape := ⟨3, ![1, 256, 704]⟩

abbrev nBuf : Space → Nat
  | .hbm => 16
  | .vmem => 22
  | .smem => 0
  | _ => 0

abbrev bufTy : (tb : Table) → Fin (tcTables nBuf tb) → BufTy
  | .hbm, ⟨0, _⟩ => ⟨S2048x1024, .f32⟩
  | .hbm, ⟨1, _⟩ => ⟨S3x1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S5632x1024, .f32⟩
  | .hbm, ⟨6, _⟩ => ⟨S8x704x1024, .f32⟩
  | .hbm, ⟨7, _⟩ => ⟨S8x704x1024, .bf16⟩
  | .hbm, ⟨8, _⟩ => ⟨S4x704x1024, .f32⟩
  | .hbm, ⟨9, _⟩ => ⟨S4x704x1024, .bf16⟩
  | .hbm, ⟨10, _⟩ => ⟨S1x1024, .f32⟩
  | .hbm, ⟨11, _⟩ => ⟨S2048x1024, .f32⟩
  | .hbm, ⟨12, _⟩ => ⟨S2048x1024, .f32⟩
  | .hbm, ⟨13, _⟩ => ⟨S4x2048x704, .bf16⟩
  | .hbm, ⟨14, _⟩ => ⟨S4x2048x704, .bf16⟩
  | .hbm, ⟨15, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S3x1024, .f32⟩
  | .local _ .vmem, ⟨3, _⟩ => ⟨S1x1024, .f32⟩
  | .local _ .vmem, ⟨4, _⟩ => ⟨S1x704x1024, .bf16⟩
  | .local _ .vmem, ⟨5, _⟩ => ⟨S1x704x1024, .bf16⟩
  | .local _ .vmem, ⟨6, _⟩ => ⟨S1x704x1024, .bf16⟩
  | .local _ .vmem, ⟨7, _⟩ => ⟨S1x704x1024, .bf16⟩
  | .local _ .vmem, ⟨8, _⟩ => ⟨S1x704x1024, .bf16⟩
  | .local _ .vmem, ⟨9, _⟩ => ⟨S1x704x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S1x512x704, .bf16⟩
  | .local _ .vmem, ⟨15, _⟩ => ⟨S1x512x704, .bf16⟩
  | .local _ .vmem, ⟨16, _⟩ => ⟨S1x512x704, .bf16⟩
  | .local _ .vmem, ⟨17, _⟩ => ⟨S1x512x704, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev main_v6_4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v63 : BitVec 1 := Scalar.cmpi .eq arg1 c3_i32
  let v64 : BitVec 32 := Scalar.extui v63
  let c0_i32_43 : BitVec 32 := 0#32
  let v65 : BitVec 1 := Scalar.cmpi .ne v64 c0_i32_43
  v65

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  let c0_i32_1 : BitVec 32 := 0#32
  ![v0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S3x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x704x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x512x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== FfnFwdReferenceIdeal.lean ====
abbrev S2048x1024 : Shape := ⟨2, ![2048, 1024]⟩
abbrev S3x1024 : Shape := ⟨2, ![3, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x5632 : Shape := ⟨2, ![2048, 5632]⟩
abbrev S2048x2816 : Shape := ⟨2, ![2048, 2816]⟩
abbrev S2048x4x704 : Shape := ⟨3, ![2048, 4, 704]⟩
abbrev S4x2048x704 : Shape := ⟨3, ![4, 2048, 704]⟩

abbrev nBuf : Space → Nat
  | .hbm => 64
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S3x1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1024, .f32⟩
  | .hbm, ⟨17, _⟩ => ⟨S2048x1024, .f32⟩
  | .hbm, ⟨18, _⟩ => ⟨S1x1024, .f32⟩
  | .hbm, ⟨19, _⟩ => ⟨S2048x1024, .f32⟩
  | .hbm, ⟨20, _⟩ => ⟨S2048x1024, .f32⟩
  | .hbm, ⟨21, _⟩ => ⟨S1x1024, .f32⟩
  | .hbm, ⟨22, _⟩ => ⟨S1024, .f32⟩
  | .hbm, ⟨23, _⟩ => ⟨S1x1024, .f32⟩
  | .hbm, ⟨24, _⟩ => ⟨S1024, .f32⟩
  | .hbm, ⟨25, _⟩ => ⟨S_, .f32⟩
  | .hbm, ⟨26, _⟩ => ⟨S1024, .f32⟩
  | .hbm, ⟨27, _⟩ => ⟨S1024, .f32⟩
  | .hbm, ⟨28, _⟩ => ⟨S1x1024, .f32⟩
  | .hbm, ⟨29, _⟩ => ⟨S2048x1024, .f32⟩
  | .hbm, ⟨30, _⟩ => ⟨S2048x1024, .f32⟩
  | .hbm, ⟨31, _⟩ => ⟨S1x1024, .f32⟩
  | .hbm, ⟨32, _⟩ => ⟨S2048x1024, .f32⟩
  | .hbm, ⟨33, _⟩ => ⟨S2048x1024, .f32⟩
  | .hbm, ⟨34, _⟩ => ⟨S2048x5632, .f32⟩
  | .hbm, ⟨35, _⟩ => ⟨S2048x2816, .f32⟩
  | .hbm, ⟨36, _⟩ => ⟨S2048x2816, .f32⟩
  | .hbm, ⟨37, _⟩ => ⟨S2048x2816, .f32⟩
  | .hbm, ⟨38, _⟩ => ⟨S2048x2816, .f32⟩
  | .hbm, ⟨39, _⟩ => ⟨S_, .f32⟩
  | .hbm, ⟨40, _⟩ => ⟨S2048x2816, .f32⟩
  | .hbm, ⟨41, _⟩ => ⟨S2048x2816, .f32⟩
  | .hbm, ⟨42, _⟩ => ⟨S_, .f32⟩
  | .hbm, ⟨43, _⟩ => ⟨S2048x2816, .f32⟩
  | .hbm, ⟨44, _⟩ => ⟨S2048x2816, .f32⟩
  | .hbm, ⟨45, _⟩ => ⟨S2048x2816, .f32⟩
  | .hbm, ⟨46, _⟩ => ⟨S2048x2816, .f32⟩
  | .hbm, ⟨47, _⟩ => ⟨S2048x1024, .f32⟩
  | .hbm, ⟨48, _⟩ => ⟨S1x1024, .f32⟩
  | .hbm, ⟨49, _⟩ => ⟨S1024, .f32⟩
  | .hbm, ⟨50, _⟩ => ⟨S_, .f32⟩
  | .hbm, ⟨51, _⟩ => ⟨S1024, .f32⟩
  | .hbm, ⟨52, _⟩ => ⟨S1024, .f32⟩
  | .hbm, ⟨53, _⟩ => ⟨S1x1024, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S2048x4x704, .f32⟩
  | .hbm, ⟨58, _⟩ => ⟨S4x2048x704, .f32⟩
  | .hbm, ⟨59, _⟩ => ⟨S4x2048x704, .bf16⟩
  | .hbm, ⟨60, _⟩ => ⟨S2048x4x704, .f32⟩
  | .hbm, ⟨61, _⟩ => ⟨S4x2048x704, .f32⟩
  | .hbm, ⟨62, _⟩ => ⟨S4x2048x704, .bf16⟩
  | .hbm, ⟨63, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_3 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩

abbrev nD : Nat := 1
abbrev τ : Topo := Topo.v7x

variable {F : FTy → Type} [FloatOps F]
-- ==== MixInFwdKernel.lean ====
abbrev S2048x1024 : Shape := ⟨2, ![2048, 1024]⟩
abbrev S2x1024 : Shape := ⟨2, ![2, 1024]⟩
abbrev S1024 : Shape := ⟨1, ![1024]⟩
abbrev S1024x1792 : Shape := ⟨2, ![1024, 1792]⟩
abbrev S1x1024 : Shape := ⟨2, ![1, 1024]⟩
abbrev S1792x1024 : Shape := ⟨2, ![1792, 1024]⟩
abbrev S2048x1792 : Shape := ⟨2, ![2048, 1792]⟩
abbrev S512x1024 : Shape := ⟨2, ![512, 1024]⟩
abbrev S512x1792 : Shape := ⟨2, ![512, 1792]⟩
abbrev S512 : Shape := ⟨1, ![512]⟩
abbrev S512x1 : Shape := ⟨2, ![512, 1]⟩

abbrev nBuf : Space → Nat
  | .hbm => 8
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2x1024, .f32⟩
  | .hbm, ⟨2, _⟩ => ⟨S1024, .f32⟩
  | .hbm, ⟨3, _⟩ => ⟨S1024x1792, .f32⟩
  | .hbm, ⟨4, _⟩ => ⟨S1x1024, .f32⟩
  | .hbm, ⟨5, _⟩ => ⟨S1792x1024, .f32⟩
  | .hbm, ⟨6, _⟩ => ⟨S1792x1024, .bf16⟩
  | .hbm, ⟨7, _⟩ => ⟨S2048x1792, .f32⟩
  | .local _ .vmem, ⟨0, _⟩ => ⟨S512x1024, .f32⟩
  | .local _ .vmem, ⟨1, _⟩ => ⟨S512x1024, .f32⟩
  | .local _ .vmem, ⟨2, _⟩ => ⟨S2x1024, .f32⟩
  | .local _ .vmem, ⟨3, _⟩ => ⟨S1x1024, .f32⟩
  | .local _ .vmem, ⟨4, _⟩ => ⟨S1792x1024, .bf16⟩
  | .local _ .vmem, ⟨5, _⟩ => ⟨S512x1792, .f32⟩
  | .local _ .vmem, ⟨6, _⟩ => ⟨S512x1792, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1792x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1792 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MixInFwdReferenceIdeal.lean ====
abbrev S2048x1024 : Shape := ⟨2, ![2048, 1024]⟩
abbrev S2x1024 : Shape := ⟨2, ![2, 1024]⟩
abbrev S1024 : Shape := ⟨1, ![1024]⟩
abbrev S1024x1792 : Shape := ⟨2, ![1024, 1792]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x1792 : Shape := ⟨2, ![2048, 1792]⟩

abbrev nBuf : Space → Nat
  | .hbm => 34
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2x1024, .f32⟩
  | .hbm, ⟨2, _⟩ => ⟨S1024, .f32⟩
  | .hbm, ⟨3, _⟩ => ⟨S1024x1792, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S1x1024, .f32⟩
  | .hbm, ⟨18, _⟩ => ⟨S2048x1024, .f32⟩
  | .hbm, ⟨19, _⟩ => ⟨S2048x1024, .f32⟩
  | .hbm, ⟨20, _⟩ => ⟨S1x1024, .f32⟩
  | .hbm, ⟨21, _⟩ => ⟨S1024, .f32⟩
  | .hbm, ⟨22, _⟩ => ⟨S1x1024, .f32⟩
  | .hbm, ⟨23, _⟩ => ⟨S1024, .f32⟩
  | .hbm, ⟨24, _⟩ => ⟨S_, .f32⟩
  | .hbm, ⟨25, _⟩ => ⟨S1024, .f32⟩
  | .hbm, ⟨26, _⟩ => ⟨S1024, .f32⟩
  | .hbm, ⟨27, _⟩ => ⟨S1x1024, .f32⟩
  | .hbm, ⟨28, _⟩ => ⟨S2048x1024, .f32⟩
  | .hbm, ⟨29, _⟩ => ⟨S2048x1024, .f32⟩
  | .hbm, ⟨30, _⟩ => ⟨S1x1024, .f32⟩
  | .hbm, ⟨31, _⟩ => ⟨S2048x1024, .f32⟩
  | .hbm, ⟨32, _⟩ => ⟨S2048x1024, .f32⟩
  | .hbm, ⟨33, _⟩ => ⟨S2048x1792, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== MixInBwdKernel.lean ====
abbrev S2048x1792 : Shape := ⟨2, ![2048, 1792]⟩
abbrev S2048x1024 : Shape := ⟨2, ![2048, 1024]⟩
abbrev S2x1024 : Shape := ⟨2, ![2, 1024]⟩
abbrev S1024 : Shape := ⟨1, ![1024]⟩
abbrev S1024x1792 : Shape := ⟨2, ![1024, 1792]⟩
abbrev S2048x512 : Shape := ⟨2, ![2048, 512]⟩
abbrev S2048x256 : Shape := ⟨2, ![2048, 256]⟩
abbrev S2048x768 : Shape := ⟨2, ![2048, 768]⟩
abbrev S1x1024 : Shape := ⟨2, ![1, 1024]⟩
abbrev S1792x1024 : Shape := ⟨2, ![1792, 1024]⟩
abbrev S8x1024 : Shape := ⟨2, ![8, 1024]⟩
abbrev S512x512 : Shape := ⟨2, ![512, 512]⟩
abbrev S512x256 : Shape := ⟨2, ![512, 256]⟩
abbrev S512x768 : Shape := ⟨2, ![512, 768]⟩
abbrev S512x1024 : Shape := ⟨2, ![512, 1024]⟩
abbrev S512x1792 : Shape := ⟨2, ![512, 1792]⟩
abbrev S512 : Shape := ⟨1, ![512]⟩
abbrev S512x1 : Shape := ⟨2, ![512, 1]⟩
abbrev S256x1024 : Shape := ⟨2, ![256, 1024]⟩
abbrev S768x1024 : Shape := ⟨2, ![768, 1024]⟩

abbrev nBuf : Space → Nat
  | .hbm => 17
  | .vmem => 22
  | .smem => 0
  | _ => 0

abbrev bufTy : (tb : Table) → Fin (tcTables nBuf tb) → BufTy
  | .hbm, ⟨0, _⟩ => ⟨S2048x1792, .f32⟩
  | .hbm, ⟨1, _⟩ => ⟨S2048x1024, .f32⟩
  | .hbm, ⟨2, _⟩ => ⟨S2048x1024, .f32⟩
  | .hbm, ⟨3, _⟩ => ⟨S2x1024, .f32⟩
  | .hbm, ⟨4, _⟩ => ⟨S1024, .f32⟩
  | .hbm, ⟨5, _⟩ => ⟨S1024x1792, .f32⟩
  | .hbm, ⟨6, _⟩ => ⟨S2048x512, .f32⟩
  | .hbm, ⟨7, _⟩ => ⟨S2048x256, .f32⟩
  | .hbm, ⟨8, _⟩ => ⟨S2048x768, .f32⟩
  | .hbm, ⟨9, _⟩ => ⟨S2048x256, .f32⟩
  | .hbm, ⟨10, _⟩ => ⟨S1x1024, .f32⟩
  | .hbm, ⟨11, _⟩ => ⟨S1792x1024, .f32⟩
  | .hbm, ⟨12, _⟩ => ⟨S1792x1024, .bf16⟩
  | .hbm, ⟨13, _⟩ => ⟨S2048x1024, .f32⟩
  | .hbm, ⟨14, _⟩ => ⟨S2048x1024, .bf16⟩
  | .hbm, ⟨15, _⟩ => ⟨S2048x1792, .bf16⟩
  | .hbm, ⟨16, _⟩ => ⟨S8x1024, .f32⟩
  | .local _ .vmem, ⟨0, _⟩ => ⟨S512x512, .f32⟩
  | .local _ .vmem, ⟨1, _⟩ => ⟨S512x512, .f32⟩
  | .local _ .vmem, ⟨2, _⟩ => ⟨S512x256, .f32⟩
  | .local _ .vmem, ⟨3, _⟩ => ⟨S512x256, .f32⟩
  | .local _ .vmem, ⟨4, _⟩ => ⟨S512x768, .f32⟩
  | .local _ .vmem, ⟨5, _⟩ => ⟨S512x768, .f32⟩
  | .local _ .vmem, ⟨6, _⟩ => ⟨S512x256, .f32⟩
  | .local _ .vmem, ⟨7, _⟩ => ⟨S512x256, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S2x1024, .f32⟩
  | .local _ .vmem, ⟨13, _⟩ => ⟨S1x1024, .f32⟩
  | .local _ .vmem, ⟨14, _⟩ => ⟨S1792x1024, .bf16⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | .local _ .vmem, ⟨19, _⟩ => ⟨S512x1792, .bf16⟩
  | .local _ .vmem, ⟨20, _⟩ => ⟨S512x1792, .bf16⟩
  | .local _ .vmem, ⟨21, _⟩ => ⟨S8x1024, .f32⟩
  | _, _ => ⟨S2048x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_v7_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1792x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1792 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== MixInBwdReferenceIdeal.lean ====
abbrev S2048x1792 : Shape := ⟨2, ![2048, 1792]⟩
abbrev S2048x1024 : Shape := ⟨2, ![2048, 1024]⟩
abbrev S2x1024 : Shape := ⟨2, ![2, 1024]⟩
abbrev S1024 : Shape := ⟨1, ![1024]⟩
abbrev S1024x1792 : Shape := ⟨2, ![1024, 1792]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S5x1024 : Shape := ⟨2, ![5, 1024]⟩
abbrev S8x1024 : Shape := ⟨2, ![8, 1024]⟩

abbrev nBuf : Space → Nat
  | .hbm => 93
  | .vmem => 0
  | .smem => 0
  | _ => 0

abbrev bufTy : (tb : Table) → Fin (tcTables nBuf tb) → BufTy
  | .hbm, ⟨0, _⟩ => ⟨S2048x1792, .f32⟩
  | .hbm, ⟨1, _⟩ => ⟨S2048x1024, .f32⟩
  | .hbm, ⟨2, _⟩ => ⟨S2048x1024, .f32⟩
  | .hbm, ⟨3, _⟩ => ⟨S2x1024, .f32⟩
  | .hbm, ⟨4, _⟩ => ⟨S1024, .f32⟩
  | .hbm, ⟨5, _⟩ => ⟨S1024x1792, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1024, .f32⟩
  | .hbm, ⟨22, _⟩ => ⟨S2048x1024, .f32⟩
  | .hbm, ⟨23, _⟩ => ⟨S1x1024, .f32⟩
  | .hbm, ⟨24, _⟩ => ⟨S2048x1024, .f32⟩
  | .hbm, ⟨25, _⟩ => ⟨S2048x1024, .f32⟩
  | .hbm, ⟨26, _⟩ => ⟨S1x1024, .f32⟩
  | .hbm, ⟨27, _⟩ => ⟨S1024, .f32⟩
  | .hbm, ⟨28, _⟩ => ⟨S1x1024, .f32⟩
  | .hbm, ⟨29, _⟩ => ⟨S1024, .f32⟩
  | .hbm, ⟨30, _⟩ => ⟨S_, .f32⟩
  | .hbm, ⟨31, _⟩ => ⟨S1024, .f32⟩
  | .hbm, ⟨32, _⟩ => ⟨S1024, .f32⟩
  | .hbm, ⟨33, _⟩ => ⟨S1x1024, .f32⟩
  | .hbm, ⟨34, _⟩ => ⟨S2048x1024, .f32⟩
  | .hbm, ⟨35, _⟩ => ⟨S2048x1024, .f32⟩
  | .hbm, ⟨36, _⟩ => ⟨S1x1024, .f32⟩
  | .hbm, ⟨37, _⟩ => ⟨S2048x1024, .f32⟩
  | .hbm, ⟨38, _⟩ => ⟨S2048x1024, .f32⟩
  | .hbm, ⟨39, _⟩ => ⟨S2048x1792, .f32⟩
  | .hbm, ⟨40, _⟩ => ⟨S2048x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S_, .f32⟩
  | .hbm, ⟨45, _⟩ => ⟨S1024, .f32⟩
  | .hbm, ⟨46, _⟩ => ⟨S2048x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S2048x1024, .f32⟩
  | .hbm, ⟨51, _⟩ => ⟨S2048x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S_, .f32⟩
  | .hbm, ⟨56, _⟩ => ⟨S2x1024, .f32⟩
  | .hbm, ⟨57, _⟩ => ⟨S1x1024, .f32⟩
  | .hbm, ⟨58, _⟩ => ⟨S_, .f32⟩
  | .hbm, ⟨59, _⟩ => ⟨S2x1024, .f32⟩
  | .hbm, ⟨60, _⟩ => ⟨S2x1024, .f32⟩
  | .hbm, ⟨61, _⟩ => ⟨S2048x1024, .f32⟩
  | .hbm, ⟨62, _⟩ => ⟨S_, .f32⟩
  | .hbm, ⟨63, _⟩ => ⟨S1024, .f32⟩
  | .hbm, ⟨64, _⟩ => ⟨S1x1024, .f32⟩
  | .hbm, ⟨65, _⟩ => ⟨S2048x1024, .f32⟩
  | .hbm, ⟨66, _⟩ => ⟨S2048x1024, .f32⟩
  | .hbm, ⟨67, _⟩ => ⟨S_, .f32⟩
  | .hbm, ⟨68, _⟩ => ⟨S1024, .f32⟩
  | .hbm, ⟨69, _⟩ => ⟨S2048x1024, .f32⟩
  | .hbm, ⟨70, _⟩ => ⟨S_, .f32⟩
  | .hbm, ⟨71, _⟩ => ⟨S2048, .f32⟩
  | .hbm, ⟨72, _⟩ => ⟨S2048x1, .f32⟩
  | .hbm, ⟨73, _⟩ => ⟨S2048x1024, .f32⟩
  | .hbm, ⟨74, _⟩ => ⟨S2048x1024, .f32⟩
  | .hbm, ⟨75, _⟩ => ⟨S2048x1024, .f32⟩
  | .hbm, ⟨76, _⟩ => ⟨S2048x1, .f32⟩
  | .hbm, ⟨77, _⟩ => ⟨S_, .f32⟩
  | .hbm, ⟨78, _⟩ => ⟨S2048x1, .f32⟩
  | .hbm, ⟨79, _⟩ => ⟨S2048x1, .f32⟩
  | .hbm, ⟨80, _⟩ => ⟨S_, .f32⟩
  | .hbm, ⟨81, _⟩ => ⟨S2048, .f32⟩
  | .hbm, ⟨82, _⟩ => ⟨S2048x1024, .f32⟩
  | .hbm, ⟨83, _⟩ => ⟨S2048x1024, .f32⟩
  | .hbm, ⟨84, _⟩ => ⟨S2048x1024, .f32⟩
  | .hbm, ⟨85, _⟩ => ⟨S2048x1024, .f32⟩
  | .hbm, ⟨86, _⟩ => ⟨S2048x1024, .f32⟩
  | .hbm, ⟨87, _⟩ => ⟨S1x1024, .f32⟩
  | .hbm, ⟨88, _⟩ => ⟨S_, .f32⟩
  | .hbm, ⟨89, _⟩ => ⟨S5x1024, .f32⟩
  | .hbm, ⟨90, _⟩ => ⟨S8x1024, .f32⟩
  | .hbm, ⟨91, _⟩ => ⟨S2048x1024, .bf16⟩
  | .hbm, ⟨92, _⟩ => ⟨S2048x1792, .bf16⟩
  | _, _ => ⟨S2048x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_cst_9 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_10 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_11 : Ref sig .tc := ⟨.hbm, 67, rfl⟩
abbrev main_v49 : Ref sig .tc := ⟨.hbm, 68, rfl⟩
abbrev main_v50 : Ref sig .tc := ⟨.hbm, 69, rfl⟩
abbrev main_cst_12 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_13 : Ref sig .tc := ⟨.hbm, 77, rfl⟩
abbrev main_v57 : Ref sig .tc := ⟨.hbm, 78, rfl⟩
abbrev main_v58 : Ref sig .tc := ⟨.hbm, 79, rfl⟩
abbrev main_cst_14 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_15 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩

abbrev nD : Nat := 1
abbrev τ : Topo := Topo.v7x

variable {F : FTy → Type} [FloatOps F]
-- ==== MixOutFwdKernel.lean ====
abbrev S2048x1024 : Shape := ⟨2, ![2048, 1024]⟩
abbrev S2048x256 : Shape := ⟨2, ![2048, 256]⟩
abbrev S1024 : Shape := ⟨1, ![1024]⟩
abbrev S1024x1024 : Shape := ⟨2, ![1024, 1024]⟩
abbrev S1x1024 : Shape := ⟨2, ![1, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S1x256 : Shape := ⟨2, ![1, 256]⟩
abbrev S256x1024 : Shape := ⟨2, ![256, 1024]⟩

abbrev nBuf : Space → Nat
  | .hbm => 13
  | .vmem => 17
  | .smem => 0
  | _ => 0

abbrev bufTy : (tb : Table) → Fin (tcTables nBuf tb) → BufTy
  | .hbm, ⟨0, _⟩ => ⟨S2048x1024, .f32⟩
  | .hbm, ⟨1, _⟩ => ⟨S2048x256, .f32⟩
  | .hbm, ⟨2, _⟩ => ⟨S2048x256, .f32⟩
  | .hbm, ⟨3, _⟩ => ⟨S2048x256, .f32⟩
  | .hbm, ⟨4, _⟩ => ⟨S2048x256, .f32⟩
  | .hbm, ⟨5, _⟩ => ⟨S1024, .f32⟩
  | .hbm, ⟨6, _⟩ => ⟨S1024, .f32⟩
  | .hbm, ⟨7, _⟩ => ⟨S1024x1024, .f32⟩
  | .hbm, ⟨8, _⟩ => ⟨S1x1024, .f32⟩
  | .hbm, ⟨9, _⟩ => ⟨S1x1024, .f32⟩
  | .hbm, ⟨10, _⟩ => ⟨S1024x1024, .bf16⟩
  | .hbm, ⟨11, _⟩ => ⟨S2048x1024, .f32⟩
  | .hbm, ⟨12, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S1x1024, .f32⟩
  | .local _ .vmem, ⟨11, _⟩ => ⟨S1x1024, .f32⟩
  | .local _ .vmem, ⟨12, _⟩ => ⟨S1024x1024, .bf16⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MixOutFwdReferenceIdeal.lean ====
abbrev S2048x1024 : Shape := ⟨2, ![2048, 1024]⟩
abbrev S2048x256 : Shape := ⟨2, ![2048, 256]⟩
abbrev S1024 : Shape := ⟨1, ![1024]⟩
abbrev S1024x1024 : Shape := ⟨2, ![1024, 1024]⟩
abbrev S2048x4x256 : Shape := ⟨3, ![2048, 4, 256]⟩
abbrev S_ : Shape := ⟨0, ![]⟩
abbrev S2048x4 : Shape := ⟨2, ![2048, 4]⟩
abbrev S2048x4x1 : Shape := ⟨3, ![2048, 4, 1]⟩
abbrev S1x1024 : Shape := ⟨2, ![1, 1024]⟩

abbrev nBuf : Space → Nat
  | .hbm => 32
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x256, .f32⟩
  | .hbm, ⟨2, _⟩ => ⟨S2048x256, .f32⟩
  | .hbm, ⟨3, _⟩ => ⟨S2048x256, .f32⟩
  | .hbm, ⟨4, _⟩ => ⟨S2048x256, .f32⟩
  | .hbm, ⟨5, _⟩ => ⟨S1024, .f32⟩
  | .hbm, ⟨6, _⟩ => ⟨S1024, .f32⟩
  | .hbm, ⟨7, _⟩ => ⟨S1024x1024, .f32⟩
  | .hbm, ⟨8, _⟩ => ⟨S2048x1024, .f32⟩
  | .hbm, ⟨9, _⟩ => ⟨S2048x4x256, .f32⟩
  | .hbm, ⟨10, _⟩ => ⟨S2048x4x256, .f32⟩
  | .hbm, ⟨11, _⟩ => ⟨S_, .f32⟩
  | .hbm, ⟨12, _⟩ => ⟨S2048x4, .f32⟩
  | .hbm, ⟨13, _⟩ => ⟨S2048x4x1, .f32⟩
  | .hbm, ⟨14, _⟩ => ⟨S_, .f32⟩
  | .hbm, ⟨15, _⟩ => ⟨S2048x4x1, .f32⟩
  | .hbm, ⟨16, _⟩ => ⟨S2048x4x1, .f32⟩
  | .hbm, ⟨17, _⟩ => ⟨S_, .f32⟩
  | .hbm, ⟨18, _⟩ => ⟨S2048x4x1, .f32⟩
  | .hbm, ⟨19, _⟩ => ⟨S2048x4x1, .f32⟩
  | .hbm, ⟨20, _⟩ => ⟨S2048x4x1, .f32⟩
  | .hbm, ⟨21, _⟩ => ⟨S2048x4x256, .f32⟩
  | .hbm, ⟨22, _⟩ => ⟨S2048x4x256, .f32⟩
  | .hbm, ⟨23, _⟩ => ⟨S2048x1024, .f32⟩
  | .hbm, ⟨24, _⟩ => ⟨S1x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S1x1024, .f32⟩
  | .hbm, ⟨29, _⟩ => ⟨S2048x1024, .f32⟩
  | .hbm, ⟨30, _⟩ => ⟨S2048x1024, .f32⟩
  | .hbm, ⟨31, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩

abbrev nD : Nat := 1
abbrev τ : Topo := Topo.v7x

variable {F : FTy → Type} [FloatOps F]
-- ==== AdamAdaKernel.lean ====
abbrev S4096x1152 : Shape := ⟨2, ![4096, 1152]⟩
abbrev S1x4096x1152 : Shape := ⟨3, ![1, 4096, 1152]⟩
abbrev S512x1152 : Shape := ⟨2, ![512, 1152]⟩
abbrev S1x512x1152 : Shape := ⟨3, ![1, 512, 1152]⟩

abbrev nBuf : Space → Nat
  | .hbm => 9
  | .vmem => 16
  | .smem => 0
  | _ => 0

abbrev bufTy : (tb : Table) → Fin (tcTables nBuf tb) → BufTy
  | .hbm, ⟨0, _⟩ => ⟨S4096x1152, .f32⟩
  | .hbm, ⟨1, _⟩ => ⟨S4096x1152, .f32⟩
  | .hbm, ⟨2, _⟩ => ⟨S4096x1152, .f32⟩
  | .hbm, ⟨3, _⟩ => ⟨S4096x1152, .f32⟩
  | .hbm, ⟨4, _⟩ => ⟨S1x4096x1152, .f32⟩
  | .hbm, ⟨5, _⟩ => ⟨S4096x1152, .f32⟩
  | .hbm, ⟨6, _⟩ => ⟨S4096x1152, .f32⟩
  | .hbm, ⟨7, _⟩ => ⟨S4096x1152, .f32⟩
  | .hbm, ⟨8, _⟩ => ⟨S4096x1152, .f32⟩
  | .local _ .vmem, ⟨0, _⟩ => ⟨S512x1152, .f32⟩
  | .local _ .vmem, ⟨1, _⟩ => ⟨S512x1152, .f32⟩
  | .local _ .vmem, ⟨2, _⟩ => ⟨S1x512x1152, .f32⟩
  | .local _ .vmem, ⟨3, _⟩ => ⟨S1x512x1152, .f32⟩
  | .local _ .vmem, ⟨4, _⟩ => ⟨S512x1152, .f32⟩
  | .local _ .vmem, ⟨5, _⟩ => ⟨S512x1152, .f32⟩
  | .local _ .vmem, ⟨6, _⟩ => ⟨S512x1152, .f32⟩
  | .local _ .vmem, ⟨7, _⟩ => ⟨S512x1152, .f32⟩
  | .local _ .vmem, ⟨8, _⟩ => ⟨S512x1152, .f32⟩
  | .local _ .vmem, ⟨9, _⟩ => ⟨S512x1152, .f32⟩
  | .local _ .vmem, ⟨10, _⟩ => ⟨S512x1152, .f32⟩
  | .local _ .vmem, ⟨11, _⟩ => ⟨S512x1152, .f32⟩
  | .local _ .vmem, ⟨12, _⟩ => ⟨S512x1152, .f32⟩
  | .local _ .vmem, ⟨13, _⟩ => ⟨S512x1152, .f32⟩
  | .local _ .vmem, ⟨14, _⟩ => ⟨S512x1152, .f32⟩
  | .local _ .vmem, ⟨15, _⟩ => ⟨S512x1152, .f32⟩
  | _, _ => ⟨S4096x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1152 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1152 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1152 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamAdaReferenceIdeal.lean ====
abbrev S4096x1152 : Shape := ⟨2, ![4096, 1152]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x1152, .f32⟩
  | .hbm, ⟨1, _⟩ => ⟨S4096x1152, .f32⟩
  | .hbm, ⟨2, _⟩ => ⟨S4096x1152, .f32⟩
  | .hbm, ⟨3, _⟩ => ⟨S4096x1152, .f32⟩
  | .hbm, ⟨4, _⟩ => ⟨S_, .f32⟩
  | .hbm, ⟨5, _⟩ => ⟨S4096x1152, .f32⟩
  | .hbm, ⟨6, _⟩ => ⟨S4096x1152, .f32⟩
  | .hbm, ⟨7, _⟩ => ⟨S_, .f32⟩
  | .hbm, ⟨8, _⟩ => ⟨S4096x1152, .f32⟩
  | .hbm, ⟨9, _⟩ => ⟨S4096x1152, .f32⟩
  | .hbm, ⟨10, _⟩ => ⟨S4096x1152, .f32⟩
  | .hbm, ⟨11, _⟩ => ⟨S_, .f32⟩
  | .hbm, ⟨12, _⟩ => ⟨S4096x1152, .f32⟩
  | .hbm, ⟨13, _⟩ => ⟨S4096x1152, .f32⟩
  | .hbm, ⟨14, _⟩ => ⟨S4096x1152, .f32⟩
  | .hbm, ⟨15, _⟩ => ⟨S_, .f32⟩
  | .hbm, ⟨16, _⟩ => ⟨S4096x1152, .f32⟩
  | .hbm, ⟨17, _⟩ => ⟨S4096x1152, .f32⟩
  | .hbm, ⟨18, _⟩ => ⟨S4096x1152, .f32⟩
  | .hbm, ⟨19, _⟩ => ⟨S_, .f32⟩
  | .hbm, ⟨20, _⟩ => ⟨S4096x1152, .f32⟩
  | .hbm, ⟨21, _⟩ => ⟨S4096x1152, .f32⟩
  | .hbm, ⟨22, _⟩ => ⟨S_, .f32⟩
  | .hbm, ⟨23, _⟩ => ⟨S4096x1152, .f32⟩
  | .hbm, ⟨24, _⟩ => ⟨S4096x1152, .f32⟩
  | .hbm, ⟨25, _⟩ => ⟨S4096x1152, .f32⟩
  | .hbm, ⟨26, _⟩ => ⟨S_, .f32⟩
  | .hbm, ⟨27, _⟩ => ⟨S4096x1152, .f32⟩
  | .hbm, ⟨28, _⟩ => ⟨S4096x1152, .f32⟩
  | .hbm, ⟨29, _⟩ => ⟨S4096x1152, .f32⟩
  | .hbm, ⟨30, _⟩ => ⟨S_, .f32⟩
  | .hbm, ⟨31, _⟩ => ⟨S4096x1152, .f32⟩
  | .hbm, ⟨32, _⟩ => ⟨S4096x1152, .f32⟩
  | .hbm, ⟨33, _⟩ => ⟨S4096x1152, .f32⟩
  | .hbm, ⟨34, _⟩ => ⟨S_, .f32⟩
  | .hbm, ⟨35, _⟩ => ⟨S4096x1152, .f32⟩
  | .hbm, ⟨36, _⟩ => ⟨S4096x1152, .f32⟩
  | _, _ => ⟨S4096x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSmallKernel.lean ====
abbrev S704x1024 : Shape := ⟨2, ![704, 1024]⟩
abbrev S1x704x1024 : Shape := ⟨3, ![1, 704, 1024]⟩
abbrev S64x1024 : Shape := ⟨2, ![64, 1024]⟩
abbrev S1x64x1024 : Shape := ⟨3, ![1, 64, 1024]⟩

abbrev nBuf : Space → Nat
  | .hbm => 9
  | .vmem => 16
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S1x704x1024, .f32⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S704x1024, .f32⟩
  | .local _ .vmem, ⟨0, _⟩ => ⟨S64x1024, .f32⟩
  | .local _ .vmem, ⟨1, _⟩ => ⟨S64x1024, .f32⟩
  | .local _ .vmem, ⟨2, _⟩ => ⟨S1x64x1024, .f32⟩
  | .local _ .vmem, ⟨3, _⟩ => ⟨S1x64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S64x1024, .f32⟩
  | .local _ .vmem, ⟨15, _⟩ => ⟨S64x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamSmallReferenceIdeal.lean ====
abbrev S704x1024 : Shape := ⟨2, ![704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S_, .f32⟩
  | .hbm, ⟨5, _⟩ => ⟨S704x1024, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S_, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S704x1024, .f32⟩
  | .hbm, ⟨26, _⟩ => ⟨S_, .f32⟩
  | .hbm, ⟨27, _⟩ => ⟨S704x1024, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== CondBwdKernel.lean ====
abbrev S8x1024 : Shape := ⟨2, ![8, 1024]⟩
abbrev S4x8x1152 : Shape := ⟨3, ![4, 8, 1152]⟩
abbrev S4x8x9216 : Shape := ⟨3, ![4, 8, 9216]⟩
abbrev S1024x8 : Shape := ⟨2, ![1024, 8]⟩
abbrev S4x1024x1152 : Shape := ⟨3, ![4, 1024, 1152]⟩
abbrev S4x1x9216 : Shape := ⟨3, ![4, 1, 9216]⟩
abbrev S1x8x1152 : Shape := ⟨3, ![1, 8, 1152]⟩
abbrev S1x8x9216 : Shape := ⟨3, ![1, 8, 9216]⟩
abbrev S1x1024x1152 : Shape := ⟨3, ![1, 1024, 1152]⟩
abbrev S1x1x9216 : Shape := ⟨3, ![1, 1, 9216]⟩
abbrev S8x1152 : Shape := ⟨2, ![8, 1152]⟩
abbrev S1024x1 : Shape := ⟨2, ![1024, 1]⟩
abbrev S1x1152 : Shape := ⟨2, ![1, 1152]⟩
abbrev S1024x1152 : Shape := ⟨2, ![1024, 1152]⟩
abbrev S8x9216 : Shape := ⟨2, ![8, 9216]⟩
abbrev S9216 : Shape := ⟨1, ![9216]⟩
abbrev S1x9216 : Shape := ⟨2, ![1, 9216]⟩

abbrev nBuf : Space → Nat
  | .hbm => 6
  | .vmem => 9
  | .smem => 0
  | _ => 0

abbrev bufTy : (tb : Table) → Fin (tcTables nBuf tb) → BufTy
  | .hbm, ⟨0, _⟩ => ⟨S8x1024, .f32⟩
  | .hbm, ⟨1, _⟩ => ⟨S4x8x1152, .f32⟩
  | .hbm, ⟨2, _⟩ => ⟨S4x8x9216, .f32⟩
  | .hbm, ⟨3, _⟩ => ⟨S1024x8, .f32⟩
  | .hbm, ⟨4, _⟩ => ⟨S4x1024x1152, .f32⟩
  | .hbm, ⟨5, _⟩ => ⟨S4x1x9216, .f32⟩
  | .local _ .vmem, ⟨0, _⟩ => ⟨S1024x8, .f32⟩
  | .local _ .vmem, ⟨1, _⟩ => ⟨S1x8x1152, .f32⟩
  | .local _ .vmem, ⟨2, _⟩ => ⟨S1x8x1152, .f32⟩
  | .local _ .vmem, ⟨3, _⟩ => ⟨S1x8x9216, .f32⟩
  | .local _ .vmem, ⟨4, _⟩ => ⟨S1x8x9216, .f32⟩
  | .local _ .vmem, ⟨5, _⟩ => ⟨S1x1024x1152, .f32⟩
  | .local _ .vmem, ⟨6, _⟩ => ⟨S1x1024x1152, .f32⟩
  | .local _ .vmem, ⟨7, _⟩ => ⟨S1x1x9216, .f32⟩
  | .local _ .vmem, ⟨8, _⟩ => ⟨S1x1x9216, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1024x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x8x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x9216 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x9216 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== CondBwdReferenceIdeal.lean ====
abbrev S8x1024 : Shape := ⟨2, ![8, 1024]⟩
abbrev S4x8x1152 : Shape := ⟨3, ![4, 8, 1152]⟩
abbrev S4x8x9216 : Shape := ⟨3, ![4, 8, 9216]⟩
abbrev S_ : Shape := ⟨0, ![]⟩
abbrev S4x1024x1152 : Shape := ⟨3, ![4, 1024, 1152]⟩
abbrev S4x1x9216 : Shape := ⟨3, ![4, 1, 9216]⟩
abbrev S8x4x1152 : Shape := ⟨3, ![8, 4, 1152]⟩
abbrev S4x1152x1024 : Shape := ⟨3, ![4, 1152, 1024]⟩
abbrev S4x9216 : Shape := ⟨2, ![4, 9216]⟩

abbrev nBuf : Space → Nat
  | .hbm => 25
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S4x8x1152, .f32⟩
  | .hbm, ⟨2, _⟩ => ⟨S4x8x9216, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S_, .f32⟩
  | .hbm, ⟨13, _⟩ => ⟨S4x1024x1152, .f32⟩
  | .hbm, ⟨14, _⟩ => ⟨S_, .f32⟩
  | .hbm, ⟨15, _⟩ => ⟨S4x1x9216, .f32⟩
  | .hbm, ⟨16, _⟩ => ⟨S8x4x1152, .f32⟩
  | .hbm, ⟨17, _⟩ => ⟨S4x8x1152, .f32⟩
  | .hbm, ⟨18, _⟩ => ⟨S8x4x1152, .f32⟩
  | .hbm, ⟨19, _⟩ => ⟨S4x1152x1024, .f32⟩
  | .hbm, ⟨20, _⟩ => ⟨S4x1024x1152, .f32⟩
  | .hbm, ⟨21, _⟩ => ⟨S4x8x9216, .f32⟩
  | .hbm, ⟨22, _⟩ => ⟨S_, .f32⟩
  | .hbm, ⟨23, _⟩ => ⟨S4x9216, .f32⟩
  | .hbm, ⟨24, _⟩ => ⟨S4x1x9216, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩

abbrev nD : Nat := 1
abbrev τ : Topo := Topo.v7x

variable {F : FTy → Type} [FloatOps F]
-- ==== Proof.Conv.lean ====
module

public import proofs.«01_k».proof.Defs
public import proofs.«01_k».proof.Proof.Gen.ConvKernelIdeal.Value
public import proofs.«01_k».proof.Proof.Gen.ConvReferenceIdeal.Run
public import proofs.«01_k».proof.Proof.Gen.ConvReferenceIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proof.Conv

open Cert.ConvKernelIdeal Cert.ConvKernelIdeal.Gen

variable (m : (ℓ : Loc nD τ sig) → Buf (Elt Ideal) ℓ)

theorem idx0 : ∀ t : Fin cfg0.N, win0_0.index t = ![0, 1] :=
  (by decide +kernel : ∀ t : Fin grid0.N, win0_0.index t = ![0, 1])
theorem idx1 : ∀ t : Fin cfg0.N, win0_1.index t = ![0, 0] :=
  (by decide +kernel : ∀ t : Fin grid0.N, win0_1.index t = ![0, 0])
theorem idx2 : ∀ t : Fin cfg0.N, win0_2.index t = ![0, 0] :=
  (by decide +kernel : ∀ t : Fin grid0.N, win0_2.index t = ![0, 0])
theorem idx3 : ∀ t : Fin cfg0.N, win0_3.index t = ![0, 0] :=
  (by decide +kernel : ∀ t : Fin grid0.N, win0_3.index t = ![0, 0])
theorem idx4 : ∀ t : Fin cfg0.N, win0_4.index t = ![0, 0] :=
  (by decide +kernel : ∀ t : Fin grid0.N, win0_4.index t = ![0, 0])

theorem blk1 (c : Dev nD) (t : Fin cfg0.N) : iblk m c 1 t = m ((c : Thread nD τ).loc main_arg1) := by
  funext (i : S2048x256.Idx)
  idx_vars i
  blk_ext [iblk, V, idx1 t]

theorem blk2 (c : Dev nD) (t : Fin cfg0.N) : iblk m c 2 t = m ((c : Thread nD τ).loc main_arg2) := by
  funext (i : S3x256.Idx)
  idx_vars i
  blk_ext [iblk, V, idx2 t]

theorem blk0 (c : Dev nD) (t : Fin cfg0.N) (a : Fin 2048) (b : Fin 768) :
    X0_0 m c t (ix2 a b) = m ((c : Thread nD τ).loc main_arg0) (ix2 a ⟨768 + b, by omega⟩) := by
  unfold X0_0 Pipeline.Window.fill
  rw [dif_pos (moved0_0 t _)]
  blk_ext [iblk, V, idx0 t]

/-! ## The arithmetic, stage by stage: the kernel's vectors are the reference's -/

open Cert.ConvReferenceIdeal.Read in
theorem y_eq (z : FVec Ideal S2048x1792 .f32) : k0_pay3 (val_main_v0 (F := Ideal) z) = val_main_v4 (F := Ideal) z := rfl

open Cert.ConvReferenceIdeal.Read in
theorem y2_eq (z : FVec Ideal S2048x1792 .f32) : k0_pay4 (val_main_v0 (F := Ideal) z) = val_main_v11 (F := Ideal) z := by
  funext (i : S2048x256.Idx)
  idx_vars i
  unfold k0_pay4 val_main_v11 val_main_v10
  rw [y_eq]
  generalize val_main_v4 (F := Ideal) z = y
  pointwise [val_main_v9, val_main_cst_1]
  word_cmp
  obtain ⟨a, ha⟩ := i0
  dsimp only
  by_cases g : a < 2
  · rw [if_neg (by omega), dif_pos g]
  · have e : (a + 2048 - 2) % 2048 = a - 2 := by omega
    rw [if_pos (by omega), dif_neg g]
    simp only [e]

open Cert.ConvReferenceIdeal.Read in
theorem y1_eq (z : FVec Ideal S2048x1792 .f32) : k0_pay5 (val_main_v0 (F := Ideal) z) = val_main_v7 (F := Ideal) z := by
  funext (i : S2048x256.Idx)
  idx_vars i
  unfold k0_pay5 val_main_v7 val_main_v6
  rw [y_eq]
  generalize val_main_v4 (F := Ideal) z = y
  pointwise [val_main_v5, val_main_cst]
  word_cmp
  obtain ⟨a, ha⟩ := i0
  dsimp only
  by_cases g : a < 1
  · rw [if_neg (by omega), dif_pos g]
  · have e : (a + 2048 - 1) % 2048 = a - 1 := by omega
    rw [if_pos (by omega), dif_neg g]
    simp only [e]

/-- Row `r` of the weights as the kernel loads it. -/
abbrev wrow (w : FVec Ideal S3x256 .f32) (r : Fin 3) : FVec Ideal S1x256 .f32 := fun i => w (ix2 r (i 1))

open Cert.ConvReferenceIdeal.Read in
theorem conv_eq (z : FVec Ideal S2048x1792 .f32) (w : FVec Ideal S3x256 .f32) :
    k0_pay6 (val_main_v0 (F := Ideal) z) (wrow w 0) (wrow w 1) (wrow w 2) = val_main_v29 (F := Ideal) z w := by
  funext (i : S2048x256.Idx)
  idx_vars i
  unfold k0_pay6 val_main_v29 val_main_v23 val_main_v28 val_main_v17 val_main_v22
  rw [y_eq, y1_eq, y2_eq]
  generalize val_main_v4 (F := Ideal) z = y
  generalize val_main_v7 (F := Ideal) z = y1
  generalize val_main_v11 (F := Ideal) z = y2
  pointwise [wrow, val_main_v16, val_main_v15, val_main_v14, val_main_v13, val_main_v21, val_main_v20, val_main_v19, val_main_v18,
    val_main_v27, val_main_v26, val_main_v25, val_main_v24]

open Cert.ConvReferenceIdeal.Read in
theorem dconv_eq (z : FVec Ideal S2048x1792 .f32) (dy : FVec Ideal S2048x256 .f32) :
    k0_pay7 (val_main_v0 (F := Ideal) z) dy = val_main_v31 (F := Ideal) z dy := by
  funext (i : S2048x256.Idx)
  exact mul_comm _ _

theorem ac3 (p q r : EReal) : p + (q + r) = r + (q + p) := by ac_rfl

theorem acr (p q r : EReal) : p + q + r = r + p + q := by ac_rfl

theorem ac2 (p q : EReal) : p + q = q + p := by ac_rfl

open Cert.ConvReferenceIdeal.Read in
theorem dyy_eq (z : FVec Ideal S2048x1792 .f32) (dy : FVec Ideal S2048x256 .f32) (w : FVec Ideal S3x256 .f32) :
    k0_pay12 (F := Ideal) (iota .tc S2048x256 32 [0] iota_S2048x256_d0_w32) (val_main_v31 (F := Ideal) z dy) (wrow w 0) (wrow w 1) (wrow w 2)
      = (val_main_v66 (F := Ideal) z dy w : FVec Ideal S2048x256 .f32) := by
  funext (i : S2048x256.Idx)
  idx_vars i
  unfold k0_pay12 val_main_v66 val_main_v62 val_main_v34 val_main_v61 val_main_v65 val_main_v60 val_main_v64 val_main_v51 val_main_v42
  generalize val_main_v31 (F := Ideal) z dy = d
  pointwise [wrow, val_main_v33, val_main_v41, val_main_v50, val_main_v15, val_main_v14, val_main_v13, val_main_v20, val_main_v19, val_main_v18,
    val_main_v26, val_main_v25, val_main_v24, val_main_cst_12, val_main_cst_13]
  word_cmp
  obtain ⟨a, ha⟩ := i0
  obtain ⟨b, hb⟩ := i1
  dsimp only
  have m2 : a < 2046 → (a + 2048 - 2046) % 2048 = 2 + a := by omega
  have m1 : a < 2047 → (a + 2048 - 2047) % 2048 = 1 + a := by omega
  by_cases g1 : a < 2047 <;> by_cases g2 : a < 2046 <;> simp only [g1, g2, dite_true, dite_false, if_true, if_false] <;>
    (try omega) <;> (try simp only [m1, m2, g1, g2, zero_add, add_zero]) <;> first | ac_rfl | exact ac3 _ _ _ | exact ac2 _ _ | exact acr _ _ _

open Cert.ConvReferenceIdeal.Read in
/-- The three column blocks of the first result. -/
theorem cols (z : FVec Ideal S2048x1792 .f32) (dy : FVec Ideal S2048x256 .f32) (w : FVec Ideal S3x256 .f32) (a : Fin 2048) (b : Fin 256) :
    val_main_v69 (F := Ideal) z dy w (ix2 a ⟨b, Nat.lt_trans b.isLt (by decide)⟩) = val_main_v32 (F := Ideal) z dy w (ix2 a b)
    ∧ val_main_v69 (F := Ideal) z dy w (ix2 a ⟨256 + b, Nat.lt_trans (Nat.add_lt_add_left b.isLt 256) (by decide)⟩) = val_main_v68 (F := Ideal) z dy w (ix2 a b)
    ∧ val_main_v69 (F := Ideal) z dy w (ix2 a ⟨512 + b, Nat.add_lt_add_left b.isLt 512⟩) = val_main_v67 (F := Ideal) z dy w (ix2 a b) := by
  unfold val_main_v69
  generalize val_main_v32 (F := Ideal) z dy w = u
  generalize val_main_v68 (F := Ideal) z dy w = v
  generalize val_main_v67 (F := Ideal) z dy w = x
  obtain ⟨b, hb⟩ := b
  refine ⟨?_, ?_, ?_⟩
  · pointwise
    exact dif_pos hb
  · pointwise
    exact dif_pos hb
  · pointwise
    refine (dif_neg (show ¬ 512 + b < 256 by omega)).trans ((dif_neg (show ¬ 512 + b - 256 < 256 by omega)).trans ?_)
    exact congrArg x (congrArg (ix2 a) (Fin.ext (show 512 + b - 256 - 256 = b by omega)))

theorem canon_rows (p2 p1 p0 : FVec Ideal S1x256 .f32) (p8 : FVec Ideal S8x256 .f32) (a : Fin 8) (b : Fin 256) :
    View.canon (Val := Elt Ideal) (e := .f32)
      [⟨Rect.unit ![2, 0] ![1, 256] inb_S8x256_S1x256_2_0, p2⟩, ⟨Rect.unit ![1, 0] ![1, 256] inb_S8x256_S1x256_1_0, p1⟩,
        ⟨Rect.unit ![0, 0] ![1, 256] inb_S8x256_S1x256_0_0, p0⟩, ⟨Rect.unit ![0, 0] ![8, 256] inb_S8x256_S8x256_0_0, p8⟩] (ix2 a b)
      = if (a : ℕ) = 2 then p2 (ix2 0 b) else if (a : ℕ) = 1 then p1 (ix2 0 b) else if (a : ℕ) = 0 then p0 (ix2 0 b) else p8 (ix2 a b) := by
  have hit (r : Fin 8) (inb) (p : FVec Ideal S1x256 .f32) (L : List (View.Piece (Elt Ideal) S8x256 .f32)) (h : a = r) :
      View.canon (⟨Rect.unit (s := S8x256) ![(r : ℕ), 0] ![1, 256] inb, p⟩ :: L) (ix2 a b) = p (ix2 0 b) := by
    have e : (ix2 a b : S8x256.Idx) = (Rect.unit (s := S8x256) ![(r : ℕ), 0] ![1, 256] inb).emb (ix2 0 b) := by
      subst h
      blk_ext []
    rw [e, View.canon_cons_emb]
  have miss (r : Fin 8) (inb) (p : FVec Ideal S1x256 .f32) (L : List (View.Piece (Elt Ideal) S8x256 .f32)) (h : (a : ℕ) ≠ r) :
      View.canon (⟨Rect.unit (s := S8x256) ![(r : ℕ), 0] ![1, 256] inb, p⟩ :: L) (ix2 a b) = View.canon L (ix2 a b) := by
    refine View.canon_cons_of_not_mem _ _ fun hm => ?_
    have h0 := (Rect.mem_set_unit (inb := inb) (i := (ix2 a b : S8x256.Idx)).mp hm) (0 : Fin 2)
    have l : (r : ℕ) ≤ a := h0.1
    have u : (a : ℕ) < r + 1 := h0.2
    omega
  by_cases g2 : (a : ℕ) = 2
  · rw [if_pos g2]; exact hit 2 _ p2 _ (Fin.ext g2)
  rw [if_neg g2]; refine (miss 2 _ p2 _ g2).trans ?_
  by_cases g1 : (a : ℕ) = 1
  · rw [if_pos g1]; exact hit 1 _ p1 _ (Fin.ext g1)
  rw [if_neg g1]; refine (miss 1 _ p1 _ g1).trans ?_
  by_cases g0 : (a : ℕ) = 0
  · rw [if_pos g0]; exact hit 0 _ p0 _ (Fin.ext g0)
  rw [if_neg g0]; refine (miss 0 _ p0 _ g0).trans ?_
  rw [View.canon_cons_unit_lit (S := S8x256) _ _ _ (by decide)]

open Cert.ConvReferenceIdeal.Read in
theorem dw_eq (z : FVec Ideal S2048x1792 .f32) (dy : FVec Ideal S2048x256 .f32) (a : Fin 8) (b : Fin 256) :
    (if (a : ℕ) = 2 then k0_pay11 (k0_pay3 (val_main_v0 (F := Ideal) z)) (k0_pay7 (val_main_v0 (F := Ideal) z) dy) (ix2 0 b)
      else if (a : ℕ) = 1 then k0_pay10 (k0_pay5 (val_main_v0 (F := Ideal) z)) (k0_pay7 (val_main_v0 (F := Ideal) z) dy) (ix2 0 b)
      else if (a : ℕ) = 0 then k0_pay9 (val_main_v0 (F := Ideal) z) dy (ix2 0 b) else k0_pay8 (ix2 a b))
      = val_main_v70 (F := Ideal) z dy (ix2 a b) := by
  unfold k0_pay9
  rw [dconv_eq, y_eq, y1_eq, y2_eq]
  unfold val_main_v70 val_main_v58 val_main_v49 val_main_v40 val_main_v48 val_main_v57 val_main_v39 val_main_v47 val_main_v56
  unfold val_main_v38 val_main_v46 val_main_v55 val_main_v37 val_main_v45 val_main_v54 val_main_v36 val_main_v44 val_main_v53 val_main_v35 val_main_v43 val_main_v52
  generalize val_main_v4 (F := Ideal) z = y
  generalize val_main_v7 (F := Ideal) z = y1
  generalize val_main_v11 (F := Ideal) z = y2
  generalize val_main_v31 (F := Ideal) z dy = d
  pointwise [k0_pay11, k0_pay10, k0_pay8, val_main_v38, val_main_v46, val_main_v55, val_main_v37, val_main_v45, val_main_v54, val_main_v36, val_main_v44, val_main_v53, val_main_v35, val_main_v43, val_main_v52, val_main_cst_3, val_main_cst_4, val_main_cst_5, val_main_cst_6, val_main_cst_7, val_main_cst_8, val_main_cst_9, val_main_cst_10, val_main_cst_11, val_main_call0_v0, val_main_c]
  have hz : (FloatOps.sitofp (F := Ideal) FTy.f32 0#32) = (0 : EReal) := by simp [FloatOps.sitofp]
  fin_cases a <;> simp [hz]

theorem xblk (c : Dev nD) (t : Fin cfg0.N) :
    X0_0 m c t = Cert.ConvReferenceIdeal.Read.val_main_v0 (F := Ideal) (m ((c : Thread nD τ).loc main_arg0)) := by
  funext (i : S2048x768.Idx)
  idx_vars i
  rw [blk0]
  unfold Cert.ConvReferenceIdeal.Read.val_main_v0
  pointwise

theorem wblk0 (c : Dev nD) (t : Fin cfg0.N) :
    View.ld (iblk m c 2 t) (Rect.unit ![0, 0] ![1, 256] inb_S3x256_S1x256_0_0) = wrow (m ((c : Thread nD τ).loc main_arg2)) 0 := by
  rw [blk2]
  funext (i : S1x256.Idx)
  idx_vars i
  pointwise [wrow]

theorem wblk1 (c : Dev nD) (t : Fin cfg0.N) :
    View.ld (iblk m c 2 t) (Rect.unit ![1, 0] ![1, 256] inb_S3x256_S1x256_1_0) = wrow (m ((c : Thread nD τ).loc main_arg2)) 1 := by
  rw [blk2]
  funext (i : S1x256.Idx)
  idx_vars i
  pointwise [wrow]

theorem wblk2 (c : Dev nD) (t : Fin cfg0.N) :
    View.ld (iblk m c 2 t) (Rect.unit ![2, 0] ![1, 256] inb_S3x256_S1x256_2_0) = wrow (m ((c : Thread nD τ).loc main_arg2)) 2 := by
  rw [blk2]
  funext (i : S1x256.Idx)
  idx_vars i
  pointwise [wrow]

theorem final3 (c : Dev nD) : (dats m 0 c).arrAt 3 cfg0.N
    = Cert.ConvReferenceIdeal.Read.val_main_v69 (F := Ideal) (m ((c : Thread nD τ).loc main_arg0))
        (m ((c : Thread nD τ).loc main_arg1)) (m ((c : Thread nD τ).loc main_arg2)) := by
  refine (dats m 0 c).arrAt_eq_of_covers 3 _ (by decide +kernel) fun t hf y => ?_
  blk_simp
  rw [after0_3]
  unfold outsAt0
  dsimp only
  frame_out
  generalize ej : ((View.whole Cert.ConvKernelIdeal.main_v0_0).slice (win0_3.rect t)).emb y = j
  replace ej : ∀ a, (j a : ℕ) = y a := by
    intro a; subst ej; blk_simp [idx3 t]; match a with | ⟨0, _⟩ => simp | ⟨1, _⟩ => simp
  canon_tiles x h
  · rw [xblk, wblk0, wblk1, wblk2, blk1, dconv_eq]
    idx_vars x
    idx_vars j
    obtain rfl : j0 = x0 := Fin.ext ((ej 0).trans h0)
    obtain rfl : j1 = ⟨512 + x1, Nat.add_lt_add_left x1.isLt 512⟩ := Fin.ext ((ej 1).trans h1)
    rw [(cols _ _ _ j0 x1).2.2]
    unfold k0_pay15
    rw [dyy_eq]
    exact mul_comm _ _
  · rw [xblk, wblk0, wblk1, wblk2, blk1, dconv_eq]
    idx_vars x
    idx_vars j
    obtain rfl : j0 = x0 := Fin.ext ((ej 0).trans h0)
    obtain rfl : j1 = ⟨256 + x1, Nat.lt_trans (Nat.add_lt_add_left x1.isLt 256) (by decide)⟩ := Fin.ext ((ej 1).trans h1)
    rw [(cols _ _ _ j0 x1).2.1]
    unfold k0_pay14
    rw [dyy_eq]
    rfl
  · rw [xblk, wblk0, wblk1, wblk2, blk1, conv_eq]
    idx_vars x
    idx_vars j
    obtain rfl : j0 = x0 := Fin.ext ((ej 0).trans h0)
    obtain rfl : j1 = ⟨x1, Nat.lt_trans x1.isLt (by decide)⟩ := Fin.ext ((ej 1).trans h1)
    rw [(cols _ _ _ j0 x1).1]
    rfl

open Cert.ConvReferenceIdeal.Read in
theorem final4 (c : Dev nD) : (dats m 0 c).arrAt 4 cfg0.N
    = val_main_v70 (F := Ideal) (m ((c : Thread nD τ).loc main_arg0)) (m ((c : Thread nD τ).loc main_arg1)) := by
  refine (dats m 0 c).arrAt_eq_of_covers 4 _ (by decide +kernel) fun t hf y => ?_
  blk_simp
  rw [after0_4]
  unfold outsAt0
  dsimp only
  frame_out
  rw [xblk, blk1]
  generalize ej : ((View.whole Cert.ConvKernelIdeal.main_v0_1).slice (win0_4.rect t)).emb y = j
  replace ej : ∀ a, (j a : ℕ) = y a := by
    intro a; subst ej; blk_simp [idx4 t]; match a with | ⟨0, _⟩ => simp | ⟨1, _⟩ => simp
  replace ej : j = y := funext fun a => Fin.ext (ej a)
  subst ej
  change S8x256.Idx at j
  idx_vars j
  rw [canon_rows, dw_eq]

end Cert.Proof.Conv

end
-- ==== Proof.FfnReal.lean ====
module

public import proofs.«01_k».proof.Proof.Gen.FfnReferenceIdeal.Read
public import Idealize.ShloMosaic.Lib.Pointwise

@[expose] public section

set_option maxRecDepth 16384

noncomputable section

namespace Cert.Proof.FfnReal

open Idealize.ShloMosaic Idealize.ShloMosaic.TcCoe Idealize.SL.Sem Idealize.ShloMosaic.StableHlo

/-- The extended real `v` is a real number. -/
def IsR (v : EReal) : Prop := ∃ r : ℝ, v = (r : EReal)

theorem r_zero : IsR 0 := ⟨0, rfl⟩
theorem r_add {φ : FTy} {a b : Ideal φ} (ha : IsR a) (hb : IsR b) : IsR (FloatOps.addf a b) := by
  obtain ⟨x, rfl⟩ := ha; obtain ⟨y, rfl⟩ := hb; exact ⟨x + y, (EReal.coe_add x y).symm⟩
theorem r_mul {φ : FTy} {a b : Ideal φ} (ha : IsR a) (hb : IsR b) : IsR (FloatOps.mulf a b) := by
  obtain ⟨x, rfl⟩ := ha; obtain ⟨y, rfl⟩ := hb; exact ⟨x * y, (EReal.coe_mul x y).symm⟩
theorem r_sub {φ : FTy} {a b : Ideal φ} (ha : IsR a) (hb : IsR b) : IsR (FloatOps.subf a b) := by
  obtain ⟨x, rfl⟩ := ha; obtain ⟨y, rfl⟩ := hb; exact ⟨x - y, (EReal.coe_sub x y).symm⟩
theorem r_neg {φ : FTy} {a : Ideal φ} (ha : IsR a) : IsR (FloatOps.hostNegf a) := by
  obtain ⟨x, rfl⟩ := ha; exact ⟨-x, (EReal.coe_neg x).symm⟩
theorem r_exp {φ : FTy} {a : Ideal φ} (ha : IsR a) : IsR (FloatOps.hostUnary .exp a) := by
  obtain ⟨x, rfl⟩ := ha; exact ⟨Real.exp x, rfl⟩
theorem r_sum {ι : Type} {s : Finset ι} {f : ι → EReal} (h : ∀ i, IsR (f i)) : IsR (∑ i ∈ s, f i) := by
  choose g hg using h
  refine ⟨∑ i ∈ s, g i, ?_⟩
  rw [Finset.sum_congr rfl fun i _ => hg i]
  classical
  induction s using Finset.induction_on with
  | empty => rfl
  | insert a s ha ih => rw [Finset.sum_insert ha, Finset.sum_insert ha, ih, EReal.coe_add]

/-- The words of the constants the two programs name, as real numbers. -/
theorem c_zero : (FloatOps.ofBits (F := Ideal) .f32 0x00000000#32 : EReal) = 0 := Ideal.ofBits_zero_f32
theorem c_one : (FloatOps.ofBits (F := Ideal) .f32 0x3F800000#32 : EReal) = ((1 : ℝ) : EReal) := by
  rw [Ideal.ofBits_def]; simp [Ideal.ofBits, Ideal.ieee, -EReal.coe_mul]; norm_num
theorem c_half : (FloatOps.ofBits (F := Ideal) .f32 0x3F000000#32 : EReal) = ((1 / 2 : ℝ) : EReal) := by
  rw [Ideal.ofBits_def]; simp [Ideal.ofBits, Ideal.ieee, -EReal.coe_mul]; norm_num
theorem c_mhalf : (FloatOps.ofBits (F := Ideal) .f32 0xBF000000#32 : EReal) = ((-(1 / 2) : ℝ) : EReal) := by
  rw [Ideal.ofBits_def]; simp [Ideal.ofBits, Ideal.ieee, -EReal.coe_mul]; norm_num
theorem c_1024 : (FloatOps.ofBits (F := Ideal) .f32 0x44800000#32 : EReal) = ((1024 : ℝ) : EReal) := by
  rw [Ideal.ofBits_def]; simp [Ideal.ofBits, Ideal.ieee, -EReal.coe_mul]; norm_num
theorem c_eps : ∃ e : ℝ, 0 < e ∧ (FloatOps.ofBits (F := Ideal) .f32 0x358637BD#32 : EReal) = (e : EReal) := by
  refine ⟨(8796093 : ℝ) / 2 ^ 43, by norm_num, ?_⟩
  rw [Ideal.ofBits_def]; simp [Ideal.ofBits, Ideal.ieee, -EReal.coe_mul]; norm_num

theorem r_c0 : IsR (FloatOps.ofBits (F := Ideal) .f32 0x00000000#32) := ⟨0, c_zero⟩
theorem r_one : IsR (FloatOps.ofBits (F := Ideal) .f32 0x3F800000#32) := ⟨1, c_one⟩
theorem r_half : IsR (FloatOps.ofBits (F := Ideal) .f32 0x3F000000#32) := ⟨1 / 2, c_half⟩
theorem r_mhalf : IsR (FloatOps.ofBits (F := Ideal) .f32 0xBF000000#32) := ⟨-(1 / 2), c_mhalf⟩
theorem r_1024 : IsR (FloatOps.ofBits (F := Ideal) .f32 0x44800000#32) := ⟨1024, c_1024⟩
theorem r_eps : IsR (FloatOps.ofBits (F := Ideal) .f32 0x358637BD#32) := by
  obtain ⟨e, _, h⟩ := c_eps; exact ⟨e, h⟩

theorem div_1024 (x : ℝ) : Ideal.div (x : EReal) (FloatOps.ofBits (F := Ideal) .f32 0x44800000#32 : EReal) = ((x / 1024 : ℝ) : EReal) := by
  rw [c_1024, Ideal.div_coe (by norm_num), ← EReal.coe_mul]; congr 1; ring
theorem r_div1024 {a : Ideal .f32} (ha : IsR a) : IsR (FloatOps.hostDivf a (FloatOps.ofBits (F := Ideal) .f32 0x44800000#32)) := by
  obtain ⟨x, rfl⟩ := ha; exact ⟨x / 1024, div_1024 x⟩
theorem sigma_coe (x : ℝ) : Ideal.div (FloatOps.ofBits (F := Ideal) .f32 0x3F800000#32 : EReal)
    ((FloatOps.ofBits (F := Ideal) .f32 0x3F800000#32 : EReal) + Ideal.exp (x : EReal)) = ((1 / (1 + Real.exp x) : ℝ) : EReal) := by
  have hne : (1 + Real.exp x : ℝ) ≠ 0 := by positivity
  rw [c_one, Ideal.exp_coe, ← EReal.coe_add, Ideal.div_coe hne, ← EReal.coe_mul, one_mul]
theorem r_sigma {a : Ideal .f32} (ha : IsR a) : IsR (FloatOps.hostDivf (FloatOps.ofBits (F := Ideal) .f32 0x3F800000#32)
    (FloatOps.addf (FloatOps.ofBits (F := Ideal) .f32 0x3F800000#32) (FloatOps.hostUnary .exp a))) := by
  obtain ⟨x, rfl⟩ := ha; exact ⟨_, sigma_coe x⟩

section Stages
open Cert.FfnReferenceIdeal Cert.FfnReferenceIdeal.Gen Cert.FfnReferenceIdeal.Read

/-- Every element of the six arguments is a real number. -/
structure Fin6 (x0 x1 : FVec Ideal S2048x1024 .f32) (x2 : FVec Ideal S3x1024 .f32) (x3 : FVec Ideal S1024 .f32)
    (x4 : FVec Ideal S1024x5632 .f32) (x5 : FVec Ideal S2816x1024 .f32) : Prop where
  h0 : ∀ i, IsR (x0 i)
  h1 : ∀ i, IsR (x1 i)
  h2 : ∀ i, IsR (x2 i)
  h3 : ∀ i, IsR (x3 i)
  h4 : ∀ i, IsR (x4 i)
  h5 : ∀ i, IsR (x5 i)

variable {x0 x1 : FVec Ideal S2048x1024 .f32} {x2 : FVec Ideal S3x1024 .f32} {x3 : FVec Ideal S1024 .f32}
  {x4 : FVec Ideal S1024x5632 .f32} {x5 : FVec Ideal S2816x1024 .f32}

theorem f_cst (H : Fin6 x0 x1 x2 x3 x4 x5) (i) : IsR (val_main_cst (F := Ideal) i) := by
  rw [val_main_cst_apply]
  exact r_c0
theorem f_v0 (H : Fin6 x0 x1 x2 x3 x4 x5) (i) : IsR (val_main_v0 (F := Ideal) i) := by
  rw [val_main_v0_apply]
  exact (f_cst H _)
theorem f_cst_0 (H : Fin6 x0 x1 x2 x3 x4 x5) (i) : IsR (val_main_cst_0 (F := Ideal) i) := by
  rw [val_main_cst_0_apply]
  exact r_c0
theorem f_v1 (H : Fin6 x0 x1 x2 x3 x4 x5) (i) : IsR (val_main_v1 (F := Ideal) i) := by
  rw [val_main_v1_apply]
  exact (f_cst_0 H _)
theorem f_v2 (H : Fin6 x0 x1 x2 x3 x4 x5) (i) : IsR (val_main_v2 (F := Ideal) x1 i) := by
  rw [val_main_v2_apply]
  exact r_mul (H.h1 _) (H.h1 _)
theorem f_cst_1 (H : Fin6 x0 x1 x2 x3 x4 x5) (i) : IsR (val_main_cst_1 (F := Ideal) i) := by
  rw [val_main_cst_1_apply]
  exact r_c0
theorem f_v3 (H : Fin6 x0 x1 x2 x3 x4 x5) (i) : IsR (val_main_v3 (F := Ideal) x1 i) := by
  rw [val_main_v3_apply]
  exact r_add (φ := .f32) (f_cst_1 H _) (r_sum fun _ => (f_v2 H _))
theorem f_v4 (H : Fin6 x0 x1 x2 x3 x4 x5) (i) : IsR (val_main_v4 (F := Ideal) x1 i) := by
  rw [val_main_v4_apply]
  exact (f_v3 H _)
theorem f_cst_2 (H : Fin6 x0 x1 x2 x3 x4 x5) (i) : IsR (val_main_cst_2 (F := Ideal) i) := by
  rw [val_main_cst_2_apply]
  exact r_1024
theorem f_v5 (H : Fin6 x0 x1 x2 x3 x4 x5) (i) : IsR (val_main_v5 (F := Ideal) i) := by
  rw [val_main_v5_apply]
  exact (f_cst_2 H _)
theorem f_v6 (H : Fin6 x0 x1 x2 x3 x4 x5) (i) : IsR (val_main_v6 (F := Ideal) x1 i) := by
  rw [val_main_v6_apply, val_main_v5_apply, val_main_cst_2_apply]
  exact r_div1024 (f_v4 H _)
theorem f_cst_3 (H : Fin6 x0 x1 x2 x3 x4 x5) (i) : IsR (val_main_cst_3 (F := Ideal) i) := by
  rw [val_main_cst_3_apply]
  exact r_eps
theorem f_v7 (H : Fin6 x0 x1 x2 x3 x4 x5) (i) : IsR (val_main_v7 (F := Ideal) i) := by
  rw [val_main_v7_apply]
  exact (f_cst_3 H _)
theorem f_v8 (H : Fin6 x0 x1 x2 x3 x4 x5) (i) : IsR (val_main_v8 (F := Ideal) x1 i) := by
  rw [val_main_v8_apply]
  exact r_add (f_v6 H _) (f_v7 H _)
/-- The mean square plus the small constant is a positive real number. -/
theorem p_v8 (H : Fin6 x0 x1 x2 x3 x4 x5) (i) : ∃ r : ℝ, 0 < r ∧ val_main_v8 (F := Ideal) x1 i = (r : EReal) := by
  rw [val_main_v8_apply, val_main_v6_apply, val_main_v4_apply, val_main_v3_apply, val_main_v5_apply, val_main_cst_2_apply,
    val_main_v7_apply, val_main_cst_3_apply, val_main_cst_1_apply, c_zero, zero_add]
  obtain ⟨e, he, hE⟩ := c_eps
  choose g hg using H.h1
  have hs : (∑ k : Fin 1024, (val_main_v2 (F := Ideal) x1) (idx_main_v3 (idx_main_v4 i) k) : EReal)
      = ((∑ k : Fin 1024, g (idx_main_v3 (idx_main_v4 i) k) * g (idx_main_v3 (idx_main_v4 i) k) : ℝ) : EReal) := by
    have hc : ∀ (s : Finset (Fin 1024)) (f : Fin 1024 → ℝ), (∑ k ∈ s, ((f k : ℝ) : EReal)) = ((∑ k ∈ s, f k : ℝ) : EReal) := by
      intro s f
      classical
      induction s using Finset.induction_on with
      | empty => rfl
      | insert a s ha ih => rw [Finset.sum_insert ha, Finset.sum_insert ha, ih, EReal.coe_add]
    rw [← hc]
    refine Finset.sum_congr rfl fun k _ => ?_
    rw [val_main_v2_apply, hg, EReal.coe_mul]; rfl
  rw [hs]
  refine ⟨(∑ k : Fin 1024, g (idx_main_v3 (idx_main_v4 i) k) * g (idx_main_v3 (idx_main_v4 i) k)) / 1024 + e, ?_, ?_⟩
  · have : 0 ≤ ∑ k : Fin 1024, g (idx_main_v3 (idx_main_v4 i) k) * g (idx_main_v3 (idx_main_v4 i) k) :=
      Finset.sum_nonneg fun k _ => mul_self_nonneg _
    positivity
  · rw [EReal.coe_add, ← div_1024, ← hE]; rfl
/-- The reciprocal root of the mean square: a real `s` with `s * s * v8 = 1`. -/
theorem p_v9 (H : Fin6 x0 x1 x2 x3 x4 x5) (i) : ∃ r s : ℝ, 0 < r ∧ s * s * r = 1 ∧ val_main_v8 (F := Ideal) x1 i = (r : EReal)
    ∧ val_main_v9 (F := Ideal) x1 i = (s : EReal) ∧ val_main_v10 (F := Ideal) x1 i = ((s / r : ℝ) : EReal) := by
  obtain ⟨r, hr, h8⟩ := p_v8 H i
  have h9 : val_main_v9 (F := Ideal) x1 i = (((Real.sqrt r)⁻¹ : ℝ) : EReal) := by
    rw [val_main_v9_apply, h8]
    show Ideal.rsqrt (r : EReal) = _
    rw [Ideal.rsqrt_coe, if_neg hr.not_gt, if_neg hr.ne']
  refine ⟨r, (Real.sqrt r)⁻¹, hr, ?_, h8, h9, ?_⟩
  · have h := Real.mul_self_sqrt hr.le
    have hne : Real.sqrt r ≠ 0 := (Real.sqrt_pos.2 hr).ne'
    field_simp
    nlinarith [h]
  · rw [val_main_v10_apply, h9, h8]
    show Ideal.div _ (r : EReal) = _
    rw [Ideal.div_coe hr.ne', ← EReal.coe_mul]; congr 1; ring
theorem f_v9 (H : Fin6 x0 x1 x2 x3 x4 x5) (i) : IsR (val_main_v9 (F := Ideal) x1 i) := by
  obtain ⟨_, s, _, _, _, h, _⟩ := p_v9 H i; exact ⟨s, h⟩
theorem f_v10 (H : Fin6 x0 x1 x2 x3 x4 x5) (i) : IsR (val_main_v10 (F := Ideal) x1 i) := by
  obtain ⟨_, _, _, _, _, _, h⟩ := p_v9 H i; exact ⟨_, h⟩
theorem f_cst_4 (H : Fin6 x0 x1 x2 x3 x4 x5) (i) : IsR (val_main_cst_4 (F := Ideal) i) := by
  rw [val_main_cst_4_apply]
  exact r_mhalf
theorem f_v11 (H : Fin6 x0 x1 x2 x3 x4 x5) (i) : IsR (val_main_v11 (F := Ideal) i) := by
  rw [val_main_v11_apply]
  exact (f_cst_4 H _)
theorem f_v12 (H : Fin6 x0 x1 x2 x3 x4 x5) (i) : IsR (val_main_v12 (F := Ideal) x1 i) := by
  rw [val_main_v12_apply]
  exact r_mul (f_v11 H _) (f_v10 H _)
theorem f_v13 (H : Fin6 x0 x1 x2 x3 x4 x5) (i) : IsR (val_main_v13 (F := Ideal) x1 i) := by
  rw [val_main_v13_apply]
  exact (f_v9 H _)
theorem f_v14 (H : Fin6 x0 x1 x2 x3 x4 x5) (i) : IsR (val_main_v14 (F := Ideal) x1 i) := by
  rw [val_main_v14_apply]
  exact r_mul (H.h1 _) (f_v13 H _)
theorem f_v15 (H : Fin6 x0 x1 x2 x3 x4 x5) (i) : IsR (val_main_v15 (F := Ideal) x3 i) := by
  rw [val_main_v15_apply]
  exact (H.h3 _)
theorem f_v16 (H : Fin6 x0 x1 x2 x3 x4 x5) (i) : IsR (val_main_v16 (F := Ideal) x3 i) := by
  rw [val_main_v16_apply]
  exact (f_v15 H _)
theorem f_v17 (H : Fin6 x0 x1 x2 x3 x4 x5) (i) : IsR (val_main_v17 (F := Ideal) x1 x3 i) := by
  rw [val_main_v17_apply]
  exact r_mul (f_v14 H _) (f_v16 H _)
theorem f_v18 (H : Fin6 x0 x1 x2 x3 x4 x5) (i) : IsR (val_main_v18 (F := Ideal) x2 i) := by
  rw [val_main_v18_apply]
  exact (H.h2 _)
theorem f_v19 (H : Fin6 x0 x1 x2 x3 x4 x5) (i) : IsR (val_main_v19 (F := Ideal) x2 i) := by
  rw [val_main_v19_apply]
  exact (f_v18 H _)
theorem f_v20 (H : Fin6 x0 x1 x2 x3 x4 x5) (i) : IsR (val_main_v20 (F := Ideal) x2 i) := by
  rw [val_main_v20_apply]
  exact (H.h2 _)
theorem f_v21 (H : Fin6 x0 x1 x2 x3 x4 x5) (i) : IsR (val_main_v21 (F := Ideal) x2 i) := by
  rw [val_main_v21_apply]
  exact (f_v20 H _)
theorem f_cst_5 (H : Fin6 x0 x1 x2 x3 x4 x5) (i) : IsR (val_main_cst_5 (F := Ideal) i) := by
  rw [val_main_cst_5_apply]
  exact r_one
theorem f_v22 (H : Fin6 x0 x1 x2 x3 x4 x5) (i) : IsR (val_main_v22 (F := Ideal) i) := by
  rw [val_main_v22_apply]
  exact (f_cst_5 H _)
theorem f_v23 (H : Fin6 x0 x1 x2 x3 x4 x5) (i) : IsR (val_main_v23 (F := Ideal) x2 i) := by
  rw [val_main_v23_apply]
  exact r_add (f_v22 H _) (f_v21 H _)
theorem f_v24 (H : Fin6 x0 x1 x2 x3 x4 x5) (i) : IsR (val_main_v24 (F := Ideal) x2 i) := by
  rw [val_main_v24_apply]
  exact (f_v23 H _)
theorem f_v25 (H : Fin6 x0 x1 x2 x3 x4 x5) (i) : IsR (val_main_v25 (F := Ideal) x2 i) := by
  rw [val_main_v25_apply]
  exact (f_v24 H _)
theorem f_v26 (H : Fin6 x0 x1 x2 x3 x4 x5) (i) : IsR (val_main_v26 (F := Ideal) x1 x2 x3 i) := by
  rw [val_main_v26_apply]
  exact r_mul (f_v17 H _) (f_v25 H _)
theorem f_v27 (H : Fin6 x0 x1 x2 x3 x4 x5) (i) : IsR (val_main_v27 (F := Ideal) x2 i) := by
  rw [val_main_v27_apply]
  exact (f_v19 H _)
theorem f_v28 (H : Fin6 x0 x1 x2 x3 x4 x5) (i) : IsR (val_main_v28 (F := Ideal) x2 i) := by
  rw [val_main_v28_apply]
  exact (f_v27 H _)
theorem f_v29 (H : Fin6 x0 x1 x2 x3 x4 x5) (i) : IsR (val_main_v29 (F := Ideal) x1 x2 x3 i) := by
  rw [val_main_v29_apply]
  exact r_add (f_v26 H _) (f_v28 H _)
theorem f_v30 (H : Fin6 x0 x1 x2 x3 x4 x5) (i) : IsR (val_main_v30 (F := Ideal) x1 x2 x3 x4 i) := by
  rw [val_main_v30_apply]
  exact (r_sum fun _ => r_mul (f_v29 H _) (H.h4 _))
theorem f_v31 (H : Fin6 x0 x1 x2 x3 x4 x5) (i) : IsR (val_main_v31 (F := Ideal) x1 x2 x3 x4 i) := by
  rw [val_main_v31_apply]
  exact r_add (f_v30 H _) (f_v0 H _)
theorem f_v32 (H : Fin6 x0 x1 x2 x3 x4 x5) (i) : IsR (val_main_v32 (F := Ideal) x1 x2 x3 x4 i) := by
  rw [val_main_v32_apply]
  exact (f_v31 H _)
theorem f_v33 (H : Fin6 x0 x1 x2 x3 x4 x5) (i) : IsR (val_main_v33 (F := Ideal) x1 x2 x3 x4 i) := by
  rw [val_main_v33_apply]
  exact (f_v31 H _)
theorem f_call0_v0 (H : Fin6 x0 x1 x2 x3 x4 x5) (i) : IsR (val_main_call0_v0 (F := Ideal) x1 x2 x3 x4 i) := by
  rw [val_main_call0_v0_apply]
  exact r_neg (f_v32 H _)
theorem f_call0_v1 (H : Fin6 x0 x1 x2 x3 x4 x5) (i) : IsR (val_main_call0_v1 (F := Ideal) x1 x2 x3 x4 i) := by
  rw [val_main_call0_v1_apply]
  exact r_exp (f_call0_v0 H _)
theorem f_call0_cst (H : Fin6 x0 x1 x2 x3 x4 x5) (i) : IsR (val_main_call0_cst (F := Ideal) i) := by
  rw [val_main_call0_cst_apply]
  exact r_one
theorem f_call0_v2 (H : Fin6 x0 x1 x2 x3 x4 x5) (i) : IsR (val_main_call0_v2 (F := Ideal) i) := by
  rw [val_main_call0_v2_apply]
  exact (f_call0_cst H _)
theorem f_call0_v3 (H : Fin6 x0 x1 x2 x3 x4 x5) (i) : IsR (val_main_call0_v3 (F := Ideal) x1 x2 x3 x4 i) := by
  rw [val_main_call0_v3_apply]
  exact r_add (f_call0_v2 H _) (f_call0_v1 H _)
theorem f_call0_cst_0 (H : Fin6 x0 x1 x2 x3 x4 x5) (i) : IsR (val_main_call0_cst_0 (F := Ideal) i) := by
  rw [val_main_call0_cst_0_apply]
  exact r_one
theorem f_call0_v4 (H : Fin6 x0 x1 x2 x3 x4 x5) (i) : IsR (val_main_call0_v4 (F := Ideal) i) := by
  rw [val_main_call0_v4_apply]
  exact (f_call0_cst_0 H _)
theorem f_v34_2 (H : Fin6 x0 x1 x2 x3 x4 x5) (i) : IsR (val_main_v34_2 (F := Ideal) x1 x2 x3 x4 i) := by
  rw [val_main_v34_2_apply, val_main_call0_v4_apply, val_main_call0_cst_0_apply, val_main_call0_v3_apply, val_main_call0_v2_apply, val_main_call0_cst_apply, val_main_call0_v1_apply]
  exact r_sigma (f_call0_v0 H _)
theorem f_call0_cst_1 (H : Fin6 x0 x1 x2 x3 x4 x5) (i) : IsR (val_main_call0_cst_1 (F := Ideal) i) := by
  rw [val_main_call0_cst_1_apply]
  exact r_one
theorem f_call0_v6 (H : Fin6 x0 x1 x2 x3 x4 x5) (i) : IsR (val_main_call0_v6 (F := Ideal) i) := by
  rw [val_main_call0_v6_apply]
  exact (f_call0_cst_1 H _)
theorem f_call0_v7 (H : Fin6 x0 x1 x2 x3 x4 x5) (i) : IsR (val_main_call0_v7 (F := Ideal) x1 x2 x3 x4 i) := by
  rw [val_main_call0_v7_apply]
  exact r_sub (f_call0_v6 H _) (f_v34_2 H _)
theorem f_v34_1 (H : Fin6 x0 x1 x2 x3 x4 x5) (i) : IsR (val_main_v34_1 (F := Ideal) x1 x2 x3 x4 i) := by
  rw [val_main_v34_1_apply]
  exact r_mul (f_v34_2 H _) (f_call0_v7 H _)
theorem f_v34_0 (H : Fin6 x0 x1 x2 x3 x4 x5) (i) : IsR (val_main_v34_0 (F := Ideal) x1 x2 x3 x4 i) := by
  rw [val_main_v34_0_apply]
  exact r_mul (f_v32 H _) (f_v34_2 H _)
theorem f_v35 (H : Fin6 x0 x1 x2 x3 x4 x5) (i) : IsR (val_main_v35 (F := Ideal) x1 x2 x3 x4 i) := by
  rw [val_main_v35_apply]
  exact r_mul (f_v34_0 H _) (f_v33 H _)
theorem f_v36 (H : Fin6 x0 x1 x2 x3 x4 x5) (i) : IsR (val_main_v36 (F := Ideal) x1 x2 x3 x4 x5 i) := by
  rw [val_main_v36_apply]
  exact (r_sum fun _ => r_mul (f_v35 H _) (H.h5 _))
theorem f_v37 (H : Fin6 x0 x1 x2 x3 x4 x5) (i) : IsR (val_main_v37 (F := Ideal) x1 x2 x3 x4 x5 i) := by
  rw [val_main_v37_apply]
  exact r_add (f_v36 H _) (f_v1 H _)
theorem f_v38 (H : Fin6 x0 x1 x2 x3 x4 x5) (i) : IsR (val_main_v38 (F := Ideal) x2 i) := by
  rw [val_main_v38_apply]
  exact (H.h2 _)
theorem f_v39 (H : Fin6 x0 x1 x2 x3 x4 x5) (i) : IsR (val_main_v39 (F := Ideal) x2 i) := by
  rw [val_main_v39_apply]
  exact (f_v38 H _)
theorem f_cst_6 (H : Fin6 x0 x1 x2 x3 x4 x5) (i) : IsR (val_main_cst_6 (F := Ideal) i) := by
  rw [val_main_cst_6_apply]
  exact r_half
theorem f_v40 (H : Fin6 x0 x1 x2 x3 x4 x5) (i) : IsR (val_main_v40 (F := Ideal) i) := by
  rw [val_main_v40_apply]
  exact (f_cst_6 H _)
theorem f_v41 (H : Fin6 x0 x1 x2 x3 x4 x5) (i) : IsR (val_main_v41 (F := Ideal) x2 i) := by
  rw [val_main_v41_apply]
  exact r_mul (f_v40 H _) (f_v39 H _)
theorem f_v42 (H : Fin6 x0 x1 x2 x3 x4 x5) (i) : IsR (val_main_v42 (F := Ideal) x2 i) := by
  rw [val_main_v42_apply]
  exact (f_v41 H _)
theorem f_v43 (H : Fin6 x0 x1 x2 x3 x4 x5) (i) : IsR (val_main_v43 (F := Ideal) x2 i) := by
  rw [val_main_v43_apply]
  exact (f_v42 H _)
theorem f_v44 (H : Fin6 x0 x1 x2 x3 x4 x5) (i) : IsR (val_main_v44 (F := Ideal) x1 x2 x3 x4 x5 i) := by
  rw [val_main_v44_apply]
  exact r_mul (f_v43 H _) (f_v37 H _)
theorem f_v45 (H : Fin6 x0 x1 x2 x3 x4 x5) (i) : IsR (val_main_v45 (F := Ideal) x1 x2 x3 x4 x5 i) := by
  rw [val_main_v45_apply]
  exact r_add (H.h1 _) (f_v44 H _)
theorem f_v46 (H : Fin6 x0 x1 x2 x3 x4 x5) (i) : IsR (val_main_v46 (F := Ideal) x0 i) := by
  rw [val_main_v46_apply]
  exact (H.h0 _)
theorem f_v47 (H : Fin6 x0 x1 x2 x3 x4 x5) (i) : IsR (val_main_v47 (F := Ideal) x2 i) := by
  rw [val_main_v47_apply]
  exact (f_v42 H _)
theorem f_v48 (H : Fin6 x0 x1 x2 x3 x4 x5) (i) : IsR (val_main_v48 (F := Ideal) x0 x2 i) := by
  rw [val_main_v48_apply]
  exact r_mul (f_v47 H _) (f_v46 H _)
theorem f_v49 (H : Fin6 x0 x1 x2 x3 x4 x5) (i) : IsR (val_main_v49 (F := Ideal) x0 x1 x2 x3 x4 x5 i) := by
  rw [val_main_v49_apply]
  exact r_mul (f_v46 H _) (f_v37 H _)
theorem f_cst_7 (H : Fin6 x0 x1 x2 x3 x4 x5) (i) : IsR (val_main_cst_7 (F := Ideal) i) := by
  rw [val_main_cst_7_apply]
  exact r_c0
theorem f_cst_8 (H : Fin6 x0 x1 x2 x3 x4 x5) (i) : IsR (val_main_cst_8 (F := Ideal) i) := by
  rw [val_main_cst_8_apply]
  exact r_c0
theorem f_cst_9 (H : Fin6 x0 x1 x2 x3 x4 x5) (i) : IsR (val_main_cst_9 (F := Ideal) i) := by
  rw [val_main_cst_9_apply]
  exact r_half
theorem f_cst_10 (H : Fin6 x0 x1 x2 x3 x4 x5) (i) : IsR (val_main_cst_10 (F := Ideal) i) := by
  rw [val_main_cst_10_apply]
  exact r_c0
theorem f_v59 (H : Fin6 x0 x1 x2 x3 x4 x5) (i) : IsR (val_main_v59 (F := Ideal) x0 x2 x5 i) := by
  rw [val_main_v59_apply]
  exact (r_sum fun _ => r_mul (f_v48 H _) (H.h5 _))
theorem f_v60 (H : Fin6 x0 x1 x2 x3 x4 x5) (i) : IsR (val_main_v60 (F := Ideal) x0 x1 x2 x3 x4 x5 i) := by
  rw [val_main_v60_apply]
  exact r_mul (f_v34_0 H _) (f_v59 H _)
theorem f_v61 (H : Fin6 x0 x1 x2 x3 x4 x5) (i) : IsR (val_main_v61 (F := Ideal) x0 x1 x2 x3 x4 x5 i) := by
  rw [val_main_v61_apply]
  exact r_mul (f_v59 H _) (f_v33 H _)
theorem f_call1_v0 (H : Fin6 x0 x1 x2 x3 x4 x5) (i) : IsR (val_main_call1_v0 (F := Ideal) x0 x1 x2 x3 x4 x5 i) := by
  rw [val_main_call1_v0_apply]
  exact r_mul (f_v32 H _) (f_v61 H _)
theorem f_call1_v1 (H : Fin6 x0 x1 x2 x3 x4 x5) (i) : IsR (val_main_call1_v1 (F := Ideal) x0 x1 x2 x3 x4 x5 i) := by
  rw [val_main_call1_v1_apply]
  exact r_mul (f_v61 H _) (f_v34_2 H _)
theorem f_call1_v2 (H : Fin6 x0 x1 x2 x3 x4 x5) (i) : IsR (val_main_call1_v2 (F := Ideal) x0 x1 x2 x3 x4 x5 i) := by
  rw [val_main_call1_v2_apply]
  exact r_mul (f_call1_v0 H _) (f_v34_1 H _)
theorem f_v62 (H : Fin6 x0 x1 x2 x3 x4 x5) (i) : IsR (val_main_v62 (F := Ideal) x0 x1 x2 x3 x4 x5 i) := by
  rw [val_main_v62_apply]
  exact r_add (f_call1_v1 H _) (f_call1_v2 H _)
/-- The two gradients side by side: the left half is the first, the right half the second. -/
theorem v63_lo (x0 x1 : FVec Ideal S2048x1024 .f32) (x2 : FVec Ideal S3x1024 .f32) (x3 : FVec Ideal S1024 .f32)
    (x4 : FVec Ideal S1024x5632 .f32) (x5 : FVec Ideal S2816x1024 .f32) (s : Fin 2048) (k : Fin 5632) (h : k.val < 2816) :
    val_main_v63 (F := Ideal) x0 x1 x2 x3 x4 x5 (ix2 s k) = val_main_v62 (F := Ideal) x0 x1 x2 x3 x4 x5 (ix2 s ⟨k.val, h⟩) := by
  unfold val_main_v63
  generalize val_main_v62 (F := Ideal) x0 x1 x2 x3 x4 x5 = p
  generalize val_main_v60 (F := Ideal) x0 x1 x2 x3 x4 x5 = q
  pointwise
  rw [dif_pos h]
theorem v63_hi (x0 x1 : FVec Ideal S2048x1024 .f32) (x2 : FVec Ideal S3x1024 .f32) (x3 : FVec Ideal S1024 .f32)
    (x4 : FVec Ideal S1024x5632 .f32) (x5 : FVec Ideal S2816x1024 .f32) (s : Fin 2048) (k : Fin 5632) (h : ¬ k.val < 2816) :
    val_main_v63 (F := Ideal) x0 x1 x2 x3 x4 x5 (ix2 s k) = val_main_v60 (F := Ideal) x0 x1 x2 x3 x4 x5 (ix2 s ⟨k.val - 2816, by omega⟩) := by
  unfold val_main_v63
  generalize val_main_v62 (F := Ideal) x0 x1 x2 x3 x4 x5 = p
  generalize val_main_v60 (F := Ideal) x0 x1 x2 x3 x4 x5 = q
  pointwise
  rw [dif_neg h]
theorem f_v63 (H : Fin6 x0 x1 x2 x3 x4 x5) (i) : IsR (val_main_v63 (F := Ideal) x0 x1 x2 x3 x4 x5 i) := by
  idx_vars i
  by_cases h : i1.val < 2816
  · rw [v63_lo x0 x1 x2 x3 x4 x5 i0 i1 h]; exact f_v62 H _
  · rw [v63_hi x0 x1 x2 x3 x4 x5 i0 i1 h]; exact f_v60 H _
theorem f_v66 (H : Fin6 x0 x1 x2 x3 x4 x5) (i) : IsR (val_main_v66 (F := Ideal) x0 x1 x2 x3 x4 x5 i) := by
  rw [val_main_v66_apply]
  exact (r_sum fun _ => r_mul (f_v63 H _) (H.h4 _))
theorem f_cst_11 (H : Fin6 x0 x1 x2 x3 x4 x5) (i) : IsR (val_main_cst_11 (F := Ideal) i) := by
  rw [val_main_cst_11_apply]
  exact r_c0
theorem f_cst_12 (H : Fin6 x0 x1 x2 x3 x4 x5) (i) : IsR (val_main_cst_12 (F := Ideal) i) := by
  rw [val_main_cst_12_apply]
  exact r_c0
theorem f_cst_13 (H : Fin6 x0 x1 x2 x3 x4 x5) (i) : IsR (val_main_cst_13 (F := Ideal) i) := by
  rw [val_main_cst_13_apply]
  exact r_c0
theorem f_v73 (H : Fin6 x0 x1 x2 x3 x4 x5) (i) : IsR (val_main_v73 (F := Ideal) x2 i) := by
  rw [val_main_v73_apply]
  exact (f_v24 H _)
theorem f_v74 (H : Fin6 x0 x1 x2 x3 x4 x5) (i) : IsR (val_main_v74 (F := Ideal) x0 x1 x2 x3 x4 x5 i) := by
  rw [val_main_v74_apply]
  exact r_mul (f_v66 H _) (f_v73 H _)
theorem f_cst_14 (H : Fin6 x0 x1 x2 x3 x4 x5) (i) : IsR (val_main_cst_14 (F := Ideal) i) := by
  rw [val_main_cst_14_apply]
  exact r_c0
theorem f_cst_15 (H : Fin6 x0 x1 x2 x3 x4 x5) (i) : IsR (val_main_cst_15 (F := Ideal) i) := by
  rw [val_main_cst_15_apply]
  exact r_c0
theorem f_cst_16 (H : Fin6 x0 x1 x2 x3 x4 x5) (i) : IsR (val_main_cst_16 (F := Ideal) i) := by
  rw [val_main_cst_16_apply]
  exact r_c0
theorem f_cst_17 (H : Fin6 x0 x1 x2 x3 x4 x5) (i) : IsR (val_main_cst_17 (F := Ideal) i) := by
  rw [val_main_cst_17_apply]
  exact r_c0
theorem f_v85 (H : Fin6 x0 x1 x2 x3 x4 x5) (i) : IsR (val_main_v85 (F := Ideal) x3 i) := by
  rw [val_main_v85_apply]
  exact (f_v15 H _)
theorem f_v86 (H : Fin6 x0 x1 x2 x3 x4 x5) (i) : IsR (val_main_v86 (F := Ideal) x0 x1 x2 x3 x4 x5 i) := by
  rw [val_main_v86_apply]
  exact r_mul (f_v74 H _) (f_v85 H _)
theorem f_cst_18 (H : Fin6 x0 x1 x2 x3 x4 x5) (i) : IsR (val_main_cst_18 (F := Ideal) i) := by
  rw [val_main_cst_18_apply]
  exact r_c0
theorem f_v88 (H : Fin6 x0 x1 x2 x3 x4 x5) (i) : IsR (val_main_v88 (F := Ideal) x0 x1 x2 x3 x4 x5 i) := by
  rw [val_main_v88_apply]
  exact r_mul (H.h1 _) (f_v86 H _)
theorem f_cst_19 (H : Fin6 x0 x1 x2 x3 x4 x5) (i) : IsR (val_main_cst_19 (F := Ideal) i) := by
  rw [val_main_cst_19_apply]
  exact r_c0
theorem f_v89 (H : Fin6 x0 x1 x2 x3 x4 x5) (i) : IsR (val_main_v89 (F := Ideal) x0 x1 x2 x3 x4 x5 i) := by
  rw [val_main_v89_apply]
  exact r_add (φ := .f32) (f_cst_19 H _) (r_sum fun _ => (f_v88 H _))
theorem f_v90 (H : Fin6 x0 x1 x2 x3 x4 x5) (i) : IsR (val_main_v90 (F := Ideal) x0 x1 x2 x3 x4 x5 i) := by
  rw [val_main_v90_apply]
  exact (f_v89 H _)
theorem f_v91 (H : Fin6 x0 x1 x2 x3 x4 x5) (i) : IsR (val_main_v91 (F := Ideal) x1 i) := by
  rw [val_main_v91_apply]
  exact (f_v9 H _)
theorem f_v92 (H : Fin6 x0 x1 x2 x3 x4 x5) (i) : IsR (val_main_v92 (F := Ideal) x0 x1 x2 x3 x4 x5 i) := by
  rw [val_main_v92_apply]
  exact r_mul (f_v86 H _) (f_v91 H _)
theorem f_v93 (H : Fin6 x0 x1 x2 x3 x4 x5) (i) : IsR (val_main_v93 (F := Ideal) x0 x1 x2 x3 x4 x5 i) := by
  rw [val_main_v93_apply]
  exact r_add (H.h0 _) (f_v92 H _)
theorem f_v94 (H : Fin6 x0 x1 x2 x3 x4 x5) (i) : IsR (val_main_v94 (F := Ideal) x0 x1 x2 x3 x4 x5 i) := by
  rw [val_main_v94_apply]
  exact r_mul (f_v90 H _) (f_v12 H _)
theorem f_cst_20 (H : Fin6 x0 x1 x2 x3 x4 x5) (i) : IsR (val_main_cst_20 (F := Ideal) i) := by
  rw [val_main_cst_20_apply]
  exact r_1024
theorem f_v95 (H : Fin6 x0 x1 x2 x3 x4 x5) (i) : IsR (val_main_v95 (F := Ideal) i) := by
  rw [val_main_v95_apply]
  exact (f_cst_20 H _)
theorem f_v96 (H : Fin6 x0 x1 x2 x3 x4 x5) (i) : IsR (val_main_v96 (F := Ideal) x0 x1 x2 x3 x4 x5 i) := by
  rw [val_main_v96_apply, val_main_v95_apply, val_main_cst_20_apply]
  exact r_div1024 (f_v94 H _)
theorem f_cst_21 (H : Fin6 x0 x1 x2 x3 x4 x5) (i) : IsR (val_main_cst_21 (F := Ideal) i) := by
  rw [val_main_cst_21_apply]
  exact r_c0
theorem f_v97 (H : Fin6 x0 x1 x2 x3 x4 x5) (i) : IsR (val_main_v97 (F := Ideal) x0 x1 x2 x3 x4 x5 i) := by
  rw [val_main_v97_apply]
  exact r_add (φ := .f32) (f_cst_21 H _) (r_sum fun _ => (f_v96 H _))
theorem f_v98 (H : Fin6 x0 x1 x2 x3 x4 x5) (i) : IsR (val_main_v98 (F := Ideal) x0 x1 x2 x3 x4 x5 i) := by
  rw [val_main_v98_apply]
  exact (f_v97 H _)
theorem f_v99 (H : Fin6 x0 x1 x2 x3 x4 x5) (i) : IsR (val_main_v99 (F := Ideal) x0 x1 x2 x3 x4 x5 i) := by
  rw [val_main_v99_apply]
  exact r_mul (H.h1 _) (f_v98 H _)
theorem f_cst_22 (H : Fin6 x0 x1 x2 x3 x4 x5) (i) : IsR (val_main_cst_22 (F := Ideal) i) := by
  rw [val_main_cst_22_apply]
  exact r_c0

end Stages

end Cert.Proof.FfnReal
-- ==== Proof.FfnRef.lean ====
module

public import proofs.«01_k».proof.Proof.FfnReal
public import Idealize.ShloMosaic.Lib.Pipeline.ValueKit

@[expose] public section

set_option maxRecDepth 16384

noncomputable section

open Idealize.ShloMosaic Idealize.ShloMosaic.TcCoe Idealize.SL.Sem

namespace Cert.Proof.FfnRef

open Cert.FfnReferenceIdeal Cert.FfnReferenceIdeal.Read

abbrev kHalf : EReal := FloatOps.ofBits (F := Ideal) .f32 0x3F000000#32
abbrev kMHalf : EReal := FloatOps.ofBits (F := Ideal) .f32 0xBF000000#32
abbrev kOne : EReal := FloatOps.ofBits (F := Ideal) .f32 0x3F800000#32
abbrev k1024 : EReal := FloatOps.ofBits (F := Ideal) .f32 0x44800000#32
abbrev kEps : EReal := FloatOps.ofBits (F := Ideal) .f32 0x358637BD#32

variable (x0 x1 : FVec Ideal S2048x1024 .f32) (x2 : FVec Ideal S3x1024 .f32) (x3 : FVec Ideal S1024 .f32) (x4 : FVec Ideal S1024x5632 .f32) (x5 : FVec Ideal S2816x1024 .f32)
variable (s : Fin 2048) (k : Fin 1024) (n : Fin 2816)

theorem r9 : val_main_v9 (F := Ideal) x1 (ix2 s 0) = Ideal.rsqrt (Ideal.div (∑ k : Fin 1024, x1 (ix2 s k) * x1 (ix2 s k)) k1024 + kEps) := by
  unfold val_main_v9 val_main_v8 val_main_v7 val_main_v6 val_main_v5 val_main_v4 val_main_v3 val_main_v2 val_main_cst_1 val_main_cst_2 val_main_cst_3
  pointwise

theorem r14 : val_main_v14 (F := Ideal) x1 (ix2 s k) = x1 (ix2 s k) * val_main_v9 (F := Ideal) x1 (ix2 s 0) := by
  unfold val_main_v14 val_main_v13
  generalize val_main_v9 (F := Ideal) x1 = z9
  pointwise

theorem r17 : val_main_v17 (F := Ideal) x1 x3 (ix2 s k) = val_main_v14 (F := Ideal) x1 (ix2 s k) * x3 (ix1 k) := by
  unfold val_main_v17 val_main_v16 val_main_v15
  generalize val_main_v14 (F := Ideal) x1 = z14
  pointwise

theorem r74 : val_main_v74 (F := Ideal) x0 x1 x2 x3 x4 x5 (ix2 s k) = val_main_v66 (F := Ideal) x0 x1 x2 x3 x4 x5 (ix2 s k) * (kOne + x2 (ix2 1 k)) := by
  unfold val_main_v74 val_main_v73 val_main_v24 val_main_v23 val_main_v22 val_main_v21 val_main_v20 val_main_cst_5
  generalize val_main_v66 (F := Ideal) x0 x1 x2 x3 x4 x5 = z66
  pointwise

theorem r86 : val_main_v86 (F := Ideal) x0 x1 x2 x3 x4 x5 (ix2 s k) = val_main_v74 (F := Ideal) x0 x1 x2 x3 x4 x5 (ix2 s k) * x3 (ix1 k) := by
  unfold val_main_v86 val_main_v85 val_main_v15
  generalize val_main_v74 (F := Ideal) x0 x1 x2 x3 x4 x5 = z74
  pointwise

theorem r70 : val_main_v70 (F := Ideal) x0 x1 x2 x3 x4 x5 (ix2 s k) = val_main_v17 (F := Ideal) x1 x3 (ix2 s k) * val_main_v66 (F := Ideal) x0 x1 x2 x3 x4 x5 (ix2 s k) := by
  unfold val_main_v70
  generalize val_main_v17 (F := Ideal) x1 x3 = z17
  generalize val_main_v66 (F := Ideal) x0 x1 x2 x3 x4 x5 = z66
  pointwise

theorem r82 : val_main_v82 (F := Ideal) x0 x1 x2 x3 x4 x5 (ix2 s k) = val_main_v14 (F := Ideal) x1 (ix2 s k) * val_main_v74 (F := Ideal) x0 x1 x2 x3 x4 x5 (ix2 s k) := by
  unfold val_main_v82
  generalize val_main_v14 (F := Ideal) x1 = z14
  generalize val_main_v74 (F := Ideal) x0 x1 x2 x3 x4 x5 = z74
  pointwise

theorem r48 : val_main_v48 (F := Ideal) x0 x2 (ix2 s k) = kHalf * x2 (ix2 2 k) * x0 (ix2 s k) := by
  unfold val_main_v48 val_main_v47 val_main_v46 val_main_v42 val_main_v41 val_main_v40 val_main_v39 val_main_v38 val_main_cst_6
  pointwise

theorem r49 : val_main_v49 (F := Ideal) x0 x1 x2 x3 x4 x5 (ix2 s k) = x0 (ix2 s k) * val_main_v37 (F := Ideal) x1 x2 x3 x4 x5 (ix2 s k) := by
  unfold val_main_v49 val_main_v46
  generalize val_main_v37 (F := Ideal) x1 x2 x3 x4 x5 = z37
  pointwise

theorem r59 : val_main_v59 (F := Ideal) x0 x2 x5 (ix2 s n) = ∑ k : Fin 1024, val_main_v48 (F := Ideal) x0 x2 (ix2 s k) * x5 (ix2 n k) := by
  unfold val_main_v59
  generalize val_main_v48 (F := Ideal) x0 x2 = z48
  pointwise

theorem r66 : val_main_v66 (F := Ideal) x0 x1 x2 x3 x4 x5 (ix2 s k) = ∑ q : Fin 5632, val_main_v63 (F := Ideal) x0 x1 x2 x3 x4 x5 (ix2 s q) * x4 (ix2 k q) := by
  unfold val_main_v66
  generalize val_main_v63 (F := Ideal) x0 x1 x2 x3 x4 x5 = z63
  pointwise

theorem r89 : val_main_v89 (F := Ideal) x0 x1 x2 x3 x4 x5 (ix1 s) = ∑ k : Fin 1024, x1 (ix2 s k) * val_main_v86 (F := Ideal) x0 x1 x2 x3 x4 x5 (ix2 s k) := by
  unfold val_main_v89 val_main_v88 val_main_cst_19
  generalize val_main_v86 (F := Ideal) x0 x1 x2 x3 x4 x5 = z86
  pointwise

theorem r12 : val_main_v12 (F := Ideal) x1 (ix2 s 0) = kMHalf * val_main_v10 (F := Ideal) x1 (ix2 s 0) := by
  unfold val_main_v12 val_main_v11 val_main_cst_4
  generalize val_main_v10 (F := Ideal) x1 = z10
  pointwise

theorem r98 : val_main_v98 (F := Ideal) x0 x1 x2 x3 x4 x5 (ix2 s k) = Ideal.div (val_main_v89 (F := Ideal) x0 x1 x2 x3 x4 x5 (ix1 s) * val_main_v12 (F := Ideal) x1 (ix2 s 0)) k1024 := by
  unfold val_main_v98 val_main_v97 val_main_v96 val_main_v95 val_main_v94 val_main_v90 val_main_cst_20 val_main_cst_21
  generalize val_main_v89 (F := Ideal) x0 x1 x2 x3 x4 x5 = z89
  generalize val_main_v12 (F := Ideal) x1 = z12
  pointwise
  rw [Fin.sum_univ_one]

theorem r102 : val_main_v102 (F := Ideal) x0 x1 x2 x3 x4 x5 (ix2 s k) = x0 (ix2 s k) + val_main_v86 (F := Ideal) x0 x1 x2 x3 x4 x5 (ix2 s k) * val_main_v9 (F := Ideal) x1 (ix2 s 0) + x1 (ix2 s k) * val_main_v98 (F := Ideal) x0 x1 x2 x3 x4 x5 (ix2 s k) + val_main_v98 (F := Ideal) x0 x1 x2 x3 x4 x5 (ix2 s k) * x1 (ix2 s k) := by
  unfold val_main_v102 val_main_v101 val_main_v100 val_main_v99 val_main_v93 val_main_v92 val_main_v91
  generalize val_main_v98 (F := Ideal) x0 x1 x2 x3 x4 x5 = z98
  generalize val_main_v86 (F := Ideal) x0 x1 x2 x3 x4 x5 = z86
  generalize val_main_v9 (F := Ideal) x1 = z9
  pointwise

theorem r54 : val_main_v54 (F := Ideal) x0 x1 x2 x3 x4 x5 (ix1 k) = kHalf * ∑ s : Fin 2048, val_main_v49 (F := Ideal) x0 x1 x2 x3 x4 x5 (ix2 s k) := by
  unfold val_main_v54 val_main_v53 val_main_v52 val_main_v51 val_main_v50 val_main_cst_7 val_main_cst_8 val_main_cst_9
  generalize val_main_v49 (F := Ideal) x0 x1 x2 x3 x4 x5 = z49
  pointwise
  simp

theorem r69 : val_main_v69 (F := Ideal) x0 x1 x2 x3 x4 x5 (ix1 k) = ∑ s : Fin 2048, val_main_v66 (F := Ideal) x0 x1 x2 x3 x4 x5 (ix2 s k) := by
  unfold val_main_v69 val_main_v68 val_main_v67 val_main_cst_11 val_main_cst_12
  generalize val_main_v66 (F := Ideal) x0 x1 x2 x3 x4 x5 = z66
  pointwise
  simp

theorem r75 : val_main_v75 (F := Ideal) x0 x1 x2 x3 x4 x5 (ix1 k) = ∑ s : Fin 2048, val_main_v70 (F := Ideal) x0 x1 x2 x3 x4 x5 (ix2 s k) := by
  unfold val_main_v75 val_main_v72 val_main_v71 val_main_cst_13 val_main_cst_14
  generalize val_main_v70 (F := Ideal) x0 x1 x2 x3 x4 x5 = z70
  pointwise
  simp

theorem r87 : val_main_v87 (F := Ideal) x0 x1 x2 x3 x4 x5 (ix1 k) = ∑ s : Fin 2048, val_main_v82 (F := Ideal) x0 x1 x2 x3 x4 x5 (ix2 s k) := by
  unfold val_main_v87 val_main_v84 val_main_v83 val_main_cst_17 val_main_cst_18
  generalize val_main_v82 (F := Ideal) x0 x1 x2 x3 x4 x5 = z82
  pointwise
  simp

theorem r105_0 : val_main_v105 (F := Ideal) x0 x1 x2 x3 x4 x5 (ix2 0 k) = val_main_v69 (F := Ideal) x0 x1 x2 x3 x4 x5 (ix1 k) := by
  unfold val_main_v105 val_main_v81 val_main_v80 val_main_v79 val_main_v78 val_main_v77 val_main_v76 val_main_v56 val_main_v55 val_main_cst_10 val_main_cst_15 val_main_cst_16
  generalize val_main_v103 (F := Ideal) x0 x1 x2 x3 x4 x5 = z103
  generalize val_main_v54 (F := Ideal) x0 x1 x2 x3 x4 x5 = z54
  generalize val_main_v69 (F := Ideal) x0 x1 x2 x3 x4 x5 = z69
  generalize val_main_v75 (F := Ideal) x0 x1 x2 x3 x4 x5 = z75
  pointwise

theorem r105_1 : val_main_v105 (F := Ideal) x0 x1 x2 x3 x4 x5 (ix2 1 k) = val_main_v75 (F := Ideal) x0 x1 x2 x3 x4 x5 (ix1 k) := by
  unfold val_main_v105 val_main_v81 val_main_v80 val_main_v79 val_main_v78 val_main_v77 val_main_v76 val_main_v56 val_main_v55 val_main_cst_10 val_main_cst_15 val_main_cst_16
  generalize val_main_v103 (F := Ideal) x0 x1 x2 x3 x4 x5 = z103
  generalize val_main_v54 (F := Ideal) x0 x1 x2 x3 x4 x5 = z54
  generalize val_main_v69 (F := Ideal) x0 x1 x2 x3 x4 x5 = z69
  generalize val_main_v75 (F := Ideal) x0 x1 x2 x3 x4 x5 = z75
  pointwise

theorem r105_2 : val_main_v105 (F := Ideal) x0 x1 x2 x3 x4 x5 (ix2 2 k) = val_main_v54 (F := Ideal) x0 x1 x2 x3 x4 x5 (ix1 k) := by
  unfold val_main_v105 val_main_v81 val_main_v80 val_main_v79 val_main_v78 val_main_v77 val_main_v76 val_main_v56 val_main_v55 val_main_cst_10 val_main_cst_15 val_main_cst_16
  generalize val_main_v103 (F := Ideal) x0 x1 x2 x3 x4 x5 = z103
  generalize val_main_v54 (F := Ideal) x0 x1 x2 x3 x4 x5 = z54
  generalize val_main_v69 (F := Ideal) x0 x1 x2 x3 x4 x5 = z69
  generalize val_main_v75 (F := Ideal) x0 x1 x2 x3 x4 x5 = z75
  pointwise

theorem r105_3 : val_main_v105 (F := Ideal) x0 x1 x2 x3 x4 x5 (ix2 3 k) = val_main_v87 (F := Ideal) x0 x1 x2 x3 x4 x5 (ix1 k) := by
  unfold val_main_v105 val_main_v103
  generalize val_main_v81 (F := Ideal) x0 x1 x2 x3 x4 x5 = z81
  generalize val_main_v87 (F := Ideal) x0 x1 x2 x3 x4 x5 = z87
  pointwise

theorem r105_4 (κ : Fin 8) (h : 4 ≤ κ.val) : val_main_v105 (F := Ideal) x0 x1 x2 x3 x4 x5 (ix2 κ k) = (0 : EReal) := by
  unfold val_main_v105 val_main_v104 val_main_cst_22
  generalize val_main_v81 (F := Ideal) x0 x1 x2 x3 x4 x5 = z81
  generalize val_main_v103 (F := Ideal) x0 x1 x2 x3 x4 x5 = z103
  pointwise
  rw [dif_neg (by omega), dif_neg (by omega)]

theorem r109 (j : Fin 4) (c : Fin 704) : val_main_v109 (F := Ideal) x0 x1 x2 x3 x4 x5 (ix3 j s c) = val_main_v62 (F := Ideal) x0 x1 x2 x3 x4 x5 (ix2 s ⟨j.val * 704 + c.val, by omega⟩) := by
  refine Eq.trans (b := val_main_v63 (F := Ideal) x0 x1 x2 x3 x4 x5 (ix2 s ⟨j.val * 704 + c.val, by omega⟩)) ?_ ?_
  · unfold val_main_v109 val_main_v108 val_main_v107 val_main_v106
    generalize val_main_v63 (F := Ideal) x0 x1 x2 x3 x4 x5 = z
    pointwise
  · rw [FfnReal.v63_lo _ _ _ _ _ _ _ _ (by show j.val * 704 + c.val < 2816; omega)]
theorem r113 (j : Fin 4) (c : Fin 704) : val_main_v113 (F := Ideal) x0 x1 x2 x3 x4 x5 (ix3 j s c) = val_main_v60 (F := Ideal) x0 x1 x2 x3 x4 x5 (ix2 s ⟨j.val * 704 + c.val, by omega⟩) := by
  refine Eq.trans (b := val_main_v63 (F := Ideal) x0 x1 x2 x3 x4 x5 (ix2 s ⟨2816 + (j.val * 704 + c.val), by omega⟩)) ?_ ?_
  · unfold val_main_v113 val_main_v112 val_main_v111 val_main_v110
    generalize val_main_v63 (F := Ideal) x0 x1 x2 x3 x4 x5 = z
    pointwise
  · rw [FfnReal.v63_hi _ _ _ _ _ _ _ _ (by show ¬ 2816 + (j.val * 704 + c.val) < 2816; omega)]
    have e : (⟨2816 + (j.val * 704 + c.val) - 2816, by omega⟩ : Fin 2816) = ⟨j.val * 704 + c.val, by omega⟩ := Fin.ext (by show 2816 + (j.val * 704 + c.val) - 2816 = j.val * 704 + c.val; omega)
    exact congrArg (fun q => val_main_v60 (F := Ideal) x0 x1 x2 x3 x4 x5 (ix2 s q)) e
theorem r116 (j : Fin 4) (c : Fin 704) : val_main_v116 (F := Ideal) x1 x2 x3 x4 (ix3 j s c) = val_main_v35 (F := Ideal) x1 x2 x3 x4 (ix2 s ⟨j.val * 704 + c.val, by omega⟩) := by
  unfold val_main_v116 val_main_v115 val_main_v114
  generalize val_main_v35 (F := Ideal) x1 x2 x3 x4 = z
  pointwise
theorem r117 (i) : val_main_v117 (F := Ideal) x0 x2 i = val_main_v48 (F := Ideal) x0 x2 i := rfl
end Cert.Proof.FfnRef
-- ==== Proof.FfnFacts.lean ====
module

public import proofs.«01_k».proof.Proof.Gen.FfnKernelIdeal.Skeleton
public import proofs.«01_k».proof.Proof.Gen.FfnKernelIdeal.Frame
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.Proof.Ffn

open Cert.FfnKernelIdeal Cert.FfnKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Branch condition 0 of the body at a grid point. -/
abbrev cond0_0 (i : grid0.Coords) : Prop := k0_cond1 i = 1#1
/-- Branch condition 0 in closed form over the points. -/
theorem hcond0_0 : ∀ t : Fin cfg0.N, cond0_0 (grid0.coords t) ↔ t.val % 4 = 0 :=
  (fun t => by
    have ht : t.val < 16 := Nat.lt_of_lt_of_eq t.isLt N_0
    have e0 : (grid0.coords t 0).val = t.val / 4 % 4 := Pipeline.Grid.coords_val t 0 (by decide) rfl
    have e1 : (grid0.coords t 1).val = t.val / 1 % 4 := Pipeline.Grid.coords_val t 1 (by decide) rfl
    simp only [cond0_0, k0_cond1, e0, e1]
    word_cmp
   : ∀ t : Fin grid0.N, cond0_0 (grid0.coords t) ↔ t.val % 4 = 0)

/-- Branch condition 1 of the body at a grid point. -/
abbrev cond0_1 (i : grid0.Coords) : Prop := k0_cond2 i = 1#1
/-- Branch condition 1 in closed form over the points. -/
theorem hcond0_1 : ∀ t : Fin cfg0.N, cond0_1 (grid0.coords t) ↔ t.val % 16 = 0 :=
  (fun t => by
    have ht : t.val < 16 := Nat.lt_of_lt_of_eq t.isLt N_0
    have e0 : (grid0.coords t 0).val = t.val / 4 % 4 := Pipeline.Grid.coords_val t 0 (by decide) rfl
    have e1 : (grid0.coords t 1).val = t.val / 1 % 4 := Pipeline.Grid.coords_val t 1 (by decide) rfl
    simp only [cond0_1, k0_cond2, e0, e1]
    word_cmp
   : ∀ t : Fin grid0.N, cond0_1 (grid0.coords t) ↔ t.val % 16 = 0)

/-- Branch condition 2 of the body at a grid point. -/
abbrev cond0_2 (i : grid0.Coords) : Prop := k0_cond3 i = 1#1
/-- Branch condition 2 in closed form over the points. -/
theorem hcond0_2 : ∀ t : Fin cfg0.N, cond0_2 (grid0.coords t) ↔ t.val % 4 = 3 :=
  (fun t => by
    have ht : t.val < 16 := Nat.lt_of_lt_of_eq t.isLt N_0
    have e0 : (grid0.coords t 0).val = t.val / 4 % 4 := Pipeline.Grid.coords_val t 0 (by decide) rfl
    have e1 : (grid0.coords t 1).val = t.val / 1 % 4 := Pipeline.Grid.coords_val t 1 (by decide) rfl
    simp only [cond0_2, k0_cond3, e0, e1]
    word_cmp
   : ∀ t : Fin grid0.N, cond0_2 (grid0.coords t) ↔ t.val % 4 = 3)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
theorem liveAt0_9 : ∀ t : Fin cfg0.N, cfg0.idle 9 (grid0.coords t) = false := fun _ => rfl
theorem liveAt0_11 : ∀ t : Fin cfg0.N, cfg0.idle 11 (grid0.coords t) = false := fun _ => rfl
theorem liveAt0_12 : ∀ t : Fin cfg0.N, cfg0.idle 12 (grid0.coords t) = false := fun _ => rfl
theorem liveAt0_13 : ∀ t : Fin cfg0.N, cfg0.idle 13 (grid0.coords t) = false := fun _ => rfl
theorem idleAt0_10_A : ∀ t : Fin cfg0.N, cond0_0 (grid0.coords t) → cond0_1 (grid0.coords t) → ¬cond0_2 (grid0.coords t) → cfg0.idle 10 (grid0.coords t) = true := by decide +kernel
theorem noFlush0_10_A : ∀ t : Fin cfg0.N, cond0_0 (grid0.coords t) → cond0_1 (grid0.coords t) → ¬cond0_2 (grid0.coords t) → (cfg0.win 10).flush t = false := by decide +kernel
theorem idleAt0_10_B : ∀ t : Fin cfg0.N, ¬cond0_0 (grid0.coords t) → ¬cond0_1 (grid0.coords t) → ¬cond0_2 (grid0.coords t) → cfg0.idle 10 (grid0.coords t) = true := by decide +kernel
theorem noFlush0_10_B : ∀ t : Fin cfg0.N, ¬cond0_0 (grid0.coords t) → ¬cond0_1 (grid0.coords t) → ¬cond0_2 (grid0.coords t) → (cfg0.win 10).flush t = false := by decide +kernel
theorem liveAt0_10_C : ∀ t : Fin cfg0.N, ¬cond0_0 (grid0.coords t) → ¬cond0_1 (grid0.coords t) → cond0_2 (grid0.coords t) → cfg0.idle 10 (grid0.coords t) = false := by decide +kernel
theorem idleAt0_10_D : ∀ t : Fin cfg0.N, cond0_0 (grid0.coords t) → ¬cond0_1 (grid0.coords t) → ¬cond0_2 (grid0.coords t) → cfg0.idle 10 (grid0.coords t) = true := by decide +kernel
theorem noFlush0_10_D : ∀ t : Fin cfg0.N, cond0_0 (grid0.coords t) → ¬cond0_1 (grid0.coords t) → ¬cond0_2 (grid0.coords t) → (cfg0.win 10).flush t = false := by decide +kernel
/-- The positions at which the buffer of output 14 holds nothing the body stored. -/
def freshTab0_14 : ℕ → Bool
  | 0 => true
  | n + 1 => (0x8888 : ℕ).testBit n
theorem freshTab0_14_step : ∀ t : Fin cfg0.N,
    freshTab0_14 (t.val + 1) = ((cfg0.win 14).flush t || (cfg0.idle 14 (cfg0.grid.coords t) && freshTab0_14 t.val)) := by decide +kernel
theorem fresh0_14_eq (t : Fin cfg0.N) : cfg0.fresh 14 t.val = freshTab0_14 t.val :=
  Pipeline.Cfg.fresh_tab cfg0 14 freshTab0_14 rfl freshTab0_14_step t.val (Nat.le_of_lt t.isLt)
theorem liveAt0_14_A : ∀ t : Fin cfg0.N, cond0_0 (grid0.coords t) → cond0_1 (grid0.coords t) → ¬cond0_2 (grid0.coords t) → cfg0.idle 14 (grid0.coords t) = false := by decide +kernel
theorem idleAt0_14_B : ∀ t : Fin cfg0.N, ¬cond0_0 (grid0.coords t) → ¬cond0_1 (grid0.coords t) → ¬cond0_2 (grid0.coords t) → cfg0.idle 14 (grid0.coords t) = true := by decide +kernel
theorem noFlush0_14_B : ∀ t : Fin cfg0.N, ¬cond0_0 (grid0.coords t) → ¬cond0_1 (grid0.coords t) → ¬cond0_2 (grid0.coords t) → (cfg0.win 14).flush t = false := by decide +kernel
theorem idleAt0_14_C : ∀ t : Fin cfg0.N, ¬cond0_0 (grid0.coords t) → ¬cond0_1 (grid0.coords t) → cond0_2 (grid0.coords t) → cfg0.idle 14 (grid0.coords t) = true := by decide +kernel
theorem doFlush0_14_C : ∀ t : Fin cfg0.N, ¬cond0_0 (grid0.coords t) → ¬cond0_1 (grid0.coords t) → cond0_2 (grid0.coords t) → (cfg0.win 14).flush t = true := by decide +kernel
theorem notFresh0_14_C : ∀ t : Fin cfg0.N, ¬cond0_0 (grid0.coords t) → ¬cond0_1 (grid0.coords t) → cond0_2 (grid0.coords t) → cfg0.fresh 14 t.val = false := by
  intro t; rw [fresh0_14_eq t]; revert t; decide +kernel
theorem liveAt0_14_D : ∀ t : Fin cfg0.N, cond0_0 (grid0.coords t) → ¬cond0_1 (grid0.coords t) → ¬cond0_2 (grid0.coords t) → cfg0.idle 14 (grid0.coords t) = false := by decide +kernel
/-- The positions at which the buffer of output 15 holds nothing the body stored. -/
def freshTab0_15 : ℕ → Bool
  | 0 => true
  | n + 1 => (0x8000 : ℕ).testBit n
theorem freshTab0_15_step : ∀ t : Fin cfg0.N,
    freshTab0_15 (t.val + 1) = ((cfg0.win 15).flush t || (cfg0.idle 15 (cfg0.grid.coords t) && freshTab0_15 t.val)) := by decide +kernel
theorem fresh0_15_eq (t : Fin cfg0.N) : cfg0.fresh 15 t.val = freshTab0_15 t.val :=
  Pipeline.Cfg.fresh_tab cfg0 15 freshTab0_15 rfl freshTab0_15_step t.val (Nat.le_of_lt t.isLt)
theorem liveAt0_15_A : ∀ t : Fin cfg0.N, cond0_0 (grid0.coords t) → cond0_1 (grid0.coords t) → ¬cond0_2 (grid0.coords t) → cfg0.idle 15 (grid0.coords t) = false := by decide +kernel
theorem idleAt0_15_B : ∀ t : Fin cfg0.N, ¬cond0_0 (grid0.coords t) → ¬cond0_1 (grid0.coords t) → ¬cond0_2 (grid0.coords t) → cfg0.idle 15 (grid0.coords t) = true := by decide +kernel
theorem noFlush0_15_B : ∀ t : Fin cfg0.N, ¬cond0_0 (grid0.coords t) → ¬cond0_1 (grid0.coords t) → ¬cond0_2 (grid0.coords t) → (cfg0.win 15).flush t = false := by decide +kernel
theorem liveAt0_15_C : ∀ t : Fin cfg0.N, ¬cond0_0 (grid0.coords t) → ¬cond0_1 (grid0.coords t) → cond0_2 (grid0.coords t) → cfg0.idle 15 (grid0.coords t) = false := by decide +kernel
theorem notFresh0_15_C : ∀ t : Fin cfg0.N, ¬cond0_0 (grid0.coords t) → ¬cond0_1 (grid0.coords t) → cond0_2 (grid0.coords t) → cfg0.fresh 15 t.val = false := by
  intro t; rw [fresh0_15_eq t]; revert t; decide +kernel
theorem idleAt0_15_D : ∀ t : Fin cfg0.N, cond0_0 (grid0.coords t) → ¬cond0_1 (grid0.coords t) → ¬cond0_2 (grid0.coords t) → cfg0.idle 15 (grid0.coords t) = true := by decide +kernel
theorem noFlush0_15_D : ∀ t : Fin cfg0.N, cond0_0 (grid0.coords t) → ¬cond0_1 (grid0.coords t) → ¬cond0_2 (grid0.coords t) → (cfg0.win 15).flush t = false := by decide +kernel

abbrev VO0_10 : View sig .tc .vmem S512x1024 .f32 := (Memref.whole cc0_stg10_0 : Memref sig .tc .vmem S512x1024 .f32).view
abbrev VO0_11 : View sig .tc .vmem S1x512x704 .bf16 := (Memref.whole cc0_stg11_0 : Memref sig .tc .vmem S1x512x704 .bf16).view
abbrev VO0_12 : View sig .tc .vmem S1x512x704 .bf16 := (Memref.whole cc0_stg12_0 : Memref sig .tc .vmem S1x512x704 .bf16).view
abbrev VO0_13 : View sig .tc .vmem S1x512x704 .bf16 := (Memref.whole cc0_stg13_0 : Memref sig .tc .vmem S1x512x704 .bf16).view
abbrev VO0_14 : View sig .tc .vmem S512x1024 .bf16 := (Memref.whole cc0_stg14_0 : Memref sig .tc .vmem S512x1024 .bf16).view
abbrev VO0_15 : View sig .tc .vmem S8x1024 .f32 := (Memref.whole cc0_stg15_0 : Memref sig .tc .vmem S8x1024 .f32).view
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x704 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512x704 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S3x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x704x1024 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x704x1024 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x704x1024 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S512x1024 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x512x704 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x512x704 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x512x704 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S512x1024 .bf16 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S8x1024 .f32 := win0_15.stage (cfg0.slots t 15)
abbrev hs0_15 (t : Fin cfg0.N) : (ms0_15 t).IsWhole := hstage0_15 ((cfg0.slots t 15).cast nbuf0_15)
abbrev scM0_0 : Memref sig .tc .vmem S512x1024 .bf16 := Memref.whole cc0_scratch0
abbrev scM0_1 : Memref sig .tc .vmem S512x1024 .f32 := Memref.whole cc0_scratch1
abbrev VS0_0 : View sig .tc .vmem S512x1024 .bf16 := scM0_0.view
abbrev VS0_1 : View sig .tc .vmem S512x1024 .f32 := scM0_1.view

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Proof.Ffn

end
-- ==== Proof.FfnRunA.lean ====
module

public import proofs.«01_k».proof.Proof.FfnFacts

@[expose] public section

set_option maxRecDepth 16384

noncomputable section

namespace Cert.Proof.Ffn

open Cert.FfnKernelIdeal Cert.FfnKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body run in case A: the pieces each buffer ends with, and the triple. -/
noncomputable def kernelRun0_A (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x512x704 .bf16) (harg5 : arg5.IsWhole) (arg6 : Memref sig .tc .vmem S1x512x704 .bf16) (harg6 : arg6.IsWhole) (arg7 : Memref sig .tc .vmem S3x1024 .f32) (harg7 : arg7.IsWhole) (arg8 : Memref sig .tc .vmem S1x1024 .f32) (harg8 : arg8.IsWhole) (arg9 : Memref sig .tc .vmem S1x704x1024 .bf16) (harg9 : arg9.IsWhole) (arg10 : Memref sig .tc .vmem S1x704x1024 .bf16) (harg10 : arg10.IsWhole) (arg11 : Memref sig .tc .vmem S1x704x1024 .bf16) (harg11 : arg11.IsWhole) (arg12 : Memref sig .tc .vmem S512x1024 .f32) (harg12 : arg12.IsWhole) (arg13 : Memref sig .tc .vmem S1x512x704 .bf16) (harg13 : arg13.IsWhole) (arg14 : Memref sig .tc .vmem S1x512x704 .bf16) (harg14 : arg14.IsWhole) (arg15 : Memref sig .tc .vmem S1x512x704 .bf16) (harg15 : arg15.IsWhole) (arg16 : Memref sig .tc .vmem S512x1024 .bf16) (harg16 : arg16.IsWhole) (arg17 : Memref sig .tc .vmem S8x1024 .f32) (harg17 : arg17.IsWhole) (arg18 : Memref sig .tc .vmem S512x1024 .bf16) (harg18 : arg18.IsWhole) (arg19 : Memref sig .tc .vmem S512x1024 .f32) (harg19 : arg19.IsWhole) (hc0 : cond0_0 i) (hc1 : cond0_1 i) (hc2 : ¬cond0_2 i)
    (x0 : Vec F S512x1024 .f32) (x1 : Vec F S512x1024 .f32) (x2 : Vec F S512x1024 .f32) (x3 : Vec F S1x512x704 .bf16) (x4 : Vec F S1x512x704 .bf16) (x5 : Vec F S3x1024 .f32) (x6 : Vec F S1x1024 .f32) (x7 : Vec F S1x704x1024 .bf16) (x8 : Vec F S1x704x1024 .bf16) (x9 : Vec F S1x704x1024 .bf16) :
    Σ' (L10 : List (View.Piece (Elt F) S512x1024 .f32)), Σ' (L11 : List (View.Piece (Elt F) S1x512x704 .bf16)), Σ' (L12 : List (View.Piece (Elt F) S1x512x704 .bf16)), Σ' (L13 : List (View.Piece (Elt F) S1x512x704 .bf16)), Σ' (L14 : List (View.Piece (Elt F) S512x1024 .bf16)), Σ' (L15 : List (View.Piece (Elt F) S8x1024 .f32)), Σ' (LS0 : List (View.Piece (Elt F) S512x1024 .bf16)), { LS1 : List (View.Piece (Elt F) S512x1024 .f32) //
      ∀ (xi10 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f LS0) ∗ (∃ f, arg19.view.loc (c : Thread nD τ) ↦[arg19.view.set]{fullShare} arg19.view.writes (Elt F) f LS1)) -∗ K ⟨⟩))
          ⊢ wp frame (wpE (defs₀ (F := F)) Variants.none c none) E (cc0_ffn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨[], ?_, ?_, ?_, ?_, ?_, ?_, ?_, fun xi10 E K => ?run⟩
  case run =>
    simp only [cc0_ffn_bwd_eq_skeleton]; unfold cc0_ffn_bwd_skel
    simp only [k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]; · iexists _; iexact H11
    isplitl [H12]; · iexists _; iexact H12
    isplitl [H13]; · iexists _; iexact H13
    isplitl [H14]; · iexists _; iexact H14
    isplitl [H15]; · iexists _; iexact H15
    isplitl [HS0]; · iexists _; iexact HS0
    iexists _; iexact HS1

end Cert.Proof.Ffn

end
-- ==== Proof.FfnRunB.lean ====
module

public import proofs.«01_k».proof.Proof.FfnRunA

@[expose] public section

set_option maxRecDepth 16384

noncomputable section

namespace Cert.Proof.Ffn

open Cert.FfnKernelIdeal Cert.FfnKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body run in case B: the pieces each buffer ends with, and the triple. -/
noncomputable def kernelRun0_B (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x512x704 .bf16) (harg5 : arg5.IsWhole) (arg6 : Memref sig .tc .vmem S1x512x704 .bf16) (harg6 : arg6.IsWhole) (arg7 : Memref sig .tc .vmem S3x1024 .f32) (harg7 : arg7.IsWhole) (arg8 : Memref sig .tc .vmem S1x1024 .f32) (harg8 : arg8.IsWhole) (arg9 : Memref sig .tc .vmem S1x704x1024 .bf16) (harg9 : arg9.IsWhole) (arg10 : Memref sig .tc .vmem S1x704x1024 .bf16) (harg10 : arg10.IsWhole) (arg11 : Memref sig .tc .vmem S1x704x1024 .bf16) (harg11 : arg11.IsWhole) (arg12 : Memref sig .tc .vmem S512x1024 .f32) (harg12 : arg12.IsWhole) (arg13 : Memref sig .tc .vmem S1x512x704 .bf16) (harg13 : arg13.IsWhole) (arg14 : Memref sig .tc .vmem S1x512x704 .bf16) (harg14 : arg14.IsWhole) (arg15 : Memref sig .tc .vmem S1x512x704 .bf16) (harg15 : arg15.IsWhole) (arg16 : Memref sig .tc .vmem S512x1024 .bf16) (harg16 : arg16.IsWhole) (arg17 : Memref sig .tc .vmem S8x1024 .f32) (harg17 : arg17.IsWhole) (arg18 : Memref sig .tc .vmem S512x1024 .bf16) (harg18 : arg18.IsWhole) (arg19 : Memref sig .tc .vmem S512x1024 .f32) (harg19 : arg19.IsWhole) (hc0 : ¬cond0_0 i) (hc1 : ¬cond0_1 i) (hc2 : ¬cond0_2 i)
    (x0 : Vec F S512x1024 .f32) (x1 : Vec F S512x1024 .f32) (x2 : Vec F S512x1024 .f32) (x3 : Vec F S1x512x704 .bf16) (x4 : Vec F S1x512x704 .bf16) (x5 : Vec F S3x1024 .f32) (x6 : Vec F S1x1024 .f32) (x7 : Vec F S1x704x1024 .bf16) (x8 : Vec F S1x704x1024 .bf16) (x9 : Vec F S1x704x1024 .bf16) (xs0 : Vec F S512x1024 .bf16) (xs1 : Vec F S512x1024 .f32) :
    Σ' (L10 : List (View.Piece (Elt F) S512x1024 .f32)), Σ' (L11 : List (View.Piece (Elt F) S1x512x704 .bf16)), Σ' (L12 : List (View.Piece (Elt F) S1x512x704 .bf16)), Σ' (L13 : List (View.Piece (Elt F) S1x512x704 .bf16)), Σ' (L14 : List (View.Piece (Elt F) S512x1024 .bf16)), Σ' (L15 : List (View.Piece (Elt F) S8x1024 .f32)), Σ' (LS0 : List (View.Piece (Elt F) S512x1024 .bf16)), { LS1 : List (View.Piece (Elt F) S512x1024 .f32) //
      ∀ (xi10 : Vec F S512x1024 .f32) (xi14 : Vec F S512x1024 .bf16) (xi15 : Vec F S8x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ (∃ d, owns (c : Thread nD τ) arg13 fullShare d) ∗ (∃ d, owns (c : Thread nD τ) arg14 fullShare d) ∗ (∃ d, owns (c : Thread nD τ) arg15 fullShare d) ∗ owns (c : Thread nD τ) arg16 fullShare xi14 ∗ owns (c : Thread nD τ) arg17 fullShare xi15 ∗ owns (c : Thread nD τ) arg18 fullShare xs0 ∗ owns (c : Thread nD τ) arg19 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ owns (c : Thread nD τ) arg16 fullShare xi14 ∗ owns (c : Thread nD τ) arg17 fullShare xi15 ∗ owns (c : Thread nD τ) arg18 fullShare xs0 ∗ (∃ f, arg19.view.loc (c : Thread nD τ) ↦[arg19.view.set]{fullShare} arg19.view.writes (Elt F) f LS1)) -∗ K ⟨⟩))
          ⊢ wp frame (wpE (defs₀ (F := F)) Variants.none c none) E (cc0_ffn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨[], ?_, ?_, ?_, [], [], [], ?_, fun xi10 xi14 xi15 E K => ?run⟩
  case run =>
    simp only [cc0_ffn_bwd_eq_skeleton]; unfold cc0_ffn_bwd_skel
    simp only [k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%f14, %hf14, H14⟩, ⟨%f15, %hf15, H15⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg16.eq_unread hf14; obtain rfl := harg17.eq_unread hf15; obtain rfl := harg18.eq_unread hfs0; obtain rfl := harg19.eq_unread hfs1
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]; · iexists _; iexact H11
    isplitl [H12]; · iexists _; iexact H12
    isplitl [H13]; · iexists _; iexact H13
    isplitl [H14]
    · iexists _; isplitr; · ipureintro; exact harg16.read_unread _
      iexact H14
    isplitl [H15]
    · iexists _; isplitr; · ipureintro; exact harg17.read_unread _
      iexact H15
    isplitl [HS0]
    · iexists _; isplitr; · ipureintro; exact harg18.read_unread _
      iexact HS0
    iexists _; iexact HS1

end Cert.Proof.Ffn

end
-- ==== Proof.FfnRunC.lean ====
module

public import proofs.«01_k».proof.Proof.FfnRunB

@[expose] public section

set_option maxRecDepth 16384

noncomputable section

namespace Cert.Proof.Ffn

open Cert.FfnKernelIdeal Cert.FfnKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body run in case C: the pieces each buffer ends with, and the triple. -/
noncomputable def kernelRun0_C (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x512x704 .bf16) (harg5 : arg5.IsWhole) (arg6 : Memref sig .tc .vmem S1x512x704 .bf16) (harg6 : arg6.IsWhole) (arg7 : Memref sig .tc .vmem S3x1024 .f32) (harg7 : arg7.IsWhole) (arg8 : Memref sig .tc .vmem S1x1024 .f32) (harg8 : arg8.IsWhole) (arg9 : Memref sig .tc .vmem S1x704x1024 .bf16) (harg9 : arg9.IsWhole) (arg10 : Memref sig .tc .vmem S1x704x1024 .bf16) (harg10 : arg10.IsWhole) (arg11 : Memref sig .tc .vmem S1x704x1024 .bf16) (harg11 : arg11.IsWhole) (arg12 : Memref sig .tc .vmem S512x1024 .f32) (harg12 : arg12.IsWhole) (arg13 : Memref sig .tc .vmem S1x512x704 .bf16) (harg13 : arg13.IsWhole) (arg14 : Memref sig .tc .vmem S1x512x704 .bf16) (harg14 : arg14.IsWhole) (arg15 : Memref sig .tc .vmem S1x512x704 .bf16) (harg15 : arg15.IsWhole) (arg16 : Memref sig .tc .vmem S512x1024 .bf16) (harg16 : arg16.IsWhole) (arg17 : Memref sig .tc .vmem S8x1024 .f32) (harg17 : arg17.IsWhole) (arg18 : Memref sig .tc .vmem S512x1024 .bf16) (harg18 : arg18.IsWhole) (arg19 : Memref sig .tc .vmem S512x1024 .f32) (harg19 : arg19.IsWhole) (hc0 : ¬cond0_0 i) (hc1 : ¬cond0_1 i) (hc2 : cond0_2 i)
    (x0 : Vec F S512x1024 .f32) (x1 : Vec F S512x1024 .f32) (x2 : Vec F S512x1024 .f32) (x3 : Vec F S1x512x704 .bf16) (x4 : Vec F S1x512x704 .bf16) (x5 : Vec F S3x1024 .f32) (x6 : Vec F S1x1024 .f32) (x7 : Vec F S1x704x1024 .bf16) (x8 : Vec F S1x704x1024 .bf16) (x9 : Vec F S1x704x1024 .bf16) (xo14 : Vec F S512x1024 .bf16) (xo15 : Vec F S8x1024 .f32) (xs0 : Vec F S512x1024 .bf16) (xs1 : Vec F S512x1024 .f32) :
    Σ' (L10 : List (View.Piece (Elt F) S512x1024 .f32)), Σ' (L11 : List (View.Piece (Elt F) S1x512x704 .bf16)), Σ' (L12 : List (View.Piece (Elt F) S1x512x704 .bf16)), Σ' (L13 : List (View.Piece (Elt F) S1x512x704 .bf16)), Σ' (L14 : List (View.Piece (Elt F) S512x1024 .bf16)), Σ' (L15 : List (View.Piece (Elt F) S8x1024 .f32)), Σ' (LS0 : List (View.Piece (Elt F) S512x1024 .bf16)), { LS1 : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare xo14 ∗ owns (c : Thread nD τ) arg17 fullShare xo15 ∗ owns (c : Thread nD τ) arg18 fullShare xs0 ∗ owns (c : Thread nD τ) arg19 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ owns (c : Thread nD τ) arg16 fullShare xo14 ∗ (arg17.view.loc (c : Thread nD τ) ↦[arg17.view.set]{fullShare} arg17.view.writes (Elt F) (harg17.unread xo15) L15) ∗ owns (c : Thread nD τ) arg18 fullShare xs0 ∗ (∃ f, arg19.view.loc (c : Thread nD τ) ↦[arg19.view.set]{fullShare} arg19.view.writes (Elt F) f LS1)) -∗ K ⟨⟩))
          ⊢ wp frame (wpE (defs₀ (F := F)) Variants.none c none) E (cc0_ffn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, [], ?_, [], ?_, fun E K => ?run⟩
  case run =>
    simp only [cc0_ffn_bwd_eq_skeleton]; unfold cc0_ffn_bwd_skel
    simp only [k0_part2_eq_skeleton, k0_part3_eq_skeleton, k0_part4_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%f14, %hf14, H14⟩, ⟨%f15, %hf15, H15⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg16.eq_unread hf14; obtain rfl := harg17.eq_unread hf15; obtain rfl := harg18.eq_unread hfs0; obtain rfl := harg19.eq_unread hfs1
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [H11]; · iexists _; iexact H11
    isplitl [H12]; · iexists _; iexact H12
    isplitl [H13]; · iexists _; iexact H13
    isplitl [H14]
    · iexists _; isplitr; · ipureintro; exact harg16.read_unread _
      iexact H14
    isplitl [H15]; · iexact H15
    isplitl [HS0]
    · iexists _; isplitr; · ipureintro; exact harg18.read_unread _
      iexact HS0
    iexists _; iexact HS1

end Cert.Proof.Ffn

end
-- ==== Proof.FfnRunD.lean ====
module

public import proofs.«01_k».proof.Proof.FfnRunC

@[expose] public section

set_option maxRecDepth 16384

noncomputable section

namespace Cert.Proof.Ffn

open Cert.FfnKernelIdeal Cert.FfnKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body run in case D: the pieces each buffer ends with, and the triple. -/
noncomputable def kernelRun0_D (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x512x704 .bf16) (harg5 : arg5.IsWhole) (arg6 : Memref sig .tc .vmem S1x512x704 .bf16) (harg6 : arg6.IsWhole) (arg7 : Memref sig .tc .vmem S3x1024 .f32) (harg7 : arg7.IsWhole) (arg8 : Memref sig .tc .vmem S1x1024 .f32) (harg8 : arg8.IsWhole) (arg9 : Memref sig .tc .vmem S1x704x1024 .bf16) (harg9 : arg9.IsWhole) (arg10 : Memref sig .tc .vmem S1x704x1024 .bf16) (harg10 : arg10.IsWhole) (arg11 : Memref sig .tc .vmem S1x704x1024 .bf16) (harg11 : arg11.IsWhole) (arg12 : Memref sig .tc .vmem S512x1024 .f32) (harg12 : arg12.IsWhole) (arg13 : Memref sig .tc .vmem S1x512x704 .bf16) (harg13 : arg13.IsWhole) (arg14 : Memref sig .tc .vmem S1x512x704 .bf16) (harg14 : arg14.IsWhole) (arg15 : Memref sig .tc .vmem S1x512x704 .bf16) (harg15 : arg15.IsWhole) (arg16 : Memref sig .tc .vmem S512x1024 .bf16) (harg16 : arg16.IsWhole) (arg17 : Memref sig .tc .vmem S8x1024 .f32) (harg17 : arg17.IsWhole) (arg18 : Memref sig .tc .vmem S512x1024 .bf16) (harg18 : arg18.IsWhole) (arg19 : Memref sig .tc .vmem S512x1024 .f32) (harg19 : arg19.IsWhole) (hc0 : cond0_0 i) (hc1 : ¬cond0_1 i) (hc2 : ¬cond0_2 i)
    (x0 : Vec F S512x1024 .f32) (x1 : Vec F S512x1024 .f32) (x2 : Vec F S512x1024 .f32) (x3 : Vec F S1x512x704 .bf16) (x4 : Vec F S1x512x704 .bf16) (x5 : Vec F S3x1024 .f32) (x6 : Vec F S1x1024 .f32) (x7 : Vec F S1x704x1024 .bf16) (x8 : Vec F S1x704x1024 .bf16) (x9 : Vec F S1x704x1024 .bf16) :
    Σ' (L10 : List (View.Piece (Elt F) S512x1024 .f32)), Σ' (L11 : List (View.Piece (Elt F) S1x512x704 .bf16)), Σ' (L12 : List (View.Piece (Elt F) S1x512x704 .bf16)), Σ' (L13 : List (View.Piece (Elt F) S1x512x704 .bf16)), Σ' (L14 : List (View.Piece (Elt F) S512x1024 .bf16)), Σ' (L15 : List (View.Piece (Elt F) S8x1024 .f32)), Σ' (LS0 : List (View.Piece (Elt F) S512x1024 .bf16)), { LS1 : List (View.Piece (Elt F) S512x1024 .f32) //
      ∀ (xi10 : Vec F S512x1024 .f32) (xi15 : Vec F S8x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare xi15 ∗ (∃ d, owns (c : Thread nD τ) arg18 fullShare d) ∗ (∃ d, owns (c : Thread nD τ) arg19 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ owns (c : Thread nD τ) arg17 fullShare xi15 ∗ (∃ f, arg18.view.loc (c : Thread nD τ) ↦[arg18.view.set]{fullShare} arg18.view.writes (Elt F) f LS0) ∗ (∃ f, arg19.view.loc (c : Thread nD τ) ↦[arg19.view.set]{fullShare} arg19.view.writes (Elt F) f LS1)) -∗ K ⟨⟩))
          ⊢ wp frame (wpE (defs₀ (F := F)) Variants.none c none) E (cc0_ffn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨[], ?_, ?_, ?_, ?_, [], ?_, ?_, fun xi10 xi15 E K => ?run⟩
  case run =>
    simp only [cc0_ffn_bwd_eq_skeleton]; unfold cc0_ffn_bwd_skel
    simp only [k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%f15, %hf15, H15⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg17.eq_unread hf15
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]; · iexists _; iexact H11
    isplitl [H12]; · iexists _; iexact H12
    isplitl [H13]; · iexists _; iexact H13
    isplitl [H14]; · iexists _; iexact H14
    isplitl [H15]
    · iexists _; isplitr; · ipureintro; exact harg17.read_unread _
      iexact H15
    isplitl [HS0]; · iexists _; iexact HS0
    iexists _; iexact HS1

end Cert.Proof.Ffn

end
-- ==== Proof.FfnOuts.lean ====
module

public import proofs.«01_k».proof.Proof.FfnRunD
public import Idealize.ShloMosaic.Lib.Claim

@[expose] public section

set_option maxRecDepth 16384

noncomputable section

namespace Cert.Proof.Ffn

open Cert.FfnKernelIdeal Cert.FfnKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section

variable (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x512x704 .bf16) (harg5 : arg5.IsWhole) (arg6 : Memref sig .tc .vmem S1x512x704 .bf16) (harg6 : arg6.IsWhole) (arg7 : Memref sig .tc .vmem S3x1024 .f32) (harg7 : arg7.IsWhole) (arg8 : Memref sig .tc .vmem S1x1024 .f32) (harg8 : arg8.IsWhole) (arg9 : Memref sig .tc .vmem S1x704x1024 .bf16) (harg9 : arg9.IsWhole) (arg10 : Memref sig .tc .vmem S1x704x1024 .bf16) (harg10 : arg10.IsWhole) (arg11 : Memref sig .tc .vmem S1x704x1024 .bf16) (harg11 : arg11.IsWhole) (arg12 : Memref sig .tc .vmem S512x1024 .f32) (harg12 : arg12.IsWhole) (arg13 : Memref sig .tc .vmem S1x512x704 .bf16) (harg13 : arg13.IsWhole) (arg14 : Memref sig .tc .vmem S1x512x704 .bf16) (harg14 : arg14.IsWhole) (arg15 : Memref sig .tc .vmem S1x512x704 .bf16) (harg15 : arg15.IsWhole) (arg16 : Memref sig .tc .vmem S512x1024 .bf16) (harg16 : arg16.IsWhole) (arg17 : Memref sig .tc .vmem S8x1024 .f32) (harg17 : arg17.IsWhole) (arg18 : Memref sig .tc .vmem S512x1024 .bf16) (harg18 : arg18.IsWhole) (arg19 : Memref sig .tc .vmem S512x1024 .f32) (harg19 : arg19.IsWhole) (hc0 : cond0_0 i) (hc1 : cond0_1 i) (hc2 : ¬cond0_2 i) (x0 : Vec F S512x1024 .f32) (x1 : Vec F S512x1024 .f32) (x2 : Vec F S512x1024 .f32) (x3 : Vec F S1x512x704 .bf16) (x4 : Vec F S1x512x704 .bf16) (x5 : Vec F S3x1024 .f32) (x6 : Vec F S1x1024 .f32) (x7 : Vec F S1x704x1024 .bf16) (x8 : Vec F S1x704x1024 .bf16) (x9 : Vec F S1x704x1024 .bf16)

/-- What case A leaves in the buffer of output 10. -/
def out0_A_10 : Vec F S512x1024 .f32 :=
  VO0_10.read (Elt F) (VO0_10.writes (Elt F) VO0_10.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9).1)

/-- The stores of case A cover the block of output 11. -/
theorem cover0_A_11 (y : S1x512x704.Idx):
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9).2.1, y ∈ pc.1.set :=
  View.cover_of_tiledL (s := S1x512x704) _ S1x256x704.size (by sl_kernel_rfl) y

/-- What case A leaves in the buffer of output 11. -/
def out0_A_11 : Vec F S1x512x704 .bf16 :=
  VO0_11.read (Elt F) (VO0_11.writes (Elt F) VO0_11.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9).2.1)

/-- The stores of case A cover the block of output 12. -/
theorem cover0_A_12 (y : S1x512x704.Idx):
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9).2.2.1, y ∈ pc.1.set :=
  View.cover_of_tiledL (s := S1x512x704) _ S1x256x704.size (by sl_kernel_rfl) y

/-- What case A leaves in the buffer of output 12. -/
def out0_A_12 : Vec F S1x512x704 .bf16 :=
  VO0_12.read (Elt F) (VO0_12.writes (Elt F) VO0_12.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9).2.2.1)

/-- The stores of case A cover the block of output 13. -/
theorem cover0_A_13 (y : S1x512x704.Idx):
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9).2.2.2.1, y ∈ pc.1.set :=
  View.cover_of_tiledL (s := S1x512x704) _ S1x256x704.size (by sl_kernel_rfl) y

/-- What case A leaves in the buffer of output 13. -/
def out0_A_13 : Vec F S1x512x704 .bf16 :=
  VO0_13.read (Elt F) (VO0_13.writes (Elt F) VO0_13.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9).2.2.2.1)

/-- The stores of case A cover the block of output 14. -/
theorem cover0_A_14 (y : S512x1024.Idx):
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9).2.2.2.2.1, y ∈ pc.1.set :=
  View.cover_of_tiledL (s := S512x1024) _ S512x1024.size (by sl_kernel_rfl) y

/-- What case A leaves in the buffer of output 14. -/
def out0_A_14 : Vec F S512x1024 .bf16 :=
  VO0_14.read (Elt F) (VO0_14.writes (Elt F) VO0_14.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9).2.2.2.2.1)

/-- The stores of case A cover the block of output 15. -/
theorem cover0_A_15 (y : S8x1024.Idx):
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9).2.2.2.2.2.1, y ∈ pc.1.set :=
  View.cover_of_tiledL (s := S8x1024) _ S8x1024.size (by sl_kernel_rfl) y

/-- What case A leaves in the buffer of output 15. -/
def out0_A_15 : Vec F S8x1024 .f32 :=
  VO0_15.read (Elt F) (VO0_15.writes (Elt F) VO0_15.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9).2.2.2.2.2.1)

/-- The stores of case A cover scratch 0. -/
theorem scover0_A_0 (y : S512x1024.Idx):
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9).2.2.2.2.2.2.1, y ∈ pc.1.set :=
  View.cover_of_tiledL (s := S512x1024) _ S512x1024.size (by sl_kernel_rfl) y

/-- What case A leaves in scratch 0. -/
def sout0_A_0 : Vec F S512x1024 .bf16 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9).2.2.2.2.2.2.1)

/-- The stores of case A cover scratch 1. -/
theorem scover0_A_1 (y : S512x1024.Idx):
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9).2.2.2.2.2.2.2.1, y ∈ pc.1.set :=
  View.cover_of_wholeMem (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9).2.2.2.2.2.2.2.1 (by sl_whole_mem) y

/-- What case A leaves in scratch 1. -/
def sout0_A_1 : Vec F S512x1024 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9).2.2.2.2.2.2.2.1)

end

section

variable (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x512x704 .bf16) (harg5 : arg5.IsWhole) (arg6 : Memref sig .tc .vmem S1x512x704 .bf16) (harg6 : arg6.IsWhole) (arg7 : Memref sig .tc .vmem S3x1024 .f32) (harg7 : arg7.IsWhole) (arg8 : Memref sig .tc .vmem S1x1024 .f32) (harg8 : arg8.IsWhole) (arg9 : Memref sig .tc .vmem S1x704x1024 .bf16) (harg9 : arg9.IsWhole) (arg10 : Memref sig .tc .vmem S1x704x1024 .bf16) (harg10 : arg10.IsWhole) (arg11 : Memref sig .tc .vmem S1x704x1024 .bf16) (harg11 : arg11.IsWhole) (arg12 : Memref sig .tc .vmem S512x1024 .f32) (harg12 : arg12.IsWhole) (arg13 : Memref sig .tc .vmem S1x512x704 .bf16) (harg13 : arg13.IsWhole) (arg14 : Memref sig .tc .vmem S1x512x704 .bf16) (harg14 : arg14.IsWhole) (arg15 : Memref sig .tc .vmem S1x512x704 .bf16) (harg15 : arg15.IsWhole) (arg16 : Memref sig .tc .vmem S512x1024 .bf16) (harg16 : arg16.IsWhole) (arg17 : Memref sig .tc .vmem S8x1024 .f32) (harg17 : arg17.IsWhole) (arg18 : Memref sig .tc .vmem S512x1024 .bf16) (harg18 : arg18.IsWhole) (arg19 : Memref sig .tc .vmem S512x1024 .f32) (harg19 : arg19.IsWhole) (hc0 : ¬cond0_0 i) (hc1 : ¬cond0_1 i) (hc2 : ¬cond0_2 i) (x0 : Vec F S512x1024 .f32) (x1 : Vec F S512x1024 .f32) (x2 : Vec F S512x1024 .f32) (x3 : Vec F S1x512x704 .bf16) (x4 : Vec F S1x512x704 .bf16) (x5 : Vec F S3x1024 .f32) (x6 : Vec F S1x1024 .f32) (x7 : Vec F S1x704x1024 .bf16) (x8 : Vec F S1x704x1024 .bf16) (x9 : Vec F S1x704x1024 .bf16) (xs0 : Vec F S512x1024 .bf16) (xs1 : Vec F S512x1024 .f32)

/-- What case B leaves in the buffer of output 10. -/
def out0_B_10 : Vec F S512x1024 .f32 :=
  VO0_10.read (Elt F) (VO0_10.writes (Elt F) VO0_10.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs0 xs1).1)

/-- The stores of case B cover the block of output 11. -/
theorem cover0_B_11 (y : S1x512x704.Idx):
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs0 xs1).2.1, y ∈ pc.1.set :=
  View.cover_of_tiledL (s := S1x512x704) _ S1x256x704.size (by sl_kernel_rfl) y

/-- What case B leaves in the buffer of output 11. -/
def out0_B_11 : Vec F S1x512x704 .bf16 :=
  VO0_11.read (Elt F) (VO0_11.writes (Elt F) VO0_11.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs0 xs1).2.1)

/-- The stores of case B cover the block of output 12. -/
theorem cover0_B_12 (y : S1x512x704.Idx):
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs0 xs1).2.2.1, y ∈ pc.1.set :=
  View.cover_of_tiledL (s := S1x512x704) _ S1x256x704.size (by sl_kernel_rfl) y

/-- What case B leaves in the buffer of output 12. -/
def out0_B_12 : Vec F S1x512x704 .bf16 :=
  VO0_12.read (Elt F) (VO0_12.writes (Elt F) VO0_12.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs0 xs1).2.2.1)

/-- The stores of case B cover the block of output 13. -/
theorem cover0_B_13 (y : S1x512x704.Idx):
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs0 xs1).2.2.2.1, y ∈ pc.1.set :=
  View.cover_of_tiledL (s := S1x512x704) _ S1x256x704.size (by sl_kernel_rfl) y

/-- What case B leaves in the buffer of output 13. -/
def out0_B_13 : Vec F S1x512x704 .bf16 :=
  VO0_13.read (Elt F) (VO0_13.writes (Elt F) VO0_13.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs0 xs1).2.2.2.1)

/-- What case B leaves in the buffer of output 14. -/
def out0_B_14 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x512x704 .bf16) (harg5 : arg5.IsWhole) (arg6 : Memref sig .tc .vmem S1x512x704 .bf16) (harg6 : arg6.IsWhole) (arg7 : Memref sig .tc .vmem S3x1024 .f32) (harg7 : arg7.IsWhole) (arg8 : Memref sig .tc .vmem S1x1024 .f32) (harg8 : arg8.IsWhole) (arg9 : Memref sig .tc .vmem S1x704x1024 .bf16) (harg9 : arg9.IsWhole) (arg10 : Memref sig .tc .vmem S1x704x1024 .bf16) (harg10 : arg10.IsWhole) (arg11 : Memref sig .tc .vmem S1x704x1024 .bf16) (harg11 : arg11.IsWhole) (arg12 : Memref sig .tc .vmem S512x1024 .f32) (harg12 : arg12.IsWhole) (arg13 : Memref sig .tc .vmem S1x512x704 .bf16) (harg13 : arg13.IsWhole) (arg14 : Memref sig .tc .vmem S1x512x704 .bf16) (harg14 : arg14.IsWhole) (arg15 : Memref sig .tc .vmem S1x512x704 .bf16) (harg15 : arg15.IsWhole) (arg16 : Memref sig .tc .vmem S512x1024 .bf16) (harg16 : arg16.IsWhole) (arg17 : Memref sig .tc .vmem S8x1024 .f32) (harg17 : arg17.IsWhole) (arg18 : Memref sig .tc .vmem S512x1024 .bf16) (harg18 : arg18.IsWhole) (arg19 : Memref sig .tc .vmem S512x1024 .f32) (harg19 : arg19.IsWhole) (hc0 : ¬cond0_0 i) (hc1 : ¬cond0_1 i) (hc2 : ¬cond0_2 i)
    (x0 : Vec F S512x1024 .f32) (x1 : Vec F S512x1024 .f32) (x2 : Vec F S512x1024 .f32) (x3 : Vec F S1x512x704 .bf16) (x4 : Vec F S1x512x704 .bf16) (x5 : Vec F S3x1024 .f32) (x6 : Vec F S1x1024 .f32) (x7 : Vec F S1x704x1024 .bf16) (x8 : Vec F S1x704x1024 .bf16) (x9 : Vec F S1x704x1024 .bf16) (xs0 : Vec F S512x1024 .bf16) (xs1 : Vec F S512x1024 .f32) (xo14 : Vec F S512x1024 .bf16) : Vec F S512x1024 .bf16 := xo14

/-- What case B leaves in the buffer of output 15. -/
def out0_B_15 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x512x704 .bf16) (harg5 : arg5.IsWhole) (arg6 : Memref sig .tc .vmem S1x512x704 .bf16) (harg6 : arg6.IsWhole) (arg7 : Memref sig .tc .vmem S3x1024 .f32) (harg7 : arg7.IsWhole) (arg8 : Memref sig .tc .vmem S1x1024 .f32) (harg8 : arg8.IsWhole) (arg9 : Memref sig .tc .vmem S1x704x1024 .bf16) (harg9 : arg9.IsWhole) (arg10 : Memref sig .tc .vmem S1x704x1024 .bf16) (harg10 : arg10.IsWhole) (arg11 : Memref sig .tc .vmem S1x704x1024 .bf16) (harg11 : arg11.IsWhole) (arg12 : Memref sig .tc .vmem S512x1024 .f32) (harg12 : arg12.IsWhole) (arg13 : Memref sig .tc .vmem S1x512x704 .bf16) (harg13 : arg13.IsWhole) (arg14 : Memref sig .tc .vmem S1x512x704 .bf16) (harg14 : arg14.IsWhole) (arg15 : Memref sig .tc .vmem S1x512x704 .bf16) (harg15 : arg15.IsWhole) (arg16 : Memref sig .tc .vmem S512x1024 .bf16) (harg16 : arg16.IsWhole) (arg17 : Memref sig .tc .vmem S8x1024 .f32) (harg17 : arg17.IsWhole) (arg18 : Memref sig .tc .vmem S512x1024 .bf16) (harg18 : arg18.IsWhole) (arg19 : Memref sig .tc .vmem S512x1024 .f32) (harg19 : arg19.IsWhole) (hc0 : ¬cond0_0 i) (hc1 : ¬cond0_1 i) (hc2 : ¬cond0_2 i)
    (x0 : Vec F S512x1024 .f32) (x1 : Vec F S512x1024 .f32) (x2 : Vec F S512x1024 .f32) (x3 : Vec F S1x512x704 .bf16) (x4 : Vec F S1x512x704 .bf16) (x5 : Vec F S3x1024 .f32) (x6 : Vec F S1x1024 .f32) (x7 : Vec F S1x704x1024 .bf16) (x8 : Vec F S1x704x1024 .bf16) (x9 : Vec F S1x704x1024 .bf16) (xs0 : Vec F S512x1024 .bf16) (xs1 : Vec F S512x1024 .f32) (xo15 : Vec F S8x1024 .f32) : Vec F S8x1024 .f32 := xo15

/-- What case B leaves in scratch 0. -/
def sout0_B_0 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x512x704 .bf16) (harg5 : arg5.IsWhole) (arg6 : Memref sig .tc .vmem S1x512x704 .bf16) (harg6 : arg6.IsWhole) (arg7 : Memref sig .tc .vmem S3x1024 .f32) (harg7 : arg7.IsWhole) (arg8 : Memref sig .tc .vmem S1x1024 .f32) (harg8 : arg8.IsWhole) (arg9 : Memref sig .tc .vmem S1x704x1024 .bf16) (harg9 : arg9.IsWhole) (arg10 : Memref sig .tc .vmem S1x704x1024 .bf16) (harg10 : arg10.IsWhole) (arg11 : Memref sig .tc .vmem S1x704x1024 .bf16) (harg11 : arg11.IsWhole) (arg12 : Memref sig .tc .vmem S512x1024 .f32) (harg12 : arg12.IsWhole) (arg13 : Memref sig .tc .vmem S1x512x704 .bf16) (harg13 : arg13.IsWhole) (arg14 : Memref sig .tc .vmem S1x512x704 .bf16) (harg14 : arg14.IsWhole) (arg15 : Memref sig .tc .vmem S1x512x704 .bf16) (harg15 : arg15.IsWhole) (arg16 : Memref sig .tc .vmem S512x1024 .bf16) (harg16 : arg16.IsWhole) (arg17 : Memref sig .tc .vmem S8x1024 .f32) (harg17 : arg17.IsWhole) (arg18 : Memref sig .tc .vmem S512x1024 .bf16) (harg18 : arg18.IsWhole) (arg19 : Memref sig .tc .vmem S512x1024 .f32) (harg19 : arg19.IsWhole) (hc0 : ¬cond0_0 i) (hc1 : ¬cond0_1 i) (hc2 : ¬cond0_2 i)
    (x0 : Vec F S512x1024 .f32) (x1 : Vec F S512x1024 .f32) (x2 : Vec F S512x1024 .f32) (x3 : Vec F S1x512x704 .bf16) (x4 : Vec F S1x512x704 .bf16) (x5 : Vec F S3x1024 .f32) (x6 : Vec F S1x1024 .f32) (x7 : Vec F S1x704x1024 .bf16) (x8 : Vec F S1x704x1024 .bf16) (x9 : Vec F S1x704x1024 .bf16) (xs0 : Vec F S512x1024 .bf16) (xs1 : Vec F S512x1024 .f32) : Vec F S512x1024 .bf16 := xs0

/-- The stores of case B cover scratch 1. -/
theorem scover0_B_1 (y : S512x1024.Idx):
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs0 xs1).2.2.2.2.2.2.2.1, y ∈ pc.1.set :=
  View.cover_of_tiledL (s := S512x1024) _ S256x1024.size (by sl_kernel_rfl) y

/-- What case B leaves in scratch 1. -/
def sout0_B_1 : Vec F S512x1024 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs0 xs1).2.2.2.2.2.2.2.1)

end

section

variable (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x512x704 .bf16) (harg5 : arg5.IsWhole) (arg6 : Memref sig .tc .vmem S1x512x704 .bf16) (harg6 : arg6.IsWhole) (arg7 : Memref sig .tc .vmem S3x1024 .f32) (harg7 : arg7.IsWhole) (arg8 : Memref sig .tc .vmem S1x1024 .f32) (harg8 : arg8.IsWhole) (arg9 : Memref sig .tc .vmem S1x704x1024 .bf16) (harg9 : arg9.IsWhole) (arg10 : Memref sig .tc .vmem S1x704x1024 .bf16) (harg10 : arg10.IsWhole) (arg11 : Memref sig .tc .vmem S1x704x1024 .bf16) (harg11 : arg11.IsWhole) (arg12 : Memref sig .tc .vmem S512x1024 .f32) (harg12 : arg12.IsWhole) (arg13 : Memref sig .tc .vmem S1x512x704 .bf16) (harg13 : arg13.IsWhole) (arg14 : Memref sig .tc .vmem S1x512x704 .bf16) (harg14 : arg14.IsWhole) (arg15 : Memref sig .tc .vmem S1x512x704 .bf16) (harg15 : arg15.IsWhole) (arg16 : Memref sig .tc .vmem S512x1024 .bf16) (harg16 : arg16.IsWhole) (arg17 : Memref sig .tc .vmem S8x1024 .f32) (harg17 : arg17.IsWhole) (arg18 : Memref sig .tc .vmem S512x1024 .bf16) (harg18 : arg18.IsWhole) (arg19 : Memref sig .tc .vmem S512x1024 .f32) (harg19 : arg19.IsWhole) (hc0 : ¬cond0_0 i) (hc1 : ¬cond0_1 i) (hc2 : cond0_2 i) (x0 : Vec F S512x1024 .f32) (x1 : Vec F S512x1024 .f32) (x2 : Vec F S512x1024 .f32) (x3 : Vec F S1x512x704 .bf16) (x4 : Vec F S1x512x704 .bf16) (x5 : Vec F S3x1024 .f32) (x6 : Vec F S1x1024 .f32) (x7 : Vec F S1x704x1024 .bf16) (x8 : Vec F S1x704x1024 .bf16) (x9 : Vec F S1x704x1024 .bf16) (xo14 : Vec F S512x1024 .bf16) (xo15 : Vec F S8x1024 .f32) (xs0 : Vec F S512x1024 .bf16) (xs1 : Vec F S512x1024 .f32)

/-- The stores of case C cover the block of output 10. -/
theorem cover0_C_10 (y : S512x1024.Idx):
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xo14 xo15 xs0 xs1).1, y ∈ pc.1.set :=
  View.cover_of_tiledL (s := S512x1024) _ S512x1024.size (by sl_kernel_rfl) y

/-- What case C leaves in the buffer of output 10. -/
def out0_C_10 : Vec F S512x1024 .f32 :=
  VO0_10.read (Elt F) (VO0_10.writes (Elt F) VO0_10.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xo14 xo15 xs0 xs1).1)

/-- The stores of case C cover the block of output 11. -/
theorem cover0_C_11 (y : S1x512x704.Idx):
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xo14 xo15 xs0 xs1).2.1, y ∈ pc.1.set :=
  View.cover_of_tiledL (s := S1x512x704) _ S1x256x704.size (by sl_kernel_rfl) y

/-- What case C leaves in the buffer of output 11. -/
def out0_C_11 : Vec F S1x512x704 .bf16 :=
  VO0_11.read (Elt F) (VO0_11.writes (Elt F) VO0_11.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xo14 xo15 xs0 xs1).2.1)

/-- The stores of case C cover the block of output 12. -/
theorem cover0_C_12 (y : S1x512x704.Idx):
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xo14 xo15 xs0 xs1).2.2.1, y ∈ pc.1.set :=
  View.cover_of_tiledL (s := S1x512x704) _ S1x256x704.size (by sl_kernel_rfl) y

/-- What case C leaves in the buffer of output 12. -/
def out0_C_12 : Vec F S1x512x704 .bf16 :=
  VO0_12.read (Elt F) (VO0_12.writes (Elt F) VO0_12.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xo14 xo15 xs0 xs1).2.2.1)

/-- The stores of case C cover the block of output 13. -/
theorem cover0_C_13 (y : S1x512x704.Idx):
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xo14 xo15 xs0 xs1).2.2.2.1, y ∈ pc.1.set :=
  View.cover_of_tiledL (s := S1x512x704) _ S1x256x704.size (by sl_kernel_rfl) y

/-- What case C leaves in the buffer of output 13. -/
def out0_C_13 : Vec F S1x512x704 .bf16 :=
  VO0_13.read (Elt F) (VO0_13.writes (Elt F) VO0_13.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xo14 xo15 xs0 xs1).2.2.2.1)

/-- What case C leaves in the buffer of output 14. -/
def out0_C_14 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x512x704 .bf16) (harg5 : arg5.IsWhole) (arg6 : Memref sig .tc .vmem S1x512x704 .bf16) (harg6 : arg6.IsWhole) (arg7 : Memref sig .tc .vmem S3x1024 .f32) (harg7 : arg7.IsWhole) (arg8 : Memref sig .tc .vmem S1x1024 .f32) (harg8 : arg8.IsWhole) (arg9 : Memref sig .tc .vmem S1x704x1024 .bf16) (harg9 : arg9.IsWhole) (arg10 : Memref sig .tc .vmem S1x704x1024 .bf16) (harg10 : arg10.IsWhole) (arg11 : Memref sig .tc .vmem S1x704x1024 .bf16) (harg11 : arg11.IsWhole) (arg12 : Memref sig .tc .vmem S512x1024 .f32) (harg12 : arg12.IsWhole) (arg13 : Memref sig .tc .vmem S1x512x704 .bf16) (harg13 : arg13.IsWhole) (arg14 : Memref sig .tc .vmem S1x512x704 .bf16) (harg14 : arg14.IsWhole) (arg15 : Memref sig .tc .vmem S1x512x704 .bf16) (harg15 : arg15.IsWhole) (arg16 : Memref sig .tc .vmem S512x1024 .bf16) (harg16 : arg16.IsWhole) (arg17 : Memref sig .tc .vmem S8x1024 .f32) (harg17 : arg17.IsWhole) (arg18 : Memref sig .tc .vmem S512x1024 .bf16) (harg18 : arg18.IsWhole) (arg19 : Memref sig .tc .vmem S512x1024 .f32) (harg19 : arg19.IsWhole) (hc0 : ¬cond0_0 i) (hc1 : ¬cond0_1 i) (hc2 : cond0_2 i)
    (x0 : Vec F S512x1024 .f32) (x1 : Vec F S512x1024 .f32) (x2 : Vec F S512x1024 .f32) (x3 : Vec F S1x512x704 .bf16) (x4 : Vec F S1x512x704 .bf16) (x5 : Vec F S3x1024 .f32) (x6 : Vec F S1x1024 .f32) (x7 : Vec F S1x704x1024 .bf16) (x8 : Vec F S1x704x1024 .bf16) (x9 : Vec F S1x704x1024 .bf16) (xo14 : Vec F S512x1024 .bf16) (xo15 : Vec F S8x1024 .f32) (xs0 : Vec F S512x1024 .bf16) (xs1 : Vec F S512x1024 .f32) : Vec F S512x1024 .bf16 := xo14

/-- What case C leaves in the buffer of output 15. -/
def out0_C_15 : Vec F S8x1024 .f32 :=
  arg17.view.read (Elt F) (arg17.view.writes (Elt F) (harg17.unread xo15) (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xo14 xo15 xs0 xs1).2.2.2.2.2.1)

/-- What case C leaves in scratch 0. -/
def sout0_C_0 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x512x704 .bf16) (harg5 : arg5.IsWhole) (arg6 : Memref sig .tc .vmem S1x512x704 .bf16) (harg6 : arg6.IsWhole) (arg7 : Memref sig .tc .vmem S3x1024 .f32) (harg7 : arg7.IsWhole) (arg8 : Memref sig .tc .vmem S1x1024 .f32) (harg8 : arg8.IsWhole) (arg9 : Memref sig .tc .vmem S1x704x1024 .bf16) (harg9 : arg9.IsWhole) (arg10 : Memref sig .tc .vmem S1x704x1024 .bf16) (harg10 : arg10.IsWhole) (arg11 : Memref sig .tc .vmem S1x704x1024 .bf16) (harg11 : arg11.IsWhole) (arg12 : Memref sig .tc .vmem S512x1024 .f32) (harg12 : arg12.IsWhole) (arg13 : Memref sig .tc .vmem S1x512x704 .bf16) (harg13 : arg13.IsWhole) (arg14 : Memref sig .tc .vmem S1x512x704 .bf16) (harg14 : arg14.IsWhole) (arg15 : Memref sig .tc .vmem S1x512x704 .bf16) (harg15 : arg15.IsWhole) (arg16 : Memref sig .tc .vmem S512x1024 .bf16) (harg16 : arg16.IsWhole) (arg17 : Memref sig .tc .vmem S8x1024 .f32) (harg17 : arg17.IsWhole) (arg18 : Memref sig .tc .vmem S512x1024 .bf16) (harg18 : arg18.IsWhole) (arg19 : Memref sig .tc .vmem S512x1024 .f32) (harg19 : arg19.IsWhole) (hc0 : ¬cond0_0 i) (hc1 : ¬cond0_1 i) (hc2 : cond0_2 i)
    (x0 : Vec F S512x1024 .f32) (x1 : Vec F S512x1024 .f32) (x2 : Vec F S512x1024 .f32) (x3 : Vec F S1x512x704 .bf16) (x4 : Vec F S1x512x704 .bf16) (x5 : Vec F S3x1024 .f32) (x6 : Vec F S1x1024 .f32) (x7 : Vec F S1x704x1024 .bf16) (x8 : Vec F S1x704x1024 .bf16) (x9 : Vec F S1x704x1024 .bf16) (xo14 : Vec F S512x1024 .bf16) (xo15 : Vec F S8x1024 .f32) (xs0 : Vec F S512x1024 .bf16) (xs1 : Vec F S512x1024 .f32) : Vec F S512x1024 .bf16 := xs0

/-- The stores of case C cover scratch 1. -/
theorem scover0_C_1 (y : S512x1024.Idx):
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xo14 xo15 xs0 xs1).2.2.2.2.2.2.2.1, y ∈ pc.1.set :=
  View.cover_of_tiledL (s := S512x1024) _ S256x1024.size (by sl_kernel_rfl) y

/-- What case C leaves in scratch 1. -/
def sout0_C_1 : Vec F S512x1024 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xo14 xo15 xs0 xs1).2.2.2.2.2.2.2.1)

end

section

variable (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x512x704 .bf16) (harg5 : arg5.IsWhole) (arg6 : Memref sig .tc .vmem S1x512x704 .bf16) (harg6 : arg6.IsWhole) (arg7 : Memref sig .tc .vmem S3x1024 .f32) (harg7 : arg7.IsWhole) (arg8 : Memref sig .tc .vmem S1x1024 .f32) (harg8 : arg8.IsWhole) (arg9 : Memref sig .tc .vmem S1x704x1024 .bf16) (harg9 : arg9.IsWhole) (arg10 : Memref sig .tc .vmem S1x704x1024 .bf16) (harg10 : arg10.IsWhole) (arg11 : Memref sig .tc .vmem S1x704x1024 .bf16) (harg11 : arg11.IsWhole) (arg12 : Memref sig .tc .vmem S512x1024 .f32) (harg12 : arg12.IsWhole) (arg13 : Memref sig .tc .vmem S1x512x704 .bf16) (harg13 : arg13.IsWhole) (arg14 : Memref sig .tc .vmem S1x512x704 .bf16) (harg14 : arg14.IsWhole) (arg15 : Memref sig .tc .vmem S1x512x704 .bf16) (harg15 : arg15.IsWhole) (arg16 : Memref sig .tc .vmem S512x1024 .bf16) (harg16 : arg16.IsWhole) (arg17 : Memref sig .tc .vmem S8x1024 .f32) (harg17 : arg17.IsWhole) (arg18 : Memref sig .tc .vmem S512x1024 .bf16) (harg18 : arg18.IsWhole) (arg19 : Memref sig .tc .vmem S512x1024 .f32) (harg19 : arg19.IsWhole) (hc0 : cond0_0 i) (hc1 : ¬cond0_1 i) (hc2 : ¬cond0_2 i) (x0 : Vec F S512x1024 .f32) (x1 : Vec F S512x1024 .f32) (x2 : Vec F S512x1024 .f32) (x3 : Vec F S1x512x704 .bf16) (x4 : Vec F S1x512x704 .bf16) (x5 : Vec F S3x1024 .f32) (x6 : Vec F S1x1024 .f32) (x7 : Vec F S1x704x1024 .bf16) (x8 : Vec F S1x704x1024 .bf16) (x9 : Vec F S1x704x1024 .bf16)

/-- What case D leaves in the buffer of output 10. -/
def out0_D_10 : Vec F S512x1024 .f32 :=
  VO0_10.read (Elt F) (VO0_10.writes (Elt F) VO0_10.junk (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9).1)

/-- The stores of case D cover the block of output 11. -/
theorem cover0_D_11 (y : S1x512x704.Idx):
    ∃ pc ∈ (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9).2.1, y ∈ pc.1.set :=
  View.cover_of_tiledL (s := S1x512x704) _ S1x256x704.size (by sl_kernel_rfl) y

/-- What case D leaves in the buffer of output 11. -/
def out0_D_11 : Vec F S1x512x704 .bf16 :=
  VO0_11.read (Elt F) (VO0_11.writes (Elt F) VO0_11.junk (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9).2.1)

/-- The stores of case D cover the block of output 12. -/
theorem cover0_D_12 (y : S1x512x704.Idx):
    ∃ pc ∈ (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9).2.2.1, y ∈ pc.1.set :=
  View.cover_of_tiledL (s := S1x512x704) _ S1x256x704.size (by sl_kernel_rfl) y

/-- What case D leaves in the buffer of output 12. -/
def out0_D_12 : Vec F S1x512x704 .bf16 :=
  VO0_12.read (Elt F) (VO0_12.writes (Elt F) VO0_12.junk (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9).2.2.1)

/-- The stores of case D cover the block of output 13. -/
theorem cover0_D_13 (y : S1x512x704.Idx):
    ∃ pc ∈ (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9).2.2.2.1, y ∈ pc.1.set :=
  View.cover_of_tiledL (s := S1x512x704) _ S1x256x704.size (by sl_kernel_rfl) y

/-- What case D leaves in the buffer of output 13. -/
def out0_D_13 : Vec F S1x512x704 .bf16 :=
  VO0_13.read (Elt F) (VO0_13.writes (Elt F) VO0_13.junk (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9).2.2.2.1)

/-- The stores of case D cover the block of output 14. -/
theorem cover0_D_14 (y : S512x1024.Idx):
    ∃ pc ∈ (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9).2.2.2.2.1, y ∈ pc.1.set :=
  View.cover_of_tiledL (s := S512x1024) _ S512x1024.size (by sl_kernel_rfl) y

/-- What case D leaves in the buffer of output 14. -/
def out0_D_14 : Vec F S512x1024 .bf16 :=
  VO0_14.read (Elt F) (VO0_14.writes (Elt F) VO0_14.junk (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9).2.2.2.2.1)

/-- What case D leaves in the buffer of output 15. -/
def out0_D_15 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x512x704 .bf16) (harg5 : arg5.IsWhole) (arg6 : Memref sig .tc .vmem S1x512x704 .bf16) (harg6 : arg6.IsWhole) (arg7 : Memref sig .tc .vmem S3x1024 .f32) (harg7 : arg7.IsWhole) (arg8 : Memref sig .tc .vmem S1x1024 .f32) (harg8 : arg8.IsWhole) (arg9 : Memref sig .tc .vmem S1x704x1024 .bf16) (harg9 : arg9.IsWhole) (arg10 : Memref sig .tc .vmem S1x704x1024 .bf16) (harg10 : arg10.IsWhole) (arg11 : Memref sig .tc .vmem S1x704x1024 .bf16) (harg11 : arg11.IsWhole) (arg12 : Memref sig .tc .vmem S512x1024 .f32) (harg12 : arg12.IsWhole) (arg13 : Memref sig .tc .vmem S1x512x704 .bf16) (harg13 : arg13.IsWhole) (arg14 : Memref sig .tc .vmem S1x512x704 .bf16) (harg14 : arg14.IsWhole) (arg15 : Memref sig .tc .vmem S1x512x704 .bf16) (harg15 : arg15.IsWhole) (arg16 : Memref sig .tc .vmem S512x1024 .bf16) (harg16 : arg16.IsWhole) (arg17 : Memref sig .tc .vmem S8x1024 .f32) (harg17 : arg17.IsWhole) (arg18 : Memref sig .tc .vmem S512x1024 .bf16) (harg18 : arg18.IsWhole) (arg19 : Memref sig .tc .vmem S512x1024 .f32) (harg19 : arg19.IsWhole) (hc0 : cond0_0 i) (hc1 : ¬cond0_1 i) (hc2 : ¬cond0_2 i)
    (x0 : Vec F S512x1024 .f32) (x1 : Vec F S512x1024 .f32) (x2 : Vec F S512x1024 .f32) (x3 : Vec F S1x512x704 .bf16) (x4 : Vec F S1x512x704 .bf16) (x5 : Vec F S3x1024 .f32) (x6 : Vec F S1x1024 .f32) (x7 : Vec F S1x704x1024 .bf16) (x8 : Vec F S1x704x1024 .bf16) (x9 : Vec F S1x704x1024 .bf16) (xo15 : Vec F S8x1024 .f32) : Vec F S8x1024 .f32 := xo15

/-- The stores of case D cover scratch 0. -/
theorem scover0_D_0 (y : S512x1024.Idx):
    ∃ pc ∈ (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9).2.2.2.2.2.2.1, y ∈ pc.1.set :=
  View.cover_of_tiledL (s := S512x1024) _ S512x1024.size (by sl_kernel_rfl) y

/-- What case D leaves in scratch 0. -/
def sout0_D_0 : Vec F S512x1024 .bf16 :=
  VS0_0.read (Elt F) (VS0_0.writes (Elt F) VS0_0.junk (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9).2.2.2.2.2.2.1)

/-- The stores of case D cover scratch 1. -/
theorem scover0_D_1 (y : S512x1024.Idx):
    ∃ pc ∈ (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9).2.2.2.2.2.2.2.1, y ∈ pc.1.set :=
  View.cover_of_wholeMem (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9).2.2.2.2.2.2.2.1 (by sl_whole_mem) y

/-- What case D leaves in scratch 1. -/
def sout0_D_1 : Vec F S512x1024 .f32 :=
  VS0_1.read (Elt F) (VS0_1.writes (Elt F) VS0_1.junk (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9).2.2.2.2.2.2.2.1)

end

end Cert.Proof.Ffn

end
-- ==== Proof.FfnData.lean ====
module

public import proofs.«01_k».proof.Proof.FfnOuts

@[expose] public section

set_option maxRecDepth 16384

noncomputable section

namespace Cert.Proof.Ffn

open Cert.FfnKernelIdeal Cert.FfnKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def at0_A (c : Dev nD) (t : Fin cfg0.N) (h0 : t.val % 4 = 0) (h1 : t.val % 16 = 0) (h2 : ¬t.val % 4 = 3) :
    Vec F S512x1024 .f32 × Vec F S1x512x704 .bf16 × Vec F S1x512x704 .bf16 × Vec F S1x512x704 .bf16 × Vec F S512x1024 .bf16 × Vec F S8x1024 .f32 × Vec F S512x1024 .bf16 × Vec F S512x1024 .f32 :=
  (out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t), out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t), out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t), out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t), out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t), out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t))

def at0_B (c : Dev nD) (t : Fin cfg0.N) (h0 : ¬t.val % 4 = 0) (h1 : ¬t.val % 16 = 0) (h2 : ¬t.val % 4 = 3) (p : Vec F S512x1024 .f32 × Vec F S1x512x704 .bf16 × Vec F S1x512x704 .bf16 × Vec F S1x512x704 .bf16 × Vec F S512x1024 .bf16 × Vec F S8x1024 .f32 × Vec F S512x1024 .bf16 × Vec F S512x1024 .f32) :
    Vec F S512x1024 .f32 × Vec F S1x512x704 .bf16 × Vec F S1x512x704 .bf16 × Vec F S1x512x704 .bf16 × Vec F S512x1024 .bf16 × Vec F S8x1024 .f32 × Vec F S512x1024 .bf16 × Vec F S512x1024 .f32 :=
  (out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) p.2.2.2.2.2.2.1 p.2.2.2.2.2.2.2, out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) p.2.2.2.2.2.2.1 p.2.2.2.2.2.2.2, out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) p.2.2.2.2.2.2.1 p.2.2.2.2.2.2.2, out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) p.2.2.2.2.2.2.1 p.2.2.2.2.2.2.2, out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) p.2.2.2.2.2.2.1 p.2.2.2.2.2.2.2 p.2.2.2.2.1, out0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) p.2.2.2.2.2.2.1 p.2.2.2.2.2.2.2 p.2.2.2.2.2.1, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) p.2.2.2.2.2.2.1 p.2.2.2.2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) p.2.2.2.2.2.2.1 p.2.2.2.2.2.2.2)

def at0_C (c : Dev nD) (t : Fin cfg0.N) (h0 : ¬t.val % 4 = 0) (h1 : ¬t.val % 16 = 0) (h2 : t.val % 4 = 3) (p : Vec F S512x1024 .f32 × Vec F S1x512x704 .bf16 × Vec F S1x512x704 .bf16 × Vec F S1x512x704 .bf16 × Vec F S512x1024 .bf16 × Vec F S8x1024 .f32 × Vec F S512x1024 .bf16 × Vec F S512x1024 .f32) :
    Vec F S512x1024 .f32 × Vec F S1x512x704 .bf16 × Vec F S1x512x704 .bf16 × Vec F S1x512x704 .bf16 × Vec F S512x1024 .bf16 × Vec F S8x1024 .f32 × Vec F S512x1024 .bf16 × Vec F S512x1024 .f32 :=
  (out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) p.2.2.2.2.1 p.2.2.2.2.2.1 p.2.2.2.2.2.2.1 p.2.2.2.2.2.2.2, out0_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) p.2.2.2.2.1 p.2.2.2.2.2.1 p.2.2.2.2.2.2.1 p.2.2.2.2.2.2.2, out0_C_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) p.2.2.2.2.1 p.2.2.2.2.2.1 p.2.2.2.2.2.2.1 p.2.2.2.2.2.2.2, out0_C_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) p.2.2.2.2.1 p.2.2.2.2.2.1 p.2.2.2.2.2.2.1 p.2.2.2.2.2.2.2, out0_C_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) p.2.2.2.2.1 p.2.2.2.2.2.1 p.2.2.2.2.2.2.1 p.2.2.2.2.2.2.2, out0_C_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) p.2.2.2.2.1 p.2.2.2.2.2.1 p.2.2.2.2.2.2.1 p.2.2.2.2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) p.2.2.2.2.1 p.2.2.2.2.2.1 p.2.2.2.2.2.2.1 p.2.2.2.2.2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) p.2.2.2.2.1 p.2.2.2.2.2.1 p.2.2.2.2.2.2.1 p.2.2.2.2.2.2.2)

def at0_D (c : Dev nD) (t : Fin cfg0.N) (h0 : t.val % 4 = 0) (h1 : ¬t.val % 16 = 0) (h2 : ¬t.val % 4 = 3) (p : Vec F S512x1024 .f32 × Vec F S1x512x704 .bf16 × Vec F S1x512x704 .bf16 × Vec F S1x512x704 .bf16 × Vec F S512x1024 .bf16 × Vec F S8x1024 .f32 × Vec F S512x1024 .bf16 × Vec F S512x1024 .f32) :
    Vec F S512x1024 .f32 × Vec F S1x512x704 .bf16 × Vec F S1x512x704 .bf16 × Vec F S1x512x704 .bf16 × Vec F S512x1024 .bf16 × Vec F S8x1024 .f32 × Vec F S512x1024 .bf16 × Vec F S512x1024 .f32 :=
  (out0_D_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t), out0_D_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t), out0_D_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t), out0_D_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t), out0_D_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t), out0_D_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) p.2.2.2.2.2.1, sout0_D_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t), sout0_D_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t))

/-- What every output buffer and carried scratch holds after a point. -/
def outsAt0 (c : Dev nD) : (n : ℕ) → n < cfg0.N → Vec F S512x1024 .f32 × Vec F S1x512x704 .bf16 × Vec F S1x512x704 .bf16 × Vec F S1x512x704 .bf16 × Vec F S512x1024 .bf16 × Vec F S8x1024 .f32 × Vec F S512x1024 .bf16 × Vec F S512x1024 .f32
  | 0, hn => at0_A m c ⟨0, hn⟩ (Nat.zero_mod _) (Nat.zero_mod _) (fun h => by (try dsimp only at h); omega)
  | n + 1, hn =>
    if h0 : (n + 1) % 4 = 0 then
      if h1 : (n + 1) % 16 = 0 then
        if h2 : (n + 1) % 4 = 3 then
          False.elim (by have hN : n + 1 < 16 := lt_of_lt_of_eq hn (show cfg0.N = 16 from N_0); omega)
        else
          at0_A m c ⟨n + 1, hn⟩ h0 h1 h2
      else
        if h2 : (n + 1) % 4 = 3 then
          False.elim (by have hN : n + 1 < 16 := lt_of_lt_of_eq hn (show cfg0.N = 16 from N_0); omega)
        else
          at0_D m c ⟨n + 1, hn⟩ h0 h1 h2 (outsAt0 c n (Nat.lt_of_succ_lt hn))
    else
      if h1 : (n + 1) % 16 = 0 then
        False.elim (by have hN : n + 1 < 16 := lt_of_lt_of_eq hn (show cfg0.N = 16 from N_0); omega)
      else
        if h2 : (n + 1) % 4 = 3 then
          at0_C m c ⟨n + 1, hn⟩ h0 h1 h2 (outsAt0 c n (Nat.lt_of_succ_lt hn))
        else
          at0_B m c ⟨n + 1, hn⟩ h0 h1 h2 (outsAt0 c n (Nat.lt_of_succ_lt hn))

theorem outsAt0_A (c : Dev nD) (t : Fin cfg0.N) (h0 : t.val % 4 = 0) (h1 : t.val % 16 = 0) (h2 : ¬t.val % 4 = 3) :
    outsAt0 m c t.val t.isLt = at0_A m c t h0 h1 h2 := by
  obtain ⟨n, hn⟩ := t
  cases n with
  | zero => exact rfl
  | succ n => exact (dif_pos h0).trans ((dif_pos h1).trans ((dif_neg h2).trans rfl))

theorem outsAt0_B (c : Dev nD) (t : Fin cfg0.N) (h0 : ¬t.val % 4 = 0) (h1 : ¬t.val % 16 = 0) (h2 : ¬t.val % 4 = 3) :
    outsAt0 m c t.val t.isLt = at0_B m c t h0 h1 h2 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans ((dif_neg h2).trans rfl))

theorem outsAt0_C (c : Dev nD) (t : Fin cfg0.N) (h0 : ¬t.val % 4 = 0) (h1 : ¬t.val % 16 = 0) (h2 : t.val % 4 = 3) :
    outsAt0 m c t.val t.isLt = at0_C m c t h0 h1 h2 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans ((dif_pos h2).trans rfl))

theorem outsAt0_D (c : Dev nD) (t : Fin cfg0.N) (h0 : t.val % 4 = 0) (h1 : ¬t.val % 16 = 0) (h2 : ¬t.val % 4 = 3) :
    outsAt0 m c t.val t.isLt = at0_D m c t h0 h1 h2 (outsAt0 m c (t.val - 1) (Nat.lt_of_le_of_lt (Nat.sub_le _ _) t.isLt)) := by
  obtain ⟨n, hn⟩ := t
  cases n with
  | zero => exact (by exfalso; (try dsimp only at h1); exact absurd (Nat.zero_mod _) h1)
  | succ n => exact (dif_pos h0).trans ((dif_neg h1).trans ((dif_neg h2).trans rfl))

/-- The invariant before a position: the carried scratch at what the point before left in it. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2.2.1) ∗ owns (c : Thread nD τ) scM0_1 fullShare ((outsAt0 m c n hn).2.2.2.2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.2.2.2.2.1) ∗ owns (c : Thread nD τ) scM0_1 fullShare ((outsAt0 m c n hn).2.2.2.2.2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.1) ∗ owns (c : Thread nD τ) scM0_1 fullShare ((outsAt0 m c (n - 1) (by omega)).2.2.2.2.2.2.2)) ∗ (∃ r, prngReg c r)) := by
  cases n with
  | zero => exact absurd rfl hz
  | succ n => rfl

/-- The proof data of the pipeline: each buffer after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (outsAt0 m c t.val t.isLt).1
    | ⟨11, _⟩ => (outsAt0 m c t.val t.isLt).2.1
    | ⟨12, _⟩ => (outsAt0 m c t.val t.isLt).2.2.1
    | ⟨13, _⟩ => (outsAt0 m c t.val t.isLt).2.2.2.1
    | ⟨14, _⟩ => (outsAt0 m c t.val t.isLt).2.2.2.2.1
    | ⟨15, _⟩ => (outsAt0 m c t.val t.isLt).2.2.2.2.2.1
    | ⟨_ + 16, h⟩ => absurd h (Nat.not_lt.2 (Nat.le_add_left _ _))
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = (outsAt0 m c t.val t.isLt).1 := by dsimp only [dats]
theorem after0_11 (c : Dev nD) (t : Fin cfg0.N) : (dats m 0 c).after 11 t = (outsAt0 m c t.val t.isLt).2.1 := by dsimp only [dats]
theorem after0_12 (c : Dev nD) (t : Fin cfg0.N) : (dats m 0 c).after 12 t = (outsAt0 m c t.val t.isLt).2.2.1 := by dsimp only [dats]
theorem after0_13 (c : Dev nD) (t : Fin cfg0.N) : (dats m 0 c).after 13 t = (outsAt0 m c t.val t.isLt).2.2.2.1 := by dsimp only [dats]
theorem after0_14 (c : Dev nD) (t : Fin cfg0.N) : (dats m 0 c).after 14 t = (outsAt0 m c t.val t.isLt).2.2.2.2.1 := by dsimp only [dats]
theorem after0_15 (c : Dev nD) (t : Fin cfg0.N) : (dats m 0 c).after 15 t = (outsAt0 m c t.val t.isLt).2.2.2.2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-- Output 14 keeps its block at the points that store nothing into it. -/
theorem hcarry0_14 (c : Dev nD) : ∀ (t : Fin cfg0.N) (_ : t.val ≠ 0), cfg0.idle 14 (grid0.coords t) = true → cfg0.fresh 14 t.val = false →
    (dats m 0 c).after 14 t = (dats m 0 c).after 14 ⟨t.val - 1, by omega⟩ := by
  intro t _ hi _
  have hN : t.val < 16 := lt_of_lt_of_eq t.isLt (show cfg0.N = 16 from N_0)
  rw [after0_14, after0_14]
  by_cases h0 : t.val % 4 = 0
  · by_cases h1 : t.val % 16 = 0
    · by_cases h2 : t.val % 4 = 3
      · exfalso; omega
      · rw [liveAt0_14_A t ((hcond0_0 t).mpr h0) ((hcond0_1 t).mpr h1) (fun h => h2 ((hcond0_2 t).mp h))] at hi
        exact absurd hi Bool.false_ne_true
    · by_cases h2 : t.val % 4 = 3
      · exfalso; omega
      · rw [liveAt0_14_D t ((hcond0_0 t).mpr h0) (fun h => h1 ((hcond0_1 t).mp h)) (fun h => h2 ((hcond0_2 t).mp h))] at hi
        exact absurd hi Bool.false_ne_true
  · by_cases h1 : t.val % 16 = 0
    · exfalso; omega
    · by_cases h2 : t.val % 4 = 3
      · rw [outsAt0_C m c t h0 h1 h2]; unfold at0_C
        dsimp only
        unfold out0_C_14
        rfl
      · rw [outsAt0_B m c t h0 h1 h2]; unfold at0_B
        dsimp only
        unfold out0_B_14
        rfl

/-- Output 15 keeps its block at the points that store nothing into it. -/
theorem hcarry0_15 (c : Dev nD) : ∀ (t : Fin cfg0.N) (_ : t.val ≠ 0), cfg0.idle 15 (grid0.coords t) = true → cfg0.fresh 15 t.val = false →
    (dats m 0 c).after 15 t = (dats m 0 c).after 15 ⟨t.val - 1, by omega⟩ := by
  intro t _ hi _
  have hN : t.val < 16 := lt_of_lt_of_eq t.isLt (show cfg0.N = 16 from N_0)
  rw [after0_15, after0_15]
  by_cases h0 : t.val % 4 = 0
  · by_cases h1 : t.val % 16 = 0
    · by_cases h2 : t.val % 4 = 3
      · exfalso; omega
      · rw [liveAt0_15_A t ((hcond0_0 t).mpr h0) ((hcond0_1 t).mpr h1) (fun h => h2 ((hcond0_2 t).mp h))] at hi
        exact absurd hi Bool.false_ne_true
    · by_cases h2 : t.val % 4 = 3
      · exfalso; omega
      · rw [outsAt0_D m c t h0 h1 h2]; unfold at0_D
        dsimp only
        unfold out0_D_15
        rfl
  · by_cases h1 : t.val % 16 = 0
    · exfalso; omega
    · by_cases h2 : t.val % 4 = 3
      · rw [liveAt0_15_C t (fun h => h0 ((hcond0_0 t).mp h)) (fun h => h1 ((hcond0_1 t).mp h)) ((hcond0_2 t).mpr h2)] at hi
        exact absurd hi Bool.false_ne_true
      · rw [outsAt0_B m c t h0 h1 h2]; unfold at0_B
        dsimp only
        unfold out0_B_15
        rfl
theorem before0_14_C (c : Dev nD) (t : Fin cfg0.N) (h0 : ¬t.val % 4 = 0) (h1 : ¬t.val % 16 = 0) (h2 : t.val % 4 = 3) (d) :
    (dats m 0 c).before 14 t d = (outsAt0 m c (t.val - 1) (Nat.lt_of_le_of_lt (Nat.sub_le _ _) t.isLt)).2.2.2.2.1 := by
  rw [Dat.before_out_traj _ 14 rfl (fun _ _ => rfl) (hcarry0_14 m c) t.val t rfl d,
    if_neg (by rw [notFresh0_14_C t (fun h => h0 ((hcond0_0 t).mp h)) (fun h => h1 ((hcond0_1 t).mp h)) ((hcond0_2 t).mpr h2)]; exact Bool.false_ne_true)]
  dsimp only [dats]
theorem before0_15_C (c : Dev nD) (t : Fin cfg0.N) (h0 : ¬t.val % 4 = 0) (h1 : ¬t.val % 16 = 0) (h2 : t.val % 4 = 3) (d) :
    (dats m 0 c).before 15 t d = (outsAt0 m c (t.val - 1) (Nat.lt_of_le_of_lt (Nat.sub_le _ _) t.isLt)).2.2.2.2.2.1 := by
  rw [Dat.before_out_traj _ 15 rfl (fun _ _ => rfl) (hcarry0_15 m c) t.val t rfl d,
    if_neg (by rw [notFresh0_15_C t (fun h => h0 ((hcond0_0 t).mp h)) (fun h => h1 ((hcond0_1 t).mp h)) ((hcond0_2 t).mpr h2)]; exact Bool.false_ne_true)]
  dsimp only [dats]

end Cert.Proof.Ffn

end
-- ==== Proof.FfnHost.lean ====
module

public import proofs.«01_k».proof.Proof.FfnReal
public import proofs.«01_k».proof.Proof.FfnData
public import Idealize.ShloMosaic.Lib.Pipeline.ValueKit

@[expose] public section

set_option maxRecDepth 16384

noncomputable section

open Idealize.ShloMosaic.Tactic
open Idealize.ShloMosaic Idealize.ShloMosaic.TcCoe Idealize.SL.Sem Idealize.ShloMosaic.StableHlo
open Idealize.ShloMosaic.Pipeline (Dat)

namespace Cert.Proof.Ffn

open Cert.FfnKernelIdeal Cert.FfnKernelIdeal.Gen

section Reference
open Cert.FfnReferenceIdeal.Read
variable (x1 : FVec Ideal S2048x1024 .f32) (x2 : FVec Ideal S3x1024 .f32) (x3 : FVec Ideal S1024 .f32) (x4 : FVec Ideal S1024x5632 .f32) (x5 : FVec Ideal S2816x1024 .f32)
theorem v31_eq : val_main_v31 (F := Ideal) x1 x2 x3 x4 = val_main_v30 (F := Ideal) x1 x2 x3 x4 := by
  funext i
  rw [val_main_v31_apply, val_main_v0_apply, val_main_cst_apply]
  exact (congrArg _ FfnReal.c_zero).trans (add_zero _)
theorem v37_eq : val_main_v37 (F := Ideal) x1 x2 x3 x4 x5 = val_main_v36 (F := Ideal) x1 x2 x3 x4 x5 := by
  funext i
  rw [val_main_v37_apply, val_main_v1_apply, val_main_cst_0_apply]
  exact (congrArg _ FfnReal.c_zero).trans (add_zero _)
end Reference

variable (m : (ℓ : Loc nD τ sig) → Buf (Elt Ideal) ℓ)

section Entry
open Cert.FfnReferenceIdeal.Read
theorem V26 (c : Dev nD) : V m c main_v26 = val_main_v32 (F := Ideal) (m ((c : Thread nD τ).loc main_arg1)) (m ((c : Thread nD τ).loc main_arg2)) (m ((c : Thread nD τ).loc main_arg3)) (m ((c : Thread nD τ).loc main_arg4)) := by
  unfold val_main_v32
  rw [v31_eq]
  unfold_abbrev_sides
  simp only [List.flatten_cons, List.flatten_nil, List.cons_append, List.nil_append, List.append_nil, StableHlo.after_cons, StableHlo.after_nil]
  after_results_simp
  sl_kernel_rfl
theorem V27 (c : Dev nD) : V m c main_v27 = val_main_v33 (F := Ideal) (m ((c : Thread nD τ).loc main_arg1)) (m ((c : Thread nD τ).loc main_arg2)) (m ((c : Thread nD τ).loc main_arg3)) (m ((c : Thread nD τ).loc main_arg4)) := by
  unfold val_main_v33
  rw [v31_eq]
  unfold_abbrev_sides
  simp only [List.flatten_cons, List.flatten_nil, List.cons_append, List.nil_append, List.append_nil, StableHlo.after_cons, StableHlo.after_nil]
  after_results_simp
  sl_kernel_rfl
theorem V30 (c : Dev nD) : V m c main_v30 = val_main_v37 (F := Ideal) (m ((c : Thread nD τ).loc main_arg1)) (m ((c : Thread nD τ).loc main_arg2)) (m ((c : Thread nD τ).loc main_arg3)) (m ((c : Thread nD τ).loc main_arg4)) (m ((c : Thread nD τ).loc main_arg5)) := by
  rw [v37_eq]
  unfold val_main_v36 val_main_v35 val_main_v34_0 val_main_v34_2 val_main_call0_v3 val_main_call0_v1 val_main_call0_v0 val_main_v32 val_main_v33
  rw [v31_eq]
  unfold_abbrev_sides
  simp only [List.flatten_cons, List.flatten_nil, List.cons_append, List.nil_append, List.append_nil, StableHlo.after_cons, StableHlo.after_nil]
  after_results_simp
  sl_kernel_rfl
theorem V38 (c : Dev nD) : @Eq (FVec Ideal S4x2048x704 .bf16) (V m c main_v38) <| truncf .bf16 (transpose S4x2048x704 [1, 0, 2] (shapeCast S2048x4x704 (V m c main_v26 : FVec Ideal S2048x2816 .f32)
    shapeCasts_S2048x2816_S2048x4x704) transposes_S2048x4x704_S4x2048x704_1_0_2) bitsLt_bf16_f32 := by
  unfold_abbrev_sides
  simp only [List.flatten_cons, List.flatten_nil, List.cons_append, List.nil_append, List.append_nil, StableHlo.after_cons, StableHlo.after_nil]
  after_results_simp
  rfl
theorem V41 (c : Dev nD) : @Eq (FVec Ideal S4x2048x704 .bf16) (V m c main_v41) <| truncf .bf16 (transpose S4x2048x704 [1, 0, 2] (shapeCast S2048x4x704 (V m c main_v27 : FVec Ideal S2048x2816 .f32)
    shapeCasts_S2048x2816_S2048x4x704) transposes_S2048x4x704_S4x2048x704_1_0_2) bitsLt_bf16_f32 := by
  unfold_abbrev_sides
  simp only [List.flatten_cons, List.flatten_nil, List.cons_append, List.nil_append, List.append_nil, StableHlo.after_cons, StableHlo.after_nil]
  after_results_simp
  rfl
theorem V38_at (c : Dev nD) (j : Fin 4) (r : Fin 2048) (n : Fin 704) : V m c main_v38 (ix3 j r n) =
    val_main_v32 (F := Ideal) (m ((c : Thread nD τ).loc main_arg1)) (m ((c : Thread nD τ).loc main_arg2)) (m ((c : Thread nD τ).loc main_arg3)) (m ((c : Thread nD τ).loc main_arg4)) (ix2 r ⟨j.val * 704 + n.val, by omega⟩) := by
  rw [V38, V26]
  generalize val_main_v32 (F := Ideal) _ _ _ _ = X
  pointwise
theorem V41_at (c : Dev nD) (j : Fin 4) (r : Fin 2048) (n : Fin 704) : V m c main_v41 (ix3 j r n) =
    val_main_v33 (F := Ideal) (m ((c : Thread nD τ).loc main_arg1)) (m ((c : Thread nD τ).loc main_arg2)) (m ((c : Thread nD τ).loc main_arg3)) (m ((c : Thread nD τ).loc main_arg4)) (ix2 r ⟨j.val * 704 + n.val, by omega⟩) := by
  rw [V41, V27]
  generalize val_main_v33 (F := Ideal) _ _ _ _ = X
  pointwise
theorem V33_at (c : Dev nD) (j : Fin 8) (n : Fin 704) (k : Fin 1024) : V m c main_v33 (ix3 j n k) =
    m ((c : Thread nD τ).loc main_arg4) (ix2 k ⟨j.val * 704 + n.val, by omega⟩) := by
  unfold_abbrev_sides
  simp only [List.flatten_cons, List.flatten_nil, List.cons_append, List.nil_append, List.append_nil, StableHlo.after_cons, StableHlo.after_nil]
  after_results_simp
  pointwise
  try rfl
theorem V35_at (c : Dev nD) (j : Fin 4) (n : Fin 704) (k : Fin 1024) : V m c main_v35 (ix3 j n k) =
    m ((c : Thread nD τ).loc main_arg5) (ix2 ⟨j.val * 704 + n.val, by omega⟩ k) := by
  unfold_abbrev_sides
  simp only [List.flatten_cons, List.flatten_nil, List.cons_append, List.nil_append, List.append_nil, StableHlo.after_cons, StableHlo.after_nil]
  after_results_simp
  pointwise
  try rfl
theorem V42_at (c : Dev nD) (k : Fin 1024) : V m c main_v42 (ix2 0 k) = m ((c : Thread nD τ).loc main_arg3) (ix1 k) := by
  unfold_abbrev_sides
  simp only [List.flatten_cons, List.flatten_nil, List.cons_append, List.nil_append, List.append_nil, StableHlo.after_cons, StableHlo.after_nil]
  after_results_simp
  pointwise
  try rfl
end Entry

/-- The token tile and the channel chunk of a grid point. -/
abbrev tt (t : Fin grid0.N) : Nat := t.val / 4
abbrev jj (t : Fin grid0.N) : Nat := t.val % 4
theorem tt_lt (t : Fin grid0.N) : tt t < 4 := by have h : t.val < 16 := t.isLt; unfold tt; omega
theorem jj_lt (t : Fin grid0.N) : jj t < 4 := Nat.mod_lt _ (by decide)
/-- A token of the tile, among all tokens; a channel of the chunk, among all channels. -/
def tok (t : Fin grid0.N) (r : Fin 512) : Fin 2048 := ⟨tt t * 512 + r.val, by have := tt_lt t; omega⟩
def chn (t : Fin grid0.N) (n : Fin 704) : Fin 2816 := ⟨jj t * 704 + n.val, by have := jj_lt t; omega⟩

theorem idx0 : ∀ t : Fin grid0.N, win0_0.index t = ![tt t, 0] := by decide +kernel
theorem idx1 : ∀ t : Fin grid0.N, win0_1.index t = ![tt t, 0] := by decide +kernel
theorem idx2 : ∀ t : Fin grid0.N, win0_2.index t = ![tt t, 0] := by decide +kernel
theorem idx3 : ∀ t : Fin grid0.N, win0_3.index t = ![jj t, tt t, 0] := by decide +kernel
theorem idx4 : ∀ t : Fin grid0.N, win0_4.index t = ![jj t, tt t, 0] := by decide +kernel
theorem idx5 : ∀ t : Fin grid0.N, win0_5.index t = ![0, 0] := by decide +kernel
theorem idx6 : ∀ t : Fin grid0.N, win0_6.index t = ![0, 0] := by decide +kernel
theorem idx7 : ∀ t : Fin grid0.N, win0_7.index t = ![jj t, 0, 0] := by decide +kernel
theorem idx8 : ∀ t : Fin grid0.N, win0_8.index t = ![jj t + 4, 0, 0] := by decide +kernel
theorem idx9 : ∀ t : Fin grid0.N, win0_9.index t = ![jj t, 0, 0] := by decide +kernel
theorem idx10 : ∀ t : Fin grid0.N, win0_10.index t = ![tt t, 0] := by decide +kernel
theorem idx11 : ∀ t : Fin grid0.N, win0_11.index t = ![jj t, tt t, 0] := by decide +kernel
theorem idx12 : ∀ t : Fin grid0.N, win0_12.index t = ![jj t, tt t, 0] := by decide +kernel
theorem idx13 : ∀ t : Fin grid0.N, win0_13.index t = ![jj t, tt t, 0] := by decide +kernel
theorem idx14 : ∀ t : Fin grid0.N, win0_14.index t = ![tt t, 0] := by decide +kernel
theorem idx15 : ∀ t : Fin grid0.N, win0_15.index t = ![0, 0] := by decide +kernel
theorem i0_at (c : Dev nD) (t : Fin grid0.N) (r : Fin 512) (k : Fin 1024) :
    iblk m c 0 t (ix2 r k) = (m ((c : Thread nD τ).loc main_arg0)) (ix2 (tok t r) k) := by
  refine congrArg ((m ((c : Thread nD τ).loc main_arg0))) ?_
  unfold tok
  blk_ext [idx0 t]
theorem i1_at (c : Dev nD) (t : Fin grid0.N) (r : Fin 512) (k : Fin 1024) :
    iblk m c 1 t (ix2 r k) = (m ((c : Thread nD τ).loc main_arg1)) (ix2 (tok t r) k) := by
  refine congrArg ((m ((c : Thread nD τ).loc main_arg1))) ?_
  unfold tok
  blk_ext [idx1 t]
theorem i2_at (c : Dev nD) (t : Fin grid0.N) (r : Fin 512) (k : Fin 1024) :
    iblk m c 2 t (ix2 r k) = Cert.FfnReferenceIdeal.Read.val_main_v37 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (ix2 (tok t r) k) := by
  refine Eq.trans ?_ (congrFun (V30 m c) _)
  refine congrArg (V m c main_v30) ?_
  unfold tok
  blk_ext [idx2 t]
theorem i5_at (c : Dev nD) (t : Fin grid0.N) (r : Fin 3) (k : Fin 1024) :
    iblk m c 5 t (ix2 r k) = (m ((c : Thread nD τ).loc main_arg2)) (ix2 r k) := by
  refine congrArg ((m ((c : Thread nD τ).loc main_arg2))) ?_
  blk_ext [idx5 t]
theorem i6_at (c : Dev nD) (t : Fin grid0.N) (k : Fin 1024) :
    iblk m c 6 t (ix2 0 k) = (m ((c : Thread nD τ).loc main_arg3)) (ix1 k) := by
  refine Eq.trans ?_ (V42_at m c k)
  refine congrArg (V m c main_v42) ?_
  blk_ext [idx6 t]
theorem i3_at (c : Dev nD) (t : Fin grid0.N) (r : Fin 512) (n : Fin 704) :
    iblk m c 3 t (ix3 0 r n) = Cert.FfnReferenceIdeal.Read.val_main_v32 (F := Ideal) (m ((c : Thread nD τ).loc main_arg1)) (m ((c : Thread nD τ).loc main_arg2)) (m ((c : Thread nD τ).loc main_arg3)) (m ((c : Thread nD τ).loc main_arg4)) (ix2 (tok t r) (chn t n)) := by
  refine Eq.trans ?_ (V38_at m c ⟨jj t, jj_lt t⟩ (tok t r) n)
  refine congrArg (V m c main_v38) ?_
  unfold tok
  blk_ext [idx3 t]
theorem i4_at (c : Dev nD) (t : Fin grid0.N) (r : Fin 512) (n : Fin 704) :
    iblk m c 4 t (ix3 0 r n) = Cert.FfnReferenceIdeal.Read.val_main_v33 (F := Ideal) (m ((c : Thread nD τ).loc main_arg1)) (m ((c : Thread nD τ).loc main_arg2)) (m ((c : Thread nD τ).loc main_arg3)) (m ((c : Thread nD τ).loc main_arg4)) (ix2 (tok t r) (chn t n)) := by
  refine Eq.trans ?_ (V41_at m c ⟨jj t, jj_lt t⟩ (tok t r) n)
  refine congrArg (V m c main_v41) ?_
  unfold tok
  blk_ext [idx4 t]
theorem i7_at (c : Dev nD) (t : Fin grid0.N) (n : Fin 704) (k : Fin 1024) :
    iblk m c 7 t (ix3 0 n k) = (m ((c : Thread nD τ).loc main_arg4)) (ix2 k ⟨jj t * 704 + n.val, by have := jj_lt t; omega⟩) := by
  refine Eq.trans ?_ (V33_at m c ⟨jj t, by have := jj_lt t; omega⟩ n k)
  refine congrArg (V m c main_v33) ?_
  blk_ext [idx7 t]
theorem i8_at (c : Dev nD) (t : Fin grid0.N) (n : Fin 704) (k : Fin 1024) :
    iblk m c 8 t (ix3 0 n k) = (m ((c : Thread nD τ).loc main_arg4)) (ix2 k ⟨(jj t + 4) * 704 + n.val, by have := jj_lt t; omega⟩) := by
  refine Eq.trans ?_ (V33_at m c ⟨jj t + 4, by have := jj_lt t; omega⟩ n k)
  refine congrArg (V m c main_v33) ?_
  blk_ext [idx8 t]
theorem i9_at (c : Dev nD) (t : Fin grid0.N) (n : Fin 704) (k : Fin 1024) :
    iblk m c 9 t (ix3 0 n k) = (m ((c : Thread nD τ).loc main_arg5)) (ix2 (chn t n) k) := by
  refine Eq.trans ?_ (V35_at m c ⟨jj t, jj_lt t⟩ n k)
  refine congrArg (V m c main_v35) ?_
  blk_ext [idx9 t]

end Cert.Proof.Ffn
-- ==== Proof.FfnPay.lean ====
module

public import proofs.«01_k».proof.Proof.Gen.FfnKernelIdeal.Skeleton
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.Proof.Ffn

open Cert.FfnKernelIdeal Cert.FfnKernelIdeal.Gen

/-- The logistic function, as the kernel writes it. -/
def sg (x : EReal) : EReal := Ideal.div 1 (1 + Ideal.exp (0 - x))
/-- One element of the gated activation. -/
def gact (a b : EReal) : EReal := a * sg a * b
/-- One element of the gradient of the gate's input, from the gradient `u` of the activation. -/
def gda (u a b : EReal) : EReal := u * b * (sg a * (1 + a * (1 - sg a)))
/-- One element of the gradient of the other factor. -/
def gdb (u a : EReal) : EReal := u * (a * sg a)

section Elements

theorem pay25_at (a : FVec Ideal S1x256x704 .bf16) (r : Fin 256) (n : Fin 704) :
    k0_pay25 (F := Ideal) a (ix2 r n) = sg (a (ix3 0 r n)) := by
  unfold k0_pay25 k0_pay22 sg
  pointwise

theorem pay36_at (a : FVec Ideal S1x256x704 .bf16) (r : Fin 256) (n : Fin 704) :
    k0_pay36 (F := Ideal) (k0_pay33 a) (ix2 r n) = sg (a (ix3 0 r n)) := by
  unfold k0_pay36 k0_pay33 sg
  pointwise

theorem act_lo (a b : FVec Ideal S1x256x704 .bf16) (r : Fin 256) (n : Fin 704) :
    k0_pay31 (F := Ideal) (k0_pay23 b) (k0_pay26 a) (ix3 0 r n) = gact (a (ix3 0 r n)) (b (ix3 0 r n)) := by
  unfold k0_pay31 k0_pay26 gact
  rw [← pay25_at a r n]
  generalize k0_pay25 (F := Ideal) a = s
  unfold k0_pay22 k0_pay23
  pointwise

theorem act_hi (a b : FVec Ideal S1x256x704 .bf16) (r : Fin 256) (n : Fin 704) :
    k0_pay42 (F := Ideal) (k0_pay33 a) b (ix3 0 r n) = gact (a (ix3 0 r n)) (b (ix3 0 r n)) := by
  unfold k0_pay42 k0_pay37 gact
  rw [← pay36_at a r n]
  generalize k0_pay36 (F := Ideal) (k0_pay33 a) = s
  unfold k0_pay34 k0_pay33
  pointwise

theorem dact_lo (w : FVec Ideal S1x704x1024 .bf16) (d : FVec Ideal S256x1024 .bf16) (r : Fin 256) (n : Fin 704) :
    k0_pay24 (F := Ideal) w d (ix2 r n) = ∑ k : Fin 1024, d (ix2 r k) * w (ix3 0 n k) := by
  unfold k0_pay24 k0_pay21
  pointwise

theorem dact_hi (w : FVec Ideal S1x704x1024 .bf16) (d : FVec Ideal S256x1024 .bf16) (r : Fin 256) (n : Fin 704) :
    k0_pay35 (F := Ideal) (k0_pay21 w) d (ix2 r n) = ∑ k : Fin 1024, d (ix2 r k) * w (ix3 0 n k) := by
  unfold k0_pay35 k0_pay21
  pointwise

theorem da_lo (a b : FVec Ideal S1x256x704 .bf16) (u : FVec Ideal S256x704 .f32) (r : Fin 256) (n : Fin 704) :
    k0_pay27 (F := Ideal) (k0_pay22 a) (k0_pay23 b) u (k0_pay25 a) (ix2 r n) = gda (u (ix2 r n)) (a (ix3 0 r n)) (b (ix3 0 r n)) := by
  unfold k0_pay27 gda
  rw [← pay25_at a r n]
  generalize k0_pay25 (F := Ideal) a = s
  unfold k0_pay22 k0_pay23
  pointwise

theorem da_hi (w : FVec Ideal S1x704x1024 .bf16) (d : FVec Ideal S256x1024 .bf16) (a b : FVec Ideal S1x256x704 .bf16) (r : Fin 256) (n : Fin 704) :
    k0_pay38 (F := Ideal) (k0_pay21 w) d (k0_pay33 a) b (ix2 r n)
      = gda (∑ k : Fin 1024, d (ix2 r k) * w (ix3 0 n k)) (a (ix3 0 r n)) (b (ix3 0 r n)) := by
  unfold k0_pay38 gda
  rw [← pay36_at a r n, ← dact_hi]
  generalize k0_pay36 (F := Ideal) (k0_pay33 a) = s
  generalize k0_pay35 (F := Ideal) (k0_pay21 w) d = u
  unfold k0_pay33 k0_pay34
  pointwise

theorem db_lo (a : FVec Ideal S1x256x704 .bf16) (u : FVec Ideal S256x704 .f32) (r : Fin 256) (n : Fin 704) :
    k0_pay28 (F := Ideal) u (k0_pay26 a) (ix2 r n) = gdb (u (ix2 r n)) (a (ix3 0 r n)) := by
  unfold k0_pay28 k0_pay26 gdb
  rw [← pay25_at a r n]
  generalize k0_pay25 (F := Ideal) a = s
  unfold k0_pay22
  pointwise

theorem db_hi (w : FVec Ideal S1x704x1024 .bf16) (d : FVec Ideal S256x1024 .bf16) (a : FVec Ideal S1x256x704 .bf16) (r : Fin 256) (n : Fin 704) :
    k0_pay39 (F := Ideal) (k0_pay21 w) d (k0_pay33 a) (ix2 r n)
      = gdb (∑ k : Fin 1024, d (ix2 r k) * w (ix3 0 n k)) (a (ix3 0 r n)) := by
  unfold k0_pay39 k0_pay37 gdb
  rw [← pay36_at a r n, ← dact_hi]
  generalize k0_pay36 (F := Ideal) (k0_pay33 a) = s
  generalize k0_pay35 (F := Ideal) (k0_pay21 w) d = u
  unfold k0_pay33
  pointwise

theorem dh_lo (wa wb wo : FVec Ideal S1x704x1024 .bf16) (d : FVec Ideal S256x1024 .bf16) (a b : FVec Ideal S1x256x704 .bf16)
    (h : FVec Ideal S256x1024 .f32) (r : Fin 256) (k : Fin 1024) :
    k0_pay32 (F := Ideal) (k0_pay19 wa) (k0_pay20 wb) (k0_pay22 a) (k0_pay23 b) (k0_pay24 wo d) (k0_pay25 a) (k0_pay26 a) h (ix2 r k)
      = h (ix2 r k) + ((∑ n : Fin 704, gda (∑ q : Fin 1024, d (ix2 r q) * wo (ix3 0 n q)) (a (ix3 0 r n)) (b (ix3 0 r n)) * wa (ix3 0 n k))
        + ∑ n : Fin 704, gdb (∑ q : Fin 1024, d (ix2 r q) * wo (ix3 0 n q)) (a (ix3 0 r n)) * wb (ix3 0 n k)) := by
  simp only [← dact_lo]
  generalize k0_pay24 (F := Ideal) wo d = u
  simp only [← da_lo, ← db_lo]
  unfold k0_pay32
  generalize k0_pay27 (F := Ideal) (k0_pay22 a) (k0_pay23 b) u (k0_pay25 a) = p
  generalize k0_pay28 (F := Ideal) u (k0_pay26 a) = q
  unfold k0_pay19 k0_pay20
  pointwise

theorem dh_hi (wa wb wo : FVec Ideal S1x704x1024 .bf16) (d : FVec Ideal S256x1024 .bf16) (a b : FVec Ideal S1x256x704 .bf16)
    (h : FVec Ideal S256x1024 .f32) (r : Fin 256) (k : Fin 1024) :
    k0_pay1 (F := Ideal) (k0_pay20 wb) (k0_pay39 (k0_pay21 wo) d (k0_pay33 a)) h (k0_pay43 (k0_pay19 wa) (k0_pay21 wo) d (k0_pay33 a) b) (ix2 r k)
      = h (ix2 r k) + ((∑ n : Fin 704, gda (∑ q : Fin 1024, d (ix2 r q) * wo (ix3 0 n q)) (a (ix3 0 r n)) (b (ix3 0 r n)) * wa (ix3 0 n k))
        + ∑ n : Fin 704, gdb (∑ q : Fin 1024, d (ix2 r q) * wo (ix3 0 n q)) (a (ix3 0 r n)) * wb (ix3 0 n k)) := by
  simp only [← da_hi, ← db_hi]
  unfold k0_pay1 k0_pay43
  generalize k0_pay38 (F := Ideal) (k0_pay21 wo) d (k0_pay33 a) b = p
  generalize k0_pay39 (F := Ideal) (k0_pay21 wo) d (k0_pay33 a) = q
  unfold k0_pay19 k0_pay20
  pointwise

theorem da_lo3 (a b : FVec Ideal S1x256x704 .bf16) (wo : FVec Ideal S1x704x1024 .bf16) (d : FVec Ideal S256x1024 .bf16) (r : Fin 256) (n : Fin 704) :
    k0_pay29 (F := Ideal) (k0_pay22 a) (k0_pay23 b) (k0_pay24 wo d) (k0_pay25 a) (ix3 0 r n)
      = gda (∑ k : Fin 1024, d (ix2 r k) * wo (ix3 0 n k)) (a (ix3 0 r n)) (b (ix3 0 r n)) := by
  rw [← dact_lo, ← da_lo]
  unfold k0_pay29
  generalize k0_pay27 (F := Ideal) (k0_pay22 a) (k0_pay23 b) (k0_pay24 wo d) (k0_pay25 a) = p
  pointwise
theorem da_hi3 (w : FVec Ideal S1x704x1024 .bf16) (d : FVec Ideal S256x1024 .bf16) (a b : FVec Ideal S1x256x704 .bf16) (r : Fin 256) (n : Fin 704) :
    k0_pay40 (F := Ideal) (k0_pay21 w) d (k0_pay33 a) b (ix3 0 r n)
      = gda (∑ k : Fin 1024, d (ix2 r k) * w (ix3 0 n k)) (a (ix3 0 r n)) (b (ix3 0 r n)) := by
  rw [← da_hi]
  unfold k0_pay40
  generalize k0_pay38 (F := Ideal) (k0_pay21 w) d (k0_pay33 a) b = p
  pointwise
theorem db_lo3 (a : FVec Ideal S1x256x704 .bf16) (wo : FVec Ideal S1x704x1024 .bf16) (d : FVec Ideal S256x1024 .bf16) (r : Fin 256) (n : Fin 704) :
    k0_pay30 (F := Ideal) (k0_pay24 wo d) (k0_pay26 a) (ix3 0 r n) = gdb (∑ k : Fin 1024, d (ix2 r k) * wo (ix3 0 n k)) (a (ix3 0 r n)) := by
  rw [← dact_lo, ← db_lo]
  unfold k0_pay30
  generalize k0_pay28 (F := Ideal) (k0_pay24 wo d) (k0_pay26 a) = p
  pointwise
theorem db_hi3 (w : FVec Ideal S1x704x1024 .bf16) (d : FVec Ideal S256x1024 .bf16) (a : FVec Ideal S1x256x704 .bf16) (r : Fin 256) (n : Fin 704) :
    k0_pay41 (F := Ideal) (k0_pay21 w) d (k0_pay33 a) (ix3 0 r n) = gdb (∑ k : Fin 1024, d (ix2 r k) * w (ix3 0 n k)) (a (ix3 0 r n)) := by
  rw [← db_hi]
  unfold k0_pay41
  generalize k0_pay39 (F := Ideal) (k0_pay21 w) d (k0_pay33 a) = p
  pointwise

end Elements

section Blocks

variable (d : FVec Ideal S512x1024 .bf16) (wa wb wo : FVec Ideal S1x704x1024 .bf16) (a b : FVec Ideal S1x512x704 .bf16)
  (h : FVec Ideal S512x1024 .f32)

/-- The gradient of the activation at one token of a tile and one column of a chunk. -/
def U (r : Fin 512) (n : Fin 704) : EReal := ∑ k : Fin 1024, d (ix2 r k) * wo (ix3 0 n k)
def Bact : FVec Ideal S1x512x704 .bf16 := fun i => gact (a i) (b i)
def Bda : FVec Ideal S1x512x704 .bf16 := fun i => gda (U d wo (i 1) (i 2)) (a i) (b i)
def Bdb : FVec Ideal S1x512x704 .bf16 := fun i => gdb (U d wo (i 1) (i 2)) (a i)
def Bdh : FVec Ideal S512x1024 .f32 := fun i => h i + ((∑ n : Fin 704, Bda d wo a b (ix3 0 (i 0) n) * wa (ix3 0 n (i 1)))
  + ∑ n : Fin 704, Bdb d wo a (ix3 0 (i 0) n) * wb (ix3 0 n (i 1)))

/-- Row `r` of the second half of a tile. -/
def up (r : Fin 256) : Fin 512 := ⟨256 + r.val, by omega⟩
/-- Row `r` of the first half of a tile. -/
def lo (r : Fin 256) : Fin 512 := ⟨r.val, by omega⟩

theorem ld_up3 (x : FVec Ideal S1x512x704 .bf16) (r : Fin 256) (n : Fin 704) :
    View.ld (Val := Elt Ideal) (e' := .bf16) x (Rect.unit (s := S1x512x704) ![0, 256, 0] ![1, 256, 704] inb_S1x512x704_S1x256x704_0_256_0) (ix3 0 r n)
      = x (ix3 0 (up r) n) := by
  have he : (Rect.unit (s := S1x512x704) ![0, 256, 0] ![1, 256, 704] inb_S1x512x704_S1x256x704_0_256_0).emb (ix3 0 r n) = (ix3 0 (up r) n : S1x512x704.Idx) := by
    unfold up
    blk_ext []
  exact congrArg x he
theorem ld_lo3 (x : FVec Ideal S1x512x704 .bf16) (r : Fin 256) (n : Fin 704) :
    View.ld (Val := Elt Ideal) (e' := .bf16) x (Rect.unit (s := S1x512x704) ![0, 0, 0] ![1, 256, 704] inb_S1x512x704_S1x256x704_0_0_0) (ix3 0 r n)
      = x (ix3 0 (lo r) n) := by
  have he : (Rect.unit (s := S1x512x704) ![0, 0, 0] ![1, 256, 704] inb_S1x512x704_S1x256x704_0_0_0).emb (ix3 0 r n) = (ix3 0 (lo r) n : S1x512x704.Idx) := by
    unfold lo
    blk_ext []
  exact congrArg x he
theorem ld_up2 {e : EltTy} (x : S512x1024.Idx → Elt Ideal e) (r : Fin 256) (n : Fin 1024) :
    View.ld (Val := Elt Ideal) (e' := e) x (Rect.unit (s := S512x1024) ![256, 0] ![256, 1024] inb_S512x1024_S256x1024_256_0) (ix2 r n)
      = x (ix2 (up r) n) := by
  have he : (Rect.unit (s := S512x1024) ![256, 0] ![256, 1024] inb_S512x1024_S256x1024_256_0).emb (ix2 r n) = (ix2 (up r) n : S512x1024.Idx) := by
    unfold up
    blk_ext []
  exact congrArg x he
theorem ld_lo2 {e : EltTy} (x : S512x1024.Idx → Elt Ideal e) (r : Fin 256) (n : Fin 1024) :
    View.ld (Val := Elt Ideal) (e' := e) x (Rect.unit (s := S512x1024) ![0, 0] ![256, 1024] inb_S512x1024_S256x1024_0_0) (ix2 r n)
      = x (ix2 (lo r) n) := by
  have he : (Rect.unit (s := S512x1024) ![0, 0] ![256, 1024] inb_S512x1024_S256x1024_0_0).emb (ix2 r n) = (ix2 (lo r) n : S512x1024.Idx) := by
    unfold lo
    blk_ext []
  exact congrArg x he

/-- Two stores of half a tile each make the tile. -/
theorem two3 (P Q : FVec Ideal S1x256x704 .bf16) (G : FVec Ideal S1x512x704 .bf16)
    (hP : ∀ r n, P (ix3 0 r n) = G (ix3 0 (up r) n)) (hQ : ∀ r n, Q (ix3 0 r n) = G (ix3 0 (lo r) n)) :
    View.canon (Val := Elt Ideal) (s := S1x512x704) (e := .bf16)
      [⟨Rect.unit (s := S1x512x704) ![0, 256, 0] ![1, 256, 704] inb_S1x512x704_S1x256x704_0_256_0, P⟩,
       ⟨Rect.unit (s := S1x512x704) ![0, 0, 0] ![1, 256, 704] inb_S1x512x704_S1x256x704_0_0_0, Q⟩] = G := by
  funext y
  canon_tiles x h
  · change S1x256x704.Idx at x
    idx_vars x
    idx_vars y
    obtain rfl : y0 = 0 := Subsingleton.elim _ _
    obtain rfl : x0 = 0 := Subsingleton.elim _ _
    obtain rfl : y1 = up x1 := Fin.ext h1
    obtain rfl : y2 = x2 := Fin.ext (h2.trans (by simp))
    exact hP _ _
  · change S1x256x704.Idx at x
    idx_vars x
    idx_vars y
    obtain rfl : y0 = 0 := Subsingleton.elim _ _
    obtain rfl : x0 = 0 := Subsingleton.elim _ _
    obtain rfl : y1 = lo x1 := Fin.ext (h1.trans (by simp [lo]))
    obtain rfl : y2 = x2 := Fin.ext (h2.trans (by simp))
    exact hQ _ _

theorem two2 (P Q : FVec Ideal S256x1024 .f32) (G : FVec Ideal S512x1024 .f32)
    (hP : ∀ r n, P (ix2 r n) = G (ix2 (up r) n)) (hQ : ∀ r n, Q (ix2 r n) = G (ix2 (lo r) n)) :
    View.canon (Val := Elt Ideal) (s := S512x1024) (e := .f32)
      [⟨Rect.unit (s := S512x1024) ![256, 0] ![256, 1024] inb_S512x1024_S256x1024_256_0, P⟩,
       ⟨Rect.unit (s := S512x1024) ![0, 0] ![256, 1024] inb_S512x1024_S256x1024_0_0, Q⟩] = G := by
  funext y
  canon_tiles x h
  · change S256x1024.Idx at x
    idx_vars x
    idx_vars y
    obtain rfl : y0 = up x0 := Fin.ext h0
    obtain rfl : y1 = x1 := Fin.ext (h1.trans (by simp))
    exact hP _ _
  · change S256x1024.Idx at x
    idx_vars x
    idx_vars y
    obtain rfl : y0 = lo x0 := Fin.ext (h0.trans (by simp [lo]))
    obtain rfl : y1 = x1 := Fin.ext (h1.trans (by simp))
    exact hQ _ _

section Stores
variable {e : EltTy} (P : S256x1024.Idx → Elt Ideal e) (L : List (View.Piece (Elt Ideal) S512x1024 e)) (r : Fin 256) (n : Fin 1024)
theorem hit_up : View.canon (⟨Rect.unit (s := S512x1024) ![256, 0] ![256, 1024] inb_S512x1024_S256x1024_256_0, P⟩ :: L) (ix2 (up r) n) = P (ix2 r n) := by
  have he : (ix2 (up r) n : S512x1024.Idx) = (Rect.unit (s := S512x1024) ![256, 0] ![256, 1024] inb_S512x1024_S256x1024_256_0).emb (ix2 r n) := by
    unfold up
    blk_ext []
  rw [he, View.canon_cons_emb]
theorem hit_lo : View.canon (⟨Rect.unit (s := S512x1024) ![0, 0] ![256, 1024] inb_S512x1024_S256x1024_0_0, P⟩ :: L) (ix2 (lo r) n) = P (ix2 r n) := by
  have he : (ix2 (lo r) n : S512x1024.Idx) = (Rect.unit (s := S512x1024) ![0, 0] ![256, 1024] inb_S512x1024_S256x1024_0_0).emb (ix2 r n) := by
    unfold lo
    blk_ext []
  rw [he, View.canon_cons_emb]
theorem miss_up : View.canon (⟨Rect.unit (s := S512x1024) ![256, 0] ![256, 1024] inb_S512x1024_S256x1024_256_0, P⟩ :: L) (ix2 (lo r) n)
    = View.canon L (ix2 (lo r) n) := by
  refine View.canon_cons_of_not_mem _ _ fun hm => ?_
  have h0 := (Rect.mem_set_unit (inb := inb_S512x1024_S256x1024_256_0) (i := (ix2 (lo r) n : S512x1024.Idx)).mp hm) (0 : Fin 2)
  have l : 256 ≤ r.val := h0.1
  omega
theorem miss_lo : View.canon (⟨Rect.unit (s := S512x1024) ![0, 0] ![256, 1024] inb_S512x1024_S256x1024_0_0, P⟩ :: L) (ix2 (up r) n)
    = View.canon L (ix2 (up r) n) := by
  refine View.canon_cons_of_not_mem _ _ fun hm => ?_
  have h0 := (Rect.mem_set_unit (inb := inb_S512x1024_S256x1024_0_0) (i := (ix2 (up r) n : S512x1024.Idx)).mp hm) (0 : Fin 2)
  have l : 256 + r.val < 0 + 256 := h0.2
  omega
theorem whole_only (Z : S512x1024.Idx → Elt Ideal e) :
    View.canon [⟨Rect.unit (s := S512x1024) ![0, 0] ![512, 1024] inb_S512x1024_S512x1024_0_0, Z⟩] = Z :=
  View.canon_cons_unit_lit (S := S512x1024) _ _ _ (by decide)
end Stores

theorem halves (r : Fin 512) : (∃ q, r = up q) ∨ ∃ q, r = lo q := by
  by_cases hr : r.val < 256
  · exact .inr ⟨⟨r.val, hr⟩, rfl⟩
  · exact .inl ⟨⟨r.val - 256, by omega⟩, Fin.ext (show r.val = 256 + (r.val - 256) by omega)⟩

/-- The same with what the buffer held before, which the two stores hide. -/
theorem two2' (P Q : FVec Ideal S256x1024 .f32) (Z : FVec Ideal S512x1024 .f32) (G : FVec Ideal S512x1024 .f32)
    (hP : ∀ r n, P (ix2 r n) = G (ix2 (up r) n)) (hQ : ∀ r n, Q (ix2 r n) = G (ix2 (lo r) n)) :
    View.canon (Val := Elt Ideal) (s := S512x1024) (e := .f32)
      [⟨Rect.unit (s := S512x1024) ![256, 0] ![256, 1024] inb_S512x1024_S256x1024_256_0, P⟩,
       ⟨Rect.unit (s := S512x1024) ![0, 0] ![256, 1024] inb_S512x1024_S256x1024_0_0, Q⟩,
       ⟨Rect.unit (s := S512x1024) ![0, 0] ![512, 1024] inb_S512x1024_S512x1024_0_0, Z⟩] = G := by
  funext y
  idx_vars y
  rcases halves y0 with ⟨q, rfl⟩ | ⟨q, rfl⟩
  · exact (hit_up (e := .f32) P _ q y1).trans (hP _ _)
  · exact (miss_up (e := .f32) P _ q y1).trans ((hit_lo (e := .f32) Q _ q y1).trans (hQ _ _))

theorem act_blk (A1 B1 A0 B0 : FVec Ideal S1x256x704 .bf16) (hA1 : ∀ r n, A1 (ix3 0 r n) = a (ix3 0 (up r) n))
    (hB1 : ∀ r n, B1 (ix3 0 r n) = b (ix3 0 (up r) n)) (hA0 : ∀ r n, A0 (ix3 0 r n) = a (ix3 0 (lo r) n))
    (hB0 : ∀ r n, B0 (ix3 0 r n) = b (ix3 0 (lo r) n)) :
    View.canon (Val := Elt Ideal) (s := S1x512x704) (e := .bf16)
      [⟨Rect.unit (s := S1x512x704) ![0, 256, 0] ![1, 256, 704] inb_S1x512x704_S1x256x704_0_256_0, k0_pay42 (F := Ideal) (k0_pay33 A1) B1⟩,
       ⟨Rect.unit (s := S1x512x704) ![0, 0, 0] ![1, 256, 704] inb_S1x512x704_S1x256x704_0_0_0, k0_pay31 (F := Ideal) (k0_pay23 B0) (k0_pay26 A0)⟩]
    = Bact a b := by
  refine two3 _ _ _ (fun r n => ?_) (fun r n => ?_)
  · rw [act_hi, hA1, hB1]; rfl
  · rw [act_lo, hA0, hB0]; rfl

theorem da_blk (D1 D0 : FVec Ideal S256x1024 .bf16) (A1 B1 A0 B0 : FVec Ideal S1x256x704 .bf16) (hD1 : ∀ r n, D1 (ix2 r n) = d (ix2 (up r) n))
    (hD0 : ∀ r n, D0 (ix2 r n) = d (ix2 (lo r) n)) (hA1 : ∀ r n, A1 (ix3 0 r n) = a (ix3 0 (up r) n))
    (hB1 : ∀ r n, B1 (ix3 0 r n) = b (ix3 0 (up r) n)) (hA0 : ∀ r n, A0 (ix3 0 r n) = a (ix3 0 (lo r) n))
    (hB0 : ∀ r n, B0 (ix3 0 r n) = b (ix3 0 (lo r) n)) :
    View.canon (Val := Elt Ideal) (s := S1x512x704) (e := .bf16)
      [⟨Rect.unit (s := S1x512x704) ![0, 256, 0] ![1, 256, 704] inb_S1x512x704_S1x256x704_0_256_0, k0_pay40 (F := Ideal) (k0_pay21 wo) D1 (k0_pay33 A1) B1⟩,
       ⟨Rect.unit (s := S1x512x704) ![0, 0, 0] ![1, 256, 704] inb_S1x512x704_S1x256x704_0_0_0,
          k0_pay29 (F := Ideal) (k0_pay22 A0) (k0_pay23 B0) (k0_pay24 wo D0) (k0_pay25 A0)⟩]
    = Bda d wo a b := by
  refine two3 _ _ _ (fun r n => ?_) (fun r n => ?_)
  · rw [da_hi3, hA1, hB1]; simp only [hD1]; rfl
  · rw [da_lo3, hA0, hB0]; simp only [hD0]; rfl

theorem db_blk (D1 D0 : FVec Ideal S256x1024 .bf16) (A1 A0 : FVec Ideal S1x256x704 .bf16) (hD1 : ∀ r n, D1 (ix2 r n) = d (ix2 (up r) n))
    (hD0 : ∀ r n, D0 (ix2 r n) = d (ix2 (lo r) n)) (hA1 : ∀ r n, A1 (ix3 0 r n) = a (ix3 0 (up r) n))
    (hA0 : ∀ r n, A0 (ix3 0 r n) = a (ix3 0 (lo r) n)) :
    View.canon (Val := Elt Ideal) (s := S1x512x704) (e := .bf16)
      [⟨Rect.unit (s := S1x512x704) ![0, 256, 0] ![1, 256, 704] inb_S1x512x704_S1x256x704_0_256_0, k0_pay41 (F := Ideal) (k0_pay21 wo) D1 (k0_pay33 A1)⟩,
       ⟨Rect.unit (s := S1x512x704) ![0, 0, 0] ![1, 256, 704] inb_S1x512x704_S1x256x704_0_0_0,
          k0_pay30 (F := Ideal) (k0_pay24 wo D0) (k0_pay26 A0)⟩]
    = Bdb d wo a := by
  refine two3 _ _ _ (fun r n => ?_) (fun r n => ?_)
  · rw [db_hi3, hA1]; simp only [hD1]; rfl
  · rw [db_lo3, hA0]; simp only [hD0]; rfl

section Dh
variable (D1 D0 : FVec Ideal S256x1024 .bf16) (A1 B1 A0 B0 : FVec Ideal S1x256x704 .bf16) (H1 H0 : FVec Ideal S256x1024 .f32)
  (hD1 : ∀ r n, D1 (ix2 r n) = d (ix2 (up r) n))
  (hD0 : ∀ r n, D0 (ix2 r n) = d (ix2 (lo r) n)) (hA1 : ∀ r n, A1 (ix3 0 r n) = a (ix3 0 (up r) n))
  (hB1 : ∀ r n, B1 (ix3 0 r n) = b (ix3 0 (up r) n)) (hA0 : ∀ r n, A0 (ix3 0 r n) = a (ix3 0 (lo r) n))
  (hB0 : ∀ r n, B0 (ix3 0 r n) = b (ix3 0 (lo r) n)) (hH1 : ∀ r n, H1 (ix2 r n) = h (ix2 (up r) n)) (hH0 : ∀ r n, H0 (ix2 r n) = h (ix2 (lo r) n))
include hD1 hD0 hA1 hB1 hA0 hB0 hH1 hH0

theorem dh_blk :
    View.canon (Val := Elt Ideal) (s := S512x1024) (e := .f32)
      [⟨Rect.unit (s := S512x1024) ![256, 0] ![256, 1024] inb_S512x1024_S256x1024_256_0,
         k0_pay1 (F := Ideal) (k0_pay20 wb) (k0_pay39 (k0_pay21 wo) D1 (k0_pay33 A1)) H1 (k0_pay43 (k0_pay19 wa) (k0_pay21 wo) D1 (k0_pay33 A1) B1)⟩,
       ⟨Rect.unit (s := S512x1024) ![0, 0] ![256, 1024] inb_S512x1024_S256x1024_0_0,
         k0_pay32 (F := Ideal) (k0_pay19 wa) (k0_pay20 wb) (k0_pay22 A0) (k0_pay23 B0) (k0_pay24 wo D0) (k0_pay25 A0) (k0_pay26 A0) H0⟩]
    = Bdh d wa wb wo a b h := by
  refine two2 _ _ _ (fun r n => ?_) (fun r n => ?_)
  · rw [dh_hi]; simp only [hD1, hA1, hB1, hH1]; rfl
  · rw [dh_lo]; simp only [hD0, hA0, hB0, hH0]; rfl

theorem dh_blk' (Z : FVec Ideal S512x1024 .f32) :
    View.canon (Val := Elt Ideal) (s := S512x1024) (e := .f32)
      [⟨Rect.unit (s := S512x1024) ![256, 0] ![256, 1024] inb_S512x1024_S256x1024_256_0,
         k0_pay1 (F := Ideal) (k0_pay20 wb) (k0_pay39 (k0_pay21 wo) D1 (k0_pay33 A1)) H1 (k0_pay43 (k0_pay19 wa) (k0_pay21 wo) D1 (k0_pay33 A1) B1)⟩,
       ⟨Rect.unit (s := S512x1024) ![0, 0] ![256, 1024] inb_S512x1024_S256x1024_0_0,
         k0_pay32 (F := Ideal) (k0_pay19 wa) (k0_pay20 wb) (k0_pay22 A0) (k0_pay23 B0) (k0_pay24 wo D0) (k0_pay25 A0) (k0_pay26 A0) H0⟩,
       ⟨Rect.unit (s := S512x1024) ![0, 0] ![512, 1024] inb_S512x1024_S512x1024_0_0, Z⟩]
    = Bdh d wa wb wo a b h := by
  refine two2' _ _ _ _ (fun r n => ?_) (fun r n => ?_)
  · rw [dh_hi]; simp only [hD1, hA1, hB1, hH1]; rfl
  · rw [dh_lo]; simp only [hD0, hA0, hB0, hH0]; rfl
end Dh

end Blocks

end Cert.Proof.Ffn
-- ==== Proof.FfnCases.lean ====
module

public import proofs.«01_k».proof.Proof.FfnPay
public import proofs.«01_k».proof.Proof.FfnData

@[expose] public section

set_option maxRecDepth 16384

noncomputable section

open Idealize.ShloMosaic Idealize.ShloMosaic.TcCoe Idealize.SL.Sem
open Idealize.ShloMosaic.Pipeline (Dat)

namespace Cert.Proof.Ffn

open Cert.FfnKernelIdeal Cert.FfnKernelIdeal.Gen

variable (m : (ℓ : Loc nD τ sig) → Buf (Elt Ideal) ℓ)

/-- The gradient of the branch at one token tile, from the gate row and the tile of the incoming gradient. -/
def Bdo (c : Dev nD) (t : Fin cfg0.N) : FVec Ideal S512x1024 .bf16 :=
  k0_pay15 (F := Ideal) (View.ld (Val := Elt Ideal) (e' := .f32) (iblk m c 5 t) (Rect.unit (s := S3x1024) ![2, 0] ![1, 1024] inb_S3x1024_S1x1024_2_0)) (iblk m c 0 t)

section Reads
variable {κ : Kind} {sp : Space} {e : EltTy} (v : View sig κ sp S512x1024 e) (Z : S512x1024.Idx → Elt Ideal e) (r : Fin 256) (n : Fin 1024)
theorem rc_up : v.readCov [⟨Rect.unit (s := S512x1024) ![0, 0] ![512, 1024] inb_S512x1024_S512x1024_0_0, Z⟩]
    (Rect.unit (s := S512x1024) ![256, 0] ![256, 1024] inb_S512x1024_S256x1024_256_0).toLoadRect (ix2 r n) = Z (ix2 (up r) n) := by
  rw [View.readCov_fill v _ Z _ _ (by decide)]
  exact ld_up2 Z r n
theorem rc_lo : v.readCov [⟨Rect.unit (s := S512x1024) ![0, 0] ![512, 1024] inb_S512x1024_S512x1024_0_0, Z⟩]
    (Rect.unit (s := S512x1024) ![0, 0] ![256, 1024] inb_S512x1024_S256x1024_0_0).toLoadRect (ix2 r n) = Z (ix2 (lo r) n) := by
  rw [View.readCov_fill v _ Z _ _ (by decide)]
  exact ld_lo2 Z r n
theorem rc_up' (P : S256x1024.Idx → Elt Ideal e) : v.readCov [⟨Rect.unit (s := S512x1024) ![0, 0] ![256, 1024] inb_S512x1024_S256x1024_0_0, P⟩,
      ⟨Rect.unit (s := S512x1024) ![0, 0] ![512, 1024] inb_S512x1024_S512x1024_0_0, Z⟩]
    (Rect.unit (s := S512x1024) ![256, 0] ![256, 1024] inb_S512x1024_S256x1024_256_0).toLoadRect (ix2 r n) = Z (ix2 (up r) n) := by
  rw [View.readCov_eq_canon']
  have he : (Rect.unit (s := S512x1024) ![256, 0] ![256, 1024] inb_S512x1024_S256x1024_256_0).emb (ix2 r n) = (ix2 (up r) n : S512x1024.Idx) := by
    unfold up
    blk_ext []
  refine (congrArg (View.canon _) he).trans ((miss_lo P _ r n).trans (congrFun (whole_only Z) _))
end Reads

theorem pay16_eq (x : FVec Ideal S1x1024 .f32) (y : FVec Ideal S512x1024 .f32) : k0_pay16 (F := Ideal) x y = k0_pay15 x y := by
  unfold k0_pay16
  generalize k0_pay15 (F := Ideal) x y = z
  funext i
  idx_vars i
  pointwise

theorem atA_11 (c : Dev nD) (t : Fin cfg0.N) (h0 : t.val % 4 = 0) (h1 : t.val % 16 = 0) (h2 : ¬t.val % 4 = 3) : (at0_A m c t h0 h1 h2).2.1 = Bda (Bdo m c t) (iblk m c 9 t) (iblk m c 3 t) (iblk m c 4 t) := by
  unfold at0_A
  frame_out
  exact da_blk (Bdo m c t) _ _ _ _ _ _ _ _ _ (fun r n => (rc_up (e := .bf16) _ _ r n).trans (congrFun (pay16_eq _ _) _)) (fun r n => (rc_lo (e := .bf16) _ _ r n).trans (congrFun (pay16_eq _ _) _)) (ld_up3 _) (ld_up3 _) (ld_lo3 _) (ld_lo3 _)

theorem atA_12 (c : Dev nD) (t : Fin cfg0.N) (h0 : t.val % 4 = 0) (h1 : t.val % 16 = 0) (h2 : ¬t.val % 4 = 3) : (at0_A m c t h0 h1 h2).2.2.1 = Bdb (Bdo m c t) (iblk m c 9 t) (iblk m c 3 t) := by
  unfold at0_A
  frame_out
  exact db_blk (Bdo m c t) _ _ _ _ _ _ (fun r n => (rc_up (e := .bf16) _ _ r n).trans (congrFun (pay16_eq _ _) _)) (fun r n => (rc_lo (e := .bf16) _ _ r n).trans (congrFun (pay16_eq _ _) _)) (ld_up3 _) (ld_lo3 _)

theorem atA_13 (c : Dev nD) (t : Fin cfg0.N) (h0 : t.val % 4 = 0) (h1 : t.val % 16 = 0) (h2 : ¬t.val % 4 = 3) : (at0_A m c t h0 h1 h2).2.2.2.1 = Bact (iblk m c 3 t) (iblk m c 4 t) := by
  unfold at0_A
  frame_out
  exact act_blk _ _ _ _ _ _ (ld_up3 _) (ld_up3 _) (ld_lo3 _) (ld_lo3 _)

theorem atA_14 (c : Dev nD) (t : Fin cfg0.N) (h0 : t.val % 4 = 0) (h1 : t.val % 16 = 0) (h2 : ¬t.val % 4 = 3) : (at0_A m c t h0 h1 h2).2.2.2.2.1 = Bdo m c t := by
  unfold at0_A
  frame_out
  rfl

theorem atA_s0 (c : Dev nD) (t : Fin cfg0.N) (h0 : t.val % 4 = 0) (h1 : t.val % 16 = 0) (h2 : ¬t.val % 4 = 3) : (at0_A m c t h0 h1 h2).2.2.2.2.2.2.1 = Bdo m c t := by
  unfold at0_A
  frame_out
  exact pay16_eq _ _

theorem atA_15 (c : Dev nD) (t : Fin cfg0.N) (h0 : t.val % 4 = 0) (h1 : t.val % 16 = 0) (h2 : ¬t.val % 4 = 3) : (at0_A m c t h0 h1 h2).2.2.2.2.2.1 = k0_pay18 (F := Ideal) := by
  unfold at0_A
  frame_out

theorem atA_s1 (c : Dev nD) (t : Fin cfg0.N) (h0 : t.val % 4 = 0) (h1 : t.val % 16 = 0) (h2 : ¬t.val % 4 = 3) : (at0_A m c t h0 h1 h2).2.2.2.2.2.2.2 = Bdh (Bdo m c t) (iblk m c 7 t) (iblk m c 8 t) (iblk m c 9 t) (iblk m c 3 t) (iblk m c 4 t) (k0_pay17 (F := Ideal)) := by
  unfold at0_A
  frame_out
  exact dh_blk' (Bdo m c t) _ _ _ _ _ (k0_pay17 (F := Ideal)) _ _ _ _ _ _ _ _ (fun r n => (rc_up (e := .bf16) _ _ r n).trans (congrFun (pay16_eq _ _) _)) (fun r n => (rc_lo (e := .bf16) _ _ r n).trans (congrFun (pay16_eq _ _) _)) (ld_up3 _) (ld_up3 _) (ld_lo3 _) (ld_lo3 _) (fun r n => rc_up' (e := .f32) _ _ r n _) (fun r n => rc_lo (e := .f32) _ _ r n) _

theorem atB_11 (c : Dev nD) (t : Fin cfg0.N) (h0 : ¬t.val % 4 = 0) (h1 : ¬t.val % 16 = 0) (h2 : ¬t.val % 4 = 3) (p) : (at0_B m c t h0 h1 h2 p).2.1 = Bda p.2.2.2.2.2.2.1 (iblk m c 9 t) (iblk m c 3 t) (iblk m c 4 t) := by
  unfold at0_B
  frame_out
  exact da_blk p.2.2.2.2.2.2.1 _ _ _ _ _ _ _ _ _ (fun r n => (ld_up2 (e := .bf16) _ r n).trans (congrFun (read_unread_whole cc0_scratch0 _ _) _)) (fun r n => (ld_lo2 (e := .bf16) _ r n).trans (congrFun (read_unread_whole cc0_scratch0 _ _) _)) (ld_up3 _) (ld_up3 _) (ld_lo3 _) (ld_lo3 _)

theorem atB_12 (c : Dev nD) (t : Fin cfg0.N) (h0 : ¬t.val % 4 = 0) (h1 : ¬t.val % 16 = 0) (h2 : ¬t.val % 4 = 3) (p) : (at0_B m c t h0 h1 h2 p).2.2.1 = Bdb p.2.2.2.2.2.2.1 (iblk m c 9 t) (iblk m c 3 t) := by
  unfold at0_B
  frame_out
  exact db_blk p.2.2.2.2.2.2.1 _ _ _ _ _ _ (fun r n => (ld_up2 (e := .bf16) _ r n).trans (congrFun (read_unread_whole cc0_scratch0 _ _) _)) (fun r n => (ld_lo2 (e := .bf16) _ r n).trans (congrFun (read_unread_whole cc0_scratch0 _ _) _)) (ld_up3 _) (ld_lo3 _)

theorem atB_13 (c : Dev nD) (t : Fin cfg0.N) (h0 : ¬t.val % 4 = 0) (h1 : ¬t.val % 16 = 0) (h2 : ¬t.val % 4 = 3) (p) : (at0_B m c t h0 h1 h2 p).2.2.2.1 = Bact (iblk m c 3 t) (iblk m c 4 t) := by
  unfold at0_B
  frame_out
  exact act_blk _ _ _ _ _ _ (ld_up3 _) (ld_up3 _) (ld_lo3 _) (ld_lo3 _)

theorem atB_14 (c : Dev nD) (t : Fin cfg0.N) (h0 : ¬t.val % 4 = 0) (h1 : ¬t.val % 16 = 0) (h2 : ¬t.val % 4 = 3) (p) : (at0_B m c t h0 h1 h2 p).2.2.2.2.1 = p.2.2.2.2.1 := by
  unfold at0_B
  rfl

theorem atB_s0 (c : Dev nD) (t : Fin cfg0.N) (h0 : ¬t.val % 4 = 0) (h1 : ¬t.val % 16 = 0) (h2 : ¬t.val % 4 = 3) (p) : (at0_B m c t h0 h1 h2 p).2.2.2.2.2.2.1 = p.2.2.2.2.2.2.1 := by
  unfold at0_B
  rfl

theorem atB_15 (c : Dev nD) (t : Fin cfg0.N) (h0 : ¬t.val % 4 = 0) (h1 : ¬t.val % 16 = 0) (h2 : ¬t.val % 4 = 3) (p) : (at0_B m c t h0 h1 h2 p).2.2.2.2.2.1 = p.2.2.2.2.2.1 := by
  unfold at0_B
  rfl

theorem atB_s1 (c : Dev nD) (t : Fin cfg0.N) (h0 : ¬t.val % 4 = 0) (h1 : ¬t.val % 16 = 0) (h2 : ¬t.val % 4 = 3) (p) : (at0_B m c t h0 h1 h2 p).2.2.2.2.2.2.2 = Bdh p.2.2.2.2.2.2.1 (iblk m c 7 t) (iblk m c 8 t) (iblk m c 9 t) (iblk m c 3 t) (iblk m c 4 t) p.2.2.2.2.2.2.2 := by
  unfold at0_B
  frame_out
  exact dh_blk p.2.2.2.2.2.2.1 _ _ _ _ _ p.2.2.2.2.2.2.2 _ _ _ _ _ _ _ _ (fun r n => (ld_up2 (e := .bf16) _ r n).trans (congrFun (read_unread_whole cc0_scratch0 _ _) _)) (fun r n => (ld_lo2 (e := .bf16) _ r n).trans (congrFun (read_unread_whole cc0_scratch0 _ _) _)) (ld_up3 _) (ld_up3 _) (ld_lo3 _) (ld_lo3 _) (fun r n => (ld_up2 (e := .f32) _ r n).trans (congrFun (read_unread_whole cc0_scratch1 _ _) _)) (fun r n => (ld_lo2 (e := .f32) _ r n).trans (congrFun (read_unread_whole cc0_scratch1 _ _) _))

theorem atC_11 (c : Dev nD) (t : Fin cfg0.N) (h0 : ¬t.val % 4 = 0) (h1 : ¬t.val % 16 = 0) (h2 : t.val % 4 = 3) (p) : (at0_C m c t h0 h1 h2 p).2.1 = Bda p.2.2.2.2.2.2.1 (iblk m c 9 t) (iblk m c 3 t) (iblk m c 4 t) := by
  unfold at0_C
  frame_out
  exact da_blk p.2.2.2.2.2.2.1 _ _ _ _ _ _ _ _ _ (fun r n => (ld_up2 (e := .bf16) _ r n).trans (congrFun (read_unread_whole cc0_scratch0 _ _) _)) (fun r n => (ld_lo2 (e := .bf16) _ r n).trans (congrFun (read_unread_whole cc0_scratch0 _ _) _)) (ld_up3 _) (ld_up3 _) (ld_lo3 _) (ld_lo3 _)

theorem atC_12 (c : Dev nD) (t : Fin cfg0.N) (h0 : ¬t.val % 4 = 0) (h1 : ¬t.val % 16 = 0) (h2 : t.val % 4 = 3) (p) : (at0_C m c t h0 h1 h2 p).2.2.1 = Bdb p.2.2.2.2.2.2.1 (iblk m c 9 t) (iblk m c 3 t) := by
  unfold at0_C
  frame_out
  exact db_blk p.2.2.2.2.2.2.1 _ _ _ _ _ _ (fun r n => (ld_up2 (e := .bf16) _ r n).trans (congrFun (read_unread_whole cc0_scratch0 _ _) _)) (fun r n => (ld_lo2 (e := .bf16) _ r n).trans (congrFun (read_unread_whole cc0_scratch0 _ _) _)) (ld_up3 _) (ld_lo3 _)

theorem atC_13 (c : Dev nD) (t : Fin cfg0.N) (h0 : ¬t.val % 4 = 0) (h1 : ¬t.val % 16 = 0) (h2 : t.val % 4 = 3) (p) : (at0_C m c t h0 h1 h2 p).2.2.2.1 = Bact (iblk m c 3 t) (iblk m c 4 t) := by
  unfold at0_C
  frame_out
  exact act_blk _ _ _ _ _ _ (ld_up3 _) (ld_up3 _) (ld_lo3 _) (ld_lo3 _)

theorem atC_14 (c : Dev nD) (t : Fin cfg0.N) (h0 : ¬t.val % 4 = 0) (h1 : ¬t.val % 16 = 0) (h2 : t.val % 4 = 3) (p) : (at0_C m c t h0 h1 h2 p).2.2.2.2.1 = p.2.2.2.2.1 := by
  unfold at0_C
  rfl

theorem atC_s0 (c : Dev nD) (t : Fin cfg0.N) (h0 : ¬t.val % 4 = 0) (h1 : ¬t.val % 16 = 0) (h2 : t.val % 4 = 3) (p) : (at0_C m c t h0 h1 h2 p).2.2.2.2.2.2.1 = p.2.2.2.2.2.2.1 := by
  unfold at0_C
  rfl

theorem atC_s1 (c : Dev nD) (t : Fin cfg0.N) (h0 : ¬t.val % 4 = 0) (h1 : ¬t.val % 16 = 0) (h2 : t.val % 4 = 3) (p) : (at0_C m c t h0 h1 h2 p).2.2.2.2.2.2.2 = Bdh p.2.2.2.2.2.2.1 (iblk m c 7 t) (iblk m c 8 t) (iblk m c 9 t) (iblk m c 3 t) (iblk m c 4 t) p.2.2.2.2.2.2.2 := by
  unfold at0_C
  frame_out
  exact dh_blk p.2.2.2.2.2.2.1 _ _ _ _ _ p.2.2.2.2.2.2.2 _ _ _ _ _ _ _ _ (fun r n => (ld_up2 (e := .bf16) _ r n).trans (congrFun (read_unread_whole cc0_scratch0 _ _) _)) (fun r n => (ld_lo2 (e := .bf16) _ r n).trans (congrFun (read_unread_whole cc0_scratch0 _ _) _)) (ld_up3 _) (ld_up3 _) (ld_lo3 _) (ld_lo3 _) (fun r n => (ld_up2 (e := .f32) _ r n).trans (congrFun (read_unread_whole cc0_scratch1 _ _) _)) (fun r n => (ld_lo2 (e := .f32) _ r n).trans (congrFun (read_unread_whole cc0_scratch1 _ _) _))

theorem atD_11 (c : Dev nD) (t : Fin cfg0.N) (h0 : t.val % 4 = 0) (h1 : ¬t.val % 16 = 0) (h2 : ¬t.val % 4 = 3) (p) : (at0_D m c t h0 h1 h2 p).2.1 = Bda (Bdo m c t) (iblk m c 9 t) (iblk m c 3 t) (iblk m c 4 t) := by
  unfold at0_D
  frame_out
  exact da_blk (Bdo m c t) _ _ _ _ _ _ _ _ _ (fun r n => (rc_up (e := .bf16) _ _ r n).trans (congrFun (pay16_eq _ _) _)) (fun r n => (rc_lo (e := .bf16) _ _ r n).trans (congrFun (pay16_eq _ _) _)) (ld_up3 _) (ld_up3 _) (ld_lo3 _) (ld_lo3 _)

theorem atD_12 (c : Dev nD) (t : Fin cfg0.N) (h0 : t.val % 4 = 0) (h1 : ¬t.val % 16 = 0) (h2 : ¬t.val % 4 = 3) (p) : (at0_D m c t h0 h1 h2 p).2.2.1 = Bdb (Bdo m c t) (iblk m c 9 t) (iblk m c 3 t) := by
  unfold at0_D
  frame_out
  exact db_blk (Bdo m c t) _ _ _ _ _ _ (fun r n => (rc_up (e := .bf16) _ _ r n).trans (congrFun (pay16_eq _ _) _)) (fun r n => (rc_lo (e := .bf16) _ _ r n).trans (congrFun (pay16_eq _ _) _)) (ld_up3 _) (ld_lo3 _)

theorem atD_13 (c : Dev nD) (t : Fin cfg0.N) (h0 : t.val % 4 = 0) (h1 : ¬t.val % 16 = 0) (h2 : ¬t.val % 4 = 3) (p) : (at0_D m c t h0 h1 h2 p).2.2.2.1 = Bact (iblk m c 3 t) (iblk m c 4 t) := by
  unfold at0_D
  frame_out
  exact act_blk _ _ _ _ _ _ (ld_up3 _) (ld_up3 _) (ld_lo3 _) (ld_lo3 _)

theorem atD_14 (c : Dev nD) (t : Fin cfg0.N) (h0 : t.val % 4 = 0) (h1 : ¬t.val % 16 = 0) (h2 : ¬t.val % 4 = 3) (p) : (at0_D m c t h0 h1 h2 p).2.2.2.2.1 = Bdo m c t := by
  unfold at0_D
  frame_out
  rfl

theorem atD_s0 (c : Dev nD) (t : Fin cfg0.N) (h0 : t.val % 4 = 0) (h1 : ¬t.val % 16 = 0) (h2 : ¬t.val % 4 = 3) (p) : (at0_D m c t h0 h1 h2 p).2.2.2.2.2.2.1 = Bdo m c t := by
  unfold at0_D
  frame_out
  exact pay16_eq _ _

theorem atD_15 (c : Dev nD) (t : Fin cfg0.N) (h0 : t.val % 4 = 0) (h1 : ¬t.val % 16 = 0) (h2 : ¬t.val % 4 = 3) (p) : (at0_D m c t h0 h1 h2 p).2.2.2.2.2.1 = p.2.2.2.2.2.1 := by
  unfold at0_D
  rfl

theorem atD_s1 (c : Dev nD) (t : Fin cfg0.N) (h0 : t.val % 4 = 0) (h1 : ¬t.val % 16 = 0) (h2 : ¬t.val % 4 = 3) (p) : (at0_D m c t h0 h1 h2 p).2.2.2.2.2.2.2 = Bdh (Bdo m c t) (iblk m c 7 t) (iblk m c 8 t) (iblk m c 9 t) (iblk m c 3 t) (iblk m c 4 t) (k0_pay17 (F := Ideal)) := by
  unfold at0_D
  frame_out
  exact dh_blk' (Bdo m c t) _ _ _ _ _ (k0_pay17 (F := Ideal)) _ _ _ _ _ _ _ _ (fun r n => (rc_up (e := .bf16) _ _ r n).trans (congrFun (pay16_eq _ _) _)) (fun r n => (rc_lo (e := .bf16) _ _ r n).trans (congrFun (pay16_eq _ _) _)) (ld_up3 _) (ld_up3 _) (ld_lo3 _) (ld_lo3 _) (fun r n => rc_up' (e := .f32) _ _ r n _) (fun r n => rc_lo (e := .f32) _ _ r n) _

end Cert.Proof.Ffn
-- ==== Proof.FfnCaseC.lean ====
module

public import proofs.«01_k».proof.Proof.FfnCases
public import Idealize.ShloMosaic.Lib.WritesUnit

@[expose] public section

set_option maxRecDepth 16384

noncomputable section

open Idealize.ShloMosaic Idealize.ShloMosaic.TcCoe Idealize.SL.Sem
open Idealize.ShloMosaic.Pipeline (Dat)

namespace Cert.Proof.Ffn

open Cert.FfnKernelIdeal Cert.FfnKernelIdeal.Gen

/-- A whole load after the two halves were stored reads the two halves. -/
theorem rc_all {κ : Kind} {sp : Space} {e : EltTy} (v : View sig κ sp S512x1024 e) (P Q : S256x1024.Idx → Elt Ideal e) :
    v.readCov [⟨Rect.unit (s := S512x1024) ![256, 0] ![256, 1024] inb_S512x1024_S256x1024_256_0, P⟩, ⟨Rect.unit (s := S512x1024) ![0, 0] ![256, 1024] inb_S512x1024_S256x1024_0_0, Q⟩]
      (Rect.unit (s := S512x1024) ![0, 0] ![512, 1024] inb_S512x1024_S512x1024_0_0).toLoadRect
    = View.canon (Val := Elt Ideal) (s := S512x1024) (e := e) [⟨Rect.unit (s := S512x1024) ![256, 0] ![256, 1024] inb_S512x1024_S256x1024_256_0, P⟩, ⟨Rect.unit (s := S512x1024) ![0, 0] ![256, 1024] inb_S512x1024_S256x1024_0_0, Q⟩] := by
  rw [View.readCov_eq_canon']
  funext i
  have he : (Rect.unit (s := S512x1024) ![0, 0] ![512, 1024] inb_S512x1024_S512x1024_0_0).emb i = i := by
    idx_vars i
    blk_ext []
  exact congrArg (View.canon _) he

section Rows
variable {κ : Kind} {sp : Space} (v : View sig κ sp S8x1024 .f32) (f : v.ty.Contents (Elt Ideal)) (P3 P2 P1 P0 : FVec Ideal S1x1024 .f32)
/-- The four rows stored into the held block of partial sums, last stored first. -/
abbrev rowsL : List (View.Piece (Elt Ideal) S8x1024 .f32) :=
  [⟨Rect.unit (s := S8x1024) ![3, 0] ![1, 1024] inb_S8x1024_S1x1024_3_0, P3⟩, ⟨Rect.unit (s := S8x1024) ![2, 0] ![1, 1024] inb_S8x1024_S1x1024_2_0, P2⟩,
   ⟨Rect.unit (s := S8x1024) ![1, 0] ![1, 1024] inb_S8x1024_S1x1024_1_0, P1⟩, ⟨Rect.unit (s := S8x1024) ![0, 0] ![1, 1024] inb_S8x1024_S1x1024_0_0, P0⟩]
theorem rows_0 (q : Fin 1024) : v.read (Elt Ideal) (v.writes (Elt Ideal) f (rowsL P3 P2 P1 P0)) (ix2 (0 : Fin 8) q) = P0 (ix2 0 q) := by
  refine (View.read_writes_cons_rows_of_not_mem (o := 3) (W := 1) v f _ _ _ _ rfl rfl (Or.inl (show 0 < 3 by decide))).trans ?_
  refine (View.read_writes_cons_rows_of_not_mem (o := 2) (W := 1) v f _ _ _ _ rfl rfl (Or.inl (show 0 < 2 by decide))).trans ?_
  refine (View.read_writes_cons_rows_of_not_mem (o := 1) (W := 1) v f _ _ _ _ rfl rfl (Or.inl (show 0 < 1 by decide))).trans ?_
  exact View.read_writes_cons_rows_of_mem (o := 0) v f _ P0 _ _ (ix2 0 q) rfl (by simp) (by simp)
theorem rows_1 (q : Fin 1024) : v.read (Elt Ideal) (v.writes (Elt Ideal) f (rowsL P3 P2 P1 P0)) (ix2 (1 : Fin 8) q) = P1 (ix2 0 q) := by
  refine (View.read_writes_cons_rows_of_not_mem (o := 3) (W := 1) v f _ _ _ _ rfl rfl (Or.inl (show 1 < 3 by decide))).trans ?_
  refine (View.read_writes_cons_rows_of_not_mem (o := 2) (W := 1) v f _ _ _ _ rfl rfl (Or.inl (show 1 < 2 by decide))).trans ?_
  exact View.read_writes_cons_rows_of_mem (o := 1) v f _ P1 _ _ (ix2 0 q) rfl (by simp) (by simp)
theorem rows_2 (q : Fin 1024) : v.read (Elt Ideal) (v.writes (Elt Ideal) f (rowsL P3 P2 P1 P0)) (ix2 (2 : Fin 8) q) = P2 (ix2 0 q) := by
  refine (View.read_writes_cons_rows_of_not_mem (o := 3) (W := 1) v f _ _ _ _ rfl rfl (Or.inl (show 2 < 3 by decide))).trans ?_
  exact View.read_writes_cons_rows_of_mem (o := 2) v f _ P2 _ _ (ix2 0 q) rfl (by simp) (by simp)
theorem rows_3 (q : Fin 1024) : v.read (Elt Ideal) (v.writes (Elt Ideal) f (rowsL P3 P2 P1 P0)) (ix2 (3 : Fin 8) q) = P3 (ix2 0 q) := by
  exact View.read_writes_cons_rows_of_mem (o := 3) v f _ P3 _ _ (ix2 0 q) rfl (by simp) (by simp)
theorem rows_rest (κ' : Fin 8) (hk : 4 ≤ κ'.val) (q : Fin 1024) : v.read (Elt Ideal) (v.writes (Elt Ideal) f (rowsL P3 P2 P1 P0)) (ix2 κ' q) = v.read (Elt Ideal) f (ix2 κ' q) := by
  refine (View.read_writes_cons_rows_of_not_mem (o := 3) (W := 1) v f _ _ _ _ rfl rfl (Or.inr (show 3 + 1 ≤ κ'.val by omega))).trans ?_
  refine (View.read_writes_cons_rows_of_not_mem (o := 2) (W := 1) v f _ _ _ _ rfl rfl (Or.inr (show 2 + 1 ≤ κ'.val by omega))).trans ?_
  refine (View.read_writes_cons_rows_of_not_mem (o := 1) (W := 1) v f _ _ _ _ rfl rfl (Or.inr (show 1 + 1 ≤ κ'.val by omega))).trans ?_
  refine (View.read_writes_cons_rows_of_not_mem (o := 0) (W := 1) v f _ _ _ _ rfl rfl (Or.inr (show 0 + 1 ≤ κ'.val by omega))).trans ?_
  rw [View.writes_nil]
end Rows

section Elements
variable (X : FVec Ideal S8x1024 .f32) (q : Fin 1024)
theorem ld_row0 : View.ld (Val := Elt Ideal) (e' := .f32) X (Rect.unit (s := S8x1024) ![0, 0] ![1, 1024] inb_S8x1024_S1x1024_0_0) (ix2 0 q) = X (ix2 (0 : Fin 8) q) := by
  have he : (Rect.unit (s := S8x1024) ![0, 0] ![1, 1024] inb_S8x1024_S1x1024_0_0).emb (ix2 0 q) = (ix2 (0 : Fin 8) q : S8x1024.Idx) := by
    blk_ext []
  exact congrArg X he
theorem ld_row1 : View.ld (Val := Elt Ideal) (e' := .f32) X (Rect.unit (s := S8x1024) ![1, 0] ![1, 1024] inb_S8x1024_S1x1024_1_0) (ix2 0 q) = X (ix2 (1 : Fin 8) q) := by
  have he : (Rect.unit (s := S8x1024) ![1, 0] ![1, 1024] inb_S8x1024_S1x1024_1_0).emb (ix2 0 q) = (ix2 (1 : Fin 8) q : S8x1024.Idx) := by
    blk_ext []
  exact congrArg X he
theorem ld_row2 : View.ld (Val := Elt Ideal) (e' := .f32) X (Rect.unit (s := S8x1024) ![2, 0] ![1, 1024] inb_S8x1024_S1x1024_2_0) (ix2 0 q) = X (ix2 (2 : Fin 8) q) := by
  have he : (Rect.unit (s := S8x1024) ![2, 0] ![1, 1024] inb_S8x1024_S1x1024_2_0).emb (ix2 0 q) = (ix2 (2 : Fin 8) q : S8x1024.Idx) := by
    blk_ext []
  exact congrArg X he
theorem ld_row3 : View.ld (Val := Elt Ideal) (e' := .f32) X (Rect.unit (s := S8x1024) ![3, 0] ![1, 1024] inb_S8x1024_S1x1024_3_0) (ix2 0 q) = X (ix2 (3 : Fin 8) q) := by
  have he : (Rect.unit (s := S8x1024) ![3, 0] ![1, 1024] inb_S8x1024_S1x1024_3_0).emb (ix2 0 q) = (ix2 (3 : Fin 8) q : S8x1024.Idx) := by
    blk_ext []
  exact congrArg X he
variable (v u : FVec Ideal S1x1024 .f32) (w : FVec Ideal S1024 .f32) (y f : FVec Ideal S512x1024 .f32)
theorem pay3_at : k0_pay3 (F := Ideal) v u (ix2 0 q) = u (ix2 0 q) + v (ix2 0 q) := by
  unfold k0_pay3
  pointwise
theorem pay4_at : k0_pay4 (F := Ideal) v u (ix2 0 q) = u (ix2 0 q) + v (ix2 0 q) := by
  unfold k0_pay4
  pointwise
theorem pay6_at : k0_pay6 (F := Ideal) w u (ix2 0 q) = u (ix2 0 q) + w (ix1 q) := by
  unfold k0_pay6
  pointwise
theorem pay5_at : k0_pay5 (F := Ideal) y u f (ix2 0 q) = u (ix2 0 q) + ∑ r : Fin 512, FloatOps.ofBits (F := Ideal) .f32 0x3F000000#32 * y (ix2 r q) * f (ix2 r q) := by
  unfold k0_pay5
  pointwise
theorem pay12_at : k0_pay12 (F := Ideal) y (ix2 0 q) = ∑ r : Fin 512, y (ix2 r q) := by
  unfold k0_pay12
  pointwise
theorem pay13_at (x : FVec Ideal S512x1024 .f32) (g : FVec Ideal S1x1024 .f32) : k0_pay13 (F := Ideal) x g y (ix2 0 q) = ∑ r : Fin 512, y (ix2 r q) * (k0_pay8 x (ix2 r q) * g (ix2 0 q)) := by
  unfold k0_pay13
  generalize k0_pay8 (F := Ideal) x = z
  unfold k0_pay9
  pointwise
theorem pay14_at (x : FVec Ideal S512x1024 .f32) : k0_pay14 (F := Ideal) x v y (ix1 q) = ∑ r : Fin 512, k0_pay10 v y (ix2 r q) * k0_pay8 x (ix2 r q) := by
  unfold k0_pay14
  generalize k0_pay8 (F := Ideal) x = z
  generalize k0_pay10 (F := Ideal) v y = z'
  pointwise
theorem pay10_at (r : Fin 512) : k0_pay10 (F := Ideal) v y (ix2 r q) = y (ix2 r q) * (FloatOps.ofBits (F := Ideal) .f32 0x3F800000#32 + v (ix2 0 q)) := by
  unfold k0_pay10
  pointwise
theorem pay8_at (r : Fin 512) : k0_pay8 (F := Ideal) y (ix2 r q) = y (ix2 r q) * k0_pay7 y (ix2 r 0) := by
  unfold k0_pay8
  generalize k0_pay7 (F := Ideal) y = z
  pointwise
theorem pay7_at (r : Fin 512) : k0_pay7 (F := Ideal) y (ix2 r 0) = Ideal.rsqrt (Ideal.div (∑ k : Fin 1024, y (ix2 r k) * y (ix2 r k)) (FloatOps.ofBits (F := Ideal) .f32 0x44800000#32) + FloatOps.ofBits (F := Ideal) .f32 0x358637BD#32) := by
  unfold k0_pay7
  pointwise
  trace_state
  try rfl
theorem pay11_at (x : FVec Ideal S512x1024 .f32) (g : FVec Ideal S1x1024 .f32) (r : Fin 512) : k0_pay11 (F := Ideal) x g v y (ix2 r q) =
    k0_pay7 (F := Ideal) x (ix2 r 0) * (k0_pay10 (F := Ideal) v y (ix2 r q) * g (ix2 0 q) - k0_pay8 (F := Ideal) x (ix2 r q) *
      Ideal.div (∑ k : Fin 1024, k0_pay10 (F := Ideal) v y (ix2 r k) * g (ix2 0 k) * k0_pay8 (F := Ideal) x (ix2 r k)) (FloatOps.ofBits (F := Ideal) .f32 0x44800000#32)) := by
  unfold k0_pay11
  generalize k0_pay8 (F := Ideal) x = z
  generalize k0_pay7 (F := Ideal) x = z''
  generalize k0_pay10 (F := Ideal) v y = z'
  unfold k0_pay9
  pointwise
  trace_state
  try rfl
theorem pay2_at (r : Fin 512) : k0_pay2 (F := Ideal) y f (ix2 r q) = y (ix2 r q) + f (ix2 r q) := by
  unfold k0_pay2
  pointwise
theorem pay15_at (r : Fin 512) : k0_pay15 (F := Ideal) v y (ix2 r q) = FloatOps.ofBits (F := Ideal) .f32 0x3F000000#32 * v (ix2 0 q) * y (ix2 r q) := by
  unfold k0_pay15
  pointwise
theorem pay17_at (r : Fin 512) : k0_pay17 (F := Ideal) (ix2 r q) = 0 := by
  unfold k0_pay17
  pointwise
theorem pay18_at (r : Fin 8) : k0_pay18 (F := Ideal) (ix2 r q) = 0 := by
  unfold k0_pay18
  pointwise
end Elements

variable (m : (ℓ : Loc nD τ sig) → Buf (Elt Ideal) ℓ)

/-- The row of the scale, as the kernel loads it. -/
def Bsc (c : Dev nD) (t : Fin cfg0.N) : FVec Ideal S1x1024 .f32 :=
  View.ld (Val := Elt Ideal) (e' := .f32) (iblk m c 5 t) (Rect.unit (s := S3x1024) ![1, 0] ![1, 1024] inb_S3x1024_S1x1024_1_0)

theorem atC_10 (c : Dev nD) (t : Fin cfg0.N) (h0 : ¬t.val % 4 = 0) (h1 : ¬t.val % 16 = 0) (h2 : t.val % 4 = 3) (p) : (at0_C m c t h0 h1 h2 p).1 =
    k0_pay2 (iblk m c 0 t) (k0_pay11 (iblk m c 1 t) (iblk m c 6 t) (Bsc m c t) (Bdh p.2.2.2.2.2.2.1 (iblk m c 7 t) (iblk m c 8 t) (iblk m c 9 t) (iblk m c 3 t) (iblk m c 4 t) p.2.2.2.2.2.2.2)) := by
  have hs := atC_s1 m c t h0 h1 h2 p
  unfold at0_C at hs ⊢
  revert hs
  frame_out
  intro hs
  simp only [rc_all (e := .f32)]
  rw [hs]
  rfl

theorem atC_15 (c : Dev nD) (t : Fin cfg0.N) (h0 : ¬t.val % 4 = 0) (h1 : ¬t.val % 16 = 0) (h2 : t.val % 4 = 3) (p) : ∃ f : (ms0_15 t).view.ty.Contents (Elt Ideal), (ms0_15 t).view.read (Elt Ideal) f = p.2.2.2.2.2.1 ∧
    (at0_C m c t h0 h1 h2 p).2.2.2.2.2.1 = (ms0_15 t).view.read (Elt Ideal) ((ms0_15 t).view.writes (Elt Ideal) f
      (rowsL (k0_pay6 (k0_pay14 (iblk m c 1 t) (Bsc m c t) (Bdh p.2.2.2.2.2.2.1 (iblk m c 7 t) (iblk m c 8 t) (iblk m c 9 t) (iblk m c 3 t) (iblk m c 4 t) p.2.2.2.2.2.2.2)) (View.ld (Val := Elt Ideal) (e' := .f32) p.2.2.2.2.2.1 (Rect.unit (s := S8x1024) ![3, 0] ![1, 1024] inb_S8x1024_S1x1024_3_0)))
        (k0_pay5 (iblk m c 0 t) (View.ld (Val := Elt Ideal) (e' := .f32) p.2.2.2.2.2.1 (Rect.unit (s := S8x1024) ![2, 0] ![1, 1024] inb_S8x1024_S1x1024_2_0)) (iblk m c 2 t))
        (k0_pay4 (k0_pay13 (iblk m c 1 t) (iblk m c 6 t) (Bdh p.2.2.2.2.2.2.1 (iblk m c 7 t) (iblk m c 8 t) (iblk m c 9 t) (iblk m c 3 t) (iblk m c 4 t) p.2.2.2.2.2.2.2)) (View.ld (Val := Elt Ideal) (e' := .f32) p.2.2.2.2.2.1 (Rect.unit (s := S8x1024) ![1, 0] ![1, 1024] inb_S8x1024_S1x1024_1_0)))
        (k0_pay3 (k0_pay12 (Bdh p.2.2.2.2.2.2.1 (iblk m c 7 t) (iblk m c 8 t) (iblk m c 9 t) (iblk m c 3 t) (iblk m c 4 t) p.2.2.2.2.2.2.2)) (View.ld (Val := Elt Ideal) (e' := .f32) p.2.2.2.2.2.1 (Rect.unit (s := S8x1024) ![0, 0] ![1, 1024] inb_S8x1024_S1x1024_0_0))))) := by
  have hs := atC_s1 m c t h0 h1 h2 p
  unfold at0_C at hs ⊢
  revert hs
  frame_out
  intro hs
  simp only [rc_all (e := .f32)]
  rw [hs]
  exact ⟨_, Memref.IsWhole.read_unread _ _, rfl⟩

end Cert.Proof.Ffn
-- ==== Proof.FfnTile.lean ====
module

public import proofs.«01_k».proof.Proof.FfnRef
public import proofs.«01_k».proof.Proof.FfnHost
public import proofs.«01_k».proof.Proof.FfnCaseC

@[expose] public section

set_option maxRecDepth 16384

noncomputable section

open Idealize.ShloMosaic Idealize.ShloMosaic.TcCoe Idealize.SL.Sem
open Idealize.ShloMosaic.Pipeline (Dat)

namespace Cert.Proof.Ffn

open Cert.FfnKernelIdeal Cert.FfnKernelIdeal.Gen
open Cert.Proof.FfnReal (IsR Fin6)
open Cert.Proof.FfnRef

section Elements
open Cert.FfnReferenceIdeal.Read
variable {x0 x1 : FVec Ideal S2048x1024 .f32} {x2 : FVec Ideal S3x1024 .f32} {x3 : FVec Ideal S1024 .f32} {x4 : FVec Ideal S1024x5632 .f32} {x5 : FVec Ideal S2816x1024 .f32}
variable (s : Fin 2048) (n : Fin 2816)

theorem one_eq : kOne = 1 := FfnReal.c_one.trans EReal.coe_one

theorem sg_eq (i) : val_main_v34_2 (F := Ideal) x1 x2 x3 x4 i = sg (val_main_v32 (F := Ideal) x1 x2 x3 x4 i) := by
  rw [val_main_v34_2_apply, val_main_call0_v4_apply, val_main_call0_v3_apply, val_main_call0_v2_apply, val_main_call0_v1_apply,
    val_main_call0_v0_apply, val_main_call0_cst_apply, val_main_call0_cst_0_apply]
  unfold sg
  rw [zero_sub]
  exact congrArg₂ Ideal.div one_eq (congrArg₂ (· + ·) one_eq rfl)

theorem act_eq (i) : gact (val_main_v32 (F := Ideal) x1 x2 x3 x4 i) (val_main_v33 (F := Ideal) x1 x2 x3 x4 i) = val_main_v35 (F := Ideal) x1 x2 x3 x4 i := by
  rw [val_main_v35_apply, val_main_v34_0_apply, sg_eq]
  rfl

theorem db_eq (i) : gdb (val_main_v59 (F := Ideal) x0 x2 x5 i) (val_main_v32 (F := Ideal) x1 x2 x3 x4 i) = val_main_v60 (F := Ideal) x0 x1 x2 x3 x4 x5 i := by
  rw [val_main_v60_apply, val_main_v34_0_apply, sg_eq]
  exact mul_comm (G := EReal) _ _

theorem da_eq (H : Fin6 x0 x1 x2 x3 x4 x5) (i) : gda (val_main_v59 (F := Ideal) x0 x2 x5 i) (val_main_v32 (F := Ideal) x1 x2 x3 x4 i) (val_main_v33 (F := Ideal) x1 x2 x3 x4 i) =
    val_main_v62 (F := Ideal) x0 x1 x2 x3 x4 x5 i := by
  rw [val_main_v62_apply, val_main_call1_v1_apply, val_main_call1_v2_apply, val_main_call1_v0_apply, val_main_v61_apply, val_main_v34_1_apply,
    val_main_call0_v7_apply, val_main_call0_v6_apply, val_main_call0_cst_1_apply]
  unfold gda
  rw [← sg_eq]
  obtain ⟨u, hu⟩ := FfnReal.f_v59 H i
  obtain ⟨a, ha⟩ := FfnReal.f_v32 H i
  obtain ⟨b, hb⟩ := FfnReal.f_v33 H i
  obtain ⟨σ, hσ⟩ := FfnReal.f_v34_2 H i
  have hc := one_eq
  unfold kOne at hc
  rw [hu, ha, hb, hσ, hc]
  change (u : EReal) * b * (σ * (1 + a * (1 - σ))) = u * b * σ + a * (u * b) * (σ * (1 - σ))
  have h : u * b * (σ * (1 + a * (1 - σ))) = u * b * σ + a * (u * b) * (σ * (1 - σ)) := by ring
  exact_mod_cast congrArg ((↑) : ℝ → EReal) h
end Elements

variable (m : (ℓ : Loc nD τ sig) → Buf (Elt Ideal) ℓ)

/-- The six arguments on a device. -/
abbrev X0 (c : Dev nD) : FVec Ideal S2048x1024 .f32 := m ((c : Thread nD τ).loc main_arg0)
abbrev X1 (c : Dev nD) : FVec Ideal S2048x1024 .f32 := m ((c : Thread nD τ).loc main_arg1)
abbrev X2 (c : Dev nD) : FVec Ideal S3x1024 .f32 := m ((c : Thread nD τ).loc main_arg2)
abbrev X3 (c : Dev nD) : FVec Ideal S1024 .f32 := m ((c : Thread nD τ).loc main_arg3)
abbrev X4 (c : Dev nD) : FVec Ideal S1024x5632 .f32 := m ((c : Thread nD τ).loc main_arg4)
abbrev X5 (c : Dev nD) : FVec Ideal S2816x1024 .f32 := m ((c : Thread nD τ).loc main_arg5)

section Tiles
open Cert.FfnReferenceIdeal.Read

theorem ldr (X : FVec Ideal S3x1024 .f32) (k : Fin 1024) :
    View.ld (Val := Elt Ideal) (e' := .f32) X (Rect.unit (s := S3x1024) ![2, 0] ![1, 1024] inb_S3x1024_S1x1024_2_0) (ix2 0 k) = X (ix2 2 k) := by
  have he : (Rect.unit (s := S3x1024) ![2, 0] ![1, 1024] inb_S3x1024_S1x1024_2_0).emb (ix2 0 k) = (ix2 2 k : S3x1024.Idx) := by
    blk_ext []
  exact congrArg X he
theorem ldr1 (X : FVec Ideal S3x1024 .f32) (k : Fin 1024) :
    View.ld (Val := Elt Ideal) (e' := .f32) X (Rect.unit (s := S3x1024) ![1, 0] ![1, 1024] inb_S3x1024_S1x1024_1_0) (ix2 0 k) = X (ix2 1 k) := by
  have he : (Rect.unit (s := S3x1024) ![1, 0] ![1, 1024] inb_S3x1024_S1x1024_1_0).emb (ix2 0 k) = (ix2 1 k : S3x1024.Idx) := by
    blk_ext []
  exact congrArg X he

theorem Bdo_at (c : Dev nD) (t : Fin cfg0.N) (r : Fin 512) (k : Fin 1024) :
    Bdo m c t (ix2 r k) = val_main_v48 (F := Ideal) (X0 m c) (X2 m c) (ix2 (tok t r) k) := by
  unfold Bdo
  rw [pay15_at, ldr, i5_at, i0_at, r48]

theorem Bsc_at (c : Dev nD) (t : Fin cfg0.N) (k : Fin 1024) : Bsc m c t (ix2 0 k) = X2 m c (ix2 1 k) := by
  unfold Bsc
  rw [ldr1, i5_at]

/-- The tile of the branch's gradient. -/
def DoT (c : Dev nD) (t : Fin cfg0.N) (D : FVec Ideal S512x1024 .bf16) : Prop :=
  ∀ r k, D (ix2 r k) = val_main_v48 (F := Ideal) (X0 m c) (X2 m c) (ix2 (tok t r) k)

theorem Bdo_T (c : Dev nD) (t : Fin cfg0.N) : DoT m c t (Bdo m c t) := Bdo_at m c t

theorem DoT_step {c : Dev nD} {t t' : Fin cfg0.N} {D : FVec Ideal S512x1024 .bf16} (h : t.val = t'.val - 1) (h4 : ¬ t'.val % 4 = 0) (hD : DoT m c t D) : DoT m c t' D := by
  intro r k
  rw [hD r k]
  have e : tok t r = tok t' r := by
    unfold tok tt
    refine Fin.ext ?_
    show t.val / 4 * 512 + r.val = t'.val / 4 * 512 + r.val
    omega
  rw [e]

theorem U_at {c : Dev nD} {t : Fin cfg0.N} {D : FVec Ideal S512x1024 .bf16} (hD : DoT m c t D) (r : Fin 512) (n : Fin 704) :
    U D (iblk m c 9 t) r n = val_main_v59 (F := Ideal) (X0 m c) (X2 m c) (X5 m c) (ix2 (tok t r) (chn t n)) := by
  unfold U
  rw [r59]
  refine Finset.sum_congr rfl fun k _ => ?_
  rw [hD r k, i9_at]

theorem Bact_at (c : Dev nD) (t : Fin cfg0.N) (r : Fin 512) (n : Fin 704) :
    Bact (iblk m c 3 t) (iblk m c 4 t) (ix3 0 r n) = val_main_v35 (F := Ideal) (X1 m c) (X2 m c) (X3 m c) (X4 m c) (ix2 (tok t r) (chn t n)) := by
  unfold Bact
  rw [i3_at, i4_at, act_eq]

theorem Bdb_at {c : Dev nD} {t : Fin cfg0.N} {D : FVec Ideal S512x1024 .bf16} (hD : DoT m c t D) (r : Fin 512) (n : Fin 704) :
    Bdb D (iblk m c 9 t) (iblk m c 3 t) (ix3 0 r n) = val_main_v60 (F := Ideal) (X0 m c) (X1 m c) (X2 m c) (X3 m c) (X4 m c) (X5 m c) (ix2 (tok t r) (chn t n)) := by
  unfold Bdb
  rw [i3_at]
  refine Eq.trans ?_ (db_eq _)
  exact congrArg (fun u => gdb u _) (U_at m hD r n)

theorem Bda_at {c : Dev nD} (H : Fin6 (X0 m c) (X1 m c) (X2 m c) (X3 m c) (X4 m c) (X5 m c)) {t : Fin cfg0.N} {D : FVec Ideal S512x1024 .bf16} (hD : DoT m c t D) (r : Fin 512) (n : Fin 704) :
    Bda D (iblk m c 9 t) (iblk m c 3 t) (iblk m c 4 t) (ix3 0 r n) = val_main_v62 (F := Ideal) (X0 m c) (X1 m c) (X2 m c) (X3 m c) (X4 m c) (X5 m c) (ix2 (tok t r) (chn t n)) := by
  unfold Bda
  rw [i3_at, i4_at]
  refine Eq.trans ?_ (da_eq H _)
  exact congrArg (fun u => gda u _ _) (U_at m hD r n)

end Tiles

/-! ## What the scratch of the branch's gradient holds -/

theorem pred_lt {n : ℕ} (h : n < cfg0.N) : n - 1 < cfg0.N := Nat.lt_of_le_of_lt (Nat.sub_le _ _) h

theorem s0_T (c : Dev nD) : ∀ (n : ℕ) (h : n < cfg0.N), DoT m c ⟨n, h⟩ (outsAt0 m c n h).2.2.2.2.2.2.1 := by
  intro n
  induction n with
  | zero =>
    intro h
    have e := outsAt0_A m c ⟨0, h⟩ (by show 0 % 4 = 0; rfl) (by show 0 % 16 = 0; rfl) (by show ¬ 0 % 4 = 3; decide)
    rw [show outsAt0 m c 0 h = _ from e, atA_s0]
    exact Bdo_T m c _
  | succ n ih =>
    intro h
    by_cases h0 : (n + 1) % 4 = 0
    · by_cases h1 : (n + 1) % 16 = 0
      · rw [show outsAt0 m c (n + 1) h = _ from outsAt0_A m c ⟨n + 1, h⟩ h0 h1 (by show ¬ (n + 1) % 4 = 3; omega), atA_s0]
        exact Bdo_T m c _
      · rw [show outsAt0 m c (n + 1) h = _ from outsAt0_D m c ⟨n + 1, h⟩ h0 h1 (by show ¬ (n + 1) % 4 = 3; omega), atD_s0]
        exact Bdo_T m c _
    · have h1 : ¬ (n + 1) % 16 = 0 := by omega
      by_cases h2 : (n + 1) % 4 = 3
      · rw [show outsAt0 m c (n + 1) h = _ from outsAt0_C m c ⟨n + 1, h⟩ h0 h1 h2, atC_s0]
        exact DoT_step m rfl h0 (ih _)
      · rw [show outsAt0 m c (n + 1) h = _ from outsAt0_B m c ⟨n + 1, h⟩ h0 h1 h2, atB_s0]
        exact DoT_step m rfl h0 (ih _)

theorem w14_T (c : Dev nD) : ∀ (n : ℕ) (h : n < cfg0.N), DoT m c ⟨n, h⟩ (outsAt0 m c n h).2.2.2.2.1 := by
  intro n
  induction n with
  | zero =>
    intro h
    have e := outsAt0_A m c ⟨0, h⟩ (by show 0 % 4 = 0; rfl) (by show 0 % 16 = 0; rfl) (by show ¬ 0 % 4 = 3; decide)
    rw [show outsAt0 m c 0 h = _ from e, atA_14]
    exact Bdo_T m c _
  | succ n ih =>
    intro h
    by_cases h0 : (n + 1) % 4 = 0
    · by_cases h1 : (n + 1) % 16 = 0
      · rw [show outsAt0 m c (n + 1) h = _ from outsAt0_A m c ⟨n + 1, h⟩ h0 h1 (by show ¬ (n + 1) % 4 = 3; omega), atA_14]
        exact Bdo_T m c _
      · rw [show outsAt0 m c (n + 1) h = _ from outsAt0_D m c ⟨n + 1, h⟩ h0 h1 (by show ¬ (n + 1) % 4 = 3; omega), atD_14]
        exact Bdo_T m c _
    · have h1 : ¬ (n + 1) % 16 = 0 := by omega
      by_cases h2 : (n + 1) % 4 = 3
      · rw [show outsAt0 m c (n + 1) h = _ from outsAt0_C m c ⟨n + 1, h⟩ h0 h1 h2, atC_14]
        exact DoT_step m rfl h0 (ih _)
      · rw [show outsAt0 m c (n + 1) h = _ from outsAt0_B m c ⟨n + 1, h⟩ h0 h1 h2, atB_14]
        exact DoT_step m rfl h0 (ih _)

end Cert.Proof.Ffn
-- ==== Proof.FfnDh.lean ====
module

public import proofs.«01_k».proof.Proof.FfnTile

@[expose] public section

set_option maxRecDepth 16384

noncomputable section

open Idealize.ShloMosaic Idealize.ShloMosaic.TcCoe Idealize.SL.Sem
open Idealize.ShloMosaic.Pipeline (Dat)

namespace Cert.Proof.Ffn

open Cert.FfnKernelIdeal Cert.FfnKernelIdeal.Gen
open Cert.Proof.FfnReal (IsR Fin6)
open Cert.Proof.FfnRef

/-! ## Sums over the channels, chunk by chunk -/

/-- Channel `n` of chunk `j`, in one factor and in the two halves of the joined product. -/
def Ch (j : ℕ) (n : Fin 704) : Fin 2816 := ⟨j % 4 * 704 + n.val, by omega⟩
def Cl (j : ℕ) (n : Fin 704) : Fin 5632 := ⟨j % 4 * 704 + n.val, by omega⟩
def Cu (j : ℕ) (n : Fin 704) : Fin 5632 := ⟨(j % 4 + 4) * 704 + n.val, by omega⟩

theorem sum_halves (f : Fin 5632 → EReal) : ∑ q, f q = ∑ q : Fin 2816, f ⟨q.val, by omega⟩ + ∑ q : Fin 2816, f ⟨2816 + q.val, by omega⟩ :=
  Fin.sum_univ_add (a := 2816) (b := 2816) f

theorem sum_chunks (f : Fin 2816 → EReal) : ∑ q, f q = ∑ j ∈ Finset.range 4, ∑ n : Fin 704, f (Ch j n) := by
  rw [Finset.sum_range]
  refine ((Fin.sum_mul_add_fin 4 704 f).symm).trans ?_
  refine Finset.sum_congr rfl fun j _ => Finset.sum_congr rfl fun n _ => congrArg f (Fin.ext ?_)
  show j.val * 704 + n.val = j.val % 4 * 704 + n.val
  rw [Nat.mod_eq_of_lt j.isLt]

variable (m : (ℓ : Loc nD τ sig) → Buf (Elt Ideal) ℓ)

section Dh
open Cert.FfnReferenceIdeal.Read

/-- What chunk `j` contributes to the gradient of the modulated input. -/
def term (c : Dev nD) (j : ℕ) (s : Fin 2048) (k : Fin 1024) : EReal :=
  (∑ n : Fin 704, val_main_v62 (F := Ideal) (X0 m c) (X1 m c) (X2 m c) (X3 m c) (X4 m c) (X5 m c) (ix2 s (Ch j n)) * X4 m c (ix2 k (Cl j n)))
    + ∑ n : Fin 704, val_main_v60 (F := Ideal) (X0 m c) (X1 m c) (X2 m c) (X3 m c) (X4 m c) (X5 m c) (ix2 s (Ch j n)) * X4 m c (ix2 k (Cu j n))

theorem term_mod (c : Dev nD) (j : ℕ) (s : Fin 2048) (k : Fin 1024) : term m c (j % 4) s k = term m c j s k := by
  unfold term Ch Cl Cu
  simp only [Nat.mod_mod]

theorem term_sum (c : Dev nD) (s : Fin 2048) (k : Fin 1024) :
    ∑ j ∈ Finset.range 4, term m c j s k = val_main_v66 (F := Ideal) (X0 m c) (X1 m c) (X2 m c) (X3 m c) (X4 m c) (X5 m c) (ix2 s k) := by
  rw [r66, sum_halves, sum_chunks, sum_chunks, ← Finset.sum_add_distrib]
  refine Finset.sum_congr rfl fun j _ => ?_
  unfold term
  refine congrArg₂ (· + ·) (Finset.sum_congr rfl fun n _ => ?_) (Finset.sum_congr rfl fun n _ => ?_)
  · rw [FfnReal.v63_lo _ _ _ _ _ _ s _ (Ch j n).isLt]
    rfl
  · rw [FfnReal.v63_hi _ _ _ _ _ _ s _ (by show ¬ 2816 + (Ch j n).val < 2816; omega)]
    have e1 : (⟨2816 + (Ch j n).val - 2816, by omega⟩ : Fin 2816) = Ch j n := Fin.ext (by show 2816 + (Ch j n).val - 2816 = (Ch j n).val; omega)
    have e2 : (⟨2816 + (Ch j n).val, by omega⟩ : Fin 5632) = Cu j n := Fin.ext (by show 2816 + (j % 4 * 704 + n.val) = (j % 4 + 4) * 704 + n.val; omega)
    exact (congrArg₂ (fun q q' => val_main_v60 (F := Ideal) (X0 m c) (X1 m c) (X2 m c) (X3 m c) (X4 m c) (X5 m c) (ix2 s q) * X4 m c (ix2 k q')) e1 e2).symm

theorem Bdh_at {c : Dev nD} (H : Fin6 (X0 m c) (X1 m c) (X2 m c) (X3 m c) (X4 m c) (X5 m c)) {t : Fin cfg0.N} {D : FVec Ideal S512x1024 .bf16} (hD : DoT m c t D)
    (h : FVec Ideal S512x1024 .f32) (r : Fin 512) (k : Fin 1024) :
    Bdh D (iblk m c 7 t) (iblk m c 8 t) (iblk m c 9 t) (iblk m c 3 t) (iblk m c 4 t) h (ix2 r k) = h (ix2 r k) + term m c t.val (tok t r) k := by
  unfold Bdh term
  refine congrArg₂ (· + ·) rfl (congrArg₂ (· + ·) (Finset.sum_congr rfl fun n _ => ?_) (Finset.sum_congr rfl fun n _ => ?_))
  · exact congrArg₂ (· * ·) (Bda_at m H hD r n) (i7_at m c t n k)
  · exact congrArg₂ (· * ·) (Bdb_at m hD r n) (i8_at m c t n k)

/-- The tile of the modulated input's gradient after some chunks. -/
def DhT (c : Dev nD) (t : Fin cfg0.N) (h : FVec Ideal S512x1024 .f32) : Prop :=
  ∀ r k, h (ix2 r k) = ∑ j ∈ Finset.range (t.val % 4 + 1), term m c j (tok t r) k

theorem DhT_first {c : Dev nD} (H : Fin6 (X0 m c) (X1 m c) (X2 m c) (X3 m c) (X4 m c) (X5 m c)) {t : Fin cfg0.N} (h0 : t.val % 4 = 0) :
    DhT m c t (Bdh (Bdo m c t) (iblk m c 7 t) (iblk m c 8 t) (iblk m c 9 t) (iblk m c 3 t) (iblk m c 4 t) (k0_pay17 (F := Ideal))) := by
  intro r k
  rw [Bdh_at m H (Bdo_T m c t), pay17_at, h0, zero_add, ← term_mod, h0, Finset.sum_range_one]

theorem DhT_step {c : Dev nD} (H : Fin6 (X0 m c) (X1 m c) (X2 m c) (X3 m c) (X4 m c) (X5 m c)) {t t' : Fin cfg0.N} {D : FVec Ideal S512x1024 .bf16} {h : FVec Ideal S512x1024 .f32}
    (e : t.val = t'.val - 1) (h4 : ¬ t'.val % 4 = 0) (hD : DoT m c t D) (hh : DhT m c t h) :
    DhT m c t' (Bdh D (iblk m c 7 t') (iblk m c 8 t') (iblk m c 9 t') (iblk m c 3 t') (iblk m c 4 t') h) := by
  intro r k
  rw [Bdh_at m H (DoT_step m e h4 hD), hh r k]
  have e4 : t'.val % 4 = t.val % 4 + 1 := by omega
  have et : tok t r = tok t' r := by
    unfold tok tt
    refine Fin.ext ?_
    show t.val / 4 * 512 + r.val = t'.val / 4 * 512 + r.val
    omega
  rw [e4, Finset.sum_range_succ _ (t.val % 4 + 1), ← e4, term_mod, et]

theorem s1_T (c : Dev nD) (H : Fin6 (X0 m c) (X1 m c) (X2 m c) (X3 m c) (X4 m c) (X5 m c)) :
    ∀ (n : ℕ) (h : n < cfg0.N), DhT m c ⟨n, h⟩ (outsAt0 m c n h).2.2.2.2.2.2.2 := by
  intro n
  induction n with
  | zero =>
    intro h
    rw [show outsAt0 m c 0 h = _ from outsAt0_A m c ⟨0, h⟩ (by show 0 % 4 = 0; rfl) (by show 0 % 16 = 0; rfl) (by show ¬ 0 % 4 = 3; decide), atA_s1]
    exact DhT_first m H rfl
  | succ n ih =>
    intro h
    by_cases h0 : (n + 1) % 4 = 0
    · by_cases h1 : (n + 1) % 16 = 0
      · rw [show outsAt0 m c (n + 1) h = _ from outsAt0_A m c ⟨n + 1, h⟩ h0 h1 (by show ¬ (n + 1) % 4 = 3; omega), atA_s1]
        exact DhT_first m H h0
      · rw [show outsAt0 m c (n + 1) h = _ from outsAt0_D m c ⟨n + 1, h⟩ h0 h1 (by show ¬ (n + 1) % 4 = 3; omega), atD_s1]
        exact DhT_first m H h0
    · have h1 : ¬ (n + 1) % 16 = 0 := by omega
      have hn : n < cfg0.N := Nat.lt_of_succ_lt h
      by_cases h2 : (n + 1) % 4 = 3
      · rw [show outsAt0 m c (n + 1) h = _ from outsAt0_C m c ⟨n + 1, h⟩ h0 h1 h2, atC_s1]
        exact DhT_step (t := ⟨n, hn⟩) (t' := ⟨n + 1, h⟩) m H rfl h0 (s0_T m c n hn) (ih hn)
      · rw [show outsAt0 m c (n + 1) h = _ from outsAt0_B m c ⟨n + 1, h⟩ h0 h1 h2, atB_s1]
        exact DhT_step (t := ⟨n, hn⟩) (t' := ⟨n + 1, h⟩) m H rfl h0 (s0_T m c n hn) (ih hn)

/-- At the last chunk of a tile it is whole. -/
theorem DhT_last {c : Dev nD} {t : Fin cfg0.N} {h : FVec Ideal S512x1024 .f32} (h3 : t.val % 4 = 3) (hh : DhT m c t h) (r : Fin 512) (k : Fin 1024) :
    h (ix2 r k) = val_main_v66 (F := Ideal) (X0 m c) (X1 m c) (X2 m c) (X3 m c) (X4 m c) (X5 m c) (ix2 (tok t r) k) := by
  rw [hh r k, h3, term_sum]
end Dh

end Cert.Proof.Ffn
-- ==== Proof.FfnPart.lean ====
module

public import proofs.«01_k».proof.Proof.FfnDh

@[expose] public section

set_option maxRecDepth 16384

noncomputable section

open Idealize.ShloMosaic Idealize.ShloMosaic.TcCoe Idealize.SL.Sem
open Idealize.ShloMosaic.Pipeline (Dat)

namespace Cert.Proof.Ffn

open Cert.FfnKernelIdeal Cert.FfnKernelIdeal.Gen
open Cert.Proof.FfnReal (IsR Fin6)
open Cert.Proof.FfnRef
open Cert.FfnReferenceIdeal.Read

theorem coe_sum {ι : Type} (s : Finset ι) (g : ι → ℝ) : ∑ i ∈ s, (g i : EReal) = ((∑ i ∈ s, g i : ℝ) : EReal) := by
  classical
  induction s using Finset.induction_on with
  | empty => rfl
  | insert a s ha ih => rw [Finset.sum_insert ha, Finset.sum_insert ha, ih, EReal.coe_add]

/-- The two ways of writing the gradient of the normalisation, over real numbers: `e` the gradient of the
    normalised row, `x` the row, `ρ` the inverse root of its mean square `R`. -/
theorem norm_bwd {K : Type} [Fintype K] (y ρ R : ℝ) (hR : 0 < R) (hρ : ρ * ρ * R = 1) (x e : K → ℝ) (k : K) :
    (y : EReal) + ρ * (e k - x k * ρ * Ideal.div (∑ q, (e q : EReal) * (x q * ρ)) k1024)
    = y + e k * ρ + x k * Ideal.div ((∑ q, (x q : EReal) * e q) * (kMHalf * ((ρ / R : ℝ) : EReal))) k1024
      + Ideal.div ((∑ q, (x q : EReal) * e q) * (kMHalf * ((ρ / R : ℝ) : EReal))) k1024 * x k := by
  have h1 : ∑ q, (e q : EReal) * (x q * ρ) = ((∑ q, e q * (x q * ρ) : ℝ) : EReal) := by
    rw [← coe_sum]
    exact Finset.sum_congr rfl fun q _ => by rw [EReal.coe_mul, EReal.coe_mul]
  have h2 : ∑ q, (x q : EReal) * e q = ((∑ q, x q * e q : ℝ) : EReal) := by
    rw [← coe_sum]
    exact Finset.sum_congr rfl fun q _ => by rw [EReal.coe_mul]
  have h3 : ∑ q, e q * (x q * ρ) = (∑ q, x q * e q) * ρ := by
    rw [Finset.sum_mul]
    exact Finset.sum_congr rfl fun q _ => by ring
  unfold k1024 kMHalf
  rw [h1, h2, h3, FfnReal.c_mhalf]
  simp only [← EReal.coe_mul, FfnReal.div_1024]
  have hi : ρ / R = ρ * (ρ * ρ) := by
    rw [div_eq_iff hR.ne', mul_assoc, hρ, mul_one]
  rw [hi]
  generalize ∑ q, x q * e q = S
  have h : y + ρ * (e k - x k * ρ * (S * ρ / 1024)) = y + e k * ρ + x k * (S * (-(1 / 2) * (ρ * (ρ * ρ))) / 1024) + S * (-(1 / 2) * (ρ * (ρ * ρ))) / 1024 * x k := by ring
  exact_mod_cast congrArg ((↑) : ℝ → EReal) h

variable (m : (ℓ : Loc nD τ sig) → Buf (Elt Ideal) ℓ)

section Tile
variable (c : Dev nD) (t : Fin cfg0.N) (r : Fin 512) (k : Fin 1024)

theorem p7_T : k0_pay7 (F := Ideal) (iblk m c 1 t) (ix2 r 0) = val_main_v9 (F := Ideal) (X1 m c) (ix2 (tok t r) 0) := by
  rw [pay7_at, r9]
  have h : ∀ k, iblk m c 1 t (ix2 r k) = X1 m c (ix2 (tok t r) k) := fun k => i1_at m c t r k
  simp only [h]

theorem p8_T : k0_pay8 (F := Ideal) (iblk m c 1 t) (ix2 r k) = val_main_v14 (F := Ideal) (X1 m c) (ix2 (tok t r) k) := by
  rw [pay8_at, p7_T, r14]
  exact congrArg (· * _) (i1_at m c t r k)

/-- The tile of the whole gradient of the modulated input. -/
def DhA (h : FVec Ideal S512x1024 .f32) : Prop := ∀ r k, h (ix2 r k) = val_main_v66 (F := Ideal) (X0 m c) (X1 m c) (X2 m c) (X3 m c) (X4 m c) (X5 m c) (ix2 (tok t r) k)

variable {h : FVec Ideal S512x1024 .f32} (hh : DhA m c t h)
include hh

theorem p10_T : k0_pay10 (F := Ideal) (Bsc m c t) h (ix2 r k) = val_main_v74 (F := Ideal) (X0 m c) (X1 m c) (X2 m c) (X3 m c) (X4 m c) (X5 m c) (ix2 (tok t r) k) := by
  rw [pay10_at, r74, hh r k, Bsc_at]

theorem p12_T : k0_pay12 (F := Ideal) h (ix2 0 k) = ∑ r : Fin 512, val_main_v66 (F := Ideal) (X0 m c) (X1 m c) (X2 m c) (X3 m c) (X4 m c) (X5 m c) (ix2 (tok t r) k) := by
  rw [pay12_at]
  exact Finset.sum_congr rfl fun r _ => hh r k

theorem p13_T : k0_pay13 (F := Ideal) (iblk m c 1 t) (iblk m c 6 t) h (ix2 0 k) = ∑ r : Fin 512, val_main_v70 (F := Ideal) (X0 m c) (X1 m c) (X2 m c) (X3 m c) (X4 m c) (X5 m c) (ix2 (tok t r) k) := by
  rw [pay13_at]
  refine Finset.sum_congr rfl fun r _ => ?_
  rw [hh r k, p8_T, r70, r17]
  refine (congrArg (fun g : EReal => val_main_v66 (F := Ideal) (X0 m c) (X1 m c) (X2 m c) (X3 m c) (X4 m c) (X5 m c) (ix2 (tok t r) k) * (val_main_v14 (F := Ideal) (X1 m c) (ix2 (tok t r) k) * g)) (i6_at m c t k)).trans ?_
  exact mul_comm (G := EReal) _ _

theorem p14_T : k0_pay14 (F := Ideal) (iblk m c 1 t) (Bsc m c t) h (ix1 k) = ∑ r : Fin 512, val_main_v82 (F := Ideal) (X0 m c) (X1 m c) (X2 m c) (X3 m c) (X4 m c) (X5 m c) (ix2 (tok t r) k) := by
  rw [pay14_at]
  refine Finset.sum_congr rfl fun r _ => ?_
  rw [p10_T m c t r k hh, p8_T, r82]
  exact mul_comm (G := EReal) _ _

theorem dx_T (H : Fin6 (X0 m c) (X1 m c) (X2 m c) (X3 m c) (X4 m c) (X5 m c)) : k0_pay2 (F := Ideal) (iblk m c 0 t) (k0_pay11 (iblk m c 1 t) (iblk m c 6 t) (Bsc m c t) h) (ix2 r k) = val_main_v102 (F := Ideal) (X0 m c) (X1 m c) (X2 m c) (X3 m c) (X4 m c) (X5 m c) (ix2 (tok t r) k) := by
  rw [pay2_at, pay11_at, r102, r98, r89, r12]
  have h10 : ∀ q, k0_pay10 (F := Ideal) (Bsc m c t) h (ix2 r q) = val_main_v74 (F := Ideal) (X0 m c) (X1 m c) (X2 m c) (X3 m c) (X4 m c) (X5 m c) (ix2 (tok t r) q) := fun q => p10_T m c t r q hh
  have h8 : ∀ q, k0_pay8 (F := Ideal) (iblk m c 1 t) (ix2 r q) = val_main_v14 (F := Ideal) (X1 m c) (ix2 (tok t r) q) := fun q => p8_T m c t r q
  have h6 : ∀ q, iblk m c 6 t (ix2 0 q) = X3 m c (ix1 q) := fun q => i6_at m c t q
  have h86 : ∀ q, val_main_v74 (F := Ideal) (X0 m c) (X1 m c) (X2 m c) (X3 m c) (X4 m c) (X5 m c) (ix2 (tok t r) q) * X3 m c (ix1 q) = val_main_v86 (F := Ideal) (X0 m c) (X1 m c) (X2 m c) (X3 m c) (X4 m c) (X5 m c) (ix2 (tok t r) q) := fun q => (r86 _ _ _ _ _ _ _ _).symm
  simp only [h10, h8, h6, h86, p7_T, r14, i0_at]
  obtain ⟨R, ρ, hR, hρ, -, h9, h10'⟩ := FfnReal.p_v9 H (ix2 (tok t r) 0)
  obtain ⟨y, hy⟩ := H.h0 (ix2 (tok t r) k)
  choose x hx using fun q : Fin 1024 => H.h1 (ix2 (tok t r) q)
  choose e he using fun q : Fin 1024 => FfnReal.f_v86 H (ix2 (tok t r) q)
  simp only [hx, he, hy, h9, h10']
  exact norm_bwd y ρ R hR hρ x e k
end Tile

theorem p5_T (c : Dev nD) (t : Fin cfg0.N) (u : FVec Ideal S1x1024 .f32) (k : Fin 1024) : k0_pay5 (F := Ideal) (iblk m c 0 t) u (iblk m c 2 t) (ix2 0 k) =
    u (ix2 0 k) + ∑ r : Fin 512, kHalf * X0 m c (ix2 (tok t r) k) * val_main_v37 (F := Ideal) (X1 m c) (X2 m c) (X3 m c) (X4 m c) (X5 m c) (ix2 (tok t r) k) := by
  rw [pay5_at]
  refine congrArg (_ + ·) (Finset.sum_congr rfl fun r _ => ?_)
  exact congrArg₂ (fun p q : EReal => kHalf * p * q) (i0_at m c t r k) (i2_at m c t r k)

theorem DhT_all {c : Dev nD} {t : Fin cfg0.N} {h : FVec Ideal S512x1024 .f32} (h3 : t.val % 4 = 3) (hh : DhT m c t h) : DhA m c t h :=
  fun r k => DhT_last m h3 hh r k

/-! ## The block of partial sums -/

/-- One row of the sums, at one token. -/
def G (c : Dev nD) (κ : ℕ) (s : Fin 2048) (q : Fin 1024) : EReal :=
  match κ with
  | 0 => val_main_v66 (F := Ideal) (X0 m c) (X1 m c) (X2 m c) (X3 m c) (X4 m c) (X5 m c) (ix2 s q)
  | 1 => val_main_v70 (F := Ideal) (X0 m c) (X1 m c) (X2 m c) (X3 m c) (X4 m c) (X5 m c) (ix2 s q)
  | 2 => kHalf * X0 m c (ix2 s q) * val_main_v37 (F := Ideal) (X1 m c) (X2 m c) (X3 m c) (X4 m c) (X5 m c) (ix2 s q)
  | 3 => val_main_v82 (F := Ideal) (X0 m c) (X1 m c) (X2 m c) (X3 m c) (X4 m c) (X5 m c) (ix2 s q)
  | _ => 0

/-- Token `r` of tile `i`. -/
def tk (i : ℕ) (r : Fin 512) : Fin 2048 := ⟨i % 4 * 512 + r.val, by omega⟩
theorem tok_tk (t : Fin cfg0.N) (r : Fin 512) : tok t r = tk (t.val / 4) r := by
  have h := tt_lt t
  refine Fin.ext ?_
  show tt t * 512 + r.val = tt t % 4 * 512 + r.val
  rw [Nat.mod_eq_of_lt h]

/-- The block after the tiles finished so far. -/
def PaT (c : Dev nD) (n : ℕ) (P : FVec Ideal S8x1024 .f32) : Prop :=
  ∀ (κ : Fin 8) (q : Fin 1024), P (ix2 κ q) = ∑ i ∈ Finset.range ((n + 1) / 4), ∑ r : Fin 512, G m c κ.val (tk i r) q

theorem PaT_zero (c : Dev nD) : PaT m c 0 (k0_pay18 (F := Ideal)) := by
  intro κ q
  rw [pay18_at]
  rfl

theorem PaT_same {c : Dev nD} {n : ℕ} {P} (h : ¬ (n + 1) % 4 = 3) (hP : PaT m c n P) : PaT m c (n + 1) P := by
  intro κ q
  rw [hP κ q]
  have e : (n + 1) / 4 = (n + 1 + 1) / 4 := by omega
  rw [e]

theorem PaT_rows {c : Dev nD} (t : Fin cfg0.N) {n : ℕ} (ht : t.val = n + 1) (h3 : (n + 1) % 4 = 3) {P P' : FVec Ideal S8x1024 .f32} (hP : PaT m c n P)
    (h : ∀ (κ : Fin 8) q, P' (ix2 κ q) = P (ix2 κ q) + ∑ r : Fin 512, G m c κ.val (tok t r) q) : PaT m c (n + 1) P' := by
  intro κ q
  rw [h κ q]
  have er : (n + 1 + 1) / 4 = (n + 1) / 4 + 1 := by omega
  rw [er, Finset.sum_range_succ, ← hP κ q]
  refine congrArg (P (ix2 κ q) + ·) (Finset.sum_congr rfl fun r _ => ?_)
  rw [tok_tk, ht]

theorem rows_all {c : Dev nD} (t : Fin cfg0.N) {P P' : FVec Ideal S8x1024 .f32}
    (h0 : ∀ q, P' (ix2 0 q) = P (ix2 0 q) + ∑ r : Fin 512, G m c 0 (tok t r) q)
    (h1 : ∀ q, P' (ix2 1 q) = P (ix2 1 q) + ∑ r : Fin 512, G m c 1 (tok t r) q)
    (h2 : ∀ q, P' (ix2 2 q) = P (ix2 2 q) + ∑ r : Fin 512, G m c 2 (tok t r) q)
    (h3 : ∀ q, P' (ix2 3 q) = P (ix2 3 q) + ∑ r : Fin 512, G m c 3 (tok t r) q)
    (h4 : ∀ (κ : Fin 8) q, 4 ≤ κ.val → P' (ix2 κ q) = P (ix2 κ q)) :
    ∀ (κ : Fin 8) q, P' (ix2 κ q) = P (ix2 κ q) + ∑ r : Fin 512, G m c κ.val (tok t r) q := by
  intro κ q
  obtain ⟨κ, hκ⟩ := κ
  match κ, hκ with
  | 0, _ => exact h0 q
  | 1, _ => exact h1 q
  | 2, _ => exact h2 q
  | 3, _ => exact h3 q
  | κ + 4, hκ =>
    refine (h4 _ q (by show 4 ≤ κ + 4; omega)).trans ?_
    have z : ∑ r : Fin 512, G m c (κ + 4) (tok t r) q = 0 := Finset.sum_eq_zero fun _ _ => rfl
    exact (add_zero (M := EReal) _).symm.trans (congrArg (P (ix2 ⟨κ + 4, hκ⟩ q) + ·) z.symm)

theorem rows_C {c : Dev nD} (t : Fin cfg0.N) {κ : Kind} {sp : Space} (v : View sig κ sp S8x1024 .f32) (f : v.ty.Contents (Elt Ideal)) {P P' : FVec Ideal S8x1024 .f32} {D : FVec Ideal S512x1024 .f32} (hA : DhA m c t D)
    (hf : v.read (Elt Ideal) f = P)
    (e : P' = v.read (Elt Ideal) (v.writes (Elt Ideal) f (rowsL (k0_pay6 (k0_pay14 (iblk m c 1 t) (Bsc m c t) D) (View.ld (Val := Elt Ideal) (e' := .f32) P (Rect.unit (s := S8x1024) ![3, 0] ![1, 1024] inb_S8x1024_S1x1024_3_0)))
      (k0_pay5 (iblk m c 0 t) (View.ld (Val := Elt Ideal) (e' := .f32) P (Rect.unit (s := S8x1024) ![2, 0] ![1, 1024] inb_S8x1024_S1x1024_2_0)) (iblk m c 2 t)) (k0_pay4 (k0_pay13 (iblk m c 1 t) (iblk m c 6 t) D) (View.ld (Val := Elt Ideal) (e' := .f32) P (Rect.unit (s := S8x1024) ![1, 0] ![1, 1024] inb_S8x1024_S1x1024_1_0))) (k0_pay3 (k0_pay12 D) (View.ld (Val := Elt Ideal) (e' := .f32) P (Rect.unit (s := S8x1024) ![0, 0] ![1, 1024] inb_S8x1024_S1x1024_0_0)))))) :
    ∀ (κ : Fin 8) q, P' (ix2 κ q) = P (ix2 κ q) + ∑ r : Fin 512, G m c κ.val (tok t r) q := by
  subst e
  refine rows_all m t (fun q => ?_) (fun q => ?_) (fun q => ?_) (fun q => ?_) (fun κ q h => ?_)
  · exact (rows_0 ..).trans ((pay3_at ..).trans (congrArg₂ (· + ·) (ld_row0 P q) (p12_T m c t q hA)))
  · exact (rows_1 ..).trans ((pay4_at ..).trans (congrArg₂ (· + ·) (ld_row1 P q) (p13_T m c t q hA)))
  · exact (rows_2 ..).trans ((p5_T m c t _ q).trans (congrArg (· + _) (ld_row2 P q)))
  · exact (rows_3 ..).trans ((pay6_at ..).trans (congrArg₂ (· + ·) (ld_row3 P q) (p14_T m c t q hA)))
  · exact (rows_rest _ _ _ _ _ _ _ h q).trans (congrFun hf _)

theorem PaT_step {c : Dev nD} (H : Fin6 (X0 m c) (X1 m c) (X2 m c) (X3 m c) (X4 m c) (X5 m c)) {n : ℕ} (h : n + 1 < cfg0.N) (h0 : ¬ (n + 1) % 4 = 0) (h1 : ¬ (n + 1) % 16 = 0) (h3 : (n + 1) % 4 = 3) (hn : n < cfg0.N)
    (hP : PaT m c n (outsAt0 m c n hn).2.2.2.2.2.1) : PaT m c (n + 1) (at0_C m c ⟨n + 1, h⟩ h0 h1 h3 (outsAt0 m c n hn)).2.2.2.2.2.1 := by
  obtain ⟨f, hf, e⟩ := atC_15 m c ⟨n + 1, h⟩ h0 h1 h3 (outsAt0 m c n hn)
  refine PaT_rows m ⟨n + 1, h⟩ rfl h3 hP (rows_C m ⟨n + 1, h⟩ _ f ?_ hf e)
  exact DhT_all m h3 (DhT_step (t := ⟨n, hn⟩) (t' := ⟨n + 1, h⟩) m H rfl h0 (s0_T m c n hn) (s1_T m c H n hn))

theorem w15_T (c : Dev nD) (H : Fin6 (X0 m c) (X1 m c) (X2 m c) (X3 m c) (X4 m c) (X5 m c)) : ∀ (n : ℕ) (h : n < cfg0.N), PaT m c n (outsAt0 m c n h).2.2.2.2.2.1 := by
  intro n
  induction n with
  | zero =>
    intro h
    rw [show outsAt0 m c 0 h = _ from outsAt0_A m c ⟨0, h⟩ (by show 0 % 4 = 0; rfl) (by show 0 % 16 = 0; rfl) (by show ¬ 0 % 4 = 3; decide), atA_15]
    exact PaT_zero m c
  | succ n ih =>
    intro h
    have h16 : n + 1 < 16 := h
    have h1 : ¬ (n + 1) % 16 = 0 := by omega
    have hn : n < cfg0.N := Nat.lt_of_succ_lt h
    by_cases h0 : (n + 1) % 4 = 0
    · have h2 : ¬ (n + 1) % 4 = 3 := by omega
      rw [show outsAt0 m c (n + 1) h = _ from outsAt0_D m c ⟨n + 1, h⟩ h0 h1 h2, atD_15]
      exact PaT_same m h2 (ih hn)
    · by_cases h2 : (n + 1) % 4 = 3
      · rw [show outsAt0 m c (n + 1) h = _ from outsAt0_C m c ⟨n + 1, h⟩ h0 h1 h2]
        exact PaT_step m H h h0 h1 h2 hn (ih hn)
      · rw [show outsAt0 m c (n + 1) h = _ from outsAt0_B m c ⟨n + 1, h⟩ h0 h1 h2, atB_15]
        exact PaT_same m h2 (ih hn)

theorem sum_tiles (f : Fin 2048 → EReal) : ∑ i ∈ Finset.range 4, ∑ r : Fin 512, f (tk i r) = ∑ s, f s := by
  rw [Finset.sum_range]
  refine Eq.trans ?_ (Fin.sum_mul_add_fin 4 512 f)
  refine Finset.sum_congr rfl fun j _ => Finset.sum_congr rfl fun n _ => congrArg f (Fin.ext ?_)
  show j.val % 4 * 512 + n.val = j.val * 512 + n.val
  rw [Nat.mod_eq_of_lt j.isLt]

theorem half_sum (c : Dev nD) (H : Fin6 (X0 m c) (X1 m c) (X2 m c) (X3 m c) (X4 m c) (X5 m c)) (q : Fin 1024) : ∑ s, G m c 2 s q = val_main_v54 (F := Ideal) (X0 m c) (X1 m c) (X2 m c) (X3 m c) (X4 m c) (X5 m c) (ix1 q) := by
  rw [r54]
  choose y hy using fun s : Fin 2048 => H.h0 (ix2 s q)
  choose f hf using fun s : Fin 2048 => FfnReal.f_v37 H (ix2 s q)
  have e : ∀ s, val_main_v49 (F := Ideal) (X0 m c) (X1 m c) (X2 m c) (X3 m c) (X4 m c) (X5 m c) (ix2 s q) = ((y s * f s : ℝ) : EReal) := fun s => by
    rw [r49, hy, hf, EReal.coe_mul]
  have e2 : ∀ s, G m c 2 s q = ((1 / 2 * y s * f s : ℝ) : EReal) := fun s => by
    unfold G kHalf
    rw [FfnReal.c_half]
    refine (congrArg₂ (fun a b : EReal => ((1 / 2 : ℝ) : EReal) * a * b) (hy s) (hf s)).trans ?_
    rw [EReal.coe_mul, EReal.coe_mul]
  unfold kHalf
  simp only [e, e2, coe_sum, FfnReal.c_half]
  rw [← EReal.coe_mul]
  congr 1
  rw [Finset.mul_sum]
  exact Finset.sum_congr rfl fun s _ => by ring

theorem part_T (c : Dev nD) (H : Fin6 (X0 m c) (X1 m c) (X2 m c) (X3 m c) (X4 m c) (X5 m c)) (h : 15 < cfg0.N) (κ : Fin 8) (q : Fin 1024) :
    (outsAt0 m c 15 h).2.2.2.2.2.1 (ix2 κ q) = val_main_v105 (F := Ideal) (X0 m c) (X1 m c) (X2 m c) (X3 m c) (X4 m c) (X5 m c) (ix2 κ q) := by
  refine (w15_T m c H 15 h κ q).trans ((sum_tiles fun s => G m c κ.val s q).trans ?_)
  obtain ⟨κ, hκ⟩ := κ
  match κ, hκ with
  | 0, _ => exact ((r105_0 ..).trans (r69 ..)).symm
  | 1, _ => exact ((r105_1 ..).trans (r75 ..)).symm
  | 2, _ => exact (half_sum m c H q).trans (r105_2 ..).symm
  | 3, _ => exact ((r105_3 ..).trans (r87 ..)).symm
  | κ + 4, hκ => exact (Finset.sum_eq_zero fun _ _ => rfl).trans (r105_4 _ _ _ _ _ _ q ⟨κ + 4, hκ⟩ (by show 4 ≤ κ + 4; omega)).symm

/-- The gradient of the input, at the last chunk of a tile. -/
theorem w10_T (c : Dev nD) (H : Fin6 (X0 m c) (X1 m c) (X2 m c) (X3 m c) (X4 m c) (X5 m c)) (t : Fin cfg0.N) (h3 : t.val % 4 = 3) (r : Fin 512) (k : Fin 1024) :
    (outsAt0 m c t.val t.isLt).1 (ix2 r k) = val_main_v102 (F := Ideal) (X0 m c) (X1 m c) (X2 m c) (X3 m c) (X4 m c) (X5 m c) (ix2 (tok t r) k) := by
  have h0 : ¬ t.val % 4 = 0 := by omega
  have h1 : ¬ t.val % 16 = 0 := by omega
  rw [outsAt0_C m c t h0 h1 h3, atC_10]
  refine dx_T m c t r k ?_ H
  have hp := pred_lt t.isLt
  exact DhT_all m h3 (DhT_step (t := ⟨t.val - 1, hp⟩) m H rfl h0 (s0_T m c _ hp) (s1_T m c H _ hp))

end Cert.Proof.Ffn
-- ==== Proof.FfnFinal.lean ====
module

public import proofs.«01_k».proof.Proof.FfnPart
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proof.Ffn

open Cert.FfnKernelIdeal Cert.FfnKernelIdeal.Gen
open Cert.Proof.FfnReal (IsR Fin6)
open Cert.Proof.FfnRef
open Cert.FfnReferenceIdeal.Read

variable (m : (ℓ : Loc nD τ sig) → Buf (Elt Ideal) ℓ)

theorem w11_blk (c : Dev nD) (t : Fin cfg0.N) : ∃ D, DoT m c t D ∧ (outsAt0 m c t.val t.isLt).2.1 = Bda D (iblk m c 9 t) (iblk m c 3 t) (iblk m c 4 t) := by
  have h16 : t.val < 16 := t.isLt
  by_cases h0 : t.val % 4 = 0
  · have h2 : ¬ t.val % 4 = 3 := by omega
    by_cases h1 : t.val % 16 = 0
    · exact ⟨_, Bdo_T m c t, by rw [outsAt0_A m c t h0 h1 h2, atA_11]⟩
    · exact ⟨_, Bdo_T m c t, by rw [outsAt0_D m c t h0 h1 h2, atD_11]⟩
  · have h1 : ¬ t.val % 16 = 0 := by omega
    have hD := DoT_step (t := ⟨t.val - 1, pred_lt t.isLt⟩) (t' := t) m rfl h0 (s0_T m c _ (pred_lt t.isLt))
    by_cases h2 : t.val % 4 = 3
    · exact ⟨_, hD, by rw [outsAt0_C m c t h0 h1 h2, atC_11]⟩
    · exact ⟨_, hD, by rw [outsAt0_B m c t h0 h1 h2, atB_11]⟩

theorem w12_blk (c : Dev nD) (t : Fin cfg0.N) : ∃ D, DoT m c t D ∧ (outsAt0 m c t.val t.isLt).2.2.1 = Bdb D (iblk m c 9 t) (iblk m c 3 t) := by
  have h16 : t.val < 16 := t.isLt
  by_cases h0 : t.val % 4 = 0
  · have h2 : ¬ t.val % 4 = 3 := by omega
    by_cases h1 : t.val % 16 = 0
    · exact ⟨_, Bdo_T m c t, by rw [outsAt0_A m c t h0 h1 h2, atA_12]⟩
    · exact ⟨_, Bdo_T m c t, by rw [outsAt0_D m c t h0 h1 h2, atD_12]⟩
  · have h1 : ¬ t.val % 16 = 0 := by omega
    have hD := DoT_step (t := ⟨t.val - 1, pred_lt t.isLt⟩) (t' := t) m rfl h0 (s0_T m c _ (pred_lt t.isLt))
    by_cases h2 : t.val % 4 = 3
    · exact ⟨_, hD, by rw [outsAt0_C m c t h0 h1 h2, atC_12]⟩
    · exact ⟨_, hD, by rw [outsAt0_B m c t h0 h1 h2, atB_12]⟩

theorem w13_blk (c : Dev nD) (t : Fin cfg0.N) : (outsAt0 m c t.val t.isLt).2.2.2.1 = Bact (iblk m c 3 t) (iblk m c 4 t) := by
  have h16 : t.val < 16 := t.isLt
  by_cases h0 : t.val % 4 = 0
  · have h2 : ¬ t.val % 4 = 3 := by omega
    by_cases h1 : t.val % 16 = 0
    · rw [outsAt0_A m c t h0 h1 h2, atA_13]
    · rw [outsAt0_D m c t h0 h1 h2, atD_13]
  · have h1 : ¬ t.val % 16 = 0 := by omega
    by_cases h2 : t.val % 4 = 3
    · rw [outsAt0_C m c t h0 h1 h2, atC_13]
    · rw [outsAt0_B m c t h0 h1 h2, atB_13]

theorem w11_T (c : Dev nD) (H : Fin6 (X0 m c) (X1 m c) (X2 m c) (X3 m c) (X4 m c) (X5 m c)) (t : Fin cfg0.N) (r : Fin 512) (n : Fin 704) :
    (outsAt0 m c t.val t.isLt).2.1 (ix3 0 r n) = val_main_v109 (F := Ideal) (X0 m c) (X1 m c) (X2 m c) (X3 m c) (X4 m c) (X5 m c) (ix3 ⟨jj t, jj_lt t⟩ (tok t r) n) := by
  obtain ⟨D, hD, e⟩ := w11_blk m c t
  rw [e, Bda_at m H hD r n, r109]
  rfl

theorem w12_T (c : Dev nD) (t : Fin cfg0.N) (r : Fin 512) (n : Fin 704) :
    (outsAt0 m c t.val t.isLt).2.2.1 (ix3 0 r n) = val_main_v113 (F := Ideal) (X0 m c) (X1 m c) (X2 m c) (X3 m c) (X4 m c) (X5 m c) (ix3 ⟨jj t, jj_lt t⟩ (tok t r) n) := by
  obtain ⟨D, hD, e⟩ := w12_blk m c t
  rw [e, Bdb_at m hD r n, r113]
  rfl

theorem w13_T (c : Dev nD) (t : Fin cfg0.N) (r : Fin 512) (n : Fin 704) :
    (outsAt0 m c t.val t.isLt).2.2.2.1 (ix3 0 r n) = val_main_v116 (F := Ideal) (X1 m c) (X2 m c) (X3 m c) (X4 m c) (ix3 ⟨jj t, jj_lt t⟩ (tok t r) n) := by
  rw [w13_blk m c t, Bact_at m c t r n, r116]
  rfl

theorem flush10 : ∀ t : Fin grid0.N, win0_10.flush t = true → t.val % 4 = 3 := by decide +kernel
theorem flush15 : ∀ t : Fin grid0.N, win0_15.flush t = true → t.val = 15 := by decide +kernel

theorem final10 (c : Dev nD) (H : Fin6 (X0 m c) (X1 m c) (X2 m c) (X3 m c) (X4 m c) (X5 m c)) : (dats m 0 c).arrAt 10 cfg0.N = val_main_v102 (F := Ideal) (X0 m c) (X1 m c) (X2 m c) (X3 m c) (X4 m c) (X5 m c) := by
  refine (dats m 0 c).arrAt_eq_of_covers 10 _ (by decide +kernel) fun t hf y => ?_
  blk_simp
  rw [after0_10]
  generalize ej : ((View.whole Cert.FfnKernelIdeal.main_v43_0).slice (win0_10.rect t)).emb y = j
  replace ej : ∀ a, (j a : ℕ) = (![tt t * 512 + y 0, y 1] : Fin 2 → ℕ) a := by
    intro a; subst ej; blk_simp [idx10 t]; match a with | ⟨0, _⟩ => simp | ⟨1, _⟩ => simp
  change S512x1024.Idx at y
  change S2048x1024.Idx at j
  idx_vars y
  idx_vars j
  obtain rfl : j0 = tok t y0 := Fin.ext (ej 0)
  obtain rfl : j1 = y1 := Fin.ext (ej 1)
  exact w10_T m c H t (flush10 t hf) y0 j1

theorem final11 (c : Dev nD) (H : Fin6 (X0 m c) (X1 m c) (X2 m c) (X3 m c) (X4 m c) (X5 m c)) : (dats m 0 c).arrAt 11 cfg0.N = val_main_v109 (F := Ideal) (X0 m c) (X1 m c) (X2 m c) (X3 m c) (X4 m c) (X5 m c) := by
  refine (dats m 0 c).arrAt_eq_of_covers 11 _ (by decide +kernel) fun t hf y => ?_
  blk_simp
  rw [after0_11]
  generalize ej : ((View.whole Cert.FfnKernelIdeal.main_v43_1).slice (win0_11.rect t)).emb y = j
  replace ej : ∀ a, (j a : ℕ) = (![jj t, tt t * 512 + y 1, y 2] : Fin 3 → ℕ) a := by
    intro a; subst ej; blk_simp [idx11 t]; match a with | ⟨0, _⟩ => simp | ⟨1, _⟩ => simp | ⟨2, _⟩ => simp
  change S1x512x704.Idx at y
  change S4x2048x704.Idx at j
  idx_vars y
  idx_vars j
  obtain rfl : j0 = ⟨jj t, jj_lt t⟩ := Fin.ext (ej 0)
  obtain rfl : j1 = tok t y1 := Fin.ext (ej 1)
  obtain rfl : j2 = y2 := Fin.ext (ej 2)
  obtain rfl : y0 = 0 := Fin.ext (by omega)
  exact w11_T m c H t y1 j2

theorem final12 (c : Dev nD)  : (dats m 0 c).arrAt 12 cfg0.N = val_main_v113 (F := Ideal) (X0 m c) (X1 m c) (X2 m c) (X3 m c) (X4 m c) (X5 m c) := by
  refine (dats m 0 c).arrAt_eq_of_covers 12 _ (by decide +kernel) fun t hf y => ?_
  blk_simp
  rw [after0_12]
  generalize ej : ((View.whole Cert.FfnKernelIdeal.main_v43_2).slice (win0_12.rect t)).emb y = j
  replace ej : ∀ a, (j a : ℕ) = (![jj t, tt t * 512 + y 1, y 2] : Fin 3 → ℕ) a := by
    intro a; subst ej; blk_simp [idx12 t]; match a with | ⟨0, _⟩ => simp | ⟨1, _⟩ => simp | ⟨2, _⟩ => simp
  change S1x512x704.Idx at y
  change S4x2048x704.Idx at j
  idx_vars y
  idx_vars j
  obtain rfl : j0 = ⟨jj t, jj_lt t⟩ := Fin.ext (ej 0)
  obtain rfl : j1 = tok t y1 := Fin.ext (ej 1)
  obtain rfl : j2 = y2 := Fin.ext (ej 2)
  obtain rfl : y0 = 0 := Fin.ext (by omega)
  exact w12_T m c t y1 j2

theorem final13 (c : Dev nD)  : (dats m 0 c).arrAt 13 cfg0.N = val_main_v116 (F := Ideal) (X1 m c) (X2 m c) (X3 m c) (X4 m c) := by
  refine (dats m 0 c).arrAt_eq_of_covers 13 _ (by decide +kernel) fun t hf y => ?_
  blk_simp
  rw [after0_13]
  generalize ej : ((View.whole Cert.FfnKernelIdeal.main_v43_3).slice (win0_13.rect t)).emb y = j
  replace ej : ∀ a, (j a : ℕ) = (![jj t, tt t * 512 + y 1, y 2] : Fin 3 → ℕ) a := by
    intro a; subst ej; blk_simp [idx13 t]; match a with | ⟨0, _⟩ => simp | ⟨1, _⟩ => simp | ⟨2, _⟩ => simp
  change S1x512x704.Idx at y
  change S4x2048x704.Idx at j
  idx_vars y
  idx_vars j
  obtain rfl : j0 = ⟨jj t, jj_lt t⟩ := Fin.ext (ej 0)
  obtain rfl : j1 = tok t y1 := Fin.ext (ej 1)
  obtain rfl : j2 = y2 := Fin.ext (ej 2)
  obtain rfl : y0 = 0 := Fin.ext (by omega)
  exact w13_T m c t y1 j2

theorem final14 (c : Dev nD)  : (dats m 0 c).arrAt 14 cfg0.N = val_main_v117 (F := Ideal) (X0 m c) (X2 m c) := by
  refine (dats m 0 c).arrAt_eq_of_covers 14 _ (by decide +kernel) fun t hf y => ?_
  blk_simp
  rw [after0_14]
  generalize ej : ((View.whole Cert.FfnKernelIdeal.main_v43_4).slice (win0_14.rect t)).emb y = j
  replace ej : ∀ a, (j a : ℕ) = (![tt t * 512 + y 0, y 1] : Fin 2 → ℕ) a := by
    intro a; subst ej; blk_simp [idx14 t]; match a with | ⟨0, _⟩ => simp | ⟨1, _⟩ => simp
  change S512x1024.Idx at y
  change S2048x1024.Idx at j
  idx_vars y
  idx_vars j
  obtain rfl : j0 = tok t y0 := Fin.ext (ej 0)
  obtain rfl : j1 = y1 := Fin.ext (ej 1)
  exact (w14_T m c t.val t.isLt y0 j1).trans (r117 ..).symm

theorem final15 (c : Dev nD) (H : Fin6 (X0 m c) (X1 m c) (X2 m c) (X3 m c) (X4 m c) (X5 m c)) : (dats m 0 c).arrAt 15 cfg0.N = val_main_v105 (F := Ideal) (X0 m c) (X1 m c) (X2 m c) (X3 m c) (X4 m c) (X5 m c) := by
  refine (dats m 0 c).arrAt_eq_of_covers 15 _ (by decide +kernel) fun t hf y => ?_
  blk_simp
  rw [after0_15]
  generalize ej : ((View.whole Cert.FfnKernelIdeal.main_v43_5).slice (win0_15.rect t)).emb y = j
  replace ej : ∀ a, (j a : ℕ) = y a := by
    intro a; subst ej; blk_simp [idx15 t]; match a with | ⟨0, _⟩ => simp | ⟨1, _⟩ => simp
  replace ej : j = y := funext fun a => Fin.ext (ej a)
  subst ej
  change S8x1024.Idx at j
  idx_vars j
  have h15 := flush15 t hf
  obtain ⟨n, hn⟩ := t
  subst h15
  exact part_T m c H hn j0 j1

end Cert.Proof.Ffn

end
-- ==== Proof.FfnPre.lean ====
module

public import proofs.«01_k».proof.Defs
public import proofs.«01_k».proof.Proof.Gen.Pre_all_finite
public import proofs.«01_k».proof.Proof.FfnTile

@[expose] public section

set_option maxRecDepth 16384

noncomputable section

open Idealize.ShloMosaic Idealize.ShloMosaic.TcCoe Idealize.SL.Sem

namespace Cert.Proof.Ffn

open Cert.FfnKernelIdeal
open Cert.Proof.FfnReal (IsR Fin6)

theorem inf_eq : Ideal.ofBits .f32 0x7F800000#32 = ⊤ := by simp [Ideal.ofBits, Ideal.ieee]

/-- An extended real smaller in size than infinity is a real number. -/
theorem isR_of_lt (v : EReal) (h : Ideal.cmp .olt (max v (-v)) (Ideal.ofBits .f32 0x7F800000#32) = 1#1) : IsR v := by
  have h' : max v (-v) < ⊤ := by
    rw [inf_eq] at h
    by_contra hn
    simp [Ideal.cmp, hn] at h
  have h1 : v ≠ ⊤ := ((le_max_left v (-v)).trans_lt h').ne
  have h2 : v ≠ ⊥ := by
    rintro rfl
    exact absurd ((le_max_right (⊥ : EReal) (-⊥)).trans_lt h') (by simp)
  exact ⟨v.toReal, (EReal.coe_toReal h1 h2).symm⟩

theorem fin6 (m : (ℓ : Loc nD τ sig) → Buf (Elt Ideal) ℓ)
    (h : Cert.Pre_FfnKernelIdeal_all_finite (hPre_all_finite := Cert.Pre_all_finite.Gen.facts) m) (c : Dev nD) : Fin6 (X0 m c) (X1 m c) (X2 m c) (X3 m c) (X4 m c) (X5 m c) := by
  obtain ⟨h0, h1, h2, h3, h4, h5⟩ := h c
  exact ⟨fun i => isR_of_lt _ (congrFun h0 i), fun i => isR_of_lt _ (congrFun h1 i), fun i => isR_of_lt _ (congrFun h2 i),
    fun i => isR_of_lt _ (congrFun h3 i), fun i => isR_of_lt _ (congrFun h4 i), fun i => isR_of_lt _ (congrFun h5 i)⟩

end Cert.Proof.Ffn

end
-- ==== Proof.FfnBody.lean ====
module

public import proofs.«01_k».proof.Proof.FfnData

@[expose] public section

set_option maxRecDepth 16384

noncomputable section

namespace Cert.Proof.Ffn

open Cert.FfnKernelIdeal Cert.FfnKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d)))

/-- What the body returns at a point. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t)

set_option maxHeartbeats 25600000 in
/-- The body at any point, case by case. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  by_cases h0 : t.val % 4 = 0
  · by_cases h1 : t.val % 16 = 0
    · by_cases h2 : t.val % 4 = 3
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        rw [Dat.leavesExact_idle (dats m 0 c) 10 t (idleAt0_10_A t ((hcond0_0 t).mpr h0) ((hcond0_1 t).mpr h1) (fun h => h2 ((hcond0_2 t).mp h))) (noFlush0_10_A t ((hcond0_0 t).mpr h0) ((hcond0_1 t).mpr h1) (fun h => h2 ((hcond0_2 t).mp h)))]
        rw [show (dats m 0 c).leavesExact 11 t = owns (c : Thread nD τ) (ms0_11 t) fullShare ((dats m 0 c).after 11 t) from by
      unfold Dat.leavesExact; rw [liveAt0_11 t], after0_11]
        rw [show (dats m 0 c).leavesExact 12 t = owns (c : Thread nD τ) (ms0_12 t) fullShare ((dats m 0 c).after 12 t) from by
      unfold Dat.leavesExact; rw [liveAt0_12 t], after0_12]
        rw [show (dats m 0 c).leavesExact 13 t = owns (c : Thread nD τ) (ms0_13 t) fullShare ((dats m 0 c).after 13 t) from by
      unfold Dat.leavesExact; rw [liveAt0_13 t], after0_13]
        rw [show (dats m 0 c).leavesExact 14 t = owns (c : Thread nD τ) (ms0_14 t) fullShare ((dats m 0 c).after 14 t) from by
      unfold Dat.leavesExact; rw [liveAt0_14_A t ((hcond0_0 t).mpr h0) ((hcond0_1 t).mpr h1) (fun h => h2 ((hcond0_2 t).mp h))], after0_14]
        rw [show (dats m 0 c).leavesExact 15 t = owns (c : Thread nD τ) (ms0_15 t) fullShare ((dats m 0 c).after 15 t) from by
      unfold Dat.leavesExact; rw [liveAt0_15_A t ((hcond0_0 t).mpr h0) ((hcond0_1 t).mpr h1) (fun h => h2 ((hcond0_2 t).mp h))], after0_15]
        by_cases hz : t.val = 0
        · rw [PhiS_castSucc m c t, PhiS_zero m c _ _ hz, PhiA0_eq]
          rw [outsAt0_A m c t h0 h1 h2]; unfold at0_A
          unfold out0_A_11 out0_A_12 out0_A_13 out0_A_14 out0_A_15 sout0_A_0 sout0_A_1; (try dsimp only)
          iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
          iapply ((kernelRun0_A c (grid0.coords t) _ _ _ _ _ _ _ _ _ _ _ _ _ _ _ _ _ _ _ _ _ _ _ _ _ _ _ _ _ _ _ _ _ _ _ _ ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t)).2.2.2.2.2.2.2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexists _; iexact H11
          isplitl [H12]; · iexists _; iexact H12
          isplitl [H13]; · iexists _; iexact H13
          isplitl [H14]; · iexists _; iexact H14
          isplitl [H15]; · iexists _; iexact H15
          isplitl [HS0]; · iexact HS0
          isplitl [HS1]; · iexact HS1
          iintro ⟨H0, H1, H2, H3, H4, H5, H6, H7, H8, H9, H10, ⟨%e11, H11⟩, ⟨%e12, H12⟩, ⟨%e13, H13⟩, ⟨%e14, H14⟩, ⟨%e15, H15⟩, ⟨%es0, HS0⟩, ⟨%es1, HS1⟩⟩
          isplitl [HS0 HS1 Hg]
          · isplitl [HS0 HS1]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _)
              unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexists _; iexact H10
          isplitl [H11]
          · unfold owns; iexists _; isplitr
            swap; · iexact H11
            ipureintro; exact View.read_writes_of_cover _ _ _ _ _ (cover0_A_11 c _ _ _ _ _ _ _ _ _ _ _ _ _ _ _ _ _ _ _ _ _ _ _ _ _ _ _ _ _ _ _ _ _ _ _ _ _ _ _ _ _ _ _ _ _ _ _ _ _ _)
          isplitl [H12]
          · unfold owns; iexists _; isplitr
            swap; · iexact H12
            ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _ _ _ _ _ _)
          isplitl [H13]
          · unfold owns; iexists _; isplitr
            swap; · iexact H13
            ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _ _ _ _)
          isplitl [H14]
          · unfold owns; iexists _; isplitr
            swap; · iexact H14
            ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _ _)
          unfold owns; iexists _; isplitr
          swap; · iexact H15
          ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _)
        · exfalso; have hN : t.val < 16 := lt_of_lt_of_eq t.isLt (show cfg0.N = 16 from N_0); omega
    · by_cases h2 : t.val % 4 = 3
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        rw [Dat.leavesExact_idle (dats m 0 c) 10 t (idleAt0_10_D t ((hcond0_0 t).mpr h0) (fun h => h1 ((hcond0_1 t).mp h)) (fun h => h2 ((hcond0_2 t).mp h))) (noFlush0_10_D t ((hcond0_0 t).mpr h0) (fun h => h1 ((hcond0_1 t).mp h)) (fun h => h2 ((hcond0_2 t).mp h)))]
        rw [show (dats m 0 c).leavesExact 11 t = owns (c : Thread nD τ) (ms0_11 t) fullShare ((dats m 0 c).after 11 t) from by
      unfold Dat.leavesExact; rw [liveAt0_11 t], after0_11]
        rw [show (dats m 0 c).leavesExact 12 t = owns (c : Thread nD τ) (ms0_12 t) fullShare ((dats m 0 c).after 12 t) from by
      unfold Dat.leavesExact; rw [liveAt0_12 t], after0_12]
        rw [show (dats m 0 c).leavesExact 13 t = owns (c : Thread nD τ) (ms0_13 t) fullShare ((dats m 0 c).after 13 t) from by
      unfold Dat.leavesExact; rw [liveAt0_13 t], after0_13]
        rw [show (dats m 0 c).leavesExact 14 t = owns (c : Thread nD τ) (ms0_14 t) fullShare ((dats m 0 c).after 14 t) from by
      unfold Dat.leavesExact; rw [liveAt0_14_D t ((hcond0_0 t).mpr h0) (fun h => h1 ((hcond0_1 t).mp h)) (fun h => h2 ((hcond0_2 t).mp h))], after0_14]
        rw [Dat.leavesExact_idle (dats m 0 c) 15 t (idleAt0_15_D t ((hcond0_0 t).mpr h0) (fun h => h1 ((hcond0_1 t).mp h)) (fun h => h2 ((hcond0_2 t).mp h))) (noFlush0_15_D t ((hcond0_0 t).mpr h0) (fun h => h1 ((hcond0_1 t).mp h)) (fun h => h2 ((hcond0_2 t).mp h)))]
        by_cases hz : t.val = 0
        · exfalso; have hN : t.val < 16 := lt_of_lt_of_eq t.isLt (show cfg0.N = 16 from N_0); omega
        · rw [PhiS_castSucc m c t, PhiS_pos m c _ _ hz]
          rw [outsAt0_D m c t h0 h1 h2]; unfold at0_D
          unfold out0_D_11 out0_D_12 out0_D_13 out0_D_14 sout0_D_0 sout0_D_1; (try dsimp only)
          iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
          iapply ((kernelRun0_D c (grid0.coords t) _ _ _ _ _ _ _ _ _ _ _ _ _ _ _ _ _ _ _ _ _ _ _ _ _ _ _ _ _ _ _ _ _ _ _ _ ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t)).2.2.2.2.2.2.2.2 _ _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexists _; iexact H11
          isplitl [H12]; · iexists _; iexact H12
          isplitl [H13]; · iexists _; iexact H13
          isplitl [H14]; · iexists _; iexact H14
          isplitl [H15]; · iexact H15
          isplitl [HS0]; · iexists _; iexact HS0
          isplitl [HS1]; · iexists _; iexact HS1
          iintro ⟨H0, H1, H2, H3, H4, H5, H6, H7, H8, H9, H10, ⟨%e11, H11⟩, ⟨%e12, H12⟩, ⟨%e13, H13⟩, ⟨%e14, H14⟩, H15, ⟨%es0, HS0⟩, ⟨%es1, HS1⟩⟩
          isplitl [HS0 HS1 Hg]
          · isplitl [HS0 HS1]
            · isplitl [HS0]
              · unfold owns; iexists _; isplitr
                swap; · iexact HS0
                ipureintro; exact View.read_writes_of_cover _ _ _ _ _ (scover0_D_0 c _ _ _ _ _ _ _ _ _ _ _ _ _ _ _ _ _ _ _ _ _ _ _ _ _ _ _ _ _ _ _ _ _ _ _ _ _ _ _ _ _ _ _ _ _ _ _ _ _ _)
              unfold owns; iexists _; isplitr
              swap; · iexact HS1
              ipureintro; exact View.read_writes_of_cover _ _ _ _ _ (scover0_D_1 c _ _ _ _ _ _ _ _ _ _ _ _ _ _ _ _ _ _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexists _; iexact H10
          isplitl [H11]
          · unfold owns; iexists _; isplitr
            swap; · iexact H11
            ipureintro; exact View.read_writes_of_cover _ _ _ _ _ (cover0_D_11 c _ _ _ _ _ _ _ _ _ _ _ _ _ _ _ _ _ _ _ _ _ _ _ _ _ _ _ _ _ _ _ _ _ _ _ _ _ _ _ _ _ _ _ _ _ _ _ _ _ _)
          isplitl [H12]
          · unfold owns; iexists _; isplitr
            swap; · iexact H12
            ipureintro; exact View.read_writes_of_cover _ _ _ _ _ (cover0_D_12 c _ _ _ _ _ _ _ _ _ _ _ _ _ _ _ _ _ _ _ _ _ _ _ _ _ _ _ _ _ _ _ _ _ _ _ _ _ _ _ _ _ _ _ _ _ _ _ _ _ _)
          isplitl [H13]
          · unfold owns; iexists _; isplitr
            swap; · iexact H13
            ipureintro; exact View.read_writes_of_cover _ _ _ _ _ (cover0_D_13 c _ _ _ _ _ _ _ _ _ _ _ _ _ _ _ _ _ _ _ _ _ _ _ _ _ _ _ _ _ _ _ _ _ _ _ _ _ _ _ _ _ _ _ _ _ _ _ _ _ _)
          isplitl [H14]
          · unfold owns; iexists _; isplitr
            swap; · iexact H14
            ipureintro; exact View.read_writes_of_cover _ _ _ _ _ (cover0_D_14 c _ _ _ _ _ _ _ _ _ _ _ _ _ _ _ _ _ _ _ _ _ _ _ _ _ _ _ _ _ _ _ _ _ _ _ _ _ _ _ _ _ _ _ _ _ _ _ _ _ _)
          iexists _; iexact H15
  · by_cases h1 : t.val % 16 = 0
    · exfalso; omega
    · by_cases h2 : t.val % 4 = 3
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        rw [show (dats m 0 c).leavesExact 10 t = owns (c : Thread nD τ) (ms0_10 t) fullShare ((dats m 0 c).after 10 t) from by
      unfold Dat.leavesExact; rw [liveAt0_10_C t (fun h => h0 ((hcond0_0 t).mp h)) (fun h => h1 ((hcond0_1 t).mp h)) ((hcond0_2 t).mpr h2)], after0_10]
        rw [show (dats m 0 c).leavesExact 11 t = owns (c : Thread nD τ) (ms0_11 t) fullShare ((dats m 0 c).after 11 t) from by
      unfold Dat.leavesExact; rw [liveAt0_11 t], after0_11]
        rw [show (dats m 0 c).leavesExact 12 t = owns (c : Thread nD τ) (ms0_12 t) fullShare ((dats m 0 c).after 12 t) from by
      unfold Dat.leavesExact; rw [liveAt0_12 t], after0_12]
        rw [show (dats m 0 c).leavesExact 13 t = owns (c : Thread nD τ) (ms0_13 t) fullShare ((dats m 0 c).after 13 t) from by
      unfold Dat.leavesExact; rw [liveAt0_13 t], after0_13]
        rw [show (dats m 0 c).leavesExact 14 t = owns (c : Thread nD τ) (ms0_14 t) fullShare ((dats m 0 c).after 14 t) from by
      unfold Dat.leavesExact; rw [idleAt0_14_C t (fun h => h0 ((hcond0_0 t).mp h)) (fun h => h1 ((hcond0_1 t).mp h)) ((hcond0_2 t).mpr h2), doFlush0_14_C t (fun h => h0 ((hcond0_0 t).mp h)) (fun h => h1 ((hcond0_1 t).mp h)) ((hcond0_2 t).mpr h2)], after0_14]
        rw [show (dats m 0 c).leavesExact 15 t = owns (c : Thread nD τ) (ms0_15 t) fullShare ((dats m 0 c).after 15 t) from by
      unfold Dat.leavesExact; rw [liveAt0_15_C t (fun h => h0 ((hcond0_0 t).mp h)) (fun h => h1 ((hcond0_1 t).mp h)) ((hcond0_2 t).mpr h2)], after0_15]
        by_cases hz : t.val = 0
        · exfalso; have hN : t.val < 16 := lt_of_lt_of_eq t.isLt (show cfg0.N = 16 from N_0); omega
        · rw [PhiS_castSucc m c t, PhiS_pos m c _ _ hz]
          rw [outsAt0_C m c t h0 h1 h2]; unfold at0_C
          simp only [before0_14_C m c t h0 h1 h2, before0_15_C m c t h0 h1 h2]
          unfold out0_C_10 out0_C_11 out0_C_12 out0_C_13 out0_C_14 out0_C_15 sout0_C_0 sout0_C_1; (try dsimp only)
          iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
          iapply ((kernelRun0_C c (grid0.coords t) _ _ _ _ _ _ _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) _ _ _ _).2.2.2.2.2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexists _; iexact H10
          isplitl [H11]; · iexists _; iexact H11
          isplitl [H12]; · iexists _; iexact H12
          isplitl [H13]; · iexists _; iexact H13
          isplitl [H14]; · iexact H14
          isplitl [H15]; · iexact H15
          isplitl [HS0]; · iexact HS0
          isplitl [HS1]; · iexact HS1
          iintro ⟨H0, H1, H2, H3, H4, H5, H6, H7, H8, H9, ⟨%e10, H10⟩, ⟨%e11, H11⟩, ⟨%e12, H12⟩, ⟨%e13, H13⟩, H14, H15, HS0, ⟨%es1, HS1⟩⟩
          isplitl [HS0 HS1 Hg]
          · isplitl [HS0 HS1]
            · isplitl [HS0]
              · iexact HS0
              unfold owns; iexists _; isplitr
              swap; · iexact HS1
              ipureintro; exact View.read_writes_of_cover _ _ _ _ _ (scover0_C_1 c _ _ _ _ _ _ _ _ _ _ _ _ _ _ _ _ _ _ _ _ _ _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]
          · unfold owns; iexists _; isplitr
            swap; · iexact H10
            ipureintro; exact View.read_writes_of_cover _ _ _ _ _ (cover0_C_10 c _ _ _ _ _ _ _ _ _ _ _ _ _ _ _ _ _ _ _ _ _ _ _ _ _ _ _ _ _ _ _ _ _ _ _ _ _ _ _ _ _ _ _ _ _ _ _ _ _ _ _ _ _ _)
          isplitl [H11]
          · unfold owns; iexists _; isplitr
            swap; · iexact H11
            ipureintro; exact View.read_writes_of_cover _ _ _ _ _ (cover0_C_11 c _ _ _ _ _ _ _ _ _ _ _ _ _ _ _ _ _ _ _ _ _ _ _ _ _ _ _ _ _ _ _ _ _ _ _ _ _ _ _ _ _ _ _ _ _ _ _ _ _ _ _ _ _ _)
          isplitl [H12]
          · unfold owns; iexists _; isplitr
            swap; · iexact H12
            ipureintro; exact View.read_writes_of_cover _ _ _ _ _ (cover0_C_12 c _ _ _ _ _ _ _ _ _ _ _ _ _ _ _ _ _ _ _ _ _ _ _ _ _ _ _ _ _ _ _ _ _ _ _ _ _ _ _ _ _ _ _ _ _ _ _ _ _ _ _ _ _ _)
          isplitl [H13]
          · unfold owns; iexists _; isplitr
            swap; · iexact H13
            ipureintro; exact View.read_writes_of_cover _ _ _ _ _ (cover0_C_13 c _ _ _ _ _ _ _ _ _ _ _ _ _ _ _ _ _ _ _ _ _ _ _ _ _ _ _ _ _ _ _ _ _ _ _ _ _ _ _ _ _ _ _ _ _ _ _ _ _ _ _ _ _ _)
          isplitl [H14]; · iexact H14
          unfold owns; iexists _; isplitr
          swap; · iexact H15
          ipureintro; rfl
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        rw [Dat.leavesExact_idle (dats m 0 c) 10 t (idleAt0_10_B t (fun h => h0 ((hcond0_0 t).mp h)) (fun h => h1 ((hcond0_1 t).mp h)) (fun h => h2 ((hcond0_2 t).mp h))) (noFlush0_10_B t (fun h => h0 ((hcond0_0 t).mp h)) (fun h => h1 ((hcond0_1 t).mp h)) (fun h => h2 ((hcond0_2 t).mp h)))]
        rw [show (dats m 0 c).leavesExact 11 t = owns (c : Thread nD τ) (ms0_11 t) fullShare ((dats m 0 c).after 11 t) from by
      unfold Dat.leavesExact; rw [liveAt0_11 t], after0_11]
        rw [show (dats m 0 c).leavesExact 12 t = owns (c : Thread nD τ) (ms0_12 t) fullShare ((dats m 0 c).after 12 t) from by
      unfold Dat.leavesExact; rw [liveAt0_12 t], after0_12]
        rw [show (dats m 0 c).leavesExact 13 t = owns (c : Thread nD τ) (ms0_13 t) fullShare ((dats m 0 c).after 13 t) from by
      unfold Dat.leavesExact; rw [liveAt0_13 t], after0_13]
        rw [Dat.leavesExact_idle (dats m 0 c) 14 t (idleAt0_14_B t (fun h => h0 ((hcond0_0 t).mp h)) (fun h => h1 ((hcond0_1 t).mp h)) (fun h => h2 ((hcond0_2 t).mp h))) (noFlush0_14_B t (fun h => h0 ((hcond0_0 t).mp h)) (fun h => h1 ((hcond0_1 t).mp h)) (fun h => h2 ((hcond0_2 t).mp h)))]
        rw [Dat.leavesExact_idle (dats m 0 c) 15 t (idleAt0_15_B t (fun h => h0 ((hcond0_0 t).mp h)) (fun h => h1 ((hcond0_1 t).mp h)) (fun h => h2 ((hcond0_2 t).mp h))) (noFlush0_15_B t (fun h => h0 ((hcond0_0 t).mp h)) (fun h => h1 ((hcond0_1 t).mp h)) (fun h => h2 ((hcond0_2 t).mp h)))]
        by_cases hz : t.val = 0
        · exfalso; have hN : t.val < 16 := lt_of_lt_of_eq t.isLt (show cfg0.N = 16 from N_0); omega
        · rw [PhiS_castSucc m c t, PhiS_pos m c _ _ hz]
          rw [outsAt0_B m c t h0 h1 h2]; unfold at0_B
          unfold out0_B_11 out0_B_12 out0_B_13 sout0_B_0 sout0_B_1; (try dsimp only)
          iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
          iapply ((kernelRun0_B c (grid0.coords t) _ _ _ _ _ _ _ _ _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) _ _).2.2.2.2.2.2.2.2 _ _ _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexists _; iexact H11
          isplitl [H12]; · iexists _; iexact H12
          isplitl [H13]; · iexists _; iexact H13
          isplitl [H14]; · iexact H14
          isplitl [H15]; · iexact H15
          isplitl [HS0]; · iexact HS0
          isplitl [HS1]; · iexact HS1
          iintro ⟨H0, H1, H2, H3, H4, H5, H6, H7, H8, H9, H10, ⟨%e11, H11⟩, ⟨%e12, H12⟩, ⟨%e13, H13⟩, H14, H15, HS0, ⟨%es1, HS1⟩⟩
          isplitl [HS0 HS1 Hg]
          · isplitl [HS0 HS1]
            · isplitl [HS0]
              · iexact HS0
              unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexists _; iexact H10
          isplitl [H11]
          · unfold owns; iexists _; isplitr
            swap; · iexact H11
            ipureintro; exact View.read_writes_of_cover _ _ _ _ _ (cover0_B_11 c _ _ _ _ _ _ _ _ _ _ _ _ _ _ _ _ _ _ _ _ _ _ _ _ _ _ _ _ _ _ _ _ _ _ _ _ _ _ _ _ _ _ _ _ _ _ _ _ _ _ _ _)
          isplitl [H12]
          · unfold owns; iexists _; isplitr
            swap; · iexact H12
            ipureintro; exact View.read_writes_of_cover _ _ _ _ _ (cover0_B_12 c _ _ _ _ _ _ _ _ _ _ _ _ _ _ _ _ _ _ _ _ _ _ _ _ _ _ _ _ _ _ _ _ _ _ _ _ _ _ _ _ _ _ _ _ _ _ _ _ _ _ _ _)
          isplitl [H13]
          · unfold owns; iexists _; isplitr
            swap; · iexact H13
            ipureintro; exact View.read_writes_of_cover _ _ _ _ _ (cover0_B_13 c _ _ _ _ _ _ _ _ _ _ _ _ _ _ _ _ _ _ _ _ _ _ _ _ _ _ _ _ _ _ _ _ _ _ _ _ _ _ _ _ _ _ _ _ _ _ _ _ _ _ _ _)
          isplitl [H14]; · iexists _; iexact H14
          iexists _; iexact H15

theorem defs₀_row (t : Fin cfg0.N) :
    defs₀ (F := F) .tc cfg0.body (cfg0.bodyArgs t (cfg0.slots t)) = bodyAt0 t := by
  unfold defs₀; rw [Defs.onTc_tc]

/-- The obligation of the pipeline on its body. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

theorem hout (c : Dev nD) : (dats m 0 c).Φ (Fin.last cfg0.N) ⊢ Pipeline.ΦA spec0 c :=
  Phi_out m c _ (by rw [Fin.val_last]; have : cfg0.N = 16 := N_0; omega)

set_option backward.isDefEq.respectTransparency.types false in
/-- The launch: the arrays at what the proof data say, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The launch without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame of the program, for any floats. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

/-- The run with every output array named and the arguments unchanged. -/
theorem run_blocks : θ_run defs (onTc (τ := τ) (main (F := F))) ⟨m, fun _ => 0, ρ⟩ fun r => ∀ c : Dev nD,
      r.2.mem ((c : Thread nD τ).loc main_v43_0) = (dats m 0 c).arrAt 10 cfg0.N
      ∧ r.2.mem ((c : Thread nD τ).loc main_v43_1) = (dats m 0 c).arrAt 11 cfg0.N
      ∧ r.2.mem ((c : Thread nD τ).loc main_v43_2) = (dats m 0 c).arrAt 12 cfg0.N
      ∧ r.2.mem ((c : Thread nD τ).loc main_v43_3) = (dats m 0 c).arrAt 13 cfg0.N
      ∧ r.2.mem ((c : Thread nD τ).loc main_v43_4) = (dats m 0 c).arrAt 14 cfg0.N
      ∧ r.2.mem ((c : Thread nD τ).loc main_v43_5) = (dats m 0 c).arrAt 15 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1 10,
      (h c).1 11,
      (h c).1 12,
      (h c).1 13,
      (h c).1 14,
      (h c).1 15,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 5).trans (((dats m 0 c).arrAt_in 5 rfl _).trans ((A_eq m c 5).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩)
    (run_main m ρ)

end Cert.Proof.Ffn

end
-- ==== Proof.FfnBits.lean ====
module

public import proofs.«01_k».proof.Defs
public import proofs.«01_k».proof.Proof.Gen.FfnKernel
public import proofs.«01_k».proof.Proof.FfnBody

@[expose] public section

set_option maxRecDepth 16384

noncomputable section

open Idealize.ShloMosaic Idealize.ShloMosaic.Tactic Idealize.SL.Sem

namespace Cert.Proof.Ffn

/-- The two printed texts are the same program, so the frame of the one is the frame of the other. -/
theorem frame_eq (m : (ℓ : Loc Cert.FfnKernel.nD Cert.FfnKernel.τ Cert.FfnKernel.sig) → Buf (Elt Bits) ℓ) (g : Dev Cert.FfnKernel.nD → PrngReg) :
    (θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4)
      ∧ r.2.mem ((c.tc : Thread Cert.FfnKernel.nD Cert.FfnKernel.τ).loc Cert.FfnKernel.main_arg5) = m ((c.tc : Thread Cert.FfnKernel.nD Cert.FfnKernel.τ).loc Cert.FfnKernel.main_arg5))
      ∧ r.2.sem = fun _ => 0)) =
    (θ_run (Cert.FfnKernelIdeal.defs (F := Bits)) (onTc (τ := Cert.FfnKernelIdeal.τ) (Cert.FfnKernelIdeal.main (F := Bits))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5))
      ∧ r.2.sem = fun _ => 0)) := by
  sl_kernel_rfl

theorem frame_bits : Cert.quiescent_FfnKernel (hFfnKernel := Cert.FfnKernel.Gen.facts) := fun m ρ _ =>
  (frame_eq m ρ).mpr (frame (F := Bits) m ρ)

end Cert.Proof.Ffn

end
-- ==== Proof.DwIn.lean ====
module

public import proofs.«01_k».proof.Defs
public import proofs.«01_k».proof.Proof.Gen.DwInKernelIdeal.Value
public import proofs.«01_k».proof.Proof.Gen.DwInReferenceIdeal.Run
public import proofs.«01_k».proof.Proof.Gen.DwInReferenceIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem Idealize.ShloMosaic.StableHlo
open Idealize.ShloMosaic.Pipeline (Dat)

namespace Cert.Proof.DwIn

open Cert.DwInKernelIdeal Cert.DwInKernelIdeal.Gen

variable (m : (ℓ : Loc nD τ sig) → Buf (Elt Ideal) ℓ)

/-- One block of the weight gradient: the tokens contracted. -/
theorem pay_at (a : FVec Ideal S1x2048x704 .bf16) (h : FVec Ideal S2048x1024 .bf16) (r : Fin 704) (n : Fin 1024) :
    k0_pay1 (F := Ideal) a h (ix3 0 r n) = ∑ k : Fin 2048, a (ix3 0 k r) * h (ix2 k n) := by
  unfold k0_pay1
  pointwise

/-- A block of the second half of the weight gradient: the tokens contracted. -/
theorem pay_at2 (a : FVec Ideal S1x2048x704 .bf16) (h : FVec Ideal S2048x1024 .bf16) (r : Fin 704) (n : Fin 1024) :
    k0_pay2 (F := Ideal) a h (ix3 0 r n) = ∑ k : Fin 2048, a (ix3 0 k r) * h (ix2 k n) := by
  unfold k0_pay2
  pointwise

theorem lhs_at (c : Dev nD) (j : Fin 4) (k : Fin 2048) (n : Fin 704) : V m c main_v3 (ix3 j k n) = m ((c : Thread nD τ).loc main_arg1) (ix2 k ⟨j.val * 704 + n.val, by omega⟩) := by
  unfold_abbrev_sides
  simp only [List.flatten_cons, List.flatten_nil, List.cons_append, List.nil_append, List.append_nil, StableHlo.after_cons, StableHlo.after_nil]
  after_results_simp
  pointwise
  try rfl

theorem lhs_at2 (c : Dev nD) (j : Fin 4) (k : Fin 2048) (n : Fin 704) : V m c main_v8 (ix3 j k n) = m ((c : Thread nD τ).loc main_arg1) (ix2 k ⟨2816 + (j.val * 704 + n.val), by omega⟩) := by
  unfold_abbrev_sides
  simp only [List.flatten_cons, List.flatten_nil, List.cons_append, List.nil_append, List.append_nil, StableHlo.after_cons, StableHlo.after_nil]
  after_results_simp
  pointwise
  try rfl

theorem rhs_at (c : Dev nD) (k : Fin 2048) (n : Fin 1024) : V m c main_v4 (ix2 k n) = m ((c : Thread nD τ).loc main_arg0) (ix2 k n) := by
  unfold_abbrev_sides
  simp only [List.flatten_cons, List.flatten_nil, List.cons_append, List.nil_append, List.append_nil, StableHlo.after_cons, StableHlo.after_nil]
  after_results_simp
  pointwise
  try rfl

open Cert.DwInReferenceIdeal.Read in
theorem ref_at (x0 : FVec Ideal S2048x1024 .f32) (x1 : FVec Ideal S2048x5632 .f32) (j : Fin 8) (r : Fin 704) (n : Fin 1024) :
    val_main_v6 (F := Ideal) x0 x1 (ix3 j r n) = ∑ k : Fin 2048, x1 (ix2 k ⟨j.val * 704 + r.val, by omega⟩) * x0 (ix2 k n) := by
  unfold val_main_v6 val_main_v5 val_main_v4 val_main_v3 val_main_v2
  pointwise
  try rfl

theorem idx0 : ∀ t : Fin grid0.N, win0_0.index t = ![min t.val 3, 0, 0] := by decide +kernel
theorem idx1 : ∀ t : Fin grid0.N, win0_1.index t = ![t.val - 4, 0, 0] := by decide +kernel
theorem idx2 : ∀ t : Fin grid0.N, win0_2.index t = ![0, 0] := by decide +kernel
theorem idx3 : ∀ t : Fin grid0.N, win0_3.index t = ![t.val, 0, 0] := by decide +kernel

theorem blk0 (c : Dev nD) (t : Fin cfg0.N) (j : Fin 4) (h : j.val = t.val) (k : Fin 2048) (n : Fin 704) :
    iblk m c 0 t (ix3 0 k n) = V m c main_v3 (ix3 j k n) := by
  refine congrArg (V m c main_v3) ?_
  have e : min t.val 3 = j.val := by omega
  blk_ext [idx0 t, e]

theorem blk1 (c : Dev nD) (t : Fin cfg0.N) (j : Fin 4) (h : 4 + j.val = t.val) (k : Fin 2048) (n : Fin 704) :
    iblk m c 1 t (ix3 0 k n) = V m c main_v8 (ix3 j k n) := by
  refine congrArg (V m c main_v8) ?_
  have e : t.val - 4 = j.val := by omega
  blk_ext [idx1 t, e]

theorem blk2 (c : Dev nD) (t : Fin cfg0.N) (k : Fin 2048) (n : Fin 1024) : iblk m c 2 t (ix2 k n) = V m c main_v4 (ix2 k n) := by
  refine congrArg (V m c main_v4) ?_
  blk_ext [idx2 t]

theorem mul_at (a : FVec Ideal S2048x5632 .f32) (h : EReal) (k : Fin 2048) (z z' : Fin 5632) (e : z.val = z'.val) :
    a (ix2 k z) * h = a (ix2 k z') * h := by
  rw [Fin.ext e]

open Cert.DwInReferenceIdeal.Read in
theorem final3 (c : Dev nD) : (dats m 0 c).arrAt 3 cfg0.N
    = val_main_v6 (F := Ideal) (m ((c : Thread nD τ).loc main_arg0)) (m ((c : Thread nD τ).loc main_arg1)) := by
  refine (dats m 0 c).arrAt_eq_of_covers 3 _ (by decide +kernel) fun t hf y => ?_
  blk_simp
  rw [after0_3]
  generalize ej : ((View.whole Cert.DwInKernelIdeal.main_v9).slice (win0_3.rect t)).emb y = j
  replace ej : ∀ a, (j a : ℕ) = (![t.val, y 1, y 2] : Fin 3 → ℕ) a := by
    intro a; subst ej; blk_simp [idx3 t]; match a with | ⟨0, _⟩ => simp | ⟨1, _⟩ => simp | ⟨2, _⟩ => simp
  change S1x704x1024.Idx at y
  change S8x704x1024.Idx at j
  idx_vars y
  idx_vars j
  have e0 : j0.val = t.val := ej 0
  obtain rfl : j1 = y1 := Fin.ext (ej 1)
  obtain rfl : j2 = y2 := Fin.ext (ej 2)
  obtain rfl : y0 = 0 := Fin.ext (by omega)
  rw [ref_at]
  by_cases g : t.val < 4
  · rw [outsAt0_A m c t g (by omega)]
    unfold out0_A_3
    frame_out
    refine (pay_at _ _ j1 j2).trans (Finset.sum_congr rfl fun k _ => ?_)
    rw [blk0 m c t ⟨j0.val, by omega⟩ e0, blk2, lhs_at, rhs_at]
  · rw [outsAt0_B m c t g (by omega)]
    unfold out0_B_3
    frame_out
    refine (pay_at2 _ _ j1 j2).trans (Finset.sum_congr rfl fun k _ => ?_)
    rw [blk1 m c t ⟨j0.val - 4, by omega⟩ (by dsimp only; omega), blk2, lhs_at2, rhs_at]
    exact mul_at _ _ k _ _ (by dsimp only; omega)

end Cert.Proof.DwIn

end
-- ==== Proof.DwOut.lean ====
module

public import proofs.«01_k».proof.Defs
public import proofs.«01_k».proof.Proof.Gen.DwOutKernelIdeal.Value
public import proofs.«01_k».proof.Proof.Gen.DwOutReferenceIdeal.Run
public import proofs.«01_k».proof.Proof.Gen.DwOutReferenceIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem Idealize.ShloMosaic.StableHlo
open Idealize.ShloMosaic.Pipeline (Dat)

namespace Cert.Proof.DwOut

open Cert.DwOutKernelIdeal Cert.DwOutKernelIdeal.Gen

variable (m : (ℓ : Loc nD τ sig) → Buf (Elt Ideal) ℓ)

/-- One block of the weight gradient: the tokens contracted. -/
theorem pay_at (a : FVec Ideal S1x2048x704 .bf16) (h : FVec Ideal S2048x1024 .bf16) (r : Fin 704) (n : Fin 1024) :
    k0_pay1 (F := Ideal) a h (ix3 0 r n) = ∑ k : Fin 2048, a (ix3 0 k r) * h (ix2 k n) := by
  unfold k0_pay1
  pointwise

theorem lhs_at (c : Dev nD) (j : Fin 4) (k : Fin 2048) (n : Fin 704) : V m c main_v2 (ix3 j k n) = m ((c : Thread nD τ).loc main_arg0) (ix2 k ⟨j.val * 704 + n.val, by omega⟩) := by
  unfold_abbrev_sides
  simp only [List.flatten_cons, List.flatten_nil, List.cons_append, List.nil_append, List.append_nil, StableHlo.after_cons, StableHlo.after_nil]
  after_results_simp
  pointwise
  try rfl

theorem rhs_at (c : Dev nD) (k : Fin 2048) (n : Fin 1024) : V m c main_v3 (ix2 k n) = m ((c : Thread nD τ).loc main_arg1) (ix2 k n) := by
  unfold_abbrev_sides
  simp only [List.flatten_cons, List.flatten_nil, List.cons_append, List.nil_append, List.append_nil, StableHlo.after_cons, StableHlo.after_nil]
  after_results_simp
  pointwise
  try rfl

open Cert.DwOutReferenceIdeal.Read in
theorem ref_at (x0 : FVec Ideal S2048x2816 .f32) (x1 : FVec Ideal S2048x1024 .f32) (j : Fin 4) (r : Fin 704) (n : Fin 1024) :
    val_main_v5 (F := Ideal) x0 x1 (ix3 j r n) = ∑ k : Fin 2048, x1 (ix2 k n) * x0 (ix2 k ⟨j.val * 704 + r.val, by omega⟩) := by
  unfold val_main_v5 val_main_v4 val_main_v3 val_main_v2
  pointwise
  try rfl

theorem idx0 : ∀ t : Fin grid0.N, win0_0.index t = ![t.val, 0, 0] := by decide +kernel
theorem idx1 : ∀ t : Fin grid0.N, win0_1.index t = ![0, 0] := by decide +kernel
theorem idx2 : ∀ t : Fin grid0.N, win0_2.index t = ![t.val, 0, 0] := by decide +kernel

theorem blk0 (c : Dev nD) (t : Fin cfg0.N) (k : Fin 2048) (n : Fin 704) :
    iblk m c 0 t (ix3 0 k n) = V m c main_v2 (ix3 ⟨t.val, t.isLt⟩ k n) := by
  refine congrArg (V m c main_v2) ?_
  blk_ext [idx0 t]

theorem blk1 (c : Dev nD) (t : Fin cfg0.N) (k : Fin 2048) (n : Fin 1024) : iblk m c 1 t (ix2 k n) = V m c main_v3 (ix2 k n) := by
  refine congrArg (V m c main_v3) ?_
  blk_ext [idx1 t]

theorem canon_out (p : FVec Ideal S1x704x1024 .bf16) :
    View.canon (Val := Elt Ideal) (e := .bf16) [⟨r0_2, p⟩] = p := by
  funext (i : S1x704x1024.Idx)
  rw [View.canon_cons_unit_lit (S := S1x704x1024) _ _ _ (by decide)]

theorem ld0 (x : Vec Ideal S1x2048x704 .bf16) : View.ld x r0_0 = x := View.ld_unit_lit (S := S1x2048x704) _ _ (by decide)

theorem ld1 (x : Vec Ideal S2048x1024 .bf16) : View.ld x r0_1 = x := View.ld_unit_lit (S := S2048x1024) _ _ (by decide)

open Cert.DwOutReferenceIdeal.Read in
theorem final2 (c : Dev nD) : (dats m 0 c).arrAt 2 cfg0.N
    = val_main_v5 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  generalize ej : ((View.whole Cert.DwOutKernelIdeal.main_v4).slice (win0_2.rect t)).emb y = j
  replace ej : ∀ a, (j a : ℕ) = (![t.val, y 1, y 2] : Fin 3 → ℕ) a := by
    intro a; subst ej; blk_simp [idx2 t]; match a with | ⟨0, _⟩ => simp | ⟨1, _⟩ => simp | ⟨2, _⟩ => simp
  change S1x704x1024.Idx at y
  change S4x704x1024.Idx at j
  idx_vars y
  idx_vars j
  obtain rfl : j0 = ⟨t.val, t.isLt⟩ := Fin.ext (ej 0)
  obtain rfl : j1 = y1 := Fin.ext (ej 1)
  obtain rfl : j2 = y2 := Fin.ext (ej 2)
  obtain rfl : y0 = 0 := Fin.ext (by omega)
  unfold out0_2
  rw [canon_out, ld0, ld1]
  refine (pay_at _ _ j1 j2).trans ((ref_at _ _ _ _ _).trans (Finset.sum_congr rfl fun k _ => ?_)).symm
  rw [blk0, blk1, lhs_at, rhs_at]
  exact mul_comm (G := EReal) _ _

end Cert.Proof.DwOut

end
-- ==== Proof.DwMixIn.lean ====
module

public import proofs.«01_k».proof.Defs
public import proofs.«01_k».proof.Proof.Gen.DwMixInKernelIdeal.Value
public import proofs.«01_k».proof.Proof.Gen.DwMixInReferenceIdeal.Run
public import proofs.«01_k».proof.Proof.Gen.DwMixInReferenceIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem Idealize.ShloMosaic.StableHlo
open Idealize.ShloMosaic.Pipeline (Dat)

namespace Cert.Proof.DwMixIn

open Cert.DwMixInKernelIdeal Cert.DwMixInKernelIdeal.Gen

variable (m : (ℓ : Loc nD τ sig) → Buf (Elt Ideal) ℓ)

/-- One block of the weight gradient: the tokens contracted. -/
theorem pay_at (a : FVec Ideal S1x2048x1792 .bf16) (h : FVec Ideal S2048x1024 .bf16) (r : Fin 1792) (n : Fin 1024) :
    k0_pay1 (F := Ideal) a h (ix3 0 r n) = ∑ k : Fin 2048, a (ix3 0 k r) * h (ix2 k n) := by
  unfold k0_pay1
  pointwise

theorem lhs_at (c : Dev nD) (j : Fin 1) (k : Fin 2048) (n : Fin 1792) : V m c main_v1 (ix3 j k n) = m ((c : Thread nD τ).loc main_arg1) (ix2 k n) := by
  unfold_abbrev_sides
  simp only [List.flatten_cons, List.flatten_nil, List.cons_append, List.nil_append, List.append_nil, StableHlo.after_cons, StableHlo.after_nil]
  after_results_simp
  pointwise
  try rfl

theorem rhs_at (c : Dev nD) (k : Fin 2048) (n : Fin 1024) : V m c main_v2 (ix2 k n) = m ((c : Thread nD τ).loc main_arg0) (ix2 k n) := by
  unfold_abbrev_sides
  simp only [List.flatten_cons, List.flatten_nil, List.cons_append, List.nil_append, List.append_nil, StableHlo.after_cons, StableHlo.after_nil]
  after_results_simp
  pointwise
  try rfl

open Cert.DwMixInReferenceIdeal.Read in
theorem ref_at (x0 : FVec Ideal S2048x1024 .f32) (x1 : FVec Ideal S2048x1792 .f32) (j : Fin 1) (r : Fin 1792) (n : Fin 1024) :
    val_main_v6 (F := Ideal) x0 x1 (ix3 j r n) = ∑ k : Fin 2048, x1 (ix2 k r) * x0 (ix2 k n) := by
  unfold val_main_v6 val_main_v5 val_main_v4 val_main_v3 val_main_v2
  pointwise
  try rfl

theorem idx0 : ∀ t : Fin grid0.N, win0_0.index t = ![0, 0, 0] := by decide +kernel
theorem idx1 : ∀ t : Fin grid0.N, win0_1.index t = ![0, 0] := by decide +kernel
theorem idx2 : ∀ t : Fin grid0.N, win0_2.index t = ![0, 0, 0] := by decide +kernel

theorem blk0 (c : Dev nD) (t : Fin cfg0.N) (k : Fin 2048) (n : Fin 1792) :
    iblk m c 0 t (ix3 0 k n) = V m c main_v1 (ix3 0 k n) := by
  refine congrArg (V m c main_v1) ?_
  blk_ext [idx0 t]

theorem blk1 (c : Dev nD) (t : Fin cfg0.N) (k : Fin 2048) (n : Fin 1024) : iblk m c 1 t (ix2 k n) = V m c main_v2 (ix2 k n) := by
  refine congrArg (V m c main_v2) ?_
  blk_ext [idx1 t]

theorem canon_out (p : FVec Ideal S1x1792x1024 .bf16) :
    View.canon (Val := Elt Ideal) (e := .bf16) [⟨r0_2, p⟩] = p := by
  funext (i : S1x1792x1024.Idx)
  rw [View.canon_cons_unit_lit (S := S1x1792x1024) _ _ _ (by decide)]

theorem ld0 (x : Vec Ideal S1x2048x1792 .bf16) : View.ld x r0_0 = x := View.ld_unit_lit (S := S1x2048x1792) _ _ (by decide)

theorem ld1 (x : Vec Ideal S2048x1024 .bf16) : View.ld x r0_1 = x := View.ld_unit_lit (S := S2048x1024) _ _ (by decide)

open Cert.DwMixInReferenceIdeal.Read in
theorem final2 (c : Dev nD) : (dats m 0 c).arrAt 2 cfg0.N
    = val_main_v6 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  generalize ej : ((View.whole Cert.DwMixInKernelIdeal.main_v3).slice (win0_2.rect t)).emb y = j
  replace ej : ∀ a, (j a : ℕ) = (![0, y 1, y 2] : Fin 3 → ℕ) a := by
    intro a; subst ej; blk_simp [idx2 t]; match a with | ⟨0, _⟩ => simp | ⟨1, _⟩ => simp | ⟨2, _⟩ => simp
  change S1x1792x1024.Idx at y
  change S1x1792x1024.Idx at j
  idx_vars y
  idx_vars j
  obtain rfl : j0 = 0 := Fin.ext (ej 0)
  obtain rfl : j1 = y1 := Fin.ext (ej 1)
  obtain rfl : j2 = y2 := Fin.ext (ej 2)
  obtain rfl : y0 = 0 := Fin.ext (by omega)
  unfold out0_2
  rw [canon_out, ld0, ld1]
  refine (pay_at _ _ j1 j2).trans ((ref_at _ _ _ _ _).trans (Finset.sum_congr rfl fun k _ => ?_)).symm
  rw [blk0, blk1, lhs_at, rhs_at]

end Cert.Proof.DwMixIn

end
-- ==== Proof.DwMixOut.lean ====
module

public import proofs.«01_k».proof.Defs
public import proofs.«01_k».proof.Proof.Gen.DwMixOutKernelIdeal.Value
public import proofs.«01_k».proof.Proof.Gen.DwMixOutReferenceIdeal.Run
public import proofs.«01_k».proof.Proof.Gen.DwMixOutReferenceIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem Idealize.ShloMosaic.StableHlo
open Idealize.ShloMosaic.Pipeline (Dat)

namespace Cert.Proof.DwMixOut

open Cert.DwMixOutKernelIdeal Cert.DwMixOutKernelIdeal.Gen

variable (m : (ℓ : Loc nD τ sig) → Buf (Elt Ideal) ℓ)

/-- One block of the weight gradient: the tokens contracted. -/
theorem pay_at (a : FVec Ideal S1x2048x1024 .bf16) (h : FVec Ideal S2048x1024 .bf16) (r : Fin 1024) (n : Fin 1024) :
    k0_pay1 (F := Ideal) a h (ix3 0 r n) = ∑ k : Fin 2048, a (ix3 0 k r) * h (ix2 k n) := by
  unfold k0_pay1
  pointwise

theorem lhs_at (c : Dev nD) (j : Fin 1) (k : Fin 2048) (n : Fin 1024) : V m c main_v1 (ix3 j k n) = m ((c : Thread nD τ).loc main_arg0) (ix2 k n) := by
  unfold_abbrev_sides
  simp only [List.flatten_cons, List.flatten_nil, List.cons_append, List.nil_append, List.append_nil, StableHlo.after_cons, StableHlo.after_nil]
  after_results_simp
  pointwise
  try rfl

theorem rhs_at (c : Dev nD) (k : Fin 2048) (n : Fin 1024) : V m c main_v2 (ix2 k n) = m ((c : Thread nD τ).loc main_arg1) (ix2 k n) := by
  unfold_abbrev_sides
  simp only [List.flatten_cons, List.flatten_nil, List.cons_append, List.nil_append, List.append_nil, StableHlo.after_cons, StableHlo.after_nil]
  after_results_simp
  pointwise
  try rfl

open Cert.DwMixOutReferenceIdeal.Read in
theorem ref_at (x0 : FVec Ideal S2048x1024 .f32) (x1 : FVec Ideal S2048x1024 .f32) (j : Fin 1) (r : Fin 1024) (n : Fin 1024) :
    val_main_v5 (F := Ideal) x0 x1 (ix3 j r n) = ∑ k : Fin 2048, x1 (ix2 k n) * x0 (ix2 k r) := by
  unfold val_main_v5 val_main_v4 val_main_v3 val_main_v2
  pointwise
  try rfl

theorem idx0 : ∀ t : Fin grid0.N, win0_0.index t = ![0, 0, 0] := by decide +kernel
theorem idx1 : ∀ t : Fin grid0.N, win0_1.index t = ![0, 0] := by decide +kernel
theorem idx2 : ∀ t : Fin grid0.N, win0_2.index t = ![0, 0, 0] := by decide +kernel

theorem blk0 (c : Dev nD) (t : Fin cfg0.N) (k : Fin 2048) (n : Fin 1024) :
    iblk m c 0 t (ix3 0 k n) = V m c main_v1 (ix3 0 k n) := by
  refine congrArg (V m c main_v1) ?_
  blk_ext [idx0 t]

theorem blk1 (c : Dev nD) (t : Fin cfg0.N) (k : Fin 2048) (n : Fin 1024) : iblk m c 1 t (ix2 k n) = V m c main_v2 (ix2 k n) := by
  refine congrArg (V m c main_v2) ?_
  blk_ext [idx1 t]

theorem canon_out (p : FVec Ideal S1x1024x1024 .bf16) :
    View.canon (Val := Elt Ideal) (e := .bf16) [⟨r0_2, p⟩] = p := by
  funext (i : S1x1024x1024.Idx)
  rw [View.canon_cons_unit_lit (S := S1x1024x1024) _ _ _ (by decide)]

theorem ld0 (x : Vec Ideal S1x2048x1024 .bf16) : View.ld x r0_0 = x := View.ld_unit_lit (S := S1x2048x1024) _ _ (by decide)

theorem ld1 (x : Vec Ideal S2048x1024 .bf16) : View.ld x r0_1 = x := View.ld_unit_lit (S := S2048x1024) _ _ (by decide)

open Cert.DwMixOutReferenceIdeal.Read in
theorem final2 (c : Dev nD) : (dats m 0 c).arrAt 2 cfg0.N
    = val_main_v5 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  generalize ej : ((View.whole Cert.DwMixOutKernelIdeal.main_v3).slice (win0_2.rect t)).emb y = j
  replace ej : ∀ a, (j a : ℕ) = (![0, y 1, y 2] : Fin 3 → ℕ) a := by
    intro a; subst ej; blk_simp [idx2 t]; match a with | ⟨0, _⟩ => simp | ⟨1, _⟩ => simp | ⟨2, _⟩ => simp
  change S1x1024x1024.Idx at y
  change S1x1024x1024.Idx at j
  idx_vars y
  idx_vars j
  obtain rfl : j0 = 0 := Fin.ext (ej 0)
  obtain rfl : j1 = y1 := Fin.ext (ej 1)
  obtain rfl : j2 = y2 := Fin.ext (ej 2)
  obtain rfl : y0 = 0 := Fin.ext (by omega)
  unfold out0_2
  rw [canon_out, ld0, ld1]
  refine (pay_at _ _ j1 j2).trans ((ref_at _ _ _ _ _).trans (Finset.sum_congr rfl fun k _ => ?_)).symm
  rw [blk0, blk1, lhs_at, rhs_at]
  exact mul_comm (G := EReal) _ _

end Cert.Proof.DwMixOut

end
-- ==== Proof.FfnFwdPay.lean ====
module

public import proofs.«01_k».proof.Proof.Gen.FfnFwdKernelIdeal.Skeleton
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.Proof.FfnFwd

open Cert.FfnFwdKernelIdeal Cert.FfnFwdKernelIdeal.Gen

/-- The logistic function, as the kernel writes it. -/
def sg (x : EReal) : EReal := Ideal.div 1 (1 + Ideal.exp (0 - x))
/-- One element of the gated activation. -/
def gact (a b : EReal) : EReal := a * sg a * b

section Elements
variable (w wb wo : FVec Ideal S1x704x1024 .bf16) (h : FVec Ideal S256x1024 .bf16) (acc : FVec Ideal S256x1024 .f32)
  (r : Fin 256) (n : Fin 704) (k : Fin 1024)

theorem a_lo : k0_pay8 (F := Ideal) w h (ix2 r n) = ∑ k : Fin 1024, h (ix2 r k) * w (ix3 0 n k) := by
  unfold k0_pay8 k0_pay5
  pointwise
theorem b_lo : k0_pay9 (F := Ideal) w h (ix2 r n) = ∑ k : Fin 1024, h (ix2 r k) * w (ix3 0 n k) := by
  unfold k0_pay9 k0_pay6
  pointwise
theorem a_hi : k0_pay14 (F := Ideal) (k0_pay5 w) h (ix2 r n) = ∑ k : Fin 1024, h (ix2 r k) * w (ix3 0 n k) := by
  unfold k0_pay14 k0_pay5
  pointwise
theorem b_hi : k0_pay15 (F := Ideal) (k0_pay6 w) h (ix2 r n) = ∑ k : Fin 1024, h (ix2 r k) * w (ix3 0 n k) := by
  unfold k0_pay15 k0_pay6
  pointwise
theorem a_lo3 : k0_pay10 (F := Ideal) w h (ix3 0 r n) = ∑ k : Fin 1024, h (ix2 r k) * w (ix3 0 n k) := by
  rw [← a_lo]
  unfold k0_pay10
  generalize k0_pay8 (F := Ideal) w h = p
  pointwise
theorem b_lo3 : k0_pay11 (F := Ideal) w h (ix3 0 r n) = ∑ k : Fin 1024, h (ix2 r k) * w (ix3 0 n k) := by
  rw [← b_lo]
  unfold k0_pay11
  generalize k0_pay9 (F := Ideal) w h = p
  pointwise
theorem a_hi3 : k0_pay16 (F := Ideal) (k0_pay5 w) h (ix3 0 r n) = ∑ k : Fin 1024, h (ix2 r k) * w (ix3 0 n k) := by
  rw [← a_hi]
  unfold k0_pay16
  generalize k0_pay14 (F := Ideal) (k0_pay5 w) h = p
  pointwise
theorem b_hi3 : k0_pay17 (F := Ideal) (k0_pay6 w) h (ix3 0 r n) = ∑ k : Fin 1024, h (ix2 r k) * w (ix3 0 n k) := by
  rw [← b_hi]
  unfold k0_pay17
  generalize k0_pay15 (F := Ideal) (k0_pay6 w) h = p
  pointwise
theorem act_lo : k0_pay12 (F := Ideal) w wb h (ix2 r n) = gact (k0_pay8 (F := Ideal) w h (ix2 r n)) (k0_pay9 (F := Ideal) wb h (ix2 r n)) := by
  unfold k0_pay12 gact sg
  generalize k0_pay8 (F := Ideal) w h = p
  generalize k0_pay9 (F := Ideal) wb h = q
  pointwise
theorem acc_lo : k0_pay13 (F := Ideal) (k0_pay7 wo) (k0_pay12 w wb h) acc (ix2 r k) = acc (ix2 r k)
    + ∑ n : Fin 704, gact (∑ k : Fin 1024, h (ix2 r k) * w (ix3 0 n k)) (∑ k : Fin 1024, h (ix2 r k) * wb (ix3 0 n k)) * wo (ix3 0 n k) := by
  simp only [← a_lo w h, ← b_lo wb h]
  simp only [← act_lo]
  generalize k0_pay12 (F := Ideal) w wb h = p
  unfold k0_pay13 k0_pay7
  pointwise
theorem acc_hi : k0_pay18 (F := Ideal) (k0_pay5 w) (k0_pay6 wb) (k0_pay7 wo) h acc (ix2 r k) = acc (ix2 r k)
    + ∑ n : Fin 704, gact (∑ k : Fin 1024, h (ix2 r k) * w (ix3 0 n k)) (∑ k : Fin 1024, h (ix2 r k) * wb (ix3 0 n k)) * wo (ix3 0 n k) := by
  simp only [← a_hi w h, ← b_hi wb h]
  unfold k0_pay18 gact sg
  generalize k0_pay14 (F := Ideal) (k0_pay5 w) h = p
  generalize k0_pay15 (F := Ideal) (k0_pay6 wb) h = q
  unfold k0_pay7
  pointwise

end Elements

section Norm
variable (x : FVec Ideal S512x1024 .f32) (g c0 c1 : FVec Ideal S1x1024 .f32) (r : Fin 512) (k : Fin 1024)
theorem h_at : k0_pay2 (F := Ideal) x g c0 c1 (ix2 r k) =
    x (ix2 r k) * Ideal.rsqrt (Ideal.div (∑ k : Fin 1024, x (ix2 r k) * x (ix2 r k)) (FloatOps.ofBits (F := Ideal) .f32 0x44800000#32) + FloatOps.ofBits (F := Ideal) .f32 0x358637BD#32)
      * g (ix2 0 k) * (FloatOps.ofBits (F := Ideal) .f32 0x3F800000#32 + c1 (ix2 0 k)) + c0 (ix2 0 k) := by
  unfold k0_pay2
  pointwise
theorem pay3_eq : k0_pay3 (F := Ideal) x g c0 c1 = k0_pay2 x g c0 c1 := by
  unfold k0_pay3
  generalize k0_pay2 (F := Ideal) x g c0 c1 = z
  funext i
  idx_vars i
  pointwise
theorem xo_at (f : FVec Ideal S512x1024 .f32) : k0_pay1 (F := Ideal) f x c0 (ix2 r k) = x (ix2 r k) + FloatOps.ofBits (F := Ideal) .f32 0x3F000000#32 * c0 (ix2 0 k) * f (ix2 r k) := by
  unfold k0_pay1
  pointwise
theorem zero_at : k0_pay4 (F := Ideal) (ix2 r k) = 0 := by
  unfold k0_pay4
  pointwise
end Norm

section Blocks

variable (h : FVec Ideal S512x1024 .bf16) (wa wb wo : FVec Ideal S1x704x1024 .bf16) (acc : FVec Ideal S512x1024 .f32)

/-- A tile of one of the two factors. -/
def Ba : FVec Ideal S1x512x704 .bf16 := fun i => ∑ k : Fin 1024, h (ix2 (i 1) k) * wa (ix3 0 (i 2) k)
/-- What a chunk adds to a tile of the block's output. -/
def Bacc : FVec Ideal S512x1024 .f32 := fun i => acc i + ∑ n : Fin 704, gact (Ba h wa (ix3 0 (i 0) n)) (Ba h wb (ix3 0 (i 0) n)) * wo (ix3 0 n (i 1))

/-- Row `r` of the second half of a tile. -/
def up (r : Fin 256) : Fin 512 := ⟨256 + r.val, by omega⟩
/-- Row `r` of the first half of a tile. -/
def lo (r : Fin 256) : Fin 512 := ⟨r.val, by omega⟩

theorem ld_up2 {e : EltTy} (x : S512x1024.Idx → Elt Ideal e) (r : Fin 256) (n : Fin 1024) :
    View.ld (Val := Elt Ideal) (e' := e) x (Rect.unit (s := S512x1024) ![256, 0] ![256, 1024] inb_S512x1024_S256x1024_256_0) (ix2 r n)
      = x (ix2 (up r) n) := by
  have he : (Rect.unit (s := S512x1024) ![256, 0] ![256, 1024] inb_S512x1024_S256x1024_256_0).emb (ix2 r n) = (ix2 (up r) n : S512x1024.Idx) := by
    unfold up
    blk_ext []
  exact congrArg x he
theorem ld_lo2 {e : EltTy} (x : S512x1024.Idx → Elt Ideal e) (r : Fin 256) (n : Fin 1024) :
    View.ld (Val := Elt Ideal) (e' := e) x (Rect.unit (s := S512x1024) ![0, 0] ![256, 1024] inb_S512x1024_S256x1024_0_0) (ix2 r n)
      = x (ix2 (lo r) n) := by
  have he : (Rect.unit (s := S512x1024) ![0, 0] ![256, 1024] inb_S512x1024_S256x1024_0_0).emb (ix2 r n) = (ix2 (lo r) n : S512x1024.Idx) := by
    unfold lo
    blk_ext []
  exact congrArg x he

/-- Two stores of half a tile each make the tile. -/
theorem two3 (P Q : FVec Ideal S1x256x704 .bf16) (G : FVec Ideal S1x512x704 .bf16)
    (hP : ∀ r n, P (ix3 0 r n) = G (ix3 0 (up r) n)) (hQ : ∀ r n, Q (ix3 0 r n) = G (ix3 0 (lo r) n)) :
    View.canon (Val := Elt Ideal) (s := S1x512x704) (e := .bf16)
      [⟨Rect.unit (s := S1x512x704) ![0, 256, 0] ![1, 256, 704] inb_S1x512x704_S1x256x704_0_256_0, P⟩,
       ⟨Rect.unit (s := S1x512x704) ![0, 0, 0] ![1, 256, 704] inb_S1x512x704_S1x256x704_0_0_0, Q⟩] = G := by
  funext y
  canon_tiles x h
  · change S1x256x704.Idx at x
    idx_vars x
    idx_vars y
    obtain rfl : y0 = 0 := Subsingleton.elim _ _
    obtain rfl : x0 = 0 := Subsingleton.elim _ _
    obtain rfl : y1 = up x1 := Fin.ext h1
    obtain rfl : y2 = x2 := Fin.ext (h2.trans (by simp))
    exact hP _ _
  · change S1x256x704.Idx at x
    idx_vars x
    idx_vars y
    obtain rfl : y0 = 0 := Subsingleton.elim _ _
    obtain rfl : x0 = 0 := Subsingleton.elim _ _
    obtain rfl : y1 = lo x1 := Fin.ext (h1.trans (by simp [lo]))
    obtain rfl : y2 = x2 := Fin.ext (h2.trans (by simp))
    exact hQ _ _

theorem two2 (P Q : FVec Ideal S256x1024 .f32) (G : FVec Ideal S512x1024 .f32)
    (hP : ∀ r n, P (ix2 r n) = G (ix2 (up r) n)) (hQ : ∀ r n, Q (ix2 r n) = G (ix2 (lo r) n)) :
    View.canon (Val := Elt Ideal) (s := S512x1024) (e := .f32)
      [⟨Rect.unit (s := S512x1024) ![256, 0] ![256, 1024] inb_S512x1024_S256x1024_256_0, P⟩,
       ⟨Rect.unit (s := S512x1024) ![0, 0] ![256, 1024] inb_S512x1024_S256x1024_0_0, Q⟩] = G := by
  funext y
  canon_tiles x h
  · change S256x1024.Idx at x
    idx_vars x
    idx_vars y
    obtain rfl : y0 = up x0 := Fin.ext h0
    obtain rfl : y1 = x1 := Fin.ext (h1.trans (by simp))
    exact hP _ _
  · change S256x1024.Idx at x
    idx_vars x
    idx_vars y
    obtain rfl : y0 = lo x0 := Fin.ext (h0.trans (by simp [lo]))
    obtain rfl : y1 = x1 := Fin.ext (h1.trans (by simp))
    exact hQ _ _

section Stores
variable {e : EltTy} (P : S256x1024.Idx → Elt Ideal e) (L : List (View.Piece (Elt Ideal) S512x1024 e)) (r : Fin 256) (n : Fin 1024)
theorem hit_up : View.canon (⟨Rect.unit (s := S512x1024) ![256, 0] ![256, 1024] inb_S512x1024_S256x1024_256_0, P⟩ :: L) (ix2 (up r) n) = P (ix2 r n) := by
  have he : (ix2 (up r) n : S512x1024.Idx) = (Rect.unit (s := S512x1024) ![256, 0] ![256, 1024] inb_S512x1024_S256x1024_256_0).emb (ix2 r n) := by
    unfold up
    blk_ext []
  rw [he, View.canon_cons_emb]
theorem hit_lo : View.canon (⟨Rect.unit (s := S512x1024) ![0, 0] ![256, 1024] inb_S512x1024_S256x1024_0_0, P⟩ :: L) (ix2 (lo r) n) = P (ix2 r n) := by
  have he : (ix2 (lo r) n : S512x1024.Idx) = (Rect.unit (s := S512x1024) ![0, 0] ![256, 1024] inb_S512x1024_S256x1024_0_0).emb (ix2 r n) := by
    unfold lo
    blk_ext []
  rw [he, View.canon_cons_emb]
theorem miss_up : View.canon (⟨Rect.unit (s := S512x1024) ![256, 0] ![256, 1024] inb_S512x1024_S256x1024_256_0, P⟩ :: L) (ix2 (lo r) n)
    = View.canon L (ix2 (lo r) n) := by
  refine View.canon_cons_of_not_mem _ _ fun hm => ?_
  have h0 := (Rect.mem_set_unit (inb := inb_S512x1024_S256x1024_256_0) (i := (ix2 (lo r) n : S512x1024.Idx)).mp hm) (0 : Fin 2)
  have l : 256 ≤ r.val := h0.1
  omega
theorem miss_lo : View.canon (⟨Rect.unit (s := S512x1024) ![0, 0] ![256, 1024] inb_S512x1024_S256x1024_0_0, P⟩ :: L) (ix2 (up r) n)
    = View.canon L (ix2 (up r) n) := by
  refine View.canon_cons_of_not_mem _ _ fun hm => ?_
  have h0 := (Rect.mem_set_unit (inb := inb_S512x1024_S256x1024_0_0) (i := (ix2 (up r) n : S512x1024.Idx)).mp hm) (0 : Fin 2)
  have l : 256 + r.val < 0 + 256 := h0.2
  omega
theorem whole_only (Z : S512x1024.Idx → Elt Ideal e) :
    View.canon [⟨Rect.unit (s := S512x1024) ![0, 0] ![512, 1024] inb_S512x1024_S512x1024_0_0, Z⟩] = Z :=
  View.canon_cons_unit_lit (S := S512x1024) _ _ _ (by decide)
end Stores

theorem halves (r : Fin 512) : (∃ q, r = up q) ∨ ∃ q, r = lo q := by
  by_cases hr : r.val < 256
  · exact .inr ⟨⟨r.val, hr⟩, rfl⟩
  · exact .inl ⟨⟨r.val - 256, by omega⟩, Fin.ext (show r.val = 256 + (r.val - 256) by omega)⟩

/-- The same with what the buffer held before, which the two stores hide. -/
theorem two2' (P Q : FVec Ideal S256x1024 .f32) (Z : FVec Ideal S512x1024 .f32) (G : FVec Ideal S512x1024 .f32)
    (hP : ∀ r n, P (ix2 r n) = G (ix2 (up r) n)) (hQ : ∀ r n, Q (ix2 r n) = G (ix2 (lo r) n)) :
    View.canon (Val := Elt Ideal) (s := S512x1024) (e := .f32)
      [⟨Rect.unit (s := S512x1024) ![256, 0] ![256, 1024] inb_S512x1024_S256x1024_256_0, P⟩,
       ⟨Rect.unit (s := S512x1024) ![0, 0] ![256, 1024] inb_S512x1024_S256x1024_0_0, Q⟩,
       ⟨Rect.unit (s := S512x1024) ![0, 0] ![512, 1024] inb_S512x1024_S512x1024_0_0, Z⟩] = G := by
  funext y
  idx_vars y
  rcases halves y0 with ⟨q, rfl⟩ | ⟨q, rfl⟩
  · exact (hit_up (e := .f32) P _ q y1).trans (hP _ _)
  · exact (miss_up (e := .f32) P _ q y1).trans ((hit_lo (e := .f32) Q _ q y1).trans (hQ _ _))

/-- A whole load after the two halves were stored reads the two halves. -/
theorem rc_all {κ : Kind} {sp : Space} {e : EltTy} (v : View sig κ sp S512x1024 e) (P Q : S256x1024.Idx → Elt Ideal e) :
    v.readCov [⟨Rect.unit (s := S512x1024) ![256, 0] ![256, 1024] inb_S512x1024_S256x1024_256_0, P⟩, ⟨Rect.unit (s := S512x1024) ![0, 0] ![256, 1024] inb_S512x1024_S256x1024_0_0, Q⟩]
      (Rect.unit (s := S512x1024) ![0, 0] ![512, 1024] inb_S512x1024_S512x1024_0_0).toLoadRect
    = View.canon (Val := Elt Ideal) (s := S512x1024) (e := e) [⟨Rect.unit (s := S512x1024) ![256, 0] ![256, 1024] inb_S512x1024_S256x1024_256_0, P⟩, ⟨Rect.unit (s := S512x1024) ![0, 0] ![256, 1024] inb_S512x1024_S256x1024_0_0, Q⟩] := by
  rw [View.readCov_eq_canon']
  funext i
  have he : (Rect.unit (s := S512x1024) ![0, 0] ![512, 1024] inb_S512x1024_S512x1024_0_0).emb i = i := by
    idx_vars i
    blk_ext []
  exact congrArg (View.canon _) he

section Reads
variable {κ : Kind} {sp : Space} {e : EltTy} (v : View sig κ sp S512x1024 e) (Z : S512x1024.Idx → Elt Ideal e) (r : Fin 256) (n : Fin 1024)
theorem rc_up : v.readCov [⟨Rect.unit (s := S512x1024) ![0, 0] ![512, 1024] inb_S512x1024_S512x1024_0_0, Z⟩]
    (Rect.unit (s := S512x1024) ![256, 0] ![256, 1024] inb_S512x1024_S256x1024_256_0).toLoadRect (ix2 r n) = Z (ix2 (up r) n) := by
  rw [View.readCov_fill v _ Z _ _ (by decide)]
  exact ld_up2 Z r n
theorem rc_lo : v.readCov [⟨Rect.unit (s := S512x1024) ![0, 0] ![512, 1024] inb_S512x1024_S512x1024_0_0, Z⟩]
    (Rect.unit (s := S512x1024) ![0, 0] ![256, 1024] inb_S512x1024_S256x1024_0_0).toLoadRect (ix2 r n) = Z (ix2 (lo r) n) := by
  rw [View.readCov_fill v _ Z _ _ (by decide)]
  exact ld_lo2 Z r n
theorem rc_up' (P : S256x1024.Idx → Elt Ideal e) : v.readCov [⟨Rect.unit (s := S512x1024) ![0, 0] ![256, 1024] inb_S512x1024_S256x1024_0_0, P⟩,
      ⟨Rect.unit (s := S512x1024) ![0, 0] ![512, 1024] inb_S512x1024_S512x1024_0_0, Z⟩]
    (Rect.unit (s := S512x1024) ![256, 0] ![256, 1024] inb_S512x1024_S256x1024_256_0).toLoadRect (ix2 r n) = Z (ix2 (up r) n) := by
  rw [View.readCov_eq_canon']
  have he : (Rect.unit (s := S512x1024) ![256, 0] ![256, 1024] inb_S512x1024_S256x1024_256_0).emb (ix2 r n) = (ix2 (up r) n : S512x1024.Idx) := by
    unfold up
    blk_ext []
  refine (congrArg (View.canon _) he).trans ((miss_lo P _ r n).trans (congrFun (whole_only Z) _))
end Reads

section Stores3
variable (H1 H0 : FVec Ideal S256x1024 .bf16) (hH1 : ∀ r n, H1 (ix2 r n) = h (ix2 (up r) n)) (hH0 : ∀ r n, H0 (ix2 r n) = h (ix2 (lo r) n))
include hH1 hH0
theorem a_blk :
    View.canon (Val := Elt Ideal) (s := S1x512x704) (e := .bf16)
      [⟨Rect.unit (s := S1x512x704) ![0, 256, 0] ![1, 256, 704] inb_S1x512x704_S1x256x704_0_256_0, k0_pay16 (F := Ideal) (k0_pay5 wa) H1⟩,
       ⟨Rect.unit (s := S1x512x704) ![0, 0, 0] ![1, 256, 704] inb_S1x512x704_S1x256x704_0_0_0, k0_pay10 (F := Ideal) wa H0⟩]
    = Ba h wa := by
  refine two3 _ _ _ (fun r n => ?_) (fun r n => ?_)
  · rw [a_hi3]; simp only [hH1]; rfl
  · rw [a_lo3]; simp only [hH0]; rfl
theorem b_blk :
    View.canon (Val := Elt Ideal) (s := S1x512x704) (e := .bf16)
      [⟨Rect.unit (s := S1x512x704) ![0, 256, 0] ![1, 256, 704] inb_S1x512x704_S1x256x704_0_256_0, k0_pay17 (F := Ideal) (k0_pay6 wb) H1⟩,
       ⟨Rect.unit (s := S1x512x704) ![0, 0, 0] ![1, 256, 704] inb_S1x512x704_S1x256x704_0_0_0, k0_pay11 (F := Ideal) wb H0⟩]
    = Ba h wb := by
  refine two3 _ _ _ (fun r n => ?_) (fun r n => ?_)
  · rw [b_hi3]; simp only [hH1]; rfl
  · rw [b_lo3]; simp only [hH0]; rfl
variable (A1 A0 : FVec Ideal S256x1024 .f32) (hA1 : ∀ r n, A1 (ix2 r n) = acc (ix2 (up r) n)) (hA0 : ∀ r n, A0 (ix2 r n) = acc (ix2 (lo r) n))
include hA1 hA0
theorem acc_blk :
    View.canon (Val := Elt Ideal) (s := S512x1024) (e := .f32)
      [⟨Rect.unit (s := S512x1024) ![256, 0] ![256, 1024] inb_S512x1024_S256x1024_256_0, k0_pay18 (F := Ideal) (k0_pay5 wa) (k0_pay6 wb) (k0_pay7 wo) H1 A1⟩,
       ⟨Rect.unit (s := S512x1024) ![0, 0] ![256, 1024] inb_S512x1024_S256x1024_0_0, k0_pay13 (F := Ideal) (k0_pay7 wo) (k0_pay12 wa wb H0) A0⟩]
    = Bacc h wa wb wo acc := by
  refine two2 _ _ _ (fun r n => ?_) (fun r n => ?_)
  · rw [acc_hi, hA1]; simp only [hH1]; rfl
  · rw [acc_lo, hA0]; simp only [hH0]; rfl
theorem acc_blk' (Z : FVec Ideal S512x1024 .f32) :
    View.canon (Val := Elt Ideal) (s := S512x1024) (e := .f32)
      [⟨Rect.unit (s := S512x1024) ![256, 0] ![256, 1024] inb_S512x1024_S256x1024_256_0, k0_pay18 (F := Ideal) (k0_pay5 wa) (k0_pay6 wb) (k0_pay7 wo) H1 A1⟩,
       ⟨Rect.unit (s := S512x1024) ![0, 0] ![256, 1024] inb_S512x1024_S256x1024_0_0, k0_pay13 (F := Ideal) (k0_pay7 wo) (k0_pay12 wa wb H0) A0⟩,
       ⟨Rect.unit (s := S512x1024) ![0, 0] ![512, 1024] inb_S512x1024_S512x1024_0_0, Z⟩]
    = Bacc h wa wb wo acc := by
  refine two2' _ _ _ _ (fun r n => ?_) (fun r n => ?_)
  · rw [acc_hi, hA1]; simp only [hH1]; rfl
  · rw [acc_lo, hA0]; simp only [hH0]; rfl
end Stores3

end Blocks

end Cert.Proof.FfnFwd

end
-- ==== Proof.FfnFwdFacts.lean ====
module

public import proofs.«01_k».proof.Proof.Gen.FfnFwdKernelIdeal.Skeleton
public import proofs.«01_k».proof.Proof.Gen.FfnFwdKernelIdeal.Frame
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.Proof.FfnFwd

open Cert.FfnFwdKernelIdeal Cert.FfnFwdKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Branch condition 0 of the body at a grid point. -/
abbrev cond0_0 (i : grid0.Coords) : Prop := k0_cond1 i = 1#1
/-- Branch condition 0 in closed form over the points. -/
theorem hcond0_0 : ∀ t : Fin cfg0.N, cond0_0 (grid0.coords t) ↔ t.val % 4 = 0 :=
  (fun t => by
    have ht : t.val < 16 := Nat.lt_of_lt_of_eq t.isLt N_0
    have e0 : (grid0.coords t 0).val = t.val / 4 % 4 := Pipeline.Grid.coords_val t 0 (by decide) rfl
    have e1 : (grid0.coords t 1).val = t.val / 1 % 4 := Pipeline.Grid.coords_val t 1 (by decide) rfl
    simp only [cond0_0, k0_cond1, e0, e1]
    word_cmp
   : ∀ t : Fin grid0.N, cond0_0 (grid0.coords t) ↔ t.val % 4 = 0)

/-- Branch condition 1 of the body at a grid point. -/
abbrev cond0_1 (i : grid0.Coords) : Prop := k0_cond2 i = 1#1
/-- Branch condition 1 in closed form over the points. -/
theorem hcond0_1 : ∀ t : Fin cfg0.N, cond0_1 (grid0.coords t) ↔ t.val % 4 = 3 :=
  (fun t => by
    have ht : t.val < 16 := Nat.lt_of_lt_of_eq t.isLt N_0
    have e0 : (grid0.coords t 0).val = t.val / 4 % 4 := Pipeline.Grid.coords_val t 0 (by decide) rfl
    have e1 : (grid0.coords t 1).val = t.val / 1 % 4 := Pipeline.Grid.coords_val t 1 (by decide) rfl
    simp only [cond0_1, k0_cond2, e0, e1]
    word_cmp
   : ∀ t : Fin grid0.N, cond0_1 (grid0.coords t) ↔ t.val % 4 = 3)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_8 : ∀ t : Fin cfg0.N, cfg0.idle 8 (grid0.coords t) = false := fun _ => rfl
theorem liveAt0_9 : ∀ t : Fin cfg0.N, cfg0.idle 9 (grid0.coords t) = false := fun _ => rfl
theorem idleAt0_6_A : ∀ t : Fin cfg0.N, cond0_0 (grid0.coords t) → ¬cond0_1 (grid0.coords t) → cfg0.idle 6 (grid0.coords t) = true := by decide +kernel
theorem noFlush0_6_A : ∀ t : Fin cfg0.N, cond0_0 (grid0.coords t) → ¬cond0_1 (grid0.coords t) → (cfg0.win 6).flush t = false := by decide +kernel
theorem idleAt0_6_B : ∀ t : Fin cfg0.N, ¬cond0_0 (grid0.coords t) → ¬cond0_1 (grid0.coords t) → cfg0.idle 6 (grid0.coords t) = true := by decide +kernel
theorem noFlush0_6_B : ∀ t : Fin cfg0.N, ¬cond0_0 (grid0.coords t) → ¬cond0_1 (grid0.coords t) → (cfg0.win 6).flush t = false := by decide +kernel
theorem liveAt0_6_C : ∀ t : Fin cfg0.N, ¬cond0_0 (grid0.coords t) → cond0_1 (grid0.coords t) → cfg0.idle 6 (grid0.coords t) = false := by decide +kernel
theorem idleAt0_7_A : ∀ t : Fin cfg0.N, cond0_0 (grid0.coords t) → ¬cond0_1 (grid0.coords t) → cfg0.idle 7 (grid0.coords t) = true := by decide +kernel
theorem noFlush0_7_A : ∀ t : Fin cfg0.N, cond0_0 (grid0.coords t) → ¬cond0_1 (grid0.coords t) → (cfg0.win 7).flush t = false := by decide +kernel
theorem idleAt0_7_B : ∀ t : Fin cfg0.N, ¬cond0_0 (grid0.coords t) → ¬cond0_1 (grid0.coords t) → cfg0.idle 7 (grid0.coords t) = true := by decide +kernel
theorem noFlush0_7_B : ∀ t : Fin cfg0.N, ¬cond0_0 (grid0.coords t) → ¬cond0_1 (grid0.coords t) → (cfg0.win 7).flush t = false := by decide +kernel
theorem liveAt0_7_C : ∀ t : Fin cfg0.N, ¬cond0_0 (grid0.coords t) → cond0_1 (grid0.coords t) → cfg0.idle 7 (grid0.coords t) = false := by decide +kernel
/-- The positions at which the buffer of output 10 holds nothing the body stored. -/
def freshTab0_10 : ℕ → Bool
  | 0 => true
  | n + 1 => (0x8888 : ℕ).testBit n
theorem freshTab0_10_step : ∀ t : Fin cfg0.N,
    freshTab0_10 (t.val + 1) = ((cfg0.win 10).flush t || (cfg0.idle 10 (cfg0.grid.coords t) && freshTab0_10 t.val)) := by decide +kernel
theorem fresh0_10_eq (t : Fin cfg0.N) : cfg0.fresh 10 t.val = freshTab0_10 t.val :=
  Pipeline.Cfg.fresh_tab cfg0 10 freshTab0_10 rfl freshTab0_10_step t.val (Nat.le_of_lt t.isLt)
theorem liveAt0_10_A : ∀ t : Fin cfg0.N, cond0_0 (grid0.coords t) → ¬cond0_1 (grid0.coords t) → cfg0.idle 10 (grid0.coords t) = false := by decide +kernel
theorem idleAt0_10_B : ∀ t : Fin cfg0.N, ¬cond0_0 (grid0.coords t) → ¬cond0_1 (grid0.coords t) → cfg0.idle 10 (grid0.coords t) = true := by decide +kernel
theorem noFlush0_10_B : ∀ t : Fin cfg0.N, ¬cond0_0 (grid0.coords t) → ¬cond0_1 (grid0.coords t) → (cfg0.win 10).flush t = false := by decide +kernel
theorem idleAt0_10_C : ∀ t : Fin cfg0.N, ¬cond0_0 (grid0.coords t) → cond0_1 (grid0.coords t) → cfg0.idle 10 (grid0.coords t) = true := by decide +kernel
theorem doFlush0_10_C : ∀ t : Fin cfg0.N, ¬cond0_0 (grid0.coords t) → cond0_1 (grid0.coords t) → (cfg0.win 10).flush t = true := by decide +kernel
theorem notFresh0_10_C : ∀ t : Fin cfg0.N, ¬cond0_0 (grid0.coords t) → cond0_1 (grid0.coords t) → cfg0.fresh 10 t.val = false := by
  intro t; rw [fresh0_10_eq t]; revert t; decide +kernel

abbrev VO0_6 : View sig .tc .vmem S512x1024 .f32 := (Memref.whole cc0_stg6_0 : Memref sig .tc .vmem S512x1024 .f32).view
abbrev VO0_7 : View sig .tc .vmem S512x1024 .f32 := (Memref.whole cc0_stg7_0 : Memref sig .tc .vmem S512x1024 .f32).view
abbrev VO0_8 : View sig .tc .vmem S1x512x704 .bf16 := (Memref.whole cc0_stg8_0 : Memref sig .tc .vmem S1x512x704 .bf16).view
abbrev VO0_9 : View sig .tc .vmem S1x512x704 .bf16 := (Memref.whole cc0_stg9_0 : Memref sig .tc .vmem S1x512x704 .bf16).view
abbrev VO0_10 : View sig .tc .vmem S512x1024 .bf16 := (Memref.whole cc0_stg10_0 : Memref sig .tc .vmem S512x1024 .bf16).view
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x704x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x704x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x704x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x512x704 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x512x704 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S512x1024 .bf16 := win0_10.stage (cfg0.slots t 10)
abbrev hs0_10 (t : Fin cfg0.N) : (ms0_10 t).IsWhole := hstage0_10 ((cfg0.slots t 10).cast nbuf0_10)
abbrev scM0_0 : Memref sig .tc .vmem S512x1024 .bf16 := Memref.whole cc0_scratch0
abbrev scM0_1 : Memref sig .tc .vmem S512x1024 .f32 := Memref.whole cc0_scratch1
abbrev VS0_0 : View sig .tc .vmem S512x1024 .bf16 := scM0_0.view
abbrev VS0_1 : View sig .tc .vmem S512x1024 .f32 := scM0_1.view

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Proof.FfnFwd

end
-- ==== Proof.FfnFwdRunA.lean ====
module

public import proofs.«01_k».proof.Proof.FfnFwdFacts

@[expose] public section

set_option maxRecDepth 16384

noncomputable section

namespace Cert.Proof.FfnFwd

open Cert.FfnFwdKernelIdeal Cert.FfnFwdKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body run in case A: the pieces each buffer ends with, and the triple. -/
noncomputable def kernelRun0_A (c : Dev nD) (i : grid0.Coords) (arg2 : Memref sig .tc .vmem S512x1024 .f32) (harg2 : arg2.IsWhole) (arg3 : Memref sig .tc .vmem S3x1024 .f32) (harg3 : arg3.IsWhole) (arg4 : Memref sig .tc .vmem S1x1024 .f32) (harg4 : arg4.IsWhole) (arg5 : Memref sig .tc .vmem S1x704x1024 .bf16) (harg5 : arg5.IsWhole) (arg6 : Memref sig .tc .vmem S1x704x1024 .bf16) (harg6 : arg6.IsWhole) (arg7 : Memref sig .tc .vmem S1x704x1024 .bf16) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1x512x704 .bf16) (harg10 : arg10.IsWhole) (arg11 : Memref sig .tc .vmem S1x512x704 .bf16) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S512x1024 .f32) (harg14 : arg14.IsWhole) (hc0 : cond0_0 i) (hc1 : ¬cond0_1 i)
    (x0 : Vec F S512x1024 .f32) (x1 : Vec F S3x1024 .f32) (x2 : Vec F S1x1024 .f32) (x3 : Vec F S1x704x1024 .bf16) (x4 : Vec F S1x704x1024 .bf16) (x5 : Vec F S1x704x1024 .bf16) :
    Σ' (L6 : List (View.Piece (Elt F) S512x1024 .f32)), Σ' (L7 : List (View.Piece (Elt F) S512x1024 .f32)), Σ' (L8 : List (View.Piece (Elt F) S1x512x704 .bf16)), Σ' (L9 : List (View.Piece (Elt F) S1x512x704 .bf16)), Σ' (L10 : List (View.Piece (Elt F) S512x1024 .bf16)), Σ' (LS0 : List (View.Piece (Elt F) S512x1024 .bf16)), { LS1 : List (View.Piece (Elt F) S512x1024 .f32) //
      ∀ (xi6 : Vec F S512x1024 .f32) (xi7 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc0_ffn_fwd i arg2 harg2 arg3 harg3 arg4 harg4 arg5 harg5 arg6 harg6 arg7 harg7 arg8 harg8 arg9 harg9 arg10 harg10 arg11 harg11 arg12 harg12 arg13 harg13 arg14 harg14) K } := by
  refine ⟨[], [], ?_, ?_, ?_, ?_, ?_, fun xi6 xi7 E K => ?run⟩
  case run =>
    simp only [cc0_ffn_fwd_eq_skeleton]; unfold cc0_ffn_fwd_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [H10]; · iexists _; iexact H10
    isplitl [HS0]; · iexists _; iexact HS0
    iexists _; iexact HS1

end Cert.Proof.FfnFwd

end
-- ==== Proof.FfnFwdRunB.lean ====
module

public import proofs.«01_k».proof.Proof.FfnFwdRunA

@[expose] public section

set_option maxRecDepth 16384

noncomputable section

namespace Cert.Proof.FfnFwd

open Cert.FfnFwdKernelIdeal Cert.FfnFwdKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body run in case B: the pieces each buffer ends with, and the triple. -/
noncomputable def kernelRun0_B (c : Dev nD) (i : grid0.Coords) (arg2 : Memref sig .tc .vmem S512x1024 .f32) (harg2 : arg2.IsWhole) (arg3 : Memref sig .tc .vmem S3x1024 .f32) (harg3 : arg3.IsWhole) (arg4 : Memref sig .tc .vmem S1x1024 .f32) (harg4 : arg4.IsWhole) (arg5 : Memref sig .tc .vmem S1x704x1024 .bf16) (harg5 : arg5.IsWhole) (arg6 : Memref sig .tc .vmem S1x704x1024 .bf16) (harg6 : arg6.IsWhole) (arg7 : Memref sig .tc .vmem S1x704x1024 .bf16) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1x512x704 .bf16) (harg10 : arg10.IsWhole) (arg11 : Memref sig .tc .vmem S1x512x704 .bf16) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S512x1024 .f32) (harg14 : arg14.IsWhole) (hc0 : ¬cond0_0 i) (hc1 : ¬cond0_1 i)
    (x0 : Vec F S512x1024 .f32) (x1 : Vec F S3x1024 .f32) (x2 : Vec F S1x1024 .f32) (x3 : Vec F S1x704x1024 .bf16) (x4 : Vec F S1x704x1024 .bf16) (x5 : Vec F S1x704x1024 .bf16) (xs0 : Vec F S512x1024 .bf16) (xs1 : Vec F S512x1024 .f32) :
    Σ' (L6 : List (View.Piece (Elt F) S512x1024 .f32)), Σ' (L7 : List (View.Piece (Elt F) S512x1024 .f32)), Σ' (L8 : List (View.Piece (Elt F) S1x512x704 .bf16)), Σ' (L9 : List (View.Piece (Elt F) S1x512x704 .bf16)), Σ' (L10 : List (View.Piece (Elt F) S512x1024 .bf16)), Σ' (LS0 : List (View.Piece (Elt F) S512x1024 .bf16)), { LS1 : List (View.Piece (Elt F) S512x1024 .f32) //
      ∀ (xi6 : Vec F S512x1024 .f32) (xi7 : Vec F S512x1024 .f32) (xi10 : Vec F S512x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ d, owns (c : Thread nD τ) arg10 fullShare d) ∗ (∃ d, owns (c : Thread nD τ) arg11 fullShare d) ∗ owns (c : Thread nD τ) arg12 fullShare xi10 ∗ owns (c : Thread nD τ) arg13 fullShare xs0 ∗ owns (c : Thread nD τ) arg14 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ owns (c : Thread nD τ) arg12 fullShare xi10 ∗ owns (c : Thread nD τ) arg13 fullShare xs0 ∗ (∃ f, arg14.view.loc (c : Thread nD τ) ↦[arg14.view.set]{fullShare} arg14.view.writes (Elt F) f LS1)) -∗ K ⟨⟩))
          ⊢ wp frame (wpE (defs₀ (F := F)) Variants.none c none) E (cc0_ffn_fwd i arg2 harg2 arg3 harg3 arg4 harg4 arg5 harg5 arg6 harg6 arg7 harg7 arg8 harg8 arg9 harg9 arg10 harg10 arg11 harg11 arg12 harg12 arg13 harg13 arg14 harg14) K } := by
  refine ⟨[], [], ?_, ?_, [], [], ?_, fun xi6 xi7 xi10 E K => ?run⟩
  case run =>
    simp only [cc0_ffn_fwd_eq_skeleton]; unfold cc0_ffn_fwd_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg12.eq_unread hf10; obtain rfl := harg13.eq_unread hfs0; obtain rfl := harg14.eq_unread hfs1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [H10]
    · iexists _; isplitr; · ipureintro; exact harg12.read_unread _
      iexact H10
    isplitl [HS0]
    · iexists _; isplitr; · ipureintro; exact harg13.read_unread _
      iexact HS0
    iexists _; iexact HS1

end Cert.Proof.FfnFwd

end
-- ==== Proof.FfnFwdRunC.lean ====
module

public import proofs.«01_k».proof.Proof.FfnFwdRunB

@[expose] public section

set_option maxRecDepth 16384

noncomputable section

namespace Cert.Proof.FfnFwd

open Cert.FfnFwdKernelIdeal Cert.FfnFwdKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body run in case C: the pieces each buffer ends with, and the triple. -/
noncomputable def kernelRun0_C (c : Dev nD) (i : grid0.Coords) (arg2 : Memref sig .tc .vmem S512x1024 .f32) (harg2 : arg2.IsWhole) (arg3 : Memref sig .tc .vmem S3x1024 .f32) (harg3 : arg3.IsWhole) (arg4 : Memref sig .tc .vmem S1x1024 .f32) (harg4 : arg4.IsWhole) (arg5 : Memref sig .tc .vmem S1x704x1024 .bf16) (harg5 : arg5.IsWhole) (arg6 : Memref sig .tc .vmem S1x704x1024 .bf16) (harg6 : arg6.IsWhole) (arg7 : Memref sig .tc .vmem S1x704x1024 .bf16) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1x512x704 .bf16) (harg10 : arg10.IsWhole) (arg11 : Memref sig .tc .vmem S1x512x704 .bf16) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S512x1024 .f32) (harg14 : arg14.IsWhole) (hc0 : ¬cond0_0 i) (hc1 : cond0_1 i)
    (x0 : Vec F S512x1024 .f32) (x1 : Vec F S3x1024 .f32) (x2 : Vec F S1x1024 .f32) (x3 : Vec F S1x704x1024 .bf16) (x4 : Vec F S1x704x1024 .bf16) (x5 : Vec F S1x704x1024 .bf16) (xo10 : Vec F S512x1024 .bf16) (xs0 : Vec F S512x1024 .bf16) (xs1 : Vec F S512x1024 .f32) :
    Σ' (L6 : List (View.Piece (Elt F) S512x1024 .f32)), Σ' (L7 : List (View.Piece (Elt F) S512x1024 .f32)), Σ' (L8 : List (View.Piece (Elt F) S1x512x704 .bf16)), Σ' (L9 : List (View.Piece (Elt F) S1x512x704 .bf16)), Σ' (L10 : List (View.Piece (Elt F) S512x1024 .bf16)), Σ' (LS0 : List (View.Piece (Elt F) S512x1024 .bf16)), { LS1 : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xo10 ∗ owns (c : Thread nD τ) arg13 fullShare xs0 ∗ owns (c : Thread nD τ) arg14 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ owns (c : Thread nD τ) arg12 fullShare xo10 ∗ owns (c : Thread nD τ) arg13 fullShare xs0 ∗ (∃ f, arg14.view.loc (c : Thread nD τ) ↦[arg14.view.set]{fullShare} arg14.view.writes (Elt F) f LS1)) -∗ K ⟨⟩))
          ⊢ wp frame (wpE (defs₀ (F := F)) Variants.none c none) E (cc0_ffn_fwd i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, [], [], ?_, fun E K => ?run⟩
  case run =>
    simp only [cc0_ffn_fwd_eq_skeleton]; unfold cc0_ffn_fwd_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%f10, %hf10, H10⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg12.eq_unread hf10; obtain rfl := harg13.eq_unread hfs0; obtain rfl := harg14.eq_unread hfs1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [H8]; · iexists _; iexact H8
    isplitl [H9]; · iexists _; iexact H9
    isplitl [H10]
    · iexists _; isplitr; · ipureintro; exact harg12.read_unread _
      iexact H10
    isplitl [HS0]
    · iexists _; isplitr; · ipureintro; exact harg13.read_unread _
      iexact HS0
    iexists _; iexact HS1

end Cert.Proof.FfnFwd

end
-- ==== Proof.FfnFwdOuts.lean ====
module

public import proofs.«01_k».proof.Proof.FfnFwdRunC
public import Idealize.ShloMosaic.Lib.Claim

@[expose] public section

set_option maxRecDepth 16384

noncomputable section

namespace Cert.Proof.FfnFwd

open Cert.FfnFwdKernelIdeal Cert.FfnFwdKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section

variable (c : Dev nD) (i : grid0.Coords) (arg2 : Memref sig .tc .vmem S512x1024 .f32) (harg2 : arg2.IsWhole) (arg3 : Memref sig .tc .vmem S3x1024 .f32) (harg3 : arg3.IsWhole) (arg4 : Memref sig .tc .vmem S1x1024 .f32) (harg4 : arg4.IsWhole) (arg5 : Memref sig .tc .vmem S1x704x1024 .bf16) (harg5 : arg5.IsWhole) (arg6 : Memref sig .tc .vmem S1x704x1024 .bf16) (harg6 : arg6.IsWhole) (arg7 : Memref sig .tc .vmem S1x704x1024 .bf16) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1x512x704 .bf16) (harg10 : arg10.IsWhole) (arg11 : Memref sig .tc .vmem S1x512x704 .bf16) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S512x1024 .f32) (harg14 : arg14.IsWhole) (hc0 : cond0_0 i) (hc1 : ¬cond0_1 i) (x0 : Vec F S512x1024 .f32) (x1 : Vec F S3x1024 .f32) (x2 : Vec F S1x1024 .f32) (x3 : Vec F S1x704x1024 .bf16) (x4 : Vec F S1x704x1024 .bf16) (x5 : Vec F S1x704x1024 .bf16)

/-- What case A leaves in the buffer of output 6. -/
def out0_A_6 : Vec F S512x1024 .f32 :=
  VO0_6.read (Elt F) (VO0_6.writes (Elt F) VO0_6.junk (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5).1)

/-- What case A leaves in the buffer of output 7. -/
def out0_A_7 : Vec F S512x1024 .f32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5).2.1)

/-- The stores of case A cover the block of output 8. -/
theorem cover0_A_8 (y : S1x512x704.Idx):
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5).2.2.1, y ∈ pc.1.set :=
  View.cover_of_tiledL (s := S1x512x704) _ S1x256x704.size (by sl_kernel_rfl) y

/-- What case A leaves in the buffer of output 8. -/
def out0_A_8 : Vec F S1x512x704 .bf16 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5).2.2.1)

/-- The stores of case A cover the block of output 9. -/
theorem cover0_A_9 (y : S1x512x704.Idx):
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5).2.2.2.1, y ∈ pc.1.set :=
  View.cover_of_tiledL (s := S1x512x704) _ S1x256x704.size (by sl_kernel_rfl) y

/-- What case A leaves in the buffer of output 9. -/
def out0_A_9 : Vec F S1x512x704 .bf16 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5).2.2.2.1)

/-- The stores of case A cover the block of output 10. -/
theorem cover0_A_10 (y : S512x1024.Idx):
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5).2.2.2.2.1, y ∈ pc.1.set :=
  View.cover_of_tiledL (s := S512x1024) _ S512x1024.size (by sl_kernel_rfl) y

/-- What case A leaves in the buffer of output 10. -/
def out0_A_10 : Vec F S512x1024 .bf16 :=
  VO0_10.read (Elt F) (VO0_10.writes (Elt F) VO0_10.junk (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5).2.2.2.2.1)

/-- The stores of case A cover scratch 0. -/
theorem scover0_A_0 (y : S512x1024.Idx):
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5).2.2.2.2.2.1, y ∈ pc.1.set :=
  View.cover_of_tiledL (s := S512x1024) _ S512x1024.size (by sl_kernel_rfl) y

/-- What case A leaves in scratch 0. -/
def sout0_A_0 : Vec F S512x1024 .bf16 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5).2.2.2.2.2.1)

/-- The stores of case A cover scratch 1. -/
theorem scover0_A_1 (y : S512x1024.Idx):
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5).2.2.2.2.2.2.1, y ∈ pc.1.set :=
  View.cover_of_wholeMem (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5).2.2.2.2.2.2.1 (by sl_whole_mem) y

/-- What case A leaves in scratch 1. -/
def sout0_A_1 : Vec F S512x1024 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5).2.2.2.2.2.2.1)

end

section

variable (c : Dev nD) (i : grid0.Coords) (arg2 : Memref sig .tc .vmem S512x1024 .f32) (harg2 : arg2.IsWhole) (arg3 : Memref sig .tc .vmem S3x1024 .f32) (harg3 : arg3.IsWhole) (arg4 : Memref sig .tc .vmem S1x1024 .f32) (harg4 : arg4.IsWhole) (arg5 : Memref sig .tc .vmem S1x704x1024 .bf16) (harg5 : arg5.IsWhole) (arg6 : Memref sig .tc .vmem S1x704x1024 .bf16) (harg6 : arg6.IsWhole) (arg7 : Memref sig .tc .vmem S1x704x1024 .bf16) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1x512x704 .bf16) (harg10 : arg10.IsWhole) (arg11 : Memref sig .tc .vmem S1x512x704 .bf16) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S512x1024 .f32) (harg14 : arg14.IsWhole) (hc0 : ¬cond0_0 i) (hc1 : ¬cond0_1 i) (x0 : Vec F S512x1024 .f32) (x1 : Vec F S3x1024 .f32) (x2 : Vec F S1x1024 .f32) (x3 : Vec F S1x704x1024 .bf16) (x4 : Vec F S1x704x1024 .bf16) (x5 : Vec F S1x704x1024 .bf16) (xs0 : Vec F S512x1024 .bf16) (xs1 : Vec F S512x1024 .f32)

/-- What case B leaves in the buffer of output 6. -/
def out0_B_6 : Vec F S512x1024 .f32 :=
  VO0_6.read (Elt F) (VO0_6.writes (Elt F) VO0_6.junk (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1).1)

/-- What case B leaves in the buffer of output 7. -/
def out0_B_7 : Vec F S512x1024 .f32 :=
  VO0_7.read (Elt F) (VO0_7.writes (Elt F) VO0_7.junk (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1).2.1)

/-- The stores of case B cover the block of output 8. -/
theorem cover0_B_8 (y : S1x512x704.Idx):
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1).2.2.1, y ∈ pc.1.set :=
  View.cover_of_tiledL (s := S1x512x704) _ S1x256x704.size (by sl_kernel_rfl) y

/-- What case B leaves in the buffer of output 8. -/
def out0_B_8 : Vec F S1x512x704 .bf16 :=
  VO0_8.read (Elt F) (VO0_8.writes (Elt F) VO0_8.junk (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1).2.2.1)

/-- The stores of case B cover the block of output 9. -/
theorem cover0_B_9 (y : S1x512x704.Idx):
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1).2.2.2.1, y ∈ pc.1.set :=
  View.cover_of_tiledL (s := S1x512x704) _ S1x256x704.size (by sl_kernel_rfl) y

/-- What case B leaves in the buffer of output 9. -/
def out0_B_9 : Vec F S1x512x704 .bf16 :=
  VO0_9.read (Elt F) (VO0_9.writes (Elt F) VO0_9.junk (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1).2.2.2.1)

/-- What case B leaves in the buffer of output 10. -/
def out0_B_10 (c : Dev nD) (i : grid0.Coords) (arg2 : Memref sig .tc .vmem S512x1024 .f32) (harg2 : arg2.IsWhole) (arg3 : Memref sig .tc .vmem S3x1024 .f32) (harg3 : arg3.IsWhole) (arg4 : Memref sig .tc .vmem S1x1024 .f32) (harg4 : arg4.IsWhole) (arg5 : Memref sig .tc .vmem S1x704x1024 .bf16) (harg5 : arg5.IsWhole) (arg6 : Memref sig .tc .vmem S1x704x1024 .bf16) (harg6 : arg6.IsWhole) (arg7 : Memref sig .tc .vmem S1x704x1024 .bf16) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1x512x704 .bf16) (harg10 : arg10.IsWhole) (arg11 : Memref sig .tc .vmem S1x512x704 .bf16) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S512x1024 .f32) (harg14 : arg14.IsWhole) (hc0 : ¬cond0_0 i) (hc1 : ¬cond0_1 i)
    (x0 : Vec F S512x1024 .f32) (x1 : Vec F S3x1024 .f32) (x2 : Vec F S1x1024 .f32) (x3 : Vec F S1x704x1024 .bf16) (x4 : Vec F S1x704x1024 .bf16) (x5 : Vec F S1x704x1024 .bf16) (xs0 : Vec F S512x1024 .bf16) (xs1 : Vec F S512x1024 .f32) (xo10 : Vec F S512x1024 .bf16) : Vec F S512x1024 .bf16 := xo10

/-- What case B leaves in scratch 0. -/
def sout0_B_0 (c : Dev nD) (i : grid0.Coords) (arg2 : Memref sig .tc .vmem S512x1024 .f32) (harg2 : arg2.IsWhole) (arg3 : Memref sig .tc .vmem S3x1024 .f32) (harg3 : arg3.IsWhole) (arg4 : Memref sig .tc .vmem S1x1024 .f32) (harg4 : arg4.IsWhole) (arg5 : Memref sig .tc .vmem S1x704x1024 .bf16) (harg5 : arg5.IsWhole) (arg6 : Memref sig .tc .vmem S1x704x1024 .bf16) (harg6 : arg6.IsWhole) (arg7 : Memref sig .tc .vmem S1x704x1024 .bf16) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1x512x704 .bf16) (harg10 : arg10.IsWhole) (arg11 : Memref sig .tc .vmem S1x512x704 .bf16) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S512x1024 .f32) (harg14 : arg14.IsWhole) (hc0 : ¬cond0_0 i) (hc1 : ¬cond0_1 i)
    (x0 : Vec F S512x1024 .f32) (x1 : Vec F S3x1024 .f32) (x2 : Vec F S1x1024 .f32) (x3 : Vec F S1x704x1024 .bf16) (x4 : Vec F S1x704x1024 .bf16) (x5 : Vec F S1x704x1024 .bf16) (xs0 : Vec F S512x1024 .bf16) (xs1 : Vec F S512x1024 .f32) : Vec F S512x1024 .bf16 := xs0

/-- The stores of case B cover scratch 1. -/
theorem scover0_B_1 (y : S512x1024.Idx):
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1).2.2.2.2.2.2.1, y ∈ pc.1.set :=
  View.cover_of_tiledL (s := S512x1024) _ S256x1024.size (by sl_kernel_rfl) y

/-- What case B leaves in scratch 1. -/
def sout0_B_1 : Vec F S512x1024 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1).2.2.2.2.2.2.1)

end

section

variable (c : Dev nD) (i : grid0.Coords) (arg2 : Memref sig .tc .vmem S512x1024 .f32) (harg2 : arg2.IsWhole) (arg3 : Memref sig .tc .vmem S3x1024 .f32) (harg3 : arg3.IsWhole) (arg4 : Memref sig .tc .vmem S1x1024 .f32) (harg4 : arg4.IsWhole) (arg5 : Memref sig .tc .vmem S1x704x1024 .bf16) (harg5 : arg5.IsWhole) (arg6 : Memref sig .tc .vmem S1x704x1024 .bf16) (harg6 : arg6.IsWhole) (arg7 : Memref sig .tc .vmem S1x704x1024 .bf16) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1x512x704 .bf16) (harg10 : arg10.IsWhole) (arg11 : Memref sig .tc .vmem S1x512x704 .bf16) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S512x1024 .f32) (harg14 : arg14.IsWhole) (hc0 : ¬cond0_0 i) (hc1 : cond0_1 i) (x0 : Vec F S512x1024 .f32) (x1 : Vec F S3x1024 .f32) (x2 : Vec F S1x1024 .f32) (x3 : Vec F S1x704x1024 .bf16) (x4 : Vec F S1x704x1024 .bf16) (x5 : Vec F S1x704x1024 .bf16) (xo10 : Vec F S512x1024 .bf16) (xs0 : Vec F S512x1024 .bf16) (xs1 : Vec F S512x1024 .f32)

/-- The stores of case C cover the block of output 6. -/
theorem cover0_C_6 (y : S512x1024.Idx):
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xo10 xs0 xs1).1, y ∈ pc.1.set :=
  View.cover_of_tiledL (s := S512x1024) _ S512x1024.size (by sl_kernel_rfl) y

/-- What case C leaves in the buffer of output 6. -/
def out0_C_6 : Vec F S512x1024 .f32 :=
  VO0_6.read (Elt F) (VO0_6.writes (Elt F) VO0_6.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xo10 xs0 xs1).1)

/-- The stores of case C cover the block of output 7. -/
theorem cover0_C_7 (y : S512x1024.Idx):
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xo10 xs0 xs1).2.1, y ∈ pc.1.set :=
  View.cover_of_tiledL (s := S512x1024) _ S512x1024.size (by sl_kernel_rfl) y

/-- What case C leaves in the buffer of output 7. -/
def out0_C_7 : Vec F S512x1024 .f32 :=
  VO0_7.read (Elt F) (VO0_7.writes (Elt F) VO0_7.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xo10 xs0 xs1).2.1)

/-- The stores of case C cover the block of output 8. -/
theorem cover0_C_8 (y : S1x512x704.Idx):
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xo10 xs0 xs1).2.2.1, y ∈ pc.1.set :=
  View.cover_of_tiledL (s := S1x512x704) _ S1x256x704.size (by sl_kernel_rfl) y

/-- What case C leaves in the buffer of output 8. -/
def out0_C_8 : Vec F S1x512x704 .bf16 :=
  VO0_8.read (Elt F) (VO0_8.writes (Elt F) VO0_8.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xo10 xs0 xs1).2.2.1)

/-- The stores of case C cover the block of output 9. -/
theorem cover0_C_9 (y : S1x512x704.Idx):
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xo10 xs0 xs1).2.2.2.1, y ∈ pc.1.set :=
  View.cover_of_tiledL (s := S1x512x704) _ S1x256x704.size (by sl_kernel_rfl) y

/-- What case C leaves in the buffer of output 9. -/
def out0_C_9 : Vec F S1x512x704 .bf16 :=
  VO0_9.read (Elt F) (VO0_9.writes (Elt F) VO0_9.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xo10 xs0 xs1).2.2.2.1)

/-- What case C leaves in the buffer of output 10. -/
def out0_C_10 (c : Dev nD) (i : grid0.Coords) (arg2 : Memref sig .tc .vmem S512x1024 .f32) (harg2 : arg2.IsWhole) (arg3 : Memref sig .tc .vmem S3x1024 .f32) (harg3 : arg3.IsWhole) (arg4 : Memref sig .tc .vmem S1x1024 .f32) (harg4 : arg4.IsWhole) (arg5 : Memref sig .tc .vmem S1x704x1024 .bf16) (harg5 : arg5.IsWhole) (arg6 : Memref sig .tc .vmem S1x704x1024 .bf16) (harg6 : arg6.IsWhole) (arg7 : Memref sig .tc .vmem S1x704x1024 .bf16) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1x512x704 .bf16) (harg10 : arg10.IsWhole) (arg11 : Memref sig .tc .vmem S1x512x704 .bf16) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S512x1024 .f32) (harg14 : arg14.IsWhole) (hc0 : ¬cond0_0 i) (hc1 : cond0_1 i)
    (x0 : Vec F S512x1024 .f32) (x1 : Vec F S3x1024 .f32) (x2 : Vec F S1x1024 .f32) (x3 : Vec F S1x704x1024 .bf16) (x4 : Vec F S1x704x1024 .bf16) (x5 : Vec F S1x704x1024 .bf16) (xo10 : Vec F S512x1024 .bf16) (xs0 : Vec F S512x1024 .bf16) (xs1 : Vec F S512x1024 .f32) : Vec F S512x1024 .bf16 := xo10

/-- What case C leaves in scratch 0. -/
def sout0_C_0 (c : Dev nD) (i : grid0.Coords) (arg2 : Memref sig .tc .vmem S512x1024 .f32) (harg2 : arg2.IsWhole) (arg3 : Memref sig .tc .vmem S3x1024 .f32) (harg3 : arg3.IsWhole) (arg4 : Memref sig .tc .vmem S1x1024 .f32) (harg4 : arg4.IsWhole) (arg5 : Memref sig .tc .vmem S1x704x1024 .bf16) (harg5 : arg5.IsWhole) (arg6 : Memref sig .tc .vmem S1x704x1024 .bf16) (harg6 : arg6.IsWhole) (arg7 : Memref sig .tc .vmem S1x704x1024 .bf16) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1x512x704 .bf16) (harg10 : arg10.IsWhole) (arg11 : Memref sig .tc .vmem S1x512x704 .bf16) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S512x1024 .f32) (harg14 : arg14.IsWhole) (hc0 : ¬cond0_0 i) (hc1 : cond0_1 i)
    (x0 : Vec F S512x1024 .f32) (x1 : Vec F S3x1024 .f32) (x2 : Vec F S1x1024 .f32) (x3 : Vec F S1x704x1024 .bf16) (x4 : Vec F S1x704x1024 .bf16) (x5 : Vec F S1x704x1024 .bf16) (xo10 : Vec F S512x1024 .bf16) (xs0 : Vec F S512x1024 .bf16) (xs1 : Vec F S512x1024 .f32) : Vec F S512x1024 .bf16 := xs0

/-- The stores of case C cover scratch 1. -/
theorem scover0_C_1 (y : S512x1024.Idx):
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xo10 xs0 xs1).2.2.2.2.2.2.1, y ∈ pc.1.set :=
  View.cover_of_tiledL (s := S512x1024) _ S256x1024.size (by sl_kernel_rfl) y

/-- What case C leaves in scratch 1. -/
def sout0_C_1 : Vec F S512x1024 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xo10 xs0 xs1).2.2.2.2.2.2.1)

end

end Cert.Proof.FfnFwd

end
-- ==== Proof.FfnFwdData.lean ====
module

public import proofs.«01_k».proof.Proof.FfnFwdOuts

@[expose] public section

set_option maxRecDepth 16384

noncomputable section

namespace Cert.Proof.FfnFwd

open Cert.FfnFwdKernelIdeal Cert.FfnFwdKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def at0_A (c : Dev nD) (t : Fin cfg0.N) (h0 : t.val % 4 = 0) (h1 : ¬t.val % 4 = 3) :
    Vec F S512x1024 .f32 × Vec F S512x1024 .f32 × Vec F S1x512x704 .bf16 × Vec F S1x512x704 .bf16 × Vec F S512x1024 .bf16 × Vec F S512x1024 .bf16 × Vec F S512x1024 .f32 :=
  (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t))

def at0_B (c : Dev nD) (t : Fin cfg0.N) (h0 : ¬t.val % 4 = 0) (h1 : ¬t.val % 4 = 3) (p : Vec F S512x1024 .f32 × Vec F S512x1024 .f32 × Vec F S1x512x704 .bf16 × Vec F S1x512x704 .bf16 × Vec F S512x1024 .bf16 × Vec F S512x1024 .bf16 × Vec F S512x1024 .f32) :
    Vec F S512x1024 .f32 × Vec F S512x1024 .f32 × Vec F S1x512x704 .bf16 × Vec F S1x512x704 .bf16 × Vec F S512x1024 .bf16 × Vec F S512x1024 .bf16 × Vec F S512x1024 .f32 :=
  (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) p.2.2.2.2.2.1 p.2.2.2.2.2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) p.2.2.2.2.2.1 p.2.2.2.2.2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) p.2.2.2.2.2.1 p.2.2.2.2.2.2, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) p.2.2.2.2.2.1 p.2.2.2.2.2.2, out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) p.2.2.2.2.2.1 p.2.2.2.2.2.2 p.2.2.2.2.1, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) p.2.2.2.2.2.1 p.2.2.2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) p.2.2.2.2.2.1 p.2.2.2.2.2.2)

def at0_C (c : Dev nD) (t : Fin cfg0.N) (h0 : ¬t.val % 4 = 0) (h1 : t.val % 4 = 3) (p : Vec F S512x1024 .f32 × Vec F S512x1024 .f32 × Vec F S1x512x704 .bf16 × Vec F S1x512x704 .bf16 × Vec F S512x1024 .bf16 × Vec F S512x1024 .bf16 × Vec F S512x1024 .f32) :
    Vec F S512x1024 .f32 × Vec F S512x1024 .f32 × Vec F S1x512x704 .bf16 × Vec F S1x512x704 .bf16 × Vec F S512x1024 .bf16 × Vec F S512x1024 .bf16 × Vec F S512x1024 .f32 :=
  (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) p.2.2.2.2.1 p.2.2.2.2.2.1 p.2.2.2.2.2.2, out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) p.2.2.2.2.1 p.2.2.2.2.2.1 p.2.2.2.2.2.2, out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) p.2.2.2.2.1 p.2.2.2.2.2.1 p.2.2.2.2.2.2, out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) p.2.2.2.2.1 p.2.2.2.2.2.1 p.2.2.2.2.2.2, out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) p.2.2.2.2.1 p.2.2.2.2.2.1 p.2.2.2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) p.2.2.2.2.1 p.2.2.2.2.2.1 p.2.2.2.2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) p.2.2.2.2.1 p.2.2.2.2.2.1 p.2.2.2.2.2.2)

/-- What every output buffer and carried scratch holds after a point. -/
def outsAt0 (c : Dev nD) : (n : ℕ) → n < cfg0.N → Vec F S512x1024 .f32 × Vec F S512x1024 .f32 × Vec F S1x512x704 .bf16 × Vec F S1x512x704 .bf16 × Vec F S512x1024 .bf16 × Vec F S512x1024 .bf16 × Vec F S512x1024 .f32
  | 0, hn => at0_A m c ⟨0, hn⟩ (Nat.zero_mod _) (fun h => by (try dsimp only at h); omega)
  | n + 1, hn =>
    if h0 : (n + 1) % 4 = 0 then
      if h1 : (n + 1) % 4 = 3 then
        False.elim (by have hN : n + 1 < 16 := lt_of_lt_of_eq hn (show cfg0.N = 16 from N_0); omega)
      else
        at0_A m c ⟨n + 1, hn⟩ h0 h1
    else
      if h1 : (n + 1) % 4 = 3 then
        at0_C m c ⟨n + 1, hn⟩ h0 h1 (outsAt0 c n (Nat.lt_of_succ_lt hn))
      else
        at0_B m c ⟨n + 1, hn⟩ h0 h1 (outsAt0 c n (Nat.lt_of_succ_lt hn))

theorem outsAt0_A (c : Dev nD) (t : Fin cfg0.N) (h0 : t.val % 4 = 0) (h1 : ¬t.val % 4 = 3) :
    outsAt0 m c t.val t.isLt = at0_A m c t h0 h1 := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 m c t.val t.isLt = at0_B m c t h0 h1 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 m c t.val t.isLt = at0_C m c t h0 h1 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The invariant before a position: the carried scratch at what the point before left in it. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2.1) ∗ owns (c : Thread nD τ) scM0_1 fullShare ((outsAt0 m c n hn).2.2.2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.2.2.2.1) ∗ owns (c : Thread nD τ) scM0_1 fullShare ((outsAt0 m c n hn).2.2.2.2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.1) ∗ owns (c : Thread nD τ) scM0_1 fullShare ((outsAt0 m c (n - 1) (by omega)).2.2.2.2.2.2)) ∗ (∃ r, prngReg c r)) := by
  cases n with
  | zero => exact absurd rfl hz
  | succ n => rfl

/-- The proof data of the pipeline: each buffer after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
    | ⟨7, _⟩ => (outsAt0 m c t.val t.isLt).2.1
    | ⟨8, _⟩ => (outsAt0 m c t.val t.isLt).2.2.1
    | ⟨9, _⟩ => (outsAt0 m c t.val t.isLt).2.2.2.1
    | ⟨10, _⟩ => (outsAt0 m c t.val t.isLt).2.2.2.2.1
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]
theorem after0_7 (c : Dev nD) (t : Fin cfg0.N) : (dats m 0 c).after 7 t = (outsAt0 m c t.val t.isLt).2.1 := by dsimp only [dats]
theorem after0_8 (c : Dev nD) (t : Fin cfg0.N) : (dats m 0 c).after 8 t = (outsAt0 m c t.val t.isLt).2.2.1 := by dsimp only [dats]
theorem after0_9 (c : Dev nD) (t : Fin cfg0.N) : (dats m 0 c).after 9 t = (outsAt0 m c t.val t.isLt).2.2.2.1 := by dsimp only [dats]
theorem after0_10 (c : Dev nD) (t : Fin cfg0.N) : (dats m 0 c).after 10 t = (outsAt0 m c t.val t.isLt).2.2.2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- Output 10 keeps its block at the points that store nothing into it. -/
theorem hcarry0_10 (c : Dev nD) : ∀ (t : Fin cfg0.N) (_ : t.val ≠ 0), cfg0.idle 10 (grid0.coords t) = true → cfg0.fresh 10 t.val = false →
    (dats m 0 c).after 10 t = (dats m 0 c).after 10 ⟨t.val - 1, by omega⟩ := by
  intro t _ hi _
  have hN : t.val < 16 := lt_of_lt_of_eq t.isLt (show cfg0.N = 16 from N_0)
  rw [after0_10, after0_10]
  by_cases h0 : t.val % 4 = 0
  · by_cases h1 : t.val % 4 = 3
    · exfalso; omega
    · rw [liveAt0_10_A t ((hcond0_0 t).mpr h0) (fun h => h1 ((hcond0_1 t).mp h))] at hi
      exact absurd hi Bool.false_ne_true
  · by_cases h1 : t.val % 4 = 3
    · rw [outsAt0_C m c t h0 h1]; unfold at0_C
      dsimp only
      unfold out0_C_10
      rfl
    · rw [outsAt0_B m c t h0 h1]; unfold at0_B
      dsimp only
      unfold out0_B_10
      rfl
theorem before0_10_C (c : Dev nD) (t : Fin cfg0.N) (h0 : ¬t.val % 4 = 0) (h1 : t.val % 4 = 3) (d) :
    (dats m 0 c).before 10 t d = (outsAt0 m c (t.val - 1) (Nat.lt_of_le_of_lt (Nat.sub_le _ _) t.isLt)).2.2.2.2.1 := by
  rw [Dat.before_out_traj _ 10 rfl (fun _ _ => rfl) (hcarry0_10 m c) t.val t rfl d,
    if_neg (by rw [notFresh0_10_C t (fun h => h0 ((hcond0_0 t).mp h)) ((hcond0_1 t).mpr h1)]; exact Bool.false_ne_true)]
  dsimp only [dats]

end Cert.Proof.FfnFwd

end
-- ==== Proof.FfnFwdCases.lean ====
module

public import proofs.«01_k».proof.Proof.FfnFwdPay
public import proofs.«01_k».proof.Proof.FfnFwdData

@[expose] public section

set_option maxRecDepth 16384

noncomputable section

open Idealize.ShloMosaic Idealize.ShloMosaic.TcCoe Idealize.SL.Sem
open Idealize.ShloMosaic.Pipeline (Dat)

namespace Cert.Proof.FfnFwd

open Cert.FfnFwdKernelIdeal Cert.FfnFwdKernelIdeal.Gen

variable (m : (ℓ : Loc nD τ sig) → Buf (Elt Ideal) ℓ)

/-- The modulated input at one token tile. -/
def Bh (c : Dev nD) (t : Fin cfg0.N) : FVec Ideal S512x1024 .bf16 :=
  k0_pay2 (F := Ideal) (iblk m c 0 t) (iblk m c 2 t)
    (View.ld (Val := Elt Ideal) (e' := .f32) (iblk m c 1 t) (Rect.unit (s := S3x1024) ![0, 0] ![1, 1024] inb_S3x1024_S1x1024_0_0))
    (View.ld (Val := Elt Ideal) (e' := .f32) (iblk m c 1 t) (Rect.unit (s := S3x1024) ![1, 0] ![1, 1024] inb_S3x1024_S1x1024_1_0))

theorem atA_8 (c : Dev nD) (t : Fin cfg0.N) (h0 : t.val % 4 = 0) (h1 : ¬t.val % 4 = 3) : (at0_A m c t h0 h1).2.2.1 = Ba (Bh m c t) (iblk m c 3 t) := by
  unfold at0_A
  frame_out
  exact a_blk (Bh m c t) _ _ _ (fun r n => (rc_up (e := .bf16) _ _ r n).trans (congrFun (pay3_eq _ _ _ _) _)) (fun r n => (rc_lo (e := .bf16) _ _ r n).trans (congrFun (pay3_eq _ _ _ _) _))

theorem atA_9 (c : Dev nD) (t : Fin cfg0.N) (h0 : t.val % 4 = 0) (h1 : ¬t.val % 4 = 3) : (at0_A m c t h0 h1).2.2.2.1 = Ba (Bh m c t) (iblk m c 4 t) := by
  unfold at0_A
  frame_out
  exact b_blk (Bh m c t) _ _ _ (fun r n => (rc_up (e := .bf16) _ _ r n).trans (congrFun (pay3_eq _ _ _ _) _)) (fun r n => (rc_lo (e := .bf16) _ _ r n).trans (congrFun (pay3_eq _ _ _ _) _))

theorem atA_10 (c : Dev nD) (t : Fin cfg0.N) (h0 : t.val % 4 = 0) (h1 : ¬t.val % 4 = 3) : (at0_A m c t h0 h1).2.2.2.2.1 = Bh m c t := by
  unfold at0_A
  frame_out
  rfl

theorem atA_s0 (c : Dev nD) (t : Fin cfg0.N) (h0 : t.val % 4 = 0) (h1 : ¬t.val % 4 = 3) : (at0_A m c t h0 h1).2.2.2.2.2.1 = Bh m c t := by
  unfold at0_A
  frame_out
  exact pay3_eq _ _ _ _

theorem atA_s1 (c : Dev nD) (t : Fin cfg0.N) (h0 : t.val % 4 = 0) (h1 : ¬t.val % 4 = 3) : (at0_A m c t h0 h1).2.2.2.2.2.2 = Bacc (Bh m c t) (iblk m c 3 t) (iblk m c 4 t) (iblk m c 5 t) (k0_pay4 (F := Ideal)) := by
  unfold at0_A
  frame_out
  exact acc_blk' (Bh m c t) _ _ _ (k0_pay4 (F := Ideal)) _ _ (fun r n => (rc_up (e := .bf16) _ _ r n).trans (congrFun (pay3_eq _ _ _ _) _)) (fun r n => (rc_lo (e := .bf16) _ _ r n).trans (congrFun (pay3_eq _ _ _ _) _)) _ _ (fun r n => rc_up' (e := .f32) _ _ r n _) (fun r n => rc_lo (e := .f32) _ _ r n) _

theorem atB_8 (c : Dev nD) (t : Fin cfg0.N) (h0 : ¬t.val % 4 = 0) (h1 : ¬t.val % 4 = 3) (p) : (at0_B m c t h0 h1 p).2.2.1 = Ba p.2.2.2.2.2.1 (iblk m c 3 t) := by
  unfold at0_B
  frame_out
  exact a_blk p.2.2.2.2.2.1 _ _ _ (fun r n => (ld_up2 (e := .bf16) _ r n).trans (congrFun (read_unread_whole cc0_scratch0 _ _) _)) (fun r n => (ld_lo2 (e := .bf16) _ r n).trans (congrFun (read_unread_whole cc0_scratch0 _ _) _))

theorem atB_9 (c : Dev nD) (t : Fin cfg0.N) (h0 : ¬t.val % 4 = 0) (h1 : ¬t.val % 4 = 3) (p) : (at0_B m c t h0 h1 p).2.2.2.1 = Ba p.2.2.2.2.2.1 (iblk m c 4 t) := by
  unfold at0_B
  frame_out
  exact b_blk p.2.2.2.2.2.1 _ _ _ (fun r n => (ld_up2 (e := .bf16) _ r n).trans (congrFun (read_unread_whole cc0_scratch0 _ _) _)) (fun r n => (ld_lo2 (e := .bf16) _ r n).trans (congrFun (read_unread_whole cc0_scratch0 _ _) _))

theorem atB_10 (c : Dev nD) (t : Fin cfg0.N) (h0 : ¬t.val % 4 = 0) (h1 : ¬t.val % 4 = 3) (p) : (at0_B m c t h0 h1 p).2.2.2.2.1 = p.2.2.2.2.1 := by
  unfold at0_B
  rfl

theorem atB_s0 (c : Dev nD) (t : Fin cfg0.N) (h0 : ¬t.val % 4 = 0) (h1 : ¬t.val % 4 = 3) (p) : (at0_B m c t h0 h1 p).2.2.2.2.2.1 = p.2.2.2.2.2.1 := by
  unfold at0_B
  rfl

theorem atB_s1 (c : Dev nD) (t : Fin cfg0.N) (h0 : ¬t.val % 4 = 0) (h1 : ¬t.val % 4 = 3) (p) : (at0_B m c t h0 h1 p).2.2.2.2.2.2 = Bacc p.2.2.2.2.2.1 (iblk m c 3 t) (iblk m c 4 t) (iblk m c 5 t) p.2.2.2.2.2.2 := by
  unfold at0_B
  frame_out
  exact acc_blk p.2.2.2.2.2.1 _ _ _ p.2.2.2.2.2.2 _ _ (fun r n => (ld_up2 (e := .bf16) _ r n).trans (congrFun (read_unread_whole cc0_scratch0 _ _) _)) (fun r n => (ld_lo2 (e := .bf16) _ r n).trans (congrFun (read_unread_whole cc0_scratch0 _ _) _)) _ _ (fun r n => (ld_up2 (e := .f32) _ r n).trans (congrFun (read_unread_whole cc0_scratch1 _ _) _)) (fun r n => (ld_lo2 (e := .f32) _ r n).trans (congrFun (read_unread_whole cc0_scratch1 _ _) _))

theorem atC_8 (c : Dev nD) (t : Fin cfg0.N) (h0 : ¬t.val % 4 = 0) (h1 : t.val % 4 = 3) (p) : (at0_C m c t h0 h1 p).2.2.1 = Ba p.2.2.2.2.2.1 (iblk m c 3 t) := by
  unfold at0_C
  frame_out
  exact a_blk p.2.2.2.2.2.1 _ _ _ (fun r n => (ld_up2 (e := .bf16) _ r n).trans (congrFun (read_unread_whole cc0_scratch0 _ _) _)) (fun r n => (ld_lo2 (e := .bf16) _ r n).trans (congrFun (read_unread_whole cc0_scratch0 _ _) _))

theorem atC_9 (c : Dev nD) (t : Fin cfg0.N) (h0 : ¬t.val % 4 = 0) (h1 : t.val % 4 = 3) (p) : (at0_C m c t h0 h1 p).2.2.2.1 = Ba p.2.2.2.2.2.1 (iblk m c 4 t) := by
  unfold at0_C
  frame_out
  exact b_blk p.2.2.2.2.2.1 _ _ _ (fun r n => (ld_up2 (e := .bf16) _ r n).trans (congrFun (read_unread_whole cc0_scratch0 _ _) _)) (fun r n => (ld_lo2 (e := .bf16) _ r n).trans (congrFun (read_unread_whole cc0_scratch0 _ _) _))

theorem atC_10 (c : Dev nD) (t : Fin cfg0.N) (h0 : ¬t.val % 4 = 0) (h1 : t.val % 4 = 3) (p) : (at0_C m c t h0 h1 p).2.2.2.2.1 = p.2.2.2.2.1 := by
  unfold at0_C
  rfl

theorem atC_s0 (c : Dev nD) (t : Fin cfg0.N) (h0 : ¬t.val % 4 = 0) (h1 : t.val % 4 = 3) (p) : (at0_C m c t h0 h1 p).2.2.2.2.2.1 = p.2.2.2.2.2.1 := by
  unfold at0_C
  rfl

theorem atC_s1 (c : Dev nD) (t : Fin cfg0.N) (h0 : ¬t.val % 4 = 0) (h1 : t.val % 4 = 3) (p) : (at0_C m c t h0 h1 p).2.2.2.2.2.2 = Bacc p.2.2.2.2.2.1 (iblk m c 3 t) (iblk m c 4 t) (iblk m c 5 t) p.2.2.2.2.2.2 := by
  unfold at0_C
  frame_out
  exact acc_blk p.2.2.2.2.2.1 _ _ _ p.2.2.2.2.2.2 _ _ (fun r n => (ld_up2 (e := .bf16) _ r n).trans (congrFun (read_unread_whole cc0_scratch0 _ _) _)) (fun r n => (ld_lo2 (e := .bf16) _ r n).trans (congrFun (read_unread_whole cc0_scratch0 _ _) _)) _ _ (fun r n => (ld_up2 (e := .f32) _ r n).trans (congrFun (read_unread_whole cc0_scratch1 _ _) _)) (fun r n => (ld_lo2 (e := .f32) _ r n).trans (congrFun (read_unread_whole cc0_scratch1 _ _) _))

theorem atC_7 (c : Dev nD) (t : Fin cfg0.N) (h0 : ¬t.val % 4 = 0) (h1 : t.val % 4 = 3) (p) : (at0_C m c t h0 h1 p).2.1 = Bacc p.2.2.2.2.2.1 (iblk m c 3 t) (iblk m c 4 t) (iblk m c 5 t) p.2.2.2.2.2.2 := by
  unfold at0_C
  frame_out
  rw [rc_all]
  exact acc_blk p.2.2.2.2.2.1 _ _ _ p.2.2.2.2.2.2 _ _ (fun r n => (ld_up2 (e := .bf16) _ r n).trans (congrFun (read_unread_whole cc0_scratch0 _ _) _)) (fun r n => (ld_lo2 (e := .bf16) _ r n).trans (congrFun (read_unread_whole cc0_scratch0 _ _) _)) _ _ (fun r n => (ld_up2 (e := .f32) _ r n).trans (congrFun (read_unread_whole cc0_scratch1 _ _) _)) (fun r n => (ld_lo2 (e := .f32) _ r n).trans (congrFun (read_unread_whole cc0_scratch1 _ _) _))

theorem atC_6 (c : Dev nD) (t : Fin cfg0.N) (h0 : ¬t.val % 4 = 0) (h1 : t.val % 4 = 3) (p) : (at0_C m c t h0 h1 p).1 = k0_pay1 (F := Ideal) (Bacc p.2.2.2.2.2.1 (iblk m c 3 t) (iblk m c 4 t) (iblk m c 5 t) p.2.2.2.2.2.2) (iblk m c 0 t) (View.ld (Val := Elt Ideal) (e' := .f32) (iblk m c 1 t) (Rect.unit (s := S3x1024) ![2, 0] ![1, 1024] inb_S3x1024_S1x1024_2_0)) := by
  unfold at0_C
  frame_out
  refine congrArg (fun z => k0_pay1 (F := Ideal) z _ _) ?_
  rw [rc_all]
  exact acc_blk p.2.2.2.2.2.1 _ _ _ p.2.2.2.2.2.2 _ _ (fun r n => (ld_up2 (e := .bf16) _ r n).trans (congrFun (read_unread_whole cc0_scratch0 _ _) _)) (fun r n => (ld_lo2 (e := .bf16) _ r n).trans (congrFun (read_unread_whole cc0_scratch0 _ _) _)) _ _ (fun r n => (ld_up2 (e := .f32) _ r n).trans (congrFun (read_unread_whole cc0_scratch1 _ _) _)) (fun r n => (ld_lo2 (e := .f32) _ r n).trans (congrFun (read_unread_whole cc0_scratch1 _ _) _))

end Cert.Proof.FfnFwd

end
-- ==== Proof.FfnFwdFinal.lean ====
module

public import proofs.«01_k».proof.Proof.Gen.FfnFwdReferenceIdeal.Read
public import proofs.«01_k».proof.Proof.FfnFwdCases

@[expose] public section

set_option maxRecDepth 16384

noncomputable section

open Idealize.ShloMosaic Idealize.ShloMosaic.TcCoe Idealize.SL.Sem Idealize.ShloMosaic.StableHlo
open Idealize.ShloMosaic.Pipeline (Dat)

namespace Cert.Proof.FfnFwd

open Cert.FfnFwdKernelIdeal Cert.FfnFwdKernelIdeal.Gen
open Cert.FfnFwdReferenceIdeal.Read

/-! ## The reference, element by element -/

section Reference
variable (x0 : FVec Ideal S2048x1024 .f32) (x1 : FVec Ideal S3x1024 .f32) (x2 : FVec Ideal S1024 .f32) (x3 : FVec Ideal S1024x5632 .f32) (x4 : FVec Ideal S2816x1024 .f32)
variable (s : Fin 2048) (k : Fin 1024) (q : Fin 5632) (n : Fin 2816)

theorem r7 : val_main_v7 (F := Ideal) x0 (ix2 s 0) = Ideal.rsqrt (Ideal.div (∑ k : Fin 1024, x0 (ix2 s k) * x0 (ix2 s k)) (FloatOps.ofBits (F := Ideal) .f32 0x44800000#32)
    + FloatOps.ofBits (F := Ideal) .f32 0x358637BD#32) := by
  unfold val_main_v7 val_main_v6 val_main_v5 val_main_v4 val_main_v3 val_main_v2 val_main_v1 val_main_v0 val_main_cst val_main_cst_0 val_main_cst_1
  pointwise

theorem r24 : val_main_v24 (F := Ideal) x0 x1 x2 (ix2 s k) = x0 (ix2 s k) * val_main_v7 (F := Ideal) x0 (ix2 s 0) * x2 (ix1 k)
    * (FloatOps.ofBits (F := Ideal) .f32 0x3F800000#32 + x1 (ix2 1 k)) + x1 (ix2 0 k) := by
  unfold val_main_v24 val_main_v23 val_main_v22 val_main_v21 val_main_v20 val_main_v19 val_main_v18 val_main_v17 val_main_v16 val_main_v15 val_main_v14 val_main_v13
    val_main_v12 val_main_v11 val_main_v10 val_main_v9 val_main_v8 val_main_cst_2
  generalize val_main_v7 (F := Ideal) x0 = z7
  pointwise

theorem r25 : val_main_v25 (F := Ideal) x0 x1 x2 x3 (ix2 s q) = ∑ k : Fin 1024, val_main_v24 (F := Ideal) x0 x1 x2 (ix2 s k) * x3 (ix2 k q) := by
  unfold val_main_v25
  generalize val_main_v24 (F := Ideal) x0 x1 x2 = z
  pointwise

theorem r26 : val_main_v26 (F := Ideal) x0 x1 x2 x3 (ix2 s n) = val_main_v25 (F := Ideal) x0 x1 x2 x3 (ix2 s ⟨n.val, by omega⟩) := by
  unfold val_main_v26
  generalize val_main_v25 (F := Ideal) x0 x1 x2 x3 = z
  pointwise

theorem r27 : val_main_v27 (F := Ideal) x0 x1 x2 x3 (ix2 s n) = val_main_v25 (F := Ideal) x0 x1 x2 x3 (ix2 s ⟨2816 + n.val, by omega⟩) := by
  unfold val_main_v27
  generalize val_main_v25 (F := Ideal) x0 x1 x2 x3 = z
  pointwise

theorem one_eq : (FloatOps.ofBits (F := Ideal) .f32 0x3F800000#32 : EReal) = 1 := by
  have e : (FloatOps.ofBits (F := Ideal) .f32 0x3F800000#32 : EReal) = ((1 : ℝ) : EReal) := by
    rw [Ideal.ofBits_def]; simp [Ideal.ofBits, Ideal.ieee, -EReal.coe_mul]; norm_num
  rw [e, EReal.coe_one]

theorem r29 (i) : val_main_v29 (F := Ideal) x0 x1 x2 x3 i = gact (val_main_v26 (F := Ideal) x0 x1 x2 x3 i) (val_main_v27 (F := Ideal) x0 x1 x2 x3 i) := by
  rw [val_main_v29_apply, val_main_v28_apply, val_main_call0_v5_apply, val_main_call0_v4_apply, val_main_call0_v3_apply, val_main_call0_v2_apply,
    val_main_call0_v1_apply, val_main_call0_v0_apply, val_main_call0_cst_apply, val_main_call0_cst_0_apply]
  unfold gact sg
  rw [zero_sub]
  refine congrArg₂ (· * ·) (congrArg₂ (· * ·) rfl ?_) rfl
  exact congrArg₂ Ideal.div one_eq (congrArg₂ (· + ·) one_eq rfl)

theorem r30 : val_main_v30 (F := Ideal) x0 x1 x2 x3 x4 (ix2 s k) = ∑ n : Fin 2816, val_main_v29 (F := Ideal) x0 x1 x2 x3 (ix2 s n) * x4 (ix2 n k) := by
  unfold val_main_v30
  generalize val_main_v29 (F := Ideal) x0 x1 x2 x3 = z
  pointwise

theorem r38 : val_main_v38 (F := Ideal) x0 x1 x2 x3 x4 (ix2 s k) = x0 (ix2 s k)
    + FloatOps.ofBits (F := Ideal) .f32 0x3F000000#32 * x1 (ix2 2 k) * val_main_v30 (F := Ideal) x0 x1 x2 x3 x4 (ix2 s k) := by
  unfold val_main_v38 val_main_v37 val_main_v36 val_main_v35 val_main_v34 val_main_v33 val_main_v32 val_main_v31 val_main_cst_3
  generalize val_main_v30 (F := Ideal) x0 x1 x2 x3 x4 = z
  pointwise

theorem r41 (j : Fin 4) (p : Fin 704) : val_main_v41 (F := Ideal) x0 x1 x2 x3 (ix3 j s p) = val_main_v26 (F := Ideal) x0 x1 x2 x3 (ix2 s ⟨j.val * 704 + p.val, by omega⟩) := by
  unfold val_main_v41 val_main_v40 val_main_v39
  generalize val_main_v26 (F := Ideal) x0 x1 x2 x3 = z
  pointwise

theorem r44 (j : Fin 4) (p : Fin 704) : val_main_v44 (F := Ideal) x0 x1 x2 x3 (ix3 j s p) = val_main_v27 (F := Ideal) x0 x1 x2 x3 (ix2 s ⟨j.val * 704 + p.val, by omega⟩) := by
  unfold val_main_v44 val_main_v43 val_main_v42
  generalize val_main_v27 (F := Ideal) x0 x1 x2 x3 = z
  pointwise

theorem r45 (i) : val_main_v45 (F := Ideal) x0 x1 x2 i = val_main_v24 (F := Ideal) x0 x1 x2 i := by
  unfold val_main_v45
  generalize val_main_v24 (F := Ideal) x0 x1 x2 = z
  idx_vars i
  pointwise
end Reference

variable (m : (ℓ : Loc nD τ sig) → Buf (Elt Ideal) ℓ)

/-! ## The blocks the kernel reads -/

abbrev X0 (c : Dev nD) : FVec Ideal S2048x1024 .f32 := m ((c : Thread nD τ).loc main_arg0)
abbrev X1 (c : Dev nD) : FVec Ideal S3x1024 .f32 := m ((c : Thread nD τ).loc main_arg1)
abbrev X2 (c : Dev nD) : FVec Ideal S1024 .f32 := m ((c : Thread nD τ).loc main_arg2)
abbrev X3 (c : Dev nD) : FVec Ideal S1024x5632 .f32 := m ((c : Thread nD τ).loc main_arg3)
abbrev X4 (c : Dev nD) : FVec Ideal S2816x1024 .f32 := m ((c : Thread nD τ).loc main_arg4)

theorem V2_at (c : Dev nD) (j : Fin 8) (n : Fin 704) (k : Fin 1024) : V m c main_v2 (ix3 j n k) = X3 m c (ix2 k ⟨j.val * 704 + n.val, by omega⟩) := by
  unfold_abbrev_sides
  simp only [List.flatten_cons, List.flatten_nil, List.cons_append, List.nil_append, List.append_nil, StableHlo.after_cons, StableHlo.after_nil]
  after_results_simp
  pointwise
  try rfl
theorem V4_at (c : Dev nD) (j : Fin 4) (n : Fin 704) (k : Fin 1024) : V m c main_v4 (ix3 j n k) = X4 m c (ix2 ⟨j.val * 704 + n.val, by omega⟩ k) := by
  unfold_abbrev_sides
  simp only [List.flatten_cons, List.flatten_nil, List.cons_append, List.nil_append, List.append_nil, StableHlo.after_cons, StableHlo.after_nil]
  after_results_simp
  pointwise
  try rfl
theorem V5_at (c : Dev nD) (k : Fin 1024) : V m c main_v5 (ix2 0 k) = X2 m c (ix1 k) := by
  unfold_abbrev_sides
  simp only [List.flatten_cons, List.flatten_nil, List.cons_append, List.nil_append, List.append_nil, StableHlo.after_cons, StableHlo.after_nil]
  after_results_simp
  pointwise
  try rfl

/-- The token tile and the channel chunk of a grid point. -/
abbrev tt (t : Fin grid0.N) : Nat := t.val / 4
abbrev jj (t : Fin grid0.N) : Nat := t.val % 4
theorem tt_lt (t : Fin grid0.N) : tt t < 4 := by have h : t.val < 16 := t.isLt; unfold tt; omega
theorem jj_lt (t : Fin grid0.N) : jj t < 4 := Nat.mod_lt _ (by decide)
/-- A token of the tile, among all tokens; a channel of a chunk, among all channels. -/
def tok (t : Fin grid0.N) (r : Fin 512) : Fin 2048 := ⟨tt t * 512 + r.val, by have := tt_lt t; omega⟩
def Ch (j : ℕ) (n : Fin 704) : Fin 2816 := ⟨j % 4 * 704 + n.val, by omega⟩

theorem idx0 : ∀ t : Fin grid0.N, win0_0.index t = ![tt t, 0] := by decide +kernel
theorem idx1 : ∀ t : Fin grid0.N, win0_1.index t = ![0, 0] := by decide +kernel
theorem idx2 : ∀ t : Fin grid0.N, win0_2.index t = ![0, 0] := by decide +kernel
theorem idx3 : ∀ t : Fin grid0.N, win0_3.index t = ![jj t, 0, 0] := by decide +kernel
theorem idx4 : ∀ t : Fin grid0.N, win0_4.index t = ![jj t + 4, 0, 0] := by decide +kernel
theorem idx5 : ∀ t : Fin grid0.N, win0_5.index t = ![jj t, 0, 0] := by decide +kernel
theorem idx6 : ∀ t : Fin grid0.N, win0_6.index t = ![tt t, 0] := by decide +kernel
theorem idx7 : ∀ t : Fin grid0.N, win0_7.index t = ![tt t, 0] := by decide +kernel
theorem idx8 : ∀ t : Fin grid0.N, win0_8.index t = ![jj t, tt t, 0] := by decide +kernel
theorem idx9 : ∀ t : Fin grid0.N, win0_9.index t = ![jj t, tt t, 0] := by decide +kernel
theorem idx10 : ∀ t : Fin grid0.N, win0_10.index t = ![tt t, 0] := by decide +kernel

theorem i0_at (c : Dev nD) (t : Fin grid0.N) (r : Fin 512) (k : Fin 1024) : iblk m c 0 t (ix2 r k) = X0 m c (ix2 (tok t r) k) := by
  refine congrArg ((m ((c : Thread nD τ).loc main_arg0))) ?_
  unfold tok
  blk_ext [idx0 t]
theorem i1_at (c : Dev nD) (t : Fin grid0.N) (r : Fin 3) (k : Fin 1024) : iblk m c 1 t (ix2 r k) = X1 m c (ix2 r k) := by
  refine congrArg ((m ((c : Thread nD τ).loc main_arg1))) ?_
  blk_ext [idx1 t]
theorem i2_at (c : Dev nD) (t : Fin grid0.N) (k : Fin 1024) : iblk m c 2 t (ix2 0 k) = X2 m c (ix1 k) := by
  refine Eq.trans ?_ (V5_at m c k)
  refine congrArg (V m c main_v5) ?_
  blk_ext [idx2 t]
theorem i3_at (c : Dev nD) (t : Fin grid0.N) (n : Fin 704) (k : Fin 1024) : iblk m c 3 t (ix3 0 n k) = X3 m c (ix2 k ⟨(Ch t.val n).val, by omega⟩) := by
  refine Eq.trans ?_ (V2_at m c ⟨jj t, by have := jj_lt t; omega⟩ n k)
  refine congrArg (V m c main_v2) ?_
  blk_ext [idx3 t]
theorem i4_at (c : Dev nD) (t : Fin grid0.N) (n : Fin 704) (k : Fin 1024) : iblk m c 4 t (ix3 0 n k) = X3 m c (ix2 k ⟨2816 + (Ch t.val n).val, by omega⟩) := by
  have e : (⟨(jj t + 4) * 704 + n.val, by have := jj_lt t; omega⟩ : Fin 5632) = ⟨2816 + (Ch t.val n).val, by omega⟩ :=
    Fin.ext (show (t.val % 4 + 4) * 704 + n.val = 2816 + (t.val % 4 * 704 + n.val) by omega)
  rw [← e]
  refine Eq.trans ?_ (V2_at m c ⟨jj t + 4, by have := jj_lt t; omega⟩ n k)
  refine congrArg (V m c main_v2) ?_
  blk_ext [idx4 t]
theorem i5_at (c : Dev nD) (t : Fin grid0.N) (n : Fin 704) (k : Fin 1024) : iblk m c 5 t (ix3 0 n k) = X4 m c (ix2 (Ch t.val n) k) := by
  refine Eq.trans ?_ (V4_at m c ⟨jj t, jj_lt t⟩ n k)
  refine congrArg (V m c main_v4) ?_
  blk_ext [idx5 t]

section Rows
variable (X : FVec Ideal S3x1024 .f32) (k : Fin 1024)
theorem ldr0 : View.ld (Val := Elt Ideal) (e' := .f32) X (Rect.unit (s := S3x1024) ![0, 0] ![1, 1024] inb_S3x1024_S1x1024_0_0) (ix2 0 k) = X (ix2 0 k) := by
  have he : (Rect.unit (s := S3x1024) ![0, 0] ![1, 1024] inb_S3x1024_S1x1024_0_0).emb (ix2 0 k) = (ix2 0 k : S3x1024.Idx) := by
    blk_ext []
  exact congrArg X he
theorem ldr1 : View.ld (Val := Elt Ideal) (e' := .f32) X (Rect.unit (s := S3x1024) ![1, 0] ![1, 1024] inb_S3x1024_S1x1024_1_0) (ix2 0 k) = X (ix2 1 k) := by
  have he : (Rect.unit (s := S3x1024) ![1, 0] ![1, 1024] inb_S3x1024_S1x1024_1_0).emb (ix2 0 k) = (ix2 1 k : S3x1024.Idx) := by
    blk_ext []
  exact congrArg X he
theorem ldr2 : View.ld (Val := Elt Ideal) (e' := .f32) X (Rect.unit (s := S3x1024) ![2, 0] ![1, 1024] inb_S3x1024_S1x1024_2_0) (ix2 0 k) = X (ix2 2 k) := by
  have he : (Rect.unit (s := S3x1024) ![2, 0] ![1, 1024] inb_S3x1024_S1x1024_2_0).emb (ix2 0 k) = (ix2 2 k : S3x1024.Idx) := by
    blk_ext []
  exact congrArg X he
end Rows

/-! ## The tiles -/

/-- The tile of the modulated input. -/
def HT (c : Dev nD) (t : Fin cfg0.N) (H : FVec Ideal S512x1024 .bf16) : Prop :=
  ∀ r k, H (ix2 r k) = val_main_v24 (F := Ideal) (X0 m c) (X1 m c) (X2 m c) (ix2 (tok t r) k)

theorem Bh_T (c : Dev nD) (t : Fin cfg0.N) : HT m c t (Bh m c t) := by
  intro r k
  unfold Bh
  rw [h_at, ldr0, ldr1, r24, r7, i2_at, i1_at, i1_at]
  simp only [i0_at]

theorem tok_step {t t' : Fin cfg0.N} (e : t.val = t'.val - 1) (h4 : ¬ t'.val % 4 = 0) (r : Fin 512) : tok t r = tok t' r := by
  unfold tok tt
  refine Fin.ext ?_
  show t.val / 4 * 512 + r.val = t'.val / 4 * 512 + r.val
  omega

theorem HT_step {c : Dev nD} {t t' : Fin cfg0.N} {H : FVec Ideal S512x1024 .bf16} (e : t.val = t'.val - 1) (h4 : ¬ t'.val % 4 = 0) (hH : HT m c t H) : HT m c t' H := by
  intro r k
  rw [hH r k, tok_step e h4]

section Tile
variable {m} {c : Dev nD} {t : Fin cfg0.N} {H : FVec Ideal S512x1024 .bf16} (hH : HT m c t H) (r : Fin 512) (n : Fin 704)
include hH
theorem Ba_a : Ba H (iblk m c 3 t) (ix3 0 r n) = val_main_v26 (F := Ideal) (X0 m c) (X1 m c) (X2 m c) (X3 m c) (ix2 (tok t r) (Ch t.val n)) := by
  rw [r26, r25]
  unfold Ba
  exact Finset.sum_congr rfl fun k _ => congrArg₂ (· * ·) (hH r k) (i3_at m c t n k)
theorem Ba_b : Ba H (iblk m c 4 t) (ix3 0 r n) = val_main_v27 (F := Ideal) (X0 m c) (X1 m c) (X2 m c) (X3 m c) (ix2 (tok t r) (Ch t.val n)) := by
  rw [r27, r25]
  unfold Ba
  exact Finset.sum_congr rfl fun k _ => congrArg₂ (· * ·) (hH r k) (i4_at m c t n k)
end Tile

/-- What chunk `j` contributes to the block's output. -/
def term (c : Dev nD) (j : ℕ) (s : Fin 2048) (k : Fin 1024) : EReal :=
  ∑ n : Fin 704, val_main_v29 (F := Ideal) (X0 m c) (X1 m c) (X2 m c) (X3 m c) (ix2 s (Ch j n)) * X4 m c (ix2 (Ch j n) k)

theorem term_mod (c : Dev nD) (j : ℕ) (s : Fin 2048) (k : Fin 1024) : term m c (j % 4) s k = term m c j s k := by
  unfold term Ch
  simp only [Nat.mod_mod]

theorem sum_chunks (f : Fin 2816 → EReal) : ∑ q, f q = ∑ j ∈ Finset.range 4, ∑ n : Fin 704, f (Ch j n) := by
  rw [Finset.sum_range]
  refine ((Fin.sum_mul_add_fin 4 704 f).symm).trans ?_
  refine Finset.sum_congr rfl fun j _ => Finset.sum_congr rfl fun n _ => congrArg f (Fin.ext ?_)
  show j.val * 704 + n.val = j.val % 4 * 704 + n.val
  rw [Nat.mod_eq_of_lt j.isLt]

theorem term_sum (c : Dev nD) (s : Fin 2048) (k : Fin 1024) :
    ∑ j ∈ Finset.range 4, term m c j s k = val_main_v30 (F := Ideal) (X0 m c) (X1 m c) (X2 m c) (X3 m c) (X4 m c) (ix2 s k) := by
  rw [r30, sum_chunks]
  rfl

theorem Bacc_at {c : Dev nD} {t : Fin cfg0.N} {H : FVec Ideal S512x1024 .bf16} (hH : HT m c t H) (acc : FVec Ideal S512x1024 .f32) (r : Fin 512) (k : Fin 1024) :
    Bacc H (iblk m c 3 t) (iblk m c 4 t) (iblk m c 5 t) acc (ix2 r k) = acc (ix2 r k) + term m c t.val (tok t r) k := by
  unfold Bacc term
  refine congrArg₂ (· + ·) rfl (Finset.sum_congr rfl fun n _ => ?_)
  refine congrArg₂ (· * ·) ?_ (i5_at m c t n k)
  rw [r29]
  exact congrArg₂ gact (Ba_a hH r n) (Ba_b hH r n)

/-- The tile of the block's output after some chunks. -/
def AT (c : Dev nD) (t : Fin cfg0.N) (acc : FVec Ideal S512x1024 .f32) : Prop :=
  ∀ r k, acc (ix2 r k) = ∑ j ∈ Finset.range (t.val % 4 + 1), term m c j (tok t r) k

theorem AT_first {c : Dev nD} {t : Fin cfg0.N} (h0 : t.val % 4 = 0) :
    AT m c t (Bacc (Bh m c t) (iblk m c 3 t) (iblk m c 4 t) (iblk m c 5 t) (k0_pay4 (F := Ideal))) := by
  intro r k
  rw [Bacc_at m (Bh_T m c t), zero_at, h0, zero_add, ← term_mod, h0, Finset.sum_range_one]

theorem AT_step {c : Dev nD} {t t' : Fin cfg0.N} {H : FVec Ideal S512x1024 .bf16} {acc : FVec Ideal S512x1024 .f32}
    (e : t.val = t'.val - 1) (h4 : ¬ t'.val % 4 = 0) (hH : HT m c t H) (hh : AT m c t acc) :
    AT m c t' (Bacc H (iblk m c 3 t') (iblk m c 4 t') (iblk m c 5 t') acc) := by
  intro r k
  rw [Bacc_at m (HT_step m e h4 hH), hh r k]
  have e4 : t'.val % 4 = t.val % 4 + 1 := by omega
  rw [e4, Finset.sum_range_succ _ (t.val % 4 + 1), ← e4, term_mod, tok_step e h4]

theorem AT_last {c : Dev nD} {t : Fin cfg0.N} {acc : FVec Ideal S512x1024 .f32} (h3 : t.val % 4 = 3) (hh : AT m c t acc) (r : Fin 512) (k : Fin 1024) :
    acc (ix2 r k) = val_main_v30 (F := Ideal) (X0 m c) (X1 m c) (X2 m c) (X3 m c) (X4 m c) (ix2 (tok t r) k) := by
  rw [hh r k, h3, term_sum]

/-- What the carried buffers hold after each point. -/
theorem carried (c : Dev nD) : ∀ (n : ℕ) (h : n < cfg0.N), HT m c ⟨n, h⟩ (outsAt0 m c n h).2.2.2.2.1 ∧ HT m c ⟨n, h⟩ (outsAt0 m c n h).2.2.2.2.2.1
    ∧ AT m c ⟨n, h⟩ (outsAt0 m c n h).2.2.2.2.2.2 := by
  intro n
  induction n with
  | zero =>
    intro h
    rw [show outsAt0 m c 0 h = _ from outsAt0_A m c ⟨0, h⟩ (by show 0 % 4 = 0; rfl) (by show ¬ 0 % 4 = 3; decide), atA_10, atA_s0, atA_s1]
    exact ⟨Bh_T m c _, Bh_T m c _, AT_first m rfl⟩
  | succ n ih =>
    intro h
    have hn : n < cfg0.N := Nat.lt_of_succ_lt h
    by_cases h0 : (n + 1) % 4 = 0
    · rw [show outsAt0 m c (n + 1) h = _ from outsAt0_A m c ⟨n + 1, h⟩ h0 (by show ¬ (n + 1) % 4 = 3; omega), atA_10, atA_s0, atA_s1]
      exact ⟨Bh_T m c _, Bh_T m c _, AT_first m h0⟩
    · obtain ⟨i1, i2, i3⟩ := ih hn
      have s1 := HT_step (t := ⟨n, hn⟩) (t' := ⟨n + 1, h⟩) m rfl h0 i1
      have s2 := HT_step (t := ⟨n, hn⟩) (t' := ⟨n + 1, h⟩) m rfl h0 i2
      have s3 := AT_step (t := ⟨n, hn⟩) (t' := ⟨n + 1, h⟩) m rfl h0 i2 i3
      by_cases h2 : (n + 1) % 4 = 3
      · rw [show outsAt0 m c (n + 1) h = _ from outsAt0_C m c ⟨n + 1, h⟩ h0 h2, atC_10, atC_s0, atC_s1]
        exact ⟨s1, s2, s3⟩
      · rw [show outsAt0 m c (n + 1) h = _ from outsAt0_B m c ⟨n + 1, h⟩ h0 h2, atB_10, atB_s0, atB_s1]
        exact ⟨s1, s2, s3⟩

theorem pred_lt {n : ℕ} (h : n < cfg0.N) : n - 1 < cfg0.N := Nat.lt_of_le_of_lt (Nat.sub_le _ _) h

theorem w8_T (c : Dev nD) (t : Fin cfg0.N) (r : Fin 512) (n : Fin 704) :
    (outsAt0 m c t.val t.isLt).2.2.1 (ix3 0 r n) = val_main_v26 (F := Ideal) (X0 m c) (X1 m c) (X2 m c) (X3 m c) (ix2 (tok t r) (Ch t.val n)) := by
  by_cases h0 : t.val % 4 = 0
  · rw [outsAt0_A m c t h0 (by omega), atA_8]
    exact Ba_a (Bh_T m c t) r n
  · have hH := HT_step (t := ⟨t.val - 1, pred_lt t.isLt⟩) (t' := t) m rfl h0 (carried m c _ (pred_lt t.isLt)).2.1
    by_cases h2 : t.val % 4 = 3
    · rw [outsAt0_C m c t h0 h2, atC_8]
      exact Ba_a hH r n
    · rw [outsAt0_B m c t h0 h2, atB_8]
      exact Ba_a hH r n

theorem w9_T (c : Dev nD) (t : Fin cfg0.N) (r : Fin 512) (n : Fin 704) :
    (outsAt0 m c t.val t.isLt).2.2.2.1 (ix3 0 r n) = val_main_v27 (F := Ideal) (X0 m c) (X1 m c) (X2 m c) (X3 m c) (ix2 (tok t r) (Ch t.val n)) := by
  by_cases h0 : t.val % 4 = 0
  · rw [outsAt0_A m c t h0 (by omega), atA_9]
    exact Ba_b (Bh_T m c t) r n
  · have hH := HT_step (t := ⟨t.val - 1, pred_lt t.isLt⟩) (t' := t) m rfl h0 (carried m c _ (pred_lt t.isLt)).2.1
    by_cases h2 : t.val % 4 = 3
    · rw [outsAt0_C m c t h0 h2, atC_9]
      exact Ba_b hH r n
    · rw [outsAt0_B m c t h0 h2, atB_9]
      exact Ba_b hH r n

theorem w8_P (c : Dev nD) (t : Fin cfg0.N) (r : Fin 512) (n : Fin 704) :
    (outsAt0 m c t.val t.isLt).2.2.1 (ix3 0 r n) = val_main_v41 (F := Ideal) (X0 m c) (X1 m c) (X2 m c) (X3 m c) (ix3 ⟨jj t, jj_lt t⟩ (tok t r) n) := by
  rw [w8_T, r41]
  rfl

theorem w9_P (c : Dev nD) (t : Fin cfg0.N) (r : Fin 512) (n : Fin 704) :
    (outsAt0 m c t.val t.isLt).2.2.2.1 (ix3 0 r n) = val_main_v44 (F := Ideal) (X0 m c) (X1 m c) (X2 m c) (X3 m c) (ix3 ⟨jj t, jj_lt t⟩ (tok t r) n) := by
  rw [w9_T, r44]
  rfl

theorem acc_T (c : Dev nD) (t : Fin cfg0.N) (h3 : t.val % 4 = 3) (r : Fin 512) (k : Fin 1024) :
    Bacc (outsAt0 m c (t.val - 1) (pred_lt t.isLt)).2.2.2.2.2.1 (iblk m c 3 t) (iblk m c 4 t) (iblk m c 5 t) (outsAt0 m c (t.val - 1) (pred_lt t.isLt)).2.2.2.2.2.2 (ix2 r k)
      = val_main_v30 (F := Ideal) (X0 m c) (X1 m c) (X2 m c) (X3 m c) (X4 m c) (ix2 (tok t r) k) := by
  obtain ⟨-, i2, i3⟩ := carried m c _ (pred_lt t.isLt)
  exact AT_last m h3 (AT_step (t := ⟨t.val - 1, pred_lt t.isLt⟩) m rfl (by omega) i2 i3) r k

theorem w7_T (c : Dev nD) (t : Fin cfg0.N) (h3 : t.val % 4 = 3) (r : Fin 512) (k : Fin 1024) :
    (outsAt0 m c t.val t.isLt).2.1 (ix2 r k) = val_main_v30 (F := Ideal) (X0 m c) (X1 m c) (X2 m c) (X3 m c) (X4 m c) (ix2 (tok t r) k) := by
  rw [outsAt0_C m c t (by omega) h3, atC_7]
  exact acc_T m c t h3 r k

theorem w6_T (c : Dev nD) (t : Fin cfg0.N) (h3 : t.val % 4 = 3) (r : Fin 512) (k : Fin 1024) :
    (outsAt0 m c t.val t.isLt).1 (ix2 r k) = val_main_v38 (F := Ideal) (X0 m c) (X1 m c) (X2 m c) (X3 m c) (X4 m c) (ix2 (tok t r) k) := by
  rw [outsAt0_C m c t (by omega) h3, atC_6, xo_at, r38, ldr2, i0_at, i1_at, acc_T m c t h3 r k]

/-! ## The five results -/

theorem flush6 : ∀ t : Fin grid0.N, win0_6.flush t = true → t.val % 4 = 3 := by decide +kernel
theorem flush7 : ∀ t : Fin grid0.N, win0_7.flush t = true → t.val % 4 = 3 := by decide +kernel

theorem final6 (c : Dev nD) : (dats m 0 c).arrAt 6 cfg0.N = val_main_v38 (F := Ideal) (X0 m c) (X1 m c) (X2 m c) (X3 m c) (X4 m c) := by
  refine (dats m 0 c).arrAt_eq_of_covers 6 _ (by decide +kernel) fun t hf y => ?_
  blk_simp
  rw [after0_6]
  generalize ej : ((View.whole Cert.FfnFwdKernelIdeal.main_v6_0).slice (win0_6.rect t)).emb y = j
  replace ej : ∀ a, (j a : ℕ) = (![tt t * 512 + y 0, y 1] : Fin 2 → ℕ) a := by
    intro a; subst ej; blk_simp [idx6 t]; match a with | ⟨0, _⟩ => simp | ⟨1, _⟩ => simp
  change S512x1024.Idx at y
  change S2048x1024.Idx at j
  idx_vars y
  idx_vars j
  obtain rfl : j0 = tok t y0 := Fin.ext (ej 0)
  obtain rfl : j1 = y1 := Fin.ext (ej 1)
  exact w6_T m c t (flush6 t hf) y0 j1

theorem final7 (c : Dev nD) : (dats m 0 c).arrAt 7 cfg0.N = val_main_v30 (F := Ideal) (X0 m c) (X1 m c) (X2 m c) (X3 m c) (X4 m c) := by
  refine (dats m 0 c).arrAt_eq_of_covers 7 _ (by decide +kernel) fun t hf y => ?_
  blk_simp
  rw [after0_7]
  generalize ej : ((View.whole Cert.FfnFwdKernelIdeal.main_v6_1).slice (win0_7.rect t)).emb y = j
  replace ej : ∀ a, (j a : ℕ) = (![tt t * 512 + y 0, y 1] : Fin 2 → ℕ) a := by
    intro a; subst ej; blk_simp [idx7 t]; match a with | ⟨0, _⟩ => simp | ⟨1, _⟩ => simp
  change S512x1024.Idx at y
  change S2048x1024.Idx at j
  idx_vars y
  idx_vars j
  obtain rfl : j0 = tok t y0 := Fin.ext (ej 0)
  obtain rfl : j1 = y1 := Fin.ext (ej 1)
  exact w7_T m c t (flush7 t hf) y0 j1

theorem final8 (c : Dev nD) : (dats m 0 c).arrAt 8 cfg0.N = val_main_v41 (F := Ideal) (X0 m c) (X1 m c) (X2 m c) (X3 m c) := by
  refine (dats m 0 c).arrAt_eq_of_covers 8 _ (by decide +kernel) fun t hf y => ?_
  blk_simp
  rw [after0_8]
  generalize ej : ((View.whole Cert.FfnFwdKernelIdeal.main_v6_2).slice (win0_8.rect t)).emb y = j
  replace ej : ∀ a, (j a : ℕ) = (![jj t, tt t * 512 + y 1, y 2] : Fin 3 → ℕ) a := by
    intro a; subst ej; blk_simp [idx8 t]; match a with | ⟨0, _⟩ => simp | ⟨1, _⟩ => simp | ⟨2, _⟩ => simp
  change S1x512x704.Idx at y
  change S4x2048x704.Idx at j
  idx_vars y
  idx_vars j
  obtain rfl : j0 = ⟨jj t, jj_lt t⟩ := Fin.ext (ej 0)
  obtain rfl : j1 = tok t y1 := Fin.ext (ej 1)
  obtain rfl : j2 = y2 := Fin.ext (ej 2)
  obtain rfl : y0 = 0 := Fin.ext (by omega)
  exact w8_P m c t y1 j2

theorem final9 (c : Dev nD) : (dats m 0 c).arrAt 9 cfg0.N = val_main_v44 (F := Ideal) (X0 m c) (X1 m c) (X2 m c) (X3 m c) := by
  refine (dats m 0 c).arrAt_eq_of_covers 9 _ (by decide +kernel) fun t hf y => ?_
  blk_simp
  rw [after0_9]
  generalize ej : ((View.whole Cert.FfnFwdKernelIdeal.main_v6_3).slice (win0_9.rect t)).emb y = j
  replace ej : ∀ a, (j a : ℕ) = (![jj t, tt t * 512 + y 1, y 2] : Fin 3 → ℕ) a := by
    intro a; subst ej; blk_simp [idx9 t]; match a with | ⟨0, _⟩ => simp | ⟨1, _⟩ => simp | ⟨2, _⟩ => simp
  change S1x512x704.Idx at y
  change S4x2048x704.Idx at j
  idx_vars y
  idx_vars j
  obtain rfl : j0 = ⟨jj t, jj_lt t⟩ := Fin.ext (ej 0)
  obtain rfl : j1 = tok t y1 := Fin.ext (ej 1)
  obtain rfl : j2 = y2 := Fin.ext (ej 2)
  obtain rfl : y0 = 0 := Fin.ext (by omega)
  exact w9_P m c t y1 j2

theorem final10 (c : Dev nD) : (dats m 0 c).arrAt 10 cfg0.N = val_main_v45 (F := Ideal) (X0 m c) (X1 m c) (X2 m c) := by
  refine (dats m 0 c).arrAt_eq_of_covers 10 _ (by decide +kernel) fun t hf y => ?_
  blk_simp
  rw [after0_10]
  generalize ej : ((View.whole Cert.FfnFwdKernelIdeal.main_v6_4).slice (win0_10.rect t)).emb y = j
  replace ej : ∀ a, (j a : ℕ) = (![tt t * 512 + y 0, y 1] : Fin 2 → ℕ) a := by
    intro a; subst ej; blk_simp [idx10 t]; match a with | ⟨0, _⟩ => simp | ⟨1, _⟩ => simp
  change S512x1024.Idx at y
  change S2048x1024.Idx at j
  idx_vars y
  idx_vars j
  obtain rfl : j0 = tok t y0 := Fin.ext (ej 0)
  obtain rfl : j1 = y1 := Fin.ext (ej 1)
  exact ((carried m c t.val t.isLt).1 y0 j1).trans (r45 ..).symm

end Cert.Proof.FfnFwd

end
-- ==== Proof.FfnFwdBody.lean ====
module

public import proofs.«01_k».proof.Proof.FfnFwdData

@[expose] public section

set_option maxRecDepth 16384

noncomputable section

namespace Cert.Proof.FfnFwd

open Cert.FfnFwdKernelIdeal Cert.FfnFwdKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- What the body returns at a point. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 14400000 in
/-- The body at any point, case by case. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  by_cases h0 : t.val % 4 = 0
  · by_cases h1 : t.val % 4 = 3
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [Dat.leavesExact_idle (dats m 0 c) 6 t (idleAt0_6_A t ((hcond0_0 t).mpr h0) (fun h => h1 ((hcond0_1 t).mp h))) (noFlush0_6_A t ((hcond0_0 t).mpr h0) (fun h => h1 ((hcond0_1 t).mp h)))]
      rw [Dat.leavesExact_idle (dats m 0 c) 7 t (idleAt0_7_A t ((hcond0_0 t).mpr h0) (fun h => h1 ((hcond0_1 t).mp h))) (noFlush0_7_A t ((hcond0_0 t).mpr h0) (fun h => h1 ((hcond0_1 t).mp h)))]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10_A t ((hcond0_0 t).mpr h0) (fun h => h1 ((hcond0_1 t).mp h))], after0_10]
      by_cases hz : t.val = 0
      · rw [PhiS_castSucc m c t, PhiS_zero m c _ _ hz, PhiA0_eq]
        rw [outsAt0_A m c t h0 h1]; unfold at0_A
        unfold out0_A_8 out0_A_9 out0_A_10 sout0_A_0 sout0_A_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun0_A c (grid0.coords t) _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2.2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        isplitl [H10]; · iexists _; iexact H10
        isplitl [HS0]; · iexact HS0
        isplitl [HS1]; · iexact HS1
        iintro ⟨H0, H1, H2, H3, H4, H5, H6, H7, ⟨%e8, H8⟩, ⟨%e9, H9⟩, ⟨%e10, H10⟩, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [H8]
        · unfold owns; iexists _; isplitr
          swap; · iexact H8
          ipureintro; exact View.read_writes_of_cover _ _ _ _ _ (cover0_A_8 c _ _ _ _ _ _ _ _ _ _ _ _ _ _ _ _ _ _ _ _ _ _ _ _ _ _ _ _ _ _ _ _ _ _ _)
        isplitl [H9]
        · unfold owns; iexists _; isplitr
          swap; · iexact H9
          ipureintro; exact View.read_writes_of_cover _ _ _ _ _ (cover0_A_9 c _ _ _ _ _ _ _ _ _ _ _ _ _ _ _ _ _ _ _ _ _ _ _ _ _ _ _ _ _ _ _ _ _ _ _)
        unfold owns; iexists _; isplitr
        swap; · iexact H10
        ipureintro; exact View.read_writes_of_cover _ _ _ _ _ (cover0_A_10 c _ _ _ _ _ _ _ _ _ _ _ _ _ _ _ _ _ _ _ _ _ _ _ _ _ _ _ _ _ _ _ _ _ _ _)
      · rw [PhiS_castSucc m c t, PhiS_pos m c _ _ hz]
        rw [outsAt0_A m c t h0 h1]; unfold at0_A
        unfold out0_A_8 out0_A_9 out0_A_10 sout0_A_0 sout0_A_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun0_A c (grid0.coords t) _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2.2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        isplitl [H10]; · iexists _; iexact H10
        isplitl [HS0]; · iexists _; iexact HS0
        isplitl [HS1]; · iexists _; iexact HS1
        iintro ⟨H0, H1, H2, H3, H4, H5, H6, H7, ⟨%e8, H8⟩, ⟨%e9, H9⟩, ⟨%e10, H10⟩, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [H8]
        · unfold owns; iexists _; isplitr
          swap; · iexact H8
          ipureintro; exact View.read_writes_of_cover _ _ _ _ _ (cover0_A_8 c _ _ _ _ _ _ _ _ _ _ _ _ _ _ _ _ _ _ _ _ _ _ _ _ _ _ _ _ _ _ _ _ _ _ _)
        isplitl [H9]
        · unfold owns; iexists _; isplitr
          swap; · iexact H9
          ipureintro; exact View.read_writes_of_cover _ _ _ _ _ (cover0_A_9 c _ _ _ _ _ _ _ _ _ _ _ _ _ _ _ _ _ _ _ _ _ _ _ _ _ _ _ _ _ _ _ _ _ _ _)
        unfold owns; iexists _; isplitr
        swap; · iexact H10
        ipureintro; exact View.read_writes_of_cover _ _ _ _ _ (cover0_A_10 c _ _ _ _ _ _ _ _ _ _ _ _ _ _ _ _ _ _ _ _ _ _ _ _ _ _ _ _ _ _ _ _ _ _ _)
  · by_cases h1 : t.val % 4 = 3
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6_C t (fun h => h0 ((hcond0_0 t).mp h)) ((hcond0_1 t).mpr h1)], after0_6]
      rw [show (dats m 0 c).leavesExact 7 t = owns (c : Thread nD τ) (ms0_7 t) fullShare ((dats m 0 c).after 7 t) from by
      unfold Dat.leavesExact; rw [liveAt0_7_C t (fun h => h0 ((hcond0_0 t).mp h)) ((hcond0_1 t).mpr h1)], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [idleAt0_10_C t (fun h => h0 ((hcond0_0 t).mp h)) ((hcond0_1 t).mpr h1), doFlush0_10_C t (fun h => h0 ((hcond0_0 t).mp h)) ((hcond0_1 t).mpr h1)], after0_10]
      by_cases hz : t.val = 0
      · exfalso; have hN : t.val < 16 := lt_of_lt_of_eq t.isLt (show cfg0.N = 16 from N_0); omega
      · rw [PhiS_castSucc m c t, PhiS_pos m c _ _ hz]
        rw [outsAt0_C m c t h0 h1]; unfold at0_C
        simp only [before0_10_C m c t h0 h1]
        unfold out0_C_6 out0_C_7 out0_C_8 out0_C_9 out0_C_10 sout0_C_0 sout0_C_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun0_C c (grid0.coords t) _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) _ _ _).2.2.2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [H8]; · iexists _; iexact H8
        isplitl [H9]; · iexists _; iexact H9
        isplitl [H10]; · iexact H10
        isplitl [HS0]; · iexact HS0
        isplitl [HS1]; · iexact HS1
        iintro ⟨H0, H1, H2, H3, H4, H5, ⟨%e6, H6⟩, ⟨%e7, H7⟩, ⟨%e8, H8⟩, ⟨%e9, H9⟩, H10, HS0, ⟨%es1, HS1⟩⟩
        isplitl [HS0 HS1 Hg]
        · isplitl [HS0 HS1]
          · isplitl [HS0]
            · iexact HS0
            unfold owns; iexists _; isplitr
            swap; · iexact HS1
            ipureintro; exact View.read_writes_of_cover _ _ _ _ _ (scover0_C_1 c _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover0_C_6 c _ _ _ _ _ _ _ _ _ _ _ _ _ _ _ _ _ _ _ _ _ _ _ _ _ _ _ _ _ _ _ _ _ _ _ _ _ _)
        isplitl [H7]
        · unfold owns; iexists _; isplitr
          swap; · iexact H7
          ipureintro; exact View.read_writes_of_cover _ _ _ _ _ (cover0_C_7 c _ _ _ _ _ _ _ _ _ _ _ _ _ _ _ _ _ _ _ _ _ _ _ _ _ _ _ _ _ _ _ _ _ _ _ _ _ _)
        isplitl [H8]
        · unfold owns; iexists _; isplitr
          swap; · iexact H8
          ipureintro; exact View.read_writes_of_cover _ _ _ _ _ (cover0_C_8 c _ _ _ _ _ _ _ _ _ _ _ _ _ _ _ _ _ _ _ _ _ _ _ _ _ _ _ _ _ _ _ _ _ _ _ _ _ _)
        isplitl [H9]
        · unfold owns; iexists _; isplitr
          swap; · iexact H9
          ipureintro; exact View.read_writes_of_cover _ _ _ _ _ (cover0_C_9 c _ _ _ _ _ _ _ _ _ _ _ _ _ _ _ _ _ _ _ _ _ _ _ _ _ _ _ _ _ _ _ _ _ _ _ _ _ _)
        iexact H10
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [Dat.leavesExact_idle (dats m 0 c) 6 t (idleAt0_6_B t (fun h => h0 ((hcond0_0 t).mp h)) (fun h => h1 ((hcond0_1 t).mp h))) (noFlush0_6_B t (fun h => h0 ((hcond0_0 t).mp h)) (fun h => h1 ((hcond0_1 t).mp h)))]
      rw [Dat.leavesExact_idle (dats m 0 c) 7 t (idleAt0_7_B t (fun h => h0 ((hcond0_0 t).mp h)) (fun h => h1 ((hcond0_1 t).mp h))) (noFlush0_7_B t (fun h => h0 ((hcond0_0 t).mp h)) (fun h => h1 ((hcond0_1 t).mp h)))]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [Dat.leavesExact_idle (dats m 0 c) 10 t (idleAt0_10_B t (fun h => h0 ((hcond0_0 t).mp h)) (fun h => h1 ((hcond0_1 t).mp h))) (noFlush0_10_B t (fun h => h0 ((hcond0_0 t).mp h)) (fun h => h1 ((hcond0_1 t).mp h)))]
      by_cases hz : t.val = 0
      · exfalso; have hN : t.val < 16 := lt_of_lt_of_eq t.isLt (show cfg0.N = 16 from N_0); omega
      · rw [PhiS_castSucc m c t, PhiS_pos m c _ _ hz]
        rw [outsAt0_B m c t h0 h1]; unfold at0_B
        unfold out0_B_8 out0_B_9 sout0_B_0 sout0_B_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun0_B c (grid0.coords t) _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) _ _).2.2.2.2.2.2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        isplitl [H10]; · iexact H10
        isplitl [HS0]; · iexact HS0
        isplitl [HS1]; · iexact HS1
        iintro ⟨H0, H1, H2, H3, H4, H5, H6, H7, ⟨%e8, H8⟩, ⟨%e9, H9⟩, H10, HS0, ⟨%es1, HS1⟩⟩
        isplitl [HS0 HS1 Hg]
        · isplitl [HS0 HS1]
          · isplitl [HS0]
            · iexact HS0
            unfold owns; iexists _; isplitr
            swap; · iexact HS1
            ipureintro; exact View.read_writes_of_cover _ _ _ _ _ (scover0_B_1 c _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [H8]
        · unfold owns; iexists _; isplitr
          swap; · iexact H8
          ipureintro; exact View.read_writes_of_cover _ _ _ _ _ (cover0_B_8 c _ _ _ _ _ _ _ _ _ _ _ _ _ _ _ _ _ _ _ _ _ _ _ _ _ _ _ _ _ _ _ _ _ _ _ _ _)
        isplitl [H9]
        · unfold owns; iexists _; isplitr
          swap; · iexact H9
          ipureintro; exact View.read_writes_of_cover _ _ _ _ _ (cover0_B_9 c _ _ _ _ _ _ _ _ _ _ _ _ _ _ _ _ _ _ _ _ _ _ _ _ _ _ _ _ _ _ _ _ _ _ _ _ _)
        iexists _; iexact H10

theorem defs₀_row (t : Fin cfg0.N) :
    defs₀ (F := F) .tc cfg0.body (cfg0.bodyArgs t (cfg0.slots t)) = bodyAt0 t := by
  unfold defs₀; rw [Defs.onTc_tc]

/-- The obligation of the pipeline on its body. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

theorem hout (c : Dev nD) : (dats m 0 c).Φ (Fin.last cfg0.N) ⊢ Pipeline.ΦA spec0 c :=
  Phi_out m c _ (by rw [Fin.val_last]; have : cfg0.N = 16 := N_0; omega)

set_option backward.isDefEq.respectTransparency.types false in
/-- The launch: the arrays at what the proof data say, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The launch without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame of the program, for any floats. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

/-- The run with every output array named and the arguments unchanged. -/
theorem run_blocks : θ_run defs (onTc (τ := τ) (main (F := F))) ⟨m, fun _ => 0, ρ⟩ fun r => ∀ c : Dev nD,
      r.2.mem ((c : Thread nD τ).loc main_v6_0) = (dats m 0 c).arrAt 6 cfg0.N
      ∧ r.2.mem ((c : Thread nD τ).loc main_v6_1) = (dats m 0 c).arrAt 7 cfg0.N
      ∧ r.2.mem ((c : Thread nD τ).loc main_v6_2) = (dats m 0 c).arrAt 8 cfg0.N
      ∧ r.2.mem ((c : Thread nD τ).loc main_v6_3) = (dats m 0 c).arrAt 9 cfg0.N
      ∧ r.2.mem ((c : Thread nD τ).loc main_v6_4) = (dats m 0 c).arrAt 10 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1 6,
      (h c).1 7,
      (h c).1 8,
      (h c).1 9,
      (h c).1 10,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end Cert.Proof.FfnFwd

end
-- ==== Proof.FfnFwdBits.lean ====
module

public import proofs.«01_k».proof.Defs
public import proofs.«01_k».proof.Proof.Gen.FfnFwdKernel
public import proofs.«01_k».proof.Proof.FfnFwdBody

@[expose] public section

set_option maxRecDepth 16384

noncomputable section

open Idealize.ShloMosaic Idealize.ShloMosaic.Tactic Idealize.SL.Sem

namespace Cert.Proof.FfnFwd

/-- The two printed texts are the same program, so the frame of the one is the frame of the other. -/
theorem frame_eq (m : (ℓ : Loc Cert.FfnFwdKernel.nD Cert.FfnFwdKernel.τ Cert.FfnFwdKernel.sig) → Buf (Elt Bits) ℓ) (g : Dev Cert.FfnFwdKernel.nD → PrngReg) :
    (θ_run (Cert.FfnFwdKernel.defs (F := Bits)) (onTc (τ := Cert.FfnFwdKernel.τ) (Cert.FfnFwdKernel.main (F := Bits))) ⟨m, fun _ => 0, g⟩ (fun r => (∀ c : Dev Cert.FfnFwdKernel.nD,
      r.2.mem ((c.tc : Thread Cert.FfnFwdKernel.nD Cert.FfnFwdKernel.τ).loc Cert.FfnFwdKernel.main_arg0) = m ((c.tc : Thread Cert.FfnFwdKernel.nD Cert.FfnFwdKernel.τ).loc Cert.FfnFwdKernel.main_arg0)
      ∧ r.2.mem ((c.tc : Thread Cert.FfnFwdKernel.nD Cert.FfnFwdKernel.τ).loc Cert.FfnFwdKernel.main_arg1) = m ((c.tc : Thread Cert.FfnFwdKernel.nD Cert.FfnFwdKernel.τ).loc Cert.FfnFwdKernel.main_arg1)
      ∧ r.2.mem ((c.tc : Thread Cert.FfnFwdKernel.nD Cert.FfnFwdKernel.τ).loc Cert.FfnFwdKernel.main_arg2) = m ((c.tc : Thread Cert.FfnFwdKernel.nD Cert.FfnFwdKernel.τ).loc Cert.FfnFwdKernel.main_arg2)
      ∧ r.2.mem ((c.tc : Thread Cert.FfnFwdKernel.nD Cert.FfnFwdKernel.τ).loc Cert.FfnFwdKernel.main_arg3) = m ((c.tc : Thread Cert.FfnFwdKernel.nD Cert.FfnFwdKernel.τ).loc Cert.FfnFwdKernel.main_arg3)
      ∧ r.2.mem ((c.tc : Thread Cert.FfnFwdKernel.nD Cert.FfnFwdKernel.τ).loc Cert.FfnFwdKernel.main_arg4) = m ((c.tc : Thread Cert.FfnFwdKernel.nD Cert.FfnFwdKernel.τ).loc Cert.FfnFwdKernel.main_arg4))
      ∧ r.2.sem = fun _ => 0)) =
    (θ_run (Cert.FfnFwdKernelIdeal.defs (F := Bits)) (onTc (τ := Cert.FfnFwdKernelIdeal.τ) (Cert.FfnFwdKernelIdeal.main (F := Bits))) ⟨m, fun _ => 0, g⟩ (fun r => (∀ c : Dev Cert.FfnFwdKernelIdeal.nD,
      r.2.mem ((c.tc : Thread Cert.FfnFwdKernelIdeal.nD Cert.FfnFwdKernelIdeal.τ).loc Cert.FfnFwdKernelIdeal.main_arg0) = m ((c.tc : Thread Cert.FfnFwdKernelIdeal.nD Cert.FfnFwdKernelIdeal.τ).loc Cert.FfnFwdKernelIdeal.main_arg0)
      ∧ r.2.mem ((c.tc : Thread Cert.FfnFwdKernelIdeal.nD Cert.FfnFwdKernelIdeal.τ).loc Cert.FfnFwdKernelIdeal.main_arg1) = m ((c.tc : Thread Cert.FfnFwdKernelIdeal.nD Cert.FfnFwdKernelIdeal.τ).loc Cert.FfnFwdKernelIdeal.main_arg1)
      ∧ r.2.mem ((c.tc : Thread Cert.FfnFwdKernelIdeal.nD Cert.FfnFwdKernelIdeal.τ).loc Cert.FfnFwdKernelIdeal.main_arg2) = m ((c.tc : Thread Cert.FfnFwdKernelIdeal.nD Cert.FfnFwdKernelIdeal.τ).loc Cert.FfnFwdKernelIdeal.main_arg2)
      ∧ r.2.mem ((c.tc : Thread Cert.FfnFwdKernelIdeal.nD Cert.FfnFwdKernelIdeal.τ).loc Cert.FfnFwdKernelIdeal.main_arg3) = m ((c.tc : Thread Cert.FfnFwdKernelIdeal.nD Cert.FfnFwdKernelIdeal.τ).loc Cert.FfnFwdKernelIdeal.main_arg3)
      ∧ r.2.mem ((c.tc : Thread Cert.FfnFwdKernelIdeal.nD Cert.FfnFwdKernelIdeal.τ).loc Cert.FfnFwdKernelIdeal.main_arg4) = m ((c.tc : Thread Cert.FfnFwdKernelIdeal.nD Cert.FfnFwdKernelIdeal.τ).loc Cert.FfnFwdKernelIdeal.main_arg4))
      ∧ r.2.sem = fun _ => 0)) := by
  sl_kernel_rfl

theorem frame_bits : Cert.quiescent_FfnFwdKernel (hFfnFwdKernel := Cert.FfnFwdKernel.Gen.facts) := fun m ρ _ =>
  (frame_eq m ρ).mpr (frame (F := Bits) m ρ)

end Cert.Proof.FfnFwd

end
-- ==== Proof.MixInFwd.lean ====
module

public import proofs.«01_k».proof.Defs
public import proofs.«01_k».proof.Proof.Gen.MixInFwdKernelIdeal.Value
public import proofs.«01_k».proof.Proof.Gen.MixInFwdReferenceIdeal.Run
public import proofs.«01_k».proof.Proof.Gen.MixInFwdReferenceIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem Idealize.ShloMosaic.StableHlo
open Idealize.ShloMosaic.Pipeline (Dat)

namespace Cert.Proof.MixInFwd

open Cert.MixInFwdKernelIdeal Cert.MixInFwdKernelIdeal.Gen
open Cert.MixInFwdReferenceIdeal.Read

/-- One block of the layer: the rows normalised, scaled and shifted, then multiplied into the weights. -/
theorem pay_at (x : FVec Ideal S512x1024 .f32) (g c0 c1 : FVec Ideal S1x1024 .f32) (w : FVec Ideal S1792x1024 .bf16) (r : Fin 512) (n : Fin 1792) :
    k0_pay1 (F := Ideal) x g c0 c1 w (ix2 r n) = ∑ k : Fin 1024, (x (ix2 r k)
      * Ideal.rsqrt (Ideal.div (∑ k : Fin 1024, x (ix2 r k) * x (ix2 r k)) (FloatOps.ofBits (F := Ideal) .f32 0x44800000#32) + FloatOps.ofBits (F := Ideal) .f32 0x358637BD#32)
      * g (ix2 0 k) * (FloatOps.ofBits (F := Ideal) .f32 0x3F800000#32 + c1 (ix2 0 k)) + c0 (ix2 0 k)) * w (ix2 n k) := by
  unfold k0_pay1
  pointwise

section Reference
variable (x0 : FVec Ideal S2048x1024 .f32) (x1 : FVec Ideal S2x1024 .f32) (x2 : FVec Ideal S1024 .f32) (x3 : FVec Ideal S1024x1792 .f32)
variable (s : Fin 2048) (k : Fin 1024) (n : Fin 1792)

theorem r7 : val_main_v7 (F := Ideal) x0 (ix2 s 0) = Ideal.rsqrt (Ideal.div (∑ k : Fin 1024, x0 (ix2 s k) * x0 (ix2 s k)) (FloatOps.ofBits (F := Ideal) .f32 0x44800000#32)
    + FloatOps.ofBits (F := Ideal) .f32 0x358637BD#32) := by
  unfold val_main_v7 val_main_v6 val_main_v5 val_main_v4 val_main_v3 val_main_v2 val_main_v1 val_main_v0 val_main_cst val_main_cst_0 val_main_cst_1
  pointwise

theorem r24 : val_main_v24 (F := Ideal) x0 x1 x2 (ix2 s k) = x0 (ix2 s k) * val_main_v7 (F := Ideal) x0 (ix2 s 0) * x2 (ix1 k)
    * (FloatOps.ofBits (F := Ideal) .f32 0x3F800000#32 + x1 (ix2 1 k)) + x1 (ix2 0 k) := by
  unfold val_main_v24 val_main_v23 val_main_v22 val_main_v21 val_main_v20 val_main_v19 val_main_v18 val_main_v17 val_main_v16 val_main_v15 val_main_v14 val_main_v13
    val_main_v12 val_main_v11 val_main_v10 val_main_v9 val_main_v8 val_main_cst_2
  generalize val_main_v7 (F := Ideal) x0 = z7
  pointwise

theorem r25 : val_main_v25 (F := Ideal) x0 x1 x2 x3 (ix2 s n) = ∑ k : Fin 1024, val_main_v24 (F := Ideal) x0 x1 x2 (ix2 s k) * x3 (ix2 k n) := by
  unfold val_main_v25
  generalize val_main_v24 (F := Ideal) x0 x1 x2 = z
  pointwise
end Reference

variable (m : (ℓ : Loc nD τ sig) → Buf (Elt Ideal) ℓ)

theorem V0_at (c : Dev nD) (k : Fin 1024) : V m c main_v0 (ix2 0 k) = m ((c : Thread nD τ).loc main_arg2) (ix1 k) := by
  unfold_abbrev_sides
  simp only [List.flatten_cons, List.flatten_nil, List.cons_append, List.nil_append, List.append_nil, StableHlo.after_cons, StableHlo.after_nil]
  after_results_simp
  pointwise
  try rfl
theorem V2_at (c : Dev nD) (n : Fin 1792) (k : Fin 1024) : V m c main_v2 (ix2 n k) = m ((c : Thread nD τ).loc main_arg3) (ix2 k n) := by
  unfold_abbrev_sides
  simp only [List.flatten_cons, List.flatten_nil, List.cons_append, List.nil_append, List.append_nil, StableHlo.after_cons, StableHlo.after_nil]
  after_results_simp
  pointwise
  try rfl

theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![0, 0] := by decide +kernel
theorem idx3 : ∀ t : Fin grid0.N, win0_3.index t = ![0, 0] := by decide +kernel
theorem idx4 : ∀ t : Fin grid0.N, win0_4.index t = ![t.val, 0] := by decide +kernel

/-- A token of the tile, among all tokens. -/
def tok (t : Fin grid0.N) (r : Fin 512) : Fin 2048 := ⟨t.val * 512 + r.val, by have h : t.val < 4 := t.isLt; omega⟩

theorem i0_at (c : Dev nD) (t : Fin grid0.N) (r : Fin 512) (k : Fin 1024) : iblk m c 0 t (ix2 r k) = m ((c : Thread nD τ).loc main_arg0) (ix2 (tok t r) k) := by
  refine congrArg (m ((c : Thread nD τ).loc main_arg0)) ?_
  unfold tok
  blk_ext [idx0 t]
theorem i1_at (c : Dev nD) (t : Fin grid0.N) (r : Fin 2) (k : Fin 1024) : iblk m c 1 t (ix2 r k) = m ((c : Thread nD τ).loc main_arg1) (ix2 r k) := by
  refine congrArg (m ((c : Thread nD τ).loc main_arg1)) ?_
  blk_ext [idx1 t]
theorem i2_at (c : Dev nD) (t : Fin grid0.N) (k : Fin 1024) : iblk m c 2 t (ix2 0 k) = m ((c : Thread nD τ).loc main_arg2) (ix1 k) := by
  refine Eq.trans ?_ (V0_at m c k)
  refine congrArg (V m c main_v0) ?_
  blk_ext [idx2 t]
theorem i3_at (c : Dev nD) (t : Fin grid0.N) (n : Fin 1792) (k : Fin 1024) : iblk m c 3 t (ix2 n k) = m ((c : Thread nD τ).loc main_arg3) (ix2 k n) := by
  refine Eq.trans ?_ (V2_at m c n k)
  refine congrArg (V m c main_v2) ?_
  blk_ext [idx3 t]

theorem canon_out (p : FVec Ideal S512x1792 .f32) :
    View.canon (Val := Elt Ideal) (e := .f32) [⟨r0_5, p⟩] = p := by
  funext (i : S512x1792.Idx)
  rw [View.canon_cons_unit_lit (S := S512x1792) _ _ _ (by decide)]
theorem ld0 (x : Vec Ideal S512x1024 .f32) : View.ld x r0_0 = x := View.ld_unit_lit (S := S512x1024) _ _ (by decide)
theorem ld1 (x : Vec Ideal S1x1024 .f32) : View.ld x r0_1 = x := View.ld_unit_lit (S := S1x1024) _ _ (by decide)
theorem ld4 (x : Vec Ideal S1792x1024 .bf16) : View.ld x r0_4 = x := View.ld_unit_lit (S := S1792x1024) _ _ (by decide)
theorem ld2 (X : FVec Ideal S2x1024 .f32) (k : Fin 1024) : View.ld (Val := Elt Ideal) (e' := .f32) X r0_2 (ix2 0 k) = X (ix2 0 k) := by
  have he : r0_2.emb (ix2 0 k) = (ix2 0 k : S2x1024.Idx) := by
    blk_ext []
  exact congrArg X he
theorem ld3 (X : FVec Ideal S2x1024 .f32) (k : Fin 1024) : View.ld (Val := Elt Ideal) (e' := .f32) X r0_3 (ix2 0 k) = X (ix2 1 k) := by
  have he : r0_3.emb (ix2 0 k) = (ix2 1 k : S2x1024.Idx) := by
    blk_ext []
  exact congrArg X he

theorem out_T (c : Dev nD) (t : Fin cfg0.N) (r : Fin 512) (n : Fin 1792) : out0_4 (iblk m c 0 t) (iblk m c 1 t) (iblk m c 2 t) (iblk m c 3 t) (ix2 r n)
    = val_main_v25 (F := Ideal) (m ((c : Thread nD τ).loc main_arg0)) (m ((c : Thread nD τ).loc main_arg1)) (m ((c : Thread nD τ).loc main_arg2)) (m ((c : Thread nD τ).loc main_arg3)) (ix2 (tok t r) n) := by
  unfold out0_4
  rw [canon_out, ld0, ld1, ld4, pay_at, r25]
  refine Finset.sum_congr rfl fun k _ => ?_
  rw [r24, r7, ld2, ld3, i1_at, i1_at, i2_at, i3_at]
  simp only [i0_at]

theorem final4 (c : Dev nD) : (dats m 0 c).arrAt 4 cfg0.N
    = val_main_v25 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  generalize ej : ((View.whole Cert.MixInFwdKernelIdeal.main_v3).slice (win0_4.rect t)).emb y = j
  replace ej : ∀ a, (j a : ℕ) = (![t.val * 512 + y 0, y 1] : Fin 2 → ℕ) a := by
    intro a; subst ej; blk_simp [idx4 t]; match a with | ⟨0, _⟩ => simp | ⟨1, _⟩ => simp
  change S512x1792.Idx at y
  change S2048x1792.Idx at j
  idx_vars y
  idx_vars j
  obtain rfl : j0 = tok t y0 := Fin.ext (ej 0)
  obtain rfl : j1 = y1 := Fin.ext (ej 1)
  exact out_T m c t y0 j1

end Cert.Proof.MixInFwd

end
-- ==== Proof.MixOutFwd.lean ====
module

public import proofs.«01_k».proof.Defs
public import proofs.«01_k».proof.Proof.Gen.MixOutFwdKernelIdeal.Value
public import proofs.«01_k».proof.Proof.Gen.MixOutFwdReferenceIdeal.Run
public import proofs.«01_k».proof.Proof.Gen.MixOutFwdReferenceIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem Idealize.ShloMosaic.StableHlo
open Idealize.ShloMosaic.Pipeline (Dat)

namespace Cert.Proof.MixOutFwd

open Cert.MixOutFwdKernelIdeal Cert.MixOutFwdKernelIdeal.Gen
open Cert.MixOutFwdReferenceIdeal.Read

/-! ## The kernel's arithmetic, element by element -/

theorem pay2_at (y : FVec Ideal S512x256 .f32) (r : Fin 512) (k : Fin 256) :
    k0_pay2 (F := Ideal) y (ix2 r k) = y (ix2 r k) * Ideal.rsqrt (Ideal.div (∑ k : Fin 256, y (ix2 r k) * y (ix2 r k)) (FloatOps.ofBits (F := Ideal) .f32 0x43800000#32) + FloatOps.ofBits (F := Ideal) .f32 0x358637BD#32) := by
  unfold k0_pay2
  pointwise
theorem pay4_at (y : FVec Ideal S512x256 .f32) (r : Fin 512) (k : Fin 256) :
    k0_pay4 (F := Ideal) y (ix2 r k) = y (ix2 r k) * Ideal.rsqrt (Ideal.div (∑ k : Fin 256, y (ix2 r k) * y (ix2 r k)) (FloatOps.ofBits (F := Ideal) .f32 0x43800000#32) + FloatOps.ofBits (F := Ideal) .f32 0x358637BD#32) := by
  unfold k0_pay4
  pointwise
theorem pay6_at (y : FVec Ideal S512x256 .f32) (r : Fin 512) (k : Fin 256) :
    k0_pay6 (F := Ideal) y (ix2 r k) = y (ix2 r k) * Ideal.rsqrt (Ideal.div (∑ k : Fin 256, y (ix2 r k) * y (ix2 r k)) (FloatOps.ofBits (F := Ideal) .f32 0x43800000#32) + FloatOps.ofBits (F := Ideal) .f32 0x358637BD#32) := by
  unfold k0_pay6
  pointwise
theorem pay3_at (g : FVec Ideal S1x256 .f32) (k : Fin 256) : k0_pay3 (F := Ideal) g (ix2 0 k) = g (ix2 0 k) := by
  unfold k0_pay3
  pointwise
theorem pay5_at (g : FVec Ideal S1x256 .f32) (k : Fin 256) : k0_pay5 (F := Ideal) g (ix2 0 k) = g (ix2 0 k) := by
  unfold k0_pay5
  pointwise
theorem pay1_at (f x : FVec Ideal S512x1024 .f32) (g : FVec Ideal S1x1024 .f32) (r : Fin 512) (k : Fin 1024) :
    k0_pay1 (F := Ideal) f x g (ix2 r k) = x (ix2 r k) + g (ix2 0 k) * f (ix2 r k) := by
  unfold k0_pay1
  pointwise
theorem pay7_at (y h0 h1 h2 : FVec Ideal S512x256 .f32) (g0 g1 g2 g3 : FVec Ideal S1x256 .f32) (w0 w1 w2 w3 : FVec Ideal S256x1024 .bf16) (r : Fin 512) (n : Fin 1024) :
    k0_pay7 (F := Ideal) y h0 g0 h1 g1 h2 g2 g3 w0 w1 w2 w3 (ix2 r n) = (∑ k : Fin 256, h0 (ix2 r k) * g0 (ix2 0 k) * w0 (ix2 k n))
      + (∑ k : Fin 256, h1 (ix2 r k) * g1 (ix2 0 k) * w1 (ix2 k n)) + (∑ k : Fin 256, h2 (ix2 r k) * g2 (ix2 0 k) * w2 (ix2 k n))
      + (∑ k : Fin 256, y (ix2 r k) * Ideal.rsqrt (Ideal.div (∑ k : Fin 256, y (ix2 r k) * y (ix2 r k)) (FloatOps.ofBits (F := Ideal) .f32 0x43800000#32) + FloatOps.ofBits (F := Ideal) .f32 0x358637BD#32) * g3 (ix2 0 k) * w3 (ix2 k n)) := by
  unfold k0_pay7
  pointwise

/-! ## The reference, element by element -/

section Reference
variable (x0 : FVec Ideal S2048x1024 .f32) (x1 x2 x3 x4 : FVec Ideal S2048x256 .f32) (x5 x6 : FVec Ideal S1024 .f32) (x7 : FVec Ideal S1024x1024 .f32)
variable (s : Fin 2048) (i : Fin 4) (k : Fin 256) (n : Fin 1024)

theorem cat0 : val_main_v0 (F := Ideal) x1 x2 x3 x4 (ix2 s ⟨0 + k.val, by omega⟩) = x1 (ix2 s k) := by
  unfold val_main_v0
  pointwise
theorem cat1 : val_main_v0 (F := Ideal) x1 x2 x3 x4 (ix2 s ⟨256 + k.val, by omega⟩) = x2 (ix2 s k) := by
  unfold val_main_v0
  pointwise
theorem cat2 : val_main_v0 (F := Ideal) x1 x2 x3 x4 (ix2 s ⟨512 + k.val, by omega⟩) = x3 (ix2 s k) := by
  unfold val_main_v0
  pointwise
  split_ifs <;> first | omega | exact congrArg _ (congrArg (ix2 s) (Fin.ext (by dsimp only; omega)))
theorem cat3 : val_main_v0 (F := Ideal) x1 x2 x3 x4 (ix2 s ⟨768 + k.val, by omega⟩) = x4 (ix2 s k) := by
  unfold val_main_v0
  pointwise
  split_ifs <;> first | omega | exact congrArg _ (congrArg (ix2 s) (Fin.ext (by dsimp only; omega)))

theorem r1 : val_main_v1 (F := Ideal) x1 x2 x3 x4 (ix3 s i k) = val_main_v0 (F := Ideal) x1 x2 x3 x4 (ix2 s ⟨i.val * 256 + k.val, by omega⟩) := by
  unfold val_main_v1
  generalize val_main_v0 (F := Ideal) x1 x2 x3 x4 = z
  pointwise

theorem r9 : val_main_v9 (F := Ideal) x1 x2 x3 x4 (ix3 s i 0) = Ideal.rsqrt (Ideal.div (∑ k : Fin 256, val_main_v1 (F := Ideal) x1 x2 x3 x4 (ix3 s i k) * val_main_v1 (F := Ideal) x1 x2 x3 x4 (ix3 s i k))
    (FloatOps.ofBits (F := Ideal) .f32 0x43800000#32) + FloatOps.ofBits (F := Ideal) .f32 0x358637BD#32) := by
  unfold val_main_v9 val_main_v8 val_main_v7 val_main_v6 val_main_v5 val_main_v4 val_main_v3 val_main_v2 val_main_cst val_main_cst_0 val_main_cst_1
  generalize val_main_v1 (F := Ideal) x1 x2 x3 x4 = z
  pointwise

theorem r11 : val_main_v11 (F := Ideal) x1 x2 x3 x4 (ix3 s i k) = val_main_v1 (F := Ideal) x1 x2 x3 x4 (ix3 s i k) * val_main_v9 (F := Ideal) x1 x2 x3 x4 (ix3 s i 0) := by
  unfold val_main_v11 val_main_v10
  generalize val_main_v1 (F := Ideal) x1 x2 x3 x4 = z
  generalize val_main_v9 (F := Ideal) x1 x2 x3 x4 = z9
  pointwise

theorem r12 : val_main_v12 (F := Ideal) x1 x2 x3 x4 (ix2 s ⟨i.val * 256 + k.val, by omega⟩) = val_main_v11 (F := Ideal) x1 x2 x3 x4 (ix3 s i k) := by
  rw [val_main_v12_apply]
  refine congrArg (val_main_v11 (F := Ideal) x1 x2 x3 x4) (funext fun a => Fin.ext ?_)
  match a with
  | ⟨0, _⟩ => show (s.val * 1024 + (i.val * 256 + k.val)) / 1024 = s.val; omega
  | ⟨1, _⟩ => show (s.val * 1024 + (i.val * 256 + k.val)) / 256 % 4 = i.val; omega
  | ⟨2, _⟩ => show (s.val * 1024 + (i.val * 256 + k.val)) % 256 = k.val; omega

theorem r15 (q : Fin 1024) : val_main_v15 (F := Ideal) x1 x2 x3 x4 x5 (ix2 s q) = val_main_v12 (F := Ideal) x1 x2 x3 x4 (ix2 s q) * x5 (ix1 q) := by
  unfold val_main_v15 val_main_v14 val_main_v13
  generalize val_main_v12 (F := Ideal) x1 x2 x3 x4 = z
  pointwise

theorem r16 : val_main_v16 (F := Ideal) x1 x2 x3 x4 x5 x7 (ix2 s n) = ∑ q : Fin 1024, val_main_v15 (F := Ideal) x1 x2 x3 x4 x5 (ix2 s q) * x7 (ix2 q n) := by
  unfold val_main_v16
  generalize val_main_v15 (F := Ideal) x1 x2 x3 x4 x5 = z
  pointwise

theorem r20 : val_main_v20 (F := Ideal) x0 x1 x2 x3 x4 x5 x6 x7 (ix2 s n) = x0 (ix2 s n) + x6 (ix1 n) * val_main_v16 (F := Ideal) x1 x2 x3 x4 x5 x7 (ix2 s n) := by
  unfold val_main_v20 val_main_v19 val_main_v18 val_main_v17
  generalize val_main_v16 (F := Ideal) x1 x2 x3 x4 x5 x7 = z
  pointwise

/-- A channel of a head, among all channels. -/
def ch (i : Fin 4) (k : Fin 256) : Fin 1024 := ⟨i.val * 256 + k.val, by omega⟩

/-- What head `i` contributes to the product. -/
def head (z : FVec Ideal S2048x256 .f32) (i : Fin 4) : EReal := ∑ k : Fin 256, z (ix2 s k) * Ideal.rsqrt (Ideal.div (∑ k : Fin 256, z (ix2 s k) * z (ix2 s k)) (FloatOps.ofBits (F := Ideal) .f32 0x43800000#32) + FloatOps.ofBits (F := Ideal) .f32 0x358637BD#32) * x5 (ix1 (ch i k)) * x7 (ix2 (ch i k) n)

theorem v1_0 : val_main_v1 (F := Ideal) x1 x2 x3 x4 (ix3 s 0 k) = x1 (ix2 s k) := by
  rw [r1]
  exact (congrArg (val_main_v0 (F := Ideal) x1 x2 x3 x4) (congrArg (ix2 s) (Fin.ext (by show 0 * 256 + k.val = 0 + k.val; omega)))).trans (cat0 ..)

theorem part0 : (∑ k : Fin 256, val_main_v15 (F := Ideal) x1 x2 x3 x4 x5 (ix2 s (ch 0 k)) * x7 (ix2 (ch 0 k) n)) = head x5 x7 s n x1 0 := by
  unfold head
  refine Finset.sum_congr rfl fun k _ => ?_
  rw [r15]
  refine congrArg₂ (· * ·) (congrArg₂ (· * ·) ?_ rfl) rfl
  refine (r12 (i := 0) ..).trans ?_
  rw [r11, r9]
  simp only [v1_0]

theorem v1_1 : val_main_v1 (F := Ideal) x1 x2 x3 x4 (ix3 s 1 k) = x2 (ix2 s k) := by
  rw [r1]
  exact (congrArg (val_main_v0 (F := Ideal) x1 x2 x3 x4) (congrArg (ix2 s) (Fin.ext (by show 1 * 256 + k.val = 256 + k.val; omega)))).trans (cat1 ..)

theorem part1 : (∑ k : Fin 256, val_main_v15 (F := Ideal) x1 x2 x3 x4 x5 (ix2 s (ch 1 k)) * x7 (ix2 (ch 1 k) n)) = head x5 x7 s n x2 1 := by
  unfold head
  refine Finset.sum_congr rfl fun k _ => ?_
  rw [r15]
  refine congrArg₂ (· * ·) (congrArg₂ (· * ·) ?_ rfl) rfl
  refine (r12 (i := 1) ..).trans ?_
  rw [r11, r9]
  simp only [v1_1]

theorem v1_2 : val_main_v1 (F := Ideal) x1 x2 x3 x4 (ix3 s 2 k) = x3 (ix2 s k) := by
  rw [r1]
  exact (congrArg (val_main_v0 (F := Ideal) x1 x2 x3 x4) (congrArg (ix2 s) (Fin.ext (by show 2 * 256 + k.val = 512 + k.val; omega)))).trans (cat2 ..)

theorem part2 : (∑ k : Fin 256, val_main_v15 (F := Ideal) x1 x2 x3 x4 x5 (ix2 s (ch 2 k)) * x7 (ix2 (ch 2 k) n)) = head x5 x7 s n x3 2 := by
  unfold head
  refine Finset.sum_congr rfl fun k _ => ?_
  rw [r15]
  refine congrArg₂ (· * ·) (congrArg₂ (· * ·) ?_ rfl) rfl
  refine (r12 (i := 2) ..).trans ?_
  rw [r11, r9]
  simp only [v1_2]

theorem v1_3 : val_main_v1 (F := Ideal) x1 x2 x3 x4 (ix3 s 3 k) = x4 (ix2 s k) := by
  rw [r1]
  exact (congrArg (val_main_v0 (F := Ideal) x1 x2 x3 x4) (congrArg (ix2 s) (Fin.ext (by show 3 * 256 + k.val = 768 + k.val; omega)))).trans (cat3 ..)

theorem part3 : (∑ k : Fin 256, val_main_v15 (F := Ideal) x1 x2 x3 x4 x5 (ix2 s (ch 3 k)) * x7 (ix2 (ch 3 k) n)) = head x5 x7 s n x4 3 := by
  unfold head
  refine Finset.sum_congr rfl fun k _ => ?_
  rw [r15]
  refine congrArg₂ (· * ·) (congrArg₂ (· * ·) ?_ rfl) rfl
  refine (r12 (i := 3) ..).trans ?_
  rw [r11, r9]
  simp only [v1_3]

theorem mo_heads : val_main_v16 (F := Ideal) x1 x2 x3 x4 x5 x7 (ix2 s n)
    = head x5 x7 s n x1 0 + head x5 x7 s n x2 1 + head x5 x7 s n x3 2 + head x5 x7 s n x4 3 := by
  rw [r16]
  refine ((Fin.sum_mul_add_fin 4 256 fun q : Fin 1024 => val_main_v15 (F := Ideal) x1 x2 x3 x4 x5 (ix2 s q) * x7 (ix2 q n)).symm).trans ?_
  rw [Fin.sum_univ_four]
  refine congrArg₂ (· + ·) (congrArg₂ (· + ·) (congrArg₂ (· + ·) ?_ ?_) ?_) ?_
  · exact part0 ..
  · exact part1 ..
  · exact part2 ..
  · exact part3 ..
end Reference

variable (m : (ℓ : Loc nD τ sig) → Buf (Elt Ideal) ℓ)

/-! ## The blocks the kernel reads -/

abbrev X0 (c : Dev nD) : FVec Ideal S2048x1024 .f32 := m ((c : Thread nD τ).loc main_arg0)
abbrev X1 (c : Dev nD) : FVec Ideal S2048x256 .f32 := m ((c : Thread nD τ).loc main_arg1)
abbrev X2 (c : Dev nD) : FVec Ideal S2048x256 .f32 := m ((c : Thread nD τ).loc main_arg2)
abbrev X3 (c : Dev nD) : FVec Ideal S2048x256 .f32 := m ((c : Thread nD τ).loc main_arg3)
abbrev X4 (c : Dev nD) : FVec Ideal S2048x256 .f32 := m ((c : Thread nD τ).loc main_arg4)
abbrev X5 (c : Dev nD) : FVec Ideal S1024 .f32 := m ((c : Thread nD τ).loc main_arg5)
abbrev X6 (c : Dev nD) : FVec Ideal S1024 .f32 := m ((c : Thread nD τ).loc main_arg6)
abbrev X7 (c : Dev nD) : FVec Ideal S1024x1024 .f32 := m ((c : Thread nD τ).loc main_arg7)
theorem V0_at (c : Dev nD) (k : Fin 1024) : V m c main_v0 (ix2 0 k) = X5 m c (ix1 k) := by
  unfold_abbrev_sides
  simp only [List.flatten_cons, List.flatten_nil, List.cons_append, List.nil_append, List.append_nil, StableHlo.after_cons, StableHlo.after_nil]
  after_results_simp
  pointwise
  try rfl
theorem V1_at (c : Dev nD) (k : Fin 1024) : V m c main_v1 (ix2 0 k) = X6 m c (ix1 k) := by
  unfold_abbrev_sides
  simp only [List.flatten_cons, List.flatten_nil, List.cons_append, List.nil_append, List.append_nil, StableHlo.after_cons, StableHlo.after_nil]
  after_results_simp
  pointwise
  try rfl
theorem V2_at (c : Dev nD) (n k : Fin 1024) : V m c main_v2 (ix2 n k) = X7 m c (ix2 n k) := by
  unfold_abbrev_sides
  simp only [List.flatten_cons, List.flatten_nil, List.cons_append, List.nil_append, List.append_nil, StableHlo.after_cons, StableHlo.after_nil]
  after_results_simp
  pointwise
  try rfl

theorem idx0 : ∀ t : Fin grid0.N, win0_0.index t = ![t.val, 0] := by decide +kernel
theorem idx1 : ∀ t : Fin grid0.N, win0_1.index t = ![t.val, 0] := by decide +kernel
theorem idx2 : ∀ t : Fin grid0.N, win0_2.index t = ![t.val, 0] := by decide +kernel
theorem idx3 : ∀ t : Fin grid0.N, win0_3.index t = ![t.val, 0] := by decide +kernel
theorem idx4 : ∀ t : Fin grid0.N, win0_4.index t = ![t.val, 0] := by decide +kernel
theorem idx5 : ∀ t : Fin grid0.N, win0_5.index t = ![0, 0] := by decide +kernel
theorem idx6 : ∀ t : Fin grid0.N, win0_6.index t = ![0, 0] := by decide +kernel
theorem idx7 : ∀ t : Fin grid0.N, win0_7.index t = ![0, 0] := by decide +kernel
theorem idx8 : ∀ t : Fin grid0.N, win0_8.index t = ![t.val, 0] := by decide +kernel
theorem idx9 : ∀ t : Fin grid0.N, win0_9.index t = ![t.val, 0] := by decide +kernel

/-- A token of the tile, among all tokens. -/
def tok (t : Fin grid0.N) (r : Fin 512) : Fin 2048 := ⟨t.val * 512 + r.val, by have h : t.val < 4 := t.isLt; omega⟩

theorem i0_at (c : Dev nD) (t : Fin grid0.N) (r : Fin 512) (k : Fin 1024) : iblk m c 0 t (ix2 r k) = X0 m c (ix2 (tok t r) k) := by
  refine congrArg (m ((c : Thread nD τ).loc main_arg0)) ?_
  unfold tok
  blk_ext [idx0 t]
theorem i1_at (c : Dev nD) (t : Fin grid0.N) (r : Fin 512) (k : Fin 256) : iblk m c 1 t (ix2 r k) = X1 m c (ix2 (tok t r) k) := by
  refine congrArg (m ((c : Thread nD τ).loc main_arg1)) ?_
  unfold tok
  blk_ext [idx1 t]
theorem i2_at (c : Dev nD) (t : Fin grid0.N) (r : Fin 512) (k : Fin 256) : iblk m c 2 t (ix2 r k) = X2 m c (ix2 (tok t r) k) := by
  refine congrArg (m ((c : Thread nD τ).loc main_arg2)) ?_
  unfold tok
  blk_ext [idx2 t]
theorem i3_at (c : Dev nD) (t : Fin grid0.N) (r : Fin 512) (k : Fin 256) : iblk m c 3 t (ix2 r k) = X3 m c (ix2 (tok t r) k) := by
  refine congrArg (m ((c : Thread nD τ).loc main_arg3)) ?_
  unfold tok
  blk_ext [idx3 t]
theorem i4_at (c : Dev nD) (t : Fin grid0.N) (r : Fin 512) (k : Fin 256) : iblk m c 4 t (ix2 r k) = X4 m c (ix2 (tok t r) k) := by
  refine congrArg (m ((c : Thread nD τ).loc main_arg4)) ?_
  unfold tok
  blk_ext [idx4 t]
theorem i5_at (c : Dev nD) (t : Fin grid0.N) (k : Fin 1024) : iblk m c 5 t (ix2 0 k) = X5 m c (ix1 k) := by
  refine Eq.trans ?_ (V0_at m c k)
  refine congrArg (V m c main_v0) ?_
  blk_ext [idx5 t]
theorem i6_at (c : Dev nD) (t : Fin grid0.N) (k : Fin 1024) : iblk m c 6 t (ix2 0 k) = X6 m c (ix1 k) := by
  refine Eq.trans ?_ (V1_at m c k)
  refine congrArg (V m c main_v1) ?_
  blk_ext [idx6 t]
theorem i7_at (c : Dev nD) (t : Fin grid0.N) (n k : Fin 1024) : iblk m c 7 t (ix2 n k) = X7 m c (ix2 n k) := by
  refine Eq.trans ?_ (V2_at m c n k)
  refine congrArg (V m c main_v2) ?_
  blk_ext [idx7 t]

/-! ## The loads and stores of whole buffers and of parts -/

theorem canon_out (p : FVec Ideal S512x1024 .f32) : View.canon (Val := Elt Ideal) (e := .f32) [⟨r0_9, p⟩] = p := by
  funext (i : S512x1024.Idx)
  rw [View.canon_cons_unit_lit (S := S512x1024) _ _ _ (by decide)]
theorem ld0 (x : Vec Ideal S512x256 .f32) : View.ld x r0_0 = x := View.ld_unit_lit (S := S512x256) _ _ (by decide)
theorem ld9 (x : Vec Ideal S512x1024 .f32) : View.ld x r0_9 = x := View.ld_unit_lit (S := S512x1024) _ _ (by decide)
theorem ld10 (x : Vec Ideal S1x1024 .f32) : View.ld x r0_10 = x := View.ld_unit_lit (S := S1x1024) _ _ (by decide)
theorem ldg0 (X : FVec Ideal S1x1024 .f32) (k : Fin 256) : View.ld (Val := Elt Ideal) (e' := .f32) X r0_1 (ix2 0 k) = X (ix2 0 (ch 0 k)) := by
  have he : r0_1.emb (ix2 0 k) = (ix2 0 (ch 0 k) : S1x1024.Idx) := by
    unfold ch
    blk_ext []
  exact congrArg X he
theorem ldw0 (X : FVec Ideal S1024x1024 .bf16) (k : Fin 256) (n : Fin 1024) : View.ld (Val := Elt Ideal) (e' := .bf16) X r0_5 (ix2 k n) = X (ix2 (ch 0 k) n) := by
  have he : r0_5.emb (ix2 k n) = (ix2 (ch 0 k) n : S1024x1024.Idx) := by
    unfold ch
    blk_ext []
  exact congrArg X he
theorem ldg1 (X : FVec Ideal S1x1024 .f32) (k : Fin 256) : View.ld (Val := Elt Ideal) (e' := .f32) X r0_2 (ix2 0 k) = X (ix2 0 (ch 1 k)) := by
  have he : r0_2.emb (ix2 0 k) = (ix2 0 (ch 1 k) : S1x1024.Idx) := by
    unfold ch
    blk_ext []
  exact congrArg X he
theorem ldw1 (X : FVec Ideal S1024x1024 .bf16) (k : Fin 256) (n : Fin 1024) : View.ld (Val := Elt Ideal) (e' := .bf16) X r0_6 (ix2 k n) = X (ix2 (ch 1 k) n) := by
  have he : r0_6.emb (ix2 k n) = (ix2 (ch 1 k) n : S1024x1024.Idx) := by
    unfold ch
    blk_ext []
  exact congrArg X he
theorem ldg2 (X : FVec Ideal S1x1024 .f32) (k : Fin 256) : View.ld (Val := Elt Ideal) (e' := .f32) X r0_3 (ix2 0 k) = X (ix2 0 (ch 2 k)) := by
  have he : r0_3.emb (ix2 0 k) = (ix2 0 (ch 2 k) : S1x1024.Idx) := by
    unfold ch
    blk_ext []
  exact congrArg X he
theorem ldw2 (X : FVec Ideal S1024x1024 .bf16) (k : Fin 256) (n : Fin 1024) : View.ld (Val := Elt Ideal) (e' := .bf16) X r0_7 (ix2 k n) = X (ix2 (ch 2 k) n) := by
  have he : r0_7.emb (ix2 k n) = (ix2 (ch 2 k) n : S1024x1024.Idx) := by
    unfold ch
    blk_ext []
  exact congrArg X he
theorem ldg3 (X : FVec Ideal S1x1024 .f32) (k : Fin 256) : View.ld (Val := Elt Ideal) (e' := .f32) X r0_4 (ix2 0 k) = X (ix2 0 (ch 3 k)) := by
  have he : r0_4.emb (ix2 0 k) = (ix2 0 (ch 3 k) : S1x1024.Idx) := by
    unfold ch
    blk_ext []
  exact congrArg X he
theorem ldw3 (X : FVec Ideal S1024x1024 .bf16) (k : Fin 256) (n : Fin 1024) : View.ld (Val := Elt Ideal) (e' := .bf16) X r0_8 (ix2 k n) = X (ix2 (ch 3 k) n) := by
  have he : r0_8.emb (ix2 k n) = (ix2 (ch 3 k) n : S1024x1024.Idx) := by
    unfold ch
    blk_ext []
  exact congrArg X he

/-! ## The tile and the two results -/

theorem mo_T (c : Dev nD) (t : Fin cfg0.N) (r : Fin 512) (n : Fin 1024) : k0_pay8 (iblk m c 0 t) (iblk m c 1 t) (iblk m c 2 t) (iblk m c 3 t) (iblk m c 4 t) (iblk m c 5 t) (iblk m c 6 t) (iblk m c 7 t) (ix2 r n) = val_main_v16 (F := Ideal) (X1 m c) (X2 m c) (X3 m c) (X4 m c) (X5 m c) (X7 m c) (ix2 (tok t r) n) := by
  unfold k0_pay8
  rw [mo_heads, ld0, ld0, ld0, ld0, pay7_at]
  unfold head
  refine congrArg₂ (· + ·) (congrArg₂ (· + ·) (congrArg₂ (· + ·) ?_ ?_) ?_) ?_
  · refine Finset.sum_congr rfl fun k _ => ?_
    rw [pay2_at, pay3_at, ldg0, ldw0, i5_at, i7_at]
    simp only [i1_at]
  · refine Finset.sum_congr rfl fun k _ => ?_
    rw [pay4_at, pay5_at, ldg1, ldw1, i5_at, i7_at]
    simp only [i2_at]
  · refine Finset.sum_congr rfl fun k _ => ?_
    rw [pay6_at, ldg2, ldw2, i5_at, i7_at]
    simp only [i3_at]
  · refine Finset.sum_congr rfl fun k _ => ?_
    rw [ldg3, ldw3, i5_at, i7_at]
    simp only [i4_at]

theorem w9_T (c : Dev nD) (t : Fin cfg0.N) (r : Fin 512) (n : Fin 1024) : out0_9 (iblk m c 0 t) (iblk m c 1 t) (iblk m c 2 t) (iblk m c 3 t) (iblk m c 4 t) (iblk m c 5 t) (iblk m c 6 t) (iblk m c 7 t) (ix2 r n) = val_main_v16 (F := Ideal) (X1 m c) (X2 m c) (X3 m c) (X4 m c) (X5 m c) (X7 m c) (ix2 (tok t r) n) := by
  unfold out0_9
  rw [canon_out, mo_T]

theorem w8_T (c : Dev nD) (t : Fin cfg0.N) (r : Fin 512) (n : Fin 1024) : out0_8 (iblk m c 0 t) (iblk m c 1 t) (iblk m c 2 t) (iblk m c 3 t) (iblk m c 4 t) (iblk m c 5 t) (iblk m c 6 t) (iblk m c 7 t) (ix2 r n) = val_main_v20 (F := Ideal) (X0 m c) (X1 m c) (X2 m c) (X3 m c) (X4 m c) (X5 m c) (X6 m c) (X7 m c) (ix2 (tok t r) n) := by
  unfold out0_8
  rw [canon_out, ld9, ld10, pay1_at, mo_T, r20, i0_at, i6_at]

theorem final8 (c : Dev nD) : (dats m 0 c).arrAt 8 cfg0.N = val_main_v20 (F := Ideal) (X0 m c) (X1 m c) (X2 m c) (X3 m c) (X4 m c) (X5 m c) (X6 m c) (X7 m c) := by
  refine (dats m 0 c).arrAt_eq_of_covers 8 _ (by decide +kernel) fun t hf y => ?_
  blk_simp
  rw [after0_8]
  generalize ej : ((View.whole Cert.MixOutFwdKernelIdeal.main_v3_0).slice (win0_8.rect t)).emb y = j
  replace ej : ∀ a, (j a : ℕ) = (![t.val * 512 + y 0, y 1] : Fin 2 → ℕ) a := by
    intro a; subst ej; blk_simp [idx8 t]; match a with | ⟨0, _⟩ => simp | ⟨1, _⟩ => simp
  change S512x1024.Idx at y
  change S2048x1024.Idx at j
  idx_vars y
  idx_vars j
  obtain rfl : j0 = tok t y0 := Fin.ext (ej 0)
  obtain rfl : j1 = y1 := Fin.ext (ej 1)
  exact w8_T m c t y0 j1

theorem final9 (c : Dev nD) : (dats m 0 c).arrAt 9 cfg0.N = val_main_v16 (F := Ideal) (X1 m c) (X2 m c) (X3 m c) (X4 m c) (X5 m c) (X7 m c) := by
  refine (dats m 0 c).arrAt_eq_of_covers 9 _ (by decide +kernel) fun t hf y => ?_
  blk_simp
  rw [after0_9]
  generalize ej : ((View.whole Cert.MixOutFwdKernelIdeal.main_v3_1).slice (win0_9.rect t)).emb y = j
  replace ej : ∀ a, (j a : ℕ) = (![t.val * 512 + y 0, y 1] : Fin 2 → ℕ) a := by
    intro a; subst ej; blk_simp [idx9 t]; match a with | ⟨0, _⟩ => simp | ⟨1, _⟩ => simp
  change S512x1024.Idx at y
  change S2048x1024.Idx at j
  idx_vars y
  idx_vars j
  obtain rfl : j0 = tok t y0 := Fin.ext (ej 0)
  obtain rfl : j1 = y1 := Fin.ext (ej 1)
  exact w9_T m c t y0 j1

end Cert.Proof.MixOutFwd

end
-- ==== Proof.NormGrad.lean ====
module

public import proofs.«01_k».proof.Proof.FfnReal
public import Idealize.ShloMosaic.Lib.Pipeline.ValueKit

@[expose] public section

noncomputable section

open Idealize.ShloMosaic

/-! The gradient of a normalised row, in the kernel's form and in the form that differentiating the mean square gives: equal
for every row, finite or not. -/

namespace Cert.Proof.NormGrad

/-- A positive real distributes over a sum. -/
theorem mul_sum {ι : Type} (S : Finset ι) (f : ι → EReal) (r : ℝ) (hr : 0 < r) : (r : EReal) * ∑ j ∈ S, f j = ∑ j ∈ S, (r : EReal) * f j := by
  classical
  induction S using Finset.induction_on with
  | empty => simp
  | insert a S ha ih =>
    rw [Finset.sum_insert ha, Finset.sum_insert ha, EReal.left_distrib_of_nonneg_of_ne_top (by exact_mod_cast hr.le) (EReal.coe_ne_top r), ih]

theorem mul_add (a b : EReal) (r : ℝ) (hr : 0 < r) : (r : EReal) * (a + b) = (r : EReal) * a + (r : EReal) * b :=
  EReal.left_distrib_of_nonneg_of_ne_top (by exact_mod_cast hr.le) (EReal.coe_ne_top r) a b

/-- Twice a product with a real, as a sum. -/
theorem two_mul' (a : EReal) : a + a = ((2 : ℝ) : EReal) * a := by
  induction a with
  | bot => rw [EReal.coe_mul_bot_of_pos (by norm_num)]; rfl
  | top => rw [EReal.coe_mul_top_of_pos (by norm_num)]; rfl
  | coe x => rw [← EReal.coe_add, ← EReal.coe_mul]; congr 1; ring

theorem square_nonneg (a : EReal) : 0 ≤ a * a := by
  induction a with
  | bot => rw [EReal.bot_mul_bot]; exact le_top
  | top => rw [EReal.top_mul_top]; exact le_top
  | coe x => rw [← EReal.coe_mul]; exact_mod_cast mul_self_nonneg x

theorem square_top {a : EReal} (h : ¬ ∃ r : ℝ, a = (r : EReal)) : a * a = ⊤ := by
  induction a with
  | bot => exact EReal.bot_mul_bot
  | top => exact EReal.top_mul_top
  | coe x => exact absurd ⟨x, rfl⟩ h

section
variable {ι : Type} [Fintype ι] (x u : ι → EReal) (K e0 h : EReal)

/-- The mean square of the row, moved off zero. -/
def msq : EReal := Ideal.div (∑ j, x j * x j) K + e0

variable (hK : K = ((1024 : ℝ) : EReal)) (he : ∃ e : ℝ, 0 < e ∧ e0 = (e : EReal)) (hh : h = ((-(1 / 2) : ℝ) : EReal))
include hK he

theorem msq_real (hx : ∀ j, ∃ r : ℝ, x j = (r : EReal)) : ∃ v : ℝ, 0 < v ∧ msq x K e0 = (v : EReal) := by
  obtain ⟨e, he, rfl⟩ := he
  choose g hg using hx
  have hs : (∑ k, x k * x k : EReal) = ((∑ k, g k * g k : ℝ) : EReal) := by
    have hc : ∀ (s : Finset ι) (f : ι → ℝ), (∑ k ∈ s, ((f k : ℝ) : EReal)) = ((∑ k ∈ s, f k : ℝ) : EReal) := by
      intro s f
      classical
      induction s using Finset.induction_on with
      | empty => rfl
      | insert a s ha ih => rw [Finset.sum_insert ha, Finset.sum_insert ha, ih, EReal.coe_add]
    rw [← hc]
    exact Finset.sum_congr rfl fun k _ => by rw [hg, EReal.coe_mul]
  refine ⟨(∑ k, g k * g k) * (1 / 1024) + e, ?_, ?_⟩
  · have : 0 ≤ ∑ k, g k * g k := Finset.sum_nonneg fun k _ => mul_self_nonneg _
    positivity
  · unfold msq
    rw [hs, hK, Ideal.div_coe (by norm_num), ← EReal.coe_mul, ← EReal.coe_add]

theorem msq_top (hx : ¬ ∀ j, ∃ r : ℝ, x j = (r : EReal)) : msq x K e0 = ⊤ := by
  obtain ⟨e, he, rfl⟩ := he
  obtain ⟨j, hj⟩ := not_forall.mp hx
  have hs : (∑ k, x k * x k : EReal) = ⊤ := by
    refine top_le_iff.mp ?_
    rw [← square_top hj]
    exact Finset.single_le_sum (f := fun k => x k * x k) (fun k _ => square_nonneg (x k)) (Finset.mem_univ j)
  unfold msq
  rw [hs, hK, Ideal.div_coe (by norm_num), EReal.top_mul_coe_of_pos (by norm_num), EReal.top_add_coe]

include hh in
/-- The two forms of the gradient agree. -/
theorem grad (i : ι) :
    Ideal.rsqrt (msq x K e0) * (u i - x i * Ideal.rsqrt (msq x K e0) * Ideal.div (∑ j, u j * (x j * Ideal.rsqrt (msq x K e0))) K)
      = u i * Ideal.rsqrt (msq x K e0)
        + (x i * Ideal.div ((∑ j, x j * u j) * (h * Ideal.div (Ideal.rsqrt (msq x K e0)) (msq x K e0))) K
          + Ideal.div ((∑ j, x j * u j) * (h * Ideal.div (Ideal.rsqrt (msq x K e0)) (msq x K e0))) K * x i) := by
  by_cases hx : ∀ j, ∃ r : ℝ, x j = (r : EReal)
  · obtain ⟨v, hv, e⟩ := msq_real x K e0 hK he hx
    rw [e, Ideal.rsqrt_coe, if_neg hv.not_gt, if_neg hv.ne']
    have hp : 0 < (Real.sqrt v)⁻¹ := inv_pos.mpr (Real.sqrt_pos.mpr hv)
    have hq : 1 / v = (Real.sqrt v)⁻¹ * (Real.sqrt v)⁻¹ := by
      rw [← mul_inv, Real.mul_self_sqrt hv.le, one_div]
    rw [Ideal.div_coe hv.ne', hq, hK, Ideal.div_coe (by norm_num), Ideal.div_coe (by norm_num), hh]
    generalize (Real.sqrt v)⁻¹ = p at *
    have hS : (∑ j, u j * (x j * (p : EReal))) = (p : EReal) * ∑ j, x j * u j := by
      rw [mul_sum _ _ p hp]
      exact Finset.sum_congr rfl fun j _ => by ac_rfl
    rw [hS]
    generalize (∑ j, x j * u j) = S
    rw [sub_eq_add_neg, mul_add _ _ p hp, mul_comm (G := EReal) (u i) (p : EReal)]
    refine congrArg₂ (· + ·) rfl ?_
    rw [mul_comm (G := EReal) _ (x i), two_mul']
    have h1 : (p : EReal) * -(x i * (p : EReal) * ((p : EReal) * S * ((1 / 1024 : ℝ) : EReal)))
        = ((-(p * p * p * (1 / 1024)) : ℝ) : EReal) * (x i * S) := by
      rw [EReal.coe_neg, EReal.neg_mul, mul_comm (G := EReal) (p : EReal), EReal.neg_mul]
      refine congrArg _ ?_
      simp only [EReal.coe_mul]
      ac_rfl
    have h2 : ((2 : ℝ) : EReal) * (x i * (S * (((-(1 / 2) : ℝ) : EReal) * ((p : EReal) * ((p * p : ℝ) : EReal))) * ((1 / 1024 : ℝ) : EReal)))
        = ((2 * -(1 / 2) * (p * (p * p)) * (1 / 1024) : ℝ) : EReal) * (x i * S) := by
      simp only [EReal.coe_mul]
      ac_rfl
    rw [h1, h2]
    refine congrArg (· * (x i * S)) (congrArg _ ?_)
    ring
  · rw [msq_top x K e0 hK he hx]
    have hd : Ideal.div 0 (⊤ : EReal) = 0 := by
      unfold Ideal.div; rw [if_neg (by simp), zero_mul]
    have hk : Ideal.div 0 K = 0 := by
      rw [hK, Ideal.div_coe (by norm_num), zero_mul]
    rw [Ideal.rsqrt_top, hd]
    simp only [mul_zero, zero_mul, hk, add_zero]
end

/-- A sum over the projected columns, in the four slabs. -/
theorem sum_slabs (f : Fin 1792 → EReal) : ∑ k, f k
    = (((∑ k : Fin 512, f ⟨k.val, by omega⟩) + ∑ k : Fin 256, f ⟨512 + k.val, by omega⟩) + ∑ k : Fin 768, f ⟨768 + k.val, by omega⟩)
      + ∑ k : Fin 256, f ⟨1536 + k.val, by omega⟩ := by
  refine (Fin.sum_univ_add (a := 1536) (b := 256) f).trans (congrArg₂ (· + ·) ?_ rfl)
  refine (Fin.sum_univ_add (a := 768) (b := 768) (fun k : Fin 1536 => f (Fin.castAdd 256 k))).trans (congrArg₂ (· + ·) ?_ rfl)
  exact Fin.sum_univ_add (a := 512) (b := 256) (fun k : Fin 768 => f (Fin.castAdd 256 (Fin.castAdd 768 k)))

/-- A sum over the tokens, tile by tile. -/
theorem sum_tiles (f : Fin 2048 → EReal) : ∑ s, f s = ∑ j ∈ Finset.range 4, ∑ r : Fin 512, f ⟨j % 4 * 512 + r.val, by omega⟩ := by
  rw [Finset.sum_range]
  refine ((Fin.sum_mul_add_fin 4 512 f).symm).trans ?_
  refine Finset.sum_congr rfl fun j _ => Finset.sum_congr rfl fun n _ => congrArg f (Fin.ext ?_)
  show j.val * 512 + n.val = j.val % 4 * 512 + n.val
  rw [Nat.mod_eq_of_lt j.isLt]

end Cert.Proof.NormGrad

end
-- ==== Proof.MixInBwd.lean ====
module

public import proofs.«01_k».proof.Defs
public import proofs.«01_k».proof.Proof.NormGrad
public import proofs.«01_k».proof.Proof.Gen.MixInBwdKernelIdeal.Value
public import proofs.«01_k».proof.Proof.Gen.MixInBwdReferenceIdeal.Run
public import proofs.«01_k».proof.Proof.Gen.MixInBwdReferenceIdeal.Read
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem Idealize.ShloMosaic.StableHlo
open Idealize.ShloMosaic.Pipeline (Dat)

namespace Cert.Proof.MixInBwd

open Cert.MixInBwdKernelIdeal Cert.MixInBwdKernelIdeal.Gen
open Cert.MixInBwdReferenceIdeal.Read
open Cert.Proof.NormGrad (msq)

section Payloads
variable (x dh : FVec Ideal S512x1024 .f32) (g c0 c1 row : FVec Ideal S1x1024 .f32) (o : Ideal .f32) (r : Fin 512) (k : Fin 1024)

theorem p2 : k0_pay2 (F := Ideal) x (ix2 r 0) = Ideal.rsqrt (Ideal.div (∑ k : Fin 1024, x (ix2 r k) * x (ix2 r k)) (FloatOps.ofBits (F := Ideal) .f32 0x44800000#32) + FloatOps.ofBits (F := Ideal) .f32 0x358637BD#32) := by
  unfold k0_pay2
  pointwise
theorem p3 : k0_pay3 (F := Ideal) x (ix2 r k) = x (ix2 r k) * k0_pay2 (F := Ideal) x (ix2 r 0) := by
  unfold k0_pay3
  generalize k0_pay2 (F := Ideal) x = z
  pointwise
theorem p4 : k0_pay4 (F := Ideal) x g c0 c1 (ix2 r k) = k0_pay3 (F := Ideal) x (ix2 r k) * g (ix2 0 k) * (FloatOps.ofBits (F := Ideal) .f32 0x3F800000#32 + c1 (ix2 0 k)) + c0 (ix2 0 k) := by
  unfold k0_pay4
  generalize k0_pay3 (F := Ideal) x = z
  pointwise
theorem p5 (a : FVec Ideal S512x512 .f32) (q : Fin 512) : k0_pay5 (F := Ideal) a (ix2 r q) = a (ix2 r q) := by
  unfold k0_pay5
  pointwise
theorem p7 (a : FVec Ideal S512x256 .f32) (q : Fin 256) : k0_pay7 (F := Ideal) a (ix2 r q) = a (ix2 r q) := by
  unfold k0_pay7
  pointwise
theorem p8 (a : FVec Ideal S512x768 .f32) (q : Fin 768) : k0_pay8 (F := Ideal) a (ix2 r q) = a (ix2 r q) := by
  unfold k0_pay8
  pointwise
theorem p9 (a : FVec Ideal S512x256 .f32) (q : Fin 256) : k0_pay9 (F := Ideal) a (ix2 r q) = a (ix2 r q) := by
  unfold k0_pay9
  pointwise
theorem p10 (a : FVec Ideal S512x512 .f32) (b d : FVec Ideal S512x256 .f32) (e : FVec Ideal S512x768 .f32) (wa : FVec Ideal S512x1024 .bf16) (wb wd : FVec Ideal S256x1024 .bf16)
    (we : FVec Ideal S768x1024 .bf16) : k0_pay10 (F := Ideal) (k0_pay5 (F := Ideal) a) (k0_pay6 (F := Ideal) wa) b wb e we d wd (ix2 r k)
    = (((∑ q : Fin 512, a (ix2 r q) * wa (ix2 q k)) + ∑ q : Fin 256, b (ix2 r q) * wb (ix2 q k)) + ∑ q : Fin 768, e (ix2 r q) * we (ix2 q k))
      + ∑ q : Fin 256, d (ix2 r q) * wd (ix2 q k) := by
  unfold k0_pay10 k0_pay9 k0_pay8 k0_pay7 k0_pay6 k0_pay5
  pointwise
theorem p12 : k0_pay12 (F := Ideal) x g (ix2 r k) = x (ix2 r k) * g (ix2 0 k) := by
  unfold k0_pay12 k0_pay11
  pointwise
theorem p13 : k0_pay13 (F := Ideal) dh c1 o (ix2 r k) = dh (ix2 r k) * (o + c1 (ix2 0 k)) := by
  unfold k0_pay13
  pointwise
theorem p14 (ρ : FVec Ideal S512x1 .f32) (dy : FVec Ideal S512x1024 .f32) : k0_pay14 (F := Ideal) ρ x dh (k0_pay11 (F := Ideal) g) c1 o dy (ix2 r k)
    = dy (ix2 r k) + ρ (ix2 r 0) * (k0_pay13 (F := Ideal) dh c1 o (ix2 r k) * g (ix2 0 k)
      - x (ix2 r k) * Ideal.div (∑ j : Fin 1024, k0_pay13 (F := Ideal) dh c1 o (ix2 r j) * g (ix2 0 j) * x (ix2 r j)) (FloatOps.ofBits (F := Ideal) .f32 0x44800000#32)) := by
  unfold k0_pay14 k0_pay11
  generalize k0_pay13 (F := Ideal) dh c1 o = z
  pointwise
theorem p15 : k0_pay15 (F := Ideal) dh row (ix2 0 k) = row (ix2 0 k) + ∑ r : Fin 512, dh (ix2 r k) := by
  unfold k0_pay15
  pointwise
theorem p16 : k0_pay16 (F := Ideal) dh x row (ix2 0 k) = row (ix2 0 k) + ∑ r : Fin 512, dh (ix2 r k) * x (ix2 r k) := by
  unfold k0_pay16
  pointwise
theorem p17 : k0_pay17 (F := Ideal) x dh c1 o row (ix2 0 k) = row (ix2 0 k) + ∑ r : Fin 512, k0_pay13 (F := Ideal) dh c1 o (ix2 r k) * x (ix2 r k) := by
  unfold k0_pay17
  generalize k0_pay13 (F := Ideal) dh c1 o = z
  pointwise
theorem p1 (i : Fin 8) : k0_pay1 (F := Ideal) (ix2 i k) = 0 := by
  unfold k0_pay1
  pointwise
end Payloads

section Reference
variable (x0 : FVec Ideal S2048x1792 .f32) (x1 x2 : FVec Ideal S2048x1024 .f32) (x3 : FVec Ideal S2x1024 .f32) (x4 : FVec Ideal S1024 .f32) (x5 : FVec Ideal S1024x1792 .f32)
variable (s : Fin 2048) (k : Fin 1024)

theorem r6 : val_main_v6 (F := Ideal) x2 (ix2 s 0) = msq (fun j => x2 (ix2 s j)) (FloatOps.ofBits (F := Ideal) .f32 0x44800000#32) (FloatOps.ofBits (F := Ideal) .f32 0x358637BD#32) := by
  unfold msq val_main_v6 val_main_v5 val_main_v4 val_main_v3 val_main_v2 val_main_v1 val_main_v0 val_main_cst val_main_cst_0 val_main_cst_1
  pointwise
theorem r7 : val_main_v7 (F := Ideal) x2 (ix2 s 0) = Ideal.rsqrt (msq (fun j => x2 (ix2 s j)) (FloatOps.ofBits (F := Ideal) .f32 0x44800000#32) (FloatOps.ofBits (F := Ideal) .f32 0x358637BD#32)) := by
  rw [← r6]
  unfold val_main_v7
  generalize val_main_v6 (F := Ideal) x2 = z
  pointwise
theorem r10 : val_main_v10 (F := Ideal) x2 (ix2 s 0) = FloatOps.ofBits (F := Ideal) .f32 0xBF000000#32 * Ideal.div (val_main_v7 (F := Ideal) x2 (ix2 s 0)) (val_main_v6 (F := Ideal) x2 (ix2 s 0)) := by
  unfold val_main_v10 val_main_v9 val_main_v8 val_main_cst_2
  generalize val_main_v7 (F := Ideal) x2 = z
  generalize val_main_v6 (F := Ideal) x2 = y
  pointwise
theorem r12 : val_main_v12 (F := Ideal) x2 (ix2 s k) = x2 (ix2 s k) * val_main_v7 (F := Ideal) x2 (ix2 s 0) := by
  unfold val_main_v12 val_main_v11
  generalize val_main_v7 (F := Ideal) x2 = z
  pointwise
theorem r15 : val_main_v15 (F := Ideal) x2 x4 (ix2 s k) = val_main_v12 (F := Ideal) x2 (ix2 s k) * x4 (ix1 k) := by
  unfold val_main_v15 val_main_v14 val_main_v13
  generalize val_main_v12 (F := Ideal) x2 = z
  pointwise
theorem r22 : val_main_v22 (F := Ideal) x3 (ix2 0 k) = FloatOps.ofBits (F := Ideal) .f32 0x3F800000#32 + x3 (ix2 1 k) := by
  unfold val_main_v22 val_main_v21 val_main_v20 val_main_v19 val_main_v18 val_main_cst_3
  pointwise
theorem r68 : val_main_v68 (F := Ideal) x2 x3 x4 (ix2 s k) = val_main_v15 (F := Ideal) x2 x4 (ix2 s k) * val_main_v22 (F := Ideal) x3 (ix2 0 k) + x3 (ix2 0 k) := by
  unfold val_main_v68 val_main_v27 val_main_v26 val_main_v25 val_main_v24 val_main_v23 val_main_v17 val_main_v16
  generalize val_main_v15 (F := Ideal) x2 x4 = z
  generalize val_main_v22 (F := Ideal) x3 = y
  pointwise
theorem r29 : val_main_v29 (F := Ideal) x0 x5 (ix2 s k) = ∑ q : Fin 1792, x0 (ix2 s q) * x5 (ix2 k q) := by
  unfold val_main_v29
  pointwise
theorem r37 : val_main_v37 (F := Ideal) x0 x3 x5 (ix2 s k) = val_main_v29 (F := Ideal) x0 x5 (ix2 s k) * val_main_v22 (F := Ideal) x3 (ix2 0 k) := by
  unfold val_main_v37 val_main_v36
  generalize val_main_v29 (F := Ideal) x0 x5 = z
  generalize val_main_v22 (F := Ideal) x3 = y
  pointwise
theorem r48 : val_main_v48 (F := Ideal) x0 x3 x4 x5 (ix2 s k) = val_main_v37 (F := Ideal) x0 x3 x5 (ix2 s k) * x4 (ix1 k) := by
  unfold val_main_v48 val_main_v47 val_main_v13
  generalize val_main_v37 (F := Ideal) x0 x3 x5 = z
  pointwise
theorem r58 : val_main_v58 (F := Ideal) x0 x2 x3 x4 x5 (ix2 s 0)
    = Ideal.div ((∑ j : Fin 1024, x2 (ix2 s j) * val_main_v48 (F := Ideal) x0 x3 x4 x5 (ix2 s j)) * val_main_v10 (F := Ideal) x2 (ix2 s 0)) (FloatOps.ofBits (F := Ideal) .f32 0x44800000#32) := by
  unfold val_main_v58 val_main_v57 val_main_v56 val_main_v52 val_main_v51 val_main_v50 val_main_cst_13 val_main_cst_12
  generalize val_main_v48 (F := Ideal) x0 x3 x4 x5 = z
  generalize val_main_v10 (F := Ideal) x2 = y
  pointwise
theorem r60 : val_main_v60 (F := Ideal) x0 x2 x3 x4 x5 (ix2 s k) = val_main_v58 (F := Ideal) x0 x2 x3 x4 x5 (ix2 s 0) := by
  unfold val_main_v60 val_main_v59 val_main_cst_14
  generalize val_main_v58 (F := Ideal) x0 x2 x3 x4 x5 = z
  pointwise
  try simp
theorem r64 : val_main_v64 (F := Ideal) x0 x1 x2 x3 x4 x5 (ix2 s k)
    = x1 (ix2 s k) + val_main_v48 (F := Ideal) x0 x3 x4 x5 (ix2 s k) * val_main_v7 (F := Ideal) x2 (ix2 s 0)
      + x2 (ix2 s k) * val_main_v58 (F := Ideal) x0 x2 x3 x4 x5 (ix2 s 0) + val_main_v58 (F := Ideal) x0 x2 x3 x4 x5 (ix2 s 0) * x2 (ix2 s k) := by
  rw [← r60 x0 x2 x3 x4 x5 s k]
  unfold val_main_v64 val_main_v63 val_main_v62 val_main_v61 val_main_v55 val_main_v54 val_main_v53
  generalize val_main_v60 (F := Ideal) x0 x2 x3 x4 x5 = z
  generalize val_main_v48 (F := Ideal) x0 x3 x4 x5 = y
  generalize val_main_v7 (F := Ideal) x2 = u
  pointwise

/-- The gradient of the layer's input, in the kernel's form. -/
theorem r64' : val_main_v64 (F := Ideal) x0 x1 x2 x3 x4 x5 (ix2 s k)
    = x1 (ix2 s k) + val_main_v7 (F := Ideal) x2 (ix2 s 0) * (val_main_v48 (F := Ideal) x0 x3 x4 x5 (ix2 s k)
      - val_main_v12 (F := Ideal) x2 (ix2 s k) * Ideal.div (∑ j : Fin 1024, val_main_v48 (F := Ideal) x0 x3 x4 x5 (ix2 s j) * val_main_v12 (F := Ideal) x2 (ix2 s j)) (FloatOps.ofBits (F := Ideal) .f32 0x44800000#32)) := by
  rw [r64, r58, r10, r6, r7]
  simp only [r12, r7]
  rw [NormGrad.grad (fun j => x2 (ix2 s j)) (fun j => val_main_v48 (F := Ideal) x0 x3 x4 x5 (ix2 s j)) _ _ (FloatOps.ofBits (F := Ideal) .f32 0xBF000000#32) FfnReal.c_1024 FfnReal.c_eps FfnReal.c_mhalf k]
  simp only [add_assoc]

theorem r32 : val_main_v32 (F := Ideal) x0 x5 (ix1 k) = ∑ s : Fin 2048, val_main_v29 (F := Ideal) x0 x5 (ix2 s k) := by
  unfold val_main_v32 val_main_v31 val_main_v30 val_main_cst_4 val_main_cst_5
  generalize val_main_v29 (F := Ideal) x0 x5 = z
  pointwise
  try simp
theorem r38 : val_main_v38 (F := Ideal) x0 x2 x4 x5 (ix1 k) = ∑ s : Fin 2048, val_main_v15 (F := Ideal) x2 x4 (ix2 s k) * val_main_v29 (F := Ideal) x0 x5 (ix2 s k) := by
  unfold val_main_v38 val_main_v35 val_main_v34 val_main_v33 val_main_cst_6 val_main_cst_7
  generalize val_main_v29 (F := Ideal) x0 x5 = z
  generalize val_main_v15 (F := Ideal) x2 x4 = y
  pointwise
  try simp
theorem r49 : val_main_v49 (F := Ideal) x0 x2 x3 x5 (ix1 k) = ∑ s : Fin 2048, val_main_v12 (F := Ideal) x2 (ix2 s k) * val_main_v37 (F := Ideal) x0 x3 x5 (ix2 s k) := by
  unfold val_main_v49 val_main_v46 val_main_v45 val_main_v44 val_main_cst_10 val_main_cst_11
  generalize val_main_v12 (F := Ideal) x2 = z
  generalize val_main_v37 (F := Ideal) x0 x3 x5 = y
  pointwise
  try simp
theorem r67 (i : Fin 8) : val_main_v67 (F := Ideal) x0 x2 x3 x4 x5 (ix2 i k)
    = if i.val = 0 then val_main_v32 (F := Ideal) x0 x5 (ix1 k) else if i.val = 1 then val_main_v38 (F := Ideal) x0 x2 x4 x5 (ix1 k)
      else if i.val = 2 then val_main_v49 (F := Ideal) x0 x2 x3 x5 (ix1 k) else 0 := by
  unfold val_main_v67 val_main_v66 val_main_v65 val_main_v43 val_main_v42 val_main_v41 val_main_v40 val_main_v39 val_main_cst_15 val_main_cst_9 val_main_cst_8
  generalize val_main_v32 (F := Ideal) x0 x5 = a
  generalize val_main_v38 (F := Ideal) x0 x2 x4 x5 = b
  generalize val_main_v49 (F := Ideal) x0 x2 x3 x5 = d
  fin_cases i <;> pointwise <;> try simp
end Reference

variable (m : (ℓ : Loc nD τ sig) → Buf (Elt Ideal) ℓ)

theorem V0_at (c : Dev nD) (s : Fin 2048) (q : Fin 512) : V m c main_v0 (ix2 s q) = (m ((c : Thread nD τ).loc main_arg0)) (ix2 s ⟨q.val, by omega⟩) := by
  unfold_abbrev_sides
  simp only [List.flatten_cons, List.flatten_nil, List.cons_append, List.nil_append, List.append_nil, StableHlo.after_cons, StableHlo.after_nil]
  after_results_simp
  pointwise
  try rfl
theorem V1_at (c : Dev nD) (s : Fin 2048) (q : Fin 256) : V m c main_v1 (ix2 s q) = (m ((c : Thread nD τ).loc main_arg0)) (ix2 s ⟨512 + q.val, by omega⟩) := by
  unfold_abbrev_sides
  simp only [List.flatten_cons, List.flatten_nil, List.cons_append, List.nil_append, List.append_nil, StableHlo.after_cons, StableHlo.after_nil]
  after_results_simp
  pointwise
  try rfl
theorem V2_at (c : Dev nD) (s : Fin 2048) (q : Fin 768) : V m c main_v2 (ix2 s q) = (m ((c : Thread nD τ).loc main_arg0)) (ix2 s ⟨768 + q.val, by omega⟩) := by
  unfold_abbrev_sides
  simp only [List.flatten_cons, List.flatten_nil, List.cons_append, List.nil_append, List.append_nil, StableHlo.after_cons, StableHlo.after_nil]
  after_results_simp
  pointwise
  try rfl
theorem V3_at (c : Dev nD) (s : Fin 2048) (q : Fin 256) : V m c main_v3 (ix2 s q) = (m ((c : Thread nD τ).loc main_arg0)) (ix2 s ⟨1536 + q.val, by omega⟩) := by
  unfold_abbrev_sides
  simp only [List.flatten_cons, List.flatten_nil, List.cons_append, List.nil_append, List.append_nil, StableHlo.after_cons, StableHlo.after_nil]
  after_results_simp
  pointwise
  try rfl
theorem V4_at (c : Dev nD) (k : Fin 1024) : V m c main_v4 (ix2 0 k) = (m ((c : Thread nD τ).loc main_arg4)) (ix1 k) := by
  unfold_abbrev_sides
  simp only [List.flatten_cons, List.flatten_nil, List.cons_append, List.nil_append, List.append_nil, StableHlo.after_cons, StableHlo.after_nil]
  after_results_simp
  pointwise
  try rfl
theorem V6_at (c : Dev nD) (q : Fin 1792) (k : Fin 1024) : V m c main_v6 (ix2 q k) = (m ((c : Thread nD τ).loc main_arg5)) (ix2 k q) := by
  unfold_abbrev_sides
  simp only [List.flatten_cons, List.flatten_nil, List.cons_append, List.nil_append, List.append_nil, StableHlo.after_cons, StableHlo.after_nil]
  after_results_simp
  pointwise
  try rfl
theorem idx0 : ∀ t : Fin grid0.N, win0_0.index t = ![t.val, 0] := by decide +kernel
theorem idx1 : ∀ t : Fin grid0.N, win0_1.index t = ![t.val, 0] := by decide +kernel
theorem idx2 : ∀ t : Fin grid0.N, win0_2.index t = ![t.val, 0] := by decide +kernel
theorem idx3 : ∀ t : Fin grid0.N, win0_3.index t = ![t.val, 0] := by decide +kernel
theorem idx4 : ∀ t : Fin grid0.N, win0_4.index t = ![t.val, 0] := by decide +kernel
theorem idx5 : ∀ t : Fin grid0.N, win0_5.index t = ![t.val, 0] := by decide +kernel
theorem idx6 : ∀ t : Fin grid0.N, win0_6.index t = ![0, 0] := by decide +kernel
theorem idx7 : ∀ t : Fin grid0.N, win0_7.index t = ![0, 0] := by decide +kernel
theorem idx8 : ∀ t : Fin grid0.N, win0_8.index t = ![0, 0] := by decide +kernel
theorem idx9 : ∀ t : Fin grid0.N, win0_9.index t = ![t.val, 0] := by decide +kernel
theorem idx10 : ∀ t : Fin grid0.N, win0_10.index t = ![t.val, 0] := by decide +kernel
theorem idx11 : ∀ t : Fin grid0.N, win0_11.index t = ![t.val, 0] := by decide +kernel
theorem idx12 : ∀ t : Fin grid0.N, win0_12.index t = ![0, 0] := by decide +kernel

/-- A token of the tile, among all tokens. -/
def tk (j : ℕ) (r : Fin 512) : Fin 2048 := ⟨j % 4 * 512 + r.val, by omega⟩
/-- A token of the point's tile. -/
def tok (t : Fin grid0.N) (r : Fin 512) : Fin 2048 := tk t.val r
theorem tok_val (t : Fin grid0.N) (r : Fin 512) : (tok t r).val = t.val * 512 + r.val := by
  have h : t.val < 4 := t.isLt
  show t.val % 4 * 512 + r.val = _
  rw [Nat.mod_eq_of_lt h]

theorem i0_at (c : Dev nD) (t : Fin grid0.N) (r : Fin 512) (q : Fin 512) : iblk m c 0 t (ix2 r q) = (m ((c : Thread nD τ).loc main_arg0)) (ix2 (tok t r) ⟨q.val, by omega⟩) := by
  refine Eq.trans ?_ (V0_at m c (tok t r) q)
  refine congrArg (V m c main_v0) ?_
  have e := tok_val t r
  blk_ext [idx0 t, e]
theorem i1_at (c : Dev nD) (t : Fin grid0.N) (r : Fin 512) (q : Fin 256) : iblk m c 1 t (ix2 r q) = (m ((c : Thread nD τ).loc main_arg0)) (ix2 (tok t r) ⟨512 + q.val, by omega⟩) := by
  refine Eq.trans ?_ (V1_at m c (tok t r) q)
  refine congrArg (V m c main_v1) ?_
  have e := tok_val t r
  blk_ext [idx1 t, e]
theorem i2_at (c : Dev nD) (t : Fin grid0.N) (r : Fin 512) (q : Fin 768) : iblk m c 2 t (ix2 r q) = (m ((c : Thread nD τ).loc main_arg0)) (ix2 (tok t r) ⟨768 + q.val, by omega⟩) := by
  refine Eq.trans ?_ (V2_at m c (tok t r) q)
  refine congrArg (V m c main_v2) ?_
  have e := tok_val t r
  blk_ext [idx2 t, e]
theorem i3_at (c : Dev nD) (t : Fin grid0.N) (r : Fin 512) (q : Fin 256) : iblk m c 3 t (ix2 r q) = (m ((c : Thread nD τ).loc main_arg0)) (ix2 (tok t r) ⟨1536 + q.val, by omega⟩) := by
  refine Eq.trans ?_ (V3_at m c (tok t r) q)
  refine congrArg (V m c main_v3) ?_
  have e := tok_val t r
  blk_ext [idx3 t, e]
theorem i4_at (c : Dev nD) (t : Fin grid0.N) (r : Fin 512) (k : Fin 1024) : iblk m c 4 t (ix2 r k) = (m ((c : Thread nD τ).loc main_arg2)) (ix2 (tok t r) k) := by
  refine congrArg (m ((c : Thread nD τ).loc main_arg2)) ?_
  have e := tok_val t r
  blk_ext [idx4 t, e]
theorem i5_at (c : Dev nD) (t : Fin grid0.N) (r : Fin 512) (k : Fin 1024) : iblk m c 5 t (ix2 r k) = (m ((c : Thread nD τ).loc main_arg1)) (ix2 (tok t r) k) := by
  refine congrArg (m ((c : Thread nD τ).loc main_arg1)) ?_
  have e := tok_val t r
  blk_ext [idx5 t, e]
theorem i6_at (c : Dev nD) (t : Fin grid0.N) (r : Fin 2) (k : Fin 1024) : iblk m c 6 t (ix2 r k) = (m ((c : Thread nD τ).loc main_arg3)) (ix2 r k) := by
  refine congrArg (m ((c : Thread nD τ).loc main_arg3)) ?_
  blk_ext [idx6 t]
theorem i7_at (c : Dev nD) (t : Fin grid0.N) (k : Fin 1024) : iblk m c 7 t (ix2 0 k) = (m ((c : Thread nD τ).loc main_arg4)) (ix1 k) := by
  refine Eq.trans ?_ (V4_at m c k)
  refine congrArg (V m c main_v4) ?_
  blk_ext [idx7 t]
theorem i8_at (c : Dev nD) (t : Fin grid0.N) (q : Fin 1792) (k : Fin 1024) : iblk m c 8 t (ix2 q k) = (m ((c : Thread nD τ).loc main_arg5)) (ix2 k q) := by
  refine Eq.trans ?_ (V6_at m c q k)
  refine congrArg (V m c main_v6) ?_
  blk_ext [idx8 t]

theorem lw0 (X : FVec Ideal S1792x1024 .bf16) (q : Fin 512) (k : Fin 1024) :
    View.ld (Val := Elt Ideal) (e' := .bf16) X (Rect.unit ![0, 0] ![512, 1024] inb_S1792x1024_S512x1024_0_0) (ix2 q k) = X (ix2 ⟨q.val, by omega⟩ k) := by
  have he : (Rect.unit (s := S1792x1024) ![0, 0] ![512, 1024] inb_S1792x1024_S512x1024_0_0).emb (ix2 q k) = (ix2 ⟨q.val, by omega⟩ k : S1792x1024.Idx) := by
    blk_ext []
  exact congrArg X he
theorem lw1 (X : FVec Ideal S1792x1024 .bf16) (q : Fin 256) (k : Fin 1024) :
    View.ld (Val := Elt Ideal) (e' := .bf16) X (Rect.unit ![512, 0] ![256, 1024] inb_S1792x1024_S256x1024_512_0) (ix2 q k) = X (ix2 ⟨512 + q.val, by omega⟩ k) := by
  have he : (Rect.unit (s := S1792x1024) ![512, 0] ![256, 1024] inb_S1792x1024_S256x1024_512_0).emb (ix2 q k) = (ix2 ⟨512 + q.val, by omega⟩ k : S1792x1024.Idx) := by
    blk_ext []
  exact congrArg X he
theorem lw2 (X : FVec Ideal S1792x1024 .bf16) (q : Fin 768) (k : Fin 1024) :
    View.ld (Val := Elt Ideal) (e' := .bf16) X (Rect.unit ![768, 0] ![768, 1024] inb_S1792x1024_S768x1024_768_0) (ix2 q k) = X (ix2 ⟨768 + q.val, by omega⟩ k) := by
  have he : (Rect.unit (s := S1792x1024) ![768, 0] ![768, 1024] inb_S1792x1024_S768x1024_768_0).emb (ix2 q k) = (ix2 ⟨768 + q.val, by omega⟩ k : S1792x1024.Idx) := by
    blk_ext []
  exact congrArg X he
theorem lw3 (X : FVec Ideal S1792x1024 .bf16) (q : Fin 256) (k : Fin 1024) :
    View.ld (Val := Elt Ideal) (e' := .bf16) X (Rect.unit ![1536, 0] ![256, 1024] inb_S1792x1024_S256x1024_1536_0) (ix2 q k) = X (ix2 ⟨1536 + q.val, by omega⟩ k) := by
  have he : (Rect.unit (s := S1792x1024) ![1536, 0] ![256, 1024] inb_S1792x1024_S256x1024_1536_0).emb (ix2 q k) = (ix2 ⟨1536 + q.val, by omega⟩ k : S1792x1024.Idx) := by
    blk_ext []
  exact congrArg X he
theorem lc0 (X : FVec Ideal S2x1024 .f32) (k : Fin 1024) :
    View.ld (Val := Elt Ideal) (e' := .f32) X (Rect.unit ![0, 0] ![1, 1024] inb_S2x1024_S1x1024_0_0) (ix2 0 k) = X (ix2 0 k) := by
  have he : (Rect.unit (s := S2x1024) ![0, 0] ![1, 1024] inb_S2x1024_S1x1024_0_0).emb (ix2 0 k) = (ix2 0 k : S2x1024.Idx) := by
    blk_ext []
  exact congrArg X he
theorem lc1 (X : FVec Ideal S2x1024 .f32) (k : Fin 1024) :
    View.ld (Val := Elt Ideal) (e' := .f32) X (Rect.unit ![1, 0] ![1, 1024] inb_S2x1024_S1x1024_1_0) (ix2 0 k) = X (ix2 1 k) := by
  have he : (Rect.unit (s := S2x1024) ![1, 0] ![1, 1024] inb_S2x1024_S1x1024_1_0).emb (ix2 0 k) = (ix2 1 k : S2x1024.Idx) := by
    blk_ext []
  exact congrArg X he
theorem lp0 (X : FVec Ideal S8x1024 .f32) (k : Fin 1024) :
    View.ld (Val := Elt Ideal) (e' := .f32) X (Rect.unit ![0, 0] ![1, 1024] inb_S8x1024_S1x1024_0_0) (ix2 0 k) = X (ix2 0 k) := by
  have he : (Rect.unit (s := S8x1024) ![0, 0] ![1, 1024] inb_S8x1024_S1x1024_0_0).emb (ix2 0 k) = (ix2 0 k : S8x1024.Idx) := by
    blk_ext []
  exact congrArg X he
theorem lp1 (X : FVec Ideal S8x1024 .f32) (k : Fin 1024) :
    View.ld (Val := Elt Ideal) (e' := .f32) X (Rect.unit ![1, 0] ![1, 1024] inb_S8x1024_S1x1024_1_0) (ix2 0 k) = X (ix2 1 k) := by
  have he : (Rect.unit (s := S8x1024) ![1, 0] ![1, 1024] inb_S8x1024_S1x1024_1_0).emb (ix2 0 k) = (ix2 1 k : S8x1024.Idx) := by
    blk_ext []
  exact congrArg X he
theorem lp2 (X : FVec Ideal S8x1024 .f32) (k : Fin 1024) :
    View.ld (Val := Elt Ideal) (e' := .f32) X (Rect.unit ![2, 0] ![1, 1024] inb_S8x1024_S1x1024_2_0) (ix2 0 k) = X (ix2 2 k) := by
  have he : (Rect.unit (s := S8x1024) ![2, 0] ![1, 1024] inb_S8x1024_S1x1024_2_0).emb (ix2 0 k) = (ix2 2 k : S8x1024.Idx) := by
    blk_ext []
  exact congrArg X he

/-- The gradient of the modulated input, of the point's tile. -/
abbrev dhT (c : Dev nD) (t : Fin cfg0.N) : FVec Ideal S512x1024 .f32 :=
  k0_pay10 (k0_pay5 (iblk m c 0 t)) (k0_pay6 (View.ld (iblk m c 8 t) (Rect.unit ![0, 0] ![512, 1024] inb_S1792x1024_S512x1024_0_0))) (iblk m c 1 t) (View.ld (iblk m c 8 t) (Rect.unit ![512, 0] ![256, 1024] inb_S1792x1024_S256x1024_512_0)) (iblk m c 2 t) (View.ld (iblk m c 8 t) (Rect.unit ![768, 0] ![768, 1024] inb_S1792x1024_S768x1024_768_0)) (iblk m c 3 t) (View.ld (iblk m c 8 t) (Rect.unit ![1536, 0] ![256, 1024] inb_S1792x1024_S256x1024_1536_0))
/-- The scale's row. -/
abbrev scT (c : Dev nD) (t : Fin cfg0.N) : FVec Ideal S1x1024 .f32 := View.ld (iblk m c 6 t) (Rect.unit ![1, 0] ![1, 1024] inb_S2x1024_S1x1024_1_0)

theorem dh_at (c : Dev nD) (t : Fin cfg0.N) (r : Fin 512) (k : Fin 1024) : dhT m c t (ix2 r k) = val_main_v29 (F := Ideal) (m ((c : Thread nD τ).loc main_arg0)) (m ((c : Thread nD τ).loc main_arg5)) (ix2 (tok t r) k) := by
  refine (p10 r k _ _ _ _ _ _ _ _).trans ?_
  rw [r29, NormGrad.sum_slabs]
  refine congrArg₂ (· + ·) (congrArg₂ (· + ·) (congrArg₂ (· + ·) ?_ ?_) ?_) ?_
  · exact Finset.sum_congr rfl fun q _ => congrArg₂ (· * ·) (i0_at m c t r q) ((lw0 _ q k).trans (i8_at m c t _ k))
  · exact Finset.sum_congr rfl fun q _ => congrArg₂ (· * ·) (i1_at m c t r q) ((lw1 _ q k).trans (i8_at m c t _ k))
  · exact Finset.sum_congr rfl fun q _ => congrArg₂ (· * ·) (i2_at m c t r q) ((lw2 _ q k).trans (i8_at m c t _ k))
  · exact Finset.sum_congr rfl fun q _ => congrArg₂ (· * ·) (i3_at m c t r q) ((lw3 _ q k).trans (i8_at m c t _ k))
theorem rho_at (c : Dev nD) (t : Fin cfg0.N) (r : Fin 512) : k0_pay2 (F := Ideal) (iblk m c 4 t) (ix2 r 0) = val_main_v7 (F := Ideal) (m ((c : Thread nD τ).loc main_arg2)) (ix2 (tok t r) 0) := by
  rw [p2, r7]
  unfold msq
  simp only [i4_at]
theorem xh_at (c : Dev nD) (t : Fin cfg0.N) (r : Fin 512) (k : Fin 1024) : k0_pay3 (F := Ideal) (iblk m c 4 t) (ix2 r k) = val_main_v12 (F := Ideal) (m ((c : Thread nD τ).loc main_arg2)) (ix2 (tok t r) k) := by
  rw [p3, r12, rho_at, i4_at]
theorem sc_at (c : Dev nD) (t : Fin cfg0.N) (k : Fin 1024) : FloatOps.ofBits (F := Ideal) .f32 0x3F800000#32 + scT m c t (ix2 0 k) = val_main_v22 (F := Ideal) (m ((c : Thread nD τ).loc main_arg3)) (ix2 0 k) := by
  rw [r22]
  exact congrArg ((FloatOps.ofBits (F := Ideal) .f32 0x3F800000#32 : EReal) + ·) ((lc1 _ k).trans (i6_at m c t 1 k))
theorem ds_at (c : Dev nD) (t : Fin cfg0.N) (r : Fin 512) (k : Fin 1024) : k0_pay13 (F := Ideal) (dhT m c t) (scT m c t) (FloatOps.ofBits (F := Ideal) .f32 0x3F800000#32) (ix2 r k)
    = val_main_v37 (F := Ideal) (m ((c : Thread nD τ).loc main_arg0)) (m ((c : Thread nD τ).loc main_arg3)) (m ((c : Thread nD τ).loc main_arg5)) (ix2 (tok t r) k) := by
  rw [p13, r37, sc_at, dh_at]
theorem du_at (c : Dev nD) (t : Fin cfg0.N) (r : Fin 512) (k : Fin 1024) : k0_pay13 (F := Ideal) (dhT m c t) (scT m c t) (FloatOps.ofBits (F := Ideal) .f32 0x3F800000#32) (ix2 r k) * iblk m c 7 t (ix2 0 k)
    = val_main_v48 (F := Ideal) (m ((c : Thread nD τ).loc main_arg0)) (m ((c : Thread nD τ).loc main_arg3)) (m ((c : Thread nD τ).loc main_arg4)) (m ((c : Thread nD τ).loc main_arg5)) (ix2 (tok t r) k) := by
  rw [r48]
  exact congrArg₂ (· * ·) (ds_at m c t r k) (i7_at m c t k)
theorem xg_at (c : Dev nD) (t : Fin cfg0.N) (r : Fin 512) (k : Fin 1024) : k0_pay12 (F := Ideal) (k0_pay3 (F := Ideal) (iblk m c 4 t)) (iblk m c 7 t) (ix2 r k)
    = val_main_v15 (F := Ideal) (m ((c : Thread nD τ).loc main_arg2)) (m ((c : Thread nD τ).loc main_arg4)) (ix2 (tok t r) k) := by
  rw [p12, r15, xh_at, i7_at]

theorem dx_at (c : Dev nD) (t : Fin cfg0.N) (r : Fin 512) (k : Fin 1024) :
    k0_pay14 (F := Ideal) (k0_pay2 (F := Ideal) (iblk m c 4 t)) (k0_pay3 (F := Ideal) (iblk m c 4 t)) (dhT m c t) (k0_pay11 (F := Ideal) (iblk m c 7 t)) (scT m c t) (FloatOps.ofBits (F := Ideal) .f32 0x3F800000#32) (iblk m c 5 t) (ix2 r k)
    = val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 (tok t r) k) := by
  rw [p14, r64', rho_at, xh_at, i5_at, du_at]
  exact congrArg₂ (· + ·) rfl (congrArg₂ (· * ·) rfl (congrArg₂ (· - ·) rfl (congrArg₂ (· * ·) rfl (congrArg (Ideal.div · _)
    (Finset.sum_congr rfl fun j _ => congrArg₂ (· * ·) (du_at m c t r j) (xh_at m c t r j))))))

theorem h_at (c : Dev nD) (t : Fin cfg0.N) (r : Fin 512) (k : Fin 1024) :
    k0_pay4 (F := Ideal) (iblk m c 4 t) (iblk m c 7 t) (View.ld (iblk m c 6 t) (Rect.unit ![0, 0] ![1, 1024] inb_S2x1024_S1x1024_0_0)) (scT m c t) (ix2 r k)
    = val_main_v68 (F := Ideal) (m ((c : Thread nD τ).loc main_arg2)) (m ((c : Thread nD τ).loc main_arg3)) (m ((c : Thread nD τ).loc main_arg4)) (ix2 (tok t r) k) := by
  rw [p4, r68, r15, xh_at, i7_at, sc_at]
  exact congrArg (_ + ·) ((lc0 _ k).trans (i6_at m c t 0 k))

/-- The rounded gradient, its column slabs side by side. -/
theorem dz_at (c : Dev nD) (t : Fin cfg0.N) (r : Fin 512) (n : Fin 1792) :
    View.canon (Val := Elt Ideal) (s := S512x1792) (e := .bf16) [⟨Rect.unit ![0, 1536] ![512, 256] inb_S512x1792_S512x256_0_1536, k0_pay9 (iblk m c 3 t)⟩,
        ⟨Rect.unit ![0, 768] ![512, 768] inb_S512x1792_S512x768_0_768, k0_pay8 (iblk m c 2 t)⟩,
        ⟨Rect.unit ![0, 512] ![512, 256] inb_S512x1792_S512x256_0_512, k0_pay7 (iblk m c 1 t)⟩,
        ⟨Rect.unit ![0, 0] ![512, 512] inb_S512x1792_S512x512_0_0, k0_pay5 (iblk m c 0 t)⟩] (ix2 r n)
    = val_main_v69 (F := Ideal) (m ((c : Thread nD τ).loc main_arg0)) (ix2 (tok t r) n) := by
  have hv : val_main_v69 (F := Ideal) (m ((c : Thread nD τ).loc main_arg0)) (ix2 (tok t r) n) = (m ((c : Thread nD τ).loc main_arg0)) (ix2 (tok t r) n) := by
    unfold val_main_v69
    pointwise
  rw [hv]
  by_cases h3 : 1536 ≤ n.val
  · obtain ⟨q, e⟩ : ∃ q : Fin 256, n.val = 1536 + q.val := ⟨⟨n.val - 1536, by omega⟩, by dsimp only; omega⟩
    have en : n = ⟨1536 + q.val, by omega⟩ := Fin.ext e
    have he : (ix2 r ⟨1536 + q.val, by omega⟩ : S512x1792.Idx) = (Rect.unit (s := S512x1792) ![0, 1536] ![512, 256] inb_S512x1792_S512x256_0_1536).emb (ix2 r q) := by
      blk_ext []
    rw [en, he, View.canon_cons_emb]
    exact (p9 r _ q).trans (i3_at m c t r q)
  rw [View.canon_cons_of_not_mem _ _ (Rect.not_mem_set_of_axis _ _ (1 : Fin 2) 1536 256 rfl rfl rfl (Or.inl (by show n.val < 1536; omega)))]
  by_cases h2 : 768 ≤ n.val
  · obtain ⟨q, e⟩ : ∃ q : Fin 768, n.val = 768 + q.val := ⟨⟨n.val - 768, by omega⟩, by dsimp only; omega⟩
    have en : n = ⟨768 + q.val, by omega⟩ := Fin.ext e
    have he : (ix2 r ⟨768 + q.val, by omega⟩ : S512x1792.Idx) = (Rect.unit (s := S512x1792) ![0, 768] ![512, 768] inb_S512x1792_S512x768_0_768).emb (ix2 r q) := by
      blk_ext []
    rw [en, he, View.canon_cons_emb]
    exact (p8 r _ q).trans (i2_at m c t r q)
  rw [View.canon_cons_of_not_mem _ _ (Rect.not_mem_set_of_axis _ _ (1 : Fin 2) 768 768 rfl rfl rfl (Or.inl (by show n.val < 768; omega)))]
  by_cases h1 : 512 ≤ n.val
  · obtain ⟨q, e⟩ : ∃ q : Fin 256, n.val = 512 + q.val := ⟨⟨n.val - 512, by omega⟩, by dsimp only; omega⟩
    have en : n = ⟨512 + q.val, by omega⟩ := Fin.ext e
    have he : (ix2 r ⟨512 + q.val, by omega⟩ : S512x1792.Idx) = (Rect.unit (s := S512x1792) ![0, 512] ![512, 256] inb_S512x1792_S512x256_0_512).emb (ix2 r q) := by
      blk_ext []
    rw [en, he, View.canon_cons_emb]
    exact (p7 r _ q).trans (i1_at m c t r q)
  rw [View.canon_cons_of_not_mem _ _ (Rect.not_mem_set_of_axis _ _ (1 : Fin 2) 512 256 rfl rfl rfl (Or.inl (by show n.val < 512; omega)))]
  obtain ⟨q, e⟩ : ∃ q : Fin 512, n.val = q.val := ⟨⟨n.val, by omega⟩, rfl⟩
  have en : n = ⟨q.val, by omega⟩ := Fin.ext e
  have he : (ix2 r ⟨q.val, by omega⟩ : S512x1792.Idx) = (Rect.unit (s := S512x1792) ![0, 0] ![512, 512] inb_S512x1792_S512x512_0_0).emb (ix2 r q) := by
    blk_ext []
  rw [en, he, View.canon_cons_emb]
  exact (p5 r _ q).trans (i0_at m c t r q)

/-- Three rows stored over what the tile held. -/
theorem rows_at {κ : Kind} {sp : Space} (v : View sig κ sp S8x1024 .f32) (f : v.ty.Contents (Elt Ideal)) (q0 q1 q2 : FVec Ideal S1x1024 .f32)
    (M : List (View.Piece (Elt Ideal) S8x1024 .f32)) (i : Fin 8) (k : Fin 1024) :
    v.read (Elt Ideal) (v.writes (Elt Ideal) f (⟨Rect.unit ![2, 0] ![1, 1024] inb_S8x1024_S1x1024_2_0, q2⟩ :: ⟨Rect.unit ![1, 0] ![1, 1024] inb_S8x1024_S1x1024_1_0, q1⟩ :: ⟨Rect.unit ![0, 0] ![1, 1024] inb_S8x1024_S1x1024_0_0, q0⟩ :: M)) (ix2 i k)
    = if i.val = 0 then q0 (ix2 0 k) else if i.val = 1 then q1 (ix2 0 k) else if i.val = 2 then q2 (ix2 0 k)
      else v.read (Elt Ideal) (v.writes (Elt Ideal) f M) (ix2 i k) := by
  by_cases h2 : i.val = 2
  · rw [if_neg (by omega), if_neg (by omega), if_pos h2]
    have e : (Rect.unit (s := S8x1024) ![2, 0] ![1, 1024] inb_S8x1024_S1x1024_2_0).emb (ix2 0 k) = (ix2 i k : S8x1024.Idx) := by
      blk_ext [h2]
    rw [← e]
    exact View.read_writes_cons_emb v f (Rect.unit (s := S8x1024) ![2, 0] ![1, 1024] inb_S8x1024_S1x1024_2_0) q2 _ (ix2 0 k)
  rw [View.read_writes_cons_miss_of_axis v f _ _ _ (0 : Fin 2) 2 1 rfl rfl rfl (by show i.val < 2 ∨ 2 + 1 ≤ i.val; omega)]
  by_cases h1 : i.val = 1
  · rw [if_neg (by omega), if_pos h1]
    have e : (Rect.unit (s := S8x1024) ![1, 0] ![1, 1024] inb_S8x1024_S1x1024_1_0).emb (ix2 0 k) = (ix2 i k : S8x1024.Idx) := by
      blk_ext [h1]
    rw [← e]
    exact View.read_writes_cons_emb v f (Rect.unit (s := S8x1024) ![1, 0] ![1, 1024] inb_S8x1024_S1x1024_1_0) q1 _ (ix2 0 k)
  rw [View.read_writes_cons_miss_of_axis v f _ _ _ (0 : Fin 2) 1 1 rfl rfl rfl (by show i.val < 1 ∨ 1 + 1 ≤ i.val; omega)]
  by_cases h0 : i.val = 0
  · rw [if_pos h0]
    have e : (Rect.unit (s := S8x1024) ![0, 0] ![1, 1024] inb_S8x1024_S1x1024_0_0).emb (ix2 0 k) = (ix2 i k : S8x1024.Idx) := by
      blk_ext [h0]
    rw [← e]
    exact View.read_writes_cons_emb v f (Rect.unit (s := S8x1024) ![0, 0] ![1, 1024] inb_S8x1024_S1x1024_0_0) q0 _ (ix2 0 k)
  rw [View.read_writes_cons_miss_of_axis v f _ _ _ (0 : Fin 2) 0 1 rfl rfl rfl (by show i.val < 0 ∨ 0 + 1 ≤ i.val; omega), if_neg h0, if_neg h1, if_neg h2]

/-- What one tile adds to the row sums. -/
def term (c : Dev nD) (j : ℕ) (i : Fin 8) (k : Fin 1024) : EReal :=
  if i.val = 0 then ∑ r : Fin 512, val_main_v29 (F := Ideal) (m ((c : Thread nD τ).loc main_arg0)) (m ((c : Thread nD τ).loc main_arg5)) (ix2 (tk j r) k)
  else if i.val = 1 then ∑ r : Fin 512, val_main_v15 (F := Ideal) (m ((c : Thread nD τ).loc main_arg2)) (m ((c : Thread nD τ).loc main_arg4)) (ix2 (tk j r) k) * val_main_v29 (F := Ideal) (m ((c : Thread nD τ).loc main_arg0)) (m ((c : Thread nD τ).loc main_arg5)) (ix2 (tk j r) k)
  else if i.val = 2 then ∑ r : Fin 512, val_main_v12 (F := Ideal) (m ((c : Thread nD τ).loc main_arg2)) (ix2 (tk j r) k) * val_main_v37 (F := Ideal) (m ((c : Thread nD τ).loc main_arg0)) (m ((c : Thread nD τ).loc main_arg3)) (m ((c : Thread nD τ).loc main_arg5)) (ix2 (tk j r) k)
  else 0

/-- The stored rows are the held ones plus the tile's terms. -/
theorem rows_term (c : Dev nD) (t : Fin cfg0.N) (prev : FVec Ideal S8x1024 .f32) (i : Fin 8) (k : Fin 1024) :
    (if i.val = 0 then k0_pay15 (F := Ideal) (dhT m c t) (View.ld (Val := Elt Ideal) (e' := .f32) prev (Rect.unit ![0, 0] ![1, 1024] inb_S8x1024_S1x1024_0_0)) (ix2 0 k)
      else if i.val = 1 then k0_pay16 (F := Ideal) (dhT m c t) (k0_pay12 (F := Ideal) (k0_pay3 (F := Ideal) (iblk m c 4 t)) (iblk m c 7 t))
        (View.ld (Val := Elt Ideal) (e' := .f32) prev (Rect.unit ![1, 0] ![1, 1024] inb_S8x1024_S1x1024_1_0)) (ix2 0 k)
      else if i.val = 2 then k0_pay17 (F := Ideal) (k0_pay3 (F := Ideal) (iblk m c 4 t)) (dhT m c t) (scT m c t) (FloatOps.ofBits (F := Ideal) .f32 0x3F800000#32)
        (View.ld (Val := Elt Ideal) (e' := .f32) prev (Rect.unit ![2, 0] ![1, 1024] inb_S8x1024_S1x1024_2_0)) (ix2 0 k)
      else prev (ix2 i k)) = prev (ix2 i k) + term m c t.val i k := by
  unfold term
  by_cases h0 : i.val = 0
  · obtain rfl : i = 0 := Fin.ext h0
    rw [if_pos h0, if_pos h0, p15]
    exact congrArg₂ (· + ·) (lp0 prev k) (Finset.sum_congr rfl fun r _ => dh_at m c t r k)
  by_cases h1 : i.val = 1
  · obtain rfl : i = 1 := Fin.ext h1
    rw [if_neg h0, if_pos h1, if_neg h0, if_pos h1, p16]
    exact congrArg₂ (· + ·) (lp1 prev k) (Finset.sum_congr rfl fun r _ => (congrArg₂ (· * ·) (dh_at m c t r k) (xg_at m c t r k)).trans (mul_comm (G := EReal) _ _))
  by_cases h2 : i.val = 2
  · obtain rfl : i = 2 := Fin.ext h2
    rw [if_neg h0, if_neg h1, if_pos h2, if_neg h0, if_neg h1, if_pos h2, p17]
    exact congrArg₂ (· + ·) (lp2 prev k) (Finset.sum_congr rfl fun r _ => (congrArg₂ (· * ·) (ds_at m c t r k) (xh_at m c t r k)).trans (mul_comm (G := EReal) _ _))
  rw [if_neg h0, if_neg h1, if_neg h2, if_neg h0, if_neg h1, if_neg h2, add_zero]

theorem part_A (c : Dev nD) (t : Fin cfg0.N) (h0 : t.val % 4 = 0) (i : Fin 8) (k : Fin 1024) :
    (outsAt0 m c t.val t.isLt).2.2.2 (ix2 i k) = term m c t.val i k := by
  rw [outsAt0_A m c t h0]
  frame_open
  simp (disch := decide) only [↓ View.readCov_skip, ↓ View.readCov_cons_toLoadRect, ↓ View.readCov_fill]
  frame_out
  rw [← View.read_writes_junk_apply_eq_canon (ms0_12 t).view]
  refine (rows_at (ms0_12 t).view _ _ _ _ _ i k).trans ?_
  rw [View.read_writes_junk_apply_eq_canon, View.canon_cons_unit_lit (S := S8x1024) _ _ _ (by decide)]
  refine (rows_term m c t (k0_pay1 (F := Ideal)) i k).trans ?_
  rw [p1, zero_add]

theorem part_B (c : Dev nD) (t : Fin cfg0.N) (h0 : ¬ t.val % 4 = 0) (i : Fin 8) (k : Fin 1024) :
    (outsAt0 m c t.val t.isLt).2.2.2 (ix2 i k)
      = (outsAt0 m c (t.val - 1) (Nat.lt_of_le_of_lt (Nat.sub_le _ _) t.isLt)).2.2.2 (ix2 i k) + term m c t.val i k := by
  rw [outsAt0_B m c t h0]
  frame_open
  simp (disch := decide) only [↓ View.readCov_skip, ↓ View.readCov_cons_toLoadRect, ↓ View.readCov_fill]
  frame_out
  generalize (outsAt0 m c (t.val - 1) (Nat.lt_of_le_of_lt (Nat.sub_le _ _) t.isLt)).2.2.2 = prev
  refine (rows_at (ms0_12 t).view _ _ _ _ [] i k).trans ?_
  rw [View.writes_nil, Memref.IsWhole.read_unread]
  exact rows_term m c t prev i k

theorem part_sum (c : Dev nD) : ∀ (n : ℕ) (hn : n < cfg0.N) (i : Fin 8) (k : Fin 1024),
    (outsAt0 m c n hn).2.2.2 (ix2 i k) = ∑ j ∈ Finset.range (n + 1), term m c j i k
  | 0, hn, i, k => by
    rw [Finset.sum_range_one]
    exact part_A m c ⟨0, hn⟩ rfl i k
  | n + 1, hn, i, k => by
    have h4 : n + 1 < 4 := hn
    rw [Finset.sum_range_succ, ← part_sum c n (by omega) i k]
    exact part_B m c ⟨n + 1, hn⟩ (by show ¬ (n + 1) % 4 = 0; omega) i k

theorem part_ref (c : Dev nD) (i : Fin 8) (k : Fin 1024) : ∑ j ∈ Finset.range 4, term m c j i k
    = val_main_v67 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (ix2 i k) := by
  rw [r67]
  unfold term
  by_cases h0 : i.val = 0
  · simp only [if_pos h0]
    rw [r32, NormGrad.sum_tiles]
    rfl
  by_cases h1 : i.val = 1
  · simp only [if_neg h0, if_pos h1]
    rw [r38, NormGrad.sum_tiles]
    rfl
  by_cases h2 : i.val = 2
  · simp only [if_neg h0, if_neg h1, if_pos h2]
    rw [r49, NormGrad.sum_tiles]
    rfl
  simp only [if_neg h0, if_neg h1, if_neg h2, Finset.sum_const_zero]

theorem out9 (c : Dev nD) (t : Fin cfg0.N) (r : Fin 512) (k : Fin 1024) : (outsAt0 m c t.val t.isLt).1 (ix2 r k) = val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 (tok t r) k) := by
  by_cases h0 : t.val % 4 = 0
  · rw [outsAt0_A m c t h0]
    frame_open
    frame_out
    exact dx_at m c t r k
  · rw [outsAt0_B m c t h0]
    frame_open
    frame_out
    exact dx_at m c t r k

theorem final9 (c : Dev nD) : (dats m 0 c).arrAt 9 cfg0.N = val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 9 _ (by decide +kernel) fun t hf y => ?_
  blk_simp
  rw [after0_9]
  generalize ej : ((View.whole Cert.MixInBwdKernelIdeal.main_v7_0).slice (win0_9.rect t)).emb y = j
  replace ej : ∀ a, (j a : ℕ) = (![t.val * 512 + y 0, y 1] : Fin 2 → ℕ) a := by
    intro a; subst ej; blk_simp [idx9 t]; match a with | ⟨0, _⟩ => simp | ⟨1, _⟩ => simp
  change S512x1024.Idx at y
  change S2048x1024.Idx at j
  idx_vars y
  idx_vars j
  obtain rfl : j0 = tok t y0 := Fin.ext ((ej 0).trans (tok_val t y0).symm)
  obtain rfl : j1 = y1 := Fin.ext (ej 1)
  exact out9 m c t y0 j1

theorem out10 (c : Dev nD) (t : Fin cfg0.N) (r : Fin 512) (k : Fin 1024) : (outsAt0 m c t.val t.isLt).2.1 (ix2 r k) = val_main_v68 (F := Ideal) (m ((c : Thread nD τ).loc main_arg2)) (m ((c : Thread nD τ).loc main_arg3)) (m ((c : Thread nD τ).loc main_arg4)) (ix2 (tok t r) k) := by
  by_cases h0 : t.val % 4 = 0
  · rw [outsAt0_A m c t h0]
    frame_open
    frame_out
    exact h_at m c t r k
  · rw [outsAt0_B m c t h0]
    frame_open
    frame_out
    exact h_at m c t r k

theorem final10 (c : Dev nD) : (dats m 0 c).arrAt 10 cfg0.N = val_main_v68 (F := Ideal) (m ((c : Thread nD τ).loc main_arg2)) (m ((c : Thread nD τ).loc main_arg3)) (m ((c : Thread nD τ).loc main_arg4)) := by
  refine (dats m 0 c).arrAt_eq_of_covers 10 _ (by decide +kernel) fun t hf y => ?_
  blk_simp
  rw [after0_10]
  generalize ej : ((View.whole Cert.MixInBwdKernelIdeal.main_v7_1).slice (win0_10.rect t)).emb y = j
  replace ej : ∀ a, (j a : ℕ) = (![t.val * 512 + y 0, y 1] : Fin 2 → ℕ) a := by
    intro a; subst ej; blk_simp [idx10 t]; match a with | ⟨0, _⟩ => simp | ⟨1, _⟩ => simp
  change S512x1024.Idx at y
  change S2048x1024.Idx at j
  idx_vars y
  idx_vars j
  obtain rfl : j0 = tok t y0 := Fin.ext ((ej 0).trans (tok_val t y0).symm)
  obtain rfl : j1 = y1 := Fin.ext (ej 1)
  exact out10 m c t y0 j1

theorem out11 (c : Dev nD) (t : Fin cfg0.N) (r : Fin 512) (k : Fin 1792) : (outsAt0 m c t.val t.isLt).2.2.1 (ix2 r k) = val_main_v69 (F := Ideal) (m ((c : Thread nD τ).loc main_arg0)) (ix2 (tok t r) k) := by
  by_cases h0 : t.val % 4 = 0
  · rw [outsAt0_A m c t h0]
    frame_open
    frame_out
    exact dz_at m c t r k
  · rw [outsAt0_B m c t h0]
    frame_open
    frame_out
    exact dz_at m c t r k

theorem final11 (c : Dev nD) : (dats m 0 c).arrAt 11 cfg0.N = val_main_v69 (F := Ideal) (m ((c : Thread nD τ).loc main_arg0)) := by
  refine (dats m 0 c).arrAt_eq_of_covers 11 _ (by decide +kernel) fun t hf y => ?_
  blk_simp
  rw [after0_11]
  generalize ej : ((View.whole Cert.MixInBwdKernelIdeal.main_v7_2).slice (win0_11.rect t)).emb y = j
  replace ej : ∀ a, (j a : ℕ) = (![t.val * 512 + y 0, y 1] : Fin 2 → ℕ) a := by
    intro a; subst ej; blk_simp [idx11 t]; match a with | ⟨0, _⟩ => simp | ⟨1, _⟩ => simp
  change S512x1792.Idx at y
  change S2048x1792.Idx at j
  idx_vars y
  idx_vars j
  obtain rfl : j0 = tok t y0 := Fin.ext ((ej 0).trans (tok_val t y0).symm)
  obtain rfl : j1 = y1 := Fin.ext (ej 1)
  exact out11 m c t y0 j1

theorem final12 (c : Dev nD) : (dats m 0 c).arrAt 12 cfg0.N = val_main_v67 (F := Ideal) (m ((c : Thread nD τ).loc main_arg0)) (m ((c : Thread nD τ).loc main_arg2)) (m ((c : Thread nD τ).loc main_arg3)) (m ((c : Thread nD τ).loc main_arg4)) (m ((c : Thread nD τ).loc main_arg5)) := by
  refine (dats m 0 c).arrAt_eq_of_covers 12 _ (by decide +kernel) fun t hf y => ?_
  have ht : t.val = 3 := by revert hf; revert t; decide +kernel
  blk_simp
  rw [after0_12]
  generalize ej : ((View.whole Cert.MixInBwdKernelIdeal.main_v7_3).slice (win0_12.rect t)).emb y = j
  replace ej : ∀ a, (j a : ℕ) = (![(y 0 : ℕ), y 1] : Fin 2 → ℕ) a := by
    intro a; subst ej; blk_simp [idx12 t]; match a with | ⟨0, _⟩ => simp | ⟨1, _⟩ => simp
  change S8x1024.Idx at y
  change S8x1024.Idx at j
  idx_vars y
  idx_vars j
  obtain rfl : j0 = y0 := Fin.ext (ej 0)
  obtain rfl : j1 = y1 := Fin.ext (ej 1)
  refine (part_sum m c t.val t.isLt j0 j1).trans ?_
  rw [ht]
  exact part_ref m c j0 j1

end Cert.Proof.MixInBwd

end
-- ==== Proof.AdamAda.lean ====
module

public import proofs.«01_k».proof.Defs
public import proofs.«01_k».proof.Proof.Gen.AdamAdaKernelIdeal.Value
public import proofs.«01_k».proof.Proof.Gen.AdamAdaReferenceIdeal.Run
public import proofs.«01_k».proof.Proof.Gen.AdamAdaReferenceIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem Idealize.ShloMosaic.StableHlo
open Idealize.ShloMosaic.Pipeline (Dat)

namespace Cert.Proof.AdamAda

open Cert.AdamAdaKernelIdeal Cert.AdamAdaKernelIdeal.Gen
open Cert.AdamAdaReferenceIdeal.Read

/-! AdamW of the conditioning weights: a block of rows a grid point, every element by itself. -/

/-- The words of the step's constants. -/
abbrev k (b : BitVec 32) : EReal := FloatOps.ofBits (F := Ideal) .f32 b

/-- The new first moment. -/
def mn (g m : EReal) : EReal := k 0x3F666666#32 * m + k 0x3DCCCCCD#32 * g
/-- The new second moment. -/
def vn (g v : EReal) : EReal := k 0x3F7FBE77#32 * v + k 0x3A83126F#32 * (g * g)
/-- The change of a weight. -/
def dw (w g m v : EReal) : EReal :=
  k 0xBA83126F#32 * (Ideal.div (Ideal.div (mn g m) (k 0x3F26BD02#32)) (Ideal.sqrt (Ideal.div (vn g v) (k 0x3C231ACC#32)) + k 0x322BCC77#32)
    + k 0x3C23D70A#32 * w)

section Kernel
variable (w m v : FVec Ideal S512x1152 .f32) (g : FVec Ideal S1x512x1152 .f32) (r : Fin 512) (j : Fin 1152)
theorem pay1_at : k0_pay1 (F := Ideal) g (ix2 r j) = g (ix3 0 r j) := by
  unfold k0_pay1
  pointwise
theorem pay2_at : k0_pay2 (F := Ideal) g m (ix2 r j) = mn (g (ix3 0 r j)) (m (ix2 r j)) := by
  unfold k0_pay2 k0_pay1 mn
  pointwise
theorem pay3_at : k0_pay3 (F := Ideal) g v (ix2 r j) = vn (g (ix3 0 r j)) (v (ix2 r j)) := by
  unfold k0_pay3 k0_pay1 vn
  pointwise
theorem pay4_at : k0_pay4 (F := Ideal) g m v w (ix2 r j) = dw (w (ix2 r j)) (g (ix3 0 r j)) (m (ix2 r j)) (v (ix2 r j)) := by
  unfold k0_pay4 dw
  rw [← pay2_at, ← pay3_at]
  generalize k0_pay2 (F := Ideal) g m = a
  generalize k0_pay3 (F := Ideal) g v = b
  pointwise
end Kernel

section Reference
variable (w g m v : FVec Ideal S4096x1152 .f32) (s : Fin 4096) (j : Fin 1152)
theorem r4 : val_main_v4 (F := Ideal) g m (ix2 s j) = mn (g (ix2 s j)) (m (ix2 s j)) := by
  unfold val_main_v4 val_main_v3 val_main_v2 val_main_v1 val_main_v0 val_main_cst val_main_cst_0 mn
  pointwise
theorem r10 : val_main_v10 (F := Ideal) g v (ix2 s j) = vn (g (ix2 s j)) (v (ix2 s j)) := by
  unfold val_main_v10 val_main_v9 val_main_v8 val_main_v7 val_main_v6 val_main_v5 val_main_cst_1 val_main_cst_2 vn
  pointwise
theorem r23 : val_main_v23 (F := Ideal) w g m v (ix2 s j) = dw (w (ix2 s j)) (g (ix2 s j)) (m (ix2 s j)) (v (ix2 s j)) := by
  unfold dw
  rw [← r4, ← r10]
  unfold val_main_v23 val_main_v22 val_main_v21 val_main_v20 val_main_v19 val_main_v18 val_main_v17 val_main_v16 val_main_v15 val_main_v14 val_main_v13
    val_main_v12 val_main_v11 val_main_cst_3 val_main_cst_4 val_main_cst_5 val_main_cst_6 val_main_cst_7
  generalize val_main_v4 (F := Ideal) g m = a
  generalize val_main_v10 (F := Ideal) g v = b
  pointwise
end Reference

variable (m : (ℓ : Loc nD τ sig) → Buf (Elt Ideal) ℓ) (c : Dev nD)

theorem V0_at (s : Fin 4096) (j : Fin 1152) : V m c main_v0 (ix3 0 s j) = m ((c : Thread nD τ).loc main_arg1) (ix2 s j) := by
  unfold_abbrev_sides
  simp only [List.flatten_cons, List.flatten_nil, List.cons_append, List.nil_append, List.append_nil, StableHlo.after_cons, StableHlo.after_nil]
  after_results_simp
  pointwise
  try rfl

theorem idx0 : ∀ t : Fin grid0.N, win0_0.index t = ![t.val, 0] := by decide +kernel
theorem idx1 : ∀ t : Fin grid0.N, win0_1.index t = ![0, t.val, 0] := by decide +kernel
theorem idx2 : ∀ t : Fin grid0.N, win0_2.index t = ![t.val, 0] := by decide +kernel
theorem idx3 : ∀ t : Fin grid0.N, win0_3.index t = ![t.val, 0] := by decide +kernel
theorem idx4 : ∀ t : Fin grid0.N, win0_4.index t = ![t.val, 0] := by decide +kernel
theorem idx5 : ∀ t : Fin grid0.N, win0_5.index t = ![t.val, 0] := by decide +kernel
theorem idx6 : ∀ t : Fin grid0.N, win0_6.index t = ![t.val, 0] := by decide +kernel
theorem idx7 : ∀ t : Fin grid0.N, win0_7.index t = ![t.val, 0] := by decide +kernel

/-- A row of the block, among all rows. -/
def row (t : Fin grid0.N) (r : Fin 512) : Fin 4096 := ⟨t.val * 512 + r.val, by have h : t.val < 8 := t.isLt; omega⟩

section
variable (t : Fin grid0.N) (r : Fin 512) (j : Fin 1152)
theorem i0_at : iblk m c 0 t (ix2 r j) = m ((c : Thread nD τ).loc main_arg0) (ix2 (row t r) j) := by
  refine congrArg (m ((c : Thread nD τ).loc main_arg0)) ?_
  unfold row
  blk_ext [idx0 t]
theorem i2_at : iblk m c 2 t (ix2 r j) = m ((c : Thread nD τ).loc main_arg2) (ix2 (row t r) j) := by
  refine congrArg (m ((c : Thread nD τ).loc main_arg2)) ?_
  unfold row
  blk_ext [idx2 t]
theorem i3_at : iblk m c 3 t (ix2 r j) = m ((c : Thread nD τ).loc main_arg3) (ix2 (row t r) j) := by
  refine congrArg (m ((c : Thread nD τ).loc main_arg3)) ?_
  unfold row
  blk_ext [idx3 t]
theorem i1_at : iblk m c 1 t (ix3 0 r j) = m ((c : Thread nD τ).loc main_arg1) (ix2 (row t r) j) := by
  refine Eq.trans ?_ (V0_at m c (row t r) j)
  refine congrArg (V m c main_v0) ?_
  unfold row
  blk_ext [idx1 t]
end

theorem canon_out (p : FVec Ideal S512x1152 .f32) : View.canon (Val := Elt Ideal) (e := .f32) [⟨r0_1, p⟩] = p := by
  funext (i : S512x1152.Idx)
  rw [View.canon_cons_unit_lit (S := S512x1152) _ _ _ (by decide)]
theorem ld1 (x : Vec Ideal S512x1152 .f32) : View.ld x r0_1 = x := View.ld_unit_lit (S := S512x1152) _ _ (by decide)
theorem ld0 (x : Vec Ideal S1x512x1152 .f32) : View.ld x r0_0 = x := View.ld_unit_lit (S := S1x512x1152) _ _ (by decide)

theorem out4 (t : Fin cfg0.N) (r : Fin 512) (j : Fin 1152) : out0_4 (iblk m c 0 t) (iblk m c 1 t) (iblk m c 2 t) (iblk m c 3 t) (ix2 r j)
    = (m ((c : Thread nD τ).loc main_arg1)) (ix2 (row t r) j) := by
  unfold out0_4
  rw [canon_out, ld0, pay1_at, i1_at]

theorem final4 : (dats m 0 c).arrAt 4 cfg0.N
    = (m ((c : Thread nD τ).loc main_arg1)) := by
  refine (dats m 0 c).arrAt_eq_of_covers 4 _ (by decide +kernel) fun t hf y => ?_
  blk_simp
  rw [after0_4]
  generalize ej : ((View.whole Cert.AdamAdaKernelIdeal.main_v1_0).slice (win0_4.rect t)).emb y = q
  replace ej : ∀ a, (q a : ℕ) = (![t.val * 512 + y 0, y 1] : Fin 2 → ℕ) a := by
    intro a; subst ej; blk_simp [idx4 t]; match a with | ⟨0, _⟩ => simp | ⟨1, _⟩ => simp
  change S512x1152.Idx at y
  change S4096x1152.Idx at q
  idx_vars y
  idx_vars q
  obtain rfl : q0 = row t y0 := Fin.ext (ej 0)
  obtain rfl : q1 = y1 := Fin.ext (ej 1)
  exact out4 m c t y0 q1

theorem out5 (t : Fin cfg0.N) (r : Fin 512) (j : Fin 1152) : out0_5 (iblk m c 0 t) (iblk m c 1 t) (iblk m c 2 t) (iblk m c 3 t) (ix2 r j)
    = val_main_v23 (F := Ideal) (m ((c : Thread nD τ).loc main_arg0)) (m ((c : Thread nD τ).loc main_arg1)) (m ((c : Thread nD τ).loc main_arg2)) (m ((c : Thread nD τ).loc main_arg3)) (ix2 (row t r) j) := by
  unfold out0_5
  rw [canon_out, ld0, ld1, ld1, ld1, pay4_at, r23, i0_at, i1_at, i2_at, i3_at]

theorem final5 : (dats m 0 c).arrAt 5 cfg0.N
    = val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  generalize ej : ((View.whole Cert.AdamAdaKernelIdeal.main_v1_1).slice (win0_5.rect t)).emb y = q
  replace ej : ∀ a, (q a : ℕ) = (![t.val * 512 + y 0, y 1] : Fin 2 → ℕ) a := by
    intro a; subst ej; blk_simp [idx5 t]; match a with | ⟨0, _⟩ => simp | ⟨1, _⟩ => simp
  change S512x1152.Idx at y
  change S4096x1152.Idx at q
  idx_vars y
  idx_vars q
  obtain rfl : q0 = row t y0 := Fin.ext (ej 0)
  obtain rfl : q1 = y1 := Fin.ext (ej 1)
  exact out5 m c t y0 q1

theorem out6 (t : Fin cfg0.N) (r : Fin 512) (j : Fin 1152) : out0_6 (iblk m c 0 t) (iblk m c 1 t) (iblk m c 2 t) (iblk m c 3 t) (ix2 r j)
    = val_main_v4 (F := Ideal) (m ((c : Thread nD τ).loc main_arg1)) (m ((c : Thread nD τ).loc main_arg2)) (ix2 (row t r) j) := by
  unfold out0_6
  rw [canon_out, ld0, ld1, pay2_at, r4, i1_at, i2_at]

theorem final6 : (dats m 0 c).arrAt 6 cfg0.N
    = val_main_v4 (F := Ideal) (m ((c : Thread nD τ).loc main_arg1)) (m ((c : Thread nD τ).loc main_arg2)) := by
  refine (dats m 0 c).arrAt_eq_of_covers 6 _ (by decide +kernel) fun t hf y => ?_
  blk_simp
  rw [after0_6]
  generalize ej : ((View.whole Cert.AdamAdaKernelIdeal.main_v1_2).slice (win0_6.rect t)).emb y = q
  replace ej : ∀ a, (q a : ℕ) = (![t.val * 512 + y 0, y 1] : Fin 2 → ℕ) a := by
    intro a; subst ej; blk_simp [idx6 t]; match a with | ⟨0, _⟩ => simp | ⟨1, _⟩ => simp
  change S512x1152.Idx at y
  change S4096x1152.Idx at q
  idx_vars y
  idx_vars q
  obtain rfl : q0 = row t y0 := Fin.ext (ej 0)
  obtain rfl : q1 = y1 := Fin.ext (ej 1)
  exact out6 m c t y0 q1

theorem out7 (t : Fin cfg0.N) (r : Fin 512) (j : Fin 1152) : out0_7 (iblk m c 0 t) (iblk m c 1 t) (iblk m c 2 t) (iblk m c 3 t) (ix2 r j)
    = val_main_v10 (F := Ideal) (m ((c : Thread nD τ).loc main_arg1)) (m ((c : Thread nD τ).loc main_arg3)) (ix2 (row t r) j) := by
  unfold out0_7
  rw [canon_out, ld0, ld1, pay3_at, r10, i1_at, i3_at]

theorem final7 : (dats m 0 c).arrAt 7 cfg0.N
    = val_main_v10 (F := Ideal) (m ((c : Thread nD τ).loc main_arg1)) (m ((c : Thread nD τ).loc main_arg3)) := by
  refine (dats m 0 c).arrAt_eq_of_covers 7 _ (by decide +kernel) fun t hf y => ?_
  blk_simp
  rw [after0_7]
  generalize ej : ((View.whole Cert.AdamAdaKernelIdeal.main_v1_3).slice (win0_7.rect t)).emb y = q
  replace ej : ∀ a, (q a : ℕ) = (![t.val * 512 + y 0, y 1] : Fin 2 → ℕ) a := by
    intro a; subst ej; blk_simp [idx7 t]; match a with | ⟨0, _⟩ => simp | ⟨1, _⟩ => simp
  change S512x1152.Idx at y
  change S4096x1152.Idx at q
  idx_vars y
  idx_vars q
  obtain rfl : q0 = row t y0 := Fin.ext (ej 0)
  obtain rfl : q1 = y1 := Fin.ext (ej 1)
  exact out7 m c t y0 q1

end Cert.Proof.AdamAda

end
-- ==== Proof.AdamSmall.lean ====
module

public import proofs.«01_k».proof.Defs
public import proofs.«01_k».proof.Proof.Gen.AdamSmallKernelIdeal.Value
public import proofs.«01_k».proof.Proof.Gen.AdamSmallReferenceIdeal.Run
public import proofs.«01_k».proof.Proof.Gen.AdamSmallReferenceIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem Idealize.ShloMosaic.StableHlo
open Idealize.ShloMosaic.Pipeline (Dat)

namespace Cert.Proof.AdamSmall

open Cert.AdamSmallKernelIdeal Cert.AdamSmallKernelIdeal.Gen
open Cert.AdamSmallReferenceIdeal.Read

/-! AdamW of the small weights, packed: a block of rows a grid point, every element by itself. -/

/-- The words of the step's constants. -/
abbrev k (b : BitVec 32) : EReal := FloatOps.ofBits (F := Ideal) .f32 b

/-- The new first moment. -/
def mn (g m : EReal) : EReal := k 0x3F666666#32 * m + k 0x3DCCCCCD#32 * g
/-- The new second moment. -/
def vn (g v : EReal) : EReal := k 0x3F7FBE77#32 * v + k 0x3A83126F#32 * (g * g)
/-- The change of a weight. -/
def dw (w g m v : EReal) : EReal :=
  k 0xBA83126F#32 * (Ideal.div (Ideal.div (mn g m) (k 0x3F26BD02#32)) (Ideal.sqrt (Ideal.div (vn g v) (k 0x3C231ACC#32)) + k 0x322BCC77#32)
    + k 0x3C23D70A#32 * w)

section Kernel
variable (w m v : FVec Ideal S64x1024 .f32) (g : FVec Ideal S1x64x1024 .f32) (r : Fin 64) (j : Fin 1024)
theorem pay1_at : k0_pay1 (F := Ideal) g (ix2 r j) = g (ix3 0 r j) := by
  unfold k0_pay1
  pointwise
theorem pay2_at : k0_pay2 (F := Ideal) g m (ix2 r j) = mn (g (ix3 0 r j)) (m (ix2 r j)) := by
  unfold k0_pay2 k0_pay1 mn
  pointwise
theorem pay3_at : k0_pay3 (F := Ideal) g v (ix2 r j) = vn (g (ix3 0 r j)) (v (ix2 r j)) := by
  unfold k0_pay3 k0_pay1 vn
  pointwise
theorem pay4_at : k0_pay4 (F := Ideal) g m v w (ix2 r j) = dw (w (ix2 r j)) (g (ix3 0 r j)) (m (ix2 r j)) (v (ix2 r j)) := by
  unfold k0_pay4 dw
  rw [← pay2_at, ← pay3_at]
  generalize k0_pay2 (F := Ideal) g m = a
  generalize k0_pay3 (F := Ideal) g v = b
  pointwise
end Kernel

section Reference
variable (w g m v : FVec Ideal S704x1024 .f32) (s : Fin 704) (j : Fin 1024)
theorem r4 : val_main_v4 (F := Ideal) g m (ix2 s j) = mn (g (ix2 s j)) (m (ix2 s j)) := by
  unfold val_main_v4 val_main_v3 val_main_v2 val_main_v1 val_main_v0 val_main_cst val_main_cst_0 mn
  pointwise
theorem r10 : val_main_v10 (F := Ideal) g v (ix2 s j) = vn (g (ix2 s j)) (v (ix2 s j)) := by
  unfold val_main_v10 val_main_v9 val_main_v8 val_main_v7 val_main_v6 val_main_v5 val_main_cst_1 val_main_cst_2 vn
  pointwise
theorem r23 : val_main_v23 (F := Ideal) w g m v (ix2 s j) = dw (w (ix2 s j)) (g (ix2 s j)) (m (ix2 s j)) (v (ix2 s j)) := by
  unfold dw
  rw [← r4, ← r10]
  unfold val_main_v23 val_main_v22 val_main_v21 val_main_v20 val_main_v19 val_main_v18 val_main_v17 val_main_v16 val_main_v15 val_main_v14 val_main_v13
    val_main_v12 val_main_v11 val_main_cst_3 val_main_cst_4 val_main_cst_5 val_main_cst_6 val_main_cst_7
  generalize val_main_v4 (F := Ideal) g m = a
  generalize val_main_v10 (F := Ideal) g v = b
  pointwise
end Reference

variable (m : (ℓ : Loc nD τ sig) → Buf (Elt Ideal) ℓ) (c : Dev nD)

theorem V0_at (s : Fin 704) (j : Fin 1024) : V m c main_v0 (ix3 0 s j) = m ((c : Thread nD τ).loc main_arg1) (ix2 s j) := by
  unfold_abbrev_sides
  simp only [List.flatten_cons, List.flatten_nil, List.cons_append, List.nil_append, List.append_nil, StableHlo.after_cons, StableHlo.after_nil]
  after_results_simp
  pointwise
  try rfl

theorem idx0 : ∀ t : Fin grid0.N, win0_0.index t = ![t.val, 0] := by decide +kernel
theorem idx1 : ∀ t : Fin grid0.N, win0_1.index t = ![0, t.val, 0] := by decide +kernel
theorem idx2 : ∀ t : Fin grid0.N, win0_2.index t = ![t.val, 0] := by decide +kernel
theorem idx3 : ∀ t : Fin grid0.N, win0_3.index t = ![t.val, 0] := by decide +kernel
theorem idx4 : ∀ t : Fin grid0.N, win0_4.index t = ![t.val, 0] := by decide +kernel
theorem idx5 : ∀ t : Fin grid0.N, win0_5.index t = ![t.val, 0] := by decide +kernel
theorem idx6 : ∀ t : Fin grid0.N, win0_6.index t = ![t.val, 0] := by decide +kernel
theorem idx7 : ∀ t : Fin grid0.N, win0_7.index t = ![t.val, 0] := by decide +kernel

/-- A row of the block, among all rows. -/
def row (t : Fin grid0.N) (r : Fin 64) : Fin 704 := ⟨t.val * 64 + r.val, by have h : t.val < 11 := t.isLt; omega⟩

section
variable (t : Fin grid0.N) (r : Fin 64) (j : Fin 1024)
theorem i0_at : iblk m c 0 t (ix2 r j) = m ((c : Thread nD τ).loc main_arg0) (ix2 (row t r) j) := by
  refine congrArg (m ((c : Thread nD τ).loc main_arg0)) ?_
  unfold row
  blk_ext [idx0 t]
theorem i2_at : iblk m c 2 t (ix2 r j) = m ((c : Thread nD τ).loc main_arg2) (ix2 (row t r) j) := by
  refine congrArg (m ((c : Thread nD τ).loc main_arg2)) ?_
  unfold row
  blk_ext [idx2 t]
theorem i3_at : iblk m c 3 t (ix2 r j) = m ((c : Thread nD τ).loc main_arg3) (ix2 (row t r) j) := by
  refine congrArg (m ((c : Thread nD τ).loc main_arg3)) ?_
  unfold row
  blk_ext [idx3 t]
theorem i1_at : iblk m c 1 t (ix3 0 r j) = m ((c : Thread nD τ).loc main_arg1) (ix2 (row t r) j) := by
  refine Eq.trans ?_ (V0_at m c (row t r) j)
  refine congrArg (V m c main_v0) ?_
  unfold row
  blk_ext [idx1 t]
end

theorem canon_out (p : FVec Ideal S64x1024 .f32) : View.canon (Val := Elt Ideal) (e := .f32) [⟨r0_1, p⟩] = p := by
  funext (i : S64x1024.Idx)
  rw [View.canon_cons_unit_lit (S := S64x1024) _ _ _ (by decide)]
theorem ld1 (x : Vec Ideal S64x1024 .f32) : View.ld x r0_1 = x := View.ld_unit_lit (S := S64x1024) _ _ (by decide)
theorem ld0 (x : Vec Ideal S1x64x1024 .f32) : View.ld x r0_0 = x := View.ld_unit_lit (S := S1x64x1024) _ _ (by decide)

theorem out4 (t : Fin cfg0.N) (r : Fin 64) (j : Fin 1024) : out0_4 (iblk m c 0 t) (iblk m c 1 t) (iblk m c 2 t) (iblk m c 3 t) (ix2 r j)
    = (m ((c : Thread nD τ).loc main_arg1)) (ix2 (row t r) j) := by
  unfold out0_4
  rw [canon_out, ld0, pay1_at, i1_at]

theorem final4 : (dats m 0 c).arrAt 4 cfg0.N
    = (m ((c : Thread nD τ).loc main_arg1)) := by
  refine (dats m 0 c).arrAt_eq_of_covers 4 _ (by decide +kernel) fun t hf y => ?_
  blk_simp
  rw [after0_4]
  generalize ej : ((View.whole Cert.AdamSmallKernelIdeal.main_v1_0).slice (win0_4.rect t)).emb y = q
  replace ej : ∀ a, (q a : ℕ) = (![t.val * 64 + y 0, y 1] : Fin 2 → ℕ) a := by
    intro a; subst ej; blk_simp [idx4 t]; match a with | ⟨0, _⟩ => simp | ⟨1, _⟩ => simp
  change S64x1024.Idx at y
  change S704x1024.Idx at q
  idx_vars y
  idx_vars q
  obtain rfl : q0 = row t y0 := Fin.ext (ej 0)
  obtain rfl : q1 = y1 := Fin.ext (ej 1)
  exact out4 m c t y0 q1

theorem out5 (t : Fin cfg0.N) (r : Fin 64) (j : Fin 1024) : out0_5 (iblk m c 0 t) (iblk m c 1 t) (iblk m c 2 t) (iblk m c 3 t) (ix2 r j)
    = val_main_v23 (F := Ideal) (m ((c : Thread nD τ).loc main_arg0)) (m ((c : Thread nD τ).loc main_arg1)) (m ((c : Thread nD τ).loc main_arg2)) (m ((c : Thread nD τ).loc main_arg3)) (ix2 (row t r) j) := by
  unfold out0_5
  rw [canon_out, ld0, ld1, ld1, ld1, pay4_at, r23, i0_at, i1_at, i2_at, i3_at]

theorem final5 : (dats m 0 c).arrAt 5 cfg0.N
    = val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  generalize ej : ((View.whole Cert.AdamSmallKernelIdeal.main_v1_1).slice (win0_5.rect t)).emb y = q
  replace ej : ∀ a, (q a : ℕ) = (![t.val * 64 + y 0, y 1] : Fin 2 → ℕ) a := by
    intro a; subst ej; blk_simp [idx5 t]; match a with | ⟨0, _⟩ => simp | ⟨1, _⟩ => simp
  change S64x1024.Idx at y
  change S704x1024.Idx at q
  idx_vars y
  idx_vars q
  obtain rfl : q0 = row t y0 := Fin.ext (ej 0)
  obtain rfl : q1 = y1 := Fin.ext (ej 1)
  exact out5 m c t y0 q1

theorem out6 (t : Fin cfg0.N) (r : Fin 64) (j : Fin 1024) : out0_6 (iblk m c 0 t) (iblk m c 1 t) (iblk m c 2 t) (iblk m c 3 t) (ix2 r j)
    = val_main_v4 (F := Ideal) (m ((c : Thread nD τ).loc main_arg1)) (m ((c : Thread nD τ).loc main_arg2)) (ix2 (row t r) j) := by
  unfold out0_6
  rw [canon_out, ld0, ld1, pay2_at, r4, i1_at, i2_at]

theorem final6 : (dats m 0 c).arrAt 6 cfg0.N
    = val_main_v4 (F := Ideal) (m ((c : Thread nD τ).loc main_arg1)) (m ((c : Thread nD τ).loc main_arg2)) := by
  refine (dats m 0 c).arrAt_eq_of_covers 6 _ (by decide +kernel) fun t hf y => ?_
  blk_simp
  rw [after0_6]
  generalize ej : ((View.whole Cert.AdamSmallKernelIdeal.main_v1_2).slice (win0_6.rect t)).emb y = q
  replace ej : ∀ a, (q a : ℕ) = (![t.val * 64 + y 0, y 1] : Fin 2 → ℕ) a := by
    intro a; subst ej; blk_simp [idx6 t]; match a with | ⟨0, _⟩ => simp | ⟨1, _⟩ => simp
  change S64x1024.Idx at y
  change S704x1024.Idx at q
  idx_vars y
  idx_vars q
  obtain rfl : q0 = row t y0 := Fin.ext (ej 0)
  obtain rfl : q1 = y1 := Fin.ext (ej 1)
  exact out6 m c t y0 q1

theorem out7 (t : Fin cfg0.N) (r : Fin 64) (j : Fin 1024) : out0_7 (iblk m c 0 t) (iblk m c 1 t) (iblk m c 2 t) (iblk m c 3 t) (ix2 r j)
    = val_main_v10 (F := Ideal) (m ((c : Thread nD τ).loc main_arg1)) (m ((c : Thread nD τ).loc main_arg3)) (ix2 (row t r) j) := by
  unfold out0_7
  rw [canon_out, ld0, ld1, pay3_at, r10, i1_at, i3_at]

theorem final7 : (dats m 0 c).arrAt 7 cfg0.N
    = val_main_v10 (F := Ideal) (m ((c : Thread nD τ).loc main_arg1)) (m ((c : Thread nD τ).loc main_arg3)) := by
  refine (dats m 0 c).arrAt_eq_of_covers 7 _ (by decide +kernel) fun t hf y => ?_
  blk_simp
  rw [after0_7]
  generalize ej : ((View.whole Cert.AdamSmallKernelIdeal.main_v1_3).slice (win0_7.rect t)).emb y = q
  replace ej : ∀ a, (q a : ℕ) = (![t.val * 64 + y 0, y 1] : Fin 2 → ℕ) a := by
    intro a; subst ej; blk_simp [idx7 t]; match a with | ⟨0, _⟩ => simp | ⟨1, _⟩ => simp
  change S64x1024.Idx at y
  change S704x1024.Idx at q
  idx_vars y
  idx_vars q
  obtain rfl : q0 = row t y0 := Fin.ext (ej 0)
  obtain rfl : q1 = y1 := Fin.ext (ej 1)
  exact out7 m c t y0 q1

end Cert.Proof.AdamSmall

end
-- ==== Proof.CondBwd.lean ====
module

public import proofs.«01_k».proof.Defs
public import proofs.«01_k».proof.Proof.Gen.CondBwdKernelIdeal.Frame
public import proofs.«01_k».proof.Proof.Gen.CondBwdReferenceIdeal.Run
public import proofs.«01_k».proof.Proof.Gen.CondBwdReferenceIdeal.Read
public import Idealize.ShloMosaic.Lib.Pipeline.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem Idealize.ShloMosaic.StableHlo
open Idealize.ShloMosaic.Pipeline (Dat)

namespace Cert.Proof.CondBwd

open Cert.CondBwdKernelIdeal Cert.CondBwdKernelIdeal.Gen
open Cert.CondBwdReferenceIdeal.Read

/-! The gradients of the conditioning's weights and bias: a layer a grid point, the eight sequences added up. -/

/-- The activation of the conditioning's input. -/
def act (x : EReal) : EReal :=
  x * Ideal.div (FloatOps.ofBits (F := Ideal) .f32 0x3F800000#32) (FloatOps.ofBits (F := Ideal) .f32 0x3F800000#32 + Ideal.exp (-x))

theorem zero_sub' (x : EReal) : FloatOps.ofBits (F := Ideal) .f32 0x00000000#32 - x = -x := by
  rw [show (FloatOps.ofBits (F := Ideal) .f32 0x00000000#32 : EReal) = 0 from Ideal.ofBits_zero_f32, sub_eq_add_neg, zero_add]

section Kernel
variable (ct : FVec Ideal S1024x8 .f32) (d : FVec Ideal S1x8x1152 .f32) (da : FVec Ideal S1x8x9216 .f32)
variable (k : Fin 1024) (b : Fin 8) (n : Fin 1152) (q : Fin 9216)
theorem pay3_at : k0_pay3 (F := Ideal) ct (ix2 k b) = act (ct (ix2 k b)) := by
  unfold act
  rw [← zero_sub']
  unfold k0_pay3
  pointwise
theorem pay4_at : k0_pay4 (F := Ideal) d (ix2 b n) = d (ix3 0 b n) := by
  unfold k0_pay4
  pointwise
theorem pay5_at : k0_pay5 (F := Ideal) ct d (ix2 k n) = k0_pay3 (F := Ideal) ct (ix2 k 0) * k0_pay4 (F := Ideal) d (ix2 0 n)
    + k0_pay3 (F := Ideal) ct (ix2 k 1) * k0_pay4 (F := Ideal) d (ix2 1 n) + k0_pay3 (F := Ideal) ct (ix2 k 2) * k0_pay4 (F := Ideal) d (ix2 2 n)
    + k0_pay3 (F := Ideal) ct (ix2 k 3) * k0_pay4 (F := Ideal) d (ix2 3 n) + k0_pay3 (F := Ideal) ct (ix2 k 4) * k0_pay4 (F := Ideal) d (ix2 4 n)
    + k0_pay3 (F := Ideal) ct (ix2 k 5) * k0_pay4 (F := Ideal) d (ix2 5 n) := by
  unfold k0_pay5
  generalize k0_pay3 (F := Ideal) ct = x
  generalize k0_pay4 (F := Ideal) d = y
  pointwise
theorem pay6_at : k0_pay6 (F := Ideal) ct (ix2 k n) = k0_pay3 (F := Ideal) ct (ix2 k 6) := by
  unfold k0_pay6
  generalize k0_pay3 (F := Ideal) ct = x
  pointwise
theorem pay7_at : k0_pay7 (F := Ideal) d (ix2 k n) = k0_pay4 (F := Ideal) d (ix2 6 n) := by
  unfold k0_pay7
  generalize k0_pay4 (F := Ideal) d = x
  pointwise
theorem pay1_at (x : FVec Ideal S1024x8 .f32) (y : FVec Ideal S8x1152 .f32) (p u v : FVec Ideal S1024x1152 .f32) :
    k0_pay1 (F := Ideal) x y p u v (ix3 0 k n) = p (ix2 k n) + u (ix2 k n) * v (ix2 k n) + x (ix2 k 7) * y (ix2 7 n) := by
  unfold k0_pay1
  pointwise
theorem pay2_at : k0_pay2 (F := Ideal) da (ix3 0 0 q) = ∑ b : Fin 8, da (ix3 0 b q) := by
  unfold k0_pay2
  pointwise
/-- The block of the weights' gradient: the eight products, added up. -/
theorem gw_at : k0_pay1 (F := Ideal) (k0_pay3 ct) (k0_pay4 d) (k0_pay5 ct d) (k0_pay6 ct) (k0_pay7 d) (ix3 0 k n)
    = ∑ b : Fin 8, act (ct (ix2 k b)) * d (ix3 0 b n) := by
  rw [pay1_at, pay5_at, pay6_at, pay7_at, Fin.sum_univ_eight]
  simp only [pay3_at, pay4_at]
end Kernel

section Reference
variable (x0 : FVec Ideal S8x1024 .f32) (x1 : FVec Ideal S4x8x1152 .f32) (x2 : FVec Ideal S4x8x9216 .f32)
variable (l : Fin 4) (k : Fin 1024) (b : Fin 8) (n : Fin 1152) (q : Fin 9216)
theorem r0 : val_main_v0 (F := Ideal) x0 (ix2 b k) = act (x0 (ix2 b k)) := by
  unfold val_main_v0 val_main_call0_v5 val_main_call0_v4 val_main_call0_v3 val_main_call0_v2 val_main_call0_v1 val_main_call0_v0 val_main_call0_cst val_main_call0_cst_0 act
  pointwise
theorem r7 : val_main_v7 (F := Ideal) x0 x1 (ix3 l k n) = ∑ b : Fin 8, x1 (ix3 l b n) * val_main_v0 (F := Ideal) x0 (ix2 b k) := by
  unfold val_main_v7 val_main_v6 val_main_v5
  generalize val_main_v0 (F := Ideal) x0 = z
  pointwise
theorem r10 : val_main_v10 (F := Ideal) x2 (ix3 l 0 q) = ∑ b : Fin 8, x2 (ix3 l b q) := by
  unfold val_main_v10 val_main_v9 val_main_cst_1
  pointwise
end Reference

variable (m : (ℓ : Loc nD τ sig) → Buf (Elt Ideal) ℓ) (c : Dev nD)

theorem V0_at (k : Fin 1024) (b : Fin 8) : V m c main_v0 (ix2 k b) = m ((c : Thread nD τ).loc main_arg0) (ix2 b k) := by
  unfold_abbrev_sides
  simp only [List.flatten_cons, List.flatten_nil, List.cons_append, List.nil_append, List.append_nil, StableHlo.after_cons, StableHlo.after_nil]
  after_results_simp
  pointwise
  try rfl

theorem idx0 : ∀ t : Fin grid0.N, win0_0.index t = ![0, 0] := by decide +kernel
theorem idx1 : ∀ t : Fin grid0.N, win0_1.index t = ![t.val, 0, 0] := by decide +kernel
theorem idx2 : ∀ t : Fin grid0.N, win0_2.index t = ![t.val, 0, 0] := by decide +kernel
theorem idx3 : ∀ t : Fin grid0.N, win0_3.index t = ![t.val, 0, 0] := by decide +kernel
theorem idx4 : ∀ t : Fin grid0.N, win0_4.index t = ![t.val, 0, 0] := by decide +kernel

/-- The layer of a grid point. -/
def lay (t : Fin grid0.N) : Fin 4 := ⟨t.val, t.isLt⟩

section
variable (t : Fin grid0.N)
theorem i0_at (k : Fin 1024) (b : Fin 8) : iblk m c 0 t (ix2 k b) = m ((c : Thread nD τ).loc main_arg0) (ix2 b k) := by
  refine Eq.trans ?_ (V0_at m c k b)
  refine congrArg (V m c main_v0) ?_
  blk_ext [idx0 t]
theorem i1_at (b : Fin 8) (n : Fin 1152) : iblk m c 1 t (ix3 0 b n) = m ((c : Thread nD τ).loc main_arg1) (ix3 (lay t) b n) := by
  refine congrArg (m ((c : Thread nD τ).loc main_arg1)) ?_
  unfold lay
  blk_ext [idx1 t]
theorem i2_at (b : Fin 8) (n : Fin 9216) : iblk m c 2 t (ix3 0 b n) = m ((c : Thread nD τ).loc main_arg2) (ix3 (lay t) b n) := by
  refine congrArg (m ((c : Thread nD τ).loc main_arg2)) ?_
  unfold lay
  blk_ext [idx2 t]
end

theorem canon3 (p : FVec Ideal S1x1024x1152 .f32) : View.canon (Val := Elt Ideal) (e := .f32) [⟨r0_2, p⟩] = p := by
  funext (i : S1x1024x1152.Idx)
  rw [View.canon_cons_unit_lit (S := S1x1024x1152) _ _ _ (by decide)]
theorem canon4 (p : FVec Ideal S1x1x9216 .f32) : View.canon (Val := Elt Ideal) (e := .f32) [⟨r0_4, p⟩] = p := by
  funext (i : S1x1x9216.Idx)
  rw [View.canon_cons_unit_lit (S := S1x1x9216) _ _ _ (by decide)]
theorem ld0 (x : Vec Ideal S1024x8 .f32) : View.ld x r0_0 = x := View.ld_unit_lit (S := S1024x8) _ _ (by decide)
theorem ld1 (x : Vec Ideal S1x8x1152 .f32) : View.ld x r0_1 = x := View.ld_unit_lit (S := S1x8x1152) _ _ (by decide)
theorem ld3 (x : Vec Ideal S1x8x9216 .f32) : View.ld x r0_3 = x := View.ld_unit_lit (S := S1x8x9216) _ _ (by decide)

theorem out3 (t : Fin cfg0.N) (k : Fin 1024) (n : Fin 1152) : out0_3 (iblk m c 0 t) (iblk m c 1 t) (iblk m c 2 t) (ix3 0 k n)
    = val_main_v7 (F := Ideal) (m ((c : Thread nD τ).loc main_arg0)) (m ((c : Thread nD τ).loc main_arg1)) (ix3 (lay t) k n) := by
  unfold out0_3
  rw [canon3, ld0, ld1, gw_at, r7]
  refine Finset.sum_congr rfl fun b _ => ?_
  rw [i0_at, i1_at, r0]
  exact mul_comm (G := EReal) _ _

theorem out4 (t : Fin cfg0.N) (q : Fin 9216) : out0_4 (iblk m c 0 t) (iblk m c 1 t) (iblk m c 2 t) (ix3 0 0 q)
    = val_main_v10 (F := Ideal) (m ((c : Thread nD τ).loc main_arg2)) (ix3 (lay t) 0 q) := by
  unfold out0_4
  rw [canon4, ld3, pay2_at, r10]
  exact Finset.sum_congr rfl fun b _ => i2_at m c t b q

theorem final3 : (dats m 0 c).arrAt 3 cfg0.N
    = val_main_v7 (F := Ideal) (m ((c : Thread nD τ).loc main_arg0)) (m ((c : Thread nD τ).loc main_arg1)) := by
  refine (dats m 0 c).arrAt_eq_of_covers 3 _ (by decide +kernel) fun t hf y => ?_
  blk_simp
  rw [after0_3]
  generalize ej : ((View.whole Cert.CondBwdKernelIdeal.main_v1_0).slice (win0_3.rect t)).emb y = q
  replace ej : ∀ a, (q a : ℕ) = (![t.val + y 0, y 1, y 2] : Fin 3 → ℕ) a := by
    intro a; subst ej; blk_simp [idx3 t]; match a with | ⟨0, _⟩ => simp | ⟨1, _⟩ => simp | ⟨2, _⟩ => simp
  change S1x1024x1152.Idx at y
  change S4x1024x1152.Idx at q
  idx_vars y
  idx_vars q
  obtain rfl : y0 = 0 := Subsingleton.elim _ _
  obtain rfl : q0 = lay t := Fin.ext (ej 0)
  obtain rfl : q1 = y1 := Fin.ext (ej 1)
  obtain rfl : q2 = y2 := Fin.ext (ej 2)
  exact out3 m c t q1 q2

theorem final4 : (dats m 0 c).arrAt 4 cfg0.N
    = val_main_v10 (F := Ideal) (m ((c : Thread nD τ).loc main_arg2)) := by
  refine (dats m 0 c).arrAt_eq_of_covers 4 _ (by decide +kernel) fun t hf y => ?_
  blk_simp
  rw [after0_4]
  generalize ej : ((View.whole Cert.CondBwdKernelIdeal.main_v1_1).slice (win0_4.rect t)).emb y = q
  replace ej : ∀ a, (q a : ℕ) = (![t.val + y 0, y 1, y 2] : Fin 3 → ℕ) a := by
    intro a; subst ej; blk_simp [idx4 t]; match a with | ⟨0, _⟩ => simp | ⟨1, _⟩ => simp | ⟨2, _⟩ => simp
  change S1x1x9216.Idx at y
  change S4x1x9216.Idx at q
  idx_vars y
  idx_vars q
  obtain rfl : y0 = 0 := Subsingleton.elim _ _
  obtain rfl : q0 = lay t := Fin.ext (ej 0)
  obtain rfl : q1 = y1 := Fin.ext (ej 1)
  obtain rfl : q2 = y2 := Fin.ext (ej 2)
  obtain rfl : q1 = 0 := Subsingleton.elim _ _
  exact out4 m c t q2

/-- Every run leaves the two gradients in the result arrays, and the arguments as they were. -/
theorem run_blocks (ρ : Dev nD → PrngReg) : θ_run defs (onTc (τ := τ) (main (F := Ideal))) ⟨m, fun _ => 0, ρ⟩ fun r => ∀ c : Dev nD,
      r.2.mem ((c : Thread nD τ).loc main_v1_0) = (dats m 0 c).arrAt 3 cfg0.N
      ∧ r.2.mem ((c : Thread nD τ).loc main_v1_1) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1 3, (h c).1 4,
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.Proof.CondBwd

end
-- ==== Proof.lean ====
module

public import proofs.«01_k».proof.Defs
public import proofs.«01_k».proof.Proof.Gen.ConvKernel
public import proofs.«01_k».proof.Proof.Gen.ConvKernel.Skeleton
public import proofs.«01_k».proof.Proof.Gen.ConvKernel.Launch
public import proofs.«01_k».proof.Proof.Gen.ConvKernel.Points
public import proofs.«01_k».proof.Proof.Gen.ConvKernel.Frame
public import proofs.«01_k».proof.Proof.Gen.ConvKernelIdeal
public import proofs.«01_k».proof.Proof.Gen.ConvKernelIdeal.Skeleton
public import proofs.«01_k».proof.Proof.Gen.ConvKernelIdeal.Launch
public import proofs.«01_k».proof.Proof.Gen.ConvKernelIdeal.Points
public import proofs.«01_k».proof.Proof.Gen.ConvKernelIdeal.Frame
public import proofs.«01_k».proof.Proof.Gen.ConvReferenceIdeal
public import proofs.«01_k».proof.Proof.Gen.ConvKernelIdeal.Value
public import proofs.«01_k».proof.Proof.Gen.ConvReferenceIdeal.Run
public import proofs.«01_k».proof.Proof.Gen.ConvReferenceIdeal.Read
public import proofs.«01_k».proof.Proof.Gen.FfnKernel
public import proofs.«01_k».proof.Proof.Gen.FfnKernel.Skeleton
public import proofs.«01_k».proof.Proof.Gen.FfnKernel.Launch
public import proofs.«01_k».proof.Proof.Gen.FfnKernel.Points
public import proofs.«01_k».proof.Proof.Gen.FfnKernel.Frame
public import proofs.«01_k».proof.Proof.Gen.FfnKernelIdeal
public import proofs.«01_k».proof.Proof.Gen.FfnKernelIdeal.Skeleton
public import proofs.«01_k».proof.Proof.Gen.FfnKernelIdeal.Launch
public import proofs.«01_k».proof.Proof.Gen.FfnKernelIdeal.Points
public import proofs.«01_k».proof.Proof.Gen.FfnKernelIdeal.Frame
public import proofs.«01_k».proof.Proof.Gen.FfnReferenceIdeal
public import proofs.«01_k».proof.Proof.Gen.FfnReferenceIdeal.Run
public import proofs.«01_k».proof.Proof.Gen.FfnReferenceIdeal.Read
public import proofs.«01_k».proof.Proof.Gen.Pre_all_finite
public import proofs.«01_k».proof.Proof.Gen.DwInKernel
public import proofs.«01_k».proof.Proof.Gen.DwInKernel.Skeleton
public import proofs.«01_k».proof.Proof.Gen.DwInKernel.Launch
public import proofs.«01_k».proof.Proof.Gen.DwInKernel.Points
public import proofs.«01_k».proof.Proof.Gen.DwInKernel.Frame
public import proofs.«01_k».proof.Proof.Gen.DwInKernelIdeal
public import proofs.«01_k».proof.Proof.Gen.DwInKernelIdeal.Skeleton
public import proofs.«01_k».proof.Proof.Gen.DwInKernelIdeal.Launch
public import proofs.«01_k».proof.Proof.Gen.DwInKernelIdeal.Points
public import proofs.«01_k».proof.Proof.Gen.DwInKernelIdeal.Frame
public import proofs.«01_k».proof.Proof.Gen.DwInKernelIdeal.Value
public import proofs.«01_k».proof.Proof.Gen.DwInReferenceIdeal
public import proofs.«01_k».proof.Proof.Gen.DwInReferenceIdeal.Run
public import proofs.«01_k».proof.Proof.Gen.DwInReferenceIdeal.Read
public import proofs.«01_k».proof.Proof.Gen.DwOutKernel
public import proofs.«01_k».proof.Proof.Gen.DwOutKernel.Skeleton
public import proofs.«01_k».proof.Proof.Gen.DwOutKernel.Launch
public import proofs.«01_k».proof.Proof.Gen.DwOutKernel.Points
public import proofs.«01_k».proof.Proof.Gen.DwOutKernel.Frame
public import proofs.«01_k».proof.Proof.Gen.DwOutKernelIdeal
public import proofs.«01_k».proof.Proof.Gen.DwOutKernelIdeal.Skeleton
public import proofs.«01_k».proof.Proof.Gen.DwOutKernelIdeal.Launch
public import proofs.«01_k».proof.Proof.Gen.DwOutKernelIdeal.Points
public import proofs.«01_k».proof.Proof.Gen.DwOutKernelIdeal.Frame
public import proofs.«01_k».proof.Proof.Gen.DwOutKernelIdeal.Value
public import proofs.«01_k».proof.Proof.Gen.DwOutReferenceIdeal
public import proofs.«01_k».proof.Proof.Gen.DwOutReferenceIdeal.Run
public import proofs.«01_k».proof.Proof.Gen.DwOutReferenceIdeal.Read
public import proofs.«01_k».proof.Proof.Gen.DwMixInKernel
public import proofs.«01_k».proof.Proof.Gen.DwMixInKernel.Skeleton
public import proofs.«01_k».proof.Proof.Gen.DwMixInKernel.Launch
public import proofs.«01_k».proof.Proof.Gen.DwMixInKernel.Points
public import proofs.«01_k».proof.Proof.Gen.DwMixInKernel.Frame
public import proofs.«01_k».proof.Proof.Gen.DwMixInKernelIdeal
public import proofs.«01_k».proof.Proof.Gen.DwMixInKernelIdeal.Skeleton
public import proofs.«01_k».proof.Proof.Gen.DwMixInKernelIdeal.Launch
public import proofs.«01_k».proof.Proof.Gen.DwMixInKernelIdeal.Points
public import proofs.«01_k».proof.Proof.Gen.DwMixInKernelIdeal.Frame
public import proofs.«01_k».proof.Proof.Gen.DwMixInKernelIdeal.Value
public import proofs.«01_k».proof.Proof.Gen.DwMixInReferenceIdeal
public import proofs.«01_k».proof.Proof.Gen.DwMixInReferenceIdeal.Run
public import proofs.«01_k».proof.Proof.Gen.DwMixInReferenceIdeal.Read
public import proofs.«01_k».proof.Proof.Gen.DwMixOutKernel
public import proofs.«01_k».proof.Proof.Gen.DwMixOutKernel.Skeleton
public import proofs.«01_k».proof.Proof.Gen.DwMixOutKernel.Launch
public import proofs.«01_k».proof.Proof.Gen.DwMixOutKernel.Points
public import proofs.«01_k».proof.Proof.Gen.DwMixOutKernel.Frame
public import proofs.«01_k».proof.Proof.Gen.DwMixOutKernelIdeal
public import proofs.«01_k».proof.Proof.Gen.DwMixOutKernelIdeal.Skeleton
public import proofs.«01_k».proof.Proof.Gen.DwMixOutKernelIdeal.Launch
public import proofs.«01_k».proof.Proof.Gen.DwMixOutKernelIdeal.Points
public import proofs.«01_k».proof.Proof.Gen.DwMixOutKernelIdeal.Frame
public import proofs.«01_k».proof.Proof.Gen.DwMixOutKernelIdeal.Value
public import proofs.«01_k».proof.Proof.Gen.DwMixOutReferenceIdeal
public import proofs.«01_k».proof.Proof.Gen.DwMixOutReferenceIdeal.Run
public import proofs.«01_k».proof.Proof.Gen.DwMixOutReferenceIdeal.Read
public import proofs.«01_k».proof.Proof.Gen.FfnFwdKernel
public import proofs.«01_k».proof.Proof.Gen.FfnFwdKernel.Skeleton
public import proofs.«01_k».proof.Proof.Gen.FfnFwdKernel.Launch
public import proofs.«01_k».proof.Proof.Gen.FfnFwdKernel.Points
public import proofs.«01_k».proof.Proof.Gen.FfnFwdKernel.Frame
public import proofs.«01_k».proof.Proof.Gen.FfnFwdKernelIdeal
public import proofs.«01_k».proof.Proof.Gen.FfnFwdKernelIdeal.Skeleton
public import proofs.«01_k».proof.Proof.Gen.FfnFwdKernelIdeal.Launch
public import proofs.«01_k».proof.Proof.Gen.FfnFwdKernelIdeal.Points
public import proofs.«01_k».proof.Proof.Gen.FfnFwdKernelIdeal.Frame
public import proofs.«01_k».proof.Proof.Gen.FfnFwdReferenceIdeal
public import proofs.«01_k».proof.Proof.Gen.FfnFwdReferenceIdeal.Run
public import proofs.«01_k».proof.Proof.Gen.FfnFwdReferenceIdeal.Read
public import proofs.«01_k».proof.Proof.Gen.MixInFwdKernel
public import proofs.«01_k».proof.Proof.Gen.MixInFwdKernel.Skeleton
public import proofs.«01_k».proof.Proof.Gen.MixInFwdKernel.Launch
public import proofs.«01_k».proof.Proof.Gen.MixInFwdKernel.Points
public import proofs.«01_k».proof.Proof.Gen.MixInFwdKernel.Frame
public import proofs.«01_k».proof.Proof.Gen.MixInFwdKernelIdeal
public import proofs.«01_k».proof.Proof.Gen.MixInFwdKernelIdeal.Skeleton
public import proofs.«01_k».proof.Proof.Gen.MixInFwdKernelIdeal.Launch
public import proofs.«01_k».proof.Proof.Gen.MixInFwdKernelIdeal.Points
public import proofs.«01_k».proof.Proof.Gen.MixInFwdKernelIdeal.Frame
public import proofs.«01_k».proof.Proof.Gen.MixInFwdKernelIdeal.Value
public import proofs.«01_k».proof.Proof.Gen.MixInFwdReferenceIdeal
public import proofs.«01_k».proof.Proof.Gen.MixInFwdReferenceIdeal.Run
public import proofs.«01_k».proof.Proof.Gen.MixInFwdReferenceIdeal.Read
public import proofs.«01_k».proof.Proof.Gen.MixOutFwdKernel
public import proofs.«01_k».proof.Proof.Gen.MixOutFwdKernel.Skeleton
public import proofs.«01_k».proof.Proof.Gen.MixOutFwdKernel.Launch
public import proofs.«01_k».proof.Proof.Gen.MixOutFwdKernel.Points
public import proofs.«01_k».proof.Proof.Gen.MixOutFwdKernel.Frame
public import proofs.«01_k».proof.Proof.Gen.MixOutFwdKernelIdeal
public import proofs.«01_k».proof.Proof.Gen.MixOutFwdKernelIdeal.Skeleton
public import proofs.«01_k».proof.Proof.Gen.MixOutFwdKernelIdeal.Launch
public import proofs.«01_k».proof.Proof.Gen.MixOutFwdKernelIdeal.Points
public import proofs.«01_k».proof.Proof.Gen.MixOutFwdKernelIdeal.Frame
public import proofs.«01_k».proof.Proof.Gen.MixOutFwdKernelIdeal.Value
public import proofs.«01_k».proof.Proof.Gen.MixOutFwdReferenceIdeal
public import proofs.«01_k».proof.Proof.Gen.MixOutFwdReferenceIdeal.Run
public import proofs.«01_k».proof.Proof.Gen.MixOutFwdReferenceIdeal.Read
public import proofs.«01_k».proof.Proof.Gen.MixInBwdKernel
public import proofs.«01_k».proof.Proof.Gen.MixInBwdKernel.Skeleton
public import proofs.«01_k».proof.Proof.Gen.MixInBwdKernel.Launch
public import proofs.«01_k».proof.Proof.Gen.MixInBwdKernel.Points
public import proofs.«01_k».proof.Proof.Gen.MixInBwdKernel.Frame
public import proofs.«01_k».proof.Proof.Gen.MixInBwdKernelIdeal
public import proofs.«01_k».proof.Proof.Gen.MixInBwdKernelIdeal.Skeleton
public import proofs.«01_k».proof.Proof.Gen.MixInBwdKernelIdeal.Launch
public import proofs.«01_k».proof.Proof.Gen.MixInBwdKernelIdeal.Points
public import proofs.«01_k».proof.Proof.Gen.MixInBwdKernelIdeal.Frame
public import proofs.«01_k».proof.Proof.Gen.MixInBwdKernelIdeal.Value
public import proofs.«01_k».proof.Proof.Gen.MixInBwdReferenceIdeal
public import proofs.«01_k».proof.Proof.Gen.MixInBwdReferenceIdeal.Run
public import proofs.«01_k».proof.Proof.Gen.MixInBwdReferenceIdeal.Read
public import proofs.«01_k».proof.Proof.Gen.AdamAdaKernel
public import proofs.«01_k».proof.Proof.Gen.AdamAdaKernel.Skeleton
public import proofs.«01_k».proof.Proof.Gen.AdamAdaKernel.Launch
public import proofs.«01_k».proof.Proof.Gen.AdamAdaKernel.Points
public import proofs.«01_k».proof.Proof.Gen.AdamAdaKernel.Frame
public import proofs.«01_k».proof.Proof.Gen.AdamAdaKernelIdeal
public import proofs.«01_k».proof.Proof.Gen.AdamAdaKernelIdeal.Skeleton
public import proofs.«01_k».proof.Proof.Gen.AdamAdaKernelIdeal.Launch
public import proofs.«01_k».proof.Proof.Gen.AdamAdaKernelIdeal.Points
public import proofs.«01_k».proof.Proof.Gen.AdamAdaKernelIdeal.Frame
public import proofs.«01_k».proof.Proof.Gen.AdamAdaKernelIdeal.Value
public import proofs.«01_k».proof.Proof.Gen.AdamAdaReferenceIdeal
public import proofs.«01_k».proof.Proof.Gen.AdamAdaReferenceIdeal.Run
public import proofs.«01_k».proof.Proof.Gen.AdamAdaReferenceIdeal.Read
public import proofs.«01_k».proof.Proof.Gen.AdamSmallKernel
public import proofs.«01_k».proof.Proof.Gen.AdamSmallKernel.Skeleton
public import proofs.«01_k».proof.Proof.Gen.AdamSmallKernel.Launch
public import proofs.«01_k».proof.Proof.Gen.AdamSmallKernel.Points
public import proofs.«01_k».proof.Proof.Gen.AdamSmallKernel.Frame
public import proofs.«01_k».proof.Proof.Gen.AdamSmallKernelIdeal
public import proofs.«01_k».proof.Proof.Gen.AdamSmallKernelIdeal.Skeleton
public import proofs.«01_k».proof.Proof.Gen.AdamSmallKernelIdeal.Launch
public import proofs.«01_k».proof.Proof.Gen.AdamSmallKernelIdeal.Points
public import proofs.«01_k».proof.Proof.Gen.AdamSmallKernelIdeal.Frame
public import proofs.«01_k».proof.Proof.Gen.AdamSmallKernelIdeal.Value
public import proofs.«01_k».proof.Proof.Gen.AdamSmallReferenceIdeal
public import proofs.«01_k».proof.Proof.Gen.AdamSmallReferenceIdeal.Run
public import proofs.«01_k».proof.Proof.Gen.AdamSmallReferenceIdeal.Read
public import proofs.«01_k».proof.Proof.Gen.CondBwdKernel
public import proofs.«01_k».proof.Proof.Gen.CondBwdKernel.Skeleton
public import proofs.«01_k».proof.Proof.Gen.CondBwdKernel.Launch
public import proofs.«01_k».proof.Proof.Gen.CondBwdKernel.Points
public import proofs.«01_k».proof.Proof.Gen.CondBwdKernel.Frame
public import proofs.«01_k».proof.Proof.Gen.CondBwdKernelIdeal
public import proofs.«01_k».proof.Proof.Gen.CondBwdKernelIdeal.Skeleton
public import proofs.«01_k».proof.Proof.Gen.CondBwdKernelIdeal.Launch
public import proofs.«01_k».proof.Proof.Gen.CondBwdKernelIdeal.Points
public import proofs.«01_k».proof.Proof.Gen.CondBwdKernelIdeal.Frame
public import proofs.«01_k».proof.Proof.Gen.CondBwdReferenceIdeal
public import proofs.«01_k».proof.Proof.Gen.CondBwdReferenceIdeal.Run
public import proofs.«01_k».proof.Proof.Gen.CondBwdReferenceIdeal.Read
public import proofs.«01_k».proof.Proof.Conv
public import proofs.«01_k».proof.Proof.FfnFinal
public import proofs.«01_k».proof.Proof.FfnPre
public import proofs.«01_k».proof.Proof.FfnBits
public import proofs.«01_k».proof.Proof.DwIn
public import proofs.«01_k».proof.Proof.DwOut
public import proofs.«01_k».proof.Proof.DwMixIn
public import proofs.«01_k».proof.Proof.DwMixOut
public import proofs.«01_k».proof.Proof.FfnFwdFinal
public import proofs.«01_k».proof.Proof.FfnFwdBits
public import proofs.«01_k».proof.Proof.MixInFwd
public import proofs.«01_k».proof.Proof.MixOutFwd
public import proofs.«01_k».proof.Proof.MixInBwd
public import proofs.«01_k».proof.Proof.AdamAda
public import proofs.«01_k».proof.Proof.AdamSmall
public import proofs.«01_k».proof.Proof.CondBwd
public import Idealize.ShloMosaic.Adequacy
public import Idealize.ShloMosaic.Lib.Quiescent
public import Idealize.ShloMosaic.Init

@[expose] public section

noncomputable section

namespace Cert.Proof

open Idealize.ShloMosaic Idealize.SL.Sem

open Cert.ConvReferenceIdeal.Read in
/-- The backward call of the short gated convolution computes the gradients of the mixer. -/
theorem conv_algebraic : Cert.algebraic_ConvKernelIdeal_ConvReferenceIdeal
    (hConvKernelIdeal := Cert.ConvKernelIdeal.Gen.facts) (hConvReferenceIdeal := Cert.ConvReferenceIdeal.Gen.facts) := by
  intro m ρ m' ρ' _ hagree
  refine ⟨fun c => val_main_v69 (F := Ideal) (m ((c.tc : Thread Cert.ConvKernelIdeal.nD Cert.ConvKernelIdeal.τ).loc Cert.ConvKernelIdeal.main_arg0))
      (m ((c.tc : Thread Cert.ConvKernelIdeal.nD Cert.ConvKernelIdeal.τ).loc Cert.ConvKernelIdeal.main_arg1))
      (m ((c.tc : Thread Cert.ConvKernelIdeal.nD Cert.ConvKernelIdeal.τ).loc Cert.ConvKernelIdeal.main_arg2)),
    fun c => val_main_v70 (F := Ideal) (m ((c.tc : Thread Cert.ConvKernelIdeal.nD Cert.ConvKernelIdeal.τ).loc Cert.ConvKernelIdeal.main_arg0))
      (m ((c.tc : Thread Cert.ConvKernelIdeal.nD Cert.ConvKernelIdeal.τ).loc Cert.ConvKernelIdeal.main_arg1)), ?_, ?_⟩
  · refine (θ_run Cert.ConvKernelIdeal.defs _ _).mono (fun _ h c => ?_) (Cert.ConvKernelIdeal.Value.run_blocks (F := Ideal) m ρ)
    obtain ⟨h0, h1, h2⟩ := h c
    exact ⟨h0.trans (Cert.Proof.Conv.final3 m c), h1.trans (Cert.Proof.Conv.final4 m c), h2⟩
  · refine (θ_run Cert.ConvReferenceIdeal.defs _ _).mono (fun _ h c => ?_) (Cert.ConvReferenceIdeal.Value.run (F := Ideal) m' ρ')
    obtain ⟨h0, h1, h2⟩ := h c
    obtain ⟨a0, a1, a2⟩ := hagree c
    refine ⟨h0.trans ((val_main_v69_eq m' c).trans ?_), h1.trans ((val_main_v70_eq _ _).trans ?_), h2⟩
    · rw [a0, a1, a2]
    · rw [a0, a1]

theorem conv_reference_frame : Cert.quiescent_ConvReferenceIdeal (hConvReferenceIdeal := Cert.ConvReferenceIdeal.Gen.facts) :=
  fun m ρ _ => (θ_run Cert.ConvReferenceIdeal.defs _ _).mono
    (fun r h => ⟨fun c => (h c).2.2, Idealize.ShloMosaic.sem_eq_zero_of_no_sems (by decide) r.2⟩)
    (Cert.ConvReferenceIdeal.Value.run (F := Ideal) m ρ)

open Cert.FfnReferenceIdeal.Read in
/-- The backward call of the gated feed-forward layer computes its gradients, on finite arguments. -/
theorem ffn_algebraic : Cert.algebraic_FfnKernelIdeal_FfnReferenceIdeal_pre_all_finite
    (hFfnKernelIdeal := Cert.FfnKernelIdeal.Gen.facts) (hFfnReferenceIdeal := Cert.FfnReferenceIdeal.Gen.facts) (hPre_all_finite := Cert.Pre_all_finite.Gen.facts) := by
  intro m ρ m' ρ' hpre hagree
  refine ⟨fun c => val_main_v102 (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5)),
    fun c => val_main_v109 (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5)),
    fun c => val_main_v113 (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5)),
    fun c => val_main_v116 (F := Ideal) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)),
    fun c => val_main_v117 (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg2)),
    fun c => val_main_v105 (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5)), ?_, ?_⟩
  · refine (θ_run Cert.FfnKernelIdeal.defs _ _).mono (fun _ h c => ?_) (Cert.Proof.Ffn.run_blocks (F := Ideal) m ρ)
    obtain ⟨h0, h1, h2, h3, h4, h5, h6⟩ := h c
    have H := Cert.Proof.Ffn.fin6 m hpre c
    exact ⟨h0.trans (Cert.Proof.Ffn.final10 m c H), h1.trans (Cert.Proof.Ffn.final11 m c H), h2.trans (Cert.Proof.Ffn.final12 m c),
      h3.trans (Cert.Proof.Ffn.final13 m c), h4.trans (Cert.Proof.Ffn.final14 m c), h5.trans (Cert.Proof.Ffn.final15 m c H), h6⟩
  · refine (θ_run Cert.FfnReferenceIdeal.defs _ _).mono (fun _ h c => ?_) (Cert.FfnReferenceIdeal.Value.run (F := Ideal) m' ρ')
    obtain ⟨h0, h1, h2, h3, h4, h5, h6⟩ := h c
    obtain ⟨a0, a1, a2, a3, a4, a5⟩ := hagree c
    refine ⟨h0.trans ((val_main_v102_eq m' c).trans ?_), h1.trans ((val_main_v109_eq ..).trans ?_), h2.trans ((val_main_v113_eq ..).trans ?_),
      h3.trans ((val_main_v116_eq ..).trans ?_), h4.trans ((val_main_v117_eq ..).trans ?_), h5.trans ((val_main_v105_eq m' c).trans ?_), h6⟩
    · rw [a0, a1, a2, a3, a4, a5]
    · rw [a0, a1, a2, a3, a4, a5]
    · rw [a0, a1, a2, a3, a4, a5]
    · rw [a1, a2, a3, a4]
    · rw [a0, a2]
    · rw [a0, a1, a2, a3, a4, a5]

theorem ffn_reference_frame : Cert.quiescent_FfnReferenceIdeal (hFfnReferenceIdeal := Cert.FfnReferenceIdeal.Gen.facts) :=
  fun m ρ _ => (θ_run Cert.FfnReferenceIdeal.defs _ _).mono
    (fun r h => ⟨fun c => (h c).2.2.2.2.2.2, Idealize.ShloMosaic.sem_eq_zero_of_no_sems (by decide) r.2⟩)
    (Cert.FfnReferenceIdeal.Value.run (F := Ideal) m ρ)

open Cert.DwInReferenceIdeal.Read in
/-- The weight gradient of the feed-forward layer's first product. -/
theorem dw_in_algebraic : Cert.algebraic_DwInKernelIdeal_DwInReferenceIdeal
    (hDwInKernelIdeal := Cert.DwInKernelIdeal.Gen.facts) (hDwInReferenceIdeal := Cert.DwInReferenceIdeal.Gen.facts) := by
  intro m ρ m' ρ' _ hagree
  refine ⟨fun c => val_main_v6 (F := Ideal) (m ((c.tc : Thread Cert.DwInKernelIdeal.nD Cert.DwInKernelIdeal.τ).loc Cert.DwInKernelIdeal.main_arg0)) (m ((c.tc : Thread Cert.DwInKernelIdeal.nD Cert.DwInKernelIdeal.τ).loc Cert.DwInKernelIdeal.main_arg1)), ?_, ?_⟩
  · refine (θ_run Cert.DwInKernelIdeal.defs _ _).mono (fun _ h c => ?_) (Cert.DwInKernelIdeal.Value.run_blocks (F := Ideal) m ρ)
    obtain ⟨h0, h1⟩ := h c
    exact ⟨h0.trans (Cert.Proof.DwIn.final3 m c), h1⟩
  · refine (θ_run Cert.DwInReferenceIdeal.defs _ _).mono (fun _ h c => ?_) (Cert.DwInReferenceIdeal.Value.run (F := Ideal) m' ρ')
    obtain ⟨h0, h1⟩ := h c
    obtain ⟨a0, a1⟩ := hagree c
    refine ⟨h0.trans ((val_main_v6_eq _ _).trans ?_), h1⟩
    rw [a0, a1]

theorem dw_in_reference_frame : Cert.quiescent_DwInReferenceIdeal (hDwInReferenceIdeal := Cert.DwInReferenceIdeal.Gen.facts) :=
  fun m ρ _ => (θ_run Cert.DwInReferenceIdeal.defs _ _).mono
    (fun r h => ⟨fun c => (h c).2, Idealize.ShloMosaic.sem_eq_zero_of_no_sems (by decide) r.2⟩)
    (Cert.DwInReferenceIdeal.Value.run (F := Ideal) m ρ)

open Cert.DwOutReferenceIdeal.Read in
/-- The weight gradient of the feed-forward layer's second product. -/
theorem dw_out_algebraic : Cert.algebraic_DwOutKernelIdeal_DwOutReferenceIdeal
    (hDwOutKernelIdeal := Cert.DwOutKernelIdeal.Gen.facts) (hDwOutReferenceIdeal := Cert.DwOutReferenceIdeal.Gen.facts) := by
  intro m ρ m' ρ' _ hagree
  refine ⟨fun c => val_main_v5 (F := Ideal) (m ((c.tc : Thread Cert.DwOutKernelIdeal.nD Cert.DwOutKernelIdeal.τ).loc Cert.DwOutKernelIdeal.main_arg0)) (m ((c.tc : Thread Cert.DwOutKernelIdeal.nD Cert.DwOutKernelIdeal.τ).loc Cert.DwOutKernelIdeal.main_arg1)), ?_, ?_⟩
  · refine (θ_run Cert.DwOutKernelIdeal.defs _ _).mono (fun _ h c => ?_) (Cert.DwOutKernelIdeal.Value.run_blocks (F := Ideal) m ρ)
    obtain ⟨h0, h1⟩ := h c
    exact ⟨h0.trans (Cert.Proof.DwOut.final2 m c), h1⟩
  · refine (θ_run Cert.DwOutReferenceIdeal.defs _ _).mono (fun _ h c => ?_) (Cert.DwOutReferenceIdeal.Value.run (F := Ideal) m' ρ')
    obtain ⟨h0, h1⟩ := h c
    obtain ⟨a0, a1⟩ := hagree c
    refine ⟨h0.trans ((val_main_v5_eq _ _).trans ?_), h1⟩
    rw [a0, a1]

theorem dw_out_reference_frame : Cert.quiescent_DwOutReferenceIdeal (hDwOutReferenceIdeal := Cert.DwOutReferenceIdeal.Gen.facts) :=
  fun m ρ _ => (θ_run Cert.DwOutReferenceIdeal.defs _ _).mono
    (fun r h => ⟨fun c => (h c).2, Idealize.ShloMosaic.sem_eq_zero_of_no_sems (by decide) r.2⟩)
    (Cert.DwOutReferenceIdeal.Value.run (F := Ideal) m ρ)

open Cert.DwMixInReferenceIdeal.Read in
/-- The weight gradient of the product that feeds the mixers. -/
theorem dw_mix_in_algebraic : Cert.algebraic_DwMixInKernelIdeal_DwMixInReferenceIdeal
    (hDwMixInKernelIdeal := Cert.DwMixInKernelIdeal.Gen.facts) (hDwMixInReferenceIdeal := Cert.DwMixInReferenceIdeal.Gen.facts) := by
  intro m ρ m' ρ' _ hagree
  refine ⟨fun c => val_main_v6 (F := Ideal) (m ((c.tc : Thread Cert.DwMixInKernelIdeal.nD Cert.DwMixInKernelIdeal.τ).loc Cert.DwMixInKernelIdeal.main_arg0)) (m ((c.tc : Thread Cert.DwMixInKernelIdeal.nD Cert.DwMixInKernelIdeal.τ).loc Cert.DwMixInKernelIdeal.main_arg1)), ?_, ?_⟩
  · refine (θ_run Cert.DwMixInKernelIdeal.defs _ _).mono (fun _ h c => ?_) (Cert.DwMixInKernelIdeal.Value.run_blocks (F := Ideal) m ρ)
    obtain ⟨h0, h1⟩ := h c
    exact ⟨h0.trans (Cert.Proof.DwMixIn.final2 m c), h1⟩
  · refine (θ_run Cert.DwMixInReferenceIdeal.defs _ _).mono (fun _ h c => ?_) (Cert.DwMixInReferenceIdeal.Value.run (F := Ideal) m' ρ')
    obtain ⟨h0, h1⟩ := h c
    obtain ⟨a0, a1⟩ := hagree c
    refine ⟨h0.trans ((val_main_v6_eq _ _).trans ?_), h1⟩
    rw [a0, a1]

theorem dw_mix_in_reference_frame : Cert.quiescent_DwMixInReferenceIdeal (hDwMixInReferenceIdeal := Cert.DwMixInReferenceIdeal.Gen.facts) :=
  fun m ρ _ => (θ_run Cert.DwMixInReferenceIdeal.defs _ _).mono
    (fun r h => ⟨fun c => (h c).2, Idealize.ShloMosaic.sem_eq_zero_of_no_sems (by decide) r.2⟩)
    (Cert.DwMixInReferenceIdeal.Value.run (F := Ideal) m ρ)

open Cert.DwMixOutReferenceIdeal.Read in
/-- The weight gradient of the product that leaves the mixers. -/
theorem dw_mix_out_algebraic : Cert.algebraic_DwMixOutKernelIdeal_DwMixOutReferenceIdeal
    (hDwMixOutKernelIdeal := Cert.DwMixOutKernelIdeal.Gen.facts) (hDwMixOutReferenceIdeal := Cert.DwMixOutReferenceIdeal.Gen.facts) := by
  intro m ρ m' ρ' _ hagree
  refine ⟨fun c => val_main_v5 (F := Ideal) (m ((c.tc : Thread Cert.DwMixOutKernelIdeal.nD Cert.DwMixOutKernelIdeal.τ).loc Cert.DwMixOutKernelIdeal.main_arg0)) (m ((c.tc : Thread Cert.DwMixOutKernelIdeal.nD Cert.DwMixOutKernelIdeal.τ).loc Cert.DwMixOutKernelIdeal.main_arg1)), ?_, ?_⟩
  · refine (θ_run Cert.DwMixOutKernelIdeal.defs _ _).mono (fun _ h c => ?_) (Cert.DwMixOutKernelIdeal.Value.run_blocks (F := Ideal) m ρ)
    obtain ⟨h0, h1⟩ := h c
    exact ⟨h0.trans (Cert.Proof.DwMixOut.final2 m c), h1⟩
  · refine (θ_run Cert.DwMixOutReferenceIdeal.defs _ _).mono (fun _ h c => ?_) (Cert.DwMixOutReferenceIdeal.Value.run (F := Ideal) m' ρ')
    obtain ⟨h0, h1⟩ := h c
    obtain ⟨a0, a1⟩ := hagree c
    refine ⟨h0.trans ((val_main_v5_eq _ _).trans ?_), h1⟩
    rw [a0, a1]

theorem dw_mix_out_reference_frame : Cert.quiescent_DwMixOutReferenceIdeal (hDwMixOutReferenceIdeal := Cert.DwMixOutReferenceIdeal.Gen.facts) :=
  fun m ρ _ => (θ_run Cert.DwMixOutReferenceIdeal.defs _ _).mono
    (fun r h => ⟨fun c => (h c).2, Idealize.ShloMosaic.sem_eq_zero_of_no_sems (by decide) r.2⟩)
    (Cert.DwMixOutReferenceIdeal.Value.run (F := Ideal) m ρ)

open Cert.FfnFwdReferenceIdeal.Read in
/-- The feed-forward layer's forward pass. -/
theorem ffn_fwd_algebraic : Cert.algebraic_FfnFwdKernelIdeal_FfnFwdReferenceIdeal
    (hFfnFwdKernelIdeal := Cert.FfnFwdKernelIdeal.Gen.facts) (hFfnFwdReferenceIdeal := Cert.FfnFwdReferenceIdeal.Gen.facts) := by
  intro m ρ m' ρ' _ hagree
  refine ⟨fun c => val_main_v38 (F := Ideal) (m ((c.tc : Thread Cert.FfnFwdKernelIdeal.nD Cert.FfnFwdKernelIdeal.τ).loc Cert.FfnFwdKernelIdeal.main_arg0)) (m ((c.tc : Thread Cert.FfnFwdKernelIdeal.nD Cert.FfnFwdKernelIdeal.τ).loc Cert.FfnFwdKernelIdeal.main_arg1)) (m ((c.tc : Thread Cert.FfnFwdKernelIdeal.nD Cert.FfnFwdKernelIdeal.τ).loc Cert.FfnFwdKernelIdeal.main_arg2)) (m ((c.tc : Thread Cert.FfnFwdKernelIdeal.nD Cert.FfnFwdKernelIdeal.τ).loc Cert.FfnFwdKernelIdeal.main_arg3)) (m ((c.tc : Thread Cert.FfnFwdKernelIdeal.nD Cert.FfnFwdKernelIdeal.τ).loc Cert.FfnFwdKernelIdeal.main_arg4)),
    fun c => val_main_v30 (F := Ideal) (m ((c.tc : Thread Cert.FfnFwdKernelIdeal.nD Cert.FfnFwdKernelIdeal.τ).loc Cert.FfnFwdKernelIdeal.main_arg0)) (m ((c.tc : Thread Cert.FfnFwdKernelIdeal.nD Cert.FfnFwdKernelIdeal.τ).loc Cert.FfnFwdKernelIdeal.main_arg1)) (m ((c.tc : Thread Cert.FfnFwdKernelIdeal.nD Cert.FfnFwdKernelIdeal.τ).loc Cert.FfnFwdKernelIdeal.main_arg2)) (m ((c.tc : Thread Cert.FfnFwdKernelIdeal.nD Cert.FfnFwdKernelIdeal.τ).loc Cert.FfnFwdKernelIdeal.main_arg3)) (m ((c.tc : Thread Cert.FfnFwdKernelIdeal.nD Cert.FfnFwdKernelIdeal.τ).loc Cert.FfnFwdKernelIdeal.main_arg4)),
    fun c => val_main_v41 (F := Ideal) (m ((c.tc : Thread Cert.FfnFwdKernelIdeal.nD Cert.FfnFwdKernelIdeal.τ).loc Cert.FfnFwdKernelIdeal.main_arg0)) (m ((c.tc : Thread Cert.FfnFwdKernelIdeal.nD Cert.FfnFwdKernelIdeal.τ).loc Cert.FfnFwdKernelIdeal.main_arg1)) (m ((c.tc : Thread Cert.FfnFwdKernelIdeal.nD Cert.FfnFwdKernelIdeal.τ).loc Cert.FfnFwdKernelIdeal.main_arg2)) (m ((c.tc : Thread Cert.FfnFwdKernelIdeal.nD Cert.FfnFwdKernelIdeal.τ).loc Cert.FfnFwdKernelIdeal.main_arg3)),
    fun c => val_main_v44 (F := Ideal) (m ((c.tc : Thread Cert.FfnFwdKernelIdeal.nD Cert.FfnFwdKernelIdeal.τ).loc Cert.FfnFwdKernelIdeal.main_arg0)) (m ((c.tc : Thread Cert.FfnFwdKernelIdeal.nD Cert.FfnFwdKernelIdeal.τ).loc Cert.FfnFwdKernelIdeal.main_arg1)) (m ((c.tc : Thread Cert.FfnFwdKernelIdeal.nD Cert.FfnFwdKernelIdeal.τ).loc Cert.FfnFwdKernelIdeal.main_arg2)) (m ((c.tc : Thread Cert.FfnFwdKernelIdeal.nD Cert.FfnFwdKernelIdeal.τ).loc Cert.FfnFwdKernelIdeal.main_arg3)),
    fun c => val_main_v45 (F := Ideal) (m ((c.tc : Thread Cert.FfnFwdKernelIdeal.nD Cert.FfnFwdKernelIdeal.τ).loc Cert.FfnFwdKernelIdeal.main_arg0)) (m ((c.tc : Thread Cert.FfnFwdKernelIdeal.nD Cert.FfnFwdKernelIdeal.τ).loc Cert.FfnFwdKernelIdeal.main_arg1)) (m ((c.tc : Thread Cert.FfnFwdKernelIdeal.nD Cert.FfnFwdKernelIdeal.τ).loc Cert.FfnFwdKernelIdeal.main_arg2)), ?_, ?_⟩
  · refine (θ_run Cert.FfnFwdKernelIdeal.defs _ _).mono (fun _ h c => ?_) (Cert.Proof.FfnFwd.run_blocks (F := Ideal) m ρ)
    obtain ⟨h0, h1, h2, h3, h4, h5⟩ := h c
    exact ⟨h0.trans (Cert.Proof.FfnFwd.final6 m c), h1.trans (Cert.Proof.FfnFwd.final7 m c), h2.trans (Cert.Proof.FfnFwd.final8 m c), h3.trans (Cert.Proof.FfnFwd.final9 m c), h4.trans (Cert.Proof.FfnFwd.final10 m c), h5⟩
  · refine (θ_run Cert.FfnFwdReferenceIdeal.defs _ _).mono (fun _ h c => ?_) (Cert.FfnFwdReferenceIdeal.Value.run (F := Ideal) m' ρ')
    obtain ⟨h0, h1, h2, h3, h4, h5⟩ := h c
    obtain ⟨a0, a1, a2, a3, a4⟩ := hagree c
    refine ⟨h0.trans ((val_main_v38_eq ..).trans ?_), h1.trans ((val_main_v30_eq ..).trans ?_), h2.trans ((val_main_v41_eq ..).trans ?_), h3.trans ((val_main_v44_eq ..).trans ?_), h4.trans ((val_main_v45_eq ..).trans ?_), h5⟩
    · rw [a0, a1, a2, a3, a4]
    · rw [a0, a1, a2, a3, a4]
    · rw [a0, a1, a2, a3]
    · rw [a0, a1, a2, a3]
    · rw [a0, a1, a2]

theorem ffn_fwd_reference_frame : Cert.quiescent_FfnFwdReferenceIdeal (hFfnFwdReferenceIdeal := Cert.FfnFwdReferenceIdeal.Gen.facts) :=
  fun m ρ _ => (θ_run Cert.FfnFwdReferenceIdeal.defs _ _).mono
    (fun r h => ⟨fun c => (h c).2.2.2.2.2, Idealize.ShloMosaic.sem_eq_zero_of_no_sems (by decide) r.2⟩)
    (Cert.FfnFwdReferenceIdeal.Value.run (F := Ideal) m ρ)

open Cert.MixInFwdReferenceIdeal.Read in
/-- The product that feeds the mixers, with the norm before it. -/
theorem mix_in_fwd_algebraic : Cert.algebraic_MixInFwdKernelIdeal_MixInFwdReferenceIdeal
    (hMixInFwdKernelIdeal := Cert.MixInFwdKernelIdeal.Gen.facts) (hMixInFwdReferenceIdeal := Cert.MixInFwdReferenceIdeal.Gen.facts) := by
  intro m ρ m' ρ' _ hagree
  refine ⟨fun c => val_main_v25 (F := Ideal) (m ((c.tc : Thread Cert.MixInFwdKernelIdeal.nD Cert.MixInFwdKernelIdeal.τ).loc Cert.MixInFwdKernelIdeal.main_arg0)) (m ((c.tc : Thread Cert.MixInFwdKernelIdeal.nD Cert.MixInFwdKernelIdeal.τ).loc Cert.MixInFwdKernelIdeal.main_arg1)) (m ((c.tc : Thread Cert.MixInFwdKernelIdeal.nD Cert.MixInFwdKernelIdeal.τ).loc Cert.MixInFwdKernelIdeal.main_arg2)) (m ((c.tc : Thread Cert.MixInFwdKernelIdeal.nD Cert.MixInFwdKernelIdeal.τ).loc Cert.MixInFwdKernelIdeal.main_arg3)), ?_, ?_⟩
  · refine (θ_run Cert.MixInFwdKernelIdeal.defs _ _).mono (fun _ h c => ?_) (Cert.MixInFwdKernelIdeal.Value.run_blocks (F := Ideal) m ρ)
    obtain ⟨h0, h1⟩ := h c
    exact ⟨h0.trans (Cert.Proof.MixInFwd.final4 m c), h1⟩
  · refine (θ_run Cert.MixInFwdReferenceIdeal.defs _ _).mono (fun _ h c => ?_) (Cert.MixInFwdReferenceIdeal.Value.run (F := Ideal) m' ρ')
    obtain ⟨h0, h1⟩ := h c
    obtain ⟨a0, a1, a2, a3⟩ := hagree c
    refine ⟨h0.trans ((val_main_v25_eq ..).trans ?_), h1⟩
    · rw [a0, a1, a2, a3]

theorem mix_in_fwd_reference_frame : Cert.quiescent_MixInFwdReferenceIdeal (hMixInFwdReferenceIdeal := Cert.MixInFwdReferenceIdeal.Gen.facts) :=
  fun m ρ _ => (θ_run Cert.MixInFwdReferenceIdeal.defs _ _).mono
    (fun r h => ⟨fun c => (h c).2, Idealize.ShloMosaic.sem_eq_zero_of_no_sems (by decide) r.2⟩)
    (Cert.MixInFwdReferenceIdeal.Value.run (F := Ideal) m ρ)

open Cert.MixInBwdReferenceIdeal.Read in
/-- The gradients of the product that feeds the mixers and of the norm before it. -/
theorem mix_in_bwd_algebraic : Cert.algebraic_MixInBwdKernelIdeal_MixInBwdReferenceIdeal
    (hMixInBwdKernelIdeal := Cert.MixInBwdKernelIdeal.Gen.facts) (hMixInBwdReferenceIdeal := Cert.MixInBwdReferenceIdeal.Gen.facts) := by
  intro m ρ m' ρ' _ hagree
  refine ⟨fun c => val_main_v64 (F := Ideal) (m ((c.tc : Thread Cert.MixInBwdKernelIdeal.nD Cert.MixInBwdKernelIdeal.τ).loc Cert.MixInBwdKernelIdeal.main_arg0)) (m ((c.tc : Thread Cert.MixInBwdKernelIdeal.nD Cert.MixInBwdKernelIdeal.τ).loc Cert.MixInBwdKernelIdeal.main_arg1)) (m ((c.tc : Thread Cert.MixInBwdKernelIdeal.nD Cert.MixInBwdKernelIdeal.τ).loc Cert.MixInBwdKernelIdeal.main_arg2)) (m ((c.tc : Thread Cert.MixInBwdKernelIdeal.nD Cert.MixInBwdKernelIdeal.τ).loc Cert.MixInBwdKernelIdeal.main_arg3)) (m ((c.tc : Thread Cert.MixInBwdKernelIdeal.nD Cert.MixInBwdKernelIdeal.τ).loc Cert.MixInBwdKernelIdeal.main_arg4)) (m ((c.tc : Thread Cert.MixInBwdKernelIdeal.nD Cert.MixInBwdKernelIdeal.τ).loc Cert.MixInBwdKernelIdeal.main_arg5)),
    fun c => val_main_v68 (F := Ideal) (m ((c.tc : Thread Cert.MixInBwdKernelIdeal.nD Cert.MixInBwdKernelIdeal.τ).loc Cert.MixInBwdKernelIdeal.main_arg2)) (m ((c.tc : Thread Cert.MixInBwdKernelIdeal.nD Cert.MixInBwdKernelIdeal.τ).loc Cert.MixInBwdKernelIdeal.main_arg3)) (m ((c.tc : Thread Cert.MixInBwdKernelIdeal.nD Cert.MixInBwdKernelIdeal.τ).loc Cert.MixInBwdKernelIdeal.main_arg4)),
    fun c => val_main_v69 (F := Ideal) (m ((c.tc : Thread Cert.MixInBwdKernelIdeal.nD Cert.MixInBwdKernelIdeal.τ).loc Cert.MixInBwdKernelIdeal.main_arg0)),
    fun c => val_main_v67 (F := Ideal) (m ((c.tc : Thread Cert.MixInBwdKernelIdeal.nD Cert.MixInBwdKernelIdeal.τ).loc Cert.MixInBwdKernelIdeal.main_arg0)) (m ((c.tc : Thread Cert.MixInBwdKernelIdeal.nD Cert.MixInBwdKernelIdeal.τ).loc Cert.MixInBwdKernelIdeal.main_arg2)) (m ((c.tc : Thread Cert.MixInBwdKernelIdeal.nD Cert.MixInBwdKernelIdeal.τ).loc Cert.MixInBwdKernelIdeal.main_arg3)) (m ((c.tc : Thread Cert.MixInBwdKernelIdeal.nD Cert.MixInBwdKernelIdeal.τ).loc Cert.MixInBwdKernelIdeal.main_arg4)) (m ((c.tc : Thread Cert.MixInBwdKernelIdeal.nD Cert.MixInBwdKernelIdeal.τ).loc Cert.MixInBwdKernelIdeal.main_arg5)), ?_, ?_⟩
  · refine (θ_run Cert.MixInBwdKernelIdeal.defs _ _).mono (fun _ h c => ?_) (Cert.MixInBwdKernelIdeal.Value.run_blocks (F := Ideal) m ρ)
    obtain ⟨h0, h1, h2, h3, h4⟩ := h c
    exact ⟨h0.trans (Cert.Proof.MixInBwd.final9 m c), h1.trans (Cert.Proof.MixInBwd.final10 m c), h2.trans (Cert.Proof.MixInBwd.final11 m c), h3.trans (Cert.Proof.MixInBwd.final12 m c), h4⟩
  · refine (θ_run Cert.MixInBwdReferenceIdeal.defs _ _).mono (fun _ h c => ?_) (Cert.MixInBwdReferenceIdeal.Value.run (F := Ideal) m' ρ')
    obtain ⟨h0, h1, h2, h3, h4⟩ := h c
    obtain ⟨a0, a1, a2, a3, a4, a5⟩ := hagree c
    refine ⟨h0.trans ((val_main_v64_eq ..).trans ?_), h1.trans ((val_main_v68_eq ..).trans ?_), h2.trans ((val_main_v69_eq ..).trans ?_), h3.trans ((val_main_v67_eq ..).trans ?_), h4⟩
    · rw [a0, a1, a2, a3, a4, a5]
    · rw [a2, a3, a4]
    · rw [a0]
    · rw [a0, a2, a3, a4, a5]

theorem mix_in_bwd_reference_frame : Cert.quiescent_MixInBwdReferenceIdeal (hMixInBwdReferenceIdeal := Cert.MixInBwdReferenceIdeal.Gen.facts) :=
  fun m ρ _ => (θ_run Cert.MixInBwdReferenceIdeal.defs _ _).mono
    (fun r h => ⟨fun c => (h c).2.2.2.2, Idealize.ShloMosaic.sem_eq_zero_of_no_sems (by decide) r.2⟩)
    (Cert.MixInBwdReferenceIdeal.Value.run (F := Ideal) m ρ)

open Cert.MixOutFwdReferenceIdeal.Read in
/-- The product that leaves the mixers, with the norm of each head and the gate. -/
theorem mix_out_fwd_algebraic : Cert.algebraic_MixOutFwdKernelIdeal_MixOutFwdReferenceIdeal
    (hMixOutFwdKernelIdeal := Cert.MixOutFwdKernelIdeal.Gen.facts) (hMixOutFwdReferenceIdeal := Cert.MixOutFwdReferenceIdeal.Gen.facts) := by
  intro m ρ m' ρ' _ hagree
  refine ⟨fun c => val_main_v20 (F := Ideal) (m ((c.tc : Thread Cert.MixOutFwdKernelIdeal.nD Cert.MixOutFwdKernelIdeal.τ).loc Cert.MixOutFwdKernelIdeal.main_arg0)) (m ((c.tc : Thread Cert.MixOutFwdKernelIdeal.nD Cert.MixOutFwdKernelIdeal.τ).loc Cert.MixOutFwdKernelIdeal.main_arg1)) (m ((c.tc : Thread Cert.MixOutFwdKernelIdeal.nD Cert.MixOutFwdKernelIdeal.τ).loc Cert.MixOutFwdKernelIdeal.main_arg2)) (m ((c.tc : Thread Cert.MixOutFwdKernelIdeal.nD Cert.MixOutFwdKernelIdeal.τ).loc Cert.MixOutFwdKernelIdeal.main_arg3)) (m ((c.tc : Thread Cert.MixOutFwdKernelIdeal.nD Cert.MixOutFwdKernelIdeal.τ).loc Cert.MixOutFwdKernelIdeal.main_arg4)) (m ((c.tc : Thread Cert.MixOutFwdKernelIdeal.nD Cert.MixOutFwdKernelIdeal.τ).loc Cert.MixOutFwdKernelIdeal.main_arg5)) (m ((c.tc : Thread Cert.MixOutFwdKernelIdeal.nD Cert.MixOutFwdKernelIdeal.τ).loc Cert.MixOutFwdKernelIdeal.main_arg6)) (m ((c.tc : Thread Cert.MixOutFwdKernelIdeal.nD Cert.MixOutFwdKernelIdeal.τ).loc Cert.MixOutFwdKernelIdeal.main_arg7)),
    fun c => val_main_v16 (F := Ideal) (m ((c.tc : Thread Cert.MixOutFwdKernelIdeal.nD Cert.MixOutFwdKernelIdeal.τ).loc Cert.MixOutFwdKernelIdeal.main_arg1)) (m ((c.tc : Thread Cert.MixOutFwdKernelIdeal.nD Cert.MixOutFwdKernelIdeal.τ).loc Cert.MixOutFwdKernelIdeal.main_arg2)) (m ((c.tc : Thread Cert.MixOutFwdKernelIdeal.nD Cert.MixOutFwdKernelIdeal.τ).loc Cert.MixOutFwdKernelIdeal.main_arg3)) (m ((c.tc : Thread Cert.MixOutFwdKernelIdeal.nD Cert.MixOutFwdKernelIdeal.τ).loc Cert.MixOutFwdKernelIdeal.main_arg4)) (m ((c.tc : Thread Cert.MixOutFwdKernelIdeal.nD Cert.MixOutFwdKernelIdeal.τ).loc Cert.MixOutFwdKernelIdeal.main_arg5)) (m ((c.tc : Thread Cert.MixOutFwdKernelIdeal.nD Cert.MixOutFwdKernelIdeal.τ).loc Cert.MixOutFwdKernelIdeal.main_arg7)), ?_, ?_⟩
  · refine (θ_run Cert.MixOutFwdKernelIdeal.defs _ _).mono (fun _ h c => ?_) (Cert.MixOutFwdKernelIdeal.Value.run_blocks (F := Ideal) m ρ)
    obtain ⟨h0, h1, h2⟩ := h c
    exact ⟨h0.trans (Cert.Proof.MixOutFwd.final8 m c), h1.trans (Cert.Proof.MixOutFwd.final9 m c), h2⟩
  · refine (θ_run Cert.MixOutFwdReferenceIdeal.defs _ _).mono (fun _ h c => ?_) (Cert.MixOutFwdReferenceIdeal.Value.run (F := Ideal) m' ρ')
    obtain ⟨h0, h1, h2⟩ := h c
    obtain ⟨a0, a1, a2, a3, a4, a5, a6, a7⟩ := hagree c
    refine ⟨h0.trans ((val_main_v20_eq ..).trans ?_), h1.trans ((val_main_v16_eq ..).trans ?_), h2⟩
    · rw [a0, a1, a2, a3, a4, a5, a6, a7]
    · rw [a1, a2, a3, a4, a5, a7]

theorem mix_out_fwd_reference_frame : Cert.quiescent_MixOutFwdReferenceIdeal (hMixOutFwdReferenceIdeal := Cert.MixOutFwdReferenceIdeal.Gen.facts) :=
  fun m ρ _ => (θ_run Cert.MixOutFwdReferenceIdeal.defs _ _).mono
    (fun r h => ⟨fun c => (h c).2.2, Idealize.ShloMosaic.sem_eq_zero_of_no_sems (by decide) r.2⟩)
    (Cert.MixOutFwdReferenceIdeal.Value.run (F := Ideal) m ρ)

open Cert.AdamAdaReferenceIdeal.Read in
/-- The update of the conditioning's weights. -/
theorem adam_ada_algebraic : Cert.algebraic_AdamAdaKernelIdeal_AdamAdaReferenceIdeal
    (hAdamAdaKernelIdeal := Cert.AdamAdaKernelIdeal.Gen.facts) (hAdamAdaReferenceIdeal := Cert.AdamAdaReferenceIdeal.Gen.facts) := by
  intro m ρ m' ρ' _ hagree
  refine ⟨fun c => (m ((c.tc : Thread Cert.AdamAdaKernelIdeal.nD Cert.AdamAdaKernelIdeal.τ).loc Cert.AdamAdaKernelIdeal.main_arg1)),
    fun c => val_main_v23 (F := Ideal) (m ((c.tc : Thread Cert.AdamAdaKernelIdeal.nD Cert.AdamAdaKernelIdeal.τ).loc Cert.AdamAdaKernelIdeal.main_arg0)) (m ((c.tc : Thread Cert.AdamAdaKernelIdeal.nD Cert.AdamAdaKernelIdeal.τ).loc Cert.AdamAdaKernelIdeal.main_arg1)) (m ((c.tc : Thread Cert.AdamAdaKernelIdeal.nD Cert.AdamAdaKernelIdeal.τ).loc Cert.AdamAdaKernelIdeal.main_arg2)) (m ((c.tc : Thread Cert.AdamAdaKernelIdeal.nD Cert.AdamAdaKernelIdeal.τ).loc Cert.AdamAdaKernelIdeal.main_arg3)),
    fun c => val_main_v4 (F := Ideal) (m ((c.tc : Thread Cert.AdamAdaKernelIdeal.nD Cert.AdamAdaKernelIdeal.τ).loc Cert.AdamAdaKernelIdeal.main_arg1)) (m ((c.tc : Thread Cert.AdamAdaKernelIdeal.nD Cert.AdamAdaKernelIdeal.τ).loc Cert.AdamAdaKernelIdeal.main_arg2)),
    fun c => val_main_v10 (F := Ideal) (m ((c.tc : Thread Cert.AdamAdaKernelIdeal.nD Cert.AdamAdaKernelIdeal.τ).loc Cert.AdamAdaKernelIdeal.main_arg1)) (m ((c.tc : Thread Cert.AdamAdaKernelIdeal.nD Cert.AdamAdaKernelIdeal.τ).loc Cert.AdamAdaKernelIdeal.main_arg3)), ?_, ?_⟩
  · refine (θ_run Cert.AdamAdaKernelIdeal.defs _ _).mono (fun _ h c => ?_) (Cert.AdamAdaKernelIdeal.Value.run_blocks (F := Ideal) m ρ)
    obtain ⟨h0, h1, h2, h3, h4⟩ := h c
    exact ⟨h0.trans (Cert.Proof.AdamAda.final4 m c), h1.trans (Cert.Proof.AdamAda.final5 m c), h2.trans (Cert.Proof.AdamAda.final6 m c), h3.trans (Cert.Proof.AdamAda.final7 m c), h4⟩
  · refine (θ_run Cert.AdamAdaReferenceIdeal.defs _ _).mono (fun _ h c => ?_) (Cert.AdamAdaReferenceIdeal.Value.run (F := Ideal) m' ρ')
    obtain ⟨h0, h1, h2, h3, h4⟩ := h c
    obtain ⟨a0, a1, a2, a3⟩ := hagree c
    refine ⟨h0.trans ?_, h1.trans ((val_main_v23_eq ..).trans ?_), h2.trans ((val_main_v4_eq ..).trans ?_), h3.trans ((val_main_v10_eq ..).trans ?_), h4⟩
    · rw [a1]
    · rw [a0, a1, a2, a3]
    · rw [a1, a2]
    · rw [a1, a3]

theorem adam_ada_reference_frame : Cert.quiescent_AdamAdaReferenceIdeal (hAdamAdaReferenceIdeal := Cert.AdamAdaReferenceIdeal.Gen.facts) :=
  fun m ρ _ => (θ_run Cert.AdamAdaReferenceIdeal.defs _ _).mono
    (fun r h => ⟨fun c => (h c).2.2.2.2, Idealize.ShloMosaic.sem_eq_zero_of_no_sems (by decide) r.2⟩)
    (Cert.AdamAdaReferenceIdeal.Value.run (F := Ideal) m ρ)

open Cert.AdamSmallReferenceIdeal.Read in
/-- The update of the small weights. -/
theorem adam_small_algebraic : Cert.algebraic_AdamSmallKernelIdeal_AdamSmallReferenceIdeal
    (hAdamSmallKernelIdeal := Cert.AdamSmallKernelIdeal.Gen.facts) (hAdamSmallReferenceIdeal := Cert.AdamSmallReferenceIdeal.Gen.facts) := by
  intro m ρ m' ρ' _ hagree
  refine ⟨fun c => (m ((c.tc : Thread Cert.AdamSmallKernelIdeal.nD Cert.AdamSmallKernelIdeal.τ).loc Cert.AdamSmallKernelIdeal.main_arg1)),
    fun c => val_main_v23 (F := Ideal) (m ((c.tc : Thread Cert.AdamSmallKernelIdeal.nD Cert.AdamSmallKernelIdeal.τ).loc Cert.AdamSmallKernelIdeal.main_arg0)) (m ((c.tc : Thread Cert.AdamSmallKernelIdeal.nD Cert.AdamSmallKernelIdeal.τ).loc Cert.AdamSmallKernelIdeal.main_arg1)) (m ((c.tc : Thread Cert.AdamSmallKernelIdeal.nD Cert.AdamSmallKernelIdeal.τ).loc Cert.AdamSmallKernelIdeal.main_arg2)) (m ((c.tc : Thread Cert.AdamSmallKernelIdeal.nD Cert.AdamSmallKernelIdeal.τ).loc Cert.AdamSmallKernelIdeal.main_arg3)),
    fun c => val_main_v4 (F := Ideal) (m ((c.tc : Thread Cert.AdamSmallKernelIdeal.nD Cert.AdamSmallKernelIdeal.τ).loc Cert.AdamSmallKernelIdeal.main_arg1)) (m ((c.tc : Thread Cert.AdamSmallKernelIdeal.nD Cert.AdamSmallKernelIdeal.τ).loc Cert.AdamSmallKernelIdeal.main_arg2)),
    fun c => val_main_v10 (F := Ideal) (m ((c.tc : Thread Cert.AdamSmallKernelIdeal.nD Cert.AdamSmallKernelIdeal.τ).loc Cert.AdamSmallKernelIdeal.main_arg1)) (m ((c.tc : Thread Cert.AdamSmallKernelIdeal.nD Cert.AdamSmallKernelIdeal.τ).loc Cert.AdamSmallKernelIdeal.main_arg3)), ?_, ?_⟩
  · refine (θ_run Cert.AdamSmallKernelIdeal.defs _ _).mono (fun _ h c => ?_) (Cert.AdamSmallKernelIdeal.Value.run_blocks (F := Ideal) m ρ)
    obtain ⟨h0, h1, h2, h3, h4⟩ := h c
    exact ⟨h0.trans (Cert.Proof.AdamSmall.final4 m c), h1.trans (Cert.Proof.AdamSmall.final5 m c), h2.trans (Cert.Proof.AdamSmall.final6 m c), h3.trans (Cert.Proof.AdamSmall.final7 m c), h4⟩
  · refine (θ_run Cert.AdamSmallReferenceIdeal.defs _ _).mono (fun _ h c => ?_) (Cert.AdamSmallReferenceIdeal.Value.run (F := Ideal) m' ρ')
    obtain ⟨h0, h1, h2, h3, h4⟩ := h c
    obtain ⟨a0, a1, a2, a3⟩ := hagree c
    refine ⟨h0.trans ?_, h1.trans ((val_main_v23_eq ..).trans ?_), h2.trans ((val_main_v4_eq ..).trans ?_), h3.trans ((val_main_v10_eq ..).trans ?_), h4⟩
    · rw [a1]
    · rw [a0, a1, a2, a3]
    · rw [a1, a2]
    · rw [a1, a3]

theorem adam_small_reference_frame : Cert.quiescent_AdamSmallReferenceIdeal (hAdamSmallReferenceIdeal := Cert.AdamSmallReferenceIdeal.Gen.facts) :=
  fun m ρ _ => (θ_run Cert.AdamSmallReferenceIdeal.defs _ _).mono
    (fun r h => ⟨fun c => (h c).2.2.2.2, Idealize.ShloMosaic.sem_eq_zero_of_no_sems (by decide) r.2⟩)
    (Cert.AdamSmallReferenceIdeal.Value.run (F := Ideal) m ρ)

open Cert.CondBwdReferenceIdeal.Read in
/-- The gradients of the conditioning's weights and bias. -/
theorem cond_bwd_algebraic : Cert.algebraic_CondBwdKernelIdeal_CondBwdReferenceIdeal
    (hCondBwdKernelIdeal := Cert.CondBwdKernelIdeal.Gen.facts) (hCondBwdReferenceIdeal := Cert.CondBwdReferenceIdeal.Gen.facts) := by
  intro m ρ m' ρ' _ hagree
  refine ⟨fun c => val_main_v7 (F := Ideal) (m ((c.tc : Thread Cert.CondBwdKernelIdeal.nD Cert.CondBwdKernelIdeal.τ).loc Cert.CondBwdKernelIdeal.main_arg0)) (m ((c.tc : Thread Cert.CondBwdKernelIdeal.nD Cert.CondBwdKernelIdeal.τ).loc Cert.CondBwdKernelIdeal.main_arg1)),
    fun c => val_main_v10 (F := Ideal) (m ((c.tc : Thread Cert.CondBwdKernelIdeal.nD Cert.CondBwdKernelIdeal.τ).loc Cert.CondBwdKernelIdeal.main_arg2)), ?_, ?_⟩
  · refine (θ_run Cert.CondBwdKernelIdeal.defs _ _).mono (fun _ h c => ?_) (Cert.Proof.CondBwd.run_blocks m ρ)
    obtain ⟨h0, h1, h2⟩ := h c
    exact ⟨h0.trans (Cert.Proof.CondBwd.final3 m c), h1.trans (Cert.Proof.CondBwd.final4 m c), h2⟩
  · refine (θ_run Cert.CondBwdReferenceIdeal.defs _ _).mono (fun _ h c => ?_) (Cert.CondBwdReferenceIdeal.Value.run (F := Ideal) m' ρ')
    obtain ⟨h0, h1, h2⟩ := h c
    obtain ⟨a0, a1, a2⟩ := hagree c
    refine ⟨h0.trans ((val_main_v7_eq ..).trans ?_), h1.trans ((val_main_v10_eq ..).trans ?_), h2⟩
    · rw [a0, a1]
    · rw [a2]

theorem cond_bwd_reference_frame : Cert.quiescent_CondBwdReferenceIdeal (hCondBwdReferenceIdeal := Cert.CondBwdReferenceIdeal.Gen.facts) :=
  fun m ρ _ => (θ_run Cert.CondBwdReferenceIdeal.defs _ _).mono
    (fun r h => ⟨fun c => (h c).2.2, Idealize.ShloMosaic.sem_eq_zero_of_no_sems (by decide) r.2⟩)
    (Cert.CondBwdReferenceIdeal.Value.run (F := Ideal) m ρ)

theorem claim : Cert.Claim := ⟨Cert.ConvKernel.Gen.facts, Cert.ConvKernelIdeal.Gen.facts, Cert.ConvReferenceIdeal.Gen.facts,
  Cert.FfnKernel.Gen.facts, Cert.FfnKernelIdeal.Gen.facts, Cert.FfnReferenceIdeal.Gen.facts,
  Cert.DwInKernel.Gen.facts, Cert.DwInKernelIdeal.Gen.facts, Cert.DwInReferenceIdeal.Gen.facts,
  Cert.DwOutKernel.Gen.facts, Cert.DwOutKernelIdeal.Gen.facts, Cert.DwOutReferenceIdeal.Gen.facts,
  Cert.DwMixInKernel.Gen.facts, Cert.DwMixInKernelIdeal.Gen.facts, Cert.DwMixInReferenceIdeal.Gen.facts,
  Cert.DwMixOutKernel.Gen.facts, Cert.DwMixOutKernelIdeal.Gen.facts, Cert.DwMixOutReferenceIdeal.Gen.facts,
  Cert.FfnFwdKernel.Gen.facts, Cert.FfnFwdKernelIdeal.Gen.facts, Cert.FfnFwdReferenceIdeal.Gen.facts,
  Cert.MixInFwdKernel.Gen.facts, Cert.MixInFwdKernelIdeal.Gen.facts, Cert.MixInFwdReferenceIdeal.Gen.facts,
  Cert.MixInBwdKernel.Gen.facts, Cert.MixInBwdKernelIdeal.Gen.facts, Cert.MixInBwdReferenceIdeal.Gen.facts,
  Cert.MixOutFwdKernel.Gen.facts, Cert.MixOutFwdKernelIdeal.Gen.facts, Cert.MixOutFwdReferenceIdeal.Gen.facts,
  Cert.AdamAdaKernel.Gen.facts, Cert.AdamAdaKernelIdeal.Gen.facts, Cert.AdamAdaReferenceIdeal.Gen.facts,
  Cert.AdamSmallKernel.Gen.facts, Cert.AdamSmallKernelIdeal.Gen.facts, Cert.AdamSmallReferenceIdeal.Gen.facts,
  Cert.CondBwdKernel.Gen.facts, Cert.CondBwdKernelIdeal.Gen.facts, Cert.CondBwdReferenceIdeal.Gen.facts, Cert.Pre_all_finite.Gen.facts,
  fun m ρ _ => Cert.ConvKernel.Gen.frame m ρ, fun m ρ _ => Cert.ConvKernelIdeal.Gen.frame m ρ, conv_reference_frame,
  Cert.Proof.Ffn.frame_bits, fun m ρ _ => Cert.Proof.Ffn.frame (F := Ideal) m ρ, fun m ρ _ => Cert.Proof.Ffn.frame (F := Ideal) m ρ,
  ffn_reference_frame, fun m ρ _ => ffn_reference_frame m ρ trivial,
  fun m ρ _ => Cert.DwInKernel.Gen.frame m ρ, fun m ρ _ => Cert.DwInKernelIdeal.Gen.frame m ρ, dw_in_reference_frame,
  fun m ρ _ => Cert.DwOutKernel.Gen.frame m ρ, fun m ρ _ => Cert.DwOutKernelIdeal.Gen.frame m ρ, dw_out_reference_frame,
  fun m ρ _ => Cert.DwMixInKernel.Gen.frame m ρ, fun m ρ _ => Cert.DwMixInKernelIdeal.Gen.frame m ρ, dw_mix_in_reference_frame,
  fun m ρ _ => Cert.DwMixOutKernel.Gen.frame m ρ, fun m ρ _ => Cert.DwMixOutKernelIdeal.Gen.frame m ρ, dw_mix_out_reference_frame,
  Cert.Proof.FfnFwd.frame_bits, fun m ρ _ => Cert.Proof.FfnFwd.frame (F := Ideal) m ρ, ffn_fwd_reference_frame,
  fun m ρ _ => Cert.MixInFwdKernel.Gen.frame m ρ, fun m ρ _ => Cert.MixInFwdKernelIdeal.Gen.frame m ρ, mix_in_fwd_reference_frame,
  fun m ρ _ => Cert.MixInBwdKernel.Gen.frame m ρ, fun m ρ _ => Cert.MixInBwdKernelIdeal.Gen.frame m ρ, mix_in_bwd_reference_frame,
  fun m ρ _ => Cert.MixOutFwdKernel.Gen.frame m ρ, fun m ρ _ => Cert.MixOutFwdKernelIdeal.Gen.frame m ρ, mix_out_fwd_reference_frame,
  fun m ρ _ => Cert.AdamAdaKernel.Gen.frame m ρ, fun m ρ _ => Cert.AdamAdaKernelIdeal.Gen.frame m ρ, adam_ada_reference_frame,
  fun m ρ _ => Cert.AdamSmallKernel.Gen.frame m ρ, fun m ρ _ => Cert.AdamSmallKernelIdeal.Gen.frame m ρ, adam_small_reference_frame,
  fun m ρ _ => Cert.CondBwdKernel.Gen.frame m ρ, fun m ρ _ => Cert.CondBwdKernelIdeal.Gen.frame m ρ, cond_bwd_reference_frame,
  trivial, conv_algebraic, trivial, ffn_algebraic,
  trivial, dw_in_algebraic, trivial, dw_out_algebraic, trivial, dw_mix_in_algebraic, trivial, dw_mix_out_algebraic, trivial, ffn_fwd_algebraic, trivial, mix_in_fwd_algebraic, trivial, mix_in_bwd_algebraic, trivial, mix_out_fwd_algebraic, trivial, adam_ada_algebraic, trivial, adam_small_algebraic, trivial, cond_bwd_algebraic⟩

end Cert.Proof

end
